-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_down_finite [hPre_down_finite : Cert.Pre_down_finite.Facts] (m : (ℓ : Loc Cert.DownIdeal.nD Cert.DownIdeal.τ Cert.DownIdeal.sig) → Buf (Elt Ideal) ℓ) : Prop :=
  ∀ c : Dev Cert.DownIdeal.nD,
    (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_down_finite [hPre_down_finite : Cert.Pre_down_finite.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2))) = (fun _ => 1#1)

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwdRefIdeal (m : (ℓ : Loc Cert.DwdRefIdeal.nD Cert.DwdRefIdeal.τ Cert.DwdRefIdeal.sig) → Buf (Elt Ideal) ℓ) : Prop :=
  True

def Pre_DwuRefIdeal (m : (ℓ : Loc Cert.DwuRefIdeal.nD Cert.DwuRefIdeal.τ Cert.DwuRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Res (m : (ℓ : Loc Cert.Res.nD Cert.Res.τ Cert.Res.sig) → Buf (Elt Bits) ℓ) : Prop :=
  True

def Pre_ResIdeal (m : (ℓ : Loc Cert.ResIdeal.nD Cert.ResIdeal.τ Cert.ResIdeal.sig) → Buf (Elt Ideal) ℓ) : Prop :=
  True

def Pre_ResRefIdeal (m : (ℓ : Loc Cert.ResRefIdeal.nD Cert.ResRefIdeal.τ Cert.ResRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_WoDx (m : (ℓ : Loc Cert.WoDx.nD Cert.WoDx.τ Cert.WoDx.sig) → Buf (Elt Bits) ℓ) : Prop :=
  True

def Pre_WoDxIdeal (m : (ℓ : Loc Cert.WoDxIdeal.nD Cert.WoDxIdeal.τ Cert.WoDxIdeal.sig) → Buf (Elt Ideal) ℓ) : Prop :=
  True

def Pre_WoDxRefIdeal (m : (ℓ : Loc Cert.WoDxRefIdeal.nD Cert.WoDxRefIdeal.τ Cert.WoDxRefIdeal.sig) → Buf (Elt Ideal) ℓ) : Prop :=
  True

def Pre_WoDw (m : (ℓ : Loc Cert.WoDw.nD Cert.WoDw.τ Cert.WoDw.sig) → Buf (Elt Bits) ℓ) : Prop :=
  True

def Pre_WoDwIdeal (m : (ℓ : Loc Cert.WoDwIdeal.nD Cert.WoDwIdeal.τ Cert.WoDwIdeal.sig) → Buf (Elt Ideal) ℓ) : Prop :=
  True

def Pre_WoDwRefIdeal (m : (ℓ : Loc Cert.WoDwRefIdeal.nD Cert.WoDwRefIdeal.τ Cert.WoDwRefIdeal.sig) → Buf (Elt Ideal) ℓ) : Prop :=
  True

def Pre_WoLn (m : (ℓ : Loc Cert.WoLn.nD Cert.WoLn.τ Cert.WoLn.sig) → Buf (Elt Bits) ℓ) : Prop :=
  True

def Pre_WoLnIdeal (m : (ℓ : Loc Cert.WoLnIdeal.nD Cert.WoLnIdeal.τ Cert.WoLnIdeal.sig) → Buf (Elt Ideal) ℓ) : Prop :=
  True

def Pre_WoLnRefIdeal (m : (ℓ : Loc Cert.WoLnRefIdeal.nD Cert.WoLnRefIdeal.τ Cert.WoLnRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_GluDx (m : (ℓ : Loc Cert.GluDx.nD Cert.GluDx.τ Cert.GluDx.sig) → Buf (Elt Bits) ℓ) : Prop :=
  True

def Pre_GluDxIdeal (m : (ℓ : Loc Cert.GluDxIdeal.nD Cert.GluDxIdeal.τ Cert.GluDxIdeal.sig) → Buf (Elt Ideal) ℓ) : Prop :=
  True

def Pre_GluDxRefIdeal (m : (ℓ : Loc Cert.GluDxRefIdeal.nD Cert.GluDxRefIdeal.τ Cert.GluDxRefIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_GluDwRefIdeal (m : (ℓ : Loc Cert.GluDwRefIdeal.nD Cert.GluDwRefIdeal.τ Cert.GluDwRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsRefIdeal (m : (ℓ : Loc Cert.HeadsRefIdeal.nD Cert.HeadsRefIdeal.τ Cert.HeadsRefIdeal.sig) → Buf (Elt Ideal) ℓ) : Prop :=
  True

def Pre_HeadsDx (m : (ℓ : Loc Cert.HeadsDx.nD Cert.HeadsDx.τ Cert.HeadsDx.sig) → Buf (Elt Bits) ℓ) : Prop :=
  True

def Pre_HeadsDxIdeal (m : (ℓ : Loc Cert.HeadsDxIdeal.nD Cert.HeadsDxIdeal.τ Cert.HeadsDxIdeal.sig) → Buf (Elt Ideal) ℓ) : Prop :=
  True

def Pre_HeadsDxRefIdeal (m : (ℓ : Loc Cert.HeadsDxRefIdeal.nD Cert.HeadsDxRefIdeal.τ Cert.HeadsDxRefIdeal.sig) → Buf (Elt Ideal) ℓ) : Prop :=
  True

def Pre_HeadsDw (m : (ℓ : Loc Cert.HeadsDw.nD Cert.HeadsDw.τ Cert.HeadsDw.sig) → Buf (Elt Bits) ℓ) : Prop :=
  True

def Pre_HeadsDwIdeal (m : (ℓ : Loc Cert.HeadsDwIdeal.nD Cert.HeadsDwIdeal.τ Cert.HeadsDwIdeal.sig) → Buf (Elt Ideal) ℓ) : Prop :=
  True

def Pre_HeadsDwRefIdeal (m : (ℓ : Loc Cert.HeadsDwRefIdeal.nD Cert.HeadsDwRefIdeal.τ Cert.HeadsDwRefIdeal.sig) → Buf (Elt Ideal) ℓ) : Prop :=
  True

def Pre_Dwq (m : (ℓ : Loc Cert.Dwq.nD Cert.Dwq.τ Cert.Dwq.sig) → Buf (Elt Bits) ℓ) : Prop :=
  True

def Pre_DwqIdeal (m : (ℓ : Loc Cert.DwqIdeal.nD Cert.DwqIdeal.τ Cert.DwqIdeal.sig) → Buf (Elt Ideal) ℓ) : Prop :=
  True

def Pre_DwqRefIdeal (m : (ℓ : Loc Cert.DwqRefIdeal.nD Cert.DwqRefIdeal.τ Cert.DwqRefIdeal.sig) → Buf (Elt Ideal) ℓ) : Prop :=
  True

def Pre_Dwk (m : (ℓ : Loc Cert.Dwk.nD Cert.Dwk.τ Cert.Dwk.sig) → Buf (Elt Bits) ℓ) : Prop :=
  True

def Pre_DwkIdeal (m : (ℓ : Loc Cert.DwkIdeal.nD Cert.DwkIdeal.τ Cert.DwkIdeal.sig) → Buf (Elt Ideal) ℓ) : Prop :=
  True

def Pre_DwkRefIdeal (m : (ℓ : Loc Cert.DwkRefIdeal.nD Cert.DwkRefIdeal.τ Cert.DwkRefIdeal.sig) → Buf (Elt Ideal) ℓ) : Prop :=
  True

def Pre_Dwv (m : (ℓ : Loc Cert.Dwv.nD Cert.Dwv.τ Cert.Dwv.sig) → Buf (Elt Bits) ℓ) : Prop :=
  True

def Pre_DwvIdeal (m : (ℓ : Loc Cert.DwvIdeal.nD Cert.DwvIdeal.τ Cert.DwvIdeal.sig) → Buf (Elt Ideal) ℓ) : Prop :=
  True

def Pre_DwvRefIdeal (m : (ℓ : Loc Cert.DwvRefIdeal.nD Cert.DwvRefIdeal.τ Cert.DwvRefIdeal.sig) → Buf (Elt Ideal) ℓ) : Prop :=
  True

def Pre_AttB (m : (ℓ : Loc Cert.AttB.nD Cert.AttB.τ Cert.AttB.sig) → Buf (Elt Bits) ℓ) : Prop :=
  True

def Pre_AttBIdeal (m : (ℓ : Loc Cert.AttBIdeal.nD Cert.AttBIdeal.τ Cert.AttBIdeal.sig) → Buf (Elt Ideal) ℓ) : Prop :=
  True

def Pre_AttBIdeal_att_finite [hPre_att_finite : Cert.Pre_att_finite.Facts] (m : (ℓ : Loc Cert.AttBIdeal.nD Cert.AttBIdeal.τ Cert.AttBIdeal.sig) → Buf (Elt Ideal) ℓ) : Prop :=
  ∀ c : Dev Cert.AttBIdeal.nD,
    (Cert.Pre_att_finite.fn (F := Ideal) (m ((c.tc : Thread Cert.AttBIdeal.nD Cert.AttBIdeal.τ).loc Cert.AttBIdeal.main_arg0)) (m ((c.tc : Thread Cert.AttBIdeal.nD Cert.AttBIdeal.τ).loc Cert.AttBIdeal.main_arg1)) (m ((c.tc : Thread Cert.AttBIdeal.nD Cert.AttBIdeal.τ).loc Cert.AttBIdeal.main_arg2)) (m ((c.tc : Thread Cert.AttBIdeal.nD Cert.AttBIdeal.τ).loc Cert.AttBIdeal.main_arg3))) = (fun _ => 1#1)

def Pre_AttBRefIdeal (m : (ℓ : Loc Cert.AttBRefIdeal.nD Cert.AttBRefIdeal.τ Cert.AttBRefIdeal.sig) → Buf (Elt Ideal) ℓ) : Prop :=
  True

def Pre_AttBRefIdeal_att_finite [hPre_att_finite : Cert.Pre_att_finite.Facts] (m : (ℓ : Loc Cert.AttBRefIdeal.nD Cert.AttBRefIdeal.τ Cert.AttBRefIdeal.sig) → Buf (Elt Ideal) ℓ) : Prop :=
  ∀ c : Dev Cert.AttBRefIdeal.nD,
    (Cert.Pre_att_finite.fn (F := Ideal) (m ((c.tc : Thread Cert.AttBRefIdeal.nD Cert.AttBRefIdeal.τ).loc Cert.AttBRefIdeal.main_arg0)) (m ((c.tc : Thread Cert.AttBRefIdeal.nD Cert.AttBRefIdeal.τ).loc Cert.AttBRefIdeal.main_arg1)) (m ((c.tc : Thread Cert.AttBRefIdeal.nD Cert.AttBRefIdeal.τ).loc Cert.AttBRefIdeal.main_arg2)) (m ((c.tc : Thread Cert.AttBRefIdeal.nD Cert.AttBRefIdeal.τ).loc Cert.AttBRefIdeal.main_arg3))) = (fun _ => 1#1)

def Pre_AttF (m : (ℓ : Loc Cert.AttF.nD Cert.AttF.τ Cert.AttF.sig) → Buf (Elt Bits) ℓ) : Prop :=
  True

def Pre_AttFIdeal (m : (ℓ : Loc Cert.AttFIdeal.nD Cert.AttFIdeal.τ Cert.AttFIdeal.sig) → Buf (Elt Ideal) ℓ) : Prop :=
  True

def Pre_AttFIdeal_scores_finite [hPre_scores_finite : Cert.Pre_scores_finite.Facts] (m : (ℓ : Loc Cert.AttFIdeal.nD Cert.AttFIdeal.τ Cert.AttFIdeal.sig) → Buf (Elt Ideal) ℓ) : Prop :=
  ∀ c : Dev Cert.AttFIdeal.nD,
    (Cert.Pre_scores_finite.fn (F := Ideal) (m ((c.tc : Thread Cert.AttFIdeal.nD Cert.AttFIdeal.τ).loc Cert.AttFIdeal.main_arg0)) (m ((c.tc : Thread Cert.AttFIdeal.nD Cert.AttFIdeal.τ).loc Cert.AttFIdeal.main_arg1)) (m ((c.tc : Thread Cert.AttFIdeal.nD Cert.AttFIdeal.τ).loc Cert.AttFIdeal.main_arg2))) = (fun _ => 1#1)

def Pre_AttFRefIdeal (m : (ℓ : Loc Cert.AttFRefIdeal.nD Cert.AttFRefIdeal.τ Cert.AttFRefIdeal.sig) → Buf (Elt Ideal) ℓ) : Prop :=
  True

def Pre_AttFRefIdeal_scores_finite [hPre_scores_finite : Cert.Pre_scores_finite.Facts] (m : (ℓ : Loc Cert.AttFRefIdeal.nD Cert.AttFRefIdeal.τ Cert.AttFRefIdeal.sig) → Buf (Elt Ideal) ℓ) : Prop :=
  ∀ c : Dev Cert.AttFRefIdeal.nD,
    (Cert.Pre_scores_finite.fn (F := Ideal) (m ((c.tc : Thread Cert.AttFRefIdeal.nD Cert.AttFRefIdeal.τ).loc Cert.AttFRefIdeal.main_arg0)) (m ((c.tc : Thread Cert.AttFRefIdeal.nD Cert.AttFRefIdeal.τ).loc Cert.AttFRefIdeal.main_arg1)) (m ((c.tc : Thread Cert.AttFRefIdeal.nD Cert.AttFRefIdeal.τ).loc Cert.AttFRefIdeal.main_arg2))) = (fun _ => 1#1)

def Pre_LatB (m : (ℓ : Loc Cert.LatB.nD Cert.LatB.τ Cert.LatB.sig) → Buf (Elt Bits) ℓ) : Prop :=
  True

def Pre_LatBIdeal (m : (ℓ : Loc Cert.LatBIdeal.nD Cert.LatBIdeal.τ Cert.LatBIdeal.sig) → Buf (Elt Ideal) ℓ) : Prop :=
  True

def Pre_LatBRefIdeal (m : (ℓ : Loc Cert.LatBRefIdeal.nD Cert.LatBRefIdeal.τ Cert.LatBRefIdeal.sig) → Buf (Elt Ideal) ℓ) : Prop :=
  True

def Pre_Lat (m : (ℓ : Loc Cert.Lat.nD Cert.Lat.τ Cert.Lat.sig) → Buf (Elt Bits) ℓ) : Prop :=
  True

def Pre_LatIdeal (m : (ℓ : Loc Cert.LatIdeal.nD Cert.LatIdeal.τ Cert.LatIdeal.sig) → Buf (Elt Ideal) ℓ) : Prop :=
  True

def Pre_LatRefIdeal (m : (ℓ : Loc Cert.LatRefIdeal.nD Cert.LatRefIdeal.τ Cert.LatRefIdeal.sig) → Buf (Elt Ideal) ℓ) : Prop :=
  True

def Pre_CsDx (m : (ℓ : Loc Cert.CsDx.nD Cert.CsDx.τ Cert.CsDx.sig) → Buf (Elt Bits) ℓ) : Prop :=
  True

def Pre_CsDxIdeal (m : (ℓ : Loc Cert.CsDxIdeal.nD Cert.CsDxIdeal.τ Cert.CsDxIdeal.sig) → Buf (Elt Ideal) ℓ) : Prop :=
  True

def Pre_CsDxRefIdeal (m : (ℓ : Loc Cert.CsDxRefIdeal.nD Cert.CsDxRefIdeal.τ Cert.CsDxRefIdeal.sig) → Buf (Elt Ideal) ℓ) : Prop :=
  True

def Pre_CsDw (m : (ℓ : Loc Cert.CsDw.nD Cert.CsDw.τ Cert.CsDw.sig) → Buf (Elt Bits) ℓ) : Prop :=
  True

def Pre_CsDwIdeal (m : (ℓ : Loc Cert.CsDwIdeal.nD Cert.CsDwIdeal.τ Cert.CsDwIdeal.sig) → Buf (Elt Ideal) ℓ) : Prop :=
  True

def Pre_CsDwRefIdeal (m : (ℓ : Loc Cert.CsDwRefIdeal.nD Cert.CsDwRefIdeal.τ Cert.CsDwRefIdeal.sig) → Buf (Elt Ideal) ℓ) : Prop :=
  True

def Pre_BuDw (m : (ℓ : Loc Cert.BuDw.nD Cert.BuDw.τ Cert.BuDw.sig) → Buf (Elt Bits) ℓ) : Prop :=
  True

def Pre_BuDwIdeal (m : (ℓ : Loc Cert.BuDwIdeal.nD Cert.BuDwIdeal.τ Cert.BuDwIdeal.sig) → Buf (Elt Ideal) ℓ) : Prop :=
  True

def Pre_BuDwRefIdeal (m : (ℓ : Loc Cert.BuDwRefIdeal.nD Cert.BuDwRefIdeal.τ Cert.BuDwRefIdeal.sig) → Buf (Elt Ideal) ℓ) : Prop :=
  True

def Pre_BuDx (m : (ℓ : Loc Cert.BuDx.nD Cert.BuDx.τ Cert.BuDx.sig) → Buf (Elt Bits) ℓ) : Prop :=
  True

def Pre_BuDxIdeal (m : (ℓ : Loc Cert.BuDxIdeal.nD Cert.BuDxIdeal.τ Cert.BuDxIdeal.sig) → Buf (Elt Ideal) ℓ) : Prop :=
  True

def Pre_BuDxRefIdeal (m : (ℓ : Loc Cert.BuDxRefIdeal.nD Cert.BuDxRefIdeal.τ Cert.BuDxRefIdeal.sig) → Buf (Elt Ideal) ℓ) : Prop :=
  True

def Pre_Bu (m : (ℓ : Loc Cert.Bu.nD Cert.Bu.τ Cert.Bu.sig) → Buf (Elt Bits) ℓ) : Prop :=
  True

def Pre_BuIdeal (m : (ℓ : Loc Cert.BuIdeal.nD Cert.BuIdeal.τ Cert.BuIdeal.sig) → Buf (Elt Ideal) ℓ) : Prop :=
  True

def Pre_BuRefIdeal (m : (ℓ : Loc Cert.BuRefIdeal.nD Cert.BuRefIdeal.τ Cert.BuRefIdeal.sig) → Buf (Elt Ideal) ℓ) : Prop :=
  True

def Pre_Cs (m : (ℓ : Loc Cert.Cs.nD Cert.Cs.τ Cert.Cs.sig) → Buf (Elt Bits) ℓ) : Prop :=
  True

def Pre_CsIdeal (m : (ℓ : Loc Cert.CsIdeal.nD Cert.CsIdeal.τ Cert.CsIdeal.sig) → Buf (Elt Ideal) ℓ) : Prop :=
  True

def Pre_CsIdeal_im_finite [hPre_im_finite : Cert.Pre_im_finite.Facts] (m : (ℓ : Loc Cert.CsIdeal.nD Cert.CsIdeal.τ Cert.CsIdeal.sig) → Buf (Elt Ideal) ℓ) : Prop :=
  ∀ c : Dev Cert.CsIdeal.nD,
    (Cert.Pre_im_finite.fn (F := Ideal) (m ((c.tc : Thread Cert.CsIdeal.nD Cert.CsIdeal.τ).loc Cert.CsIdeal.main_arg0)) (m ((c.tc : Thread Cert.CsIdeal.nD Cert.CsIdeal.τ).loc Cert.CsIdeal.main_arg1)) (m ((c.tc : Thread Cert.CsIdeal.nD Cert.CsIdeal.τ).loc Cert.CsIdeal.main_arg2))) = (fun _ => 1#1)

def Pre_CsRefIdeal (m : (ℓ : Loc Cert.CsRefIdeal.nD Cert.CsRefIdeal.τ Cert.CsRefIdeal.sig) → Buf (Elt Ideal) ℓ) : Prop :=
  True

def Pre_CsRefIdeal_im_finite [hPre_im_finite : Cert.Pre_im_finite.Facts] (m : (ℓ : Loc Cert.CsRefIdeal.nD Cert.CsRefIdeal.τ Cert.CsRefIdeal.sig) → Buf (Elt Ideal) ℓ) : Prop :=
  ∀ c : Dev Cert.CsRefIdeal.nD,
    (Cert.Pre_im_finite.fn (F := Ideal) (m ((c.tc : Thread Cert.CsRefIdeal.nD Cert.CsRefIdeal.τ).loc Cert.CsRefIdeal.main_arg0)) (m ((c.tc : Thread Cert.CsRefIdeal.nD Cert.CsRefIdeal.τ).loc Cert.CsRefIdeal.main_arg1)) (m ((c.tc : Thread Cert.CsRefIdeal.nD Cert.CsRefIdeal.τ).loc Cert.CsRefIdeal.main_arg2))) = (fun _ => 1#1)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownIdeal_pre_down_finite [hDownIdeal : Cert.DownIdeal.Facts] [hPre_down_finite : Cert.Pre_down_finite.Facts] : Prop :=
  ∀ (m : (ℓ : Loc Cert.DownIdeal.nD Cert.DownIdeal.τ Cert.DownIdeal.sig) → Buf (Elt Ideal) ℓ) (g : Dev Cert.DownIdeal.nD → PrngReg), Pre_DownIdeal_down_finite m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_DownRefIdeal_pre_down_finite [hDownRefIdeal : Cert.DownRefIdeal.Facts] [hPre_down_finite : Cert.Pre_down_finite.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_down_finite m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwdRefIdeal [hDwdRefIdeal : Cert.DwdRefIdeal.Facts] : Prop :=
  ∀ (m : (ℓ : Loc Cert.DwdRefIdeal.nD Cert.DwdRefIdeal.τ Cert.DwdRefIdeal.sig) → Buf (Elt Ideal) ℓ) (g : Dev Cert.DwdRefIdeal.nD → PrngReg), Pre_DwdRefIdeal m →
    θ_run (Cert.DwdRefIdeal.defs (F := Ideal)) (onTc (τ := Cert.DwdRefIdeal.τ) (Cert.DwdRefIdeal.main (F := Ideal))) ⟨m, fun _ => 0, g⟩ (fun r => (∀ c : Dev Cert.DwdRefIdeal.nD,
      r.2.mem ((c.tc : Thread Cert.DwdRefIdeal.nD Cert.DwdRefIdeal.τ).loc Cert.DwdRefIdeal.main_arg0) = m ((c.tc : Thread Cert.DwdRefIdeal.nD Cert.DwdRefIdeal.τ).loc Cert.DwdRefIdeal.main_arg0)
      ∧ r.2.mem ((c.tc : Thread Cert.DwdRefIdeal.nD Cert.DwdRefIdeal.τ).loc Cert.DwdRefIdeal.main_arg1) = m ((c.tc : Thread Cert.DwdRefIdeal.nD Cert.DwdRefIdeal.τ).loc Cert.DwdRefIdeal.main_arg1))
      ∧ r.2.sem = fun _ => 0)

def quiescent_DwuRefIdeal [hDwuRefIdeal : Cert.DwuRefIdeal.Facts] : Prop :=
  ∀ (m : (ℓ : Loc Cert.DwuRefIdeal.nD Cert.DwuRefIdeal.τ Cert.DwuRefIdeal.sig) → Buf (Elt Ideal) ℓ) (g : Dev Cert.DwuRefIdeal.nD → PrngReg), Pre_DwuRefIdeal m →
    θ_run (Cert.DwuRefIdeal.defs (F := Ideal)) (onTc (τ := Cert.DwuRefIdeal.τ) (Cert.DwuRefIdeal.main (F := Ideal))) ⟨m, fun _ => 0, g⟩ (fun r => (∀ c : Dev Cert.DwuRefIdeal.nD,
      r.2.mem ((c.tc : Thread Cert.DwuRefIdeal.nD Cert.DwuRefIdeal.τ).loc Cert.DwuRefIdeal.main_arg0) = m ((c.tc : Thread Cert.DwuRefIdeal.nD Cert.DwuRefIdeal.τ).loc Cert.DwuRefIdeal.main_arg0)
      ∧ r.2.mem ((c.tc : Thread Cert.DwuRefIdeal.nD Cert.DwuRefIdeal.τ).loc Cert.DwuRefIdeal.main_arg1) = m ((c.tc : Thread Cert.DwuRefIdeal.nD Cert.DwuRefIdeal.τ).loc Cert.DwuRefIdeal.main_arg1))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4))
      ∧ r.2.sem = fun _ => 0)

def quiescent_Res [hRes : Cert.Res.Facts] : Prop :=
  ∀ (m : (ℓ : Loc Cert.Res.nD Cert.Res.τ Cert.Res.sig) → Buf (Elt Bits) ℓ) (g : Dev Cert.Res.nD → PrngReg), Pre_Res m →
    θ_run (Cert.Res.defs (F := Bits)) (onTc (τ := Cert.Res.τ) (Cert.Res.main (F := Bits))) ⟨m, fun _ => 0, g⟩ (fun r => (∀ c : Dev Cert.Res.nD,
      r.2.mem ((c.tc : Thread Cert.Res.nD Cert.Res.τ).loc Cert.Res.main_arg0) = m ((c.tc : Thread Cert.Res.nD Cert.Res.τ).loc Cert.Res.main_arg0)
      ∧ r.2.mem ((c.tc : Thread Cert.Res.nD Cert.Res.τ).loc Cert.Res.main_arg1) = m ((c.tc : Thread Cert.Res.nD Cert.Res.τ).loc Cert.Res.main_arg1)
      ∧ r.2.mem ((c.tc : Thread Cert.Res.nD Cert.Res.τ).loc Cert.Res.main_arg2) = m ((c.tc : Thread Cert.Res.nD Cert.Res.τ).loc Cert.Res.main_arg2)
      ∧ r.2.mem ((c.tc : Thread Cert.Res.nD Cert.Res.τ).loc Cert.Res.main_arg3) = m ((c.tc : Thread Cert.Res.nD Cert.Res.τ).loc Cert.Res.main_arg3)
      ∧ r.2.mem ((c.tc : Thread Cert.Res.nD Cert.Res.τ).loc Cert.Res.main_arg4) = m ((c.tc : Thread Cert.Res.nD Cert.Res.τ).loc Cert.Res.main_arg4))
      ∧ r.2.sem = fun _ => 0)

def quiescent_ResIdeal [hResIdeal : Cert.ResIdeal.Facts] : Prop :=
  ∀ (m : (ℓ : Loc Cert.ResIdeal.nD Cert.ResIdeal.τ Cert.ResIdeal.sig) → Buf (Elt Ideal) ℓ) (g : Dev Cert.ResIdeal.nD → PrngReg), Pre_ResIdeal m →
    θ_run (Cert.ResIdeal.defs (F := Ideal)) (onTc (τ := Cert.ResIdeal.τ) (Cert.ResIdeal.main (F := Ideal))) ⟨m, fun _ => 0, g⟩ (fun r => (∀ c : Dev Cert.ResIdeal.nD,
      r.2.mem ((c.tc : Thread Cert.ResIdeal.nD Cert.ResIdeal.τ).loc Cert.ResIdeal.main_arg0) = m ((c.tc : Thread Cert.ResIdeal.nD Cert.ResIdeal.τ).loc Cert.ResIdeal.main_arg0)
      ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
      ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
      ∧ r.2.mem ((c.tc : Thread Cert.ResIdeal.nD Cert.ResIdeal.τ).loc Cert.ResIdeal.main_arg3) = m ((c.tc : Thread Cert.ResIdeal.nD Cert.ResIdeal.τ).loc Cert.ResIdeal.main_arg3)
      ∧ r.2.mem ((c.tc : Thread Cert.ResIdeal.nD Cert.ResIdeal.τ).loc Cert.ResIdeal.main_arg4) = m ((c.tc : Thread Cert.ResIdeal.nD Cert.ResIdeal.τ).loc Cert.ResIdeal.main_arg4))
      ∧ r.2.sem = fun _ => 0)

def quiescent_ResRefIdeal [hResRefIdeal : Cert.ResRefIdeal.Facts] : Prop :=
  ∀ (m : (ℓ : Loc Cert.ResRefIdeal.nD Cert.ResRefIdeal.τ Cert.ResRefIdeal.sig) → Buf (Elt Ideal) ℓ) (g : Dev Cert.ResRefIdeal.nD → PrngReg), Pre_ResRefIdeal m →
    θ_run (Cert.ResRefIdeal.defs (F := Ideal)) (onTc (τ := Cert.ResRefIdeal.τ) (Cert.ResRefIdeal.main (F := Ideal))) ⟨m, fun _ => 0, g⟩ (fun r => (∀ c : Dev Cert.ResRefIdeal.nD,
      r.2.mem ((c.tc : Thread Cert.ResRefIdeal.nD Cert.ResRefIdeal.τ).loc Cert.ResRefIdeal.main_arg0) = m ((c.tc : Thread Cert.ResRefIdeal.nD Cert.ResRefIdeal.τ).loc Cert.ResRefIdeal.main_arg0)
      ∧ r.2.mem ((c.tc : Thread Cert.ResRefIdeal.nD Cert.ResRefIdeal.τ).loc Cert.ResRefIdeal.main_arg1) = m ((c.tc : Thread Cert.ResRefIdeal.nD Cert.ResRefIdeal.τ).loc Cert.ResRefIdeal.main_arg1)
      ∧ r.2.mem ((c.tc : Thread Cert.ResRefIdeal.nD Cert.ResRefIdeal.τ).loc Cert.ResRefIdeal.main_arg2) = m ((c.tc : Thread Cert.ResRefIdeal.nD Cert.ResRefIdeal.τ).loc Cert.ResRefIdeal.main_arg2)
      ∧ r.2.mem ((c.tc : Thread Cert.ResRefIdeal.nD Cert.ResRefIdeal.τ).loc Cert.ResRefIdeal.main_arg3) = m ((c.tc : Thread Cert.ResRefIdeal.nD Cert.ResRefIdeal.τ).loc Cert.ResRefIdeal.main_arg3)
      ∧ r.2.mem ((c.tc : Thread Cert.ResRefIdeal.nD Cert.ResRefIdeal.τ).loc Cert.ResRefIdeal.main_arg4) = m ((c.tc : Thread Cert.ResRefIdeal.nD Cert.ResRefIdeal.τ).loc Cert.ResRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1)
      ∧ r.2.mem ((c.tc : Thread Cert.ProjDx.nD Cert.ProjDx.τ).loc Cert.ProjDx.main_arg2) = m ((c.tc : Thread Cert.ProjDx.nD Cert.ProjDx.τ).loc Cert.ProjDx.main_arg2))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
      ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1)
      ∧ r.2.mem ((c.tc : Thread Cert.ProjDxRefIdeal.nD Cert.ProjDxRefIdeal.τ).loc Cert.ProjDxRefIdeal.main_arg2) = m ((c.tc : Thread Cert.ProjDxRefIdeal.nD Cert.ProjDxRefIdeal.τ).loc Cert.ProjDxRefIdeal.main_arg2))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_WoDx [hWoDx : Cert.WoDx.Facts] : Prop :=
  ∀ (m : (ℓ : Loc Cert.WoDx.nD Cert.WoDx.τ Cert.WoDx.sig) → Buf (Elt Bits) ℓ) (g : Dev Cert.WoDx.nD → PrngReg), Pre_WoDx m →
    θ_run (Cert.WoDx.defs (F := Bits)) (onTc (τ := Cert.WoDx.τ) (Cert.WoDx.main (F := Bits))) ⟨m, fun _ => 0, g⟩ (fun r => (∀ c : Dev Cert.WoDx.nD,
      r.2.mem ((c.tc : Thread Cert.WoDx.nD Cert.WoDx.τ).loc Cert.WoDx.main_arg0) = m ((c.tc : Thread Cert.WoDx.nD Cert.WoDx.τ).loc Cert.WoDx.main_arg0)
      ∧ r.2.mem ((c.tc : Thread Cert.WoDx.nD Cert.WoDx.τ).loc Cert.WoDx.main_arg1) = m ((c.tc : Thread Cert.WoDx.nD Cert.WoDx.τ).loc Cert.WoDx.main_arg1))
      ∧ r.2.sem = fun _ => 0)

def quiescent_WoDxIdeal [hWoDxIdeal : Cert.WoDxIdeal.Facts] : Prop :=
  ∀ (m : (ℓ : Loc Cert.WoDxIdeal.nD Cert.WoDxIdeal.τ Cert.WoDxIdeal.sig) → Buf (Elt Ideal) ℓ) (g : Dev Cert.WoDxIdeal.nD → PrngReg), Pre_WoDxIdeal m →
    θ_run (Cert.WoDxIdeal.defs (F := Ideal)) (onTc (τ := Cert.WoDxIdeal.τ) (Cert.WoDxIdeal.main (F := Ideal))) ⟨m, fun _ => 0, g⟩ (fun r => (∀ c : Dev Cert.WoDxIdeal.nD,
      r.2.mem ((c.tc : Thread Cert.WoDxIdeal.nD Cert.WoDxIdeal.τ).loc Cert.WoDxIdeal.main_arg0) = m ((c.tc : Thread Cert.WoDxIdeal.nD Cert.WoDxIdeal.τ).loc Cert.WoDxIdeal.main_arg0)
      ∧ r.2.mem ((c.tc : Thread Cert.WoDxIdeal.nD Cert.WoDxIdeal.τ).loc Cert.WoDxIdeal.main_arg1) = m ((c.tc : Thread Cert.WoDxIdeal.nD Cert.WoDxIdeal.τ).loc Cert.WoDxIdeal.main_arg1))
      ∧ r.2.sem = fun _ => 0)

def quiescent_WoDxRefIdeal [hWoDxRefIdeal : Cert.WoDxRefIdeal.Facts] : Prop :=
  ∀ (m : (ℓ : Loc Cert.WoDxRefIdeal.nD Cert.WoDxRefIdeal.τ Cert.WoDxRefIdeal.sig) → Buf (Elt Ideal) ℓ) (g : Dev Cert.WoDxRefIdeal.nD → PrngReg), Pre_WoDxRefIdeal m →
    θ_run (Cert.WoDxRefIdeal.defs (F := Ideal)) (onTc (τ := Cert.WoDxRefIdeal.τ) (Cert.WoDxRefIdeal.main (F := Ideal))) ⟨m, fun _ => 0, g⟩ (fun r => (∀ c : Dev Cert.WoDxRefIdeal.nD,
      r.2.mem ((c.tc : Thread Cert.WoDxRefIdeal.nD Cert.WoDxRefIdeal.τ).loc Cert.WoDxRefIdeal.main_arg0) = m ((c.tc : Thread Cert.WoDxRefIdeal.nD Cert.WoDxRefIdeal.τ).loc Cert.WoDxRefIdeal.main_arg0)
      ∧ r.2.mem ((c.tc : Thread Cert.WoDxRefIdeal.nD Cert.WoDxRefIdeal.τ).loc Cert.WoDxRefIdeal.main_arg1) = m ((c.tc : Thread Cert.WoDxRefIdeal.nD Cert.WoDxRefIdeal.τ).loc Cert.WoDxRefIdeal.main_arg1))
      ∧ r.2.sem = fun _ => 0)

def quiescent_WoDw [hWoDw : Cert.WoDw.Facts] : Prop :=
  ∀ (m : (ℓ : Loc Cert.WoDw.nD Cert.WoDw.τ Cert.WoDw.sig) → Buf (Elt Bits) ℓ) (g : Dev Cert.WoDw.nD → PrngReg), Pre_WoDw m →
    θ_run (Cert.WoDw.defs (F := Bits)) (onTc (τ := Cert.WoDw.τ) (Cert.WoDw.main (F := Bits))) ⟨m, fun _ => 0, g⟩ (fun r => (∀ c : Dev Cert.WoDw.nD,
      r.2.mem ((c.tc : Thread Cert.WoDw.nD Cert.WoDw.τ).loc Cert.WoDw.main_arg0) = m ((c.tc : Thread Cert.WoDw.nD Cert.WoDw.τ).loc Cert.WoDw.main_arg0)
      ∧ r.2.mem ((c.tc : Thread Cert.WoDw.nD Cert.WoDw.τ).loc Cert.WoDw.main_arg1) = m ((c.tc : Thread Cert.WoDw.nD Cert.WoDw.τ).loc Cert.WoDw.main_arg1))
      ∧ r.2.sem = fun _ => 0)

def quiescent_WoDwIdeal [hWoDwIdeal : Cert.WoDwIdeal.Facts] : Prop :=
  ∀ (m : (ℓ : Loc Cert.WoDwIdeal.nD Cert.WoDwIdeal.τ Cert.WoDwIdeal.sig) → Buf (Elt Ideal) ℓ) (g : Dev Cert.WoDwIdeal.nD → PrngReg), Pre_WoDwIdeal m →
    θ_run (Cert.WoDwIdeal.defs (F := Ideal)) (onTc (τ := Cert.WoDwIdeal.τ) (Cert.WoDwIdeal.main (F := Ideal))) ⟨m, fun _ => 0, g⟩ (fun r => (∀ c : Dev Cert.WoDwIdeal.nD,
      r.2.mem ((c.tc : Thread Cert.WoDwIdeal.nD Cert.WoDwIdeal.τ).loc Cert.WoDwIdeal.main_arg0) = m ((c.tc : Thread Cert.WoDwIdeal.nD Cert.WoDwIdeal.τ).loc Cert.WoDwIdeal.main_arg0)
      ∧ r.2.mem ((c.tc : Thread Cert.WoDwIdeal.nD Cert.WoDwIdeal.τ).loc Cert.WoDwIdeal.main_arg1) = m ((c.tc : Thread Cert.WoDwIdeal.nD Cert.WoDwIdeal.τ).loc Cert.WoDwIdeal.main_arg1))
      ∧ r.2.sem = fun _ => 0)

def quiescent_WoDwRefIdeal [hWoDwRefIdeal : Cert.WoDwRefIdeal.Facts] : Prop :=
  ∀ (m : (ℓ : Loc Cert.WoDwRefIdeal.nD Cert.WoDwRefIdeal.τ Cert.WoDwRefIdeal.sig) → Buf (Elt Ideal) ℓ) (g : Dev Cert.WoDwRefIdeal.nD → PrngReg), Pre_WoDwRefIdeal m →
    θ_run (Cert.WoDwRefIdeal.defs (F := Ideal)) (onTc (τ := Cert.WoDwRefIdeal.τ) (Cert.WoDwRefIdeal.main (F := Ideal))) ⟨m, fun _ => 0, g⟩ (fun r => (∀ c : Dev Cert.WoDwRefIdeal.nD,
      r.2.mem ((c.tc : Thread Cert.WoDwRefIdeal.nD Cert.WoDwRefIdeal.τ).loc Cert.WoDwRefIdeal.main_arg0) = m ((c.tc : Thread Cert.WoDwRefIdeal.nD Cert.WoDwRefIdeal.τ).loc Cert.WoDwRefIdeal.main_arg0)
      ∧ r.2.mem ((c.tc : Thread Cert.WoDwRefIdeal.nD Cert.WoDwRefIdeal.τ).loc Cert.WoDwRefIdeal.main_arg1) = m ((c.tc : Thread Cert.WoDwRefIdeal.nD Cert.WoDwRefIdeal.τ).loc Cert.WoDwRefIdeal.main_arg1))
      ∧ r.2.sem = fun _ => 0)

def quiescent_WoLn [hWoLn : Cert.WoLn.Facts] : Prop :=
  ∀ (m : (ℓ : Loc Cert.WoLn.nD Cert.WoLn.τ Cert.WoLn.sig) → Buf (Elt Bits) ℓ) (g : Dev Cert.WoLn.nD → PrngReg), Pre_WoLn m →
    θ_run (Cert.WoLn.defs (F := Bits)) (onTc (τ := Cert.WoLn.τ) (Cert.WoLn.main (F := Bits))) ⟨m, fun _ => 0, g⟩ (fun r => (∀ c : Dev Cert.WoLn.nD,
      r.2.mem ((c.tc : Thread Cert.WoLn.nD Cert.WoLn.τ).loc Cert.WoLn.main_arg0) = m ((c.tc : Thread Cert.WoLn.nD Cert.WoLn.τ).loc Cert.WoLn.main_arg0)
      ∧ r.2.mem ((c.tc : Thread Cert.WoLn.nD Cert.WoLn.τ).loc Cert.WoLn.main_arg1) = m ((c.tc : Thread Cert.WoLn.nD Cert.WoLn.τ).loc Cert.WoLn.main_arg1)
      ∧ r.2.mem ((c.tc : Thread Cert.WoLn.nD Cert.WoLn.τ).loc Cert.WoLn.main_arg2) = m ((c.tc : Thread Cert.WoLn.nD Cert.WoLn.τ).loc Cert.WoLn.main_arg2)
      ∧ r.2.mem ((c.tc : Thread Cert.WoLn.nD Cert.WoLn.τ).loc Cert.WoLn.main_arg3) = m ((c.tc : Thread Cert.WoLn.nD Cert.WoLn.τ).loc Cert.WoLn.main_arg3)
      ∧ r.2.mem ((c.tc : Thread Cert.WoLn.nD Cert.WoLn.τ).loc Cert.WoLn.main_arg4) = m ((c.tc : Thread Cert.WoLn.nD Cert.WoLn.τ).loc Cert.WoLn.main_arg4))
      ∧ r.2.sem = fun _ => 0)

def quiescent_WoLnIdeal [hWoLnIdeal : Cert.WoLnIdeal.Facts] : Prop :=
  ∀ (m : (ℓ : Loc Cert.WoLnIdeal.nD Cert.WoLnIdeal.τ Cert.WoLnIdeal.sig) → Buf (Elt Ideal) ℓ) (g : Dev Cert.WoLnIdeal.nD → PrngReg), Pre_WoLnIdeal m →
    θ_run (Cert.WoLnIdeal.defs (F := Ideal)) (onTc (τ := Cert.WoLnIdeal.τ) (Cert.WoLnIdeal.main (F := Ideal))) ⟨m, fun _ => 0, g⟩ (fun r => (∀ c : Dev Cert.WoLnIdeal.nD,
      r.2.mem ((c.tc : Thread Cert.WoLnIdeal.nD Cert.WoLnIdeal.τ).loc Cert.WoLnIdeal.main_arg0) = m ((c.tc : Thread Cert.WoLnIdeal.nD Cert.WoLnIdeal.τ).loc Cert.WoLnIdeal.main_arg0)
      ∧ r.2.mem ((c.tc : Thread Cert.WoLnIdeal.nD Cert.WoLnIdeal.τ).loc Cert.WoLnIdeal.main_arg1) = m ((c.tc : Thread Cert.WoLnIdeal.nD Cert.WoLnIdeal.τ).loc Cert.WoLnIdeal.main_arg1)
      ∧ r.2.mem ((c.tc : Thread Cert.WoLnIdeal.nD Cert.WoLnIdeal.τ).loc Cert.WoLnIdeal.main_arg2) = m ((c.tc : Thread Cert.WoLnIdeal.nD Cert.WoLnIdeal.τ).loc Cert.WoLnIdeal.main_arg2)
      ∧ r.2.mem ((c.tc : Thread Cert.WoLnIdeal.nD Cert.WoLnIdeal.τ).loc Cert.WoLnIdeal.main_arg3) = m ((c.tc : Thread Cert.WoLnIdeal.nD Cert.WoLnIdeal.τ).loc Cert.WoLnIdeal.main_arg3)
      ∧ r.2.mem ((c.tc : Thread Cert.WoLnIdeal.nD Cert.WoLnIdeal.τ).loc Cert.WoLnIdeal.main_arg4) = m ((c.tc : Thread Cert.WoLnIdeal.nD Cert.WoLnIdeal.τ).loc Cert.WoLnIdeal.main_arg4))
      ∧ r.2.sem = fun _ => 0)

def quiescent_WoLnRefIdeal [hWoLnRefIdeal : Cert.WoLnRefIdeal.Facts] : Prop :=
  ∀ (m : (ℓ : Loc Cert.WoLnRefIdeal.nD Cert.WoLnRefIdeal.τ Cert.WoLnRefIdeal.sig) → Buf (Elt Ideal) ℓ) (g : Dev Cert.WoLnRefIdeal.nD → PrngReg), Pre_WoLnRefIdeal m →
    θ_run (Cert.WoLnRefIdeal.defs (F := Ideal)) (onTc (τ := Cert.WoLnRefIdeal.τ) (Cert.WoLnRefIdeal.main (F := Ideal))) ⟨m, fun _ => 0, g⟩ (fun r => (∀ c : Dev Cert.WoLnRefIdeal.nD,
      r.2.mem ((c.tc : Thread Cert.WoLnRefIdeal.nD Cert.WoLnRefIdeal.τ).loc Cert.WoLnRefIdeal.main_arg0) = m ((c.tc : Thread Cert.WoLnRefIdeal.nD Cert.WoLnRefIdeal.τ).loc Cert.WoLnRefIdeal.main_arg0)
      ∧ r.2.mem ((c.tc : Thread Cert.WoLnRefIdeal.nD Cert.WoLnRefIdeal.τ).loc Cert.WoLnRefIdeal.main_arg1) = m ((c.tc : Thread Cert.WoLnRefIdeal.nD Cert.WoLnRefIdeal.τ).loc Cert.WoLnRefIdeal.main_arg1)
      ∧ r.2.mem ((c.tc : Thread Cert.WoLnRefIdeal.nD Cert.WoLnRefIdeal.τ).loc Cert.WoLnRefIdeal.main_arg2) = m ((c.tc : Thread Cert.WoLnRefIdeal.nD Cert.WoLnRefIdeal.τ).loc Cert.WoLnRefIdeal.main_arg2)
      ∧ r.2.mem ((c.tc : Thread Cert.WoLnRefIdeal.nD Cert.WoLnRefIdeal.τ).loc Cert.WoLnRefIdeal.main_arg3) = m ((c.tc : Thread Cert.WoLnRefIdeal.nD Cert.WoLnRefIdeal.τ).loc Cert.WoLnRefIdeal.main_arg3)
      ∧ r.2.mem ((c.tc : Thread Cert.WoLnRefIdeal.nD Cert.WoLnRefIdeal.τ).loc Cert.WoLnRefIdeal.main_arg4) = m ((c.tc : Thread Cert.WoLnRefIdeal.nD Cert.WoLnRefIdeal.τ).loc Cert.WoLnRefIdeal.main_arg4))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_GluDx [hGluDx : Cert.GluDx.Facts] : Prop :=
  ∀ (m : (ℓ : Loc Cert.GluDx.nD Cert.GluDx.τ Cert.GluDx.sig) → Buf (Elt Bits) ℓ) (g : Dev Cert.GluDx.nD → PrngReg), Pre_GluDx m →
    θ_run (Cert.GluDx.defs (F := Bits)) (onTc (τ := Cert.GluDx.τ) (Cert.GluDx.main (F := Bits))) ⟨m, fun _ => 0, g⟩ (fun r => (∀ c : Dev Cert.GluDx.nD,
      r.2.mem ((c.tc : Thread Cert.GluDx.nD Cert.GluDx.τ).loc Cert.GluDx.main_arg0) = m ((c.tc : Thread Cert.GluDx.nD Cert.GluDx.τ).loc Cert.GluDx.main_arg0)
      ∧ r.2.mem ((c.tc : Thread Cert.GluDx.nD Cert.GluDx.τ).loc Cert.GluDx.main_arg1) = m ((c.tc : Thread Cert.GluDx.nD Cert.GluDx.τ).loc Cert.GluDx.main_arg1)
      ∧ r.2.mem ((c.tc : Thread Cert.GluDx.nD Cert.GluDx.τ).loc Cert.GluDx.main_arg2) = m ((c.tc : Thread Cert.GluDx.nD Cert.GluDx.τ).loc Cert.GluDx.main_arg2))
      ∧ r.2.sem = fun _ => 0)

def quiescent_GluDxIdeal [hGluDxIdeal : Cert.GluDxIdeal.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1)
      ∧ r.2.mem ((c.tc : Thread Cert.GluDxIdeal.nD Cert.GluDxIdeal.τ).loc Cert.GluDxIdeal.main_arg2) = m ((c.tc : Thread Cert.GluDxIdeal.nD Cert.GluDxIdeal.τ).loc Cert.GluDxIdeal.main_arg2))
      ∧ r.2.sem = fun _ => 0)

def quiescent_GluDxRefIdeal [hGluDxRefIdeal : Cert.GluDxRefIdeal.Facts] : Prop :=
  ∀ (m : (ℓ : Loc Cert.GluDxRefIdeal.nD Cert.GluDxRefIdeal.τ Cert.GluDxRefIdeal.sig) → Buf (Elt Ideal) ℓ) (g : Dev Cert.GluDxRefIdeal.nD → PrngReg), Pre_GluDxRefIdeal m →
    θ_run (Cert.GluDxRefIdeal.defs (F := Ideal)) (onTc (τ := Cert.GluDxRefIdeal.τ) (Cert.GluDxRefIdeal.main (F := Ideal))) ⟨m, fun _ => 0, g⟩ (fun r => (∀ c : Dev Cert.GluDxRefIdeal.nD,
      r.2.mem ((c.tc : Thread Cert.GluDxRefIdeal.nD Cert.GluDxRefIdeal.τ).loc Cert.GluDxRefIdeal.main_arg0) = m ((c.tc : Thread Cert.GluDxRefIdeal.nD Cert.GluDxRefIdeal.τ).loc Cert.GluDxRefIdeal.main_arg0)
      ∧ r.2.mem ((c.tc : Thread Cert.GluDxRefIdeal.nD Cert.GluDxRefIdeal.τ).loc Cert.GluDxRefIdeal.main_arg1) = m ((c.tc : Thread Cert.GluDxRefIdeal.nD Cert.GluDxRefIdeal.τ).loc Cert.GluDxRefIdeal.main_arg1)
      ∧ r.2.mem ((c.tc : Thread Cert.GluDxRefIdeal.nD Cert.GluDxRefIdeal.τ).loc Cert.GluDxRefIdeal.main_arg2) = m ((c.tc : Thread Cert.GluDxRefIdeal.nD Cert.GluDxRefIdeal.τ).loc Cert.GluDxRefIdeal.main_arg2))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ r.2.sem = fun _ => 0)

def quiescent_GluDwRefIdeal [hGluDwRefIdeal : Cert.GluDwRefIdeal.Facts] : Prop :=
  ∀ (m : (ℓ : Loc Cert.GluDwRefIdeal.nD Cert.GluDwRefIdeal.τ Cert.GluDwRefIdeal.sig) → Buf (Elt Ideal) ℓ) (g : Dev Cert.GluDwRefIdeal.nD → PrngReg), Pre_GluDwRefIdeal m →
    θ_run (Cert.GluDwRefIdeal.defs (F := Ideal)) (onTc (τ := Cert.GluDwRefIdeal.τ) (Cert.GluDwRefIdeal.main (F := Ideal))) ⟨m, fun _ => 0, g⟩ (fun r => (∀ c : Dev Cert.GluDwRefIdeal.nD,
      r.2.mem ((c.tc : Thread Cert.GluDwRefIdeal.nD Cert.GluDwRefIdeal.τ).loc Cert.GluDwRefIdeal.main_arg0) = m ((c.tc : Thread Cert.GluDwRefIdeal.nD Cert.GluDwRefIdeal.τ).loc Cert.GluDwRefIdeal.main_arg0)
      ∧ r.2.mem ((c.tc : Thread Cert.GluDwRefIdeal.nD Cert.GluDwRefIdeal.τ).loc Cert.GluDwRefIdeal.main_arg1) = m ((c.tc : Thread Cert.GluDwRefIdeal.nD Cert.GluDwRefIdeal.τ).loc Cert.GluDwRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1))
      ∧ r.2.sem = fun _ => 0)

def quiescent_HeadsRefIdeal [hHeadsRefIdeal : Cert.HeadsRefIdeal.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1))
      ∧ r.2.sem = fun _ => 0)

def quiescent_HeadsDx [hHeadsDx : Cert.HeadsDx.Facts] : Prop :=
  ∀ (m : (ℓ : Loc Cert.HeadsDx.nD Cert.HeadsDx.τ Cert.HeadsDx.sig) → Buf (Elt Bits) ℓ) (g : Dev Cert.HeadsDx.nD → PrngReg), Pre_HeadsDx m →
    θ_run (Cert.HeadsDx.defs (F := Bits)) (onTc (τ := Cert.HeadsDx.τ) (Cert.HeadsDx.main (F := Bits))) ⟨m, fun _ => 0, g⟩ (fun r => (∀ c : Dev Cert.HeadsDx.nD,
      r.2.mem ((c.tc : Thread Cert.HeadsDx.nD Cert.HeadsDx.τ).loc Cert.HeadsDx.main_arg0) = m ((c.tc : Thread Cert.HeadsDx.nD Cert.HeadsDx.τ).loc Cert.HeadsDx.main_arg0)
      ∧ r.2.mem ((c.tc : Thread Cert.HeadsDx.nD Cert.HeadsDx.τ).loc Cert.HeadsDx.main_arg1) = m ((c.tc : Thread Cert.HeadsDx.nD Cert.HeadsDx.τ).loc Cert.HeadsDx.main_arg1))
      ∧ r.2.sem = fun _ => 0)

def quiescent_HeadsDxIdeal [hHeadsDxIdeal : Cert.HeadsDxIdeal.Facts] : Prop :=
  ∀ (m : (ℓ : Loc Cert.HeadsDxIdeal.nD Cert.HeadsDxIdeal.τ Cert.HeadsDxIdeal.sig) → Buf (Elt Ideal) ℓ) (g : Dev Cert.HeadsDxIdeal.nD → PrngReg), Pre_HeadsDxIdeal m →
    θ_run (Cert.HeadsDxIdeal.defs (F := Ideal)) (onTc (τ := Cert.HeadsDxIdeal.τ) (Cert.HeadsDxIdeal.main (F := Ideal))) ⟨m, fun _ => 0, g⟩ (fun r => (∀ c : Dev Cert.HeadsDxIdeal.nD,
      r.2.mem ((c.tc : Thread Cert.HeadsDxIdeal.nD Cert.HeadsDxIdeal.τ).loc Cert.HeadsDxIdeal.main_arg0) = m ((c.tc : Thread Cert.HeadsDxIdeal.nD Cert.HeadsDxIdeal.τ).loc Cert.HeadsDxIdeal.main_arg0)
      ∧ r.2.mem ((c.tc : Thread Cert.HeadsDxIdeal.nD Cert.HeadsDxIdeal.τ).loc Cert.HeadsDxIdeal.main_arg1) = m ((c.tc : Thread Cert.HeadsDxIdeal.nD Cert.HeadsDxIdeal.τ).loc Cert.HeadsDxIdeal.main_arg1))
      ∧ r.2.sem = fun _ => 0)

def quiescent_HeadsDxRefIdeal [hHeadsDxRefIdeal : Cert.HeadsDxRefIdeal.Facts] : Prop :=
  ∀ (m : (ℓ : Loc Cert.HeadsDxRefIdeal.nD Cert.HeadsDxRefIdeal.τ Cert.HeadsDxRefIdeal.sig) → Buf (Elt Ideal) ℓ) (g : Dev Cert.HeadsDxRefIdeal.nD → PrngReg), Pre_HeadsDxRefIdeal m →
    θ_run (Cert.HeadsDxRefIdeal.defs (F := Ideal)) (onTc (τ := Cert.HeadsDxRefIdeal.τ) (Cert.HeadsDxRefIdeal.main (F := Ideal))) ⟨m, fun _ => 0, g⟩ (fun r => (∀ c : Dev Cert.HeadsDxRefIdeal.nD,
      r.2.mem ((c.tc : Thread Cert.HeadsDxRefIdeal.nD Cert.HeadsDxRefIdeal.τ).loc Cert.HeadsDxRefIdeal.main_arg0) = m ((c.tc : Thread Cert.HeadsDxRefIdeal.nD Cert.HeadsDxRefIdeal.τ).loc Cert.HeadsDxRefIdeal.main_arg0)
      ∧ r.2.mem ((c.tc : Thread Cert.HeadsDxRefIdeal.nD Cert.HeadsDxRefIdeal.τ).loc Cert.HeadsDxRefIdeal.main_arg1) = m ((c.tc : Thread Cert.HeadsDxRefIdeal.nD Cert.HeadsDxRefIdeal.τ).loc Cert.HeadsDxRefIdeal.main_arg1))
      ∧ r.2.sem = fun _ => 0)

def quiescent_HeadsDw [hHeadsDw : Cert.HeadsDw.Facts] : Prop :=
  ∀ (m : (ℓ : Loc Cert.HeadsDw.nD Cert.HeadsDw.τ Cert.HeadsDw.sig) → Buf (Elt Bits) ℓ) (g : Dev Cert.HeadsDw.nD → PrngReg), Pre_HeadsDw m →
    θ_run (Cert.HeadsDw.defs (F := Bits)) (onTc (τ := Cert.HeadsDw.τ) (Cert.HeadsDw.main (F := Bits))) ⟨m, fun _ => 0, g⟩ (fun r => (∀ c : Dev Cert.HeadsDw.nD,
      r.2.mem ((c.tc : Thread Cert.HeadsDw.nD Cert.HeadsDw.τ).loc Cert.HeadsDw.main_arg0) = m ((c.tc : Thread Cert.HeadsDw.nD Cert.HeadsDw.τ).loc Cert.HeadsDw.main_arg0)
      ∧ r.2.mem ((c.tc : Thread Cert.HeadsDw.nD Cert.HeadsDw.τ).loc Cert.HeadsDw.main_arg1) = m ((c.tc : Thread Cert.HeadsDw.nD Cert.HeadsDw.τ).loc Cert.HeadsDw.main_arg1))
      ∧ r.2.sem = fun _ => 0)

def quiescent_HeadsDwIdeal [hHeadsDwIdeal : Cert.HeadsDwIdeal.Facts] : Prop :=
  ∀ (m : (ℓ : Loc Cert.HeadsDwIdeal.nD Cert.HeadsDwIdeal.τ Cert.HeadsDwIdeal.sig) → Buf (Elt Ideal) ℓ) (g : Dev Cert.HeadsDwIdeal.nD → PrngReg), Pre_HeadsDwIdeal m →
    θ_run (Cert.HeadsDwIdeal.defs (F := Ideal)) (onTc (τ := Cert.HeadsDwIdeal.τ) (Cert.HeadsDwIdeal.main (F := Ideal))) ⟨m, fun _ => 0, g⟩ (fun r => (∀ c : Dev Cert.HeadsDwIdeal.nD,
      r.2.mem ((c.tc : Thread Cert.HeadsDwIdeal.nD Cert.HeadsDwIdeal.τ).loc Cert.HeadsDwIdeal.main_arg0) = m ((c.tc : Thread Cert.HeadsDwIdeal.nD Cert.HeadsDwIdeal.τ).loc Cert.HeadsDwIdeal.main_arg0)
      ∧ r.2.mem ((c.tc : Thread Cert.HeadsDwIdeal.nD Cert.HeadsDwIdeal.τ).loc Cert.HeadsDwIdeal.main_arg1) = m ((c.tc : Thread Cert.HeadsDwIdeal.nD Cert.HeadsDwIdeal.τ).loc Cert.HeadsDwIdeal.main_arg1))
      ∧ r.2.sem = fun _ => 0)

def quiescent_HeadsDwRefIdeal [hHeadsDwRefIdeal : Cert.HeadsDwRefIdeal.Facts] : Prop :=
  ∀ (m : (ℓ : Loc Cert.HeadsDwRefIdeal.nD Cert.HeadsDwRefIdeal.τ Cert.HeadsDwRefIdeal.sig) → Buf (Elt Ideal) ℓ) (g : Dev Cert.HeadsDwRefIdeal.nD → PrngReg), Pre_HeadsDwRefIdeal m →
    θ_run (Cert.HeadsDwRefIdeal.defs (F := Ideal)) (onTc (τ := Cert.HeadsDwRefIdeal.τ) (Cert.HeadsDwRefIdeal.main (F := Ideal))) ⟨m, fun _ => 0, g⟩ (fun r => (∀ c : Dev Cert.HeadsDwRefIdeal.nD,
      r.2.mem ((c.tc : Thread Cert.HeadsDwRefIdeal.nD Cert.HeadsDwRefIdeal.τ).loc Cert.HeadsDwRefIdeal.main_arg0) = m ((c.tc : Thread Cert.HeadsDwRefIdeal.nD Cert.HeadsDwRefIdeal.τ).loc Cert.HeadsDwRefIdeal.main_arg0)
      ∧ r.2.mem ((c.tc : Thread Cert.HeadsDwRefIdeal.nD Cert.HeadsDwRefIdeal.τ).loc Cert.HeadsDwRefIdeal.main_arg1) = m ((c.tc : Thread Cert.HeadsDwRefIdeal.nD Cert.HeadsDwRefIdeal.τ).loc Cert.HeadsDwRefIdeal.main_arg1))
      ∧ r.2.sem = fun _ => 0)

def quiescent_Dwq [hDwq : Cert.Dwq.Facts] : Prop :=
  ∀ (m : (ℓ : Loc Cert.Dwq.nD Cert.Dwq.τ Cert.Dwq.sig) → Buf (Elt Bits) ℓ) (g : Dev Cert.Dwq.nD → PrngReg), Pre_Dwq m →
    θ_run (Cert.Dwq.defs (F := Bits)) (onTc (τ := Cert.Dwq.τ) (Cert.Dwq.main (F := Bits))) ⟨m, fun _ => 0, g⟩ (fun r => (∀ c : Dev Cert.Dwq.nD,
      r.2.mem ((c.tc : Thread Cert.Dwq.nD Cert.Dwq.τ).loc Cert.Dwq.main_arg0) = m ((c.tc : Thread Cert.Dwq.nD Cert.Dwq.τ).loc Cert.Dwq.main_arg0)
      ∧ r.2.mem ((c.tc : Thread Cert.Dwq.nD Cert.Dwq.τ).loc Cert.Dwq.main_arg1) = m ((c.tc : Thread Cert.Dwq.nD Cert.Dwq.τ).loc Cert.Dwq.main_arg1))
      ∧ r.2.sem = fun _ => 0)

def quiescent_DwqIdeal [hDwqIdeal : Cert.DwqIdeal.Facts] : Prop :=
  ∀ (m : (ℓ : Loc Cert.DwqIdeal.nD Cert.DwqIdeal.τ Cert.DwqIdeal.sig) → Buf (Elt Ideal) ℓ) (g : Dev Cert.DwqIdeal.nD → PrngReg), Pre_DwqIdeal m →
    θ_run (Cert.DwqIdeal.defs (F := Ideal)) (onTc (τ := Cert.DwqIdeal.τ) (Cert.DwqIdeal.main (F := Ideal))) ⟨m, fun _ => 0, g⟩ (fun r => (∀ c : Dev Cert.DwqIdeal.nD,
      r.2.mem ((c.tc : Thread Cert.DwqIdeal.nD Cert.DwqIdeal.τ).loc Cert.DwqIdeal.main_arg0) = m ((c.tc : Thread Cert.DwqIdeal.nD Cert.DwqIdeal.τ).loc Cert.DwqIdeal.main_arg0)
      ∧ r.2.mem ((c.tc : Thread Cert.DwqIdeal.nD Cert.DwqIdeal.τ).loc Cert.DwqIdeal.main_arg1) = m ((c.tc : Thread Cert.DwqIdeal.nD Cert.DwqIdeal.τ).loc Cert.DwqIdeal.main_arg1))
      ∧ r.2.sem = fun _ => 0)

def quiescent_DwqRefIdeal [hDwqRefIdeal : Cert.DwqRefIdeal.Facts] : Prop :=
  ∀ (m : (ℓ : Loc Cert.DwqRefIdeal.nD Cert.DwqRefIdeal.τ Cert.DwqRefIdeal.sig) → Buf (Elt Ideal) ℓ) (g : Dev Cert.DwqRefIdeal.nD → PrngReg), Pre_DwqRefIdeal m →
    θ_run (Cert.DwqRefIdeal.defs (F := Ideal)) (onTc (τ := Cert.DwqRefIdeal.τ) (Cert.DwqRefIdeal.main (F := Ideal))) ⟨m, fun _ => 0, g⟩ (fun r => (∀ c : Dev Cert.DwqRefIdeal.nD,
      r.2.mem ((c.tc : Thread Cert.DwqRefIdeal.nD Cert.DwqRefIdeal.τ).loc Cert.DwqRefIdeal.main_arg0) = m ((c.tc : Thread Cert.DwqRefIdeal.nD Cert.DwqRefIdeal.τ).loc Cert.DwqRefIdeal.main_arg0)
      ∧ r.2.mem ((c.tc : Thread Cert.DwqRefIdeal.nD Cert.DwqRefIdeal.τ).loc Cert.DwqRefIdeal.main_arg1) = m ((c.tc : Thread Cert.DwqRefIdeal.nD Cert.DwqRefIdeal.τ).loc Cert.DwqRefIdeal.main_arg1))
      ∧ r.2.sem = fun _ => 0)

def quiescent_Dwk [hDwk : Cert.Dwk.Facts] : Prop :=
  ∀ (m : (ℓ : Loc Cert.Dwk.nD Cert.Dwk.τ Cert.Dwk.sig) → Buf (Elt Bits) ℓ) (g : Dev Cert.Dwk.nD → PrngReg), Pre_Dwk m →
    θ_run (Cert.Dwk.defs (F := Bits)) (onTc (τ := Cert.Dwk.τ) (Cert.Dwk.main (F := Bits))) ⟨m, fun _ => 0, g⟩ (fun r => (∀ c : Dev Cert.Dwk.nD,
      r.2.mem ((c.tc : Thread Cert.Dwk.nD Cert.Dwk.τ).loc Cert.Dwk.main_arg0) = m ((c.tc : Thread Cert.Dwk.nD Cert.Dwk.τ).loc Cert.Dwk.main_arg0)
      ∧ r.2.mem ((c.tc : Thread Cert.Dwk.nD Cert.Dwk.τ).loc Cert.Dwk.main_arg1) = m ((c.tc : Thread Cert.Dwk.nD Cert.Dwk.τ).loc Cert.Dwk.main_arg1))
      ∧ r.2.sem = fun _ => 0)

def quiescent_DwkIdeal [hDwkIdeal : Cert.DwkIdeal.Facts] : Prop :=
  ∀ (m : (ℓ : Loc Cert.DwkIdeal.nD Cert.DwkIdeal.τ Cert.DwkIdeal.sig) → Buf (Elt Ideal) ℓ) (g : Dev Cert.DwkIdeal.nD → PrngReg), Pre_DwkIdeal m →
    θ_run (Cert.DwkIdeal.defs (F := Ideal)) (onTc (τ := Cert.DwkIdeal.τ) (Cert.DwkIdeal.main (F := Ideal))) ⟨m, fun _ => 0, g⟩ (fun r => (∀ c : Dev Cert.DwkIdeal.nD,
      r.2.mem ((c.tc : Thread Cert.DwkIdeal.nD Cert.DwkIdeal.τ).loc Cert.DwkIdeal.main_arg0) = m ((c.tc : Thread Cert.DwkIdeal.nD Cert.DwkIdeal.τ).loc Cert.DwkIdeal.main_arg0)
      ∧ r.2.mem ((c.tc : Thread Cert.DwkIdeal.nD Cert.DwkIdeal.τ).loc Cert.DwkIdeal.main_arg1) = m ((c.tc : Thread Cert.DwkIdeal.nD Cert.DwkIdeal.τ).loc Cert.DwkIdeal.main_arg1))
      ∧ r.2.sem = fun _ => 0)

def quiescent_DwkRefIdeal [hDwkRefIdeal : Cert.DwkRefIdeal.Facts] : Prop :=
  ∀ (m : (ℓ : Loc Cert.DwkRefIdeal.nD Cert.DwkRefIdeal.τ Cert.DwkRefIdeal.sig) → Buf (Elt Ideal) ℓ) (g : Dev Cert.DwkRefIdeal.nD → PrngReg), Pre_DwkRefIdeal m →
    θ_run (Cert.DwkRefIdeal.defs (F := Ideal)) (onTc (τ := Cert.DwkRefIdeal.τ) (Cert.DwkRefIdeal.main (F := Ideal))) ⟨m, fun _ => 0, g⟩ (fun r => (∀ c : Dev Cert.DwkRefIdeal.nD,
      r.2.mem ((c.tc : Thread Cert.DwkRefIdeal.nD Cert.DwkRefIdeal.τ).loc Cert.DwkRefIdeal.main_arg0) = m ((c.tc : Thread Cert.DwkRefIdeal.nD Cert.DwkRefIdeal.τ).loc Cert.DwkRefIdeal.main_arg0)
      ∧ r.2.mem ((c.tc : Thread Cert.DwkRefIdeal.nD Cert.DwkRefIdeal.τ).loc Cert.DwkRefIdeal.main_arg1) = m ((c.tc : Thread Cert.DwkRefIdeal.nD Cert.DwkRefIdeal.τ).loc Cert.DwkRefIdeal.main_arg1))
      ∧ r.2.sem = fun _ => 0)

def quiescent_Dwv [hDwv : Cert.Dwv.Facts] : Prop :=
  ∀ (m : (ℓ : Loc Cert.Dwv.nD Cert.Dwv.τ Cert.Dwv.sig) → Buf (Elt Bits) ℓ) (g : Dev Cert.Dwv.nD → PrngReg), Pre_Dwv m →
    θ_run (Cert.Dwv.defs (F := Bits)) (onTc (τ := Cert.Dwv.τ) (Cert.Dwv.main (F := Bits))) ⟨m, fun _ => 0, g⟩ (fun r => (∀ c : Dev Cert.Dwv.nD,
      r.2.mem ((c.tc : Thread Cert.Dwv.nD Cert.Dwv.τ).loc Cert.Dwv.main_arg0) = m ((c.tc : Thread Cert.Dwv.nD Cert.Dwv.τ).loc Cert.Dwv.main_arg0)
      ∧ r.2.mem ((c.tc : Thread Cert.Dwv.nD Cert.Dwv.τ).loc Cert.Dwv.main_arg1) = m ((c.tc : Thread Cert.Dwv.nD Cert.Dwv.τ).loc Cert.Dwv.main_arg1))
      ∧ r.2.sem = fun _ => 0)

def quiescent_DwvIdeal [hDwvIdeal : Cert.DwvIdeal.Facts] : Prop :=
  ∀ (m : (ℓ : Loc Cert.DwvIdeal.nD Cert.DwvIdeal.τ Cert.DwvIdeal.sig) → Buf (Elt Ideal) ℓ) (g : Dev Cert.DwvIdeal.nD → PrngReg), Pre_DwvIdeal m →
    θ_run (Cert.DwvIdeal.defs (F := Ideal)) (onTc (τ := Cert.DwvIdeal.τ) (Cert.DwvIdeal.main (F := Ideal))) ⟨m, fun _ => 0, g⟩ (fun r => (∀ c : Dev Cert.DwvIdeal.nD,
      r.2.mem ((c.tc : Thread Cert.DwvIdeal.nD Cert.DwvIdeal.τ).loc Cert.DwvIdeal.main_arg0) = m ((c.tc : Thread Cert.DwvIdeal.nD Cert.DwvIdeal.τ).loc Cert.DwvIdeal.main_arg0)
      ∧ r.2.mem ((c.tc : Thread Cert.DwvIdeal.nD Cert.DwvIdeal.τ).loc Cert.DwvIdeal.main_arg1) = m ((c.tc : Thread Cert.DwvIdeal.nD Cert.DwvIdeal.τ).loc Cert.DwvIdeal.main_arg1))
      ∧ r.2.sem = fun _ => 0)

def quiescent_DwvRefIdeal [hDwvRefIdeal : Cert.DwvRefIdeal.Facts] : Prop :=
  ∀ (m : (ℓ : Loc Cert.DwvRefIdeal.nD Cert.DwvRefIdeal.τ Cert.DwvRefIdeal.sig) → Buf (Elt Ideal) ℓ) (g : Dev Cert.DwvRefIdeal.nD → PrngReg), Pre_DwvRefIdeal m →
    θ_run (Cert.DwvRefIdeal.defs (F := Ideal)) (onTc (τ := Cert.DwvRefIdeal.τ) (Cert.DwvRefIdeal.main (F := Ideal))) ⟨m, fun _ => 0, g⟩ (fun r => (∀ c : Dev Cert.DwvRefIdeal.nD,
      r.2.mem ((c.tc : Thread Cert.DwvRefIdeal.nD Cert.DwvRefIdeal.τ).loc Cert.DwvRefIdeal.main_arg0) = m ((c.tc : Thread Cert.DwvRefIdeal.nD Cert.DwvRefIdeal.τ).loc Cert.DwvRefIdeal.main_arg0)
      ∧ r.2.mem ((c.tc : Thread Cert.DwvRefIdeal.nD Cert.DwvRefIdeal.τ).loc Cert.DwvRefIdeal.main_arg1) = m ((c.tc : Thread Cert.DwvRefIdeal.nD Cert.DwvRefIdeal.τ).loc Cert.DwvRefIdeal.main_arg1))
      ∧ r.2.sem = fun _ => 0)

def quiescent_AttB [hAttB : Cert.AttB.Facts] : Prop :=
  ∀ (m : (ℓ : Loc Cert.AttB.nD Cert.AttB.τ Cert.AttB.sig) → Buf (Elt Bits) ℓ) (g : Dev Cert.AttB.nD → PrngReg), Pre_AttB m →
    θ_run (Cert.AttB.defs (F := Bits)) (onTc (τ := Cert.AttB.τ) (Cert.AttB.main (F := Bits))) ⟨m, fun _ => 0, g⟩ (fun r => (∀ c : Dev Cert.AttB.nD,
      r.2.mem ((c.tc : Thread Cert.AttB.nD Cert.AttB.τ).loc Cert.AttB.main_arg0) = m ((c.tc : Thread Cert.AttB.nD Cert.AttB.τ).loc Cert.AttB.main_arg0)
      ∧ r.2.mem ((c.tc : Thread Cert.AttB.nD Cert.AttB.τ).loc Cert.AttB.main_arg1) = m ((c.tc : Thread Cert.AttB.nD Cert.AttB.τ).loc Cert.AttB.main_arg1)
      ∧ r.2.mem ((c.tc : Thread Cert.AttB.nD Cert.AttB.τ).loc Cert.AttB.main_arg2) = m ((c.tc : Thread Cert.AttB.nD Cert.AttB.τ).loc Cert.AttB.main_arg2)
      ∧ r.2.mem ((c.tc : Thread Cert.AttB.nD Cert.AttB.τ).loc Cert.AttB.main_arg3) = m ((c.tc : Thread Cert.AttB.nD Cert.AttB.τ).loc Cert.AttB.main_arg3))
      ∧ r.2.sem = fun _ => 0)

def quiescent_AttBIdeal [hAttBIdeal : Cert.AttBIdeal.Facts] : Prop :=
  ∀ (m : (ℓ : Loc Cert.AttBIdeal.nD Cert.AttBIdeal.τ Cert.AttBIdeal.sig) → Buf (Elt Ideal) ℓ) (g : Dev Cert.AttBIdeal.nD → PrngReg), Pre_AttBIdeal m →
    θ_run (Cert.AttBIdeal.defs (F := Ideal)) (onTc (τ := Cert.AttBIdeal.τ) (Cert.AttBIdeal.main (F := Ideal))) ⟨m, fun _ => 0, g⟩ (fun r => (∀ c : Dev Cert.AttBIdeal.nD,
      r.2.mem ((c.tc : Thread Cert.AttBIdeal.nD Cert.AttBIdeal.τ).loc Cert.AttBIdeal.main_arg0) = m ((c.tc : Thread Cert.AttBIdeal.nD Cert.AttBIdeal.τ).loc Cert.AttBIdeal.main_arg0)
      ∧ r.2.mem ((c.tc : Thread Cert.AttBIdeal.nD Cert.AttBIdeal.τ).loc Cert.AttBIdeal.main_arg1) = m ((c.tc : Thread Cert.AttBIdeal.nD Cert.AttBIdeal.τ).loc Cert.AttBIdeal.main_arg1)
      ∧ r.2.mem ((c.tc : Thread Cert.AttBIdeal.nD Cert.AttBIdeal.τ).loc Cert.AttBIdeal.main_arg2) = m ((c.tc : Thread Cert.AttBIdeal.nD Cert.AttBIdeal.τ).loc Cert.AttBIdeal.main_arg2)
      ∧ r.2.mem ((c.tc : Thread Cert.AttBIdeal.nD Cert.AttBIdeal.τ).loc Cert.AttBIdeal.main_arg3) = m ((c.tc : Thread Cert.AttBIdeal.nD Cert.AttBIdeal.τ).loc Cert.AttBIdeal.main_arg3))
      ∧ r.2.sem = fun _ => 0)

def quiescent_AttBIdeal_pre_att_finite [hAttBIdeal : Cert.AttBIdeal.Facts] [hPre_att_finite : Cert.Pre_att_finite.Facts] : Prop :=
  ∀ (m : (ℓ : Loc Cert.AttBIdeal.nD Cert.AttBIdeal.τ Cert.AttBIdeal.sig) → Buf (Elt Ideal) ℓ) (g : Dev Cert.AttBIdeal.nD → PrngReg), Pre_AttBIdeal_att_finite m →
    θ_run (Cert.AttBIdeal.defs (F := Ideal)) (onTc (τ := Cert.AttBIdeal.τ) (Cert.AttBIdeal.main (F := Ideal))) ⟨m, fun _ => 0, g⟩ (fun r => (∀ c : Dev Cert.AttBIdeal.nD,
      r.2.mem ((c.tc : Thread Cert.AttBIdeal.nD Cert.AttBIdeal.τ).loc Cert.AttBIdeal.main_arg0) = m ((c.tc : Thread Cert.AttBIdeal.nD Cert.AttBIdeal.τ).loc Cert.AttBIdeal.main_arg0)
      ∧ r.2.mem ((c.tc : Thread Cert.AttBIdeal.nD Cert.AttBIdeal.τ).loc Cert.AttBIdeal.main_arg1) = m ((c.tc : Thread Cert.AttBIdeal.nD Cert.AttBIdeal.τ).loc Cert.AttBIdeal.main_arg1)
      ∧ r.2.mem ((c.tc : Thread Cert.AttBIdeal.nD Cert.AttBIdeal.τ).loc Cert.AttBIdeal.main_arg2) = m ((c.tc : Thread Cert.AttBIdeal.nD Cert.AttBIdeal.τ).loc Cert.AttBIdeal.main_arg2)
      ∧ r.2.mem ((c.tc : Thread Cert.AttBIdeal.nD Cert.AttBIdeal.τ).loc Cert.AttBIdeal.main_arg3) = m ((c.tc : Thread Cert.AttBIdeal.nD Cert.AttBIdeal.τ).loc Cert.AttBIdeal.main_arg3))
      ∧ r.2.sem = fun _ => 0)

def quiescent_AttBRefIdeal [hAttBRefIdeal : Cert.AttBRefIdeal.Facts] : Prop :=
  ∀ (m : (ℓ : Loc Cert.AttBRefIdeal.nD Cert.AttBRefIdeal.τ Cert.AttBRefIdeal.sig) → Buf (Elt Ideal) ℓ) (g : Dev Cert.AttBRefIdeal.nD → PrngReg), Pre_AttBRefIdeal m →
    θ_run (Cert.AttBRefIdeal.defs (F := Ideal)) (onTc (τ := Cert.AttBRefIdeal.τ) (Cert.AttBRefIdeal.main (F := Ideal))) ⟨m, fun _ => 0, g⟩ (fun r => (∀ c : Dev Cert.AttBRefIdeal.nD,
      r.2.mem ((c.tc : Thread Cert.AttBRefIdeal.nD Cert.AttBRefIdeal.τ).loc Cert.AttBRefIdeal.main_arg0) = m ((c.tc : Thread Cert.AttBRefIdeal.nD Cert.AttBRefIdeal.τ).loc Cert.AttBRefIdeal.main_arg0)
      ∧ r.2.mem ((c.tc : Thread Cert.AttBRefIdeal.nD Cert.AttBRefIdeal.τ).loc Cert.AttBRefIdeal.main_arg1) = m ((c.tc : Thread Cert.AttBRefIdeal.nD Cert.AttBRefIdeal.τ).loc Cert.AttBRefIdeal.main_arg1)
      ∧ r.2.mem ((c.tc : Thread Cert.AttBRefIdeal.nD Cert.AttBRefIdeal.τ).loc Cert.AttBRefIdeal.main_arg2) = m ((c.tc : Thread Cert.AttBRefIdeal.nD Cert.AttBRefIdeal.τ).loc Cert.AttBRefIdeal.main_arg2)
      ∧ r.2.mem ((c.tc : Thread Cert.AttBRefIdeal.nD Cert.AttBRefIdeal.τ).loc Cert.AttBRefIdeal.main_arg3) = m ((c.tc : Thread Cert.AttBRefIdeal.nD Cert.AttBRefIdeal.τ).loc Cert.AttBRefIdeal.main_arg3))
      ∧ r.2.sem = fun _ => 0)

def quiescent_AttBRefIdeal_pre_att_finite [hAttBRefIdeal : Cert.AttBRefIdeal.Facts] [hPre_att_finite : Cert.Pre_att_finite.Facts] : Prop :=
  ∀ (m : (ℓ : Loc Cert.AttBRefIdeal.nD Cert.AttBRefIdeal.τ Cert.AttBRefIdeal.sig) → Buf (Elt Ideal) ℓ) (g : Dev Cert.AttBRefIdeal.nD → PrngReg), Pre_AttBRefIdeal_att_finite m →
    θ_run (Cert.AttBRefIdeal.defs (F := Ideal)) (onTc (τ := Cert.AttBRefIdeal.τ) (Cert.AttBRefIdeal.main (F := Ideal))) ⟨m, fun _ => 0, g⟩ (fun r => (∀ c : Dev Cert.AttBRefIdeal.nD,
      r.2.mem ((c.tc : Thread Cert.AttBRefIdeal.nD Cert.AttBRefIdeal.τ).loc Cert.AttBRefIdeal.main_arg0) = m ((c.tc : Thread Cert.AttBRefIdeal.nD Cert.AttBRefIdeal.τ).loc Cert.AttBRefIdeal.main_arg0)
      ∧ r.2.mem ((c.tc : Thread Cert.AttBRefIdeal.nD Cert.AttBRefIdeal.τ).loc Cert.AttBRefIdeal.main_arg1) = m ((c.tc : Thread Cert.AttBRefIdeal.nD Cert.AttBRefIdeal.τ).loc Cert.AttBRefIdeal.main_arg1)
      ∧ r.2.mem ((c.tc : Thread Cert.AttBRefIdeal.nD Cert.AttBRefIdeal.τ).loc Cert.AttBRefIdeal.main_arg2) = m ((c.tc : Thread Cert.AttBRefIdeal.nD Cert.AttBRefIdeal.τ).loc Cert.AttBRefIdeal.main_arg2)
      ∧ r.2.mem ((c.tc : Thread Cert.AttBRefIdeal.nD Cert.AttBRefIdeal.τ).loc Cert.AttBRefIdeal.main_arg3) = m ((c.tc : Thread Cert.AttBRefIdeal.nD Cert.AttBRefIdeal.τ).loc Cert.AttBRefIdeal.main_arg3))
      ∧ r.2.sem = fun _ => 0)

def quiescent_AttF [hAttF : Cert.AttF.Facts] : Prop :=
  ∀ (m : (ℓ : Loc Cert.AttF.nD Cert.AttF.τ Cert.AttF.sig) → Buf (Elt Bits) ℓ) (g : Dev Cert.AttF.nD → PrngReg), Pre_AttF m →
    θ_run (Cert.AttF.defs (F := Bits)) (onTc (τ := Cert.AttF.τ) (Cert.AttF.main (F := Bits))) ⟨m, fun _ => 0, g⟩ (fun r => (∀ c : Dev Cert.AttF.nD,
      r.2.mem ((c.tc : Thread Cert.AttF.nD Cert.AttF.τ).loc Cert.AttF.main_arg0) = m ((c.tc : Thread Cert.AttF.nD Cert.AttF.τ).loc Cert.AttF.main_arg0)
      ∧ r.2.mem ((c.tc : Thread Cert.AttF.nD Cert.AttF.τ).loc Cert.AttF.main_arg1) = m ((c.tc : Thread Cert.AttF.nD Cert.AttF.τ).loc Cert.AttF.main_arg1)
      ∧ r.2.mem ((c.tc : Thread Cert.AttF.nD Cert.AttF.τ).loc Cert.AttF.main_arg2) = m ((c.tc : Thread Cert.AttF.nD Cert.AttF.τ).loc Cert.AttF.main_arg2))
      ∧ r.2.sem = fun _ => 0)

def quiescent_AttFIdeal [hAttFIdeal : Cert.AttFIdeal.Facts] : Prop :=
  ∀ (m : (ℓ : Loc Cert.AttFIdeal.nD Cert.AttFIdeal.τ Cert.AttFIdeal.sig) → Buf (Elt Ideal) ℓ) (g : Dev Cert.AttFIdeal.nD → PrngReg), Pre_AttFIdeal m →
    θ_run (Cert.AttFIdeal.defs (F := Ideal)) (onTc (τ := Cert.AttFIdeal.τ) (Cert.AttFIdeal.main (F := Ideal))) ⟨m, fun _ => 0, g⟩ (fun r => (∀ c : Dev Cert.AttFIdeal.nD,
      r.2.mem ((c.tc : Thread Cert.AttFIdeal.nD Cert.AttFIdeal.τ).loc Cert.AttFIdeal.main_arg0) = m ((c.tc : Thread Cert.AttFIdeal.nD Cert.AttFIdeal.τ).loc Cert.AttFIdeal.main_arg0)
      ∧ r.2.mem ((c.tc : Thread Cert.AttFIdeal.nD Cert.AttFIdeal.τ).loc Cert.AttFIdeal.main_arg1) = m ((c.tc : Thread Cert.AttFIdeal.nD Cert.AttFIdeal.τ).loc Cert.AttFIdeal.main_arg1)
      ∧ r.2.mem ((c.tc : Thread Cert.AttFIdeal.nD Cert.AttFIdeal.τ).loc Cert.AttFIdeal.main_arg2) = m ((c.tc : Thread Cert.AttFIdeal.nD Cert.AttFIdeal.τ).loc Cert.AttFIdeal.main_arg2))
      ∧ r.2.sem = fun _ => 0)

def quiescent_AttFIdeal_pre_scores_finite [hAttFIdeal : Cert.AttFIdeal.Facts] [hPre_scores_finite : Cert.Pre_scores_finite.Facts] : Prop :=
  ∀ (m : (ℓ : Loc Cert.AttFIdeal.nD Cert.AttFIdeal.τ Cert.AttFIdeal.sig) → Buf (Elt Ideal) ℓ) (g : Dev Cert.AttFIdeal.nD → PrngReg), Pre_AttFIdeal_scores_finite m →
    θ_run (Cert.AttFIdeal.defs (F := Ideal)) (onTc (τ := Cert.AttFIdeal.τ) (Cert.AttFIdeal.main (F := Ideal))) ⟨m, fun _ => 0, g⟩ (fun r => (∀ c : Dev Cert.AttFIdeal.nD,
      r.2.mem ((c.tc : Thread Cert.AttFIdeal.nD Cert.AttFIdeal.τ).loc Cert.AttFIdeal.main_arg0) = m ((c.tc : Thread Cert.AttFIdeal.nD Cert.AttFIdeal.τ).loc Cert.AttFIdeal.main_arg0)
      ∧ r.2.mem ((c.tc : Thread Cert.AttFIdeal.nD Cert.AttFIdeal.τ).loc Cert.AttFIdeal.main_arg1) = m ((c.tc : Thread Cert.AttFIdeal.nD Cert.AttFIdeal.τ).loc Cert.AttFIdeal.main_arg1)
      ∧ r.2.mem ((c.tc : Thread Cert.AttFIdeal.nD Cert.AttFIdeal.τ).loc Cert.AttFIdeal.main_arg2) = m ((c.tc : Thread Cert.AttFIdeal.nD Cert.AttFIdeal.τ).loc Cert.AttFIdeal.main_arg2))
      ∧ r.2.sem = fun _ => 0)

def quiescent_AttFRefIdeal [hAttFRefIdeal : Cert.AttFRefIdeal.Facts] : Prop :=
  ∀ (m : (ℓ : Loc Cert.AttFRefIdeal.nD Cert.AttFRefIdeal.τ Cert.AttFRefIdeal.sig) → Buf (Elt Ideal) ℓ) (g : Dev Cert.AttFRefIdeal.nD → PrngReg), Pre_AttFRefIdeal m →
    θ_run (Cert.AttFRefIdeal.defs (F := Ideal)) (onTc (τ := Cert.AttFRefIdeal.τ) (Cert.AttFRefIdeal.main (F := Ideal))) ⟨m, fun _ => 0, g⟩ (fun r => (∀ c : Dev Cert.AttFRefIdeal.nD,
      r.2.mem ((c.tc : Thread Cert.AttFRefIdeal.nD Cert.AttFRefIdeal.τ).loc Cert.AttFRefIdeal.main_arg0) = m ((c.tc : Thread Cert.AttFRefIdeal.nD Cert.AttFRefIdeal.τ).loc Cert.AttFRefIdeal.main_arg0)
      ∧ r.2.mem ((c.tc : Thread Cert.AttFRefIdeal.nD Cert.AttFRefIdeal.τ).loc Cert.AttFRefIdeal.main_arg1) = m ((c.tc : Thread Cert.AttFRefIdeal.nD Cert.AttFRefIdeal.τ).loc Cert.AttFRefIdeal.main_arg1)
      ∧ r.2.mem ((c.tc : Thread Cert.AttFRefIdeal.nD Cert.AttFRefIdeal.τ).loc Cert.AttFRefIdeal.main_arg2) = m ((c.tc : Thread Cert.AttFRefIdeal.nD Cert.AttFRefIdeal.τ).loc Cert.AttFRefIdeal.main_arg2))
      ∧ r.2.sem = fun _ => 0)

def quiescent_AttFRefIdeal_pre_scores_finite [hAttFRefIdeal : Cert.AttFRefIdeal.Facts] [hPre_scores_finite : Cert.Pre_scores_finite.Facts] : Prop :=
  ∀ (m : (ℓ : Loc Cert.AttFRefIdeal.nD Cert.AttFRefIdeal.τ Cert.AttFRefIdeal.sig) → Buf (Elt Ideal) ℓ) (g : Dev Cert.AttFRefIdeal.nD → PrngReg), Pre_AttFRefIdeal_scores_finite m →
    θ_run (Cert.AttFRefIdeal.defs (F := Ideal)) (onTc (τ := Cert.AttFRefIdeal.τ) (Cert.AttFRefIdeal.main (F := Ideal))) ⟨m, fun _ => 0, g⟩ (fun r => (∀ c : Dev Cert.AttFRefIdeal.nD,
      r.2.mem ((c.tc : Thread Cert.AttFRefIdeal.nD Cert.AttFRefIdeal.τ).loc Cert.AttFRefIdeal.main_arg0) = m ((c.tc : Thread Cert.AttFRefIdeal.nD Cert.AttFRefIdeal.τ).loc Cert.AttFRefIdeal.main_arg0)
      ∧ r.2.mem ((c.tc : Thread Cert.AttFRefIdeal.nD Cert.AttFRefIdeal.τ).loc Cert.AttFRefIdeal.main_arg1) = m ((c.tc : Thread Cert.AttFRefIdeal.nD Cert.AttFRefIdeal.τ).loc Cert.AttFRefIdeal.main_arg1)
      ∧ r.2.mem ((c.tc : Thread Cert.AttFRefIdeal.nD Cert.AttFRefIdeal.τ).loc Cert.AttFRefIdeal.main_arg2) = m ((c.tc : Thread Cert.AttFRefIdeal.nD Cert.AttFRefIdeal.τ).loc Cert.AttFRefIdeal.main_arg2))
      ∧ r.2.sem = fun _ => 0)

def quiescent_LatB [hLatB : Cert.LatB.Facts] : Prop :=
  ∀ (m : (ℓ : Loc Cert.LatB.nD Cert.LatB.τ Cert.LatB.sig) → Buf (Elt Bits) ℓ) (g : Dev Cert.LatB.nD → PrngReg), Pre_LatB m →
    θ_run (Cert.LatB.defs (F := Bits)) (onTc (τ := Cert.LatB.τ) (Cert.LatB.main (F := Bits))) ⟨m, fun _ => 0, g⟩ (fun r => (∀ c : Dev Cert.LatB.nD,
      r.2.mem ((c.tc : Thread Cert.LatB.nD Cert.LatB.τ).loc Cert.LatB.main_arg0) = m ((c.tc : Thread Cert.LatB.nD Cert.LatB.τ).loc Cert.LatB.main_arg0)
      ∧ r.2.mem ((c.tc : Thread Cert.LatB.nD Cert.LatB.τ).loc Cert.LatB.main_arg1) = m ((c.tc : Thread Cert.LatB.nD Cert.LatB.τ).loc Cert.LatB.main_arg1)
      ∧ r.2.mem ((c.tc : Thread Cert.LatB.nD Cert.LatB.τ).loc Cert.LatB.main_arg2) = m ((c.tc : Thread Cert.LatB.nD Cert.LatB.τ).loc Cert.LatB.main_arg2)
      ∧ r.2.mem ((c.tc : Thread Cert.LatB.nD Cert.LatB.τ).loc Cert.LatB.main_arg3) = m ((c.tc : Thread Cert.LatB.nD Cert.LatB.τ).loc Cert.LatB.main_arg3)
      ∧ r.2.mem ((c.tc : Thread Cert.LatB.nD Cert.LatB.τ).loc Cert.LatB.main_arg4) = m ((c.tc : Thread Cert.LatB.nD Cert.LatB.τ).loc Cert.LatB.main_arg4)
      ∧ r.2.mem ((c.tc : Thread Cert.LatB.nD Cert.LatB.τ).loc Cert.LatB.main_arg5) = m ((c.tc : Thread Cert.LatB.nD Cert.LatB.τ).loc Cert.LatB.main_arg5)
      ∧ r.2.mem ((c.tc : Thread Cert.LatB.nD Cert.LatB.τ).loc Cert.LatB.main_arg6) = m ((c.tc : Thread Cert.LatB.nD Cert.LatB.τ).loc Cert.LatB.main_arg6))
      ∧ r.2.sem = fun _ => 0)

def quiescent_LatBIdeal [hLatBIdeal : Cert.LatBIdeal.Facts] : Prop :=
  ∀ (m : (ℓ : Loc Cert.LatBIdeal.nD Cert.LatBIdeal.τ Cert.LatBIdeal.sig) → Buf (Elt Ideal) ℓ) (g : Dev Cert.LatBIdeal.nD → PrngReg), Pre_LatBIdeal m →
    θ_run (Cert.LatBIdeal.defs (F := Ideal)) (onTc (τ := Cert.LatBIdeal.τ) (Cert.LatBIdeal.main (F := Ideal))) ⟨m, fun _ => 0, g⟩ (fun r => (∀ c : Dev Cert.LatBIdeal.nD,
      r.2.mem ((c.tc : Thread Cert.LatBIdeal.nD Cert.LatBIdeal.τ).loc Cert.LatBIdeal.main_arg0) = m ((c.tc : Thread Cert.LatBIdeal.nD Cert.LatBIdeal.τ).loc Cert.LatBIdeal.main_arg0)
      ∧ r.2.mem ((c.tc : Thread Cert.LatBIdeal.nD Cert.LatBIdeal.τ).loc Cert.LatBIdeal.main_arg1) = m ((c.tc : Thread Cert.LatBIdeal.nD Cert.LatBIdeal.τ).loc Cert.LatBIdeal.main_arg1)
      ∧ r.2.mem ((c.tc : Thread Cert.LatBIdeal.nD Cert.LatBIdeal.τ).loc Cert.LatBIdeal.main_arg2) = m ((c.tc : Thread Cert.LatBIdeal.nD Cert.LatBIdeal.τ).loc Cert.LatBIdeal.main_arg2)
      ∧ r.2.mem ((c.tc : Thread Cert.LatBIdeal.nD Cert.LatBIdeal.τ).loc Cert.LatBIdeal.main_arg3) = m ((c.tc : Thread Cert.LatBIdeal.nD Cert.LatBIdeal.τ).loc Cert.LatBIdeal.main_arg3)
      ∧ r.2.mem ((c.tc : Thread Cert.LatBIdeal.nD Cert.LatBIdeal.τ).loc Cert.LatBIdeal.main_arg4) = m ((c.tc : Thread Cert.LatBIdeal.nD Cert.LatBIdeal.τ).loc Cert.LatBIdeal.main_arg4)
      ∧ r.2.mem ((c.tc : Thread Cert.LatBIdeal.nD Cert.LatBIdeal.τ).loc Cert.LatBIdeal.main_arg5) = m ((c.tc : Thread Cert.LatBIdeal.nD Cert.LatBIdeal.τ).loc Cert.LatBIdeal.main_arg5)
      ∧ r.2.mem ((c.tc : Thread Cert.LatBIdeal.nD Cert.LatBIdeal.τ).loc Cert.LatBIdeal.main_arg6) = m ((c.tc : Thread Cert.LatBIdeal.nD Cert.LatBIdeal.τ).loc Cert.LatBIdeal.main_arg6))
      ∧ r.2.sem = fun _ => 0)

def quiescent_LatBRefIdeal [hLatBRefIdeal : Cert.LatBRefIdeal.Facts] : Prop :=
  ∀ (m : (ℓ : Loc Cert.LatBRefIdeal.nD Cert.LatBRefIdeal.τ Cert.LatBRefIdeal.sig) → Buf (Elt Ideal) ℓ) (g : Dev Cert.LatBRefIdeal.nD → PrngReg), Pre_LatBRefIdeal m →
    θ_run (Cert.LatBRefIdeal.defs (F := Ideal)) (onTc (τ := Cert.LatBRefIdeal.τ) (Cert.LatBRefIdeal.main (F := Ideal))) ⟨m, fun _ => 0, g⟩ (fun r => (∀ c : Dev Cert.LatBRefIdeal.nD,
      r.2.mem ((c.tc : Thread Cert.LatBRefIdeal.nD Cert.LatBRefIdeal.τ).loc Cert.LatBRefIdeal.main_arg0) = m ((c.tc : Thread Cert.LatBRefIdeal.nD Cert.LatBRefIdeal.τ).loc Cert.LatBRefIdeal.main_arg0)
      ∧ r.2.mem ((c.tc : Thread Cert.LatBRefIdeal.nD Cert.LatBRefIdeal.τ).loc Cert.LatBRefIdeal.main_arg1) = m ((c.tc : Thread Cert.LatBRefIdeal.nD Cert.LatBRefIdeal.τ).loc Cert.LatBRefIdeal.main_arg1)
      ∧ r.2.mem ((c.tc : Thread Cert.LatBRefIdeal.nD Cert.LatBRefIdeal.τ).loc Cert.LatBRefIdeal.main_arg2) = m ((c.tc : Thread Cert.LatBRefIdeal.nD Cert.LatBRefIdeal.τ).loc Cert.LatBRefIdeal.main_arg2)
      ∧ r.2.mem ((c.tc : Thread Cert.LatBRefIdeal.nD Cert.LatBRefIdeal.τ).loc Cert.LatBRefIdeal.main_arg3) = m ((c.tc : Thread Cert.LatBRefIdeal.nD Cert.LatBRefIdeal.τ).loc Cert.LatBRefIdeal.main_arg3)
      ∧ r.2.mem ((c.tc : Thread Cert.LatBRefIdeal.nD Cert.LatBRefIdeal.τ).loc Cert.LatBRefIdeal.main_arg4) = m ((c.tc : Thread Cert.LatBRefIdeal.nD Cert.LatBRefIdeal.τ).loc Cert.LatBRefIdeal.main_arg4)
      ∧ r.2.mem ((c.tc : Thread Cert.LatBRefIdeal.nD Cert.LatBRefIdeal.τ).loc Cert.LatBRefIdeal.main_arg5) = m ((c.tc : Thread Cert.LatBRefIdeal.nD Cert.LatBRefIdeal.τ).loc Cert.LatBRefIdeal.main_arg5)
      ∧ r.2.mem ((c.tc : Thread Cert.LatBRefIdeal.nD Cert.LatBRefIdeal.τ).loc Cert.LatBRefIdeal.main_arg6) = m ((c.tc : Thread Cert.LatBRefIdeal.nD Cert.LatBRefIdeal.τ).loc Cert.LatBRefIdeal.main_arg6))
      ∧ r.2.sem = fun _ => 0)

def quiescent_Lat [hLat : Cert.Lat.Facts] : Prop :=
  ∀ (m : (ℓ : Loc Cert.Lat.nD Cert.Lat.τ Cert.Lat.sig) → Buf (Elt Bits) ℓ) (g : Dev Cert.Lat.nD → PrngReg), Pre_Lat m →
    θ_run (Cert.Lat.defs (F := Bits)) (onTc (τ := Cert.Lat.τ) (Cert.Lat.main (F := Bits))) ⟨m, fun _ => 0, g⟩ (fun r => (∀ c : Dev Cert.Lat.nD,
      r.2.mem ((c.tc : Thread Cert.Lat.nD Cert.Lat.τ).loc Cert.Lat.main_arg0) = m ((c.tc : Thread Cert.Lat.nD Cert.Lat.τ).loc Cert.Lat.main_arg0)
      ∧ r.2.mem ((c.tc : Thread Cert.Lat.nD Cert.Lat.τ).loc Cert.Lat.main_arg1) = m ((c.tc : Thread Cert.Lat.nD Cert.Lat.τ).loc Cert.Lat.main_arg1)
      ∧ r.2.mem ((c.tc : Thread Cert.Lat.nD Cert.Lat.τ).loc Cert.Lat.main_arg2) = m ((c.tc : Thread Cert.Lat.nD Cert.Lat.τ).loc Cert.Lat.main_arg2)
      ∧ r.2.mem ((c.tc : Thread Cert.Lat.nD Cert.Lat.τ).loc Cert.Lat.main_arg3) = m ((c.tc : Thread Cert.Lat.nD Cert.Lat.τ).loc Cert.Lat.main_arg3)
      ∧ r.2.mem ((c.tc : Thread Cert.Lat.nD Cert.Lat.τ).loc Cert.Lat.main_arg4) = m ((c.tc : Thread Cert.Lat.nD Cert.Lat.τ).loc Cert.Lat.main_arg4)
      ∧ r.2.mem ((c.tc : Thread Cert.Lat.nD Cert.Lat.τ).loc Cert.Lat.main_arg5) = m ((c.tc : Thread Cert.Lat.nD Cert.Lat.τ).loc Cert.Lat.main_arg5)
      ∧ r.2.mem ((c.tc : Thread Cert.Lat.nD Cert.Lat.τ).loc Cert.Lat.main_arg6) = m ((c.tc : Thread Cert.Lat.nD Cert.Lat.τ).loc Cert.Lat.main_arg6))
      ∧ r.2.sem = fun _ => 0)

def quiescent_LatIdeal [hLatIdeal : Cert.LatIdeal.Facts] : Prop :=
  ∀ (m : (ℓ : Loc Cert.LatIdeal.nD Cert.LatIdeal.τ Cert.LatIdeal.sig) → Buf (Elt Ideal) ℓ) (g : Dev Cert.LatIdeal.nD → PrngReg), Pre_LatIdeal m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4)
      ∧ r.2.mem ((c.tc : Thread Cert.LatIdeal.nD Cert.LatIdeal.τ).loc Cert.LatIdeal.main_arg5) = m ((c.tc : Thread Cert.LatIdeal.nD Cert.LatIdeal.τ).loc Cert.LatIdeal.main_arg5)
      ∧ r.2.mem ((c.tc : Thread Cert.LatIdeal.nD Cert.LatIdeal.τ).loc Cert.LatIdeal.main_arg6) = m ((c.tc : Thread Cert.LatIdeal.nD Cert.LatIdeal.τ).loc Cert.LatIdeal.main_arg6))
      ∧ r.2.sem = fun _ => 0)

def quiescent_LatRefIdeal [hLatRefIdeal : Cert.LatRefIdeal.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4)
      ∧ r.2.mem ((c.tc : Thread Cert.LatRefIdeal.nD Cert.LatRefIdeal.τ).loc Cert.LatRefIdeal.main_arg5) = m ((c.tc : Thread Cert.LatRefIdeal.nD Cert.LatRefIdeal.τ).loc Cert.LatRefIdeal.main_arg5)
      ∧ r.2.mem ((c.tc : Thread Cert.LatRefIdeal.nD Cert.LatRefIdeal.τ).loc Cert.LatRefIdeal.main_arg6) = m ((c.tc : Thread Cert.LatRefIdeal.nD Cert.LatRefIdeal.τ).loc Cert.LatRefIdeal.main_arg6))
      ∧ r.2.sem = fun _ => 0)

def quiescent_CsDx [hCsDx : Cert.CsDx.Facts] : Prop :=
  ∀ (m : (ℓ : Loc Cert.CsDx.nD Cert.CsDx.τ Cert.CsDx.sig) → Buf (Elt Bits) ℓ) (g : Dev Cert.CsDx.nD → PrngReg), Pre_CsDx m →
    θ_run (Cert.CsDx.defs (F := Bits)) (onTc (τ := Cert.CsDx.τ) (Cert.CsDx.main (F := Bits))) ⟨m, fun _ => 0, g⟩ (fun r => (∀ c : Dev Cert.CsDx.nD,
      r.2.mem ((c.tc : Thread Cert.CsDx.nD Cert.CsDx.τ).loc Cert.CsDx.main_arg0) = m ((c.tc : Thread Cert.CsDx.nD Cert.CsDx.τ).loc Cert.CsDx.main_arg0)
      ∧ r.2.mem ((c.tc : Thread Cert.CsDx.nD Cert.CsDx.τ).loc Cert.CsDx.main_arg1) = m ((c.tc : Thread Cert.CsDx.nD Cert.CsDx.τ).loc Cert.CsDx.main_arg1)
      ∧ r.2.mem ((c.tc : Thread Cert.CsDx.nD Cert.CsDx.τ).loc Cert.CsDx.main_arg2) = m ((c.tc : Thread Cert.CsDx.nD Cert.CsDx.τ).loc Cert.CsDx.main_arg2))
      ∧ r.2.sem = fun _ => 0)

def quiescent_CsDxIdeal [hCsDxIdeal : Cert.CsDxIdeal.Facts] : Prop :=
  ∀ (m : (ℓ : Loc Cert.CsDxIdeal.nD Cert.CsDxIdeal.τ Cert.CsDxIdeal.sig) → Buf (Elt Ideal) ℓ) (g : Dev Cert.CsDxIdeal.nD → PrngReg), Pre_CsDxIdeal m →
    θ_run (Cert.CsDxIdeal.defs (F := Ideal)) (onTc (τ := Cert.CsDxIdeal.τ) (Cert.CsDxIdeal.main (F := Ideal))) ⟨m, fun _ => 0, g⟩ (fun r => (∀ c : Dev Cert.CsDxIdeal.nD,
      r.2.mem ((c.tc : Thread Cert.CsDxIdeal.nD Cert.CsDxIdeal.τ).loc Cert.CsDxIdeal.main_arg0) = m ((c.tc : Thread Cert.CsDxIdeal.nD Cert.CsDxIdeal.τ).loc Cert.CsDxIdeal.main_arg0)
      ∧ r.2.mem ((c.tc : Thread Cert.CsDxIdeal.nD Cert.CsDxIdeal.τ).loc Cert.CsDxIdeal.main_arg1) = m ((c.tc : Thread Cert.CsDxIdeal.nD Cert.CsDxIdeal.τ).loc Cert.CsDxIdeal.main_arg1)
      ∧ r.2.mem ((c.tc : Thread Cert.CsDxIdeal.nD Cert.CsDxIdeal.τ).loc Cert.CsDxIdeal.main_arg2) = m ((c.tc : Thread Cert.CsDxIdeal.nD Cert.CsDxIdeal.τ).loc Cert.CsDxIdeal.main_arg2))
      ∧ r.2.sem = fun _ => 0)

def quiescent_CsDxRefIdeal [hCsDxRefIdeal : Cert.CsDxRefIdeal.Facts] : Prop :=
  ∀ (m : (ℓ : Loc Cert.CsDxRefIdeal.nD Cert.CsDxRefIdeal.τ Cert.CsDxRefIdeal.sig) → Buf (Elt Ideal) ℓ) (g : Dev Cert.CsDxRefIdeal.nD → PrngReg), Pre_CsDxRefIdeal m →
    θ_run (Cert.CsDxRefIdeal.defs (F := Ideal)) (onTc (τ := Cert.CsDxRefIdeal.τ) (Cert.CsDxRefIdeal.main (F := Ideal))) ⟨m, fun _ => 0, g⟩ (fun r => (∀ c : Dev Cert.CsDxRefIdeal.nD,
      r.2.mem ((c.tc : Thread Cert.CsDxRefIdeal.nD Cert.CsDxRefIdeal.τ).loc Cert.CsDxRefIdeal.main_arg0) = m ((c.tc : Thread Cert.CsDxRefIdeal.nD Cert.CsDxRefIdeal.τ).loc Cert.CsDxRefIdeal.main_arg0)
      ∧ r.2.mem ((c.tc : Thread Cert.CsDxRefIdeal.nD Cert.CsDxRefIdeal.τ).loc Cert.CsDxRefIdeal.main_arg1) = m ((c.tc : Thread Cert.CsDxRefIdeal.nD Cert.CsDxRefIdeal.τ).loc Cert.CsDxRefIdeal.main_arg1)
      ∧ r.2.mem ((c.tc : Thread Cert.CsDxRefIdeal.nD Cert.CsDxRefIdeal.τ).loc Cert.CsDxRefIdeal.main_arg2) = m ((c.tc : Thread Cert.CsDxRefIdeal.nD Cert.CsDxRefIdeal.τ).loc Cert.CsDxRefIdeal.main_arg2))
      ∧ r.2.sem = fun _ => 0)

def quiescent_CsDw [hCsDw : Cert.CsDw.Facts] : Prop :=
  ∀ (m : (ℓ : Loc Cert.CsDw.nD Cert.CsDw.τ Cert.CsDw.sig) → Buf (Elt Bits) ℓ) (g : Dev Cert.CsDw.nD → PrngReg), Pre_CsDw m →
    θ_run (Cert.CsDw.defs (F := Bits)) (onTc (τ := Cert.CsDw.τ) (Cert.CsDw.main (F := Bits))) ⟨m, fun _ => 0, g⟩ (fun r => (∀ c : Dev Cert.CsDw.nD,
      r.2.mem ((c.tc : Thread Cert.CsDw.nD Cert.CsDw.τ).loc Cert.CsDw.main_arg0) = m ((c.tc : Thread Cert.CsDw.nD Cert.CsDw.τ).loc Cert.CsDw.main_arg0)
      ∧ r.2.mem ((c.tc : Thread Cert.CsDw.nD Cert.CsDw.τ).loc Cert.CsDw.main_arg1) = m ((c.tc : Thread Cert.CsDw.nD Cert.CsDw.τ).loc Cert.CsDw.main_arg1))
      ∧ r.2.sem = fun _ => 0)

def quiescent_CsDwIdeal [hCsDwIdeal : Cert.CsDwIdeal.Facts] : Prop :=
  ∀ (m : (ℓ : Loc Cert.CsDwIdeal.nD Cert.CsDwIdeal.τ Cert.CsDwIdeal.sig) → Buf (Elt Ideal) ℓ) (g : Dev Cert.CsDwIdeal.nD → PrngReg), Pre_CsDwIdeal m →
    θ_run (Cert.CsDwIdeal.defs (F := Ideal)) (onTc (τ := Cert.CsDwIdeal.τ) (Cert.CsDwIdeal.main (F := Ideal))) ⟨m, fun _ => 0, g⟩ (fun r => (∀ c : Dev Cert.CsDwIdeal.nD,
      r.2.mem ((c.tc : Thread Cert.CsDwIdeal.nD Cert.CsDwIdeal.τ).loc Cert.CsDwIdeal.main_arg0) = m ((c.tc : Thread Cert.CsDwIdeal.nD Cert.CsDwIdeal.τ).loc Cert.CsDwIdeal.main_arg0)
      ∧ r.2.mem ((c.tc : Thread Cert.CsDwIdeal.nD Cert.CsDwIdeal.τ).loc Cert.CsDwIdeal.main_arg1) = m ((c.tc : Thread Cert.CsDwIdeal.nD Cert.CsDwIdeal.τ).loc Cert.CsDwIdeal.main_arg1))
      ∧ r.2.sem = fun _ => 0)

def quiescent_CsDwRefIdeal [hCsDwRefIdeal : Cert.CsDwRefIdeal.Facts] : Prop :=
  ∀ (m : (ℓ : Loc Cert.CsDwRefIdeal.nD Cert.CsDwRefIdeal.τ Cert.CsDwRefIdeal.sig) → Buf (Elt Ideal) ℓ) (g : Dev Cert.CsDwRefIdeal.nD → PrngReg), Pre_CsDwRefIdeal m →
    θ_run (Cert.CsDwRefIdeal.defs (F := Ideal)) (onTc (τ := Cert.CsDwRefIdeal.τ) (Cert.CsDwRefIdeal.main (F := Ideal))) ⟨m, fun _ => 0, g⟩ (fun r => (∀ c : Dev Cert.CsDwRefIdeal.nD,
      r.2.mem ((c.tc : Thread Cert.CsDwRefIdeal.nD Cert.CsDwRefIdeal.τ).loc Cert.CsDwRefIdeal.main_arg0) = m ((c.tc : Thread Cert.CsDwRefIdeal.nD Cert.CsDwRefIdeal.τ).loc Cert.CsDwRefIdeal.main_arg0)
      ∧ r.2.mem ((c.tc : Thread Cert.CsDwRefIdeal.nD Cert.CsDwRefIdeal.τ).loc Cert.CsDwRefIdeal.main_arg1) = m ((c.tc : Thread Cert.CsDwRefIdeal.nD Cert.CsDwRefIdeal.τ).loc Cert.CsDwRefIdeal.main_arg1))
      ∧ r.2.sem = fun _ => 0)

def quiescent_BuDw [hBuDw : Cert.BuDw.Facts] : Prop :=
  ∀ (m : (ℓ : Loc Cert.BuDw.nD Cert.BuDw.τ Cert.BuDw.sig) → Buf (Elt Bits) ℓ) (g : Dev Cert.BuDw.nD → PrngReg), Pre_BuDw m →
    θ_run (Cert.BuDw.defs (F := Bits)) (onTc (τ := Cert.BuDw.τ) (Cert.BuDw.main (F := Bits))) ⟨m, fun _ => 0, g⟩ (fun r => (∀ c : Dev Cert.BuDw.nD,
      r.2.mem ((c.tc : Thread Cert.BuDw.nD Cert.BuDw.τ).loc Cert.BuDw.main_arg0) = m ((c.tc : Thread Cert.BuDw.nD Cert.BuDw.τ).loc Cert.BuDw.main_arg0)
      ∧ r.2.mem ((c.tc : Thread Cert.BuDw.nD Cert.BuDw.τ).loc Cert.BuDw.main_arg1) = m ((c.tc : Thread Cert.BuDw.nD Cert.BuDw.τ).loc Cert.BuDw.main_arg1))
      ∧ r.2.sem = fun _ => 0)

def quiescent_BuDwIdeal [hBuDwIdeal : Cert.BuDwIdeal.Facts] : Prop :=
  ∀ (m : (ℓ : Loc Cert.BuDwIdeal.nD Cert.BuDwIdeal.τ Cert.BuDwIdeal.sig) → Buf (Elt Ideal) ℓ) (g : Dev Cert.BuDwIdeal.nD → PrngReg), Pre_BuDwIdeal m →
    θ_run (Cert.BuDwIdeal.defs (F := Ideal)) (onTc (τ := Cert.BuDwIdeal.τ) (Cert.BuDwIdeal.main (F := Ideal))) ⟨m, fun _ => 0, g⟩ (fun r => (∀ c : Dev Cert.BuDwIdeal.nD,
      r.2.mem ((c.tc : Thread Cert.BuDwIdeal.nD Cert.BuDwIdeal.τ).loc Cert.BuDwIdeal.main_arg0) = m ((c.tc : Thread Cert.BuDwIdeal.nD Cert.BuDwIdeal.τ).loc Cert.BuDwIdeal.main_arg0)
      ∧ r.2.mem ((c.tc : Thread Cert.BuDwIdeal.nD Cert.BuDwIdeal.τ).loc Cert.BuDwIdeal.main_arg1) = m ((c.tc : Thread Cert.BuDwIdeal.nD Cert.BuDwIdeal.τ).loc Cert.BuDwIdeal.main_arg1))
      ∧ r.2.sem = fun _ => 0)

def quiescent_BuDwRefIdeal [hBuDwRefIdeal : Cert.BuDwRefIdeal.Facts] : Prop :=
  ∀ (m : (ℓ : Loc Cert.BuDwRefIdeal.nD Cert.BuDwRefIdeal.τ Cert.BuDwRefIdeal.sig) → Buf (Elt Ideal) ℓ) (g : Dev Cert.BuDwRefIdeal.nD → PrngReg), Pre_BuDwRefIdeal m →
    θ_run (Cert.BuDwRefIdeal.defs (F := Ideal)) (onTc (τ := Cert.BuDwRefIdeal.τ) (Cert.BuDwRefIdeal.main (F := Ideal))) ⟨m, fun _ => 0, g⟩ (fun r => (∀ c : Dev Cert.BuDwRefIdeal.nD,
      r.2.mem ((c.tc : Thread Cert.BuDwRefIdeal.nD Cert.BuDwRefIdeal.τ).loc Cert.BuDwRefIdeal.main_arg0) = m ((c.tc : Thread Cert.BuDwRefIdeal.nD Cert.BuDwRefIdeal.τ).loc Cert.BuDwRefIdeal.main_arg0)
      ∧ r.2.mem ((c.tc : Thread Cert.BuDwRefIdeal.nD Cert.BuDwRefIdeal.τ).loc Cert.BuDwRefIdeal.main_arg1) = m ((c.tc : Thread Cert.BuDwRefIdeal.nD Cert.BuDwRefIdeal.τ).loc Cert.BuDwRefIdeal.main_arg1))
      ∧ r.2.sem = fun _ => 0)

def quiescent_BuDx [hBuDx : Cert.BuDx.Facts] : Prop :=
  ∀ (m : (ℓ : Loc Cert.BuDx.nD Cert.BuDx.τ Cert.BuDx.sig) → Buf (Elt Bits) ℓ) (g : Dev Cert.BuDx.nD → PrngReg), Pre_BuDx m →
    θ_run (Cert.BuDx.defs (F := Bits)) (onTc (τ := Cert.BuDx.τ) (Cert.BuDx.main (F := Bits))) ⟨m, fun _ => 0, g⟩ (fun r => (∀ c : Dev Cert.BuDx.nD,
      r.2.mem ((c.tc : Thread Cert.BuDx.nD Cert.BuDx.τ).loc Cert.BuDx.main_arg0) = m ((c.tc : Thread Cert.BuDx.nD Cert.BuDx.τ).loc Cert.BuDx.main_arg0)
      ∧ r.2.mem ((c.tc : Thread Cert.BuDx.nD Cert.BuDx.τ).loc Cert.BuDx.main_arg1) = m ((c.tc : Thread Cert.BuDx.nD Cert.BuDx.τ).loc Cert.BuDx.main_arg1)
      ∧ r.2.mem ((c.tc : Thread Cert.BuDx.nD Cert.BuDx.τ).loc Cert.BuDx.main_arg2) = m ((c.tc : Thread Cert.BuDx.nD Cert.BuDx.τ).loc Cert.BuDx.main_arg2)
      ∧ r.2.mem ((c.tc : Thread Cert.BuDx.nD Cert.BuDx.τ).loc Cert.BuDx.main_arg3) = m ((c.tc : Thread Cert.BuDx.nD Cert.BuDx.τ).loc Cert.BuDx.main_arg3))
      ∧ r.2.sem = fun _ => 0)

def quiescent_BuDxIdeal [hBuDxIdeal : Cert.BuDxIdeal.Facts] : Prop :=
  ∀ (m : (ℓ : Loc Cert.BuDxIdeal.nD Cert.BuDxIdeal.τ Cert.BuDxIdeal.sig) → Buf (Elt Ideal) ℓ) (g : Dev Cert.BuDxIdeal.nD → PrngReg), Pre_BuDxIdeal m →
    θ_run (Cert.BuDxIdeal.defs (F := Ideal)) (onTc (τ := Cert.BuDxIdeal.τ) (Cert.BuDxIdeal.main (F := Ideal))) ⟨m, fun _ => 0, g⟩ (fun r => (∀ c : Dev Cert.BuDxIdeal.nD,
      r.2.mem ((c.tc : Thread Cert.BuDxIdeal.nD Cert.BuDxIdeal.τ).loc Cert.BuDxIdeal.main_arg0) = m ((c.tc : Thread Cert.BuDxIdeal.nD Cert.BuDxIdeal.τ).loc Cert.BuDxIdeal.main_arg0)
      ∧ r.2.mem ((c.tc : Thread Cert.BuDxIdeal.nD Cert.BuDxIdeal.τ).loc Cert.BuDxIdeal.main_arg1) = m ((c.tc : Thread Cert.BuDxIdeal.nD Cert.BuDxIdeal.τ).loc Cert.BuDxIdeal.main_arg1)
      ∧ r.2.mem ((c.tc : Thread Cert.BuDxIdeal.nD Cert.BuDxIdeal.τ).loc Cert.BuDxIdeal.main_arg2) = m ((c.tc : Thread Cert.BuDxIdeal.nD Cert.BuDxIdeal.τ).loc Cert.BuDxIdeal.main_arg2)
      ∧ r.2.mem ((c.tc : Thread Cert.BuDxIdeal.nD Cert.BuDxIdeal.τ).loc Cert.BuDxIdeal.main_arg3) = m ((c.tc : Thread Cert.BuDxIdeal.nD Cert.BuDxIdeal.τ).loc Cert.BuDxIdeal.main_arg3))
      ∧ r.2.sem = fun _ => 0)

def quiescent_BuDxRefIdeal [hBuDxRefIdeal : Cert.BuDxRefIdeal.Facts] : Prop :=
  ∀ (m : (ℓ : Loc Cert.BuDxRefIdeal.nD Cert.BuDxRefIdeal.τ Cert.BuDxRefIdeal.sig) → Buf (Elt Ideal) ℓ) (g : Dev Cert.BuDxRefIdeal.nD → PrngReg), Pre_BuDxRefIdeal m →
    θ_run (Cert.BuDxRefIdeal.defs (F := Ideal)) (onTc (τ := Cert.BuDxRefIdeal.τ) (Cert.BuDxRefIdeal.main (F := Ideal))) ⟨m, fun _ => 0, g⟩ (fun r => (∀ c : Dev Cert.BuDxRefIdeal.nD,
      r.2.mem ((c.tc : Thread Cert.BuDxRefIdeal.nD Cert.BuDxRefIdeal.τ).loc Cert.BuDxRefIdeal.main_arg0) = m ((c.tc : Thread Cert.BuDxRefIdeal.nD Cert.BuDxRefIdeal.τ).loc Cert.BuDxRefIdeal.main_arg0)
      ∧ r.2.mem ((c.tc : Thread Cert.BuDxRefIdeal.nD Cert.BuDxRefIdeal.τ).loc Cert.BuDxRefIdeal.main_arg1) = m ((c.tc : Thread Cert.BuDxRefIdeal.nD Cert.BuDxRefIdeal.τ).loc Cert.BuDxRefIdeal.main_arg1)
      ∧ r.2.mem ((c.tc : Thread Cert.BuDxRefIdeal.nD Cert.BuDxRefIdeal.τ).loc Cert.BuDxRefIdeal.main_arg2) = m ((c.tc : Thread Cert.BuDxRefIdeal.nD Cert.BuDxRefIdeal.τ).loc Cert.BuDxRefIdeal.main_arg2)
      ∧ r.2.mem ((c.tc : Thread Cert.BuDxRefIdeal.nD Cert.BuDxRefIdeal.τ).loc Cert.BuDxRefIdeal.main_arg3) = m ((c.tc : Thread Cert.BuDxRefIdeal.nD Cert.BuDxRefIdeal.τ).loc Cert.BuDxRefIdeal.main_arg3))
      ∧ r.2.sem = fun _ => 0)

def quiescent_Bu [hBu : Cert.Bu.Facts] : Prop :=
  ∀ (m : (ℓ : Loc Cert.Bu.nD Cert.Bu.τ Cert.Bu.sig) → Buf (Elt Bits) ℓ) (g : Dev Cert.Bu.nD → PrngReg), Pre_Bu m →
    θ_run (Cert.Bu.defs (F := Bits)) (onTc (τ := Cert.Bu.τ) (Cert.Bu.main (F := Bits))) ⟨m, fun _ => 0, g⟩ (fun r => (∀ c : Dev Cert.Bu.nD,
      r.2.mem ((c.tc : Thread Cert.Bu.nD Cert.Bu.τ).loc Cert.Bu.main_arg0) = m ((c.tc : Thread Cert.Bu.nD Cert.Bu.τ).loc Cert.Bu.main_arg0)
      ∧ r.2.mem ((c.tc : Thread Cert.Bu.nD Cert.Bu.τ).loc Cert.Bu.main_arg1) = m ((c.tc : Thread Cert.Bu.nD Cert.Bu.τ).loc Cert.Bu.main_arg1)
      ∧ r.2.mem ((c.tc : Thread Cert.Bu.nD Cert.Bu.τ).loc Cert.Bu.main_arg2) = m ((c.tc : Thread Cert.Bu.nD Cert.Bu.τ).loc Cert.Bu.main_arg2))
      ∧ r.2.sem = fun _ => 0)

def quiescent_BuIdeal [hBuIdeal : Cert.BuIdeal.Facts] : Prop :=
  ∀ (m : (ℓ : Loc Cert.BuIdeal.nD Cert.BuIdeal.τ Cert.BuIdeal.sig) → Buf (Elt Ideal) ℓ) (g : Dev Cert.BuIdeal.nD → PrngReg), Pre_BuIdeal m →
    θ_run (Cert.BuIdeal.defs (F := Ideal)) (onTc (τ := Cert.BuIdeal.τ) (Cert.BuIdeal.main (F := Ideal))) ⟨m, fun _ => 0, g⟩ (fun r => (∀ c : Dev Cert.BuIdeal.nD,
      r.2.mem ((c.tc : Thread Cert.BuIdeal.nD Cert.BuIdeal.τ).loc Cert.BuIdeal.main_arg0) = m ((c.tc : Thread Cert.BuIdeal.nD Cert.BuIdeal.τ).loc Cert.BuIdeal.main_arg0)
      ∧ r.2.mem ((c.tc : Thread Cert.BuIdeal.nD Cert.BuIdeal.τ).loc Cert.BuIdeal.main_arg1) = m ((c.tc : Thread Cert.BuIdeal.nD Cert.BuIdeal.τ).loc Cert.BuIdeal.main_arg1)
      ∧ r.2.mem ((c.tc : Thread Cert.BuIdeal.nD Cert.BuIdeal.τ).loc Cert.BuIdeal.main_arg2) = m ((c.tc : Thread Cert.BuIdeal.nD Cert.BuIdeal.τ).loc Cert.BuIdeal.main_arg2))
      ∧ r.2.sem = fun _ => 0)

def quiescent_BuRefIdeal [hBuRefIdeal : Cert.BuRefIdeal.Facts] : Prop :=
  ∀ (m : (ℓ : Loc Cert.BuRefIdeal.nD Cert.BuRefIdeal.τ Cert.BuRefIdeal.sig) → Buf (Elt Ideal) ℓ) (g : Dev Cert.BuRefIdeal.nD → PrngReg), Pre_BuRefIdeal m →
    θ_run (Cert.BuRefIdeal.defs (F := Ideal)) (onTc (τ := Cert.BuRefIdeal.τ) (Cert.BuRefIdeal.main (F := Ideal))) ⟨m, fun _ => 0, g⟩ (fun r => (∀ c : Dev Cert.BuRefIdeal.nD,
      r.2.mem ((c.tc : Thread Cert.BuRefIdeal.nD Cert.BuRefIdeal.τ).loc Cert.BuRefIdeal.main_arg0) = m ((c.tc : Thread Cert.BuRefIdeal.nD Cert.BuRefIdeal.τ).loc Cert.BuRefIdeal.main_arg0)
      ∧ r.2.mem ((c.tc : Thread Cert.BuRefIdeal.nD Cert.BuRefIdeal.τ).loc Cert.BuRefIdeal.main_arg1) = m ((c.tc : Thread Cert.BuRefIdeal.nD Cert.BuRefIdeal.τ).loc Cert.BuRefIdeal.main_arg1)
      ∧ r.2.mem ((c.tc : Thread Cert.BuRefIdeal.nD Cert.BuRefIdeal.τ).loc Cert.BuRefIdeal.main_arg2) = m ((c.tc : Thread Cert.BuRefIdeal.nD Cert.BuRefIdeal.τ).loc Cert.BuRefIdeal.main_arg2))
      ∧ r.2.sem = fun _ => 0)

def quiescent_Cs [hCs : Cert.Cs.Facts] : Prop :=
  ∀ (m : (ℓ : Loc Cert.Cs.nD Cert.Cs.τ Cert.Cs.sig) → Buf (Elt Bits) ℓ) (g : Dev Cert.Cs.nD → PrngReg), Pre_Cs m →
    θ_run (Cert.Cs.defs (F := Bits)) (onTc (τ := Cert.Cs.τ) (Cert.Cs.main (F := Bits))) ⟨m, fun _ => 0, g⟩ (fun r => (∀ c : Dev Cert.Cs.nD,
      r.2.mem ((c.tc : Thread Cert.Cs.nD Cert.Cs.τ).loc Cert.Cs.main_arg0) = m ((c.tc : Thread Cert.Cs.nD Cert.Cs.τ).loc Cert.Cs.main_arg0)
      ∧ r.2.mem ((c.tc : Thread Cert.Cs.nD Cert.Cs.τ).loc Cert.Cs.main_arg1) = m ((c.tc : Thread Cert.Cs.nD Cert.Cs.τ).loc Cert.Cs.main_arg1)
      ∧ r.2.mem ((c.tc : Thread Cert.Cs.nD Cert.Cs.τ).loc Cert.Cs.main_arg2) = m ((c.tc : Thread Cert.Cs.nD Cert.Cs.τ).loc Cert.Cs.main_arg2))
      ∧ r.2.sem = fun _ => 0)

def quiescent_CsIdeal [hCsIdeal : Cert.CsIdeal.Facts] : Prop :=
  ∀ (m : (ℓ : Loc Cert.CsIdeal.nD Cert.CsIdeal.τ Cert.CsIdeal.sig) → Buf (Elt Ideal) ℓ) (g : Dev Cert.CsIdeal.nD → PrngReg), Pre_CsIdeal m →
    θ_run (Cert.CsIdeal.defs (F := Ideal)) (onTc (τ := Cert.CsIdeal.τ) (Cert.CsIdeal.main (F := Ideal))) ⟨m, fun _ => 0, g⟩ (fun r => (∀ c : Dev Cert.CsIdeal.nD,
      r.2.mem ((c.tc : Thread Cert.CsIdeal.nD Cert.CsIdeal.τ).loc Cert.CsIdeal.main_arg0) = m ((c.tc : Thread Cert.CsIdeal.nD Cert.CsIdeal.τ).loc Cert.CsIdeal.main_arg0)
      ∧ r.2.mem ((c.tc : Thread Cert.CsIdeal.nD Cert.CsIdeal.τ).loc Cert.CsIdeal.main_arg1) = m ((c.tc : Thread Cert.CsIdeal.nD Cert.CsIdeal.τ).loc Cert.CsIdeal.main_arg1)
      ∧ r.2.mem ((c.tc : Thread Cert.CsIdeal.nD Cert.CsIdeal.τ).loc Cert.CsIdeal.main_arg2) = m ((c.tc : Thread Cert.CsIdeal.nD Cert.CsIdeal.τ).loc Cert.CsIdeal.main_arg2))
      ∧ r.2.sem = fun _ => 0)

def quiescent_CsIdeal_pre_im_finite [hCsIdeal : Cert.CsIdeal.Facts] [hPre_im_finite : Cert.Pre_im_finite.Facts] : Prop :=
  ∀ (m : (ℓ : Loc Cert.CsIdeal.nD Cert.CsIdeal.τ Cert.CsIdeal.sig) → Buf (Elt Ideal) ℓ) (g : Dev Cert.CsIdeal.nD → PrngReg), Pre_CsIdeal_im_finite m →
    θ_run (Cert.CsIdeal.defs (F := Ideal)) (onTc (τ := Cert.CsIdeal.τ) (Cert.CsIdeal.main (F := Ideal))) ⟨m, fun _ => 0, g⟩ (fun r => (∀ c : Dev Cert.CsIdeal.nD,
      r.2.mem ((c.tc : Thread Cert.CsIdeal.nD Cert.CsIdeal.τ).loc Cert.CsIdeal.main_arg0) = m ((c.tc : Thread Cert.CsIdeal.nD Cert.CsIdeal.τ).loc Cert.CsIdeal.main_arg0)
      ∧ r.2.mem ((c.tc : Thread Cert.CsIdeal.nD Cert.CsIdeal.τ).loc Cert.CsIdeal.main_arg1) = m ((c.tc : Thread Cert.CsIdeal.nD Cert.CsIdeal.τ).loc Cert.CsIdeal.main_arg1)
      ∧ r.2.mem ((c.tc : Thread Cert.CsIdeal.nD Cert.CsIdeal.τ).loc Cert.CsIdeal.main_arg2) = m ((c.tc : Thread Cert.CsIdeal.nD Cert.CsIdeal.τ).loc Cert.CsIdeal.main_arg2))
      ∧ r.2.sem = fun _ => 0)

def quiescent_CsRefIdeal [hCsRefIdeal : Cert.CsRefIdeal.Facts] : Prop :=
  ∀ (m : (ℓ : Loc Cert.CsRefIdeal.nD Cert.CsRefIdeal.τ Cert.CsRefIdeal.sig) → Buf (Elt Ideal) ℓ) (g : Dev Cert.CsRefIdeal.nD → PrngReg), Pre_CsRefIdeal m →
    θ_run (Cert.CsRefIdeal.defs (F := Ideal)) (onTc (τ := Cert.CsRefIdeal.τ) (Cert.CsRefIdeal.main (F := Ideal))) ⟨m, fun _ => 0, g⟩ (fun r => (∀ c : Dev Cert.CsRefIdeal.nD,
      r.2.mem ((c.tc : Thread Cert.CsRefIdeal.nD Cert.CsRefIdeal.τ).loc Cert.CsRefIdeal.main_arg0) = m ((c.tc : Thread Cert.CsRefIdeal.nD Cert.CsRefIdeal.τ).loc Cert.CsRefIdeal.main_arg0)
      ∧ r.2.mem ((c.tc : Thread Cert.CsRefIdeal.nD Cert.CsRefIdeal.τ).loc Cert.CsRefIdeal.main_arg1) = m ((c.tc : Thread Cert.CsRefIdeal.nD Cert.CsRefIdeal.τ).loc Cert.CsRefIdeal.main_arg1)
      ∧ r.2.mem ((c.tc : Thread Cert.CsRefIdeal.nD Cert.CsRefIdeal.τ).loc Cert.CsRefIdeal.main_arg2) = m ((c.tc : Thread Cert.CsRefIdeal.nD Cert.CsRefIdeal.τ).loc Cert.CsRefIdeal.main_arg2))
      ∧ r.2.sem = fun _ => 0)

def quiescent_CsRefIdeal_pre_im_finite [hCsRefIdeal : Cert.CsRefIdeal.Facts] [hPre_im_finite : Cert.Pre_im_finite.Facts] : Prop :=
  ∀ (m : (ℓ : Loc Cert.CsRefIdeal.nD Cert.CsRefIdeal.τ Cert.CsRefIdeal.sig) → Buf (Elt Ideal) ℓ) (g : Dev Cert.CsRefIdeal.nD → PrngReg), Pre_CsRefIdeal_im_finite m →
    θ_run (Cert.CsRefIdeal.defs (F := Ideal)) (onTc (τ := Cert.CsRefIdeal.τ) (Cert.CsRefIdeal.main (F := Ideal))) ⟨m, fun _ => 0, g⟩ (fun r => (∀ c : Dev Cert.CsRefIdeal.nD,
      r.2.mem ((c.tc : Thread Cert.CsRefIdeal.nD Cert.CsRefIdeal.τ).loc Cert.CsRefIdeal.main_arg0) = m ((c.tc : Thread Cert.CsRefIdeal.nD Cert.CsRefIdeal.τ).loc Cert.CsRefIdeal.main_arg0)
      ∧ r.2.mem ((c.tc : Thread Cert.CsRefIdeal.nD Cert.CsRefIdeal.τ).loc Cert.CsRefIdeal.main_arg1) = m ((c.tc : Thread Cert.CsRefIdeal.nD Cert.CsRefIdeal.τ).loc Cert.CsRefIdeal.main_arg1)
      ∧ r.2.mem ((c.tc : Thread Cert.CsRefIdeal.nD Cert.CsRefIdeal.τ).loc Cert.CsRefIdeal.main_arg2) = m ((c.tc : Thread Cert.CsRefIdeal.nD Cert.CsRefIdeal.τ).loc Cert.CsRefIdeal.main_arg2))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v2_0)) (v1 : (c : Dev Cert.ConvIdeal.nD) → Buf (Elt Ideal) ((c.tc : Thread Cert.ConvIdeal.nD Cert.ConvIdeal.τ).loc Cert.ConvIdeal.main_v2_1)) (v2 : (c : Dev Cert.ConvIdeal.nD) → Buf (Elt Ideal) ((c.tc : Thread Cert.ConvIdeal.nD Cert.ConvIdeal.τ).loc Cert.ConvIdeal.main_v2_2)) (v3 : (c : Dev Cert.ConvIdeal.nD) → Buf (Elt Ideal) ((c.tc : Thread Cert.ConvIdeal.nD Cert.ConvIdeal.τ).loc Cert.ConvIdeal.main_v2_3)) (v4 : (c : Dev Cert.ConvIdeal.nD) → Buf (Elt Ideal) ((c.tc : Thread Cert.ConvIdeal.nD Cert.ConvIdeal.τ).loc Cert.ConvIdeal.main_v2_4)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2_0) = v0 c
          ∧ r.2.mem ((c.tc : Thread Cert.ConvIdeal.nD Cert.ConvIdeal.τ).loc Cert.ConvIdeal.main_v2_1) = v1 c
          ∧ r.2.mem ((c.tc : Thread Cert.ConvIdeal.nD Cert.ConvIdeal.τ).loc Cert.ConvIdeal.main_v2_2) = v2 c
          ∧ r.2.mem ((c.tc : Thread Cert.ConvIdeal.nD Cert.ConvIdeal.τ).loc Cert.ConvIdeal.main_v2_3) = v3 c
          ∧ r.2.mem ((c.tc : Thread Cert.ConvIdeal.nD Cert.ConvIdeal.τ).loc Cert.ConvIdeal.main_v2_4) = v4 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v77) = v0 c
          ∧ r.2.mem ((c.tc : Thread Cert.ConvRefIdeal.nD Cert.ConvRefIdeal.τ).loc Cert.ConvRefIdeal.main_v78) = v1 c
          ∧ r.2.mem ((c.tc : Thread Cert.ConvRefIdeal.nD Cert.ConvRefIdeal.τ).loc Cert.ConvRefIdeal.main_v79) = v2 c
          ∧ r.2.mem ((c.tc : Thread Cert.ConvRefIdeal.nD Cert.ConvRefIdeal.τ).loc Cert.ConvRefIdeal.main_v69) = v3 c
          ∧ r.2.mem ((c.tc : Thread Cert.ConvRefIdeal.nD Cert.ConvRefIdeal.τ).loc Cert.ConvRefIdeal.main_v38) = v4 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v11) = v0 c
          ∧ r.2.mem ((c.tc : Thread Cert.UpRefIdeal.nD Cert.UpRefIdeal.τ).loc Cert.UpRefIdeal.main_v14) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal_pre_down_finite [hDownIdeal : Cert.DownIdeal.Facts] [hDownRefIdeal : Cert.DownRefIdeal.Facts] [hPre_down_finite : Cert.Pre_down_finite.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_down_finite m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v16) = v0 c
          ∧ r.2.mem ((c.tc : Thread Cert.DownRefIdeal.nD Cert.DownRefIdeal.τ).loc Cert.DownRefIdeal.main_v17) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Dw_DwIdeal : Prop :=
  True

def algebraic_DwIdeal_DwdRefIdeal [hDwIdeal : Cert.DwIdeal.Facts] [hDwdRefIdeal : Cert.DwdRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwdRefIdeal.nD Cert.DwdRefIdeal.τ Cert.DwdRefIdeal.sig) → Buf (Elt Ideal) ℓ) (g' : Dev Cert.DwdRefIdeal.nD → PrngReg), Pre_DwIdeal m →
    (∀ c : Dev Cert.DwIdeal.nD,
      m' ((c.tc : Thread Cert.DwdRefIdeal.nD Cert.DwdRefIdeal.τ).loc Cert.DwdRefIdeal.main_arg0) = m ((c.tc : Thread Cert.DwIdeal.nD Cert.DwIdeal.τ).loc Cert.DwIdeal.main_arg0)
      ∧ m' ((c.tc : Thread Cert.DwdRefIdeal.nD Cert.DwdRefIdeal.τ).loc Cert.DwdRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v1)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v1) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwdRefIdeal.defs (F := Ideal)) (onTc (τ := Cert.DwdRefIdeal.τ) (Cert.DwdRefIdeal.main (F := Ideal))) ⟨m', fun _ => 0, g'⟩ (fun r => ∀ c : Dev Cert.DwdRefIdeal.nD,
          r.2.mem ((c.tc : Thread Cert.DwdRefIdeal.nD Cert.DwdRefIdeal.τ).loc Cert.DwdRefIdeal.main_v6) = v0 c
          ∧ r.2.mem ((c.tc : Thread Cert.DwdRefIdeal.nD Cert.DwdRefIdeal.τ).loc Cert.DwdRefIdeal.main_arg0) = m' ((c.tc : Thread Cert.DwdRefIdeal.nD Cert.DwdRefIdeal.τ).loc Cert.DwdRefIdeal.main_arg0)
          ∧ r.2.mem ((c.tc : Thread Cert.DwdRefIdeal.nD Cert.DwdRefIdeal.τ).loc Cert.DwdRefIdeal.main_arg1) = m' ((c.tc : Thread Cert.DwdRefIdeal.nD Cert.DwdRefIdeal.τ).loc Cert.DwdRefIdeal.main_arg1))

def algebraic_DwIdeal_DwuRefIdeal [hDwIdeal : Cert.DwIdeal.Facts] [hDwuRefIdeal : Cert.DwuRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwuRefIdeal.nD Cert.DwuRefIdeal.τ Cert.DwuRefIdeal.sig) → Buf (Elt Ideal) ℓ) (g' : Dev Cert.DwuRefIdeal.nD → PrngReg), Pre_DwIdeal m →
    (∀ c : Dev Cert.DwIdeal.nD,
      m' ((c.tc : Thread Cert.DwuRefIdeal.nD Cert.DwuRefIdeal.τ).loc Cert.DwuRefIdeal.main_arg0) = m ((c.tc : Thread Cert.DwIdeal.nD Cert.DwIdeal.τ).loc Cert.DwIdeal.main_arg0)
      ∧ m' ((c.tc : Thread Cert.DwuRefIdeal.nD Cert.DwuRefIdeal.τ).loc Cert.DwuRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v1)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v1) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwuRefIdeal.defs (F := Ideal)) (onTc (τ := Cert.DwuRefIdeal.τ) (Cert.DwuRefIdeal.main (F := Ideal))) ⟨m', fun _ => 0, g'⟩ (fun r => ∀ c : Dev Cert.DwuRefIdeal.nD,
          r.2.mem ((c.tc : Thread Cert.DwuRefIdeal.nD Cert.DwuRefIdeal.τ).loc Cert.DwuRefIdeal.main_v7) = v0 c
          ∧ r.2.mem ((c.tc : Thread Cert.DwuRefIdeal.nD Cert.DwuRefIdeal.τ).loc Cert.DwuRefIdeal.main_arg0) = m' ((c.tc : Thread Cert.DwuRefIdeal.nD Cert.DwuRefIdeal.τ).loc Cert.DwuRefIdeal.main_arg0)
          ∧ r.2.mem ((c.tc : Thread Cert.DwuRefIdeal.nD Cert.DwuRefIdeal.τ).loc Cert.DwuRefIdeal.main_arg1) = m' ((c.tc : Thread Cert.DwuRefIdeal.nD Cert.DwuRefIdeal.τ).loc Cert.DwuRefIdeal.main_arg1))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)) →
    ∃ (v0 : (c : Dev Cert.DxIdeal.nD) → Buf (Elt Ideal) ((c.tc : Thread Cert.DxIdeal.nD Cert.DxIdeal.τ).loc Cert.DxIdeal.main_v0)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v18) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4))

def preserves_Res_ResIdeal : Prop :=
  True

def algebraic_ResIdeal_ResRefIdeal [hResIdeal : Cert.ResIdeal.Facts] [hResRefIdeal : Cert.ResRefIdeal.Facts] : Prop :=
  ∀ (m : (ℓ : Loc Cert.ResIdeal.nD Cert.ResIdeal.τ Cert.ResIdeal.sig) → Buf (Elt Ideal) ℓ) (g : Dev Cert.ResIdeal.nD → PrngReg)
    (m' : (ℓ : Loc Cert.ResRefIdeal.nD Cert.ResRefIdeal.τ Cert.ResRefIdeal.sig) → Buf (Elt Ideal) ℓ) (g' : Dev Cert.ResRefIdeal.nD → PrngReg), Pre_ResIdeal m →
    (∀ c : Dev Cert.ResIdeal.nD,
      m' ((c.tc : Thread Cert.ResRefIdeal.nD Cert.ResRefIdeal.τ).loc Cert.ResRefIdeal.main_arg0) = m ((c.tc : Thread Cert.ResIdeal.nD Cert.ResIdeal.τ).loc Cert.ResIdeal.main_arg0)
      ∧ m' ((c.tc : Thread Cert.ResRefIdeal.nD Cert.ResRefIdeal.τ).loc Cert.ResRefIdeal.main_arg1) = m ((c.tc : Thread Cert.ResIdeal.nD Cert.ResIdeal.τ).loc Cert.ResIdeal.main_arg1)
      ∧ m' ((c.tc : Thread Cert.ResRefIdeal.nD Cert.ResRefIdeal.τ).loc Cert.ResRefIdeal.main_arg2) = m ((c.tc : Thread Cert.ResIdeal.nD Cert.ResIdeal.τ).loc Cert.ResIdeal.main_arg2)
      ∧ m' ((c.tc : Thread Cert.ResRefIdeal.nD Cert.ResRefIdeal.τ).loc Cert.ResRefIdeal.main_arg3) = m ((c.tc : Thread Cert.ResIdeal.nD Cert.ResIdeal.τ).loc Cert.ResIdeal.main_arg3)
      ∧ m' ((c.tc : Thread Cert.ResRefIdeal.nD Cert.ResRefIdeal.τ).loc Cert.ResRefIdeal.main_arg4) = m ((c.tc : Thread Cert.ResIdeal.nD Cert.ResIdeal.τ).loc Cert.ResIdeal.main_arg4)) →
    ∃ (v0 : (c : Dev Cert.ResIdeal.nD) → Buf (Elt Ideal) ((c.tc : Thread Cert.ResIdeal.nD Cert.ResIdeal.τ).loc Cert.ResIdeal.main_v0_0)) (v1 : (c : Dev Cert.ResIdeal.nD) → Buf (Elt Ideal) ((c.tc : Thread Cert.ResIdeal.nD Cert.ResIdeal.τ).loc Cert.ResIdeal.main_v0_1)) (v2 : (c : Dev Cert.ResIdeal.nD) → Buf (Elt Ideal) ((c.tc : Thread Cert.ResIdeal.nD Cert.ResIdeal.τ).loc Cert.ResIdeal.main_v0_2)),
      θ_run (Cert.ResIdeal.defs (F := Ideal)) (onTc (τ := Cert.ResIdeal.τ) (Cert.ResIdeal.main (F := Ideal))) ⟨m, fun _ => 0, g⟩ (fun r => ∀ c : Dev Cert.ResIdeal.nD,
          r.2.mem ((c.tc : Thread Cert.ResIdeal.nD Cert.ResIdeal.τ).loc Cert.ResIdeal.main_v0_0) = v0 c
          ∧ r.2.mem ((c.tc : Thread Cert.ResIdeal.nD Cert.ResIdeal.τ).loc Cert.ResIdeal.main_v0_1) = v1 c
          ∧ r.2.mem ((c.tc : Thread Cert.ResIdeal.nD Cert.ResIdeal.τ).loc Cert.ResIdeal.main_v0_2) = v2 c
          ∧ r.2.mem ((c.tc : Thread Cert.ResIdeal.nD Cert.ResIdeal.τ).loc Cert.ResIdeal.main_arg0) = m ((c.tc : Thread Cert.ResIdeal.nD Cert.ResIdeal.τ).loc Cert.ResIdeal.main_arg0)
          ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
          ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
          ∧ r.2.mem ((c.tc : Thread Cert.ResIdeal.nD Cert.ResIdeal.τ).loc Cert.ResIdeal.main_arg3) = m ((c.tc : Thread Cert.ResIdeal.nD Cert.ResIdeal.τ).loc Cert.ResIdeal.main_arg3)
          ∧ r.2.mem ((c.tc : Thread Cert.ResIdeal.nD Cert.ResIdeal.τ).loc Cert.ResIdeal.main_arg4) = m ((c.tc : Thread Cert.ResIdeal.nD Cert.ResIdeal.τ).loc Cert.ResIdeal.main_arg4))
      ∧ θ_run (Cert.ResRefIdeal.defs (F := Ideal)) (onTc (τ := Cert.ResRefIdeal.τ) (Cert.ResRefIdeal.main (F := Ideal))) ⟨m', fun _ => 0, g'⟩ (fun r => ∀ c : Dev Cert.ResRefIdeal.nD,
          r.2.mem ((c.tc : Thread Cert.ResRefIdeal.nD Cert.ResRefIdeal.τ).loc Cert.ResRefIdeal.main_v7) = v0 c
          ∧ r.2.mem ((c.tc : Thread Cert.ResRefIdeal.nD Cert.ResRefIdeal.τ).loc Cert.ResRefIdeal.main_v29) = v1 c
          ∧ r.2.mem ((c.tc : Thread Cert.ResRefIdeal.nD Cert.ResRefIdeal.τ).loc Cert.ResRefIdeal.main_v30) = v2 c
          ∧ r.2.mem ((c.tc : Thread Cert.ResRefIdeal.nD Cert.ResRefIdeal.τ).loc Cert.ResRefIdeal.main_arg0) = m' ((c.tc : Thread Cert.ResRefIdeal.nD Cert.ResRefIdeal.τ).loc Cert.ResRefIdeal.main_arg0)
          ∧ r.2.mem ((c.tc : Thread Cert.ResRefIdeal.nD Cert.ResRefIdeal.τ).loc Cert.ResRefIdeal.main_arg1) = m' ((c.tc : Thread Cert.ResRefIdeal.nD Cert.ResRefIdeal.τ).loc Cert.ResRefIdeal.main_arg1)
          ∧ r.2.mem ((c.tc : Thread Cert.ResRefIdeal.nD Cert.ResRefIdeal.τ).loc Cert.ResRefIdeal.main_arg2) = m' ((c.tc : Thread Cert.ResRefIdeal.nD Cert.ResRefIdeal.τ).loc Cert.ResRefIdeal.main_arg2)
          ∧ r.2.mem ((c.tc : Thread Cert.ResRefIdeal.nD Cert.ResRefIdeal.τ).loc Cert.ResRefIdeal.main_arg3) = m' ((c.tc : Thread Cert.ResRefIdeal.nD Cert.ResRefIdeal.τ).loc Cert.ResRefIdeal.main_arg3)
          ∧ r.2.mem ((c.tc : Thread Cert.ResRefIdeal.nD Cert.ResRefIdeal.τ).loc Cert.ResRefIdeal.main_arg4) = m' ((c.tc : Thread Cert.ResRefIdeal.nD Cert.ResRefIdeal.τ).loc Cert.ResRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v9)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v9) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v11) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)
      ∧ m' ((c.tc : Thread Cert.ProjDxRefIdeal.nD Cert.ProjDxRefIdeal.τ).loc Cert.ProjDxRefIdeal.main_arg2) = m ((c.tc : Thread Cert.ProjDxIdeal.nD Cert.ProjDxIdeal.τ).loc Cert.ProjDxIdeal.main_arg2)) →
    ∃ (v0 : (c : Dev Cert.ProjDxIdeal.nD) → Buf (Elt Ideal) ((c.tc : Thread Cert.ProjDxIdeal.nD Cert.ProjDxIdeal.τ).loc Cert.ProjDxIdeal.main_v3)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v3) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
          ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v11) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1)
          ∧ r.2.mem ((c.tc : Thread Cert.ProjDxRefIdeal.nD Cert.ProjDxRefIdeal.τ).loc Cert.ProjDxRefIdeal.main_arg2) = m' ((c.tc : Thread Cert.ProjDxRefIdeal.nD Cert.ProjDxRefIdeal.τ).loc Cert.ProjDxRefIdeal.main_arg2))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v2)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v2) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v9) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_WoDx_WoDxIdeal : Prop :=
  True

def algebraic_WoDxIdeal_WoDxRefIdeal [hWoDxIdeal : Cert.WoDxIdeal.Facts] [hWoDxRefIdeal : Cert.WoDxRefIdeal.Facts] : Prop :=
  ∀ (m : (ℓ : Loc Cert.WoDxIdeal.nD Cert.WoDxIdeal.τ Cert.WoDxIdeal.sig) → Buf (Elt Ideal) ℓ) (g : Dev Cert.WoDxIdeal.nD → PrngReg)
    (m' : (ℓ : Loc Cert.WoDxRefIdeal.nD Cert.WoDxRefIdeal.τ Cert.WoDxRefIdeal.sig) → Buf (Elt Ideal) ℓ) (g' : Dev Cert.WoDxRefIdeal.nD → PrngReg), Pre_WoDxIdeal m →
    (∀ c : Dev Cert.WoDxIdeal.nD,
      m' ((c.tc : Thread Cert.WoDxRefIdeal.nD Cert.WoDxRefIdeal.τ).loc Cert.WoDxRefIdeal.main_arg0) = m ((c.tc : Thread Cert.WoDxIdeal.nD Cert.WoDxIdeal.τ).loc Cert.WoDxIdeal.main_arg0)
      ∧ m' ((c.tc : Thread Cert.WoDxRefIdeal.nD Cert.WoDxRefIdeal.τ).loc Cert.WoDxRefIdeal.main_arg1) = m ((c.tc : Thread Cert.WoDxIdeal.nD Cert.WoDxIdeal.τ).loc Cert.WoDxIdeal.main_arg1)) →
    ∃ (v0 : (c : Dev Cert.WoDxIdeal.nD) → Buf (Elt Ideal) ((c.tc : Thread Cert.WoDxIdeal.nD Cert.WoDxIdeal.τ).loc Cert.WoDxIdeal.main_v2)),
      θ_run (Cert.WoDxIdeal.defs (F := Ideal)) (onTc (τ := Cert.WoDxIdeal.τ) (Cert.WoDxIdeal.main (F := Ideal))) ⟨m, fun _ => 0, g⟩ (fun r => ∀ c : Dev Cert.WoDxIdeal.nD,
          r.2.mem ((c.tc : Thread Cert.WoDxIdeal.nD Cert.WoDxIdeal.τ).loc Cert.WoDxIdeal.main_v2) = v0 c
          ∧ r.2.mem ((c.tc : Thread Cert.WoDxIdeal.nD Cert.WoDxIdeal.τ).loc Cert.WoDxIdeal.main_arg0) = m ((c.tc : Thread Cert.WoDxIdeal.nD Cert.WoDxIdeal.τ).loc Cert.WoDxIdeal.main_arg0)
          ∧ r.2.mem ((c.tc : Thread Cert.WoDxIdeal.nD Cert.WoDxIdeal.τ).loc Cert.WoDxIdeal.main_arg1) = m ((c.tc : Thread Cert.WoDxIdeal.nD Cert.WoDxIdeal.τ).loc Cert.WoDxIdeal.main_arg1))
      ∧ θ_run (Cert.WoDxRefIdeal.defs (F := Ideal)) (onTc (τ := Cert.WoDxRefIdeal.τ) (Cert.WoDxRefIdeal.main (F := Ideal))) ⟨m', fun _ => 0, g'⟩ (fun r => ∀ c : Dev Cert.WoDxRefIdeal.nD,
          r.2.mem ((c.tc : Thread Cert.WoDxRefIdeal.nD Cert.WoDxRefIdeal.τ).loc Cert.WoDxRefIdeal.main_v5) = v0 c
          ∧ r.2.mem ((c.tc : Thread Cert.WoDxRefIdeal.nD Cert.WoDxRefIdeal.τ).loc Cert.WoDxRefIdeal.main_arg0) = m' ((c.tc : Thread Cert.WoDxRefIdeal.nD Cert.WoDxRefIdeal.τ).loc Cert.WoDxRefIdeal.main_arg0)
          ∧ r.2.mem ((c.tc : Thread Cert.WoDxRefIdeal.nD Cert.WoDxRefIdeal.τ).loc Cert.WoDxRefIdeal.main_arg1) = m' ((c.tc : Thread Cert.WoDxRefIdeal.nD Cert.WoDxRefIdeal.τ).loc Cert.WoDxRefIdeal.main_arg1))

def preserves_WoDw_WoDwIdeal : Prop :=
  True

def algebraic_WoDwIdeal_WoDwRefIdeal [hWoDwIdeal : Cert.WoDwIdeal.Facts] [hWoDwRefIdeal : Cert.WoDwRefIdeal.Facts] : Prop :=
  ∀ (m : (ℓ : Loc Cert.WoDwIdeal.nD Cert.WoDwIdeal.τ Cert.WoDwIdeal.sig) → Buf (Elt Ideal) ℓ) (g : Dev Cert.WoDwIdeal.nD → PrngReg)
    (m' : (ℓ : Loc Cert.WoDwRefIdeal.nD Cert.WoDwRefIdeal.τ Cert.WoDwRefIdeal.sig) → Buf (Elt Ideal) ℓ) (g' : Dev Cert.WoDwRefIdeal.nD → PrngReg), Pre_WoDwIdeal m →
    (∀ c : Dev Cert.WoDwIdeal.nD,
      m' ((c.tc : Thread Cert.WoDwRefIdeal.nD Cert.WoDwRefIdeal.τ).loc Cert.WoDwRefIdeal.main_arg0) = m ((c.tc : Thread Cert.WoDwIdeal.nD Cert.WoDwIdeal.τ).loc Cert.WoDwIdeal.main_arg0)
      ∧ m' ((c.tc : Thread Cert.WoDwRefIdeal.nD Cert.WoDwRefIdeal.τ).loc Cert.WoDwRefIdeal.main_arg1) = m ((c.tc : Thread Cert.WoDwIdeal.nD Cert.WoDwIdeal.τ).loc Cert.WoDwIdeal.main_arg1)) →
    ∃ (v0 : (c : Dev Cert.WoDwIdeal.nD) → Buf (Elt Ideal) ((c.tc : Thread Cert.WoDwIdeal.nD Cert.WoDwIdeal.τ).loc Cert.WoDwIdeal.main_v2)),
      θ_run (Cert.WoDwIdeal.defs (F := Ideal)) (onTc (τ := Cert.WoDwIdeal.τ) (Cert.WoDwIdeal.main (F := Ideal))) ⟨m, fun _ => 0, g⟩ (fun r => ∀ c : Dev Cert.WoDwIdeal.nD,
          r.2.mem ((c.tc : Thread Cert.WoDwIdeal.nD Cert.WoDwIdeal.τ).loc Cert.WoDwIdeal.main_v2) = v0 c
          ∧ r.2.mem ((c.tc : Thread Cert.WoDwIdeal.nD Cert.WoDwIdeal.τ).loc Cert.WoDwIdeal.main_arg0) = m ((c.tc : Thread Cert.WoDwIdeal.nD Cert.WoDwIdeal.τ).loc Cert.WoDwIdeal.main_arg0)
          ∧ r.2.mem ((c.tc : Thread Cert.WoDwIdeal.nD Cert.WoDwIdeal.τ).loc Cert.WoDwIdeal.main_arg1) = m ((c.tc : Thread Cert.WoDwIdeal.nD Cert.WoDwIdeal.τ).loc Cert.WoDwIdeal.main_arg1))
      ∧ θ_run (Cert.WoDwRefIdeal.defs (F := Ideal)) (onTc (τ := Cert.WoDwRefIdeal.τ) (Cert.WoDwRefIdeal.main (F := Ideal))) ⟨m', fun _ => 0, g'⟩ (fun r => ∀ c : Dev Cert.WoDwRefIdeal.nD,
          r.2.mem ((c.tc : Thread Cert.WoDwRefIdeal.nD Cert.WoDwRefIdeal.τ).loc Cert.WoDwRefIdeal.main_v7) = v0 c
          ∧ r.2.mem ((c.tc : Thread Cert.WoDwRefIdeal.nD Cert.WoDwRefIdeal.τ).loc Cert.WoDwRefIdeal.main_arg0) = m' ((c.tc : Thread Cert.WoDwRefIdeal.nD Cert.WoDwRefIdeal.τ).loc Cert.WoDwRefIdeal.main_arg0)
          ∧ r.2.mem ((c.tc : Thread Cert.WoDwRefIdeal.nD Cert.WoDwRefIdeal.τ).loc Cert.WoDwRefIdeal.main_arg1) = m' ((c.tc : Thread Cert.WoDwRefIdeal.nD Cert.WoDwRefIdeal.τ).loc Cert.WoDwRefIdeal.main_arg1))

def preserves_WoLn_WoLnIdeal : Prop :=
  True

def algebraic_WoLnIdeal_WoLnRefIdeal [hWoLnIdeal : Cert.WoLnIdeal.Facts] [hWoLnRefIdeal : Cert.WoLnRefIdeal.Facts] : Prop :=
  ∀ (m : (ℓ : Loc Cert.WoLnIdeal.nD Cert.WoLnIdeal.τ Cert.WoLnIdeal.sig) → Buf (Elt Ideal) ℓ) (g : Dev Cert.WoLnIdeal.nD → PrngReg)
    (m' : (ℓ : Loc Cert.WoLnRefIdeal.nD Cert.WoLnRefIdeal.τ Cert.WoLnRefIdeal.sig) → Buf (Elt Ideal) ℓ) (g' : Dev Cert.WoLnRefIdeal.nD → PrngReg), Pre_WoLnIdeal m →
    (∀ c : Dev Cert.WoLnIdeal.nD,
      m' ((c.tc : Thread Cert.WoLnRefIdeal.nD Cert.WoLnRefIdeal.τ).loc Cert.WoLnRefIdeal.main_arg0) = m ((c.tc : Thread Cert.WoLnIdeal.nD Cert.WoLnIdeal.τ).loc Cert.WoLnIdeal.main_arg0)
      ∧ m' ((c.tc : Thread Cert.WoLnRefIdeal.nD Cert.WoLnRefIdeal.τ).loc Cert.WoLnRefIdeal.main_arg1) = m ((c.tc : Thread Cert.WoLnIdeal.nD Cert.WoLnIdeal.τ).loc Cert.WoLnIdeal.main_arg1)
      ∧ m' ((c.tc : Thread Cert.WoLnRefIdeal.nD Cert.WoLnRefIdeal.τ).loc Cert.WoLnRefIdeal.main_arg2) = m ((c.tc : Thread Cert.WoLnIdeal.nD Cert.WoLnIdeal.τ).loc Cert.WoLnIdeal.main_arg2)
      ∧ m' ((c.tc : Thread Cert.WoLnRefIdeal.nD Cert.WoLnRefIdeal.τ).loc Cert.WoLnRefIdeal.main_arg3) = m ((c.tc : Thread Cert.WoLnIdeal.nD Cert.WoLnIdeal.τ).loc Cert.WoLnIdeal.main_arg3)
      ∧ m' ((c.tc : Thread Cert.WoLnRefIdeal.nD Cert.WoLnRefIdeal.τ).loc Cert.WoLnRefIdeal.main_arg4) = m ((c.tc : Thread Cert.WoLnIdeal.nD Cert.WoLnIdeal.τ).loc Cert.WoLnIdeal.main_arg4)) →
    ∃ (v0 : (c : Dev Cert.WoLnIdeal.nD) → Buf (Elt Ideal) ((c.tc : Thread Cert.WoLnIdeal.nD Cert.WoLnIdeal.τ).loc Cert.WoLnIdeal.main_v2_0)) (v1 : (c : Dev Cert.WoLnIdeal.nD) → Buf (Elt Ideal) ((c.tc : Thread Cert.WoLnIdeal.nD Cert.WoLnIdeal.τ).loc Cert.WoLnIdeal.main_v2_1)) (v2 : (c : Dev Cert.WoLnIdeal.nD) → Buf (Elt Ideal) ((c.tc : Thread Cert.WoLnIdeal.nD Cert.WoLnIdeal.τ).loc Cert.WoLnIdeal.main_v2_2)),
      θ_run (Cert.WoLnIdeal.defs (F := Ideal)) (onTc (τ := Cert.WoLnIdeal.τ) (Cert.WoLnIdeal.main (F := Ideal))) ⟨m, fun _ => 0, g⟩ (fun r => ∀ c : Dev Cert.WoLnIdeal.nD,
          r.2.mem ((c.tc : Thread Cert.WoLnIdeal.nD Cert.WoLnIdeal.τ).loc Cert.WoLnIdeal.main_v2_0) = v0 c
          ∧ r.2.mem ((c.tc : Thread Cert.WoLnIdeal.nD Cert.WoLnIdeal.τ).loc Cert.WoLnIdeal.main_v2_1) = v1 c
          ∧ r.2.mem ((c.tc : Thread Cert.WoLnIdeal.nD Cert.WoLnIdeal.τ).loc Cert.WoLnIdeal.main_v2_2) = v2 c
          ∧ r.2.mem ((c.tc : Thread Cert.WoLnIdeal.nD Cert.WoLnIdeal.τ).loc Cert.WoLnIdeal.main_arg0) = m ((c.tc : Thread Cert.WoLnIdeal.nD Cert.WoLnIdeal.τ).loc Cert.WoLnIdeal.main_arg0)
          ∧ r.2.mem ((c.tc : Thread Cert.WoLnIdeal.nD Cert.WoLnIdeal.τ).loc Cert.WoLnIdeal.main_arg1) = m ((c.tc : Thread Cert.WoLnIdeal.nD Cert.WoLnIdeal.τ).loc Cert.WoLnIdeal.main_arg1)
          ∧ r.2.mem ((c.tc : Thread Cert.WoLnIdeal.nD Cert.WoLnIdeal.τ).loc Cert.WoLnIdeal.main_arg2) = m ((c.tc : Thread Cert.WoLnIdeal.nD Cert.WoLnIdeal.τ).loc Cert.WoLnIdeal.main_arg2)
          ∧ r.2.mem ((c.tc : Thread Cert.WoLnIdeal.nD Cert.WoLnIdeal.τ).loc Cert.WoLnIdeal.main_arg3) = m ((c.tc : Thread Cert.WoLnIdeal.nD Cert.WoLnIdeal.τ).loc Cert.WoLnIdeal.main_arg3)
          ∧ r.2.mem ((c.tc : Thread Cert.WoLnIdeal.nD Cert.WoLnIdeal.τ).loc Cert.WoLnIdeal.main_arg4) = m ((c.tc : Thread Cert.WoLnIdeal.nD Cert.WoLnIdeal.τ).loc Cert.WoLnIdeal.main_arg4))
      ∧ θ_run (Cert.WoLnRefIdeal.defs (F := Ideal)) (onTc (τ := Cert.WoLnRefIdeal.τ) (Cert.WoLnRefIdeal.main (F := Ideal))) ⟨m', fun _ => 0, g'⟩ (fun r => ∀ c : Dev Cert.WoLnRefIdeal.nD,
          r.2.mem ((c.tc : Thread Cert.WoLnRefIdeal.nD Cert.WoLnRefIdeal.τ).loc Cert.WoLnRefIdeal.main_v5) = v0 c
          ∧ r.2.mem ((c.tc : Thread Cert.WoLnRefIdeal.nD Cert.WoLnRefIdeal.τ).loc Cert.WoLnRefIdeal.main_v27) = v1 c
          ∧ r.2.mem ((c.tc : Thread Cert.WoLnRefIdeal.nD Cert.WoLnRefIdeal.τ).loc Cert.WoLnRefIdeal.main_v28) = v2 c
          ∧ r.2.mem ((c.tc : Thread Cert.WoLnRefIdeal.nD Cert.WoLnRefIdeal.τ).loc Cert.WoLnRefIdeal.main_arg0) = m' ((c.tc : Thread Cert.WoLnRefIdeal.nD Cert.WoLnRefIdeal.τ).loc Cert.WoLnRefIdeal.main_arg0)
          ∧ r.2.mem ((c.tc : Thread Cert.WoLnRefIdeal.nD Cert.WoLnRefIdeal.τ).loc Cert.WoLnRefIdeal.main_arg1) = m' ((c.tc : Thread Cert.WoLnRefIdeal.nD Cert.WoLnRefIdeal.τ).loc Cert.WoLnRefIdeal.main_arg1)
          ∧ r.2.mem ((c.tc : Thread Cert.WoLnRefIdeal.nD Cert.WoLnRefIdeal.τ).loc Cert.WoLnRefIdeal.main_arg2) = m' ((c.tc : Thread Cert.WoLnRefIdeal.nD Cert.WoLnRefIdeal.τ).loc Cert.WoLnRefIdeal.main_arg2)
          ∧ r.2.mem ((c.tc : Thread Cert.WoLnRefIdeal.nD Cert.WoLnRefIdeal.τ).loc Cert.WoLnRefIdeal.main_arg3) = m' ((c.tc : Thread Cert.WoLnRefIdeal.nD Cert.WoLnRefIdeal.τ).loc Cert.WoLnRefIdeal.main_arg3)
          ∧ r.2.mem ((c.tc : Thread Cert.WoLnRefIdeal.nD Cert.WoLnRefIdeal.τ).loc Cert.WoLnRefIdeal.main_arg4) = m' ((c.tc : Thread Cert.WoLnRefIdeal.nD Cert.WoLnRefIdeal.τ).loc Cert.WoLnRefIdeal.main_arg4))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v5) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v7) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_GluDx_GluDxIdeal : Prop :=
  True

def algebraic_GluDxIdeal_GluDxRefIdeal [hGluDxIdeal : Cert.GluDxIdeal.Facts] [hGluDxRefIdeal : Cert.GluDxRefIdeal.Facts] : Prop :=
  ∀ (m : (ℓ : Loc Cert.GluDxIdeal.nD Cert.GluDxIdeal.τ Cert.GluDxIdeal.sig) → Buf (Elt Ideal) ℓ) (g : Dev Cert.GluDxIdeal.nD → PrngReg)
    (m' : (ℓ : Loc Cert.GluDxRefIdeal.nD Cert.GluDxRefIdeal.τ Cert.GluDxRefIdeal.sig) → Buf (Elt Ideal) ℓ) (g' : Dev Cert.GluDxRefIdeal.nD → PrngReg), Pre_GluDxIdeal m →
    (∀ c : Dev Cert.GluDxIdeal.nD,
      m' ((c.tc : Thread Cert.GluDxRefIdeal.nD Cert.GluDxRefIdeal.τ).loc Cert.GluDxRefIdeal.main_arg0) = m ((c.tc : Thread Cert.GluDxIdeal.nD Cert.GluDxIdeal.τ).loc Cert.GluDxIdeal.main_arg0)
      ∧ m' ((c.tc : Thread Cert.GluDxRefIdeal.nD Cert.GluDxRefIdeal.τ).loc Cert.GluDxRefIdeal.main_arg1) = m ((c.tc : Thread Cert.GluDxIdeal.nD Cert.GluDxIdeal.τ).loc Cert.GluDxIdeal.main_arg1)
      ∧ m' ((c.tc : Thread Cert.GluDxRefIdeal.nD Cert.GluDxRefIdeal.τ).loc Cert.GluDxRefIdeal.main_arg2) = m ((c.tc : Thread Cert.GluDxIdeal.nD Cert.GluDxIdeal.τ).loc Cert.GluDxIdeal.main_arg2)) →
    ∃ (v0 : (c : Dev Cert.GluDxIdeal.nD) → Buf (Elt Ideal) ((c.tc : Thread Cert.GluDxIdeal.nD Cert.GluDxIdeal.τ).loc Cert.GluDxIdeal.main_v3)),
      θ_run (Cert.GluDxIdeal.defs (F := Ideal)) (onTc (τ := Cert.GluDxIdeal.τ) (Cert.GluDxIdeal.main (F := Ideal))) ⟨m, fun _ => 0, g⟩ (fun r => ∀ c : Dev Cert.GluDxIdeal.nD,
          r.2.mem ((c.tc : Thread Cert.GluDxIdeal.nD Cert.GluDxIdeal.τ).loc Cert.GluDxIdeal.main_v3) = v0 c
          ∧ r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
          ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1)
          ∧ r.2.mem ((c.tc : Thread Cert.GluDxIdeal.nD Cert.GluDxIdeal.τ).loc Cert.GluDxIdeal.main_arg2) = m ((c.tc : Thread Cert.GluDxIdeal.nD Cert.GluDxIdeal.τ).loc Cert.GluDxIdeal.main_arg2))
      ∧ θ_run (Cert.GluDxRefIdeal.defs (F := Ideal)) (onTc (τ := Cert.GluDxRefIdeal.τ) (Cert.GluDxRefIdeal.main (F := Ideal))) ⟨m', fun _ => 0, g'⟩ (fun r => ∀ c : Dev Cert.GluDxRefIdeal.nD,
          r.2.mem ((c.tc : Thread Cert.GluDxRefIdeal.nD Cert.GluDxRefIdeal.τ).loc Cert.GluDxRefIdeal.main_v6) = v0 c
          ∧ r.2.mem ((c.tc : Thread Cert.GluDxRefIdeal.nD Cert.GluDxRefIdeal.τ).loc Cert.GluDxRefIdeal.main_arg0) = m' ((c.tc : Thread Cert.GluDxRefIdeal.nD Cert.GluDxRefIdeal.τ).loc Cert.GluDxRefIdeal.main_arg0)
          ∧ r.2.mem ((c.tc : Thread Cert.GluDxRefIdeal.nD Cert.GluDxRefIdeal.τ).loc Cert.GluDxRefIdeal.main_arg1) = m' ((c.tc : Thread Cert.GluDxRefIdeal.nD Cert.GluDxRefIdeal.τ).loc Cert.GluDxRefIdeal.main_arg1)
          ∧ r.2.mem ((c.tc : Thread Cert.GluDxRefIdeal.nD Cert.GluDxRefIdeal.τ).loc Cert.GluDxRefIdeal.main_arg2) = m' ((c.tc : Thread Cert.GluDxRefIdeal.nD Cert.GluDxRefIdeal.τ).loc Cert.GluDxRefIdeal.main_arg2))

def preserves_GluDw_GluDwIdeal : Prop :=
  True

def algebraic_GluDwIdeal_GluDwRefIdeal [hGluDwIdeal : Cert.GluDwIdeal.Facts] [hGluDwRefIdeal : Cert.GluDwRefIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.GluDwRefIdeal.nD Cert.GluDwRefIdeal.τ Cert.GluDwRefIdeal.sig) → Buf (Elt Ideal) ℓ) (g' : Dev Cert.GluDwRefIdeal.nD → PrngReg), Pre_GluDwIdeal m →
    (∀ c : Dev Cert.GluDwIdeal.nD,
      m' ((c.tc : Thread Cert.GluDwRefIdeal.nD Cert.GluDwRefIdeal.τ).loc Cert.GluDwRefIdeal.main_arg0) = m ((c.tc : Thread Cert.GluDwIdeal.nD Cert.GluDwIdeal.τ).loc Cert.GluDwIdeal.main_arg0)
      ∧ m' ((c.tc : Thread Cert.GluDwRefIdeal.nD Cert.GluDwRefIdeal.τ).loc Cert.GluDwRefIdeal.main_arg1) = m ((c.tc : Thread Cert.GluDwIdeal.nD Cert.GluDwIdeal.τ).loc Cert.GluDwIdeal.main_arg1)) →
    ∃ (v0 : (c : Dev Cert.GluDwIdeal.nD) → Buf (Elt Ideal) ((c.tc : Thread Cert.GluDwIdeal.nD Cert.GluDwIdeal.τ).loc Cert.GluDwIdeal.main_v2)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v2) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ θ_run (Cert.GluDwRefIdeal.defs (F := Ideal)) (onTc (τ := Cert.GluDwRefIdeal.τ) (Cert.GluDwRefIdeal.main (F := Ideal))) ⟨m', fun _ => 0, g'⟩ (fun r => ∀ c : Dev Cert.GluDwRefIdeal.nD,
          r.2.mem ((c.tc : Thread Cert.GluDwRefIdeal.nD Cert.GluDwRefIdeal.τ).loc Cert.GluDwRefIdeal.main_v7) = v0 c
          ∧ r.2.mem ((c.tc : Thread Cert.GluDwRefIdeal.nD Cert.GluDwRefIdeal.τ).loc Cert.GluDwRefIdeal.main_arg0) = m' ((c.tc : Thread Cert.GluDwRefIdeal.nD Cert.GluDwRefIdeal.τ).loc Cert.GluDwRefIdeal.main_arg0)
          ∧ r.2.mem ((c.tc : Thread Cert.GluDwRefIdeal.nD Cert.GluDwRefIdeal.τ).loc Cert.GluDwRefIdeal.main_arg1) = m' ((c.tc : Thread Cert.GluDwRefIdeal.nD Cert.GluDwRefIdeal.τ).loc Cert.GluDwRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v2) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v3) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_Heads_HeadsIdeal : Prop :=
  True

def algebraic_HeadsIdeal_HeadsRefIdeal [hHeadsIdeal : Cert.HeadsIdeal.Facts] [hHeadsRefIdeal : Cert.HeadsRefIdeal.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsRefIdeal.nD Cert.HeadsRefIdeal.τ Cert.HeadsRefIdeal.sig) → Buf (Elt Ideal) ℓ) (g' : Dev Cert.HeadsRefIdeal.nD → PrngReg), Pre_HeadsIdeal m →
    (∀ c : Dev Cert.HeadsIdeal.nD,
      m' ((c.tc : Thread Cert.HeadsRefIdeal.nD Cert.HeadsRefIdeal.τ).loc Cert.HeadsRefIdeal.main_arg0) = m ((c.tc : Thread Cert.HeadsIdeal.nD Cert.HeadsIdeal.τ).loc Cert.HeadsIdeal.main_arg0)
      ∧ m' ((c.tc : Thread Cert.HeadsRefIdeal.nD Cert.HeadsRefIdeal.τ).loc Cert.HeadsRefIdeal.main_arg1) = m ((c.tc : Thread Cert.HeadsIdeal.nD Cert.HeadsIdeal.τ).loc Cert.HeadsIdeal.main_arg1)) →
    ∃ (v0 : (c : Dev Cert.HeadsIdeal.nD) → Buf (Elt Ideal) ((c.tc : Thread Cert.HeadsIdeal.nD Cert.HeadsIdeal.τ).loc Cert.HeadsIdeal.main_v0)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v0) = v0 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1))
      ∧ θ_run (Cert.HeadsRefIdeal.defs (F := Ideal)) (onTc (τ := Cert.HeadsRefIdeal.τ) (Cert.HeadsRefIdeal.main (F := Ideal))) ⟨m', fun _ => 0, g'⟩ (fun r => ∀ c : Dev Cert.HeadsRefIdeal.nD,
          r.2.mem ((c.tc : Thread Cert.HeadsRefIdeal.nD Cert.HeadsRefIdeal.τ).loc Cert.HeadsRefIdeal.main_v3) = v0 c
          ∧ r.2.mem ((c.tc : Thread Cert.HeadsRefIdeal.nD Cert.HeadsRefIdeal.τ).loc Cert.HeadsRefIdeal.main_arg0) = m' ((c.tc : Thread Cert.HeadsRefIdeal.nD Cert.HeadsRefIdeal.τ).loc Cert.HeadsRefIdeal.main_arg0)
          ∧ r.2.mem ((c.tc : Thread Cert.HeadsRefIdeal.nD Cert.HeadsRefIdeal.τ).loc Cert.HeadsRefIdeal.main_arg1) = m' ((c.tc : Thread Cert.HeadsRefIdeal.nD Cert.HeadsRefIdeal.τ).loc Cert.HeadsRefIdeal.main_arg1))

def preserves_HeadsDx_HeadsDxIdeal : Prop :=
  True

def algebraic_HeadsDxIdeal_HeadsDxRefIdeal [hHeadsDxIdeal : Cert.HeadsDxIdeal.Facts] [hHeadsDxRefIdeal : Cert.HeadsDxRefIdeal.Facts] : Prop :=
  ∀ (m : (ℓ : Loc Cert.HeadsDxIdeal.nD Cert.HeadsDxIdeal.τ Cert.HeadsDxIdeal.sig) → Buf (Elt Ideal) ℓ) (g : Dev Cert.HeadsDxIdeal.nD → PrngReg)
    (m' : (ℓ : Loc Cert.HeadsDxRefIdeal.nD Cert.HeadsDxRefIdeal.τ Cert.HeadsDxRefIdeal.sig) → Buf (Elt Ideal) ℓ) (g' : Dev Cert.HeadsDxRefIdeal.nD → PrngReg), Pre_HeadsDxIdeal m →
    (∀ c : Dev Cert.HeadsDxIdeal.nD,
      m' ((c.tc : Thread Cert.HeadsDxRefIdeal.nD Cert.HeadsDxRefIdeal.τ).loc Cert.HeadsDxRefIdeal.main_arg0) = m ((c.tc : Thread Cert.HeadsDxIdeal.nD Cert.HeadsDxIdeal.τ).loc Cert.HeadsDxIdeal.main_arg0)
      ∧ m' ((c.tc : Thread Cert.HeadsDxRefIdeal.nD Cert.HeadsDxRefIdeal.τ).loc Cert.HeadsDxRefIdeal.main_arg1) = m ((c.tc : Thread Cert.HeadsDxIdeal.nD Cert.HeadsDxIdeal.τ).loc Cert.HeadsDxIdeal.main_arg1)) →
    ∃ (v0 : (c : Dev Cert.HeadsDxIdeal.nD) → Buf (Elt Ideal) ((c.tc : Thread Cert.HeadsDxIdeal.nD Cert.HeadsDxIdeal.τ).loc Cert.HeadsDxIdeal.main_v0)),
      θ_run (Cert.HeadsDxIdeal.defs (F := Ideal)) (onTc (τ := Cert.HeadsDxIdeal.τ) (Cert.HeadsDxIdeal.main (F := Ideal))) ⟨m, fun _ => 0, g⟩ (fun r => ∀ c : Dev Cert.HeadsDxIdeal.nD,
          r.2.mem ((c.tc : Thread Cert.HeadsDxIdeal.nD Cert.HeadsDxIdeal.τ).loc Cert.HeadsDxIdeal.main_v0) = v0 c
          ∧ r.2.mem ((c.tc : Thread Cert.HeadsDxIdeal.nD Cert.HeadsDxIdeal.τ).loc Cert.HeadsDxIdeal.main_arg0) = m ((c.tc : Thread Cert.HeadsDxIdeal.nD Cert.HeadsDxIdeal.τ).loc Cert.HeadsDxIdeal.main_arg0)
          ∧ r.2.mem ((c.tc : Thread Cert.HeadsDxIdeal.nD Cert.HeadsDxIdeal.τ).loc Cert.HeadsDxIdeal.main_arg1) = m ((c.tc : Thread Cert.HeadsDxIdeal.nD Cert.HeadsDxIdeal.τ).loc Cert.HeadsDxIdeal.main_arg1))
      ∧ θ_run (Cert.HeadsDxRefIdeal.defs (F := Ideal)) (onTc (τ := Cert.HeadsDxRefIdeal.τ) (Cert.HeadsDxRefIdeal.main (F := Ideal))) ⟨m', fun _ => 0, g'⟩ (fun r => ∀ c : Dev Cert.HeadsDxRefIdeal.nD,
          r.2.mem ((c.tc : Thread Cert.HeadsDxRefIdeal.nD Cert.HeadsDxRefIdeal.τ).loc Cert.HeadsDxRefIdeal.main_v6) = v0 c
          ∧ r.2.mem ((c.tc : Thread Cert.HeadsDxRefIdeal.nD Cert.HeadsDxRefIdeal.τ).loc Cert.HeadsDxRefIdeal.main_arg0) = m' ((c.tc : Thread Cert.HeadsDxRefIdeal.nD Cert.HeadsDxRefIdeal.τ).loc Cert.HeadsDxRefIdeal.main_arg0)
          ∧ r.2.mem ((c.tc : Thread Cert.HeadsDxRefIdeal.nD Cert.HeadsDxRefIdeal.τ).loc Cert.HeadsDxRefIdeal.main_arg1) = m' ((c.tc : Thread Cert.HeadsDxRefIdeal.nD Cert.HeadsDxRefIdeal.τ).loc Cert.HeadsDxRefIdeal.main_arg1))

def preserves_HeadsDw_HeadsDwIdeal : Prop :=
  True

def algebraic_HeadsDwIdeal_HeadsDwRefIdeal [hHeadsDwIdeal : Cert.HeadsDwIdeal.Facts] [hHeadsDwRefIdeal : Cert.HeadsDwRefIdeal.Facts] : Prop :=
  ∀ (m : (ℓ : Loc Cert.HeadsDwIdeal.nD Cert.HeadsDwIdeal.τ Cert.HeadsDwIdeal.sig) → Buf (Elt Ideal) ℓ) (g : Dev Cert.HeadsDwIdeal.nD → PrngReg)
    (m' : (ℓ : Loc Cert.HeadsDwRefIdeal.nD Cert.HeadsDwRefIdeal.τ Cert.HeadsDwRefIdeal.sig) → Buf (Elt Ideal) ℓ) (g' : Dev Cert.HeadsDwRefIdeal.nD → PrngReg), Pre_HeadsDwIdeal m →
    (∀ c : Dev Cert.HeadsDwIdeal.nD,
      m' ((c.tc : Thread Cert.HeadsDwRefIdeal.nD Cert.HeadsDwRefIdeal.τ).loc Cert.HeadsDwRefIdeal.main_arg0) = m ((c.tc : Thread Cert.HeadsDwIdeal.nD Cert.HeadsDwIdeal.τ).loc Cert.HeadsDwIdeal.main_arg0)
      ∧ m' ((c.tc : Thread Cert.HeadsDwRefIdeal.nD Cert.HeadsDwRefIdeal.τ).loc Cert.HeadsDwRefIdeal.main_arg1) = m ((c.tc : Thread Cert.HeadsDwIdeal.nD Cert.HeadsDwIdeal.τ).loc Cert.HeadsDwIdeal.main_arg1)) →
    ∃ (v0 : (c : Dev Cert.HeadsDwIdeal.nD) → Buf (Elt Ideal) ((c.tc : Thread Cert.HeadsDwIdeal.nD Cert.HeadsDwIdeal.τ).loc Cert.HeadsDwIdeal.main_v1)),
      θ_run (Cert.HeadsDwIdeal.defs (F := Ideal)) (onTc (τ := Cert.HeadsDwIdeal.τ) (Cert.HeadsDwIdeal.main (F := Ideal))) ⟨m, fun _ => 0, g⟩ (fun r => ∀ c : Dev Cert.HeadsDwIdeal.nD,
          r.2.mem ((c.tc : Thread Cert.HeadsDwIdeal.nD Cert.HeadsDwIdeal.τ).loc Cert.HeadsDwIdeal.main_v1) = v0 c
          ∧ r.2.mem ((c.tc : Thread Cert.HeadsDwIdeal.nD Cert.HeadsDwIdeal.τ).loc Cert.HeadsDwIdeal.main_arg0) = m ((c.tc : Thread Cert.HeadsDwIdeal.nD Cert.HeadsDwIdeal.τ).loc Cert.HeadsDwIdeal.main_arg0)
          ∧ r.2.mem ((c.tc : Thread Cert.HeadsDwIdeal.nD Cert.HeadsDwIdeal.τ).loc Cert.HeadsDwIdeal.main_arg1) = m ((c.tc : Thread Cert.HeadsDwIdeal.nD Cert.HeadsDwIdeal.τ).loc Cert.HeadsDwIdeal.main_arg1))
      ∧ θ_run (Cert.HeadsDwRefIdeal.defs (F := Ideal)) (onTc (τ := Cert.HeadsDwRefIdeal.τ) (Cert.HeadsDwRefIdeal.main (F := Ideal))) ⟨m', fun _ => 0, g'⟩ (fun r => ∀ c : Dev Cert.HeadsDwRefIdeal.nD,
          r.2.mem ((c.tc : Thread Cert.HeadsDwRefIdeal.nD Cert.HeadsDwRefIdeal.τ).loc Cert.HeadsDwRefIdeal.main_v6) = v0 c
          ∧ r.2.mem ((c.tc : Thread Cert.HeadsDwRefIdeal.nD Cert.HeadsDwRefIdeal.τ).loc Cert.HeadsDwRefIdeal.main_arg0) = m' ((c.tc : Thread Cert.HeadsDwRefIdeal.nD Cert.HeadsDwRefIdeal.τ).loc Cert.HeadsDwRefIdeal.main_arg0)
          ∧ r.2.mem ((c.tc : Thread Cert.HeadsDwRefIdeal.nD Cert.HeadsDwRefIdeal.τ).loc Cert.HeadsDwRefIdeal.main_arg1) = m' ((c.tc : Thread Cert.HeadsDwRefIdeal.nD Cert.HeadsDwRefIdeal.τ).loc Cert.HeadsDwRefIdeal.main_arg1))

def preserves_Dwq_DwqIdeal : Prop :=
  True

def algebraic_DwqIdeal_DwqRefIdeal [hDwqIdeal : Cert.DwqIdeal.Facts] [hDwqRefIdeal : Cert.DwqRefIdeal.Facts] : Prop :=
  ∀ (m : (ℓ : Loc Cert.DwqIdeal.nD Cert.DwqIdeal.τ Cert.DwqIdeal.sig) → Buf (Elt Ideal) ℓ) (g : Dev Cert.DwqIdeal.nD → PrngReg)
    (m' : (ℓ : Loc Cert.DwqRefIdeal.nD Cert.DwqRefIdeal.τ Cert.DwqRefIdeal.sig) → Buf (Elt Ideal) ℓ) (g' : Dev Cert.DwqRefIdeal.nD → PrngReg), Pre_DwqIdeal m →
    (∀ c : Dev Cert.DwqIdeal.nD,
      m' ((c.tc : Thread Cert.DwqRefIdeal.nD Cert.DwqRefIdeal.τ).loc Cert.DwqRefIdeal.main_arg0) = m ((c.tc : Thread Cert.DwqIdeal.nD Cert.DwqIdeal.τ).loc Cert.DwqIdeal.main_arg0)
      ∧ m' ((c.tc : Thread Cert.DwqRefIdeal.nD Cert.DwqRefIdeal.τ).loc Cert.DwqRefIdeal.main_arg1) = m ((c.tc : Thread Cert.DwqIdeal.nD Cert.DwqIdeal.τ).loc Cert.DwqIdeal.main_arg1)) →
    ∃ (v0 : (c : Dev Cert.DwqIdeal.nD) → Buf (Elt Ideal) ((c.tc : Thread Cert.DwqIdeal.nD Cert.DwqIdeal.τ).loc Cert.DwqIdeal.main_v1)),
      θ_run (Cert.DwqIdeal.defs (F := Ideal)) (onTc (τ := Cert.DwqIdeal.τ) (Cert.DwqIdeal.main (F := Ideal))) ⟨m, fun _ => 0, g⟩ (fun r => ∀ c : Dev Cert.DwqIdeal.nD,
          r.2.mem ((c.tc : Thread Cert.DwqIdeal.nD Cert.DwqIdeal.τ).loc Cert.DwqIdeal.main_v1) = v0 c
          ∧ r.2.mem ((c.tc : Thread Cert.DwqIdeal.nD Cert.DwqIdeal.τ).loc Cert.DwqIdeal.main_arg0) = m ((c.tc : Thread Cert.DwqIdeal.nD Cert.DwqIdeal.τ).loc Cert.DwqIdeal.main_arg0)
          ∧ r.2.mem ((c.tc : Thread Cert.DwqIdeal.nD Cert.DwqIdeal.τ).loc Cert.DwqIdeal.main_arg1) = m ((c.tc : Thread Cert.DwqIdeal.nD Cert.DwqIdeal.τ).loc Cert.DwqIdeal.main_arg1))
      ∧ θ_run (Cert.DwqRefIdeal.defs (F := Ideal)) (onTc (τ := Cert.DwqRefIdeal.τ) (Cert.DwqRefIdeal.main (F := Ideal))) ⟨m', fun _ => 0, g'⟩ (fun r => ∀ c : Dev Cert.DwqRefIdeal.nD,
          r.2.mem ((c.tc : Thread Cert.DwqRefIdeal.nD Cert.DwqRefIdeal.τ).loc Cert.DwqRefIdeal.main_v8) = v0 c
          ∧ r.2.mem ((c.tc : Thread Cert.DwqRefIdeal.nD Cert.DwqRefIdeal.τ).loc Cert.DwqRefIdeal.main_arg0) = m' ((c.tc : Thread Cert.DwqRefIdeal.nD Cert.DwqRefIdeal.τ).loc Cert.DwqRefIdeal.main_arg0)
          ∧ r.2.mem ((c.tc : Thread Cert.DwqRefIdeal.nD Cert.DwqRefIdeal.τ).loc Cert.DwqRefIdeal.main_arg1) = m' ((c.tc : Thread Cert.DwqRefIdeal.nD Cert.DwqRefIdeal.τ).loc Cert.DwqRefIdeal.main_arg1))

def preserves_Dwk_DwkIdeal : Prop :=
  True

def algebraic_DwkIdeal_DwkRefIdeal [hDwkIdeal : Cert.DwkIdeal.Facts] [hDwkRefIdeal : Cert.DwkRefIdeal.Facts] : Prop :=
  ∀ (m : (ℓ : Loc Cert.DwkIdeal.nD Cert.DwkIdeal.τ Cert.DwkIdeal.sig) → Buf (Elt Ideal) ℓ) (g : Dev Cert.DwkIdeal.nD → PrngReg)
    (m' : (ℓ : Loc Cert.DwkRefIdeal.nD Cert.DwkRefIdeal.τ Cert.DwkRefIdeal.sig) → Buf (Elt Ideal) ℓ) (g' : Dev Cert.DwkRefIdeal.nD → PrngReg), Pre_DwkIdeal m →
    (∀ c : Dev Cert.DwkIdeal.nD,
      m' ((c.tc : Thread Cert.DwkRefIdeal.nD Cert.DwkRefIdeal.τ).loc Cert.DwkRefIdeal.main_arg0) = m ((c.tc : Thread Cert.DwkIdeal.nD Cert.DwkIdeal.τ).loc Cert.DwkIdeal.main_arg0)
      ∧ m' ((c.tc : Thread Cert.DwkRefIdeal.nD Cert.DwkRefIdeal.τ).loc Cert.DwkRefIdeal.main_arg1) = m ((c.tc : Thread Cert.DwkIdeal.nD Cert.DwkIdeal.τ).loc Cert.DwkIdeal.main_arg1)) →
    ∃ (v0 : (c : Dev Cert.DwkIdeal.nD) → Buf (Elt Ideal) ((c.tc : Thread Cert.DwkIdeal.nD Cert.DwkIdeal.τ).loc Cert.DwkIdeal.main_v1)),
      θ_run (Cert.DwkIdeal.defs (F := Ideal)) (onTc (τ := Cert.DwkIdeal.τ) (Cert.DwkIdeal.main (F := Ideal))) ⟨m, fun _ => 0, g⟩ (fun r => ∀ c : Dev Cert.DwkIdeal.nD,
          r.2.mem ((c.tc : Thread Cert.DwkIdeal.nD Cert.DwkIdeal.τ).loc Cert.DwkIdeal.main_v1) = v0 c
          ∧ r.2.mem ((c.tc : Thread Cert.DwkIdeal.nD Cert.DwkIdeal.τ).loc Cert.DwkIdeal.main_arg0) = m ((c.tc : Thread Cert.DwkIdeal.nD Cert.DwkIdeal.τ).loc Cert.DwkIdeal.main_arg0)
          ∧ r.2.mem ((c.tc : Thread Cert.DwkIdeal.nD Cert.DwkIdeal.τ).loc Cert.DwkIdeal.main_arg1) = m ((c.tc : Thread Cert.DwkIdeal.nD Cert.DwkIdeal.τ).loc Cert.DwkIdeal.main_arg1))
      ∧ θ_run (Cert.DwkRefIdeal.defs (F := Ideal)) (onTc (τ := Cert.DwkRefIdeal.τ) (Cert.DwkRefIdeal.main (F := Ideal))) ⟨m', fun _ => 0, g'⟩ (fun r => ∀ c : Dev Cert.DwkRefIdeal.nD,
          r.2.mem ((c.tc : Thread Cert.DwkRefIdeal.nD Cert.DwkRefIdeal.τ).loc Cert.DwkRefIdeal.main_v7) = v0 c
          ∧ r.2.mem ((c.tc : Thread Cert.DwkRefIdeal.nD Cert.DwkRefIdeal.τ).loc Cert.DwkRefIdeal.main_arg0) = m' ((c.tc : Thread Cert.DwkRefIdeal.nD Cert.DwkRefIdeal.τ).loc Cert.DwkRefIdeal.main_arg0)
          ∧ r.2.mem ((c.tc : Thread Cert.DwkRefIdeal.nD Cert.DwkRefIdeal.τ).loc Cert.DwkRefIdeal.main_arg1) = m' ((c.tc : Thread Cert.DwkRefIdeal.nD Cert.DwkRefIdeal.τ).loc Cert.DwkRefIdeal.main_arg1))

def preserves_Dwv_DwvIdeal : Prop :=
  True

def algebraic_DwvIdeal_DwvRefIdeal [hDwvIdeal : Cert.DwvIdeal.Facts] [hDwvRefIdeal : Cert.DwvRefIdeal.Facts] : Prop :=
  ∀ (m : (ℓ : Loc Cert.DwvIdeal.nD Cert.DwvIdeal.τ Cert.DwvIdeal.sig) → Buf (Elt Ideal) ℓ) (g : Dev Cert.DwvIdeal.nD → PrngReg)
    (m' : (ℓ : Loc Cert.DwvRefIdeal.nD Cert.DwvRefIdeal.τ Cert.DwvRefIdeal.sig) → Buf (Elt Ideal) ℓ) (g' : Dev Cert.DwvRefIdeal.nD → PrngReg), Pre_DwvIdeal m →
    (∀ c : Dev Cert.DwvIdeal.nD,
      m' ((c.tc : Thread Cert.DwvRefIdeal.nD Cert.DwvRefIdeal.τ).loc Cert.DwvRefIdeal.main_arg0) = m ((c.tc : Thread Cert.DwvIdeal.nD Cert.DwvIdeal.τ).loc Cert.DwvIdeal.main_arg0)
      ∧ m' ((c.tc : Thread Cert.DwvRefIdeal.nD Cert.DwvRefIdeal.τ).loc Cert.DwvRefIdeal.main_arg1) = m ((c.tc : Thread Cert.DwvIdeal.nD Cert.DwvIdeal.τ).loc Cert.DwvIdeal.main_arg1)) →
    ∃ (v0 : (c : Dev Cert.DwvIdeal.nD) → Buf (Elt Ideal) ((c.tc : Thread Cert.DwvIdeal.nD Cert.DwvIdeal.τ).loc Cert.DwvIdeal.main_v1)),
      θ_run (Cert.DwvIdeal.defs (F := Ideal)) (onTc (τ := Cert.DwvIdeal.τ) (Cert.DwvIdeal.main (F := Ideal))) ⟨m, fun _ => 0, g⟩ (fun r => ∀ c : Dev Cert.DwvIdeal.nD,
          r.2.mem ((c.tc : Thread Cert.DwvIdeal.nD Cert.DwvIdeal.τ).loc Cert.DwvIdeal.main_v1) = v0 c
          ∧ r.2.mem ((c.tc : Thread Cert.DwvIdeal.nD Cert.DwvIdeal.τ).loc Cert.DwvIdeal.main_arg0) = m ((c.tc : Thread Cert.DwvIdeal.nD Cert.DwvIdeal.τ).loc Cert.DwvIdeal.main_arg0)
          ∧ r.2.mem ((c.tc : Thread Cert.DwvIdeal.nD Cert.DwvIdeal.τ).loc Cert.DwvIdeal.main_arg1) = m ((c.tc : Thread Cert.DwvIdeal.nD Cert.DwvIdeal.τ).loc Cert.DwvIdeal.main_arg1))
      ∧ θ_run (Cert.DwvRefIdeal.defs (F := Ideal)) (onTc (τ := Cert.DwvRefIdeal.τ) (Cert.DwvRefIdeal.main (F := Ideal))) ⟨m', fun _ => 0, g'⟩ (fun r => ∀ c : Dev Cert.DwvRefIdeal.nD,
          r.2.mem ((c.tc : Thread Cert.DwvRefIdeal.nD Cert.DwvRefIdeal.τ).loc Cert.DwvRefIdeal.main_v7) = v0 c
          ∧ r.2.mem ((c.tc : Thread Cert.DwvRefIdeal.nD Cert.DwvRefIdeal.τ).loc Cert.DwvRefIdeal.main_arg0) = m' ((c.tc : Thread Cert.DwvRefIdeal.nD Cert.DwvRefIdeal.τ).loc Cert.DwvRefIdeal.main_arg0)
          ∧ r.2.mem ((c.tc : Thread Cert.DwvRefIdeal.nD Cert.DwvRefIdeal.τ).loc Cert.DwvRefIdeal.main_arg1) = m' ((c.tc : Thread Cert.DwvRefIdeal.nD Cert.DwvRefIdeal.τ).loc Cert.DwvRefIdeal.main_arg1))

def preserves_AttB_AttBIdeal : Prop :=
  IdealRules.named_const.Statement Cert.AttBIdeal.κ "mask" .f32 0xF149F2CA#32 ⊥

def algebraic_AttBIdeal_AttBRefIdeal_pre_att_finite [hAttBIdeal : Cert.AttBIdeal.Facts] [hAttBRefIdeal : Cert.AttBRefIdeal.Facts] [hPre_att_finite : Cert.Pre_att_finite.Facts] : Prop :=
  ∀ (m : (ℓ : Loc Cert.AttBIdeal.nD Cert.AttBIdeal.τ Cert.AttBIdeal.sig) → Buf (Elt Ideal) ℓ) (g : Dev Cert.AttBIdeal.nD → PrngReg)
    (m' : (ℓ : Loc Cert.AttBRefIdeal.nD Cert.AttBRefIdeal.τ Cert.AttBRefIdeal.sig) → Buf (Elt Ideal) ℓ) (g' : Dev Cert.AttBRefIdeal.nD → PrngReg), Pre_AttBIdeal_att_finite m →
    (∀ c : Dev Cert.AttBIdeal.nD,
      m' ((c.tc : Thread Cert.AttBRefIdeal.nD Cert.AttBRefIdeal.τ).loc Cert.AttBRefIdeal.main_arg0) = m ((c.tc : Thread Cert.AttBIdeal.nD Cert.AttBIdeal.τ).loc Cert.AttBIdeal.main_arg0)
      ∧ m' ((c.tc : Thread Cert.AttBRefIdeal.nD Cert.AttBRefIdeal.τ).loc Cert.AttBRefIdeal.main_arg1) = m ((c.tc : Thread Cert.AttBIdeal.nD Cert.AttBIdeal.τ).loc Cert.AttBIdeal.main_arg1)
      ∧ m' ((c.tc : Thread Cert.AttBRefIdeal.nD Cert.AttBRefIdeal.τ).loc Cert.AttBRefIdeal.main_arg2) = m ((c.tc : Thread Cert.AttBIdeal.nD Cert.AttBIdeal.τ).loc Cert.AttBIdeal.main_arg2)
      ∧ m' ((c.tc : Thread Cert.AttBRefIdeal.nD Cert.AttBRefIdeal.τ).loc Cert.AttBRefIdeal.main_arg3) = m ((c.tc : Thread Cert.AttBIdeal.nD Cert.AttBIdeal.τ).loc Cert.AttBIdeal.main_arg3)) →
    ∃ (v0 : (c : Dev Cert.AttBIdeal.nD) → Buf (Elt Ideal) ((c.tc : Thread Cert.AttBIdeal.nD Cert.AttBIdeal.τ).loc Cert.AttBIdeal.main_v2_0)) (v1 : (c : Dev Cert.AttBIdeal.nD) → Buf (Elt Ideal) ((c.tc : Thread Cert.AttBIdeal.nD Cert.AttBIdeal.τ).loc Cert.AttBIdeal.main_v2_1)) (v2 : (c : Dev Cert.AttBIdeal.nD) → Buf (Elt Ideal) ((c.tc : Thread Cert.AttBIdeal.nD Cert.AttBIdeal.τ).loc Cert.AttBIdeal.main_v2_2)),
      θ_run (Cert.AttBIdeal.defs (F := Ideal)) (onTc (τ := Cert.AttBIdeal.τ) (Cert.AttBIdeal.main (F := Ideal))) ⟨m, fun _ => 0, g⟩ (fun r => ∀ c : Dev Cert.AttBIdeal.nD,
          r.2.mem ((c.tc : Thread Cert.AttBIdeal.nD Cert.AttBIdeal.τ).loc Cert.AttBIdeal.main_v2_0) = v0 c
          ∧ r.2.mem ((c.tc : Thread Cert.AttBIdeal.nD Cert.AttBIdeal.τ).loc Cert.AttBIdeal.main_v2_1) = v1 c
          ∧ r.2.mem ((c.tc : Thread Cert.AttBIdeal.nD Cert.AttBIdeal.τ).loc Cert.AttBIdeal.main_v2_2) = v2 c
          ∧ r.2.mem ((c.tc : Thread Cert.AttBIdeal.nD Cert.AttBIdeal.τ).loc Cert.AttBIdeal.main_arg0) = m ((c.tc : Thread Cert.AttBIdeal.nD Cert.AttBIdeal.τ).loc Cert.AttBIdeal.main_arg0)
          ∧ r.2.mem ((c.tc : Thread Cert.AttBIdeal.nD Cert.AttBIdeal.τ).loc Cert.AttBIdeal.main_arg1) = m ((c.tc : Thread Cert.AttBIdeal.nD Cert.AttBIdeal.τ).loc Cert.AttBIdeal.main_arg1)
          ∧ r.2.mem ((c.tc : Thread Cert.AttBIdeal.nD Cert.AttBIdeal.τ).loc Cert.AttBIdeal.main_arg2) = m ((c.tc : Thread Cert.AttBIdeal.nD Cert.AttBIdeal.τ).loc Cert.AttBIdeal.main_arg2)
          ∧ r.2.mem ((c.tc : Thread Cert.AttBIdeal.nD Cert.AttBIdeal.τ).loc Cert.AttBIdeal.main_arg3) = m ((c.tc : Thread Cert.AttBIdeal.nD Cert.AttBIdeal.τ).loc Cert.AttBIdeal.main_arg3))
      ∧ θ_run (Cert.AttBRefIdeal.defs (F := Ideal)) (onTc (τ := Cert.AttBRefIdeal.τ) (Cert.AttBRefIdeal.main (F := Ideal))) ⟨m', fun _ => 0, g'⟩ (fun r => ∀ c : Dev Cert.AttBRefIdeal.nD,
          r.2.mem ((c.tc : Thread Cert.AttBRefIdeal.nD Cert.AttBRefIdeal.τ).loc Cert.AttBRefIdeal.main_v70) = v0 c
          ∧ r.2.mem ((c.tc : Thread Cert.AttBRefIdeal.nD Cert.AttBRefIdeal.τ).loc Cert.AttBRefIdeal.main_v69) = v1 c
          ∧ r.2.mem ((c.tc : Thread Cert.AttBRefIdeal.nD Cert.AttBRefIdeal.τ).loc Cert.AttBRefIdeal.main_v68) = v2 c
          ∧ r.2.mem ((c.tc : Thread Cert.AttBRefIdeal.nD Cert.AttBRefIdeal.τ).loc Cert.AttBRefIdeal.main_arg0) = m' ((c.tc : Thread Cert.AttBRefIdeal.nD Cert.AttBRefIdeal.τ).loc Cert.AttBRefIdeal.main_arg0)
          ∧ r.2.mem ((c.tc : Thread Cert.AttBRefIdeal.nD Cert.AttBRefIdeal.τ).loc Cert.AttBRefIdeal.main_arg1) = m' ((c.tc : Thread Cert.AttBRefIdeal.nD Cert.AttBRefIdeal.τ).loc Cert.AttBRefIdeal.main_arg1)
          ∧ r.2.mem ((c.tc : Thread Cert.AttBRefIdeal.nD Cert.AttBRefIdeal.τ).loc Cert.AttBRefIdeal.main_arg2) = m' ((c.tc : Thread Cert.AttBRefIdeal.nD Cert.AttBRefIdeal.τ).loc Cert.AttBRefIdeal.main_arg2)
          ∧ r.2.mem ((c.tc : Thread Cert.AttBRefIdeal.nD Cert.AttBRefIdeal.τ).loc Cert.AttBRefIdeal.main_arg3) = m' ((c.tc : Thread Cert.AttBRefIdeal.nD Cert.AttBRefIdeal.τ).loc Cert.AttBRefIdeal.main_arg3))

def preserves_AttF_AttFIdeal : Prop :=
  IdealRules.named_const.Statement Cert.AttFIdeal.κ "mask" .f32 0xF149F2CA#32 ⊥

def algebraic_AttFIdeal_AttFRefIdeal_pre_scores_finite [hAttFIdeal : Cert.AttFIdeal.Facts] [hAttFRefIdeal : Cert.AttFRefIdeal.Facts] [hPre_scores_finite : Cert.Pre_scores_finite.Facts] : Prop :=
  ∀ (m : (ℓ : Loc Cert.AttFIdeal.nD Cert.AttFIdeal.τ Cert.AttFIdeal.sig) → Buf (Elt Ideal) ℓ) (g : Dev Cert.AttFIdeal.nD → PrngReg)
    (m' : (ℓ : Loc Cert.AttFRefIdeal.nD Cert.AttFRefIdeal.τ Cert.AttFRefIdeal.sig) → Buf (Elt Ideal) ℓ) (g' : Dev Cert.AttFRefIdeal.nD → PrngReg), Pre_AttFIdeal_scores_finite m →
    (∀ c : Dev Cert.AttFIdeal.nD,
      m' ((c.tc : Thread Cert.AttFRefIdeal.nD Cert.AttFRefIdeal.τ).loc Cert.AttFRefIdeal.main_arg0) = m ((c.tc : Thread Cert.AttFIdeal.nD Cert.AttFIdeal.τ).loc Cert.AttFIdeal.main_arg0)
      ∧ m' ((c.tc : Thread Cert.AttFRefIdeal.nD Cert.AttFRefIdeal.τ).loc Cert.AttFRefIdeal.main_arg1) = m ((c.tc : Thread Cert.AttFIdeal.nD Cert.AttFIdeal.τ).loc Cert.AttFIdeal.main_arg1)
      ∧ m' ((c.tc : Thread Cert.AttFRefIdeal.nD Cert.AttFRefIdeal.τ).loc Cert.AttFRefIdeal.main_arg2) = m ((c.tc : Thread Cert.AttFIdeal.nD Cert.AttFIdeal.τ).loc Cert.AttFIdeal.main_arg2)) →
    ∃ (v0 : (c : Dev Cert.AttFIdeal.nD) → Buf (Elt Ideal) ((c.tc : Thread Cert.AttFIdeal.nD Cert.AttFIdeal.τ).loc Cert.AttFIdeal.main_v1)),
      θ_run (Cert.AttFIdeal.defs (F := Ideal)) (onTc (τ := Cert.AttFIdeal.τ) (Cert.AttFIdeal.main (F := Ideal))) ⟨m, fun _ => 0, g⟩ (fun r => ∀ c : Dev Cert.AttFIdeal.nD,
          r.2.mem ((c.tc : Thread Cert.AttFIdeal.nD Cert.AttFIdeal.τ).loc Cert.AttFIdeal.main_v1) = v0 c
          ∧ r.2.mem ((c.tc : Thread Cert.AttFIdeal.nD Cert.AttFIdeal.τ).loc Cert.AttFIdeal.main_arg0) = m ((c.tc : Thread Cert.AttFIdeal.nD Cert.AttFIdeal.τ).loc Cert.AttFIdeal.main_arg0)
          ∧ r.2.mem ((c.tc : Thread Cert.AttFIdeal.nD Cert.AttFIdeal.τ).loc Cert.AttFIdeal.main_arg1) = m ((c.tc : Thread Cert.AttFIdeal.nD Cert.AttFIdeal.τ).loc Cert.AttFIdeal.main_arg1)
          ∧ r.2.mem ((c.tc : Thread Cert.AttFIdeal.nD Cert.AttFIdeal.τ).loc Cert.AttFIdeal.main_arg2) = m ((c.tc : Thread Cert.AttFIdeal.nD Cert.AttFIdeal.τ).loc Cert.AttFIdeal.main_arg2))
      ∧ θ_run (Cert.AttFRefIdeal.defs (F := Ideal)) (onTc (τ := Cert.AttFRefIdeal.τ) (Cert.AttFRefIdeal.main (F := Ideal))) ⟨m', fun _ => 0, g'⟩ (fun r => ∀ c : Dev Cert.AttFRefIdeal.nD,
          r.2.mem ((c.tc : Thread Cert.AttFRefIdeal.nD Cert.AttFRefIdeal.τ).loc Cert.AttFRefIdeal.main_v28) = v0 c
          ∧ r.2.mem ((c.tc : Thread Cert.AttFRefIdeal.nD Cert.AttFRefIdeal.τ).loc Cert.AttFRefIdeal.main_arg0) = m' ((c.tc : Thread Cert.AttFRefIdeal.nD Cert.AttFRefIdeal.τ).loc Cert.AttFRefIdeal.main_arg0)
          ∧ r.2.mem ((c.tc : Thread Cert.AttFRefIdeal.nD Cert.AttFRefIdeal.τ).loc Cert.AttFRefIdeal.main_arg1) = m' ((c.tc : Thread Cert.AttFRefIdeal.nD Cert.AttFRefIdeal.τ).loc Cert.AttFRefIdeal.main_arg1)
          ∧ r.2.mem ((c.tc : Thread Cert.AttFRefIdeal.nD Cert.AttFRefIdeal.τ).loc Cert.AttFRefIdeal.main_arg2) = m' ((c.tc : Thread Cert.AttFRefIdeal.nD Cert.AttFRefIdeal.τ).loc Cert.AttFRefIdeal.main_arg2))

def preserves_LatB_LatBIdeal : Prop :=
  True

def algebraic_LatBIdeal_LatBRefIdeal [hLatBIdeal : Cert.LatBIdeal.Facts] [hLatBRefIdeal : Cert.LatBRefIdeal.Facts] : Prop :=
  ∀ (m : (ℓ : Loc Cert.LatBIdeal.nD Cert.LatBIdeal.τ Cert.LatBIdeal.sig) → Buf (Elt Ideal) ℓ) (g : Dev Cert.LatBIdeal.nD → PrngReg)
    (m' : (ℓ : Loc Cert.LatBRefIdeal.nD Cert.LatBRefIdeal.τ Cert.LatBRefIdeal.sig) → Buf (Elt Ideal) ℓ) (g' : Dev Cert.LatBRefIdeal.nD → PrngReg), Pre_LatBIdeal m →
    (∀ c : Dev Cert.LatBIdeal.nD,
      m' ((c.tc : Thread Cert.LatBRefIdeal.nD Cert.LatBRefIdeal.τ).loc Cert.LatBRefIdeal.main_arg0) = m ((c.tc : Thread Cert.LatBIdeal.nD Cert.LatBIdeal.τ).loc Cert.LatBIdeal.main_arg0)
      ∧ m' ((c.tc : Thread Cert.LatBRefIdeal.nD Cert.LatBRefIdeal.τ).loc Cert.LatBRefIdeal.main_arg1) = m ((c.tc : Thread Cert.LatBIdeal.nD Cert.LatBIdeal.τ).loc Cert.LatBIdeal.main_arg1)
      ∧ m' ((c.tc : Thread Cert.LatBRefIdeal.nD Cert.LatBRefIdeal.τ).loc Cert.LatBRefIdeal.main_arg2) = m ((c.tc : Thread Cert.LatBIdeal.nD Cert.LatBIdeal.τ).loc Cert.LatBIdeal.main_arg2)
      ∧ m' ((c.tc : Thread Cert.LatBRefIdeal.nD Cert.LatBRefIdeal.τ).loc Cert.LatBRefIdeal.main_arg3) = m ((c.tc : Thread Cert.LatBIdeal.nD Cert.LatBIdeal.τ).loc Cert.LatBIdeal.main_arg3)
      ∧ m' ((c.tc : Thread Cert.LatBRefIdeal.nD Cert.LatBRefIdeal.τ).loc Cert.LatBRefIdeal.main_arg4) = m ((c.tc : Thread Cert.LatBIdeal.nD Cert.LatBIdeal.τ).loc Cert.LatBIdeal.main_arg4)
      ∧ m' ((c.tc : Thread Cert.LatBRefIdeal.nD Cert.LatBRefIdeal.τ).loc Cert.LatBRefIdeal.main_arg5) = m ((c.tc : Thread Cert.LatBIdeal.nD Cert.LatBIdeal.τ).loc Cert.LatBIdeal.main_arg5)
      ∧ m' ((c.tc : Thread Cert.LatBRefIdeal.nD Cert.LatBRefIdeal.τ).loc Cert.LatBRefIdeal.main_arg6) = m ((c.tc : Thread Cert.LatBIdeal.nD Cert.LatBIdeal.τ).loc Cert.LatBIdeal.main_arg6)) →
    ∃ (v0 : (c : Dev Cert.LatBIdeal.nD) → Buf (Elt Ideal) ((c.tc : Thread Cert.LatBIdeal.nD Cert.LatBIdeal.τ).loc Cert.LatBIdeal.main_v44_0)) (v1 : (c : Dev Cert.LatBIdeal.nD) → Buf (Elt Ideal) ((c.tc : Thread Cert.LatBIdeal.nD Cert.LatBIdeal.τ).loc Cert.LatBIdeal.main_v44_1)) (v2 : (c : Dev Cert.LatBIdeal.nD) → Buf (Elt Ideal) ((c.tc : Thread Cert.LatBIdeal.nD Cert.LatBIdeal.τ).loc Cert.LatBIdeal.main_v44_2)) (v3 : (c : Dev Cert.LatBIdeal.nD) → Buf (Elt Ideal) ((c.tc : Thread Cert.LatBIdeal.nD Cert.LatBIdeal.τ).loc Cert.LatBIdeal.main_v44_3)),
      θ_run (Cert.LatBIdeal.defs (F := Ideal)) (onTc (τ := Cert.LatBIdeal.τ) (Cert.LatBIdeal.main (F := Ideal))) ⟨m, fun _ => 0, g⟩ (fun r => ∀ c : Dev Cert.LatBIdeal.nD,
          r.2.mem ((c.tc : Thread Cert.LatBIdeal.nD Cert.LatBIdeal.τ).loc Cert.LatBIdeal.main_v44_0) = v0 c
          ∧ r.2.mem ((c.tc : Thread Cert.LatBIdeal.nD Cert.LatBIdeal.τ).loc Cert.LatBIdeal.main_v44_1) = v1 c
          ∧ r.2.mem ((c.tc : Thread Cert.LatBIdeal.nD Cert.LatBIdeal.τ).loc Cert.LatBIdeal.main_v44_2) = v2 c
          ∧ r.2.mem ((c.tc : Thread Cert.LatBIdeal.nD Cert.LatBIdeal.τ).loc Cert.LatBIdeal.main_v44_3) = v3 c
          ∧ r.2.mem ((c.tc : Thread Cert.LatBIdeal.nD Cert.LatBIdeal.τ).loc Cert.LatBIdeal.main_arg0) = m ((c.tc : Thread Cert.LatBIdeal.nD Cert.LatBIdeal.τ).loc Cert.LatBIdeal.main_arg0)
          ∧ r.2.mem ((c.tc : Thread Cert.LatBIdeal.nD Cert.LatBIdeal.τ).loc Cert.LatBIdeal.main_arg1) = m ((c.tc : Thread Cert.LatBIdeal.nD Cert.LatBIdeal.τ).loc Cert.LatBIdeal.main_arg1)
          ∧ r.2.mem ((c.tc : Thread Cert.LatBIdeal.nD Cert.LatBIdeal.τ).loc Cert.LatBIdeal.main_arg2) = m ((c.tc : Thread Cert.LatBIdeal.nD Cert.LatBIdeal.τ).loc Cert.LatBIdeal.main_arg2)
          ∧ r.2.mem ((c.tc : Thread Cert.LatBIdeal.nD Cert.LatBIdeal.τ).loc Cert.LatBIdeal.main_arg3) = m ((c.tc : Thread Cert.LatBIdeal.nD Cert.LatBIdeal.τ).loc Cert.LatBIdeal.main_arg3)
          ∧ r.2.mem ((c.tc : Thread Cert.LatBIdeal.nD Cert.LatBIdeal.τ).loc Cert.LatBIdeal.main_arg4) = m ((c.tc : Thread Cert.LatBIdeal.nD Cert.LatBIdeal.τ).loc Cert.LatBIdeal.main_arg4)
          ∧ r.2.mem ((c.tc : Thread Cert.LatBIdeal.nD Cert.LatBIdeal.τ).loc Cert.LatBIdeal.main_arg5) = m ((c.tc : Thread Cert.LatBIdeal.nD Cert.LatBIdeal.τ).loc Cert.LatBIdeal.main_arg5)
          ∧ r.2.mem ((c.tc : Thread Cert.LatBIdeal.nD Cert.LatBIdeal.τ).loc Cert.LatBIdeal.main_arg6) = m ((c.tc : Thread Cert.LatBIdeal.nD Cert.LatBIdeal.τ).loc Cert.LatBIdeal.main_arg6))
      ∧ θ_run (Cert.LatBRefIdeal.defs (F := Ideal)) (onTc (τ := Cert.LatBRefIdeal.τ) (Cert.LatBRefIdeal.main (F := Ideal))) ⟨m', fun _ => 0, g'⟩ (fun r => ∀ c : Dev Cert.LatBRefIdeal.nD,
          r.2.mem ((c.tc : Thread Cert.LatBRefIdeal.nD Cert.LatBRefIdeal.τ).loc Cert.LatBRefIdeal.main_v43) = v0 c
          ∧ r.2.mem ((c.tc : Thread Cert.LatBRefIdeal.nD Cert.LatBRefIdeal.τ).loc Cert.LatBRefIdeal.main_v67) = v1 c
          ∧ r.2.mem ((c.tc : Thread Cert.LatBRefIdeal.nD Cert.LatBRefIdeal.τ).loc Cert.LatBRefIdeal.main_v69) = v2 c
          ∧ r.2.mem ((c.tc : Thread Cert.LatBRefIdeal.nD Cert.LatBRefIdeal.τ).loc Cert.LatBRefIdeal.main_v63) = v3 c
          ∧ r.2.mem ((c.tc : Thread Cert.LatBRefIdeal.nD Cert.LatBRefIdeal.τ).loc Cert.LatBRefIdeal.main_arg0) = m' ((c.tc : Thread Cert.LatBRefIdeal.nD Cert.LatBRefIdeal.τ).loc Cert.LatBRefIdeal.main_arg0)
          ∧ r.2.mem ((c.tc : Thread Cert.LatBRefIdeal.nD Cert.LatBRefIdeal.τ).loc Cert.LatBRefIdeal.main_arg1) = m' ((c.tc : Thread Cert.LatBRefIdeal.nD Cert.LatBRefIdeal.τ).loc Cert.LatBRefIdeal.main_arg1)
          ∧ r.2.mem ((c.tc : Thread Cert.LatBRefIdeal.nD Cert.LatBRefIdeal.τ).loc Cert.LatBRefIdeal.main_arg2) = m' ((c.tc : Thread Cert.LatBRefIdeal.nD Cert.LatBRefIdeal.τ).loc Cert.LatBRefIdeal.main_arg2)
          ∧ r.2.mem ((c.tc : Thread Cert.LatBRefIdeal.nD Cert.LatBRefIdeal.τ).loc Cert.LatBRefIdeal.main_arg3) = m' ((c.tc : Thread Cert.LatBRefIdeal.nD Cert.LatBRefIdeal.τ).loc Cert.LatBRefIdeal.main_arg3)
          ∧ r.2.mem ((c.tc : Thread Cert.LatBRefIdeal.nD Cert.LatBRefIdeal.τ).loc Cert.LatBRefIdeal.main_arg4) = m' ((c.tc : Thread Cert.LatBRefIdeal.nD Cert.LatBRefIdeal.τ).loc Cert.LatBRefIdeal.main_arg4)
          ∧ r.2.mem ((c.tc : Thread Cert.LatBRefIdeal.nD Cert.LatBRefIdeal.τ).loc Cert.LatBRefIdeal.main_arg5) = m' ((c.tc : Thread Cert.LatBRefIdeal.nD Cert.LatBRefIdeal.τ).loc Cert.LatBRefIdeal.main_arg5)
          ∧ r.2.mem ((c.tc : Thread Cert.LatBRefIdeal.nD Cert.LatBRefIdeal.τ).loc Cert.LatBRefIdeal.main_arg6) = m' ((c.tc : Thread Cert.LatBRefIdeal.nD Cert.LatBRefIdeal.τ).loc Cert.LatBRefIdeal.main_arg6))

def preserves_Lat_LatIdeal : Prop :=
  True

def algebraic_LatIdeal_LatRefIdeal [hLatIdeal : Cert.LatIdeal.Facts] [hLatRefIdeal : Cert.LatRefIdeal.Facts] : Prop :=
  ∀ (m : (ℓ : Loc Cert.LatIdeal.nD Cert.LatIdeal.τ Cert.LatIdeal.sig) → Buf (Elt Ideal) ℓ) (g : Dev Cert.LatIdeal.nD → PrngReg)
    (m' : (ℓ : Loc Cert.LatRefIdeal.nD Cert.LatRefIdeal.τ Cert.LatRefIdeal.sig) → Buf (Elt Ideal) ℓ) (g' : Dev Cert.LatRefIdeal.nD → PrngReg), Pre_LatIdeal m →
    (∀ c : Dev Cert.LatIdeal.nD,
      m' ((c.tc : Thread Cert.LatRefIdeal.nD Cert.LatRefIdeal.τ).loc Cert.LatRefIdeal.main_arg0) = m ((c.tc : Thread Cert.LatIdeal.nD Cert.LatIdeal.τ).loc Cert.LatIdeal.main_arg0)
      ∧ m' ((c.tc : Thread Cert.LatRefIdeal.nD Cert.LatRefIdeal.τ).loc Cert.LatRefIdeal.main_arg1) = m ((c.tc : Thread Cert.LatIdeal.nD Cert.LatIdeal.τ).loc Cert.LatIdeal.main_arg1)
      ∧ m' ((c.tc : Thread Cert.LatRefIdeal.nD Cert.LatRefIdeal.τ).loc Cert.LatRefIdeal.main_arg2) = m ((c.tc : Thread Cert.LatIdeal.nD Cert.LatIdeal.τ).loc Cert.LatIdeal.main_arg2)
      ∧ m' ((c.tc : Thread Cert.LatRefIdeal.nD Cert.LatRefIdeal.τ).loc Cert.LatRefIdeal.main_arg3) = m ((c.tc : Thread Cert.LatIdeal.nD Cert.LatIdeal.τ).loc Cert.LatIdeal.main_arg3)
      ∧ m' ((c.tc : Thread Cert.LatRefIdeal.nD Cert.LatRefIdeal.τ).loc Cert.LatRefIdeal.main_arg4) = m ((c.tc : Thread Cert.LatIdeal.nD Cert.LatIdeal.τ).loc Cert.LatIdeal.main_arg4)
      ∧ m' ((c.tc : Thread Cert.LatRefIdeal.nD Cert.LatRefIdeal.τ).loc Cert.LatRefIdeal.main_arg5) = m ((c.tc : Thread Cert.LatIdeal.nD Cert.LatIdeal.τ).loc Cert.LatIdeal.main_arg5)
      ∧ m' ((c.tc : Thread Cert.LatRefIdeal.nD Cert.LatRefIdeal.τ).loc Cert.LatRefIdeal.main_arg6) = m ((c.tc : Thread Cert.LatIdeal.nD Cert.LatIdeal.τ).loc Cert.LatIdeal.main_arg6)) →
    ∃ (v0 : (c : Dev Cert.LatIdeal.nD) → Buf (Elt Ideal) ((c.tc : Thread Cert.LatIdeal.nD Cert.LatIdeal.τ).loc Cert.LatIdeal.main_v44_0)) (v1 : (c : Dev Cert.LatIdeal.nD) → Buf (Elt Ideal) ((c.tc : Thread Cert.LatIdeal.nD Cert.LatIdeal.τ).loc Cert.LatIdeal.main_v44_1)) (v2 : (c : Dev Cert.LatIdeal.nD) → Buf (Elt Ideal) ((c.tc : Thread Cert.LatIdeal.nD Cert.LatIdeal.τ).loc Cert.LatIdeal.main_v44_2)),
      θ_run (Cert.LatIdeal.defs (F := Ideal)) (onTc (τ := Cert.LatIdeal.τ) (Cert.LatIdeal.main (F := Ideal))) ⟨m, fun _ => 0, g⟩ (fun r => ∀ c : Dev Cert.LatIdeal.nD,
          r.2.mem ((c.tc : Thread Cert.LatIdeal.nD Cert.LatIdeal.τ).loc Cert.LatIdeal.main_v44_0) = v0 c
          ∧ r.2.mem ((c.tc : Thread Cert.LatIdeal.nD Cert.LatIdeal.τ).loc Cert.LatIdeal.main_v44_1) = v1 c
          ∧ r.2.mem ((c.tc : Thread Cert.LatIdeal.nD Cert.LatIdeal.τ).loc Cert.LatIdeal.main_v44_2) = v2 c
          ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
          ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
          ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
          ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
          ∧ r.2.mem ((c.tc : Thread Cert.LatIdeal.nD Cert.LatIdeal.τ).loc Cert.LatIdeal.main_arg4) = m ((c.tc : Thread Cert.LatIdeal.nD Cert.LatIdeal.τ).loc Cert.LatIdeal.main_arg4)
          ∧ r.2.mem ((c.tc : Thread Cert.LatIdeal.nD Cert.LatIdeal.τ).loc Cert.LatIdeal.main_arg5) = m ((c.tc : Thread Cert.LatIdeal.nD Cert.LatIdeal.τ).loc Cert.LatIdeal.main_arg5)
          ∧ r.2.mem ((c.tc : Thread Cert.LatIdeal.nD Cert.LatIdeal.τ).loc Cert.LatIdeal.main_arg6) = m ((c.tc : Thread Cert.LatIdeal.nD Cert.LatIdeal.τ).loc Cert.LatIdeal.main_arg6))
      ∧ θ_run (Cert.LatRefIdeal.defs (F := Ideal)) (onTc (τ := Cert.LatRefIdeal.τ) (Cert.LatRefIdeal.main (F := Ideal))) ⟨m', fun _ => 0, g'⟩ (fun r => ∀ c : Dev Cert.LatRefIdeal.nD,
          r.2.mem ((c.tc : Thread Cert.LatRefIdeal.nD Cert.LatRefIdeal.τ).loc Cert.LatRefIdeal.main_v31) = v0 c
          ∧ r.2.mem ((c.tc : Thread Cert.LatRefIdeal.nD Cert.LatRefIdeal.τ).loc Cert.LatRefIdeal.main_v33) = v1 c
          ∧ r.2.mem ((c.tc : Thread Cert.LatRefIdeal.nD Cert.LatRefIdeal.τ).loc Cert.LatRefIdeal.main_v35) = v2 c
          ∧ r.2.mem ((c.tc : Thread Cert.LatRefIdeal.nD Cert.LatRefIdeal.τ).loc Cert.LatRefIdeal.main_arg0) = m' ((c.tc : Thread Cert.LatRefIdeal.nD Cert.LatRefIdeal.τ).loc Cert.LatRefIdeal.main_arg0)
          ∧ r.2.mem ((c.tc : Thread Cert.LatRefIdeal.nD Cert.LatRefIdeal.τ).loc Cert.LatRefIdeal.main_arg1) = m' ((c.tc : Thread Cert.LatRefIdeal.nD Cert.LatRefIdeal.τ).loc Cert.LatRefIdeal.main_arg1)
          ∧ r.2.mem ((c.tc : Thread Cert.LatRefIdeal.nD Cert.LatRefIdeal.τ).loc Cert.LatRefIdeal.main_arg2) = m' ((c.tc : Thread Cert.LatRefIdeal.nD Cert.LatRefIdeal.τ).loc Cert.LatRefIdeal.main_arg2)
          ∧ r.2.mem ((c.tc : Thread Cert.LatRefIdeal.nD Cert.LatRefIdeal.τ).loc Cert.LatRefIdeal.main_arg3) = m' ((c.tc : Thread Cert.LatRefIdeal.nD Cert.LatRefIdeal.τ).loc Cert.LatRefIdeal.main_arg3)
          ∧ r.2.mem ((c.tc : Thread Cert.LatRefIdeal.nD Cert.LatRefIdeal.τ).loc Cert.LatRefIdeal.main_arg4) = m' ((c.tc : Thread Cert.LatRefIdeal.nD Cert.LatRefIdeal.τ).loc Cert.LatRefIdeal.main_arg4)
          ∧ r.2.mem ((c.tc : Thread Cert.LatRefIdeal.nD Cert.LatRefIdeal.τ).loc Cert.LatRefIdeal.main_arg5) = m' ((c.tc : Thread Cert.LatRefIdeal.nD Cert.LatRefIdeal.τ).loc Cert.LatRefIdeal.main_arg5)
          ∧ r.2.mem ((c.tc : Thread Cert.LatRefIdeal.nD Cert.LatRefIdeal.τ).loc Cert.LatRefIdeal.main_arg6) = m' ((c.tc : Thread Cert.LatRefIdeal.nD Cert.LatRefIdeal.τ).loc Cert.LatRefIdeal.main_arg6))

def preserves_CsDx_CsDxIdeal : Prop :=
  True

def algebraic_CsDxIdeal_CsDxRefIdeal [hCsDxIdeal : Cert.CsDxIdeal.Facts] [hCsDxRefIdeal : Cert.CsDxRefIdeal.Facts] : Prop :=
  ∀ (m : (ℓ : Loc Cert.CsDxIdeal.nD Cert.CsDxIdeal.τ Cert.CsDxIdeal.sig) → Buf (Elt Ideal) ℓ) (g : Dev Cert.CsDxIdeal.nD → PrngReg)
    (m' : (ℓ : Loc Cert.CsDxRefIdeal.nD Cert.CsDxRefIdeal.τ Cert.CsDxRefIdeal.sig) → Buf (Elt Ideal) ℓ) (g' : Dev Cert.CsDxRefIdeal.nD → PrngReg), Pre_CsDxIdeal m →
    (∀ c : Dev Cert.CsDxIdeal.nD,
      m' ((c.tc : Thread Cert.CsDxRefIdeal.nD Cert.CsDxRefIdeal.τ).loc Cert.CsDxRefIdeal.main_arg0) = m ((c.tc : Thread Cert.CsDxIdeal.nD Cert.CsDxIdeal.τ).loc Cert.CsDxIdeal.main_arg0)
      ∧ m' ((c.tc : Thread Cert.CsDxRefIdeal.nD Cert.CsDxRefIdeal.τ).loc Cert.CsDxRefIdeal.main_arg1) = m ((c.tc : Thread Cert.CsDxIdeal.nD Cert.CsDxIdeal.τ).loc Cert.CsDxIdeal.main_arg1)
      ∧ m' ((c.tc : Thread Cert.CsDxRefIdeal.nD Cert.CsDxRefIdeal.τ).loc Cert.CsDxRefIdeal.main_arg2) = m ((c.tc : Thread Cert.CsDxIdeal.nD Cert.CsDxIdeal.τ).loc Cert.CsDxIdeal.main_arg2)) →
    ∃ (v0 : (c : Dev Cert.CsDxIdeal.nD) → Buf (Elt Ideal) ((c.tc : Thread Cert.CsDxIdeal.nD Cert.CsDxIdeal.τ).loc Cert.CsDxIdeal.main_v34)),
      θ_run (Cert.CsDxIdeal.defs (F := Ideal)) (onTc (τ := Cert.CsDxIdeal.τ) (Cert.CsDxIdeal.main (F := Ideal))) ⟨m, fun _ => 0, g⟩ (fun r => ∀ c : Dev Cert.CsDxIdeal.nD,
          r.2.mem ((c.tc : Thread Cert.CsDxIdeal.nD Cert.CsDxIdeal.τ).loc Cert.CsDxIdeal.main_v34) = v0 c
          ∧ r.2.mem ((c.tc : Thread Cert.CsDxIdeal.nD Cert.CsDxIdeal.τ).loc Cert.CsDxIdeal.main_arg0) = m ((c.tc : Thread Cert.CsDxIdeal.nD Cert.CsDxIdeal.τ).loc Cert.CsDxIdeal.main_arg0)
          ∧ r.2.mem ((c.tc : Thread Cert.CsDxIdeal.nD Cert.CsDxIdeal.τ).loc Cert.CsDxIdeal.main_arg1) = m ((c.tc : Thread Cert.CsDxIdeal.nD Cert.CsDxIdeal.τ).loc Cert.CsDxIdeal.main_arg1)
          ∧ r.2.mem ((c.tc : Thread Cert.CsDxIdeal.nD Cert.CsDxIdeal.τ).loc Cert.CsDxIdeal.main_arg2) = m ((c.tc : Thread Cert.CsDxIdeal.nD Cert.CsDxIdeal.τ).loc Cert.CsDxIdeal.main_arg2))
      ∧ θ_run (Cert.CsDxRefIdeal.defs (F := Ideal)) (onTc (τ := Cert.CsDxRefIdeal.τ) (Cert.CsDxRefIdeal.main (F := Ideal))) ⟨m', fun _ => 0, g'⟩ (fun r => ∀ c : Dev Cert.CsDxRefIdeal.nD,
          r.2.mem ((c.tc : Thread Cert.CsDxRefIdeal.nD Cert.CsDxRefIdeal.τ).loc Cert.CsDxRefIdeal.main_v19) = v0 c
          ∧ r.2.mem ((c.tc : Thread Cert.CsDxRefIdeal.nD Cert.CsDxRefIdeal.τ).loc Cert.CsDxRefIdeal.main_arg0) = m' ((c.tc : Thread Cert.CsDxRefIdeal.nD Cert.CsDxRefIdeal.τ).loc Cert.CsDxRefIdeal.main_arg0)
          ∧ r.2.mem ((c.tc : Thread Cert.CsDxRefIdeal.nD Cert.CsDxRefIdeal.τ).loc Cert.CsDxRefIdeal.main_arg1) = m' ((c.tc : Thread Cert.CsDxRefIdeal.nD Cert.CsDxRefIdeal.τ).loc Cert.CsDxRefIdeal.main_arg1)
          ∧ r.2.mem ((c.tc : Thread Cert.CsDxRefIdeal.nD Cert.CsDxRefIdeal.τ).loc Cert.CsDxRefIdeal.main_arg2) = m' ((c.tc : Thread Cert.CsDxRefIdeal.nD Cert.CsDxRefIdeal.τ).loc Cert.CsDxRefIdeal.main_arg2))

def preserves_CsDw_CsDwIdeal : Prop :=
  True

def algebraic_CsDwIdeal_CsDwRefIdeal [hCsDwIdeal : Cert.CsDwIdeal.Facts] [hCsDwRefIdeal : Cert.CsDwRefIdeal.Facts] : Prop :=
  ∀ (m : (ℓ : Loc Cert.CsDwIdeal.nD Cert.CsDwIdeal.τ Cert.CsDwIdeal.sig) → Buf (Elt Ideal) ℓ) (g : Dev Cert.CsDwIdeal.nD → PrngReg)
    (m' : (ℓ : Loc Cert.CsDwRefIdeal.nD Cert.CsDwRefIdeal.τ Cert.CsDwRefIdeal.sig) → Buf (Elt Ideal) ℓ) (g' : Dev Cert.CsDwRefIdeal.nD → PrngReg), Pre_CsDwIdeal m →
    (∀ c : Dev Cert.CsDwIdeal.nD,
      m' ((c.tc : Thread Cert.CsDwRefIdeal.nD Cert.CsDwRefIdeal.τ).loc Cert.CsDwRefIdeal.main_arg0) = m ((c.tc : Thread Cert.CsDwIdeal.nD Cert.CsDwIdeal.τ).loc Cert.CsDwIdeal.main_arg0)
      ∧ m' ((c.tc : Thread Cert.CsDwRefIdeal.nD Cert.CsDwRefIdeal.τ).loc Cert.CsDwRefIdeal.main_arg1) = m ((c.tc : Thread Cert.CsDwIdeal.nD Cert.CsDwIdeal.τ).loc Cert.CsDwIdeal.main_arg1)) →
    ∃ (v0 : (c : Dev Cert.CsDwIdeal.nD) → Buf (Elt Ideal) ((c.tc : Thread Cert.CsDwIdeal.nD Cert.CsDwIdeal.τ).loc Cert.CsDwIdeal.main_v14)) (v1 : (c : Dev Cert.CsDwIdeal.nD) → Buf (Elt Ideal) ((c.tc : Thread Cert.CsDwIdeal.nD Cert.CsDwIdeal.τ).loc Cert.CsDwIdeal.main_v27)),
      θ_run (Cert.CsDwIdeal.defs (F := Ideal)) (onTc (τ := Cert.CsDwIdeal.τ) (Cert.CsDwIdeal.main (F := Ideal))) ⟨m, fun _ => 0, g⟩ (fun r => ∀ c : Dev Cert.CsDwIdeal.nD,
          r.2.mem ((c.tc : Thread Cert.CsDwIdeal.nD Cert.CsDwIdeal.τ).loc Cert.CsDwIdeal.main_v14) = v0 c
          ∧ r.2.mem ((c.tc : Thread Cert.CsDwIdeal.nD Cert.CsDwIdeal.τ).loc Cert.CsDwIdeal.main_v27) = v1 c
          ∧ r.2.mem ((c.tc : Thread Cert.CsDwIdeal.nD Cert.CsDwIdeal.τ).loc Cert.CsDwIdeal.main_arg0) = m ((c.tc : Thread Cert.CsDwIdeal.nD Cert.CsDwIdeal.τ).loc Cert.CsDwIdeal.main_arg0)
          ∧ r.2.mem ((c.tc : Thread Cert.CsDwIdeal.nD Cert.CsDwIdeal.τ).loc Cert.CsDwIdeal.main_arg1) = m ((c.tc : Thread Cert.CsDwIdeal.nD Cert.CsDwIdeal.τ).loc Cert.CsDwIdeal.main_arg1))
      ∧ θ_run (Cert.CsDwRefIdeal.defs (F := Ideal)) (onTc (τ := Cert.CsDwRefIdeal.τ) (Cert.CsDwRefIdeal.main (F := Ideal))) ⟨m', fun _ => 0, g'⟩ (fun r => ∀ c : Dev Cert.CsDwRefIdeal.nD,
          r.2.mem ((c.tc : Thread Cert.CsDwRefIdeal.nD Cert.CsDwRefIdeal.τ).loc Cert.CsDwRefIdeal.main_v17) = v0 c
          ∧ r.2.mem ((c.tc : Thread Cert.CsDwRefIdeal.nD Cert.CsDwRefIdeal.τ).loc Cert.CsDwRefIdeal.main_v15) = v1 c
          ∧ r.2.mem ((c.tc : Thread Cert.CsDwRefIdeal.nD Cert.CsDwRefIdeal.τ).loc Cert.CsDwRefIdeal.main_arg0) = m' ((c.tc : Thread Cert.CsDwRefIdeal.nD Cert.CsDwRefIdeal.τ).loc Cert.CsDwRefIdeal.main_arg0)
          ∧ r.2.mem ((c.tc : Thread Cert.CsDwRefIdeal.nD Cert.CsDwRefIdeal.τ).loc Cert.CsDwRefIdeal.main_arg1) = m' ((c.tc : Thread Cert.CsDwRefIdeal.nD Cert.CsDwRefIdeal.τ).loc Cert.CsDwRefIdeal.main_arg1))

def preserves_BuDw_BuDwIdeal : Prop :=
  True

def algebraic_BuDwIdeal_BuDwRefIdeal [hBuDwIdeal : Cert.BuDwIdeal.Facts] [hBuDwRefIdeal : Cert.BuDwRefIdeal.Facts] : Prop :=
  ∀ (m : (ℓ : Loc Cert.BuDwIdeal.nD Cert.BuDwIdeal.τ Cert.BuDwIdeal.sig) → Buf (Elt Ideal) ℓ) (g : Dev Cert.BuDwIdeal.nD → PrngReg)
    (m' : (ℓ : Loc Cert.BuDwRefIdeal.nD Cert.BuDwRefIdeal.τ Cert.BuDwRefIdeal.sig) → Buf (Elt Ideal) ℓ) (g' : Dev Cert.BuDwRefIdeal.nD → PrngReg), Pre_BuDwIdeal m →
    (∀ c : Dev Cert.BuDwIdeal.nD,
      m' ((c.tc : Thread Cert.BuDwRefIdeal.nD Cert.BuDwRefIdeal.τ).loc Cert.BuDwRefIdeal.main_arg0) = m ((c.tc : Thread Cert.BuDwIdeal.nD Cert.BuDwIdeal.τ).loc Cert.BuDwIdeal.main_arg0)
      ∧ m' ((c.tc : Thread Cert.BuDwRefIdeal.nD Cert.BuDwRefIdeal.τ).loc Cert.BuDwRefIdeal.main_arg1) = m ((c.tc : Thread Cert.BuDwIdeal.nD Cert.BuDwIdeal.τ).loc Cert.BuDwIdeal.main_arg1)) →
    ∃ (v0 : (c : Dev Cert.BuDwIdeal.nD) → Buf (Elt Ideal) ((c.tc : Thread Cert.BuDwIdeal.nD Cert.BuDwIdeal.τ).loc Cert.BuDwIdeal.main_v14)) (v1 : (c : Dev Cert.BuDwIdeal.nD) → Buf (Elt Ideal) ((c.tc : Thread Cert.BuDwIdeal.nD Cert.BuDwIdeal.τ).loc Cert.BuDwIdeal.main_v27)),
      θ_run (Cert.BuDwIdeal.defs (F := Ideal)) (onTc (τ := Cert.BuDwIdeal.τ) (Cert.BuDwIdeal.main (F := Ideal))) ⟨m, fun _ => 0, g⟩ (fun r => ∀ c : Dev Cert.BuDwIdeal.nD,
          r.2.mem ((c.tc : Thread Cert.BuDwIdeal.nD Cert.BuDwIdeal.τ).loc Cert.BuDwIdeal.main_v14) = v0 c
          ∧ r.2.mem ((c.tc : Thread Cert.BuDwIdeal.nD Cert.BuDwIdeal.τ).loc Cert.BuDwIdeal.main_v27) = v1 c
          ∧ r.2.mem ((c.tc : Thread Cert.BuDwIdeal.nD Cert.BuDwIdeal.τ).loc Cert.BuDwIdeal.main_arg0) = m ((c.tc : Thread Cert.BuDwIdeal.nD Cert.BuDwIdeal.τ).loc Cert.BuDwIdeal.main_arg0)
          ∧ r.2.mem ((c.tc : Thread Cert.BuDwIdeal.nD Cert.BuDwIdeal.τ).loc Cert.BuDwIdeal.main_arg1) = m ((c.tc : Thread Cert.BuDwIdeal.nD Cert.BuDwIdeal.τ).loc Cert.BuDwIdeal.main_arg1))
      ∧ θ_run (Cert.BuDwRefIdeal.defs (F := Ideal)) (onTc (τ := Cert.BuDwRefIdeal.τ) (Cert.BuDwRefIdeal.main (F := Ideal))) ⟨m', fun _ => 0, g'⟩ (fun r => ∀ c : Dev Cert.BuDwRefIdeal.nD,
          r.2.mem ((c.tc : Thread Cert.BuDwRefIdeal.nD Cert.BuDwRefIdeal.τ).loc Cert.BuDwRefIdeal.main_v18) = v0 c
          ∧ r.2.mem ((c.tc : Thread Cert.BuDwRefIdeal.nD Cert.BuDwRefIdeal.τ).loc Cert.BuDwRefIdeal.main_v20) = v1 c
          ∧ r.2.mem ((c.tc : Thread Cert.BuDwRefIdeal.nD Cert.BuDwRefIdeal.τ).loc Cert.BuDwRefIdeal.main_arg0) = m' ((c.tc : Thread Cert.BuDwRefIdeal.nD Cert.BuDwRefIdeal.τ).loc Cert.BuDwRefIdeal.main_arg0)
          ∧ r.2.mem ((c.tc : Thread Cert.BuDwRefIdeal.nD Cert.BuDwRefIdeal.τ).loc Cert.BuDwRefIdeal.main_arg1) = m' ((c.tc : Thread Cert.BuDwRefIdeal.nD Cert.BuDwRefIdeal.τ).loc Cert.BuDwRefIdeal.main_arg1))

def preserves_BuDx_BuDxIdeal : Prop :=
  True

def algebraic_BuDxIdeal_BuDxRefIdeal [hBuDxIdeal : Cert.BuDxIdeal.Facts] [hBuDxRefIdeal : Cert.BuDxRefIdeal.Facts] : Prop :=
  ∀ (m : (ℓ : Loc Cert.BuDxIdeal.nD Cert.BuDxIdeal.τ Cert.BuDxIdeal.sig) → Buf (Elt Ideal) ℓ) (g : Dev Cert.BuDxIdeal.nD → PrngReg)
    (m' : (ℓ : Loc Cert.BuDxRefIdeal.nD Cert.BuDxRefIdeal.τ Cert.BuDxRefIdeal.sig) → Buf (Elt Ideal) ℓ) (g' : Dev Cert.BuDxRefIdeal.nD → PrngReg), Pre_BuDxIdeal m →
    (∀ c : Dev Cert.BuDxIdeal.nD,
      m' ((c.tc : Thread Cert.BuDxRefIdeal.nD Cert.BuDxRefIdeal.τ).loc Cert.BuDxRefIdeal.main_arg0) = m ((c.tc : Thread Cert.BuDxIdeal.nD Cert.BuDxIdeal.τ).loc Cert.BuDxIdeal.main_arg0)
      ∧ m' ((c.tc : Thread Cert.BuDxRefIdeal.nD Cert.BuDxRefIdeal.τ).loc Cert.BuDxRefIdeal.main_arg1) = m ((c.tc : Thread Cert.BuDxIdeal.nD Cert.BuDxIdeal.τ).loc Cert.BuDxIdeal.main_arg1)
      ∧ m' ((c.tc : Thread Cert.BuDxRefIdeal.nD Cert.BuDxRefIdeal.τ).loc Cert.BuDxRefIdeal.main_arg2) = m ((c.tc : Thread Cert.BuDxIdeal.nD Cert.BuDxIdeal.τ).loc Cert.BuDxIdeal.main_arg2)
      ∧ m' ((c.tc : Thread Cert.BuDxRefIdeal.nD Cert.BuDxRefIdeal.τ).loc Cert.BuDxRefIdeal.main_arg3) = m ((c.tc : Thread Cert.BuDxIdeal.nD Cert.BuDxIdeal.τ).loc Cert.BuDxIdeal.main_arg3)) →
    ∃ (v0 : (c : Dev Cert.BuDxIdeal.nD) → Buf (Elt Ideal) ((c.tc : Thread Cert.BuDxIdeal.nD Cert.BuDxIdeal.τ).loc Cert.BuDxIdeal.main_v33)),
      θ_run (Cert.BuDxIdeal.defs (F := Ideal)) (onTc (τ := Cert.BuDxIdeal.τ) (Cert.BuDxIdeal.main (F := Ideal))) ⟨m, fun _ => 0, g⟩ (fun r => ∀ c : Dev Cert.BuDxIdeal.nD,
          r.2.mem ((c.tc : Thread Cert.BuDxIdeal.nD Cert.BuDxIdeal.τ).loc Cert.BuDxIdeal.main_v33) = v0 c
          ∧ r.2.mem ((c.tc : Thread Cert.BuDxIdeal.nD Cert.BuDxIdeal.τ).loc Cert.BuDxIdeal.main_arg0) = m ((c.tc : Thread Cert.BuDxIdeal.nD Cert.BuDxIdeal.τ).loc Cert.BuDxIdeal.main_arg0)
          ∧ r.2.mem ((c.tc : Thread Cert.BuDxIdeal.nD Cert.BuDxIdeal.τ).loc Cert.BuDxIdeal.main_arg1) = m ((c.tc : Thread Cert.BuDxIdeal.nD Cert.BuDxIdeal.τ).loc Cert.BuDxIdeal.main_arg1)
          ∧ r.2.mem ((c.tc : Thread Cert.BuDxIdeal.nD Cert.BuDxIdeal.τ).loc Cert.BuDxIdeal.main_arg2) = m ((c.tc : Thread Cert.BuDxIdeal.nD Cert.BuDxIdeal.τ).loc Cert.BuDxIdeal.main_arg2)
          ∧ r.2.mem ((c.tc : Thread Cert.BuDxIdeal.nD Cert.BuDxIdeal.τ).loc Cert.BuDxIdeal.main_arg3) = m ((c.tc : Thread Cert.BuDxIdeal.nD Cert.BuDxIdeal.τ).loc Cert.BuDxIdeal.main_arg3))
      ∧ θ_run (Cert.BuDxRefIdeal.defs (F := Ideal)) (onTc (τ := Cert.BuDxRefIdeal.τ) (Cert.BuDxRefIdeal.main (F := Ideal))) ⟨m', fun _ => 0, g'⟩ (fun r => ∀ c : Dev Cert.BuDxRefIdeal.nD,
          r.2.mem ((c.tc : Thread Cert.BuDxRefIdeal.nD Cert.BuDxRefIdeal.τ).loc Cert.BuDxRefIdeal.main_v24) = v0 c
          ∧ r.2.mem ((c.tc : Thread Cert.BuDxRefIdeal.nD Cert.BuDxRefIdeal.τ).loc Cert.BuDxRefIdeal.main_arg0) = m' ((c.tc : Thread Cert.BuDxRefIdeal.nD Cert.BuDxRefIdeal.τ).loc Cert.BuDxRefIdeal.main_arg0)
          ∧ r.2.mem ((c.tc : Thread Cert.BuDxRefIdeal.nD Cert.BuDxRefIdeal.τ).loc Cert.BuDxRefIdeal.main_arg1) = m' ((c.tc : Thread Cert.BuDxRefIdeal.nD Cert.BuDxRefIdeal.τ).loc Cert.BuDxRefIdeal.main_arg1)
          ∧ r.2.mem ((c.tc : Thread Cert.BuDxRefIdeal.nD Cert.BuDxRefIdeal.τ).loc Cert.BuDxRefIdeal.main_arg2) = m' ((c.tc : Thread Cert.BuDxRefIdeal.nD Cert.BuDxRefIdeal.τ).loc Cert.BuDxRefIdeal.main_arg2)
          ∧ r.2.mem ((c.tc : Thread Cert.BuDxRefIdeal.nD Cert.BuDxRefIdeal.τ).loc Cert.BuDxRefIdeal.main_arg3) = m' ((c.tc : Thread Cert.BuDxRefIdeal.nD Cert.BuDxRefIdeal.τ).loc Cert.BuDxRefIdeal.main_arg3))

def preserves_Bu_BuIdeal : Prop :=
  True

def algebraic_BuIdeal_BuRefIdeal [hBuIdeal : Cert.BuIdeal.Facts] [hBuRefIdeal : Cert.BuRefIdeal.Facts] : Prop :=
  ∀ (m : (ℓ : Loc Cert.BuIdeal.nD Cert.BuIdeal.τ Cert.BuIdeal.sig) → Buf (Elt Ideal) ℓ) (g : Dev Cert.BuIdeal.nD → PrngReg)
    (m' : (ℓ : Loc Cert.BuRefIdeal.nD Cert.BuRefIdeal.τ Cert.BuRefIdeal.sig) → Buf (Elt Ideal) ℓ) (g' : Dev Cert.BuRefIdeal.nD → PrngReg), Pre_BuIdeal m →
    (∀ c : Dev Cert.BuIdeal.nD,
      m' ((c.tc : Thread Cert.BuRefIdeal.nD Cert.BuRefIdeal.τ).loc Cert.BuRefIdeal.main_arg0) = m ((c.tc : Thread Cert.BuIdeal.nD Cert.BuIdeal.τ).loc Cert.BuIdeal.main_arg0)
      ∧ m' ((c.tc : Thread Cert.BuRefIdeal.nD Cert.BuRefIdeal.τ).loc Cert.BuRefIdeal.main_arg1) = m ((c.tc : Thread Cert.BuIdeal.nD Cert.BuIdeal.τ).loc Cert.BuIdeal.main_arg1)
      ∧ m' ((c.tc : Thread Cert.BuRefIdeal.nD Cert.BuRefIdeal.τ).loc Cert.BuRefIdeal.main_arg2) = m ((c.tc : Thread Cert.BuIdeal.nD Cert.BuIdeal.τ).loc Cert.BuIdeal.main_arg2)) →
    ∃ (v0 : (c : Dev Cert.BuIdeal.nD) → Buf (Elt Ideal) ((c.tc : Thread Cert.BuIdeal.nD Cert.BuIdeal.τ).loc Cert.BuIdeal.main_v33)),
      θ_run (Cert.BuIdeal.defs (F := Ideal)) (onTc (τ := Cert.BuIdeal.τ) (Cert.BuIdeal.main (F := Ideal))) ⟨m, fun _ => 0, g⟩ (fun r => ∀ c : Dev Cert.BuIdeal.nD,
          r.2.mem ((c.tc : Thread Cert.BuIdeal.nD Cert.BuIdeal.τ).loc Cert.BuIdeal.main_v33) = v0 c
          ∧ r.2.mem ((c.tc : Thread Cert.BuIdeal.nD Cert.BuIdeal.τ).loc Cert.BuIdeal.main_arg0) = m ((c.tc : Thread Cert.BuIdeal.nD Cert.BuIdeal.τ).loc Cert.BuIdeal.main_arg0)
          ∧ r.2.mem ((c.tc : Thread Cert.BuIdeal.nD Cert.BuIdeal.τ).loc Cert.BuIdeal.main_arg1) = m ((c.tc : Thread Cert.BuIdeal.nD Cert.BuIdeal.τ).loc Cert.BuIdeal.main_arg1)
          ∧ r.2.mem ((c.tc : Thread Cert.BuIdeal.nD Cert.BuIdeal.τ).loc Cert.BuIdeal.main_arg2) = m ((c.tc : Thread Cert.BuIdeal.nD Cert.BuIdeal.τ).loc Cert.BuIdeal.main_arg2))
      ∧ θ_run (Cert.BuRefIdeal.defs (F := Ideal)) (onTc (τ := Cert.BuRefIdeal.τ) (Cert.BuRefIdeal.main (F := Ideal))) ⟨m', fun _ => 0, g'⟩ (fun r => ∀ c : Dev Cert.BuRefIdeal.nD,
          r.2.mem ((c.tc : Thread Cert.BuRefIdeal.nD Cert.BuRefIdeal.τ).loc Cert.BuRefIdeal.main_v14) = v0 c
          ∧ r.2.mem ((c.tc : Thread Cert.BuRefIdeal.nD Cert.BuRefIdeal.τ).loc Cert.BuRefIdeal.main_arg0) = m' ((c.tc : Thread Cert.BuRefIdeal.nD Cert.BuRefIdeal.τ).loc Cert.BuRefIdeal.main_arg0)
          ∧ r.2.mem ((c.tc : Thread Cert.BuRefIdeal.nD Cert.BuRefIdeal.τ).loc Cert.BuRefIdeal.main_arg1) = m' ((c.tc : Thread Cert.BuRefIdeal.nD Cert.BuRefIdeal.τ).loc Cert.BuRefIdeal.main_arg1)
          ∧ r.2.mem ((c.tc : Thread Cert.BuRefIdeal.nD Cert.BuRefIdeal.τ).loc Cert.BuRefIdeal.main_arg2) = m' ((c.tc : Thread Cert.BuRefIdeal.nD Cert.BuRefIdeal.τ).loc Cert.BuRefIdeal.main_arg2))

def preserves_Cs_CsIdeal : Prop :=
  True

def algebraic_CsIdeal_CsRefIdeal_pre_im_finite [hCsIdeal : Cert.CsIdeal.Facts] [hCsRefIdeal : Cert.CsRefIdeal.Facts] [hPre_im_finite : Cert.Pre_im_finite.Facts] : Prop :=
  ∀ (m : (ℓ : Loc Cert.CsIdeal.nD Cert.CsIdeal.τ Cert.CsIdeal.sig) → Buf (Elt Ideal) ℓ) (g : Dev Cert.CsIdeal.nD → PrngReg)
    (m' : (ℓ : Loc Cert.CsRefIdeal.nD Cert.CsRefIdeal.τ Cert.CsRefIdeal.sig) → Buf (Elt Ideal) ℓ) (g' : Dev Cert.CsRefIdeal.nD → PrngReg), Pre_CsIdeal_im_finite m →
    (∀ c : Dev Cert.CsIdeal.nD,
      m' ((c.tc : Thread Cert.CsRefIdeal.nD Cert.CsRefIdeal.τ).loc Cert.CsRefIdeal.main_arg0) = m ((c.tc : Thread Cert.CsIdeal.nD Cert.CsIdeal.τ).loc Cert.CsIdeal.main_arg0)
      ∧ m' ((c.tc : Thread Cert.CsRefIdeal.nD Cert.CsRefIdeal.τ).loc Cert.CsRefIdeal.main_arg1) = m ((c.tc : Thread Cert.CsIdeal.nD Cert.CsIdeal.τ).loc Cert.CsIdeal.main_arg1)
      ∧ m' ((c.tc : Thread Cert.CsRefIdeal.nD Cert.CsRefIdeal.τ).loc Cert.CsRefIdeal.main_arg2) = m ((c.tc : Thread Cert.CsIdeal.nD Cert.CsIdeal.τ).loc Cert.CsIdeal.main_arg2)) →
    ∃ (v0 : (c : Dev Cert.CsIdeal.nD) → Buf (Elt Ideal) ((c.tc : Thread Cert.CsIdeal.nD Cert.CsIdeal.τ).loc Cert.CsIdeal.main_v33)),
      θ_run (Cert.CsIdeal.defs (F := Ideal)) (onTc (τ := Cert.CsIdeal.τ) (Cert.CsIdeal.main (F := Ideal))) ⟨m, fun _ => 0, g⟩ (fun r => ∀ c : Dev Cert.CsIdeal.nD,
          r.2.mem ((c.tc : Thread Cert.CsIdeal.nD Cert.CsIdeal.τ).loc Cert.CsIdeal.main_v33) = v0 c
          ∧ r.2.mem ((c.tc : Thread Cert.CsIdeal.nD Cert.CsIdeal.τ).loc Cert.CsIdeal.main_arg0) = m ((c.tc : Thread Cert.CsIdeal.nD Cert.CsIdeal.τ).loc Cert.CsIdeal.main_arg0)
          ∧ r.2.mem ((c.tc : Thread Cert.CsIdeal.nD Cert.CsIdeal.τ).loc Cert.CsIdeal.main_arg1) = m ((c.tc : Thread Cert.CsIdeal.nD Cert.CsIdeal.τ).loc Cert.CsIdeal.main_arg1)
          ∧ r.2.mem ((c.tc : Thread Cert.CsIdeal.nD Cert.CsIdeal.τ).loc Cert.CsIdeal.main_arg2) = m ((c.tc : Thread Cert.CsIdeal.nD Cert.CsIdeal.τ).loc Cert.CsIdeal.main_arg2))
      ∧ θ_run (Cert.CsRefIdeal.defs (F := Ideal)) (onTc (τ := Cert.CsRefIdeal.τ) (Cert.CsRefIdeal.main (F := Ideal))) ⟨m', fun _ => 0, g'⟩ (fun r => ∀ c : Dev Cert.CsRefIdeal.nD,
          r.2.mem ((c.tc : Thread Cert.CsRefIdeal.nD Cert.CsRefIdeal.τ).loc Cert.CsRefIdeal.main_v11) = v0 c
          ∧ r.2.mem ((c.tc : Thread Cert.CsRefIdeal.nD Cert.CsRefIdeal.τ).loc Cert.CsRefIdeal.main_arg0) = m' ((c.tc : Thread Cert.CsRefIdeal.nD Cert.CsRefIdeal.τ).loc Cert.CsRefIdeal.main_arg0)
          ∧ r.2.mem ((c.tc : Thread Cert.CsRefIdeal.nD Cert.CsRefIdeal.τ).loc Cert.CsRefIdeal.main_arg1) = m' ((c.tc : Thread Cert.CsRefIdeal.nD Cert.CsRefIdeal.τ).loc Cert.CsRefIdeal.main_arg1)
          ∧ r.2.mem ((c.tc : Thread Cert.CsRefIdeal.nD Cert.CsRefIdeal.τ).loc Cert.CsRefIdeal.main_arg2) = m' ((c.tc : Thread Cert.CsRefIdeal.nD Cert.CsRefIdeal.τ).loc Cert.CsRefIdeal.main_arg2))

def Claim : Prop :=
  ∃ (hConv : Cert.Conv.Facts) (hConvIdeal : Cert.ConvIdeal.Facts) (hConvRefIdeal : Cert.ConvRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hDw : Cert.Dw.Facts) (hDwIdeal : Cert.DwIdeal.Facts) (hDwdRefIdeal : Cert.DwdRefIdeal.Facts) (hDwuRefIdeal : Cert.DwuRefIdeal.Facts) (hDx : Cert.Dx.Facts) (hDxIdeal : Cert.DxIdeal.Facts) (hDxRefIdeal : Cert.DxRefIdeal.Facts) (hRes : Cert.Res.Facts) (hResIdeal : Cert.ResIdeal.Facts) (hResRefIdeal : Cert.ResRefIdeal.Facts) (hProj : Cert.Proj.Facts) (hProjIdeal : Cert.ProjIdeal.Facts) (hProjRefIdeal : Cert.ProjRefIdeal.Facts) (hProjDx : Cert.ProjDx.Facts) (hProjDxIdeal : Cert.ProjDxIdeal.Facts) (hProjDxRefIdeal : Cert.ProjDxRefIdeal.Facts) (hProjDw : Cert.ProjDw.Facts) (hProjDwIdeal : Cert.ProjDwIdeal.Facts) (hProjDwRefIdeal : Cert.ProjDwRefIdeal.Facts) (hWoDx : Cert.WoDx.Facts) (hWoDxIdeal : Cert.WoDxIdeal.Facts) (hWoDxRefIdeal : Cert.WoDxRefIdeal.Facts) (hWoDw : Cert.WoDw.Facts) (hWoDwIdeal : Cert.WoDwIdeal.Facts) (hWoDwRefIdeal : Cert.WoDwRefIdeal.Facts) (hWoLn : Cert.WoLn.Facts) (hWoLnIdeal : Cert.WoLnIdeal.Facts) (hWoLnRefIdeal : Cert.WoLnRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hOut : Cert.Out.Facts) (hOutIdeal : Cert.OutIdeal.Facts) (hOutRefIdeal : Cert.OutRefIdeal.Facts) (hGluDx : Cert.GluDx.Facts) (hGluDxIdeal : Cert.GluDxIdeal.Facts) (hGluDxRefIdeal : Cert.GluDxRefIdeal.Facts) (hGluDw : Cert.GluDw.Facts) (hGluDwIdeal : Cert.GluDwIdeal.Facts) (hGluDwRefIdeal : Cert.GluDwRefIdeal.Facts) (hGlu : Cert.Glu.Facts) (hGluIdeal : Cert.GluIdeal.Facts) (hGluRefIdeal : Cert.GluRefIdeal.Facts) (hHeads : Cert.Heads.Facts) (hHeadsIdeal : Cert.HeadsIdeal.Facts) (hHeadsRefIdeal : Cert.HeadsRefIdeal.Facts) (hHeadsDx : Cert.HeadsDx.Facts) (hHeadsDxIdeal : Cert.HeadsDxIdeal.Facts) (hHeadsDxRefIdeal : Cert.HeadsDxRefIdeal.Facts) (hHeadsDw : Cert.HeadsDw.Facts) (hHeadsDwIdeal : Cert.HeadsDwIdeal.Facts) (hHeadsDwRefIdeal : Cert.HeadsDwRefIdeal.Facts) (hDwq : Cert.Dwq.Facts) (hDwqIdeal : Cert.DwqIdeal.Facts) (hDwqRefIdeal : Cert.DwqRefIdeal.Facts) (hDwk : Cert.Dwk.Facts) (hDwkIdeal : Cert.DwkIdeal.Facts) (hDwkRefIdeal : Cert.DwkRefIdeal.Facts) (hDwv : Cert.Dwv.Facts) (hDwvIdeal : Cert.DwvIdeal.Facts) (hDwvRefIdeal : Cert.DwvRefIdeal.Facts) (hAttB : Cert.AttB.Facts) (hAttBIdeal : Cert.AttBIdeal.Facts) (hAttBRefIdeal : Cert.AttBRefIdeal.Facts) (hAttF : Cert.AttF.Facts) (hAttFIdeal : Cert.AttFIdeal.Facts) (hAttFRefIdeal : Cert.AttFRefIdeal.Facts) (hLatB : Cert.LatB.Facts) (hLatBIdeal : Cert.LatBIdeal.Facts) (hLatBRefIdeal : Cert.LatBRefIdeal.Facts) (hLat : Cert.Lat.Facts) (hLatIdeal : Cert.LatIdeal.Facts) (hLatRefIdeal : Cert.LatRefIdeal.Facts) (hCsDx : Cert.CsDx.Facts) (hCsDxIdeal : Cert.CsDxIdeal.Facts) (hCsDxRefIdeal : Cert.CsDxRefIdeal.Facts) (hCsDw : Cert.CsDw.Facts) (hCsDwIdeal : Cert.CsDwIdeal.Facts) (hCsDwRefIdeal : Cert.CsDwRefIdeal.Facts) (hBuDw : Cert.BuDw.Facts) (hBuDwIdeal : Cert.BuDwIdeal.Facts) (hBuDwRefIdeal : Cert.BuDwRefIdeal.Facts) (hBuDx : Cert.BuDx.Facts) (hBuDxIdeal : Cert.BuDxIdeal.Facts) (hBuDxRefIdeal : Cert.BuDxRefIdeal.Facts) (hBu : Cert.Bu.Facts) (hBuIdeal : Cert.BuIdeal.Facts) (hBuRefIdeal : Cert.BuRefIdeal.Facts) (hCs : Cert.Cs.Facts) (hCsIdeal : Cert.CsIdeal.Facts) (hCsRefIdeal : Cert.CsRefIdeal.Facts) (hPre_down_finite : Cert.Pre_down_finite.Facts) (hPre_att_finite : Cert.Pre_att_finite.Facts) (hPre_scores_finite : Cert.Pre_scores_finite.Facts) (hPre_im_finite : Cert.Pre_im_finite.Facts),
    quiescent_Conv (hConv := hConv)
    ∧ quiescent_ConvIdeal (hConvIdeal := hConvIdeal)
    ∧ quiescent_ConvRefIdeal (hConvRefIdeal := hConvRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownIdeal_pre_down_finite (hDownIdeal := hDownIdeal) (hPre_down_finite := hPre_down_finite)
    ∧ quiescent_DownRefIdeal (hDownRefIdeal := hDownRefIdeal)
    ∧ quiescent_DownRefIdeal_pre_down_finite (hDownRefIdeal := hDownRefIdeal) (hPre_down_finite := hPre_down_finite)
    ∧ quiescent_Dw (hDw := hDw)
    ∧ quiescent_DwIdeal (hDwIdeal := hDwIdeal)
    ∧ quiescent_DwdRefIdeal (hDwdRefIdeal := hDwdRefIdeal)
    ∧ quiescent_DwuRefIdeal (hDwuRefIdeal := hDwuRefIdeal)
    ∧ quiescent_Dx (hDx := hDx)
    ∧ quiescent_DxIdeal (hDxIdeal := hDxIdeal)
    ∧ quiescent_DxRefIdeal (hDxRefIdeal := hDxRefIdeal)
    ∧ quiescent_Res (hRes := hRes)
    ∧ quiescent_ResIdeal (hResIdeal := hResIdeal)
    ∧ quiescent_ResRefIdeal (hResRefIdeal := hResRefIdeal)
    ∧ quiescent_Proj (hProj := hProj)
    ∧ quiescent_ProjIdeal (hProjIdeal := hProjIdeal)
    ∧ quiescent_ProjRefIdeal (hProjRefIdeal := hProjRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_WoDx (hWoDx := hWoDx)
    ∧ quiescent_WoDxIdeal (hWoDxIdeal := hWoDxIdeal)
    ∧ quiescent_WoDxRefIdeal (hWoDxRefIdeal := hWoDxRefIdeal)
    ∧ quiescent_WoDw (hWoDw := hWoDw)
    ∧ quiescent_WoDwIdeal (hWoDwIdeal := hWoDwIdeal)
    ∧ quiescent_WoDwRefIdeal (hWoDwRefIdeal := hWoDwRefIdeal)
    ∧ quiescent_WoLn (hWoLn := hWoLn)
    ∧ quiescent_WoLnIdeal (hWoLnIdeal := hWoLnIdeal)
    ∧ quiescent_WoLnRefIdeal (hWoLnRefIdeal := hWoLnRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_Out (hOut := hOut)
    ∧ quiescent_OutIdeal (hOutIdeal := hOutIdeal)
    ∧ quiescent_OutRefIdeal (hOutRefIdeal := hOutRefIdeal)
    ∧ quiescent_GluDx (hGluDx := hGluDx)
    ∧ quiescent_GluDxIdeal (hGluDxIdeal := hGluDxIdeal)
    ∧ quiescent_GluDxRefIdeal (hGluDxRefIdeal := hGluDxRefIdeal)
    ∧ quiescent_GluDw (hGluDw := hGluDw)
    ∧ quiescent_GluDwIdeal (hGluDwIdeal := hGluDwIdeal)
    ∧ quiescent_GluDwRefIdeal (hGluDwRefIdeal := hGluDwRefIdeal)
    ∧ quiescent_Glu (hGlu := hGlu)
    ∧ quiescent_GluIdeal (hGluIdeal := hGluIdeal)
    ∧ quiescent_GluRefIdeal (hGluRefIdeal := hGluRefIdeal)
    ∧ quiescent_Heads (hHeads := hHeads)
    ∧ quiescent_HeadsIdeal (hHeadsIdeal := hHeadsIdeal)
    ∧ quiescent_HeadsRefIdeal (hHeadsRefIdeal := hHeadsRefIdeal)
    ∧ quiescent_HeadsDx (hHeadsDx := hHeadsDx)
    ∧ quiescent_HeadsDxIdeal (hHeadsDxIdeal := hHeadsDxIdeal)
    ∧ quiescent_HeadsDxRefIdeal (hHeadsDxRefIdeal := hHeadsDxRefIdeal)
    ∧ quiescent_HeadsDw (hHeadsDw := hHeadsDw)
    ∧ quiescent_HeadsDwIdeal (hHeadsDwIdeal := hHeadsDwIdeal)
    ∧ quiescent_HeadsDwRefIdeal (hHeadsDwRefIdeal := hHeadsDwRefIdeal)
    ∧ quiescent_Dwq (hDwq := hDwq)
    ∧ quiescent_DwqIdeal (hDwqIdeal := hDwqIdeal)
    ∧ quiescent_DwqRefIdeal (hDwqRefIdeal := hDwqRefIdeal)
    ∧ quiescent_Dwk (hDwk := hDwk)
    ∧ quiescent_DwkIdeal (hDwkIdeal := hDwkIdeal)
    ∧ quiescent_DwkRefIdeal (hDwkRefIdeal := hDwkRefIdeal)
    ∧ quiescent_Dwv (hDwv := hDwv)
    ∧ quiescent_DwvIdeal (hDwvIdeal := hDwvIdeal)
    ∧ quiescent_DwvRefIdeal (hDwvRefIdeal := hDwvRefIdeal)
    ∧ quiescent_AttB (hAttB := hAttB)
    ∧ quiescent_AttBIdeal (hAttBIdeal := hAttBIdeal)
    ∧ quiescent_AttBIdeal_pre_att_finite (hAttBIdeal := hAttBIdeal) (hPre_att_finite := hPre_att_finite)
    ∧ quiescent_AttBRefIdeal (hAttBRefIdeal := hAttBRefIdeal)
    ∧ quiescent_AttBRefIdeal_pre_att_finite (hAttBRefIdeal := hAttBRefIdeal) (hPre_att_finite := hPre_att_finite)
    ∧ quiescent_AttF (hAttF := hAttF)
    ∧ quiescent_AttFIdeal (hAttFIdeal := hAttFIdeal)
    ∧ quiescent_AttFIdeal_pre_scores_finite (hAttFIdeal := hAttFIdeal) (hPre_scores_finite := hPre_scores_finite)
    ∧ quiescent_AttFRefIdeal (hAttFRefIdeal := hAttFRefIdeal)
    ∧ quiescent_AttFRefIdeal_pre_scores_finite (hAttFRefIdeal := hAttFRefIdeal) (hPre_scores_finite := hPre_scores_finite)
    ∧ quiescent_LatB (hLatB := hLatB)
    ∧ quiescent_LatBIdeal (hLatBIdeal := hLatBIdeal)
    ∧ quiescent_LatBRefIdeal (hLatBRefIdeal := hLatBRefIdeal)
    ∧ quiescent_Lat (hLat := hLat)
    ∧ quiescent_LatIdeal (hLatIdeal := hLatIdeal)
    ∧ quiescent_LatRefIdeal (hLatRefIdeal := hLatRefIdeal)
    ∧ quiescent_CsDx (hCsDx := hCsDx)
    ∧ quiescent_CsDxIdeal (hCsDxIdeal := hCsDxIdeal)
    ∧ quiescent_CsDxRefIdeal (hCsDxRefIdeal := hCsDxRefIdeal)
    ∧ quiescent_CsDw (hCsDw := hCsDw)
    ∧ quiescent_CsDwIdeal (hCsDwIdeal := hCsDwIdeal)
    ∧ quiescent_CsDwRefIdeal (hCsDwRefIdeal := hCsDwRefIdeal)
    ∧ quiescent_BuDw (hBuDw := hBuDw)
    ∧ quiescent_BuDwIdeal (hBuDwIdeal := hBuDwIdeal)
    ∧ quiescent_BuDwRefIdeal (hBuDwRefIdeal := hBuDwRefIdeal)
    ∧ quiescent_BuDx (hBuDx := hBuDx)
    ∧ quiescent_BuDxIdeal (hBuDxIdeal := hBuDxIdeal)
    ∧ quiescent_BuDxRefIdeal (hBuDxRefIdeal := hBuDxRefIdeal)
    ∧ quiescent_Bu (hBu := hBu)
    ∧ quiescent_BuIdeal (hBuIdeal := hBuIdeal)
    ∧ quiescent_BuRefIdeal (hBuRefIdeal := hBuRefIdeal)
    ∧ quiescent_Cs (hCs := hCs)
    ∧ quiescent_CsIdeal (hCsIdeal := hCsIdeal)
    ∧ quiescent_CsIdeal_pre_im_finite (hCsIdeal := hCsIdeal) (hPre_im_finite := hPre_im_finite)
    ∧ quiescent_CsRefIdeal (hCsRefIdeal := hCsRefIdeal)
    ∧ quiescent_CsRefIdeal_pre_im_finite (hCsRefIdeal := hCsRefIdeal) (hPre_im_finite := hPre_im_finite)
    ∧ preserves_Conv_ConvIdeal
    ∧ algebraic_ConvIdeal_ConvRefIdeal (hConvIdeal := hConvIdeal) (hConvRefIdeal := hConvRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal_pre_down_finite (hDownIdeal := hDownIdeal) (hDownRefIdeal := hDownRefIdeal) (hPre_down_finite := hPre_down_finite)
    ∧ preserves_Dw_DwIdeal
    ∧ algebraic_DwIdeal_DwdRefIdeal (hDwIdeal := hDwIdeal) (hDwdRefIdeal := hDwdRefIdeal)
    ∧ algebraic_DwIdeal_DwuRefIdeal (hDwIdeal := hDwIdeal) (hDwuRefIdeal := hDwuRefIdeal)
    ∧ preserves_Dx_DxIdeal
    ∧ algebraic_DxIdeal_DxRefIdeal (hDxIdeal := hDxIdeal) (hDxRefIdeal := hDxRefIdeal)
    ∧ preserves_Res_ResIdeal
    ∧ algebraic_ResIdeal_ResRefIdeal (hResIdeal := hResIdeal) (hResRefIdeal := hResRefIdeal)
    ∧ preserves_Proj_ProjIdeal
    ∧ algebraic_ProjIdeal_ProjRefIdeal (hProjIdeal := hProjIdeal) (hProjRefIdeal := hProjRefIdeal)
    ∧ preserves_ProjDx_ProjDxIdeal
    ∧ algebraic_ProjDxIdeal_ProjDxRefIdeal (hProjDxIdeal := hProjDxIdeal) (hProjDxRefIdeal := hProjDxRefIdeal)
    ∧ preserves_ProjDw_ProjDwIdeal
    ∧ algebraic_ProjDwIdeal_ProjDwRefIdeal (hProjDwIdeal := hProjDwIdeal) (hProjDwRefIdeal := hProjDwRefIdeal)
    ∧ preserves_WoDx_WoDxIdeal
    ∧ algebraic_WoDxIdeal_WoDxRefIdeal (hWoDxIdeal := hWoDxIdeal) (hWoDxRefIdeal := hWoDxRefIdeal)
    ∧ preserves_WoDw_WoDwIdeal
    ∧ algebraic_WoDwIdeal_WoDwRefIdeal (hWoDwIdeal := hWoDwIdeal) (hWoDwRefIdeal := hWoDwRefIdeal)
    ∧ preserves_WoLn_WoLnIdeal
    ∧ algebraic_WoLnIdeal_WoLnRefIdeal (hWoLnIdeal := hWoLnIdeal) (hWoLnRefIdeal := hWoLnRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_Out_OutIdeal
    ∧ algebraic_OutIdeal_OutRefIdeal (hOutIdeal := hOutIdeal) (hOutRefIdeal := hOutRefIdeal)
    ∧ preserves_GluDx_GluDxIdeal
    ∧ algebraic_GluDxIdeal_GluDxRefIdeal (hGluDxIdeal := hGluDxIdeal) (hGluDxRefIdeal := hGluDxRefIdeal)
    ∧ preserves_GluDw_GluDwIdeal
    ∧ algebraic_GluDwIdeal_GluDwRefIdeal (hGluDwIdeal := hGluDwIdeal) (hGluDwRefIdeal := hGluDwRefIdeal)
    ∧ preserves_Glu_GluIdeal
    ∧ algebraic_GluIdeal_GluRefIdeal (hGluIdeal := hGluIdeal) (hGluRefIdeal := hGluRefIdeal)
    ∧ preserves_Heads_HeadsIdeal
    ∧ algebraic_HeadsIdeal_HeadsRefIdeal (hHeadsIdeal := hHeadsIdeal) (hHeadsRefIdeal := hHeadsRefIdeal)
    ∧ preserves_HeadsDx_HeadsDxIdeal
    ∧ algebraic_HeadsDxIdeal_HeadsDxRefIdeal (hHeadsDxIdeal := hHeadsDxIdeal) (hHeadsDxRefIdeal := hHeadsDxRefIdeal)
    ∧ preserves_HeadsDw_HeadsDwIdeal
    ∧ algebraic_HeadsDwIdeal_HeadsDwRefIdeal (hHeadsDwIdeal := hHeadsDwIdeal) (hHeadsDwRefIdeal := hHeadsDwRefIdeal)
    ∧ preserves_Dwq_DwqIdeal
    ∧ algebraic_DwqIdeal_DwqRefIdeal (hDwqIdeal := hDwqIdeal) (hDwqRefIdeal := hDwqRefIdeal)
    ∧ preserves_Dwk_DwkIdeal
    ∧ algebraic_DwkIdeal_DwkRefIdeal (hDwkIdeal := hDwkIdeal) (hDwkRefIdeal := hDwkRefIdeal)
    ∧ preserves_Dwv_DwvIdeal
    ∧ algebraic_DwvIdeal_DwvRefIdeal (hDwvIdeal := hDwvIdeal) (hDwvRefIdeal := hDwvRefIdeal)
    ∧ preserves_AttB_AttBIdeal
    ∧ algebraic_AttBIdeal_AttBRefIdeal_pre_att_finite (hAttBIdeal := hAttBIdeal) (hAttBRefIdeal := hAttBRefIdeal) (hPre_att_finite := hPre_att_finite)
    ∧ preserves_AttF_AttFIdeal
    ∧ algebraic_AttFIdeal_AttFRefIdeal_pre_scores_finite (hAttFIdeal := hAttFIdeal) (hAttFRefIdeal := hAttFRefIdeal) (hPre_scores_finite := hPre_scores_finite)
    ∧ preserves_LatB_LatBIdeal
    ∧ algebraic_LatBIdeal_LatBRefIdeal (hLatBIdeal := hLatBIdeal) (hLatBRefIdeal := hLatBRefIdeal)
    ∧ preserves_Lat_LatIdeal
    ∧ algebraic_LatIdeal_LatRefIdeal (hLatIdeal := hLatIdeal) (hLatRefIdeal := hLatRefIdeal)
    ∧ preserves_CsDx_CsDxIdeal
    ∧ algebraic_CsDxIdeal_CsDxRefIdeal (hCsDxIdeal := hCsDxIdeal) (hCsDxRefIdeal := hCsDxRefIdeal)
    ∧ preserves_CsDw_CsDwIdeal
    ∧ algebraic_CsDwIdeal_CsDwRefIdeal (hCsDwIdeal := hCsDwIdeal) (hCsDwRefIdeal := hCsDwRefIdeal)
    ∧ preserves_BuDw_BuDwIdeal
    ∧ algebraic_BuDwIdeal_BuDwRefIdeal (hBuDwIdeal := hBuDwIdeal) (hBuDwRefIdeal := hBuDwRefIdeal)
    ∧ preserves_BuDx_BuDxIdeal
    ∧ algebraic_BuDxIdeal_BuDxRefIdeal (hBuDxIdeal := hBuDxIdeal) (hBuDxRefIdeal := hBuDxRefIdeal)
    ∧ preserves_Bu_BuIdeal
    ∧ algebraic_BuIdeal_BuRefIdeal (hBuIdeal := hBuIdeal) (hBuRefIdeal := hBuRefIdeal)
    ∧ preserves_Cs_CsIdeal
    ∧ algebraic_CsIdeal_CsRefIdeal_pre_im_finite (hCsIdeal := hCsIdeal) (hCsRefIdeal := hCsRefIdeal) (hPre_im_finite := hPre_im_finite)
-- ==== Pre_att_finite.lean ====
abbrev S8x2176x96 : Shape := ⟨3, ![8, 2176, 96]⟩
abbrev S8x2176x64 : Shape := ⟨3, ![8, 2176, 64]⟩
abbrev S8x2064x64 : Shape := ⟨3, ![8, 2064, 64]⟩
abbrev S_ : Shape := ⟨0, ![]⟩

class Facts : Prop where
  bitsLt_bf16_f32 : FTy.bits .bf16 < FTy.bits .f32
  bcast_S_S8x2176x96 : S_.BroadcastsInDim S8x2176x96 (![] : Fin 0 → Fin S8x2176x96.rank)
  reducesTo_S8x2176x96_S_d0_1_2 : S8x2176x96.ReducesTo [0, 1, 2] S_
  h_S_ : 0 < S_.numel
  bcast_S_S8x2176x64 : S_.BroadcastsInDim S8x2176x64 (![] : Fin 0 → Fin S8x2176x64.rank)
  reducesTo_S8x2176x64_S_d0_1_2 : S8x2176x64.ReducesTo [0, 1, 2] S_
  bcast_S_S8x2064x64 : S_.BroadcastsInDim S8x2064x64 (![] : Fin 0 → Fin S8x2064x64.rank)
  reducesTo_S8x2064x64_S_d0_1_2 : S8x2064x64.ReducesTo [0, 1, 2] S_

variable [Facts]

def fn_part1 {F : FTy → Type} [FloatOps F] (main_v4 : IVec S_ 1) (main_v9 : IVec S_ 1) (main_v14 : IVec S_ 1) (main_v16 : FVec F S8x2064x64 .f32) (main_cst_4 : FVec F S_ .f32) : IVec S_ 1 :=
  let main_v17 : FVec F S8x2064x64 .f32 := broadcastInDim S8x2064x64 ![] bcast_S_S8x2064x64 main_cst_4
  let main_v18 : IVec S8x2064x64 1 := cmpf .olt main_v16 main_v17
  let main_c_5 : IVec S_ 1 := constantI S_ 1 1#1
  let main_v19 : IVec S_ 1 := (fun x v => Host.reduce IntOp.andi x v reducesTo_S8x2064x64_S_d0_1_2 h_S_) main_v18 main_c_5
  let main_v20 : IVec S_ 1 := andi main_v4 main_v9
  let main_v21 : IVec S_ 1 := andi main_v20 main_v14
  let main_v22 : IVec S_ 1 := andi main_v21 main_v19
  main_v22

def fn {F : FTy → Type} [FloatOps F] (main_arg0 : FVec F S8x2176x96 .bf16) (main_arg1 : FVec F S8x2176x96 .bf16) (main_arg2 : FVec F S8x2176x64 .bf16) (main_arg3 : FVec F S8x2064x64 .bf16) : IVec S_ 1 :=
  let main_v0 : FVec F S8x2176x96 .f32 := (extf .f32 · bitsLt_bf16_f32) main_arg0
  let main_v1 : FVec F S8x2176x96 .f32 := Host.absf main_v0
  let main_cst : FVec F S_ .f32 := constant S_ .f32 0x7F800000#32
  let main_v2 : FVec F S8x2176x96 .f32 := broadcastInDim S8x2176x96 ![] bcast_S_S8x2176x96 main_cst
  let main_v3 : IVec S8x2176x96 1 := cmpf .olt main_v1 main_v2
  let main_c : IVec S_ 1 := constantI S_ 1 1#1
  let main_v4 : IVec S_ 1 := (fun x v => Host.reduce IntOp.andi x v reducesTo_S8x2176x96_S_d0_1_2 h_S_) main_v3 main_c
  let main_v5 : FVec F S8x2176x96 .f32 := (extf .f32 · bitsLt_bf16_f32) main_arg1
  let main_v6 : FVec F S8x2176x96 .f32 := Host.absf main_v5
  let main_cst_0 : FVec F S_ .f32 := constant S_ .f32 0x7F800000#32
  let main_v7 : FVec F S8x2176x96 .f32 := broadcastInDim S8x2176x96 ![] bcast_S_S8x2176x96 main_cst_0
  let main_v8 : IVec S8x2176x96 1 := cmpf .olt main_v6 main_v7
  let main_c_1 : IVec S_ 1 := constantI S_ 1 1#1
  let main_v9 : IVec S_ 1 := (fun x v => Host.reduce IntOp.andi x v reducesTo_S8x2176x96_S_d0_1_2 h_S_) main_v8 main_c_1
  let main_v10 : FVec F S8x2176x64 .f32 := (extf .f32 · bitsLt_bf16_f32) main_arg2
  let main_v11 : FVec F S8x2176x64 .f32 := Host.absf main_v10
  let main_cst_2 : FVec F S_ .f32 := constant S_ .f32 0x7F800000#32
  let main_v12 : FVec F S8x2176x64 .f32 := broadcastInDim S8x2176x64 ![] bcast_S_S8x2176x64 main_cst_2
  let main_v13 : IVec S8x2176x64 1 := cmpf .olt main_v11 main_v12
  let main_c_3 : IVec S_ 1 := constantI S_ 1 1#1
  let main_v14 : IVec S_ 1 := (fun x v => Host.reduce IntOp.andi x v reducesTo_S8x2176x64_S_d0_1_2 h_S_) main_v13 main_c_3
  let main_v15 : FVec F S8x2064x64 .f32 := (extf .f32 · bitsLt_bf16_f32) main_arg3
  let main_v16 : FVec F S8x2064x64 .f32 := Host.absf main_v15
  let main_cst_4 : FVec F S_ .f32 := constant S_ .f32 0x7F800000#32
  fn_part1 (F := F) main_v4 main_v9 main_v14 main_v16 main_cst_4
-- ==== Pre_down_finite.lean ====
abbrev S2176x1024 : Shape := ⟨2, ![2176, 1024]⟩
abbrev S4x704x1024 : Shape := ⟨3, ![4, 704, 1024]⟩
abbrev S4x2x2176x704 : Shape := ⟨4, ![4, 2, 2176, 704]⟩
abbrev S_ : Shape := ⟨0, ![]⟩

class Facts : Prop where
  bitsLt_bf16_f32 : FTy.bits .bf16 < FTy.bits .f32
  bcast_S_S2176x1024 : S_.BroadcastsInDim S2176x1024 (![] : Fin 0 → Fin S2176x1024.rank)
  reducesTo_S2176x1024_S_d0_1 : S2176x1024.ReducesTo [0, 1] S_
  h_S_ : 0 < S_.numel
  bcast_S_S4x704x1024 : S_.BroadcastsInDim S4x704x1024 (![] : Fin 0 → Fin S4x704x1024.rank)
  reducesTo_S4x704x1024_S_d0_1_2 : S4x704x1024.ReducesTo [0, 1, 2] S_
  bcast_S_S4x2x2176x704 : S_.BroadcastsInDim S4x2x2176x704 (![] : Fin 0 → Fin S4x2x2176x704.rank)
  reducesTo_S4x2x2176x704_S_d0_1_2_3 : S4x2x2176x704.ReducesTo [0, 1, 2, 3] S_

variable [Facts]

def fn {F : FTy → Type} [FloatOps F] (main_arg0 : FVec F S2176x1024 .bf16) (main_arg1 : FVec F S4x704x1024 .bf16) (main_arg2 : FVec F S4x2x2176x704 .bf16) : IVec S_ 1 :=
  let main_v0 : FVec F S2176x1024 .f32 := (extf .f32 · bitsLt_bf16_f32) main_arg0
  let main_v1 : FVec F S2176x1024 .f32 := Host.absf main_v0
  let main_cst : FVec F S_ .f32 := constant S_ .f32 0x7F800000#32
  let main_v2 : FVec F S2176x1024 .f32 := broadcastInDim S2176x1024 ![] bcast_S_S2176x1024 main_cst
  let main_v3 : IVec S2176x1024 1 := cmpf .olt main_v1 main_v2
  let main_c : IVec S_ 1 := constantI S_ 1 1#1
  let main_v4 : IVec S_ 1 := (fun x v => Host.reduce IntOp.andi x v reducesTo_S2176x1024_S_d0_1 h_S_) main_v3 main_c
  let main_v5 : FVec F S4x704x1024 .f32 := (extf .f32 · bitsLt_bf16_f32) main_arg1
  let main_v6 : FVec F S4x704x1024 .f32 := Host.absf main_v5
  let main_cst_0 : FVec F S_ .f32 := constant S_ .f32 0x7F800000#32
  let main_v7 : FVec F S4x704x1024 .f32 := broadcastInDim S4x704x1024 ![] bcast_S_S4x704x1024 main_cst_0
  let main_v8 : IVec S4x704x1024 1 := cmpf .olt main_v6 main_v7
  let main_c_1 : IVec S_ 1 := constantI S_ 1 1#1
  let main_v9 : IVec S_ 1 := (fun x v => Host.reduce IntOp.andi x v reducesTo_S4x704x1024_S_d0_1_2 h_S_) main_v8 main_c_1
  let main_v10 : FVec F S4x2x2176x704 .f32 := (extf .f32 · bitsLt_bf16_f32) main_arg2
  let main_v11 : FVec F S4x2x2176x704 .f32 := Host.absf main_v10
  let main_cst_2 : FVec F S_ .f32 := constant S_ .f32 0x7F800000#32
  let main_v12 : FVec F S4x2x2176x704 .f32 := broadcastInDim S4x2x2176x704 ![] bcast_S_S4x2x2176x704 main_cst_2
  let main_v13 : IVec S4x2x2176x704 1 := cmpf .olt main_v11 main_v12
  let main_c_3 : IVec S_ 1 := constantI S_ 1 1#1
  let main_v14 : IVec S_ 1 := (fun x v => Host.reduce IntOp.andi x v reducesTo_S4x2x2176x704_S_d0_1_2_3 h_S_) main_v13 main_c_3
  let main_v15 : IVec S_ 1 := andi main_v4 main_v9
  let main_v16 : IVec S_ 1 := andi main_v15 main_v14
  main_v16
-- ==== Pre_im_finite.lean ====
abbrev S2x2176x2048 : Shape := ⟨3, ![2, 2176, 2048]⟩
abbrev S32x16x64 : Shape := ⟨3, ![32, 16, 64]⟩
abbrev S1x2176x2048 : Shape := ⟨3, ![1, 2176, 2048]⟩
abbrev S2176x2048 : Shape := ⟨2, ![2176, 2048]⟩
abbrev S_ : Shape := ⟨0, ![]⟩

class Facts : Prop where
  slices_S2x2176x2048_S1x2176x2048_1_0_0 : S2x2176x2048.Slices ![1, 0, 0] S1x2176x2048
  shapeCasts_S1x2176x2048_S2176x2048 : S1x2176x2048.ShapeCasts S2176x2048
  bcast_S_S2176x2048 : S_.BroadcastsInDim S2176x2048 (![] : Fin 0 → Fin S2176x2048.rank)
  reducesTo_S2176x2048_S_d0_1 : S2176x2048.ReducesTo [0, 1] S_
  h_S_ : 0 < S_.numel
  bcast_S_S32x16x64 : S_.BroadcastsInDim S32x16x64 (![] : Fin 0 → Fin S32x16x64.rank)
  reducesTo_S32x16x64_S_d0_1_2 : S32x16x64.ReducesTo [0, 1, 2] S_

variable [Facts]

def fn {F : FTy → Type} [FloatOps F] (main_arg0 : FVec F S2x2176x2048 .f32) (main_arg1 : FVec F S32x16x64 .f32) (main_arg2 : FVec F S32x16x64 .f32) : IVec S_ 1 :=
  let main_v0 : FVec F S1x2176x2048 .f32 := (extractStridedSlice S1x2176x2048 ![1, 0, 0] · slices_S2x2176x2048_S1x2176x2048_1_0_0) main_arg0
  let main_v1 : FVec F S2176x2048 .f32 := shapeCast S2176x2048 main_v0 shapeCasts_S1x2176x2048_S2176x2048
  let main_v2 : FVec F S2176x2048 .f32 := Host.absf main_v1
  let main_cst : FVec F S_ .f32 := constant S_ .f32 0x7F800000#32
  let main_v3 : FVec F S2176x2048 .f32 := broadcastInDim S2176x2048 ![] bcast_S_S2176x2048 main_cst
  let main_v4 : IVec S2176x2048 1 := cmpf .olt main_v2 main_v3
  let main_c : IVec S_ 1 := constantI S_ 1 1#1
  let main_v5 : IVec S_ 1 := (fun x v => Host.reduce IntOp.andi x v reducesTo_S2176x2048_S_d0_1 h_S_) main_v4 main_c
  let main_v6 : FVec F S32x16x64 .f32 := Host.absf main_arg2
  let main_cst_0 : FVec F S_ .f32 := constant S_ .f32 0x7F800000#32
  let main_v7 : FVec F S32x16x64 .f32 := broadcastInDim S32x16x64 ![] bcast_S_S32x16x64 main_cst_0
  let main_v8 : IVec S32x16x64 1 := cmpf .olt main_v6 main_v7
  let main_c_1 : IVec S_ 1 := constantI S_ 1 1#1
  let main_v9 : IVec S_ 1 := (fun x v => Host.reduce IntOp.andi x v reducesTo_S32x16x64_S_d0_1_2 h_S_) main_v8 main_c_1
  let main_v10 : IVec S_ 1 := andi main_v5 main_v9
  main_v10
-- ==== Pre_scores_finite.lean ====
abbrev S8x2176x96 : Shape := ⟨3, ![8, 2176, 96]⟩
abbrev S8x2176x64 : Shape := ⟨3, ![8, 2176, 64]⟩
abbrev S_ : Shape := ⟨0, ![]⟩

class Facts : Prop where
  bitsLt_bf16_f32 : FTy.bits .bf16 < FTy.bits .f32
  bcast_S_S8x2176x96 : S_.BroadcastsInDim S8x2176x96 (![] : Fin 0 → Fin S8x2176x96.rank)
  reducesTo_S8x2176x96_S_d0_1_2 : S8x2176x96.ReducesTo [0, 1, 2] S_
  h_S_ : 0 < S_.numel

variable [Facts]

def fn {F : FTy → Type} [FloatOps F] (main_arg0 : FVec F S8x2176x96 .bf16) (main_arg1 : FVec F S8x2176x96 .bf16) (main_arg2 : FVec F S8x2176x64 .bf16) : IVec S_ 1 :=
  let main_v0 : FVec F S8x2176x96 .f32 := (extf .f32 · bitsLt_bf16_f32) main_arg0
  let main_v1 : FVec F S8x2176x96 .f32 := Host.absf main_v0
  let main_cst : FVec F S_ .f32 := constant S_ .f32 0x7F800000#32
  let main_v2 : FVec F S8x2176x96 .f32 := broadcastInDim S8x2176x96 ![] bcast_S_S8x2176x96 main_cst
  let main_v3 : IVec S8x2176x96 1 := cmpf .olt main_v1 main_v2
  let main_c : IVec S_ 1 := constantI S_ 1 1#1
  let main_v4 : IVec S_ 1 := (fun x v => Host.reduce IntOp.andi x v reducesTo_S8x2176x96_S_d0_1_2 h_S_) main_v3 main_c
  let main_v5 : FVec F S8x2176x96 .f32 := (extf .f32 · bitsLt_bf16_f32) main_arg1
  let main_v6 : FVec F S8x2176x96 .f32 := Host.absf main_v5
  let main_cst_0 : FVec F S_ .f32 := constant S_ .f32 0x7F800000#32
  let main_v7 : FVec F S8x2176x96 .f32 := broadcastInDim S8x2176x96 ![] bcast_S_S8x2176x96 main_cst_0
  let main_v8 : IVec S8x2176x96 1 := cmpf .olt main_v6 main_v7
  let main_c_1 : IVec S_ 1 := constantI S_ 1 1#1
  let main_v9 : IVec S_ 1 := (fun x v => Host.reduce IntOp.andi x v reducesTo_S8x2176x96_S_d0_1_2 h_S_) main_v8 main_c_1
  let main_v10 : IVec S_ 1 := andi main_v4 main_v9
  main_v10
-- ==== Conv.lean ====
abbrev S2064x512 : Shape := ⟨2, ![2064, 512]⟩
abbrev S2176x6144 : Shape := ⟨2, ![2176, 6144]⟩
abbrev S3x512 : Shape := ⟨2, ![3, 512]⟩
abbrev S1x512 : Shape := ⟨2, ![1, 512]⟩
abbrev S_ : Shape := ⟨0, ![]⟩
abbrev S112x512 : Shape := ⟨2, ![112, 512]⟩
abbrev S2176x512 : Shape := ⟨2, ![2176, 512]⟩
abbrev S2176x128 : Shape := ⟨2, ![2176, 128]⟩
abbrev S3x128 : Shape := ⟨2, ![3, 128]⟩
abbrev S1x128 : Shape := ⟨2, ![1, 128]⟩
abbrev S128 : Shape := ⟨1, ![128]⟩

abbrev nBuf : Space → Nat
  | .hbm => 12
  | .vmem => 22
  | .smem => 0
  | _ => 0

abbrev bufTy : (tb : Table) → Fin (tcTables nBuf tb) → BufTy
  | .hbm, ⟨0, _⟩ => ⟨S2064x512, .f32⟩
  | .hbm, ⟨1, _⟩ => ⟨S2176x6144, .f32⟩
  | .hbm, ⟨2, _⟩ => ⟨S3x512, .f32⟩
  | .hbm, ⟨3, _⟩ => ⟨S1x512, .f32⟩
  | .hbm, ⟨4, _⟩ => ⟨S_, .f32⟩
  | .hbm, ⟨5, _⟩ => ⟨S112x512, .f32⟩
  | .hbm, ⟨6, _⟩ => ⟨S2176x512, .f32⟩
  | .hbm, ⟨7, _⟩ => ⟨S2176x512, .bf16⟩
  | .hbm, ⟨8, _⟩ => ⟨S2176x512, .bf16⟩
  | .hbm, ⟨9, _⟩ => ⟨S2176x512, .bf16⟩
  | .hbm, ⟨10, _⟩ => ⟨S3x512, .f32⟩
  | .hbm, ⟨11, _⟩ => ⟨S1x512, .f32⟩
  | .local _ .vmem, ⟨0, _⟩ => ⟨S2176x128, .f32⟩
  | .local _ .vmem, ⟨1, _⟩ => ⟨S2176x128, .f32⟩
  | .local _ .vmem, ⟨2, _⟩ => ⟨S2176x128, .f32⟩
  | .local _ .vmem, ⟨3, _⟩ => ⟨S2176x128, .f32⟩
  | .local _ .vmem, ⟨4, _⟩ => ⟨S2176x128, .f32⟩
  | .local _ .vmem, ⟨5, _⟩ => ⟨S2176x128, .f32⟩
  | .local _ .vmem, ⟨6, _⟩ => ⟨S2176x128, .f32⟩
  | .local _ .vmem, ⟨7, _⟩ => ⟨S2176x128, .f32⟩
  | .local _ .vmem, ⟨8, _⟩ => ⟨S3x128, .f32⟩
  | .local _ .vmem, ⟨9, _⟩ => ⟨S3x128, .f32⟩
  | .local _ .vmem, ⟨10, _⟩ => ⟨S1x128, .f32⟩
  | .local _ .vmem, ⟨11, _⟩ => ⟨S1x128, .f32⟩
  | .local _ .vmem, ⟨12, _⟩ => ⟨S2176x128, .bf16⟩
  | .local _ .vmem, ⟨13, _⟩ => ⟨S2176x128, .bf16⟩
  | .local _ .vmem, ⟨14, _⟩ => ⟨S2176x128, .bf16⟩
  | .local _ .vmem, ⟨15, _⟩ => ⟨S2176x128, .bf16⟩
  | .local _ .vmem, ⟨16, _⟩ => ⟨S2176x128, .bf16⟩
  | .local _ .vmem, ⟨17, _⟩ => ⟨S2176x128, .bf16⟩
  | .local _ .vmem, ⟨18, _⟩ => ⟨S3x128, .f32⟩
  | .local _ .vmem, ⟨19, _⟩ => ⟨S3x128, .f32⟩
  | .local _ .vmem, ⟨20, _⟩ => ⟨S1x128, .f32⟩
  | .local _ .vmem, ⟨21, _⟩ => ⟨S1x128, .f32⟩
  | _, _ => ⟨S2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2176x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2176x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2176x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ConvRefIdeal.lean ====
abbrev S2064x512 : Shape := ⟨2, ![2064, 512]⟩
abbrev S2176x6144 : Shape := ⟨2, ![2176, 6144]⟩
abbrev S3x512 : Shape := ⟨2, ![3, 512]⟩
abbrev S1x512 : Shape := ⟨2, ![1, 512]⟩
abbrev S2176x512 : Shape := ⟨2, ![2176, 512]⟩
abbrev S_ : Shape := ⟨0, ![]⟩
abbrev S2x512 : Shape := ⟨2, ![2, 512]⟩
abbrev S2066x512 : Shape := ⟨2, ![2066, 512]⟩
abbrev S512 : Shape := ⟨1, ![512]⟩

abbrev nBuf : Space → Nat
  | .hbm => 103
  | .vmem => 0
  | .smem => 0
  | _ => 0

abbrev bufTy : (tb : Table) → Fin (tcTables nBuf tb) → BufTy
  | .hbm, ⟨0, _⟩ => ⟨S2064x512, .f32⟩
  | .hbm, ⟨1, _⟩ => ⟨S2176x6144, .f32⟩
  | .hbm, ⟨2, _⟩ => ⟨S3x512, .f32⟩
  | .hbm, ⟨3, _⟩ => ⟨S1x512, .f32⟩
  | .hbm, ⟨4, _⟩ => ⟨S2176x512, .f32⟩
  | .hbm, ⟨5, _⟩ => ⟨S2176x512, .f32⟩
  | .hbm, ⟨6, _⟩ => ⟨S2176x512, .f32⟩
  | .hbm, ⟨7, _⟩ => ⟨S2064x512, .f32⟩
  | .hbm, ⟨8, _⟩ => ⟨S2064x512, .f32⟩
  | .hbm, ⟨9, _⟩ => ⟨S2064x512, .f32⟩
  | .hbm, ⟨10, _⟩ => ⟨S2064x512, .f32⟩
  | .hbm, ⟨11, _⟩ => ⟨S_, .f32⟩
  | .hbm, ⟨12, _⟩ => ⟨S2x512, .f32⟩
  | .hbm, ⟨13, _⟩ => ⟨S2066x512, .f32⟩
  | .hbm, ⟨14, _⟩ => ⟨S_, .f32⟩
  | .hbm, ⟨15, _⟩ => ⟨S2x512, .f32⟩
  | .hbm, ⟨16, _⟩ => ⟨S1x512, .f32⟩
  | .hbm, ⟨17, _⟩ => ⟨S512, .f32⟩
  | .hbm, ⟨18, _⟩ => ⟨S2064x512, .f32⟩
  | .hbm, ⟨19, _⟩ => ⟨S1x512, .f32⟩
  | .hbm, ⟨20, _⟩ => ⟨S2064x512, .f32⟩
  | .hbm, ⟨21, _⟩ => ⟨S2064x512, .f32⟩
  | .hbm, ⟨22, _⟩ => ⟨S_, .f32⟩
  | .hbm, ⟨23, _⟩ => ⟨S2064x512, .f32⟩
  | .hbm, ⟨24, _⟩ => ⟨S2064x512, .f32⟩
  | .hbm, ⟨25, _⟩ => ⟨S1x512, .f32⟩
  | .hbm, ⟨26, _⟩ => ⟨S512, .f32⟩
  | .hbm, ⟨27, _⟩ => ⟨S2064x512, .f32⟩
  | .hbm, ⟨28, _⟩ => ⟨S1x512, .f32⟩
  | .hbm, ⟨29, _⟩ => ⟨S2064x512, .f32⟩
  | .hbm, ⟨30, _⟩ => ⟨S2064x512, .f32⟩
  | .hbm, ⟨31, _⟩ => ⟨S2064x512, .f32⟩
  | .hbm, ⟨32, _⟩ => ⟨S1x512, .f32⟩
  | .hbm, ⟨33, _⟩ => ⟨S512, .f32⟩
  | .hbm, ⟨34, _⟩ => ⟨S2064x512, .f32⟩
  | .hbm, ⟨35, _⟩ => ⟨S1x512, .f32⟩
  | .hbm, ⟨36, _⟩ => ⟨S2064x512, .f32⟩
  | .hbm, ⟨37, _⟩ => ⟨S2064x512, .f32⟩
  | .hbm, ⟨38, _⟩ => ⟨S2064x512, .f32⟩
  | .hbm, ⟨39, _⟩ => ⟨S2064x512, .f32⟩
  | .hbm, ⟨40, _⟩ => ⟨S2064x512, .f32⟩
  | .hbm, ⟨41, _⟩ => ⟨S2064x512, .f32⟩
  | .hbm, ⟨42, _⟩ => ⟨S2064x512, .f32⟩
  | .hbm, ⟨43, _⟩ => ⟨S2064x512, .f32⟩
  | .hbm, ⟨44, _⟩ => ⟨S_, .f32⟩
  | .hbm, ⟨45, _⟩ => ⟨S512, .f32⟩
  | .hbm, ⟨46, _⟩ => ⟨S1x512, .f32⟩
  | .hbm, ⟨47, _⟩ => ⟨S2064x512, .f32⟩
  | .hbm, ⟨48, _⟩ => ⟨S2064x512, .f32⟩
  | .hbm, ⟨49, _⟩ => ⟨S2064x512, .f32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S_, .f32⟩
  | .hbm, ⟨54, _⟩ => ⟨S512, .f32⟩
  | .hbm, ⟨55, _⟩ => ⟨S_, .f32⟩
  | .hbm, ⟨56, _⟩ => ⟨S2066x512, .f32⟩
  | .hbm, ⟨57, _⟩ => ⟨S1x512, .f32⟩
  | .hbm, ⟨58, _⟩ => ⟨S_, .f32⟩
  | .hbm, ⟨59, _⟩ => ⟨S3x512, .f32⟩
  | .hbm, ⟨60, _⟩ => ⟨S2064x512, .f32⟩
  | .hbm, ⟨61, _⟩ => ⟨S2064x512, .f32⟩
  | .hbm, ⟨62, _⟩ => ⟨S2064x512, .f32⟩
  | .hbm, ⟨63, _⟩ => ⟨S_, .f32⟩
  | .hbm, ⟨64, _⟩ => ⟨S512, .f32⟩
  | .hbm, ⟨65, _⟩ => ⟨S1x512, .f32⟩
  | .hbm, ⟨66, _⟩ => ⟨S_, .f32⟩
  | .hbm, ⟨67, _⟩ => ⟨S512, .f32⟩
  | .hbm, ⟨68, _⟩ => ⟨S_, .f32⟩
  | .hbm, ⟨69, _⟩ => ⟨S2066x512, .f32⟩
  | .hbm, ⟨70, _⟩ => ⟨S2066x512, .f32⟩
  | .hbm, ⟨71, _⟩ => ⟨S1x512, .f32⟩
  | .hbm, ⟨72, _⟩ => ⟨S_, .f32⟩
  | .hbm, ⟨73, _⟩ => ⟨S3x512, .f32⟩
  | .hbm, ⟨74, _⟩ => ⟨S3x512, .f32⟩
  | .hbm, ⟨75, _⟩ => ⟨S2064x512, .f32⟩
  | .hbm, ⟨76, _⟩ => ⟨S2064x512, .f32⟩
  | .hbm, ⟨77, _⟩ => ⟨S2064x512, .f32⟩
  | .hbm, ⟨78, _⟩ => ⟨S_, .f32⟩
  | .hbm, ⟨79, _⟩ => ⟨S512, .f32⟩
  | .hbm, ⟨80, _⟩ => ⟨S1x512, .f32⟩
  | .hbm, ⟨81, _⟩ => ⟨S_, .f32⟩
  | .hbm, ⟨82, _⟩ => ⟨S512, .f32⟩
  | .hbm, ⟨83, _⟩ => ⟨S_, .f32⟩
  | .hbm, ⟨84, _⟩ => ⟨S2066x512, .f32⟩
  | .hbm, ⟨85, _⟩ => ⟨S2066x512, .f32⟩
  | .hbm, ⟨86, _⟩ => ⟨S1x512, .f32⟩
  | .hbm, ⟨87, _⟩ => ⟨S_, .f32⟩
  | .hbm, ⟨88, _⟩ => ⟨S3x512, .f32⟩
  | .hbm, ⟨89, _⟩ => ⟨S3x512, .f32⟩
  | .hbm, ⟨90, _⟩ => ⟨S2x512, .f32⟩
  | .hbm, ⟨91, _⟩ => ⟨S2064x512, .f32⟩
  | .hbm, ⟨92, _⟩ => ⟨S2064x512, .f32⟩
  | .hbm, ⟨93, _⟩ => ⟨S2064x512, .f32⟩
  | .hbm, ⟨94, _⟩ => ⟨S_, .f32⟩
  | .hbm, ⟨95, _⟩ => ⟨S2176x512, .f32⟩
  | .hbm, ⟨96, _⟩ => ⟨S_, .f32⟩
  | .hbm, ⟨97, _⟩ => ⟨S2176x512, .f32⟩
  | .hbm, ⟨98, _⟩ => ⟨S_, .f32⟩
  | .hbm, ⟨99, _⟩ => ⟨S2176x512, .f32⟩
  | .hbm, ⟨100, _⟩ => ⟨S2176x512, .bf16⟩
  | .hbm, ⟨101, _⟩ => ⟨S2176x512, .bf16⟩
  | .hbm, ⟨102, _⟩ => ⟨S2176x512, .bf16⟩
  | _, _ => ⟨S2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_7 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_cst_9 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_11 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_cst_13 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_14 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_15 : Ref sig .tc := ⟨.hbm, 94, rfl⟩
abbrev main_v74 : Ref sig .tc := ⟨.hbm, 95, rfl⟩
abbrev main_cst_16 : Ref sig .tc := ⟨.hbm, 96, rfl⟩
abbrev main_v75 : Ref sig .tc := ⟨.hbm, 97, rfl⟩
abbrev main_cst_17 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩

abbrev nD : Nat := 1
abbrev τ : Topo := Topo.v7x

variable {F : FTy → Type} [FloatOps F]
-- ==== Up.lean ====
abbrev S2176x1024 : Shape := ⟨2, ![2176, 1024]⟩
abbrev S4x704x1024 : Shape := ⟨3, ![4, 704, 1024]⟩
abbrev S4x2x2176x704 : Shape := ⟨4, ![4, 2, 2176, 704]⟩
abbrev S4x2176x704 : Shape := ⟨3, ![4, 2176, 704]⟩
abbrev S1088x1024 : Shape := ⟨2, ![1088, 1024]⟩
abbrev S1x704x1024 : Shape := ⟨3, ![1, 704, 1024]⟩
abbrev S1x2x1088x704 : Shape := ⟨4, ![1, 2, 1088, 704]⟩
abbrev S1x1088x704 : Shape := ⟨3, ![1, 1088, 704]⟩
abbrev S704x1024 : Shape := ⟨2, ![704, 1024]⟩
abbrev S1088x704 : Shape := ⟨2, ![1088, 704]⟩
abbrev S1x1x1088x704 : Shape := ⟨4, ![1, 1, 1088, 704]⟩

abbrev nBuf : Space → Nat
  | .hbm => 5
  | .vmem => 10
  | .smem => 0
  | _ => 0

abbrev bufTy : (tb : Table) → Fin (tcTables nBuf tb) → BufTy
  | .hbm, ⟨0, _⟩ => ⟨S2176x1024, .bf16⟩
  | .hbm, ⟨1, _⟩ => ⟨S4x704x1024, .bf16⟩
  | .hbm, ⟨2, _⟩ => ⟨S4x704x1024, .bf16⟩
  | .hbm, ⟨3, _⟩ => ⟨S4x2x2176x704, .bf16⟩
  | .hbm, ⟨4, _⟩ => ⟨S4x2176x704, .bf16⟩
  | .local _ .vmem, ⟨0, _⟩ => ⟨S1088x1024, .bf16⟩
  | .local _ .vmem, ⟨1, _⟩ => ⟨S1088x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x2x1088x704, .bf16⟩
  | .local _ .vmem, ⟨7, _⟩ => ⟨S1x2x1088x704, .bf16⟩
  | .local _ .vmem, ⟨8, _⟩ => ⟨S1x1088x704, .bf16⟩
  | .local _ .vmem, ⟨9, _⟩ => ⟨S1x1088x704, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x1088x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1088x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpRefIdeal.lean ====
abbrev S2176x1024 : Shape := ⟨2, ![2176, 1024]⟩
abbrev S4x704x1024 : Shape := ⟨3, ![4, 704, 1024]⟩
abbrev S4x704x2176 : Shape := ⟨3, ![4, 704, 2176]⟩
abbrev S4x2176x704 : Shape := ⟨3, ![4, 2176, 704]⟩
abbrev S4x1x2176x704 : Shape := ⟨4, ![4, 1, 2176, 704]⟩
abbrev S4x2x2176x704 : Shape := ⟨4, ![4, 2, 2176, 704]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S4x704x1024, .bf16⟩
  | .hbm, ⟨2, _⟩ => ⟨S4x704x1024, .bf16⟩
  | .hbm, ⟨3, _⟩ => ⟨S2176x1024, .f32⟩
  | .hbm, ⟨4, _⟩ => ⟨S4x704x1024, .f32⟩
  | .hbm, ⟨5, _⟩ => ⟨S4x704x2176, .f32⟩
  | .hbm, ⟨6, _⟩ => ⟨S4x2176x704, .f32⟩
  | .hbm, ⟨7, _⟩ => ⟨S2176x1024, .f32⟩
  | .hbm, ⟨8, _⟩ => ⟨S4x704x1024, .f32⟩
  | .hbm, ⟨9, _⟩ => ⟨S4x704x2176, .f32⟩
  | .hbm, ⟨10, _⟩ => ⟨S4x2176x704, .f32⟩
  | .hbm, ⟨11, _⟩ => ⟨S4x1x2176x704, .f32⟩
  | .hbm, ⟨12, _⟩ => ⟨S4x1x2176x704, .f32⟩
  | .hbm, ⟨13, _⟩ => ⟨S4x2x2176x704, .f32⟩
  | .hbm, ⟨14, _⟩ => ⟨S4x2x2176x704, .bf16⟩
  | .hbm, ⟨15, _⟩ => ⟨S4x2176x704, .f32⟩
  | .hbm, ⟨16, _⟩ => ⟨S4x2176x704, .f32⟩
  | .hbm, ⟨17, _⟩ => ⟨S_, .f32⟩
  | .hbm, ⟨18, _⟩ => ⟨S4x2176x704, .f32⟩
  | .hbm, ⟨19, _⟩ => ⟨S4x2176x704, .f32⟩
  | .hbm, ⟨20, _⟩ => ⟨S_, .f32⟩
  | .hbm, ⟨21, _⟩ => ⟨S4x2176x704, .f32⟩
  | .hbm, ⟨22, _⟩ => ⟨S4x2176x704, .f32⟩
  | .hbm, ⟨23, _⟩ => ⟨S4x2176x704, .f32⟩
  | .hbm, ⟨24, _⟩ => ⟨S4x2176x704, .f32⟩
  | .hbm, ⟨25, _⟩ => ⟨S4x2176x704, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]
-- ==== Down.lean ====
abbrev S2176x1024 : Shape := ⟨2, ![2176, 1024]⟩
abbrev S4x704x1024 : Shape := ⟨3, ![4, 704, 1024]⟩
abbrev S4x2x2176x704 : Shape := ⟨4, ![4, 2, 2176, 704]⟩
abbrev S4x2176x704 : Shape := ⟨3, ![4, 2176, 704]⟩
abbrev S1088x1024 : Shape := ⟨2, ![1088, 1024]⟩
abbrev S1x704x1024 : Shape := ⟨3, ![1, 704, 1024]⟩
abbrev S1x2x1088x704 : Shape := ⟨4, ![1, 2, 1088, 704]⟩
abbrev S1x1088x704 : Shape := ⟨3, ![1, 1088, 704]⟩
abbrev S704x1024 : Shape := ⟨2, ![704, 1024]⟩
abbrev S1088x704 : Shape := ⟨2, ![1088, 704]⟩
abbrev S1x1x1088x704 : Shape := ⟨4, ![1, 1, 1088, 704]⟩

abbrev nBuf : Space → Nat
  | .hbm => 5
  | .vmem => 10
  | .smem => 0
  | _ => 0

abbrev bufTy : (tb : Table) → Fin (tcTables nBuf tb) → BufTy
  | .hbm, ⟨0, _⟩ => ⟨S2176x1024, .bf16⟩
  | .hbm, ⟨1, _⟩ => ⟨S4x704x1024, .bf16⟩
  | .hbm, ⟨2, _⟩ => ⟨S4x2x2176x704, .bf16⟩
  | .hbm, ⟨3, _⟩ => ⟨S4x2176x704, .bf16⟩
  | .hbm, ⟨4, _⟩ => ⟨S4x2176x704, .bf16⟩
  | .local _ .vmem, ⟨0, _⟩ => ⟨S1088x1024, .bf16⟩
  | .local _ .vmem, ⟨1, _⟩ => ⟨S1088x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x2x1088x704, .bf16⟩
  | .local _ .vmem, ⟨5, _⟩ => ⟨S1x2x1088x704, .bf16⟩
  | .local _ .vmem, ⟨6, _⟩ => ⟨S1x1088x704, .bf16⟩
  | .local _ .vmem, ⟨7, _⟩ => ⟨S1x1088x704, .bf16⟩
  | .local _ .vmem, ⟨8, _⟩ => ⟨S1x1088x704, .bf16⟩
  | .local _ .vmem, ⟨9, _⟩ => ⟨S1x1088x704, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x1088x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1088x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1088x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownRefIdeal.lean ====
abbrev S2176x1024 : Shape := ⟨2, ![2176, 1024]⟩
abbrev S4x704x1024 : Shape := ⟨3, ![4, 704, 1024]⟩
abbrev S4x2x2176x704 : Shape := ⟨4, ![4, 2, 2176, 704]⟩
abbrev S4x1x2176x704 : Shape := ⟨4, ![4, 1, 2176, 704]⟩
abbrev S4x2176x704 : Shape := ⟨3, ![4, 2176, 704]⟩
abbrev S_ : Shape := ⟨0, ![]⟩
abbrev S2176x4x704 : Shape := ⟨3, ![2176, 4, 704]⟩

abbrev nBuf : Space → Nat
  | .hbm => 36
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S4x704x1024, .bf16⟩
  | .hbm, ⟨2, _⟩ => ⟨S4x2x2176x704, .bf16⟩
  | .hbm, ⟨3, _⟩ => ⟨S4x1x2176x704, .bf16⟩
  | .hbm, ⟨4, _⟩ => ⟨S4x2176x704, .bf16⟩
  | .hbm, ⟨5, _⟩ => ⟨S4x2176x704, .f32⟩
  | .hbm, ⟨6, _⟩ => ⟨S4x1x2176x704, .bf16⟩
  | .hbm, ⟨7, _⟩ => ⟨S4x2176x704, .bf16⟩
  | .hbm, ⟨8, _⟩ => ⟨S4x2176x704, .f32⟩
  | .hbm, ⟨9, _⟩ => ⟨S4x704x1024, .f32⟩
  | .hbm, ⟨10, _⟩ => ⟨S4x2176x704, .f32⟩
  | .hbm, ⟨11, _⟩ => ⟨S4x2176x704, .f32⟩
  | .hbm, ⟨12, _⟩ => ⟨S_, .f32⟩
  | .hbm, ⟨13, _⟩ => ⟨S4x2176x704, .f32⟩
  | .hbm, ⟨14, _⟩ => ⟨S4x2176x704, .f32⟩
  | .hbm, ⟨15, _⟩ => ⟨S_, .f32⟩
  | .hbm, ⟨16, _⟩ => ⟨S4x2176x704, .f32⟩
  | .hbm, ⟨17, _⟩ => ⟨S4x2176x704, .f32⟩
  | .hbm, ⟨18, _⟩ => ⟨S_, .f32⟩
  | .hbm, ⟨19, _⟩ => ⟨S4x2176x704, .f32⟩
  | .hbm, ⟨20, _⟩ => ⟨S4x2176x704, .f32⟩
  | .hbm, ⟨21, _⟩ => ⟨S4x2176x704, .f32⟩
  | .hbm, ⟨22, _⟩ => ⟨S4x2176x704, .f32⟩
  | .hbm, ⟨23, _⟩ => ⟨S4x2176x704, .f32⟩
  | .hbm, ⟨24, _⟩ => ⟨S2176x1024, .f32⟩
  | .hbm, ⟨25, _⟩ => ⟨S2176x1024, .f32⟩
  | .hbm, ⟨26, _⟩ => ⟨S2176x4x704, .f32⟩
  | .hbm, ⟨27, _⟩ => ⟨S4x2176x704, .f32⟩
  | .hbm, ⟨28, _⟩ => ⟨S4x2176x704, .f32⟩
  | .hbm, ⟨29, _⟩ => ⟨S4x2176x704, .f32⟩
  | .hbm, ⟨30, _⟩ => ⟨S4x2176x704, .f32⟩
  | .hbm, ⟨31, _⟩ => ⟨S4x2176x704, .f32⟩
  | .hbm, ⟨32, _⟩ => ⟨S4x2176x704, .f32⟩
  | .hbm, ⟨33, _⟩ => ⟨S4x2176x704, .f32⟩
  | .hbm, ⟨34, _⟩ => ⟨S4x2176x704, .bf16⟩
  | .hbm, ⟨35, _⟩ => ⟨S4x2176x704, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩

abbrev nD : Nat := 1
abbrev τ : Topo := Topo.v7x

variable {F : FTy → Type} [FloatOps F]
-- ==== Dw.lean ====
abbrev S4x2176x704 : Shape := ⟨3, ![4, 2176, 704]⟩
abbrev S2176x1024 : Shape := ⟨2, ![2176, 1024]⟩
abbrev S1x2176x1024 : Shape := ⟨3, ![1, 2176, 1024]⟩
abbrev S4x704x1024 : Shape := ⟨3, ![4, 704, 1024]⟩
abbrev S1x2176x704 : Shape := ⟨3, ![1, 2176, 704]⟩
abbrev S1x704x1024 : Shape := ⟨3, ![1, 704, 1024]⟩
abbrev S2176x704 : Shape := ⟨2, ![2176, 704]⟩
abbrev S704x1024 : Shape := ⟨2, ![704, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4x2176x704, .bf16⟩
  | .hbm, ⟨1, _⟩ => ⟨S2176x1024, .bf16⟩
  | .hbm, ⟨2, _⟩ => ⟨S1x2176x1024, .bf16⟩
  | .hbm, ⟨3, _⟩ => ⟨S4x704x1024, .bf16⟩
  | .local _ .vmem, ⟨0, _⟩ => ⟨S1x2176x704, .bf16⟩
  | .local _ .vmem, ⟨1, _⟩ => ⟨S1x2176x704, .bf16⟩
  | .local _ .vmem, ⟨2, _⟩ => ⟨S1x2176x1024, .bf16⟩
  | .local _ .vmem, ⟨3, _⟩ => ⟨S1x704x1024, .bf16⟩
  | .local _ .vmem, ⟨4, _⟩ => ⟨S1x704x1024, .bf16⟩
  | _, _ => ⟨S4x2176x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![4, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2176x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false]

abbrev stage0_1 : Fin 1 → Memref sig .tc .vmem S1x2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DwdRefIdeal.lean ====
abbrev S4x2176x704 : Shape := ⟨3, ![4, 2176, 704]⟩
abbrev S2176x1024 : Shape := ⟨2, ![2176, 1024]⟩
abbrev S_ : Shape := ⟨0, ![]⟩
abbrev S4x704x1024 : Shape := ⟨3, ![4, 704, 1024]⟩
abbrev S1024x4x704 : Shape := ⟨3, ![1024, 4, 704]⟩

abbrev nBuf : Space → Nat
  | .hbm => 10
  | .vmem => 0
  | .smem => 0
  | _ => 0

abbrev bufTy : (tb : Table) → Fin (tcTables nBuf tb) → BufTy
  | .hbm, ⟨0, _⟩ => ⟨S4x2176x704, .bf16⟩
  | .hbm, ⟨1, _⟩ => ⟨S2176x1024, .bf16⟩
  | .hbm, ⟨2, _⟩ => ⟨S_, .f32⟩
  | .hbm, ⟨3, _⟩ => ⟨S4x704x1024, .f32⟩
  | .hbm, ⟨4, _⟩ => ⟨S4x2176x704, .f32⟩
  | .hbm, ⟨5, _⟩ => ⟨S2176x1024, .f32⟩
  | .hbm, ⟨6, _⟩ => ⟨S2176x1024, .f32⟩
  | .hbm, ⟨7, _⟩ => ⟨S1024x4x704, .f32⟩
  | .hbm, ⟨8, _⟩ => ⟨S4x704x1024, .f32⟩
  | .hbm, ⟨9, _⟩ => ⟨S4x704x1024, .bf16⟩
  | _, _ => ⟨S4x2176x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwuRefIdeal.lean ====
abbrev S4x2176x704 : Shape := ⟨3, ![4, 2176, 704]⟩
abbrev S2176x1024 : Shape := ⟨2, ![2176, 1024]⟩
abbrev S_ : Shape := ⟨0, ![]⟩
abbrev S4x704x1024 : Shape := ⟨3, ![4, 704, 1024]⟩
abbrev S4x704x2176 : Shape := ⟨3, ![4, 704, 2176]⟩

abbrev nBuf : Space → Nat
  | .hbm => 11
  | .vmem => 0
  | .smem => 0
  | _ => 0

abbrev bufTy : (tb : Table) → Fin (tcTables nBuf tb) → BufTy
  | .hbm, ⟨0, _⟩ => ⟨S4x2176x704, .bf16⟩
  | .hbm, ⟨1, _⟩ => ⟨S2176x1024, .bf16⟩
  | .hbm, ⟨2, _⟩ => ⟨S_, .f32⟩
  | .hbm, ⟨3, _⟩ => ⟨S4x704x1024, .f32⟩
  | .hbm, ⟨4, _⟩ => ⟨S2176x1024, .f32⟩
  | .hbm, ⟨5, _⟩ => ⟨S4x704x2176, .f32⟩
  | .hbm, ⟨6, _⟩ => ⟨S4x2176x704, .f32⟩
  | .hbm, ⟨7, _⟩ => ⟨S4x2176x704, .f32⟩
  | .hbm, ⟨8, _⟩ => ⟨S4x704x2176, .f32⟩
  | .hbm, ⟨9, _⟩ => ⟨S4x704x1024, .f32⟩
  | .hbm, ⟨10, _⟩ => ⟨S4x704x1024, .bf16⟩
  | _, _ => ⟨S4x2176x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dx.lean ====
abbrev S4x2176x704 : Shape := ⟨3, ![4, 2176, 704]⟩
abbrev S4x704x1024 : Shape := ⟨3, ![4, 704, 1024]⟩
abbrev S2176x1024 : Shape := ⟨2, ![2176, 1024]⟩
abbrev S4x544x704 : Shape := ⟨3, ![4, 544, 704]⟩
abbrev S544x1024 : Shape := ⟨2, ![544, 1024]⟩
abbrev S1x544x704 : Shape := ⟨3, ![1, 544, 704]⟩
abbrev S544x704 : Shape := ⟨2, ![544, 704]⟩
abbrev S1x704x1024 : Shape := ⟨3, ![1, 704, 1024]⟩
abbrev S704x1024 : Shape := ⟨2, ![704, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4x2176x704, .bf16⟩
  | .hbm, ⟨1, _⟩ => ⟨S4x2176x704, .bf16⟩
  | .hbm, ⟨2, _⟩ => ⟨S4x704x1024, .bf16⟩
  | .hbm, ⟨3, _⟩ => ⟨S4x704x1024, .bf16⟩
  | .hbm, ⟨4, _⟩ => ⟨S2176x1024, .f32⟩
  | .hbm, ⟨5, _⟩ => ⟨S2176x1024, .f32⟩
  | .local _ .vmem, ⟨0, _⟩ => ⟨S4x544x704, .bf16⟩
  | .local _ .vmem, ⟨1, _⟩ => ⟨S4x544x704, .bf16⟩
  | .local _ .vmem, ⟨2, _⟩ => ⟨S4x544x704, .bf16⟩
  | .local _ .vmem, ⟨3, _⟩ => ⟨S4x544x704, .bf16⟩
  | .local _ .vmem, ⟨4, _⟩ => ⟨S4x704x1024, .bf16⟩
  | .local _ .vmem, ⟨5, _⟩ => ⟨S4x704x1024, .bf16⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | _, _ => ⟨S4x2176x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x544x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x544x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DxRefIdeal.lean ====
abbrev S4x2176x704 : Shape := ⟨3, ![4, 2176, 704]⟩
abbrev S4x704x1024 : Shape := ⟨3, ![4, 704, 1024]⟩
abbrev S2176x1024 : Shape := ⟨2, ![2176, 1024]⟩
abbrev S_ : Shape := ⟨0, ![]⟩
abbrev S4x704x2176 : Shape := ⟨3, ![4, 704, 2176]⟩

abbrev nBuf : Space → Nat
  | .hbm => 27
  | .vmem => 0
  | .smem => 0
  | _ => 0

abbrev bufTy : (tb : Table) → Fin (tcTables nBuf tb) → BufTy
  | .hbm, ⟨0, _⟩ => ⟨S4x2176x704, .bf16⟩
  | .hbm, ⟨1, _⟩ => ⟨S4x2176x704, .bf16⟩
  | .hbm, ⟨2, _⟩ => ⟨S4x704x1024, .bf16⟩
  | .hbm, ⟨3, _⟩ => ⟨S4x704x1024, .bf16⟩
  | .hbm, ⟨4, _⟩ => ⟨S2176x1024, .f32⟩
  | .hbm, ⟨5, _⟩ => ⟨S_, .f32⟩
  | .hbm, ⟨6, _⟩ => ⟨S2176x1024, .f32⟩
  | .hbm, ⟨7, _⟩ => ⟨S4x704x1024, .f32⟩
  | .hbm, ⟨8, _⟩ => ⟨S4x704x2176, .f32⟩
  | .hbm, ⟨9, _⟩ => ⟨S4x2176x704, .f32⟩
  | .hbm, ⟨10, _⟩ => ⟨S4x704x1024, .f32⟩
  | .hbm, ⟨11, _⟩ => ⟨S4x704x2176, .f32⟩
  | .hbm, ⟨12, _⟩ => ⟨S4x2176x704, .f32⟩
  | .hbm, ⟨13, _⟩ => ⟨S_, .f32⟩
  | .hbm, ⟨14, _⟩ => ⟨S2176x1024, .f32⟩
  | .hbm, ⟨15, _⟩ => ⟨S2176x1024, .f32⟩
  | .hbm, ⟨16, _⟩ => ⟨S4x2176x704, .f32⟩
  | .hbm, ⟨17, _⟩ => ⟨S4x2176x704, .f32⟩
  | .hbm, ⟨18, _⟩ => ⟨S_, .f32⟩
  | .hbm, ⟨19, _⟩ => ⟨S2176x1024, .f32⟩
  | .hbm, ⟨20, _⟩ => ⟨S2176x1024, .f32⟩
  | .hbm, ⟨21, _⟩ => ⟨S4x704x2176, .f32⟩
  | .hbm, ⟨22, _⟩ => ⟨S2176x1024, .f32⟩
  | .hbm, ⟨23, _⟩ => ⟨S2176x1024, .f32⟩
  | .hbm, ⟨24, _⟩ => ⟨S4x704x2176, .f32⟩
  | .hbm, ⟨25, _⟩ => ⟨S2176x1024, .f32⟩
  | .hbm, ⟨26, _⟩ => ⟨S2176x1024, .f32⟩
  | _, _ => ⟨S4x2176x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Res.lean ====
abbrev S4x2176x704 : Shape := ⟨3, ![4, 2176, 704]⟩
abbrev S4x704x1024 : Shape := ⟨3, ![4, 704, 1024]⟩
abbrev S2176x1024 : Shape := ⟨2, ![2176, 1024]⟩
abbrev S1x1024 : Shape := ⟨2, ![1, 1024]⟩
abbrev S4x544x704 : Shape := ⟨3, ![4, 544, 704]⟩
abbrev S544x1024 : Shape := ⟨2, ![544, 1024]⟩
abbrev S1x544x704 : Shape := ⟨3, ![1, 544, 704]⟩
abbrev S544x704 : Shape := ⟨2, ![544, 704]⟩
abbrev S1x704x1024 : Shape := ⟨3, ![1, 704, 1024]⟩
abbrev S704x1024 : Shape := ⟨2, ![704, 1024]⟩
abbrev S544 : Shape := ⟨1, ![544]⟩
abbrev S544x1 : Shape := ⟨2, ![544, 1]⟩

abbrev nBuf : Space → Nat
  | .hbm => 8
  | .vmem => 13
  | .smem => 0
  | _ => 0

abbrev bufTy : (tb : Table) → Fin (tcTables nBuf tb) → BufTy
  | .hbm, ⟨0, _⟩ => ⟨S4x2176x704, .bf16⟩
  | .hbm, ⟨1, _⟩ => ⟨S4x704x1024, .bf16⟩
  | .hbm, ⟨2, _⟩ => ⟨S2176x1024, .f32⟩
  | .hbm, ⟨3, _⟩ => ⟨S1x1024, .f32⟩
  | .hbm, ⟨4, _⟩ => ⟨S1x1024, .f32⟩
  | .hbm, ⟨5, _⟩ => ⟨S2176x1024, .f32⟩
  | .hbm, ⟨6, _⟩ => ⟨S2176x1024, .f32⟩
  | .hbm, ⟨7, _⟩ => ⟨S2176x1024, .bf16⟩
  | .local _ .vmem, ⟨0, _⟩ => ⟨S4x544x704, .bf16⟩
  | .local _ .vmem, ⟨1, _⟩ => ⟨S4x544x704, .bf16⟩
  | .local _ .vmem, ⟨2, _⟩ => ⟨S4x704x1024, .bf16⟩
  | .local _ .vmem, ⟨3, _⟩ => ⟨S544x1024, .f32⟩
  | .local _ .vmem, ⟨4, _⟩ => ⟨S544x1024, .f32⟩
  | .local _ .vmem, ⟨5, _⟩ => ⟨S1x1024, .f32⟩
  | .local _ .vmem, ⟨6, _⟩ => ⟨S1x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | .local _ .vmem, ⟨11, _⟩ => ⟨S544x1024, .bf16⟩
  | .local _ .vmem, ⟨12, _⟩ => ⟨S544x1024, .bf16⟩
  | _, _ => ⟨S4x2176x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x544x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ResRefIdeal.lean ====
abbrev S4x2176x704 : Shape := ⟨3, ![4, 2176, 704]⟩
abbrev S4x704x1024 : Shape := ⟨3, ![4, 704, 1024]⟩
abbrev S2176x1024 : Shape := ⟨2, ![2176, 1024]⟩
abbrev S1x1024 : Shape := ⟨2, ![1, 1024]⟩
abbrev S_ : Shape := ⟨0, ![]⟩
abbrev S2176 : Shape := ⟨1, ![2176]⟩
abbrev S2176x1 : Shape := ⟨2, ![2176, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x2176x704, .bf16⟩
  | .hbm, ⟨1, _⟩ => ⟨S4x704x1024, .bf16⟩
  | .hbm, ⟨2, _⟩ => ⟨S2176x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S2176x1024, .f32⟩
  | .hbm, ⟨7, _⟩ => ⟨S2176x1024, .f32⟩
  | .hbm, ⟨8, _⟩ => ⟨S4x2176x704, .f32⟩
  | .hbm, ⟨9, _⟩ => ⟨S4x704x1024, .f32⟩
  | .hbm, ⟨10, _⟩ => ⟨S2176x1024, .f32⟩
  | .hbm, ⟨11, _⟩ => ⟨S_, .f32⟩
  | .hbm, ⟨12, _⟩ => ⟨S2176x1024, .f32⟩
  | .hbm, ⟨13, _⟩ => ⟨S2176x1024, .f32⟩
  | .hbm, ⟨14, _⟩ => ⟨S2176x1024, .f32⟩
  | .hbm, ⟨15, _⟩ => ⟨S_, .f32⟩
  | .hbm, ⟨16, _⟩ => ⟨S2176, .f32⟩
  | .hbm, ⟨17, _⟩ => ⟨S2176x1, .f32⟩
  | .hbm, ⟨18, _⟩ => ⟨S_, .f32⟩
  | .hbm, ⟨19, _⟩ => ⟨S2176x1, .f32⟩
  | .hbm, ⟨20, _⟩ => ⟨S2176x1, .f32⟩
  | .hbm, ⟨21, _⟩ => ⟨S2176x1024, .f32⟩
  | .hbm, ⟨22, _⟩ => ⟨S2176x1024, .f32⟩
  | .hbm, ⟨23, _⟩ => ⟨S2176x1024, .f32⟩
  | .hbm, ⟨24, _⟩ => ⟨S_, .f32⟩
  | .hbm, ⟨25, _⟩ => ⟨S2176, .f32⟩
  | .hbm, ⟨26, _⟩ => ⟨S2176x1, .f32⟩
  | .hbm, ⟨27, _⟩ => ⟨S_, .f32⟩
  | .hbm, ⟨28, _⟩ => ⟨S2176x1, .f32⟩
  | .hbm, ⟨29, _⟩ => ⟨S2176x1, .f32⟩
  | .hbm, ⟨30, _⟩ => ⟨S2176x1024, .f32⟩
  | .hbm, ⟨31, _⟩ => ⟨S2176x1024, .f32⟩
  | .hbm, ⟨32, _⟩ => ⟨S_, .f32⟩
  | .hbm, ⟨33, _⟩ => ⟨S2176x1, .f32⟩
  | .hbm, ⟨34, _⟩ => ⟨S2176x1, .f32⟩
  | .hbm, ⟨35, _⟩ => ⟨S2176x1, .f32⟩
  | .hbm, ⟨36, _⟩ => ⟨S2176x1024, .f32⟩
  | .hbm, ⟨37, _⟩ => ⟨S2176x1024, .f32⟩
  | .hbm, ⟨38, _⟩ => ⟨S2176x1024, .f32⟩
  | .hbm, ⟨39, _⟩ => ⟨S2176x1024, .f32⟩
  | .hbm, ⟨40, _⟩ => ⟨S2176x1024, .f32⟩
  | .hbm, ⟨41, _⟩ => ⟨S2176x1024, .f32⟩
  | .hbm, ⟨42, _⟩ => ⟨S2176x1024, .bf16⟩
  | _, _ => ⟨S4x2176x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Proj.lean ====
abbrev S2176x1024 : Shape := ⟨2, ![2176, 1024]⟩
abbrev S5792x1024 : Shape := ⟨2, ![5792, 1024]⟩
abbrev S1x2176x1024 : Shape := ⟨3, ![1, 2176, 1024]⟩
abbrev S384x1024 : Shape := ⟨2, ![384, 1024]⟩
abbrev S32x1024 : Shape := ⟨2, ![32, 1024]⟩
abbrev S_ : Shape := ⟨0, ![]⟩
abbrev S96x1024 : Shape := ⟨2, ![96, 1024]⟩
abbrev S256x1024 : Shape := ⟨2, ![256, 1024]⟩
abbrev S5120x1024 : Shape := ⟨2, ![5120, 1024]⟩
abbrev S6144x1024 : Shape := ⟨2, ![6144, 1024]⟩
abbrev S1x6144x1024 : Shape := ⟨3, ![1, 6144, 1024]⟩
abbrev S1x2176x6144 : Shape := ⟨3, ![1, 2176, 6144]⟩
abbrev S1x1088x1024 : Shape := ⟨3, ![1, 1088, 1024]⟩
abbrev S1x1024x1024 : Shape := ⟨3, ![1, 1024, 1024]⟩
abbrev S1088x1024 : Shape := ⟨2, ![1088, 1024]⟩
abbrev S1024x1024 : Shape := ⟨2, ![1024, 1024]⟩

abbrev nBuf : Space → Nat
  | .hbm => 14
  | .vmem => 6
  | .smem => 0
  | _ => 0

abbrev bufTy : (tb : Table) → Fin (tcTables nBuf tb) → BufTy
  | .hbm, ⟨0, _⟩ => ⟨S2176x1024, .bf16⟩
  | .hbm, ⟨1, _⟩ => ⟨S5792x1024, .bf16⟩
  | .hbm, ⟨2, _⟩ => ⟨S1x2176x1024, .bf16⟩
  | .hbm, ⟨3, _⟩ => ⟨S384x1024, .bf16⟩
  | .hbm, ⟨4, _⟩ => ⟨S32x1024, .bf16⟩
  | .hbm, ⟨5, _⟩ => ⟨S_, .bf16⟩
  | .hbm, ⟨6, _⟩ => ⟨S96x1024, .bf16⟩
  | .hbm, ⟨7, _⟩ => ⟨S256x1024, .bf16⟩
  | .hbm, ⟨8, _⟩ => ⟨S_, .bf16⟩
  | .hbm, ⟨9, _⟩ => ⟨S256x1024, .bf16⟩
  | .hbm, ⟨10, _⟩ => ⟨S5120x1024, .bf16⟩
  | .hbm, ⟨11, _⟩ => ⟨S6144x1024, .bf16⟩
  | .hbm, ⟨12, _⟩ => ⟨S1x6144x1024, .bf16⟩
  | .hbm, ⟨13, _⟩ => ⟨S1x2176x6144, .f32⟩
  | .local _ .vmem, ⟨0, _⟩ => ⟨S1x1088x1024, .bf16⟩
  | .local _ .vmem, ⟨1, _⟩ => ⟨S1x1088x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1088x1024, .f32⟩
  | .local _ .vmem, ⟨5, _⟩ => ⟨S1x1088x1024, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 6, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false]

abbrev stage0_2 : Fin 2 → Memref sig .tc .vmem S1x1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ProjRefIdeal.lean ====
abbrev S2176x1024 : Shape := ⟨2, ![2176, 1024]⟩
abbrev S5792x1024 : Shape := ⟨2, ![5792, 1024]⟩
abbrev S1024x5792 : Shape := ⟨2, ![1024, 5792]⟩
abbrev S2176x5792 : Shape := ⟨2, ![2176, 5792]⟩
abbrev S2176x384 : Shape := ⟨2, ![2176, 384]⟩
abbrev S2176x32 : Shape := ⟨2, ![2176, 32]⟩
abbrev S_ : Shape := ⟨0, ![]⟩
abbrev S2176x96 : Shape := ⟨2, ![2176, 96]⟩
abbrev S2176x256 : Shape := ⟨2, ![2176, 256]⟩
abbrev S2176x5120 : Shape := ⟨2, ![2176, 5120]⟩
abbrev S2176x6144 : Shape := ⟨2, ![2176, 6144]⟩
abbrev S1x2176x6144 : Shape := ⟨3, ![1, 2176, 6144]⟩

abbrev nBuf : Space → Nat
  | .hbm => 16
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S5792x1024, .bf16⟩
  | .hbm, ⟨2, _⟩ => ⟨S2176x1024, .f32⟩
  | .hbm, ⟨3, _⟩ => ⟨S5792x1024, .f32⟩
  | .hbm, ⟨4, _⟩ => ⟨S1024x5792, .f32⟩
  | .hbm, ⟨5, _⟩ => ⟨S2176x5792, .f32⟩
  | .hbm, ⟨6, _⟩ => ⟨S2176x384, .f32⟩
  | .hbm, ⟨7, _⟩ => ⟨S2176x32, .f32⟩
  | .hbm, ⟨8, _⟩ => ⟨S_, .f32⟩
  | .hbm, ⟨9, _⟩ => ⟨S2176x96, .f32⟩
  | .hbm, ⟨10, _⟩ => ⟨S2176x256, .f32⟩
  | .hbm, ⟨11, _⟩ => ⟨S_, .f32⟩
  | .hbm, ⟨12, _⟩ => ⟨S2176x256, .f32⟩
  | .hbm, ⟨13, _⟩ => ⟨S2176x5120, .f32⟩
  | .hbm, ⟨14, _⟩ => ⟨S2176x6144, .f32⟩
  | .hbm, ⟨15, _⟩ => ⟨S1x2176x6144, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== ProjDx.lean ====
abbrev S2176x6144 : Shape := ⟨2, ![2176, 6144]⟩
abbrev S6144x1024 : Shape := ⟨2, ![6144, 1024]⟩
abbrev S2176x1024 : Shape := ⟨2, ![2176, 1024]⟩
abbrev S1x2176x6144 : Shape := ⟨3, ![1, 2176, 6144]⟩
abbrev S1x6144x1024 : Shape := ⟨3, ![1, 6144, 1024]⟩
abbrev S1x2176x1024 : Shape := ⟨3, ![1, 2176, 1024]⟩
abbrev S1x1088x1024 : Shape := ⟨3, ![1, 1088, 1024]⟩
abbrev S1x1024x1024 : Shape := ⟨3, ![1, 1024, 1024]⟩
abbrev S1088x1024 : Shape := ⟨2, ![1088, 1024]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S2176x6144, .bf16⟩
  | .hbm, ⟨1, _⟩ => ⟨S6144x1024, .bf16⟩
  | .hbm, ⟨2, _⟩ => ⟨S2176x1024, .f32⟩
  | .hbm, ⟨3, _⟩ => ⟨S1x2176x6144, .bf16⟩
  | .hbm, ⟨4, _⟩ => ⟨S1x6144x1024, .bf16⟩
  | .hbm, ⟨5, _⟩ => ⟨S1x2176x1024, .f32⟩
  | .hbm, ⟨6, _⟩ => ⟨S1x2176x1024, .f32⟩
  | .local _ .vmem, ⟨0, _⟩ => ⟨S1x1088x1024, .bf16⟩
  | .local _ .vmem, ⟨1, _⟩ => ⟨S1x1088x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1088x1024, .f32⟩
  | .local _ .vmem, ⟨5, _⟩ => ⟨S1x1088x1024, .f32⟩
  | .local _ .vmem, ⟨6, _⟩ => ⟨S1x1088x1024, .f32⟩
  | .local _ .vmem, ⟨7, _⟩ => ⟨S1x1088x1024, .f32⟩
  | .local _ .vmem, ⟨8, _⟩ => ⟨S1088x1024, .f32⟩
  | _, _ => ⟨S2176x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 2, 1, 6], ![false, false, false, false]⟩

def k0_cond3 (i : grid0.Coords) : BitVec 1 :=
  let arg3 : BitVec 32 := BitVec.ofNat 32 (i 3).val
  let c5_i32 : BitVec 32 := 5#32
  let v11 : BitVec 1 := Scalar.cmpi .eq arg3 c5_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== ProjDxRefIdeal.lean ====
abbrev S2176x6144 : Shape := ⟨2, ![2176, 6144]⟩
abbrev S6144x1024 : Shape := ⟨2, ![6144, 1024]⟩
abbrev S2176x1024 : Shape := ⟨2, ![2176, 1024]⟩
abbrev S_ : Shape := ⟨0, ![]⟩
abbrev S1024x6144 : Shape := ⟨2, ![1024, 6144]⟩
abbrev S1x2176x1024 : Shape := ⟨3, ![1, 2176, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2176x6144, .bf16⟩
  | .hbm, ⟨1, _⟩ => ⟨S6144x1024, .bf16⟩
  | .hbm, ⟨2, _⟩ => ⟨S2176x1024, .f32⟩
  | .hbm, ⟨3, _⟩ => ⟨S_, .f32⟩
  | .hbm, ⟨4, _⟩ => ⟨S2176x1024, .f32⟩
  | .hbm, ⟨5, _⟩ => ⟨S6144x1024, .f32⟩
  | .hbm, ⟨6, _⟩ => ⟨S1024x6144, .f32⟩
  | .hbm, ⟨7, _⟩ => ⟨S2176x6144, .f32⟩
  | .hbm, ⟨8, _⟩ => ⟨S_, .f32⟩
  | .hbm, ⟨9, _⟩ => ⟨S2176x1024, .f32⟩
  | .hbm, ⟨10, _⟩ => ⟨S2176x1024, .f32⟩
  | .hbm, ⟨11, _⟩ => ⟨S2176x6144, .f32⟩
  | .hbm, ⟨12, _⟩ => ⟨S_, .f32⟩
  | .hbm, ⟨13, _⟩ => ⟨S2176x1024, .f32⟩
  | .hbm, ⟨14, _⟩ => ⟨S2176x1024, .f32⟩
  | .hbm, ⟨15, _⟩ => ⟨S2176x1024, .f32⟩
  | .hbm, ⟨16, _⟩ => ⟨S2176x1024, .f32⟩
  | .hbm, ⟨17, _⟩ => ⟨S1x2176x1024, .f32⟩
  | _, _ => ⟨S2176x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== ProjDw.lean ====
abbrev S2176x6144 : Shape := ⟨2, ![2176, 6144]⟩
abbrev S2176x1024 : Shape := ⟨2, ![2176, 1024]⟩
abbrev S1x2176x6144 : Shape := ⟨3, ![1, 2176, 6144]⟩
abbrev S1x2176x1024 : Shape := ⟨3, ![1, 2176, 1024]⟩
abbrev S1x6144x1024 : Shape := ⟨3, ![1, 6144, 1024]⟩
abbrev S1x1024x1024 : Shape := ⟨3, ![1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2176x6144, .bf16⟩
  | .hbm, ⟨1, _⟩ => ⟨S2176x1024, .bf16⟩
  | .hbm, ⟨2, _⟩ => ⟨S1x2176x6144, .bf16⟩
  | .hbm, ⟨3, _⟩ => ⟨S1x2176x1024, .bf16⟩
  | .hbm, ⟨4, _⟩ => ⟨S1x6144x1024, .bf16⟩
  | .local _ .vmem, ⟨0, _⟩ => ⟨S1x2176x1024, .bf16⟩
  | .local _ .vmem, ⟨1, _⟩ => ⟨S1x2176x1024, .bf16⟩
  | .local _ .vmem, ⟨2, _⟩ => ⟨S1x2176x1024, .bf16⟩
  | .local _ .vmem, ⟨3, _⟩ => ⟨S1x1024x1024, .bf16⟩
  | .local _ .vmem, ⟨4, _⟩ => ⟨S1x1024x1024, .bf16⟩
  | _, _ => ⟨S2176x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 6, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 1 → Memref sig .tc .vmem S1x2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ProjDwRefIdeal.lean ====
abbrev S2176x6144 : Shape := ⟨2, ![2176, 6144]⟩
abbrev S2176x1024 : Shape := ⟨2, ![2176, 1024]⟩
abbrev S_ : Shape := ⟨0, ![]⟩
abbrev S6144x1024 : Shape := ⟨2, ![6144, 1024]⟩
abbrev S1024x6144 : Shape := ⟨2, ![1024, 6144]⟩
abbrev S1x6144x1024 : Shape := ⟨3, ![1, 6144, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2176x6144, .bf16⟩
  | .hbm, ⟨1, _⟩ => ⟨S2176x1024, .bf16⟩
  | .hbm, ⟨2, _⟩ => ⟨S_, .f32⟩
  | .hbm, ⟨3, _⟩ => ⟨S6144x1024, .f32⟩
  | .hbm, ⟨4, _⟩ => ⟨S2176x1024, .f32⟩
  | .hbm, ⟨5, _⟩ => ⟨S1024x6144, .f32⟩
  | .hbm, ⟨6, _⟩ => ⟨S2176x6144, .f32⟩
  | .hbm, ⟨7, _⟩ => ⟨S2176x6144, .f32⟩
  | .hbm, ⟨8, _⟩ => ⟨S6144x1024, .f32⟩
  | .hbm, ⟨9, _⟩ => ⟨S1024x6144, .f32⟩
  | .hbm, ⟨10, _⟩ => ⟨S6144x1024, .f32⟩
  | .hbm, ⟨11, _⟩ => ⟨S6144x1024, .bf16⟩
  | .hbm, ⟨12, _⟩ => ⟨S1x6144x1024, .bf16⟩
  | _, _ => ⟨S2176x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== WoDx.lean ====
abbrev S2176x1024 : Shape := ⟨2, ![2176, 1024]⟩
abbrev S1024x1024 : Shape := ⟨2, ![1024, 1024]⟩
abbrev S1x2176x1024 : Shape := ⟨3, ![1, 2176, 1024]⟩
abbrev S1x1024x1024 : Shape := ⟨3, ![1, 1024, 1024]⟩
abbrev S1x1088x1024 : Shape := ⟨3, ![1, 1088, 1024]⟩
abbrev S1088x1024 : Shape := ⟨2, ![1088, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S1x2176x1024, .bf16⟩
  | .hbm, ⟨3, _⟩ => ⟨S1x1024x1024, .bf16⟩
  | .hbm, ⟨4, _⟩ => ⟨S1x2176x1024, .f32⟩
  | .local _ .vmem, ⟨0, _⟩ => ⟨S1x1088x1024, .bf16⟩
  | .local _ .vmem, ⟨1, _⟩ => ⟨S1x1088x1024, .bf16⟩
  | .local _ .vmem, ⟨2, _⟩ => ⟨S1x1024x1024, .bf16⟩
  | .local _ .vmem, ⟨3, _⟩ => ⟨S1x1088x1024, .f32⟩
  | .local _ .vmem, ⟨4, _⟩ => ⟨S1x1088x1024, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false]

abbrev stage0_2 : Fin 2 → Memref sig .tc .vmem S1x1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== WoDxIdeal.lean ====
abbrev S2176x1024 : Shape := ⟨2, ![2176, 1024]⟩
abbrev S1024x1024 : Shape := ⟨2, ![1024, 1024]⟩
abbrev S1x2176x1024 : Shape := ⟨3, ![1, 2176, 1024]⟩
abbrev S1x1024x1024 : Shape := ⟨3, ![1, 1024, 1024]⟩
abbrev S1x1088x1024 : Shape := ⟨3, ![1, 1088, 1024]⟩
abbrev S1088x1024 : Shape := ⟨2, ![1088, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S1x2176x1024, .bf16⟩
  | .hbm, ⟨3, _⟩ => ⟨S1x1024x1024, .bf16⟩
  | .hbm, ⟨4, _⟩ => ⟨S1x2176x1024, .f32⟩
  | .local _ .vmem, ⟨0, _⟩ => ⟨S1x1088x1024, .bf16⟩
  | .local _ .vmem, ⟨1, _⟩ => ⟨S1x1088x1024, .bf16⟩
  | .local _ .vmem, ⟨2, _⟩ => ⟨S1x1024x1024, .bf16⟩
  | .local _ .vmem, ⟨3, _⟩ => ⟨S1x1088x1024, .f32⟩
  | .local _ .vmem, ⟨4, _⟩ => ⟨S1x1088x1024, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false]

abbrev stage0_2 : Fin 2 → Memref sig .tc .vmem S1x1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== WoDxRefIdeal.lean ====
abbrev S2176x1024 : Shape := ⟨2, ![2176, 1024]⟩
abbrev S1024x1024 : Shape := ⟨2, ![1024, 1024]⟩
abbrev S_ : Shape := ⟨0, ![]⟩
abbrev S1x2176x1024 : Shape := ⟨3, ![1, 2176, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x1024, .f32⟩
  | .hbm, ⟨3, _⟩ => ⟨S_, .f32⟩
  | .hbm, ⟨4, _⟩ => ⟨S2176x1024, .f32⟩
  | .hbm, ⟨5, _⟩ => ⟨S1024x1024, .f32⟩
  | .hbm, ⟨6, _⟩ => ⟨S2176x1024, .f32⟩
  | .hbm, ⟨7, _⟩ => ⟨S2176x1024, .f32⟩
  | .hbm, ⟨8, _⟩ => ⟨S1x2176x1024, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WoDw.lean ====
abbrev S2176x1024 : Shape := ⟨2, ![2176, 1024]⟩
abbrev S1x2176x1024 : Shape := ⟨3, ![1, 2176, 1024]⟩
abbrev S1x1024x1024 : Shape := ⟨3, ![1, 1024, 1024]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S1x2176x1024, .bf16⟩
  | .hbm, ⟨3, _⟩ => ⟨S1x2176x1024, .bf16⟩
  | .hbm, ⟨4, _⟩ => ⟨S1x1024x1024, .bf16⟩
  | .local _ .vmem, ⟨0, _⟩ => ⟨S1x2176x1024, .bf16⟩
  | .local _ .vmem, ⟨1, _⟩ => ⟨S1x2176x1024, .bf16⟩
  | .local _ .vmem, ⟨2, _⟩ => ⟨S1x1024x1024, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨4, ![1, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S1x2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, false]

abbrev stage0_1 : Fin 1 → Memref sig .tc .vmem S1x2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== WoDwIdeal.lean ====
abbrev S2176x1024 : Shape := ⟨2, ![2176, 1024]⟩
abbrev S1x2176x1024 : Shape := ⟨3, ![1, 2176, 1024]⟩
abbrev S1x1024x1024 : Shape := ⟨3, ![1, 1024, 1024]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S1x2176x1024, .bf16⟩
  | .hbm, ⟨3, _⟩ => ⟨S1x2176x1024, .bf16⟩
  | .hbm, ⟨4, _⟩ => ⟨S1x1024x1024, .bf16⟩
  | .local _ .vmem, ⟨0, _⟩ => ⟨S1x2176x1024, .bf16⟩
  | .local _ .vmem, ⟨1, _⟩ => ⟨S1x2176x1024, .bf16⟩
  | .local _ .vmem, ⟨2, _⟩ => ⟨S1x1024x1024, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨4, ![1, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S1x2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, false]

abbrev stage0_1 : Fin 1 → Memref sig .tc .vmem S1x2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== WoDwRefIdeal.lean ====
abbrev S2176x1024 : Shape := ⟨2, ![2176, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S2176x1024, .f32⟩
  | .hbm, ⟨3, _⟩ => ⟨S_, .f32⟩
  | .hbm, ⟨4, _⟩ => ⟨S1024x1024, .f32⟩
  | .hbm, ⟨5, _⟩ => ⟨S2176x1024, .f32⟩
  | .hbm, ⟨6, _⟩ => ⟨S2176x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024x1024, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WoLn.lean ====
abbrev S2176x1024 : Shape := ⟨2, ![2176, 1024]⟩
abbrev S1024x1024 : Shape := ⟨2, ![1024, 1024]⟩
abbrev S1x1024 : Shape := ⟨2, ![1, 1024]⟩
abbrev S1x2176x1024 : Shape := ⟨3, ![1, 2176, 1024]⟩
abbrev S1x1024x1024 : Shape := ⟨3, ![1, 1024, 1024]⟩
abbrev S1x544x1024 : Shape := ⟨3, ![1, 544, 1024]⟩
abbrev S544x1024 : Shape := ⟨2, ![544, 1024]⟩
abbrev S544 : Shape := ⟨1, ![544]⟩
abbrev S544x1 : Shape := ⟨2, ![544, 1]⟩

abbrev nBuf : Space → Nat
  | .hbm => 10
  | .vmem => 13
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x1024, .f32⟩
  | .hbm, ⟨3, _⟩ => ⟨S1x1024, .f32⟩
  | .hbm, ⟨4, _⟩ => ⟨S1x1024, .f32⟩
  | .hbm, ⟨5, _⟩ => ⟨S1x2176x1024, .bf16⟩
  | .hbm, ⟨6, _⟩ => ⟨S1x1024x1024, .bf16⟩
  | .hbm, ⟨7, _⟩ => ⟨S2176x1024, .f32⟩
  | .hbm, ⟨8, _⟩ => ⟨S2176x1024, .f32⟩
  | .hbm, ⟨9, _⟩ => ⟨S2176x1024, .bf16⟩
  | .local _ .vmem, ⟨0, _⟩ => ⟨S1x544x1024, .bf16⟩
  | .local _ .vmem, ⟨1, _⟩ => ⟨S1x544x1024, .bf16⟩
  | .local _ .vmem, ⟨2, _⟩ => ⟨S1x1024x1024, .bf16⟩
  | .local _ .vmem, ⟨3, _⟩ => ⟨S544x1024, .f32⟩
  | .local _ .vmem, ⟨4, _⟩ => ⟨S544x1024, .f32⟩
  | .local _ .vmem, ⟨5, _⟩ => ⟨S1x1024, .f32⟩
  | .local _ .vmem, ⟨6, _⟩ => ⟨S1x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | .local _ .vmem, ⟨11, _⟩ => ⟨S544x1024, .bf16⟩
  | .local _ .vmem, ⟨12, _⟩ => ⟨S544x1024, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== WoLnRefIdeal.lean ====
abbrev S2176x1024 : Shape := ⟨2, ![2176, 1024]⟩
abbrev S1024x1024 : Shape := ⟨2, ![1024, 1024]⟩
abbrev S1x1024 : Shape := ⟨2, ![1, 1024]⟩
abbrev S_ : Shape := ⟨0, ![]⟩
abbrev S2176 : Shape := ⟨1, ![2176]⟩
abbrev S2176x1 : Shape := ⟨2, ![2176, 1]⟩

abbrev nBuf : Space → Nat
  | .hbm => 40
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S2176x1024, .f32⟩
  | .hbm, ⟨7, _⟩ => ⟨S2176x1024, .f32⟩
  | .hbm, ⟨8, _⟩ => ⟨S2176x1024, .f32⟩
  | .hbm, ⟨9, _⟩ => ⟨S1024x1024, .f32⟩
  | .hbm, ⟨10, _⟩ => ⟨S2176x1024, .f32⟩
  | .hbm, ⟨11, _⟩ => ⟨S2176x1024, .f32⟩
  | .hbm, ⟨12, _⟩ => ⟨S_, .f32⟩
  | .hbm, ⟨13, _⟩ => ⟨S2176, .f32⟩
  | .hbm, ⟨14, _⟩ => ⟨S2176x1, .f32⟩
  | .hbm, ⟨15, _⟩ => ⟨S_, .f32⟩
  | .hbm, ⟨16, _⟩ => ⟨S2176x1, .f32⟩
  | .hbm, ⟨17, _⟩ => ⟨S2176x1, .f32⟩
  | .hbm, ⟨18, _⟩ => ⟨S2176x1024, .f32⟩
  | .hbm, ⟨19, _⟩ => ⟨S2176x1024, .f32⟩
  | .hbm, ⟨20, _⟩ => ⟨S2176x1024, .f32⟩
  | .hbm, ⟨21, _⟩ => ⟨S_, .f32⟩
  | .hbm, ⟨22, _⟩ => ⟨S2176, .f32⟩
  | .hbm, ⟨23, _⟩ => ⟨S2176x1, .f32⟩
  | .hbm, ⟨24, _⟩ => ⟨S_, .f32⟩
  | .hbm, ⟨25, _⟩ => ⟨S2176x1, .f32⟩
  | .hbm, ⟨26, _⟩ => ⟨S2176x1, .f32⟩
  | .hbm, ⟨27, _⟩ => ⟨S2176x1024, .f32⟩
  | .hbm, ⟨28, _⟩ => ⟨S2176x1024, .f32⟩
  | .hbm, ⟨29, _⟩ => ⟨S_, .f32⟩
  | .hbm, ⟨30, _⟩ => ⟨S2176x1, .f32⟩
  | .hbm, ⟨31, _⟩ => ⟨S2176x1, .f32⟩
  | .hbm, ⟨32, _⟩ => ⟨S2176x1, .f32⟩
  | .hbm, ⟨33, _⟩ => ⟨S2176x1024, .f32⟩
  | .hbm, ⟨34, _⟩ => ⟨S2176x1024, .f32⟩
  | .hbm, ⟨35, _⟩ => ⟨S2176x1024, .f32⟩
  | .hbm, ⟨36, _⟩ => ⟨S2176x1024, .f32⟩
  | .hbm, ⟨37, _⟩ => ⟨S2176x1024, .f32⟩
  | .hbm, ⟨38, _⟩ => ⟨S2176x1024, .f32⟩
  | .hbm, ⟨39, _⟩ => ⟨S2176x1024, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== OutDx.lean ====
abbrev S2176x1024 : Shape := ⟨2, ![2176, 1024]⟩
abbrev S512x1024 : Shape := ⟨2, ![512, 1024]⟩
abbrev S1x2176x1024 : Shape := ⟨3, ![1, 2176, 1024]⟩
abbrev S1x512x1024 : Shape := ⟨3, ![1, 512, 1024]⟩
abbrev S1x2176x512 : Shape := ⟨3, ![1, 2176, 512]⟩
abbrev S1x1088x1024 : Shape := ⟨3, ![1, 1088, 1024]⟩
abbrev S1x1088x512 : Shape := ⟨3, ![1, 1088, 512]⟩
abbrev S1088x1024 : Shape := ⟨2, ![1088, 1024]⟩
abbrev S1088x512 : Shape := ⟨2, ![1088, 512]⟩

abbrev nBuf : Space → Nat
  | .hbm => 5
  | .vmem => 5
  | .smem => 0
  | _ => 0

abbrev bufTy : (tb : Table) → Fin (tcTables nBuf tb) → BufTy
  | .hbm, ⟨0, _⟩ => ⟨S2176x1024, .bf16⟩
  | .hbm, ⟨1, _⟩ => ⟨S512x1024, .bf16⟩
  | .hbm, ⟨2, _⟩ => ⟨S1x2176x1024, .bf16⟩
  | .hbm, ⟨3, _⟩ => ⟨S1x512x1024, .bf16⟩
  | .hbm, ⟨4, _⟩ => ⟨S1x2176x512, .f32⟩
  | .local _ .vmem, ⟨0, _⟩ => ⟨S1x1088x1024, .bf16⟩
  | .local _ .vmem, ⟨1, _⟩ => ⟨S1x1088x1024, .bf16⟩
  | .local _ .vmem, ⟨2, _⟩ => ⟨S1x512x1024, .bf16⟩
  | .local _ .vmem, ⟨3, _⟩ => ⟨S1x1088x512, .f32⟩
  | .local _ .vmem, ⟨4, _⟩ => ⟨S1x1088x512, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 1 → Memref sig .tc .vmem S1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false]

abbrev stage0_2 : Fin 2 → Memref sig .tc .vmem S1x1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== OutDxRefIdeal.lean ====
abbrev S2176x1024 : Shape := ⟨2, ![2176, 1024]⟩
abbrev S512x1024 : Shape := ⟨2, ![512, 1024]⟩
abbrev S_ : Shape := ⟨0, ![]⟩
abbrev S2176x512 : Shape := ⟨2, ![2176, 512]⟩
abbrev S1x2176x512 : Shape := ⟨3, ![1, 2176, 512]⟩

abbrev nBuf : Space → Nat
  | .hbm => 9
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S512x1024, .bf16⟩
  | .hbm, ⟨2, _⟩ => ⟨S2176x1024, .f32⟩
  | .hbm, ⟨3, _⟩ => ⟨S_, .f32⟩
  | .hbm, ⟨4, _⟩ => ⟨S2176x512, .f32⟩
  | .hbm, ⟨5, _⟩ => ⟨S512x1024, .f32⟩
  | .hbm, ⟨6, _⟩ => ⟨S2176x1024, .f32⟩
  | .hbm, ⟨7, _⟩ => ⟨S2176x512, .f32⟩
  | .hbm, ⟨8, _⟩ => ⟨S1x2176x512, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDw.lean ====
abbrev S2176x512 : Shape := ⟨2, ![2176, 512]⟩
abbrev S2176x1024 : Shape := ⟨2, ![2176, 1024]⟩
abbrev S1x2176x512 : Shape := ⟨3, ![1, 2176, 512]⟩
abbrev S1x2176x1024 : Shape := ⟨3, ![1, 2176, 1024]⟩
abbrev S1x512x1024 : Shape := ⟨3, ![1, 512, 1024]⟩
abbrev S512x1024 : Shape := ⟨2, ![512, 1024]⟩

abbrev nBuf : Space → Nat
  | .hbm => 5
  | .vmem => 3
  | .smem => 0
  | _ => 0

abbrev bufTy : (tb : Table) → Fin (tcTables nBuf tb) → BufTy
  | .hbm, ⟨0, _⟩ => ⟨S2176x512, .bf16⟩
  | .hbm, ⟨1, _⟩ => ⟨S2176x1024, .bf16⟩
  | .hbm, ⟨2, _⟩ => ⟨S1x2176x512, .bf16⟩
  | .hbm, ⟨3, _⟩ => ⟨S1x2176x1024, .bf16⟩
  | .hbm, ⟨4, _⟩ => ⟨S1x512x1024, .bf16⟩
  | .local _ .vmem, ⟨0, _⟩ => ⟨S1x2176x512, .bf16⟩
  | .local _ .vmem, ⟨1, _⟩ => ⟨S1x2176x1024, .bf16⟩
  | .local _ .vmem, ⟨2, _⟩ => ⟨S1x512x1024, .bf16⟩
  | _, _ => ⟨S2176x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨4, ![1, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S1x2176x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, false]

abbrev stage0_1 : Fin 1 → Memref sig .tc .vmem S1x2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false]

abbrev stage0_2 : Fin 1 → Memref sig .tc .vmem S1x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== OutDwIdeal.lean ====
abbrev S2176x512 : Shape := ⟨2, ![2176, 512]⟩
abbrev S2176x1024 : Shape := ⟨2, ![2176, 1024]⟩
abbrev S1x2176x512 : Shape := ⟨3, ![1, 2176, 512]⟩
abbrev S1x2176x1024 : Shape := ⟨3, ![1, 2176, 1024]⟩
abbrev S1x512x1024 : Shape := ⟨3, ![1, 512, 1024]⟩
abbrev S512x1024 : Shape := ⟨2, ![512, 1024]⟩

abbrev nBuf : Space → Nat
  | .hbm => 5
  | .vmem => 3
  | .smem => 0
  | _ => 0

abbrev bufTy : (tb : Table) → Fin (tcTables nBuf tb) → BufTy
  | .hbm, ⟨0, _⟩ => ⟨S2176x512, .bf16⟩
  | .hbm, ⟨1, _⟩ => ⟨S2176x1024, .bf16⟩
  | .hbm, ⟨2, _⟩ => ⟨S1x2176x512, .bf16⟩
  | .hbm, ⟨3, _⟩ => ⟨S1x2176x1024, .bf16⟩
  | .hbm, ⟨4, _⟩ => ⟨S1x512x1024, .bf16⟩
  | .local _ .vmem, ⟨0, _⟩ => ⟨S1x2176x512, .bf16⟩
  | .local _ .vmem, ⟨1, _⟩ => ⟨S1x2176x1024, .bf16⟩
  | .local _ .vmem, ⟨2, _⟩ => ⟨S1x512x1024, .bf16⟩
  | _, _ => ⟨S2176x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨4, ![1, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S1x2176x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, false]

abbrev stage0_1 : Fin 1 → Memref sig .tc .vmem S1x2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false]

abbrev stage0_2 : Fin 1 → Memref sig .tc .vmem S1x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== OutDwRefIdeal.lean ====
abbrev S2176x512 : Shape := ⟨2, ![2176, 512]⟩
abbrev S2176x1024 : Shape := ⟨2, ![2176, 1024]⟩
abbrev S_ : Shape := ⟨0, ![]⟩
abbrev S512x1024 : Shape := ⟨2, ![512, 1024]⟩
abbrev S1024x512 : Shape := ⟨2, ![1024, 512]⟩
abbrev S1x512x1024 : Shape := ⟨3, ![1, 512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2176x512, .bf16⟩
  | .hbm, ⟨1, _⟩ => ⟨S2176x1024, .bf16⟩
  | .hbm, ⟨2, _⟩ => ⟨S2176x1024, .f32⟩
  | .hbm, ⟨3, _⟩ => ⟨S_, .f32⟩
  | .hbm, ⟨4, _⟩ => ⟨S512x1024, .f32⟩
  | .hbm, ⟨5, _⟩ => ⟨S2176x512, .f32⟩
  | .hbm, ⟨6, _⟩ => ⟨S2176x1024, .f32⟩
  | .hbm, ⟨7, _⟩ => ⟨S1024x512, .f32⟩
  | .hbm, ⟨8, _⟩ => ⟨S512x1024, .f32⟩
  | .hbm, ⟨9, _⟩ => ⟨S512x1024, .bf16⟩
  | .hbm, ⟨10, _⟩ => ⟨S1x512x1024, .bf16⟩
  | _, _ => ⟨S2176x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Out.lean ====
abbrev S2176x512 : Shape := ⟨2, ![2176, 512]⟩
abbrev S512x1024 : Shape := ⟨2, ![512, 1024]⟩
abbrev S1x2176x512 : Shape := ⟨3, ![1, 2176, 512]⟩
abbrev S1x512x1024 : Shape := ⟨3, ![1, 512, 1024]⟩
abbrev S1x2176x1024 : Shape := ⟨3, ![1, 2176, 1024]⟩
abbrev S1x1088x512 : Shape := ⟨3, ![1, 1088, 512]⟩
abbrev S1x1088x1024 : Shape := ⟨3, ![1, 1088, 1024]⟩
abbrev S1088x512 : Shape := ⟨2, ![1088, 512]⟩
abbrev S1088x1024 : Shape := ⟨2, ![1088, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2176x512, .bf16⟩
  | .hbm, ⟨1, _⟩ => ⟨S512x1024, .bf16⟩
  | .hbm, ⟨2, _⟩ => ⟨S1x2176x512, .bf16⟩
  | .hbm, ⟨3, _⟩ => ⟨S1x512x1024, .bf16⟩
  | .hbm, ⟨4, _⟩ => ⟨S1x2176x1024, .bf16⟩
  | .local _ .vmem, ⟨0, _⟩ => ⟨S1x1088x512, .bf16⟩
  | .local _ .vmem, ⟨1, _⟩ => ⟨S1x1088x512, .bf16⟩
  | .local _ .vmem, ⟨2, _⟩ => ⟨S1x512x1024, .bf16⟩
  | .local _ .vmem, ⟨3, _⟩ => ⟨S1x1088x1024, .bf16⟩
  | .local _ .vmem, ⟨4, _⟩ => ⟨S1x1088x1024, .bf16⟩
  | _, _ => ⟨S2176x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 1 → Memref sig .tc .vmem S1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false]

abbrev stage0_2 : Fin 2 → Memref sig .tc .vmem S1x1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== OutRefIdeal.lean ====
abbrev S2176x512 : Shape := ⟨2, ![2176, 512]⟩
abbrev S512x1024 : Shape := ⟨2, ![512, 1024]⟩
abbrev S2176x1024 : Shape := ⟨2, ![2176, 1024]⟩
abbrev S1x2176x1024 : Shape := ⟨3, ![1, 2176, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2176x512, .bf16⟩
  | .hbm, ⟨1, _⟩ => ⟨S512x1024, .bf16⟩
  | .hbm, ⟨2, _⟩ => ⟨S2176x512, .f32⟩
  | .hbm, ⟨3, _⟩ => ⟨S512x1024, .f32⟩
  | .hbm, ⟨4, _⟩ => ⟨S2176x1024, .f32⟩
  | .hbm, ⟨5, _⟩ => ⟨S2176x1024, .bf16⟩
  | .hbm, ⟨6, _⟩ => ⟨S1x2176x1024, .bf16⟩
  | _, _ => ⟨S2176x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GluDx.lean ====
abbrev S2176x512 : Shape := ⟨2, ![2176, 512]⟩
abbrev S512x512 : Shape := ⟨2, ![512, 512]⟩
abbrev S1x2176x512 : Shape := ⟨3, ![1, 2176, 512]⟩
abbrev S1x512x512 : Shape := ⟨3, ![1, 512, 512]⟩
abbrev S1x1088x512 : Shape := ⟨3, ![1, 1088, 512]⟩
abbrev S1088x512 : Shape := ⟨2, ![1088, 512]⟩

abbrev nBuf : Space → Nat
  | .hbm => 7
  | .vmem => 7
  | .smem => 0
  | _ => 0

abbrev bufTy : (tb : Table) → Fin (tcTables nBuf tb) → BufTy
  | .hbm, ⟨0, _⟩ => ⟨S2176x512, .bf16⟩
  | .hbm, ⟨1, _⟩ => ⟨S512x512, .bf16⟩
  | .hbm, ⟨2, _⟩ => ⟨S2176x512, .f32⟩
  | .hbm, ⟨3, _⟩ => ⟨S1x2176x512, .bf16⟩
  | .hbm, ⟨4, _⟩ => ⟨S1x512x512, .bf16⟩
  | .hbm, ⟨5, _⟩ => ⟨S1x2176x512, .f32⟩
  | .hbm, ⟨6, _⟩ => ⟨S1x2176x512, .f32⟩
  | .local _ .vmem, ⟨0, _⟩ => ⟨S1x1088x512, .bf16⟩
  | .local _ .vmem, ⟨1, _⟩ => ⟨S1x1088x512, .bf16⟩
  | .local _ .vmem, ⟨2, _⟩ => ⟨S1x512x512, .bf16⟩
  | .local _ .vmem, ⟨3, _⟩ => ⟨S1x1088x512, .f32⟩
  | .local _ .vmem, ⟨4, _⟩ => ⟨S1x1088x512, .f32⟩
  | .local _ .vmem, ⟨5, _⟩ => ⟨S1x1088x512, .f32⟩
  | .local _ .vmem, ⟨6, _⟩ => ⟨S1x1088x512, .f32⟩
  | _, _ => ⟨S2176x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 1 → Memref sig .tc .vmem S1x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false]

abbrev stage0_2 : Fin 2 → Memref sig .tc .vmem S1x1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== GluDxRefIdeal.lean ====
abbrev S2176x512 : Shape := ⟨2, ![2176, 512]⟩
abbrev S512x512 : Shape := ⟨2, ![512, 512]⟩
abbrev S_ : Shape := ⟨0, ![]⟩
abbrev S1x2176x512 : Shape := ⟨3, ![1, 2176, 512]⟩

abbrev nBuf : Space → Nat
  | .hbm => 11
  | .vmem => 0
  | .smem => 0
  | _ => 0

abbrev bufTy : (tb : Table) → Fin (tcTables nBuf tb) → BufTy
  | .hbm, ⟨0, _⟩ => ⟨S2176x512, .bf16⟩
  | .hbm, ⟨1, _⟩ => ⟨S512x512, .bf16⟩
  | .hbm, ⟨2, _⟩ => ⟨S2176x512, .f32⟩
  | .hbm, ⟨3, _⟩ => ⟨S2176x512, .f32⟩
  | .hbm, ⟨4, _⟩ => ⟨S_, .f32⟩
  | .hbm, ⟨5, _⟩ => ⟨S2176x512, .f32⟩
  | .hbm, ⟨6, _⟩ => ⟨S512x512, .f32⟩
  | .hbm, ⟨7, _⟩ => ⟨S2176x512, .f32⟩
  | .hbm, ⟨8, _⟩ => ⟨S2176x512, .f32⟩
  | .hbm, ⟨9, _⟩ => ⟨S2176x512, .f32⟩
  | .hbm, ⟨10, _⟩ => ⟨S1x2176x512, .f32⟩
  | _, _ => ⟨S2176x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== GluDw.lean ====
abbrev S2176x512 : Shape := ⟨2, ![2176, 512]⟩
abbrev S1x2176x512 : Shape := ⟨3, ![1, 2176, 512]⟩
abbrev S1x512x512 : Shape := ⟨3, ![1, 512, 512]⟩
abbrev S512x512 : Shape := ⟨2, ![512, 512]⟩

abbrev nBuf : Space → Nat
  | .hbm => 5
  | .vmem => 3
  | .smem => 0
  | _ => 0

abbrev bufTy : (tb : Table) → Fin (tcTables nBuf tb) → BufTy
  | .hbm, ⟨0, _⟩ => ⟨S2176x512, .bf16⟩
  | .hbm, ⟨1, _⟩ => ⟨S2176x512, .bf16⟩
  | .hbm, ⟨2, _⟩ => ⟨S1x2176x512, .bf16⟩
  | .hbm, ⟨3, _⟩ => ⟨S1x2176x512, .bf16⟩
  | .hbm, ⟨4, _⟩ => ⟨S1x512x512, .bf16⟩
  | .local _ .vmem, ⟨0, _⟩ => ⟨S1x2176x512, .bf16⟩
  | .local _ .vmem, ⟨1, _⟩ => ⟨S1x2176x512, .bf16⟩
  | .local _ .vmem, ⟨2, _⟩ => ⟨S1x512x512, .bf16⟩
  | _, _ => ⟨S2176x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨4, ![1, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S1x2176x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, false]

abbrev stage0_1 : Fin 1 → Memref sig .tc .vmem S1x2176x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false]

abbrev stage0_2 : Fin 1 → Memref sig .tc .vmem S1x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== GluDwRefIdeal.lean ====
abbrev S2176x512 : Shape := ⟨2, ![2176, 512]⟩
abbrev S_ : Shape := ⟨0, ![]⟩
abbrev S512x512 : Shape := ⟨2, ![512, 512]⟩
abbrev S1x512x512 : Shape := ⟨3, ![1, 512, 512]⟩

abbrev nBuf : Space → Nat
  | .hbm => 11
  | .vmem => 0
  | .smem => 0
  | _ => 0

abbrev bufTy : (tb : Table) → Fin (tcTables nBuf tb) → BufTy
  | .hbm, ⟨0, _⟩ => ⟨S2176x512, .bf16⟩
  | .hbm, ⟨1, _⟩ => ⟨S2176x512, .bf16⟩
  | .hbm, ⟨2, _⟩ => ⟨S2176x512, .f32⟩
  | .hbm, ⟨3, _⟩ => ⟨S_, .f32⟩
  | .hbm, ⟨4, _⟩ => ⟨S512x512, .f32⟩
  | .hbm, ⟨5, _⟩ => ⟨S2176x512, .f32⟩
  | .hbm, ⟨6, _⟩ => ⟨S2176x512, .f32⟩
  | .hbm, ⟨7, _⟩ => ⟨S512x512, .f32⟩
  | .hbm, ⟨8, _⟩ => ⟨S512x512, .f32⟩
  | .hbm, ⟨9, _⟩ => ⟨S512x512, .bf16⟩
  | .hbm, ⟨10, _⟩ => ⟨S1x512x512, .bf16⟩
  | _, _ => ⟨S2176x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Glu.lean ====
abbrev S2176x512 : Shape := ⟨2, ![2176, 512]⟩
abbrev S512x512 : Shape := ⟨2, ![512, 512]⟩
abbrev S1x2176x512 : Shape := ⟨3, ![1, 2176, 512]⟩
abbrev S1x512x512 : Shape := ⟨3, ![1, 512, 512]⟩
abbrev S1x1088x512 : Shape := ⟨3, ![1, 1088, 512]⟩
abbrev S1088x512 : Shape := ⟨2, ![1088, 512]⟩

abbrev nBuf : Space → Nat
  | .hbm => 5
  | .vmem => 5
  | .smem => 0
  | _ => 0

abbrev bufTy : (tb : Table) → Fin (tcTables nBuf tb) → BufTy
  | .hbm, ⟨0, _⟩ => ⟨S2176x512, .bf16⟩
  | .hbm, ⟨1, _⟩ => ⟨S512x512, .bf16⟩
  | .hbm, ⟨2, _⟩ => ⟨S1x2176x512, .bf16⟩
  | .hbm, ⟨3, _⟩ => ⟨S1x512x512, .bf16⟩
  | .hbm, ⟨4, _⟩ => ⟨S1x2176x512, .f32⟩
  | .local _ .vmem, ⟨0, _⟩ => ⟨S1x1088x512, .bf16⟩
  | .local _ .vmem, ⟨1, _⟩ => ⟨S1x1088x512, .bf16⟩
  | .local _ .vmem, ⟨2, _⟩ => ⟨S1x512x512, .bf16⟩
  | .local _ .vmem, ⟨3, _⟩ => ⟨S1x1088x512, .f32⟩
  | .local _ .vmem, ⟨4, _⟩ => ⟨S1x1088x512, .f32⟩
  | _, _ => ⟨S2176x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 1 → Memref sig .tc .vmem S1x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false]

abbrev stage0_2 : Fin 2 → Memref sig .tc .vmem S1x1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GluRefIdeal.lean ====
abbrev S2176x512 : Shape := ⟨2, ![2176, 512]⟩
abbrev S512x512 : Shape := ⟨2, ![512, 512]⟩
abbrev S1x2176x512 : Shape := ⟨3, ![1, 2176, 512]⟩

abbrev nBuf : Space → Nat
  | .hbm => 6
  | .vmem => 0
  | .smem => 0
  | _ => 0

abbrev bufTy : (tb : Table) → Fin (tcTables nBuf tb) → BufTy
  | .hbm, ⟨0, _⟩ => ⟨S2176x512, .bf16⟩
  | .hbm, ⟨1, _⟩ => ⟨S512x512, .bf16⟩
  | .hbm, ⟨2, _⟩ => ⟨S2176x512, .f32⟩
  | .hbm, ⟨3, _⟩ => ⟨S512x512, .f32⟩
  | .hbm, ⟨4, _⟩ => ⟨S2176x512, .f32⟩
  | .hbm, ⟨5, _⟩ => ⟨S1x2176x512, .f32⟩
  | _, _ => ⟨S2176x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Heads.lean ====
abbrev S8x2176x64 : Shape := ⟨3, ![8, 2176, 64]⟩
abbrev S8x64x1024 : Shape := ⟨3, ![8, 64, 1024]⟩
abbrev S2176x1024 : Shape := ⟨2, ![2176, 1024]⟩
abbrev S8x544x64 : Shape := ⟨3, ![8, 544, 64]⟩
abbrev S544x1024 : Shape := ⟨2, ![544, 1024]⟩
abbrev S1x544x64 : Shape := ⟨3, ![1, 544, 64]⟩
abbrev S544x64 : Shape := ⟨2, ![544, 64]⟩
abbrev S1x64x1024 : Shape := ⟨3, ![1, 64, 1024]⟩
abbrev S64x1024 : Shape := ⟨2, ![64, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8x2176x64, .bf16⟩
  | .hbm, ⟨1, _⟩ => ⟨S8x64x1024, .bf16⟩
  | .hbm, ⟨2, _⟩ => ⟨S2176x1024, .bf16⟩
  | .local _ .vmem, ⟨0, _⟩ => ⟨S8x544x64, .bf16⟩
  | .local _ .vmem, ⟨1, _⟩ => ⟨S8x544x64, .bf16⟩
  | .local _ .vmem, ⟨2, _⟩ => ⟨S8x64x1024, .bf16⟩
  | .local _ .vmem, ⟨3, _⟩ => ⟨S544x1024, .bf16⟩
  | .local _ .vmem, ⟨4, _⟩ => ⟨S544x1024, .bf16⟩
  | _, _ => ⟨S8x2176x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x544x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== HeadsRefIdeal.lean ====
abbrev S8x2176x64 : Shape := ⟨3, ![8, 2176, 64]⟩
abbrev S8x64x1024 : Shape := ⟨3, ![8, 64, 1024]⟩
abbrev S2176x1024 : Shape := ⟨2, ![2176, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8x2176x64, .bf16⟩
  | .hbm, ⟨1, _⟩ => ⟨S8x64x1024, .bf16⟩
  | .hbm, ⟨2, _⟩ => ⟨S8x2176x64, .f32⟩
  | .hbm, ⟨3, _⟩ => ⟨S8x64x1024, .f32⟩
  | .hbm, ⟨4, _⟩ => ⟨S2176x1024, .f32⟩
  | .hbm, ⟨5, _⟩ => ⟨S2176x1024, .bf16⟩
  | _, _ => ⟨S8x2176x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== HeadsDx.lean ====
abbrev S2176x1024 : Shape := ⟨2, ![2176, 1024]⟩
abbrev S8x64x1024 : Shape := ⟨3, ![8, 64, 1024]⟩
abbrev S8x2176x64 : Shape := ⟨3, ![8, 2176, 64]⟩
abbrev S544x1024 : Shape := ⟨2, ![544, 1024]⟩
abbrev S8x544x64 : Shape := ⟨3, ![8, 544, 64]⟩
abbrev S1x64x1024 : Shape := ⟨3, ![1, 64, 1024]⟩
abbrev S64x1024 : Shape := ⟨2, ![64, 1024]⟩
abbrev S544x64 : Shape := ⟨2, ![544, 64]⟩
abbrev S1x544x64 : Shape := ⟨3, ![1, 544, 64]⟩

abbrev nBuf : Space → Nat
  | .hbm => 3
  | .vmem => 5
  | .smem => 0
  | _ => 0

abbrev bufTy : (tb : Table) → Fin (tcTables nBuf tb) → BufTy
  | .hbm, ⟨0, _⟩ => ⟨S2176x1024, .bf16⟩
  | .hbm, ⟨1, _⟩ => ⟨S8x64x1024, .bf16⟩
  | .hbm, ⟨2, _⟩ => ⟨S8x2176x64, .bf16⟩
  | .local _ .vmem, ⟨0, _⟩ => ⟨S544x1024, .bf16⟩
  | .local _ .vmem, ⟨1, _⟩ => ⟨S544x1024, .bf16⟩
  | .local _ .vmem, ⟨2, _⟩ => ⟨S8x64x1024, .bf16⟩
  | .local _ .vmem, ⟨3, _⟩ => ⟨S8x544x64, .bf16⟩
  | .local _ .vmem, ⟨4, _⟩ => ⟨S8x544x64, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x544x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== HeadsDxRefIdeal.lean ====
abbrev S2176x1024 : Shape := ⟨2, ![2176, 1024]⟩
abbrev S8x64x1024 : Shape := ⟨3, ![8, 64, 1024]⟩
abbrev S_ : Shape := ⟨0, ![]⟩
abbrev S8x2176x64 : Shape := ⟨3, ![8, 2176, 64]⟩
abbrev S2176x8x64 : Shape := ⟨3, ![2176, 8, 64]⟩

abbrev nBuf : Space → Nat
  | .hbm => 10
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S8x64x1024, .bf16⟩
  | .hbm, ⟨2, _⟩ => ⟨S2176x1024, .f32⟩
  | .hbm, ⟨3, _⟩ => ⟨S_, .f32⟩
  | .hbm, ⟨4, _⟩ => ⟨S8x2176x64, .f32⟩
  | .hbm, ⟨5, _⟩ => ⟨S8x64x1024, .f32⟩
  | .hbm, ⟨6, _⟩ => ⟨S2176x1024, .f32⟩
  | .hbm, ⟨7, _⟩ => ⟨S2176x8x64, .f32⟩
  | .hbm, ⟨8, _⟩ => ⟨S8x2176x64, .f32⟩
  | .hbm, ⟨9, _⟩ => ⟨S8x2176x64, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== HeadsDw.lean ====
abbrev S8x2176x64 : Shape := ⟨3, ![8, 2176, 64]⟩
abbrev S2176x1024 : Shape := ⟨2, ![2176, 1024]⟩
abbrev S1x2176x1024 : Shape := ⟨3, ![1, 2176, 1024]⟩
abbrev S8x64x1024 : Shape := ⟨3, ![8, 64, 1024]⟩
abbrev S1x2176x64 : Shape := ⟨3, ![1, 2176, 64]⟩
abbrev S1x64x1024 : Shape := ⟨3, ![1, 64, 1024]⟩
abbrev S2176x64 : Shape := ⟨2, ![2176, 64]⟩
abbrev S64x1024 : Shape := ⟨2, ![64, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8x2176x64, .bf16⟩
  | .hbm, ⟨1, _⟩ => ⟨S2176x1024, .bf16⟩
  | .hbm, ⟨2, _⟩ => ⟨S1x2176x1024, .bf16⟩
  | .hbm, ⟨3, _⟩ => ⟨S8x64x1024, .bf16⟩
  | .local _ .vmem, ⟨0, _⟩ => ⟨S1x2176x64, .bf16⟩
  | .local _ .vmem, ⟨1, _⟩ => ⟨S1x2176x64, .bf16⟩
  | .local _ .vmem, ⟨2, _⟩ => ⟨S1x2176x1024, .bf16⟩
  | .local _ .vmem, ⟨3, _⟩ => ⟨S1x64x1024, .bf16⟩
  | .local _ .vmem, ⟨4, _⟩ => ⟨S1x64x1024, .bf16⟩
  | _, _ => ⟨S8x2176x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![8, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2176x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false]

abbrev stage0_1 : Fin 1 → Memref sig .tc .vmem S1x2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== HeadsDwRefIdeal.lean ====
abbrev S8x2176x64 : Shape := ⟨3, ![8, 2176, 64]⟩
abbrev S2176x1024 : Shape := ⟨2, ![2176, 1024]⟩
abbrev S_ : Shape := ⟨0, ![]⟩
abbrev S8x64x1024 : Shape := ⟨3, ![8, 64, 1024]⟩
abbrev S1024x8x64 : Shape := ⟨3, ![1024, 8, 64]⟩

abbrev nBuf : Space → Nat
  | .hbm => 10
  | .vmem => 0
  | .smem => 0
  | _ => 0

abbrev bufTy : (tb : Table) → Fin (tcTables nBuf tb) → BufTy
  | .hbm, ⟨0, _⟩ => ⟨S8x2176x64, .bf16⟩
  | .hbm, ⟨1, _⟩ => ⟨S2176x1024, .bf16⟩
  | .hbm, ⟨2, _⟩ => ⟨S2176x1024, .f32⟩
  | .hbm, ⟨3, _⟩ => ⟨S_, .f32⟩
  | .hbm, ⟨4, _⟩ => ⟨S8x64x1024, .f32⟩
  | .hbm, ⟨5, _⟩ => ⟨S8x2176x64, .f32⟩
  | .hbm, ⟨6, _⟩ => ⟨S2176x1024, .f32⟩
  | .hbm, ⟨7, _⟩ => ⟨S1024x8x64, .f32⟩
  | .hbm, ⟨8, _⟩ => ⟨S8x64x1024, .f32⟩
  | .hbm, ⟨9, _⟩ => ⟨S8x64x1024, .bf16⟩
  | _, _ => ⟨S8x2176x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dwq.lean ====
abbrev S2176x384 : Shape := ⟨2, ![2176, 384]⟩
abbrev S8x2176x96 : Shape := ⟨3, ![8, 2176, 96]⟩
abbrev S1x2176x384 : Shape := ⟨3, ![1, 2176, 384]⟩
abbrev S8x384x96 : Shape := ⟨3, ![8, 384, 96]⟩
abbrev S1x2176x96 : Shape := ⟨3, ![1, 2176, 96]⟩
abbrev S1x384x96 : Shape := ⟨3, ![1, 384, 96]⟩
abbrev S2176x96 : Shape := ⟨2, ![2176, 96]⟩
abbrev S384x96 : Shape := ⟨2, ![384, 96]⟩

abbrev nBuf : Space → Nat
  | .hbm => 4
  | .vmem => 5
  | .smem => 0
  | _ => 0

abbrev bufTy : (tb : Table) → Fin (tcTables nBuf tb) → BufTy
  | .hbm, ⟨0, _⟩ => ⟨S2176x384, .bf16⟩
  | .hbm, ⟨1, _⟩ => ⟨S8x2176x96, .bf16⟩
  | .hbm, ⟨2, _⟩ => ⟨S1x2176x384, .bf16⟩
  | .hbm, ⟨3, _⟩ => ⟨S8x384x96, .bf16⟩
  | .local _ .vmem, ⟨0, _⟩ => ⟨S1x2176x384, .bf16⟩
  | .local _ .vmem, ⟨1, _⟩ => ⟨S1x2176x96, .bf16⟩
  | .local _ .vmem, ⟨2, _⟩ => ⟨S1x2176x96, .bf16⟩
  | .local _ .vmem, ⟨3, _⟩ => ⟨S1x384x96, .bf16⟩
  | .local _ .vmem, ⟨4, _⟩ => ⟨S1x384x96, .bf16⟩
  | _, _ => ⟨S2176x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![8, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S1x2176x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, false]

abbrev stage0_1 : Fin 2 → Memref sig .tc .vmem S1x2176x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false]

abbrev stage0_2 : Fin 2 → Memref sig .tc .vmem S1x384x96 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DwqIdeal.lean ====
abbrev S2176x384 : Shape := ⟨2, ![2176, 384]⟩
abbrev S8x2176x96 : Shape := ⟨3, ![8, 2176, 96]⟩
abbrev S1x2176x384 : Shape := ⟨3, ![1, 2176, 384]⟩
abbrev S8x384x96 : Shape := ⟨3, ![8, 384, 96]⟩
abbrev S1x2176x96 : Shape := ⟨3, ![1, 2176, 96]⟩
abbrev S1x384x96 : Shape := ⟨3, ![1, 384, 96]⟩
abbrev S2176x96 : Shape := ⟨2, ![2176, 96]⟩
abbrev S384x96 : Shape := ⟨2, ![384, 96]⟩

abbrev nBuf : Space → Nat
  | .hbm => 4
  | .vmem => 5
  | .smem => 0
  | _ => 0

abbrev bufTy : (tb : Table) → Fin (tcTables nBuf tb) → BufTy
  | .hbm, ⟨0, _⟩ => ⟨S2176x384, .bf16⟩
  | .hbm, ⟨1, _⟩ => ⟨S8x2176x96, .bf16⟩
  | .hbm, ⟨2, _⟩ => ⟨S1x2176x384, .bf16⟩
  | .hbm, ⟨3, _⟩ => ⟨S8x384x96, .bf16⟩
  | .local _ .vmem, ⟨0, _⟩ => ⟨S1x2176x384, .bf16⟩
  | .local _ .vmem, ⟨1, _⟩ => ⟨S1x2176x96, .bf16⟩
  | .local _ .vmem, ⟨2, _⟩ => ⟨S1x2176x96, .bf16⟩
  | .local _ .vmem, ⟨3, _⟩ => ⟨S1x384x96, .bf16⟩
  | .local _ .vmem, ⟨4, _⟩ => ⟨S1x384x96, .bf16⟩
  | _, _ => ⟨S2176x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![8, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S1x2176x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, false]

abbrev stage0_1 : Fin 2 → Memref sig .tc .vmem S1x2176x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false]

abbrev stage0_2 : Fin 2 → Memref sig .tc .vmem S1x384x96 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DwqRefIdeal.lean ====
abbrev S2176x384 : Shape := ⟨2, ![2176, 384]⟩
abbrev S8x2176x96 : Shape := ⟨3, ![8, 2176, 96]⟩
abbrev S_ : Shape := ⟨0, ![]⟩
abbrev S8x384x96 : Shape := ⟨3, ![8, 384, 96]⟩
abbrev S8x96x2176 : Shape := ⟨3, ![8, 96, 2176]⟩
abbrev S8x96x384 : Shape := ⟨3, ![8, 96, 384]⟩

abbrev nBuf : Space → Nat
  | .hbm => 12
  | .vmem => 0
  | .smem => 0
  | _ => 0

abbrev bufTy : (tb : Table) → Fin (tcTables nBuf tb) → BufTy
  | .hbm, ⟨0, _⟩ => ⟨S2176x384, .bf16⟩
  | .hbm, ⟨1, _⟩ => ⟨S8x2176x96, .bf16⟩
  | .hbm, ⟨2, _⟩ => ⟨S8x2176x96, .f32⟩
  | .hbm, ⟨3, _⟩ => ⟨S_, .f32⟩
  | .hbm, ⟨4, _⟩ => ⟨S8x384x96, .f32⟩
  | .hbm, ⟨5, _⟩ => ⟨S2176x384, .f32⟩
  | .hbm, ⟨6, _⟩ => ⟨S8x96x2176, .f32⟩
  | .hbm, ⟨7, _⟩ => ⟨S8x2176x96, .f32⟩
  | .hbm, ⟨8, _⟩ => ⟨S8x96x2176, .f32⟩
  | .hbm, ⟨9, _⟩ => ⟨S8x96x384, .f32⟩
  | .hbm, ⟨10, _⟩ => ⟨S8x384x96, .f32⟩
  | .hbm, ⟨11, _⟩ => ⟨S8x384x96, .bf16⟩
  | _, _ => ⟨S2176x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dwk.lean ====
abbrev S2176x256 : Shape := ⟨2, ![2176, 256]⟩
abbrev S8x2176x96 : Shape := ⟨3, ![8, 2176, 96]⟩
abbrev S1x2176x256 : Shape := ⟨3, ![1, 2176, 256]⟩
abbrev S8x256x96 : Shape := ⟨3, ![8, 256, 96]⟩
abbrev S1x2176x96 : Shape := ⟨3, ![1, 2176, 96]⟩
abbrev S1x256x96 : Shape := ⟨3, ![1, 256, 96]⟩
abbrev S2176x96 : Shape := ⟨2, ![2176, 96]⟩
abbrev S256x96 : Shape := ⟨2, ![256, 96]⟩

abbrev nBuf : Space → Nat
  | .hbm => 4
  | .vmem => 5
  | .smem => 0
  | _ => 0

abbrev bufTy : (tb : Table) → Fin (tcTables nBuf tb) → BufTy
  | .hbm, ⟨0, _⟩ => ⟨S2176x256, .bf16⟩
  | .hbm, ⟨1, _⟩ => ⟨S8x2176x96, .f32⟩
  | .hbm, ⟨2, _⟩ => ⟨S1x2176x256, .bf16⟩
  | .hbm, ⟨3, _⟩ => ⟨S8x256x96, .bf16⟩
  | .local _ .vmem, ⟨0, _⟩ => ⟨S1x2176x256, .bf16⟩
  | .local _ .vmem, ⟨1, _⟩ => ⟨S1x2176x96, .f32⟩
  | .local _ .vmem, ⟨2, _⟩ => ⟨S1x2176x96, .f32⟩
  | .local _ .vmem, ⟨3, _⟩ => ⟨S1x256x96, .bf16⟩
  | .local _ .vmem, ⟨4, _⟩ => ⟨S1x256x96, .bf16⟩
  | _, _ => ⟨S2176x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![8, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S1x2176x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, false]

abbrev stage0_1 : Fin 2 → Memref sig .tc .vmem S1x2176x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false]

abbrev stage0_2 : Fin 2 → Memref sig .tc .vmem S1x256x96 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DwkIdeal.lean ====
abbrev S2176x256 : Shape := ⟨2, ![2176, 256]⟩
abbrev S8x2176x96 : Shape := ⟨3, ![8, 2176, 96]⟩
abbrev S1x2176x256 : Shape := ⟨3, ![1, 2176, 256]⟩
abbrev S8x256x96 : Shape := ⟨3, ![8, 256, 96]⟩
abbrev S1x2176x96 : Shape := ⟨3, ![1, 2176, 96]⟩
abbrev S1x256x96 : Shape := ⟨3, ![1, 256, 96]⟩
abbrev S2176x96 : Shape := ⟨2, ![2176, 96]⟩
abbrev S256x96 : Shape := ⟨2, ![256, 96]⟩

abbrev nBuf : Space → Nat
  | .hbm => 4
  | .vmem => 5
  | .smem => 0
  | _ => 0

abbrev bufTy : (tb : Table) → Fin (tcTables nBuf tb) → BufTy
  | .hbm, ⟨0, _⟩ => ⟨S2176x256, .bf16⟩
  | .hbm, ⟨1, _⟩ => ⟨S8x2176x96, .f32⟩
  | .hbm, ⟨2, _⟩ => ⟨S1x2176x256, .bf16⟩
  | .hbm, ⟨3, _⟩ => ⟨S8x256x96, .bf16⟩
  | .local _ .vmem, ⟨0, _⟩ => ⟨S1x2176x256, .bf16⟩
  | .local _ .vmem, ⟨1, _⟩ => ⟨S1x2176x96, .f32⟩
  | .local _ .vmem, ⟨2, _⟩ => ⟨S1x2176x96, .f32⟩
  | .local _ .vmem, ⟨3, _⟩ => ⟨S1x256x96, .bf16⟩
  | .local _ .vmem, ⟨4, _⟩ => ⟨S1x256x96, .bf16⟩
  | _, _ => ⟨S2176x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![8, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S1x2176x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, false]

abbrev stage0_1 : Fin 2 → Memref sig .tc .vmem S1x2176x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false]

abbrev stage0_2 : Fin 2 → Memref sig .tc .vmem S1x256x96 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DwkRefIdeal.lean ====
abbrev S2176x256 : Shape := ⟨2, ![2176, 256]⟩
abbrev S8x2176x96 : Shape := ⟨3, ![8, 2176, 96]⟩
abbrev S_ : Shape := ⟨0, ![]⟩
abbrev S8x256x96 : Shape := ⟨3, ![8, 256, 96]⟩
abbrev S8x96x2176 : Shape := ⟨3, ![8, 96, 2176]⟩
abbrev S8x96x256 : Shape := ⟨3, ![8, 96, 256]⟩

abbrev nBuf : Space → Nat
  | .hbm => 11
  | .vmem => 0
  | .smem => 0
  | _ => 0

abbrev bufTy : (tb : Table) → Fin (tcTables nBuf tb) → BufTy
  | .hbm, ⟨0, _⟩ => ⟨S2176x256, .bf16⟩
  | .hbm, ⟨1, _⟩ => ⟨S8x2176x96, .f32⟩
  | .hbm, ⟨2, _⟩ => ⟨S_, .f32⟩
  | .hbm, ⟨3, _⟩ => ⟨S8x256x96, .f32⟩
  | .hbm, ⟨4, _⟩ => ⟨S2176x256, .f32⟩
  | .hbm, ⟨5, _⟩ => ⟨S8x96x2176, .f32⟩
  | .hbm, ⟨6, _⟩ => ⟨S8x2176x96, .f32⟩
  | .hbm, ⟨7, _⟩ => ⟨S8x96x2176, .f32⟩
  | .hbm, ⟨8, _⟩ => ⟨S8x96x256, .f32⟩
  | .hbm, ⟨9, _⟩ => ⟨S8x256x96, .f32⟩
  | .hbm, ⟨10, _⟩ => ⟨S8x256x96, .bf16⟩
  | _, _ => ⟨S2176x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dwv.lean ====
abbrev S2176x256 : Shape := ⟨2, ![2176, 256]⟩
abbrev S8x2176x64 : Shape := ⟨3, ![8, 2176, 64]⟩
abbrev S1x2176x256 : Shape := ⟨3, ![1, 2176, 256]⟩
abbrev S8x256x64 : Shape := ⟨3, ![8, 256, 64]⟩
abbrev S1x2176x64 : Shape := ⟨3, ![1, 2176, 64]⟩
abbrev S1x256x64 : Shape := ⟨3, ![1, 256, 64]⟩
abbrev S2176x64 : Shape := ⟨2, ![2176, 64]⟩
abbrev S256x64 : Shape := ⟨2, ![256, 64]⟩

abbrev nBuf : Space → Nat
  | .hbm => 4
  | .vmem => 5
  | .smem => 0
  | _ => 0

abbrev bufTy : (tb : Table) → Fin (tcTables nBuf tb) → BufTy
  | .hbm, ⟨0, _⟩ => ⟨S2176x256, .bf16⟩
  | .hbm, ⟨1, _⟩ => ⟨S8x2176x64, .f32⟩
  | .hbm, ⟨2, _⟩ => ⟨S1x2176x256, .bf16⟩
  | .hbm, ⟨3, _⟩ => ⟨S8x256x64, .bf16⟩
  | .local _ .vmem, ⟨0, _⟩ => ⟨S1x2176x256, .bf16⟩
  | .local _ .vmem, ⟨1, _⟩ => ⟨S1x2176x64, .f32⟩
  | .local _ .vmem, ⟨2, _⟩ => ⟨S1x2176x64, .f32⟩
  | .local _ .vmem, ⟨3, _⟩ => ⟨S1x256x64, .bf16⟩
  | .local _ .vmem, ⟨4, _⟩ => ⟨S1x256x64, .bf16⟩
  | _, _ => ⟨S2176x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![8, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S1x2176x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, false]

abbrev stage0_1 : Fin 2 → Memref sig .tc .vmem S1x2176x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false]

abbrev stage0_2 : Fin 2 → Memref sig .tc .vmem S1x256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DwvRefIdeal.lean ====
abbrev S2176x256 : Shape := ⟨2, ![2176, 256]⟩
abbrev S8x2176x64 : Shape := ⟨3, ![8, 2176, 64]⟩
abbrev S_ : Shape := ⟨0, ![]⟩
abbrev S8x256x64 : Shape := ⟨3, ![8, 256, 64]⟩
abbrev S8x64x2176 : Shape := ⟨3, ![8, 64, 2176]⟩
abbrev S8x64x256 : Shape := ⟨3, ![8, 64, 256]⟩

abbrev nBuf : Space → Nat
  | .hbm => 11
  | .vmem => 0
  | .smem => 0
  | _ => 0

abbrev bufTy : (tb : Table) → Fin (tcTables nBuf tb) → BufTy
  | .hbm, ⟨0, _⟩ => ⟨S2176x256, .bf16⟩
  | .hbm, ⟨1, _⟩ => ⟨S8x2176x64, .f32⟩
  | .hbm, ⟨2, _⟩ => ⟨S_, .f32⟩
  | .hbm, ⟨3, _⟩ => ⟨S8x256x64, .f32⟩
  | .hbm, ⟨4, _⟩ => ⟨S2176x256, .f32⟩
  | .hbm, ⟨5, _⟩ => ⟨S8x64x2176, .f32⟩
  | .hbm, ⟨6, _⟩ => ⟨S8x2176x64, .f32⟩
  | .hbm, ⟨7, _⟩ => ⟨S8x64x2176, .f32⟩
  | .hbm, ⟨8, _⟩ => ⟨S8x64x256, .f32⟩
  | .hbm, ⟨9, _⟩ => ⟨S8x256x64, .f32⟩
  | .hbm, ⟨10, _⟩ => ⟨S8x256x64, .bf16⟩
  | _, _ => ⟨S2176x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== AttB.lean ====
abbrev S8x2176x96 : Shape := ⟨3, ![8, 2176, 96]⟩
abbrev S8x2176x64 : Shape := ⟨3, ![8, 2176, 64]⟩
abbrev S8x2064x64 : Shape := ⟨3, ![8, 2064, 64]⟩
abbrev S_ : Shape := ⟨0, ![]⟩
abbrev S8x112x64 : Shape := ⟨3, ![8, 112, 64]⟩
abbrev S1x2176x96 : Shape := ⟨3, ![1, 2176, 96]⟩
abbrev S1x2176x64 : Shape := ⟨3, ![1, 2176, 64]⟩
abbrev S2176x96 : Shape := ⟨2, ![2176, 96]⟩
abbrev S2176x64 : Shape := ⟨2, ![2176, 64]⟩
abbrev S1x128x96 : Shape := ⟨3, ![1, 128, 96]⟩
abbrev S128x96 : Shape := ⟨2, ![128, 96]⟩
abbrev S1x128x64 : Shape := ⟨3, ![1, 128, 64]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S1x256x96 : Shape := ⟨3, ![1, 256, 96]⟩
abbrev S256x96 : Shape := ⟨2, ![256, 96]⟩
abbrev S1x256x64 : Shape := ⟨3, ![1, 256, 64]⟩
abbrev S256x64 : Shape := ⟨2, ![256, 64]⟩
abbrev S1x384x96 : Shape := ⟨3, ![1, 384, 96]⟩
abbrev S384x96 : Shape := ⟨2, ![384, 96]⟩
abbrev S1x384x64 : Shape := ⟨3, ![1, 384, 64]⟩
abbrev S384x64 : Shape := ⟨2, ![384, 64]⟩
abbrev S256x384 : Shape := ⟨2, ![256, 384]⟩
abbrev S256 : Shape := ⟨1, ![256]⟩
abbrev S256x1 : Shape := ⟨2, ![256, 1]⟩
abbrev S1x640x96 : Shape := ⟨3, ![1, 640, 96]⟩
abbrev S640x96 : Shape := ⟨2, ![640, 96]⟩
abbrev S1x640x64 : Shape := ⟨3, ![1, 640, 64]⟩
abbrev S640x64 : Shape := ⟨2, ![640, 64]⟩
abbrev S256x640 : Shape := ⟨2, ![256, 640]⟩
abbrev S1x896x96 : Shape := ⟨3, ![1, 896, 96]⟩
abbrev S896x96 : Shape := ⟨2, ![896, 96]⟩
abbrev S1x896x64 : Shape := ⟨3, ![1, 896, 64]⟩
abbrev S896x64 : Shape := ⟨2, ![896, 64]⟩
abbrev S256x896 : Shape := ⟨2, ![256, 896]⟩
abbrev S1x1152x96 : Shape := ⟨3, ![1, 1152, 96]⟩
abbrev S1152x96 : Shape := ⟨2, ![1152, 96]⟩
abbrev S1x1152x64 : Shape := ⟨3, ![1, 1152, 64]⟩
abbrev S1152x64 : Shape := ⟨2, ![1152, 64]⟩
abbrev S256x1152 : Shape := ⟨2, ![256, 1152]⟩
abbrev S1x1408x96 : Shape := ⟨3, ![1, 1408, 96]⟩
abbrev S1408x96 : Shape := ⟨2, ![1408, 96]⟩
abbrev S1x1408x64 : Shape := ⟨3, ![1, 1408, 64]⟩
abbrev S1408x64 : Shape := ⟨2, ![1408, 64]⟩
abbrev S256x1408 : Shape := ⟨2, ![256, 1408]⟩
abbrev S1x1664x96 : Shape := ⟨3, ![1, 1664, 96]⟩
abbrev S1664x96 : Shape := ⟨2, ![1664, 96]⟩
abbrev S1x1664x64 : Shape := ⟨3, ![1, 1664, 64]⟩
abbrev S1664x64 : Shape := ⟨2, ![1664, 64]⟩
abbrev S256x1664 : Shape := ⟨2, ![256, 1664]⟩
abbrev S1x1920x96 : Shape := ⟨3, ![1, 1920, 96]⟩
abbrev S1920x96 : Shape := ⟨2, ![1920, 96]⟩
abbrev S1x1920x64 : Shape := ⟨3, ![1, 1920, 64]⟩
abbrev S1920x64 : Shape := ⟨2, ![1920, 64]⟩
abbrev S256x1920 : Shape := ⟨2, ![256, 1920]⟩
abbrev S256x2176 : Shape := ⟨2, ![256, 2176]⟩

abbrev nBuf : Space → Nat
  | .hbm => 10
  | .vmem => 14
  | .smem => 0
  | _ => 0

abbrev bufTy : (tb : Table) → Fin (tcTables nBuf tb) → BufTy
  | .hbm, ⟨0, _⟩ => ⟨S8x2176x96, .bf16⟩
  | .hbm, ⟨1, _⟩ => ⟨S8x2176x96, .bf16⟩
  | .hbm, ⟨2, _⟩ => ⟨S8x2176x64, .bf16⟩
  | .hbm, ⟨3, _⟩ => ⟨S8x2064x64, .bf16⟩
  | .hbm, ⟨4, _⟩ => ⟨S_, .bf16⟩
  | .hbm, ⟨5, _⟩ => ⟨S8x112x64, .bf16⟩
  | .hbm, ⟨6, _⟩ => ⟨S8x2176x64, .bf16⟩
  | .hbm, ⟨7, _⟩ => ⟨S8x2176x96, .f32⟩
  | .hbm, ⟨8, _⟩ => ⟨S8x2176x96, .f32⟩
  | .hbm, ⟨9, _⟩ => ⟨S8x2176x64, .f32⟩
  | .local _ .vmem, ⟨0, _⟩ => ⟨S1x2176x96, .bf16⟩
  | .local _ .vmem, ⟨1, _⟩ => ⟨S1x2176x96, .bf16⟩
  | .local _ .vmem, ⟨2, _⟩ => ⟨S1x2176x96, .bf16⟩
  | .local _ .vmem, ⟨3, _⟩ => ⟨S1x2176x96, .bf16⟩
  | .local _ .vmem, ⟨4, _⟩ => ⟨S1x2176x64, .bf16⟩
  | .local _ .vmem, ⟨5, _⟩ => ⟨S1x2176x64, .bf16⟩
  | .local _ .vmem, ⟨6, _⟩ => ⟨S1x2176x64, .bf16⟩
  | .local _ .vmem, ⟨7, _⟩ => ⟨S1x2176x64, .bf16⟩
  | .local _ .vmem, ⟨8, _⟩ => ⟨S1x2176x96, .f32⟩
  | .local _ .vmem, ⟨9, _⟩ => ⟨S1x2176x96, .f32⟩
  | .local _ .vmem, ⟨10, _⟩ => ⟨S1x2176x96, .f32⟩
  | .local _ .vmem, ⟨11, _⟩ => ⟨S1x2176x96, .f32⟩
  | .local _ .vmem, ⟨12, _⟩ => ⟨S1x2176x64, .f32⟩
  | .local _ .vmem, ⟨13, _⟩ => ⟨S1x2176x64, .f32⟩
  | _, _ => ⟨S8x2176x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2176x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2176x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2176x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2176x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2176x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2176x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2176x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttBIdeal.lean ====
variable {F : FTy → Type} [FloatOps F] [Named F]
def κ : String → Option EReal := fun
  | "mask" => some ⊥
  | _ => none
-- ==== AttBRefIdeal.lean ====
abbrev S8x2176x96 : Shape := ⟨3, ![8, 2176, 96]⟩
abbrev S8x2176x64 : Shape := ⟨3, ![8, 2176, 64]⟩
abbrev S8x2064x64 : Shape := ⟨3, ![8, 2064, 64]⟩
abbrev S8x2064x96 : Shape := ⟨3, ![8, 2064, 96]⟩
abbrev S8x2064x2064 : Shape := ⟨3, ![8, 2064, 2064]⟩
abbrev S_ : Shape := ⟨0, ![]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S1x2064x2064 : Shape := ⟨3, ![1, 2064, 2064]⟩
abbrev S8x2064 : Shape := ⟨2, ![8, 2064]⟩
abbrev S8x2064x1 : Shape := ⟨3, ![8, 2064, 1]⟩
abbrev S8x64x2064 : Shape := ⟨3, ![8, 64, 2064]⟩

abbrev nBuf : Space → Nat
  | .hbm => 100
  | .vmem => 0
  | .smem => 0
  | _ => 0

abbrev bufTy : (tb : Table) → Fin (tcTables nBuf tb) → BufTy
  | .hbm, ⟨0, _⟩ => ⟨S8x2176x96, .bf16⟩
  | .hbm, ⟨1, _⟩ => ⟨S8x2176x96, .bf16⟩
  | .hbm, ⟨2, _⟩ => ⟨S8x2176x64, .bf16⟩
  | .hbm, ⟨3, _⟩ => ⟨S8x2064x64, .bf16⟩
  | .hbm, ⟨4, _⟩ => ⟨S8x2176x96, .f32⟩
  | .hbm, ⟨5, _⟩ => ⟨S8x2176x96, .f32⟩
  | .hbm, ⟨6, _⟩ => ⟨S8x2176x64, .f32⟩
  | .hbm, ⟨7, _⟩ => ⟨S8x2064x96, .f32⟩
  | .hbm, ⟨8, _⟩ => ⟨S8x2064x96, .f32⟩
  | .hbm, ⟨9, _⟩ => ⟨S8x2064x64, .f32⟩
  | .hbm, ⟨10, _⟩ => ⟨S8x2064x2064, .f32⟩
  | .hbm, ⟨11, _⟩ => ⟨S_, .f32⟩
  | .hbm, ⟨12, _⟩ => ⟨S8x2064x2064, .f32⟩
  | .hbm, ⟨13, _⟩ => ⟨S8x2064x2064, .f32⟩
  | .hbm, ⟨14, _⟩ => ⟨S2064, .i32⟩
  | .hbm, ⟨15, _⟩ => ⟨S1x2064, .i32⟩
  | .hbm, ⟨16, _⟩ => ⟨S2064, .i32⟩
  | .hbm, ⟨17, _⟩ => ⟨S2064x1, .i32⟩
  | .hbm, ⟨18, _⟩ => ⟨S2064x2064, .i32⟩
  | .hbm, ⟨19, _⟩ => ⟨S2064x2064, .i32⟩
  | .hbm, ⟨20, _⟩ => ⟨S2064x2064, .i1⟩
  | .hbm, ⟨21, _⟩ => ⟨S1x2064x2064, .i1⟩
  | .hbm, ⟨22, _⟩ => ⟨S_, .f32⟩
  | .hbm, ⟨23, _⟩ => ⟨S_, .f32⟩
  | .hbm, ⟨24, _⟩ => ⟨S8x2064x2064, .i1⟩
  | .hbm, ⟨25, _⟩ => ⟨S8x2064x2064, .f32⟩
  | .hbm, ⟨26, _⟩ => ⟨S8x2064x2064, .f32⟩
  | .hbm, ⟨27, _⟩ => ⟨S_, .f32⟩
  | .hbm, ⟨28, _⟩ => ⟨S8x2064x2064, .f32⟩
  | .hbm, ⟨29, _⟩ => ⟨S_, .f32⟩
  | .hbm, ⟨30, _⟩ => ⟨S8x2064, .f32⟩
  | .hbm, ⟨31, _⟩ => ⟨S8x2064x1, .f32⟩
  | .hbm, ⟨32, _⟩ => ⟨S8x2064x2064, .f32⟩
  | .hbm, ⟨33, _⟩ => ⟨S8x2064x2064, .i1⟩
  | .hbm, ⟨34, _⟩ => ⟨S8x2064x2064, .f32⟩
  | .hbm, ⟨35, _⟩ => ⟨S_, .f32⟩
  | .hbm, ⟨36, _⟩ => ⟨S8x2064, .f32⟩
  | .hbm, ⟨37, _⟩ => ⟨S_, .f32⟩
  | .hbm, ⟨38, _⟩ => ⟨S8x2064, .f32⟩
  | .hbm, ⟨39, _⟩ => ⟨S8x2064, .f32⟩
  | .hbm, ⟨40, _⟩ => ⟨S_, .f32⟩
  | .hbm, ⟨41, _⟩ => ⟨S8x2064, .f32⟩
  | .hbm, ⟨42, _⟩ => ⟨S8x2064, .i1⟩
  | .hbm, ⟨43, _⟩ => ⟨S_, .f32⟩
  | .hbm, ⟨44, _⟩ => ⟨S8x2064, .f32⟩
  | .hbm, ⟨45, _⟩ => ⟨S8x2064, .i1⟩
  | .hbm, ⟨46, _⟩ => ⟨S_, .f32⟩
  | .hbm, ⟨47, _⟩ => ⟨S8x2064, .f32⟩
  | .hbm, ⟨48, _⟩ => ⟨S_, .f32⟩
  | .hbm, ⟨49, _⟩ => ⟨S8x2064, .f32⟩
  | .hbm, ⟨50, _⟩ => ⟨S_, .f32⟩
  | .hbm, ⟨51, _⟩ => ⟨S8x2064, .f32⟩
  | .hbm, ⟨52, _⟩ => ⟨S8x2064, .f32⟩
  | .hbm, ⟨53, _⟩ => ⟨S8x2064, .f32⟩
  | .hbm, ⟨54, _⟩ => ⟨S8x2064x1, .f32⟩
  | .hbm, ⟨55, _⟩ => ⟨S8x2064x2064, .f32⟩
  | .hbm, ⟨56, _⟩ => ⟨S8x2064x2064, .f32⟩
  | .hbm, ⟨57, _⟩ => ⟨S8x2064x2064, .f32⟩
  | .hbm, ⟨58, _⟩ => ⟨S_, .f32⟩
  | .hbm, ⟨59, _⟩ => ⟨S8x2064, .f32⟩
  | .hbm, ⟨60, _⟩ => ⟨S8x2064x1, .f32⟩
  | .hbm, ⟨61, _⟩ => ⟨S8x2064x2064, .f32⟩
  | .hbm, ⟨62, _⟩ => ⟨S8x2064x2064, .f32⟩
  | .hbm, ⟨63, _⟩ => ⟨S8x2064x1, .f32⟩
  | .hbm, ⟨64, _⟩ => ⟨S_, .f32⟩
  | .hbm, ⟨65, _⟩ => ⟨S8x2064x1, .f32⟩
  | .hbm, ⟨66, _⟩ => ⟨S8x2064x1, .f32⟩
  | .hbm, ⟨67, _⟩ => ⟨S8x2064x64, .f32⟩
  | .hbm, ⟨68, _⟩ => ⟨S8x2064x64, .f32⟩
  | .hbm, ⟨69, _⟩ => ⟨S8x64x2064, .f32⟩
  | .hbm, ⟨70, _⟩ => ⟨S8x2064x64, .f32⟩
  | .hbm, ⟨71, _⟩ => ⟨S8x2064x2064, .f32⟩
  | .hbm, ⟨72, _⟩ => ⟨S8x2064x2064, .f32⟩
  | .hbm, ⟨73, _⟩ => ⟨S8x2064x2064, .f32⟩
  | .hbm, ⟨74, _⟩ => ⟨S8x2064x2064, .f32⟩
  | .hbm, ⟨75, _⟩ => ⟨S_, .f32⟩
  | .hbm, ⟨76, _⟩ => ⟨S8x2064, .f32⟩
  | .hbm, ⟨77, _⟩ => ⟨S8x2064x1, .f32⟩
  | .hbm, ⟨78, _⟩ => ⟨S8x2064x1, .f32⟩
  | .hbm, ⟨79, _⟩ => ⟨S8x2064x2064, .f32⟩
  | .hbm, ⟨80, _⟩ => ⟨S8x2064x2064, .f32⟩
  | .hbm, ⟨81, _⟩ => ⟨S_, .f32⟩
  | .hbm, ⟨82, _⟩ => ⟨S8x2064, .f32⟩
  | .hbm, ⟨83, _⟩ => ⟨S8x2064x2064, .f32⟩
  | .hbm, ⟨84, _⟩ => ⟨S8x2064x2064, .f32⟩
  | .hbm, ⟨85, _⟩ => ⟨S8x2064x2064, .f32⟩
  | .hbm, ⟨86, _⟩ => ⟨S_, .f32⟩
  | .hbm, ⟨87, _⟩ => ⟨S8x2064x2064, .f32⟩
  | .hbm, ⟨88, _⟩ => ⟨S8x2064x2064, .f32⟩
  | .hbm, ⟨89, _⟩ => ⟨S_, .f32⟩
  | .hbm, ⟨90, _⟩ => ⟨S8x2064x2064, .f32⟩
  | .hbm, ⟨91, _⟩ => ⟨S8x2064x2064, .f32⟩
  | .hbm, ⟨92, _⟩ => ⟨S8x2064x96, .f32⟩
  | .hbm, ⟨93, _⟩ => ⟨S8x2064x96, .f32⟩
  | .hbm, ⟨94, _⟩ => ⟨S_, .f32⟩
  | .hbm, ⟨95, _⟩ => ⟨S8x2176x64, .f32⟩
  | .hbm, ⟨96, _⟩ => ⟨S_, .f32⟩
  | .hbm, ⟨97, _⟩ => ⟨S8x2176x96, .f32⟩
  | .hbm, ⟨98, _⟩ => ⟨S_, .f32⟩
  | .hbm, ⟨99, _⟩ => ⟨S8x2176x96, .f32⟩
  | _, _ => ⟨S8x2176x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_v17_1 : Ref sig .tc := ⟨.hbm, 24, rfl⟩
abbrev main_call0_v2 : Ref sig .tc := ⟨.hbm, 25, rfl⟩
abbrev main_v17_0 : Ref sig .tc := ⟨.hbm, 26, rfl⟩
abbrev main_call0_cst : Ref sig .tc := ⟨.hbm, 27, rfl⟩
abbrev main_v17_2 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call1_cst : Ref sig .tc := ⟨.hbm, 86, rfl⟩
abbrev main_call1_v0 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_14 : Ref sig .tc := ⟨.hbm, 94, rfl⟩
abbrev main_v68 : Ref sig .tc := ⟨.hbm, 95, rfl⟩
abbrev main_cst_15 : Ref sig .tc := ⟨.hbm, 96, rfl⟩
abbrev main_v69 : Ref sig .tc := ⟨.hbm, 97, rfl⟩
abbrev main_cst_16 : Ref sig .tc := ⟨.hbm, 98, rfl⟩
abbrev main_v70 : Ref sig .tc := ⟨.hbm, 99, rfl⟩

abbrev nD : Nat := 1
abbrev τ : Topo := Topo.v7x

variable {F : FTy → Type} [FloatOps F]
-- ==== AttF.lean ====
abbrev S8x2176x96 : Shape := ⟨3, ![8, 2176, 96]⟩
abbrev S8x2176x64 : Shape := ⟨3, ![8, 2176, 64]⟩
abbrev S1x2176x96 : Shape := ⟨3, ![1, 2176, 96]⟩
abbrev S1x2176x64 : Shape := ⟨3, ![1, 2176, 64]⟩
abbrev S1x128x96 : Shape := ⟨3, ![1, 128, 96]⟩
abbrev S128x96 : Shape := ⟨2, ![128, 96]⟩
abbrev S128x128 : Shape := ⟨2, ![128, 128]⟩
abbrev S128 : Shape := ⟨1, ![128]⟩
abbrev S128x1 : Shape := ⟨2, ![128, 1]⟩
abbrev S1x128x64 : Shape := ⟨3, ![1, 128, 64]⟩
abbrev S128x64 : Shape := ⟨2, ![128, 64]⟩
abbrev S1x256x96 : Shape := ⟨3, ![1, 256, 96]⟩
abbrev S256x96 : Shape := ⟨2, ![256, 96]⟩
abbrev S1x384x96 : Shape := ⟨3, ![1, 384, 96]⟩
abbrev S384x96 : Shape := ⟨2, ![384, 96]⟩
abbrev S256x384 : Shape := ⟨2, ![256, 384]⟩
abbrev S256 : Shape := ⟨1, ![256]⟩
abbrev S256x1 : Shape := ⟨2, ![256, 1]⟩
abbrev S1x384x64 : Shape := ⟨3, ![1, 384, 64]⟩
abbrev S384x64 : Shape := ⟨2, ![384, 64]⟩
abbrev S256x64 : Shape := ⟨2, ![256, 64]⟩
abbrev S1x256x64 : Shape := ⟨3, ![1, 256, 64]⟩
abbrev S1x640x96 : Shape := ⟨3, ![1, 640, 96]⟩
abbrev S640x96 : Shape := ⟨2, ![640, 96]⟩
abbrev S256x640 : Shape := ⟨2, ![256, 640]⟩
abbrev S1x640x64 : Shape := ⟨3, ![1, 640, 64]⟩
abbrev S640x64 : Shape := ⟨2, ![640, 64]⟩
abbrev S1x896x96 : Shape := ⟨3, ![1, 896, 96]⟩
abbrev S896x96 : Shape := ⟨2, ![896, 96]⟩
abbrev S256x896 : Shape := ⟨2, ![256, 896]⟩
abbrev S1x896x64 : Shape := ⟨3, ![1, 896, 64]⟩
abbrev S896x64 : Shape := ⟨2, ![896, 64]⟩
abbrev S1x1152x96 : Shape := ⟨3, ![1, 1152, 96]⟩
abbrev S1152x96 : Shape := ⟨2, ![1152, 96]⟩
abbrev S256x1152 : Shape := ⟨2, ![256, 1152]⟩
abbrev S1x1152x64 : Shape := ⟨3, ![1, 1152, 64]⟩
abbrev S1152x64 : Shape := ⟨2, ![1152, 64]⟩
abbrev S1x1408x96 : Shape := ⟨3, ![1, 1408, 96]⟩
abbrev S1408x96 : Shape := ⟨2, ![1408, 96]⟩
abbrev S256x1408 : Shape := ⟨2, ![256, 1408]⟩
abbrev S1x1408x64 : Shape := ⟨3, ![1, 1408, 64]⟩
abbrev S1408x64 : Shape := ⟨2, ![1408, 64]⟩
abbrev S1x1664x96 : Shape := ⟨3, ![1, 1664, 96]⟩
abbrev S1664x96 : Shape := ⟨2, ![1664, 96]⟩
abbrev S256x1664 : Shape := ⟨2, ![256, 1664]⟩
abbrev S1x1664x64 : Shape := ⟨3, ![1, 1664, 64]⟩
abbrev S1664x64 : Shape := ⟨2, ![1664, 64]⟩
abbrev S1x1920x96 : Shape := ⟨3, ![1, 1920, 96]⟩
abbrev S1920x96 : Shape := ⟨2, ![1920, 96]⟩
abbrev S256x1920 : Shape := ⟨2, ![256, 1920]⟩
abbrev S1x1920x64 : Shape := ⟨3, ![1, 1920, 64]⟩
abbrev S1920x64 : Shape := ⟨2, ![1920, 64]⟩
abbrev S2176x96 : Shape := ⟨2, ![2176, 96]⟩
abbrev S256x2176 : Shape := ⟨2, ![256, 2176]⟩
abbrev S2176x64 : Shape := ⟨2, ![2176, 64]⟩
abbrev S8x2064x64 : Shape := ⟨3, ![8, 2064, 64]⟩

abbrev nBuf : Space → Nat
  | .hbm => 5
  | .vmem => 8
  | .smem => 0
  | _ => 0

abbrev bufTy : (tb : Table) → Fin (tcTables nBuf tb) → BufTy
  | .hbm, ⟨0, _⟩ => ⟨S8x2176x96, .bf16⟩
  | .hbm, ⟨1, _⟩ => ⟨S8x2176x96, .bf16⟩
  | .hbm, ⟨2, _⟩ => ⟨S8x2176x64, .bf16⟩
  | .hbm, ⟨3, _⟩ => ⟨S8x2176x64, .bf16⟩
  | .hbm, ⟨4, _⟩ => ⟨S8x2064x64, .bf16⟩
  | .local _ .vmem, ⟨0, _⟩ => ⟨S1x2176x96, .bf16⟩
  | .local _ .vmem, ⟨1, _⟩ => ⟨S1x2176x96, .bf16⟩
  | .local _ .vmem, ⟨2, _⟩ => ⟨S1x2176x96, .bf16⟩
  | .local _ .vmem, ⟨3, _⟩ => ⟨S1x2176x96, .bf16⟩
  | .local _ .vmem, ⟨4, _⟩ => ⟨S1x2176x64, .bf16⟩
  | .local _ .vmem, ⟨5, _⟩ => ⟨S1x2176x64, .bf16⟩
  | .local _ .vmem, ⟨6, _⟩ => ⟨S1x2176x64, .bf16⟩
  | .local _ .vmem, ⟨7, _⟩ => ⟨S1x2176x64, .bf16⟩
  | _, _ => ⟨S8x2176x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2176x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2176x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2176x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2176x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttFIdeal.lean ====
variable {F : FTy → Type} [FloatOps F] [Named F]
def κ : String → Option EReal := fun
  | "mask" => some ⊥
  | _ => none
-- ==== AttFRefIdeal.lean ====
abbrev S8x2176x96 : Shape := ⟨3, ![8, 2176, 96]⟩
abbrev S8x2176x64 : Shape := ⟨3, ![8, 2176, 64]⟩
abbrev S8x2064x96 : Shape := ⟨3, ![8, 2064, 96]⟩
abbrev S8x2064x64 : Shape := ⟨3, ![8, 2064, 64]⟩
abbrev S8x2064x2064 : Shape := ⟨3, ![8, 2064, 2064]⟩
abbrev S_ : Shape := ⟨0, ![]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S1x2064x2064 : Shape := ⟨3, ![1, 2064, 2064]⟩
abbrev S8x2064 : Shape := ⟨2, ![8, 2064]⟩
abbrev S8x2064x1 : Shape := ⟨3, ![8, 2064, 1]⟩

abbrev nBuf : Space → Nat
  | .hbm => 40
  | .vmem => 0
  | .smem => 0
  | _ => 0

abbrev bufTy : (tb : Table) → Fin (tcTables nBuf tb) → BufTy
  | .hbm, ⟨0, _⟩ => ⟨S8x2176x96, .bf16⟩
  | .hbm, ⟨1, _⟩ => ⟨S8x2176x96, .bf16⟩
  | .hbm, ⟨2, _⟩ => ⟨S8x2176x64, .bf16⟩
  | .hbm, ⟨3, _⟩ => ⟨S8x2064x96, .bf16⟩
  | .hbm, ⟨4, _⟩ => ⟨S8x2064x96, .bf16⟩
  | .hbm, ⟨5, _⟩ => ⟨S8x2064x64, .bf16⟩
  | .hbm, ⟨6, _⟩ => ⟨S8x2064x2064, .f32⟩
  | .hbm, ⟨7, _⟩ => ⟨S_, .f32⟩
  | .hbm, ⟨8, _⟩ => ⟨S8x2064x2064, .f32⟩
  | .hbm, ⟨9, _⟩ => ⟨S8x2064x2064, .f32⟩
  | .hbm, ⟨10, _⟩ => ⟨S2064, .i32⟩
  | .hbm, ⟨11, _⟩ => ⟨S1x2064, .i32⟩
  | .hbm, ⟨12, _⟩ => ⟨S2064, .i32⟩
  | .hbm, ⟨13, _⟩ => ⟨S2064x1, .i32⟩
  | .hbm, ⟨14, _⟩ => ⟨S2064x2064, .i32⟩
  | .hbm, ⟨15, _⟩ => ⟨S2064x2064, .i32⟩
  | .hbm, ⟨16, _⟩ => ⟨S2064x2064, .i1⟩
  | .hbm, ⟨17, _⟩ => ⟨S1x2064x2064, .i1⟩
  | .hbm, ⟨18, _⟩ => ⟨S_, .f32⟩
  | .hbm, ⟨19, _⟩ => ⟨S_, .f32⟩
  | .hbm, ⟨20, _⟩ => ⟨S8x2064x2064, .i1⟩
  | .hbm, ⟨21, _⟩ => ⟨S8x2064x2064, .f32⟩
  | .hbm, ⟨22, _⟩ => ⟨S8x2064x2064, .f32⟩
  | .hbm, ⟨23, _⟩ => ⟨S_, .f32⟩
  | .hbm, ⟨24, _⟩ => ⟨S8x2064, .f32⟩
  | .hbm, ⟨25, _⟩ => ⟨S_, .f32⟩
  | .hbm, ⟨26, _⟩ => ⟨S8x2064, .f32⟩
  | .hbm, ⟨27, _⟩ => ⟨S8x2064, .f32⟩
  | .hbm, ⟨28, _⟩ => ⟨S8x2064x1, .f32⟩
  | .hbm, ⟨29, _⟩ => ⟨S8x2064x2064, .f32⟩
  | .hbm, ⟨30, _⟩ => ⟨S8x2064x2064, .f32⟩
  | .hbm, ⟨31, _⟩ => ⟨S8x2064x2064, .f32⟩
  | .hbm, ⟨32, _⟩ => ⟨S_, .f32⟩
  | .hbm, ⟨33, _⟩ => ⟨S8x2064, .f32⟩
  | .hbm, ⟨34, _⟩ => ⟨S8x2064x1, .f32⟩
  | .hbm, ⟨35, _⟩ => ⟨S8x2064x2064, .f32⟩
  | .hbm, ⟨36, _⟩ => ⟨S8x2064x2064, .f32⟩
  | .hbm, ⟨37, _⟩ => ⟨S8x2064x2064, .bf16⟩
  | .hbm, ⟨38, _⟩ => ⟨S8x2064x64, .f32⟩
  | .hbm, ⟨39, _⟩ => ⟨S8x2064x64, .bf16⟩
  | _, _ => ⟨S8x2176x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== LatB.lean ====
abbrev S8x2176x96 : Shape := ⟨3, ![8, 2176, 96]⟩
abbrev S8x2176x64 : Shape := ⟨3, ![8, 2176, 64]⟩
abbrev S2176x16 : Shape := ⟨2, ![2176, 16]⟩
abbrev S384x768 : Shape := ⟨2, ![384, 768]⟩
abbrev S256x1024 : Shape := ⟨2, ![256, 1024]⟩
abbrev S96 : Shape := ⟨1, ![96]⟩
abbrev S96x1 : Shape := ⟨2, ![96, 1]⟩
abbrev S1x96 : Shape := ⟨2, ![1, 96]⟩
abbrev S_ : Shape := ⟨0, ![]⟩
abbrev S96x96 : Shape := ⟨2, ![96, 96]⟩
abbrev S32x1 : Shape := ⟨2, ![32, 1]⟩
abbrev S32x96 : Shape := ⟨2, ![32, 96]⟩
abbrev S2176x64 : Shape := ⟨2, ![2176, 64]⟩
abbrev S2176x96 : Shape := ⟨2, ![2176, 96]⟩
abbrev S384x8x96 : Shape := ⟨3, ![384, 8, 96]⟩
abbrev S8x384x96 : Shape := ⟨3, ![8, 384, 96]⟩
abbrev S256x8x128 : Shape := ⟨3, ![256, 8, 128]⟩
abbrev S8x256x128 : Shape := ⟨3, ![8, 256, 128]⟩
abbrev S8x256x64 : Shape := ⟨3, ![8, 256, 64]⟩
abbrev S8x256x32 : Shape := ⟨3, ![8, 256, 32]⟩
abbrev S8x256x96 : Shape := ⟨3, ![8, 256, 96]⟩
abbrev S2176x384 : Shape := ⟨2, ![2176, 384]⟩
abbrev S2176x256 : Shape := ⟨2, ![2176, 256]⟩
abbrev S2176x32 : Shape := ⟨2, ![2176, 32]⟩
abbrev S8x544x96 : Shape := ⟨3, ![8, 544, 96]⟩
abbrev S8x544x64 : Shape := ⟨3, ![8, 544, 64]⟩
abbrev S544x96 : Shape := ⟨2, ![544, 96]⟩
abbrev S544x384 : Shape := ⟨2, ![544, 384]⟩
abbrev S544x256 : Shape := ⟨2, ![544, 256]⟩
abbrev S544x32 : Shape := ⟨2, ![544, 32]⟩
abbrev S1x544x96 : Shape := ⟨3, ![1, 544, 96]⟩
abbrev S1x384x96 : Shape := ⟨3, ![1, 384, 96]⟩
abbrev S384x96 : Shape := ⟨2, ![384, 96]⟩
abbrev S1x256x96 : Shape := ⟨3, ![1, 256, 96]⟩
abbrev S256x96 : Shape := ⟨2, ![256, 96]⟩
abbrev S1x544x64 : Shape := ⟨3, ![1, 544, 64]⟩
abbrev S544x64 : Shape := ⟨2, ![544, 64]⟩
abbrev S1x256x64 : Shape := ⟨3, ![1, 256, 64]⟩
abbrev S256x64 : Shape := ⟨2, ![256, 64]⟩

abbrev nBuf : Space → Nat
  | .hbm => 75
  | .vmem => 23
  | .smem => 0
  | _ => 0

abbrev bufTy : (tb : Table) → Fin (tcTables nBuf tb) → BufTy
  | .hbm, ⟨0, _⟩ => ⟨S8x2176x96, .f32⟩
  | .hbm, ⟨1, _⟩ => ⟨S8x2176x96, .f32⟩
  | .hbm, ⟨2, _⟩ => ⟨S8x2176x64, .f32⟩
  | .hbm, ⟨3, _⟩ => ⟨S2176x16, .f32⟩
  | .hbm, ⟨4, _⟩ => ⟨S2176x16, .f32⟩
  | .hbm, ⟨5, _⟩ => ⟨S384x768, .bf16⟩
  | .hbm, ⟨6, _⟩ => ⟨S256x1024, .bf16⟩
  | .hbm, ⟨7, _⟩ => ⟨S96, .i32⟩
  | .hbm, ⟨8, _⟩ => ⟨S96x1, .i32⟩
  | .hbm, ⟨9, _⟩ => ⟨S96, .i32⟩
  | .hbm, ⟨10, _⟩ => ⟨S1x96, .i32⟩
  | .hbm, ⟨11, _⟩ => ⟨S_, .i32⟩
  | .hbm, ⟨12, _⟩ => ⟨S96x1, .i32⟩
  | .hbm, ⟨13, _⟩ => ⟨S96x1, .i32⟩
  | .hbm, ⟨14, _⟩ => ⟨S96x96, .i32⟩
  | .hbm, ⟨15, _⟩ => ⟨S96x96, .i32⟩
  | .hbm, ⟨16, _⟩ => ⟨S96x96, .i1⟩
  | .hbm, ⟨17, _⟩ => ⟨S_, .i32⟩
  | .hbm, ⟨18, _⟩ => ⟨S96x1, .i32⟩
  | .hbm, ⟨19, _⟩ => ⟨S96x1, .i1⟩
  | .hbm, ⟨20, _⟩ => ⟨S96x96, .i1⟩
  | .hbm, ⟨21, _⟩ => ⟨S96x96, .i1⟩
  | .hbm, ⟨22, _⟩ => ⟨S_, .f32⟩
  | .hbm, ⟨23, _⟩ => ⟨S_, .f32⟩
  | .hbm, ⟨24, _⟩ => ⟨S96x96, .f32⟩
  | .hbm, ⟨25, _⟩ => ⟨S96x96, .f32⟩
  | .hbm, ⟨26, _⟩ => ⟨S96x96, .f32⟩
  | .hbm, ⟨27, _⟩ => ⟨S_, .i32⟩
  | .hbm, ⟨28, _⟩ => ⟨S1x96, .i32⟩
  | .hbm, ⟨29, _⟩ => ⟨S1x96, .i32⟩
  | .hbm, ⟨30, _⟩ => ⟨S96x96, .i32⟩
  | .hbm, ⟨31, _⟩ => ⟨S96x96, .i32⟩
  | .hbm, ⟨32, _⟩ => ⟨S96x96, .i1⟩
  | .hbm, ⟨33, _⟩ => ⟨S_, .i32⟩
  | .hbm, ⟨34, _⟩ => ⟨S1x96, .i32⟩
  | .hbm, ⟨35, _⟩ => ⟨S1x96, .i1⟩
  | .hbm, ⟨36, _⟩ => ⟨S96x96, .i1⟩
  | .hbm, ⟨37, _⟩ => ⟨S96x96, .i1⟩
  | .hbm, ⟨38, _⟩ => ⟨S_, .f32⟩
  | .hbm, ⟨39, _⟩ => ⟨S_, .f32⟩
  | .hbm, ⟨40, _⟩ => ⟨S96x96, .f32⟩
  | .hbm, ⟨41, _⟩ => ⟨S96x96, .f32⟩
  | .hbm, ⟨42, _⟩ => ⟨S96x96, .f32⟩
  | .hbm, ⟨43, _⟩ => ⟨S96x96, .f32⟩
  | .hbm, ⟨44, _⟩ => ⟨S32x1, .i32⟩
  | .hbm, ⟨45, _⟩ => ⟨S_, .i32⟩
  | .hbm, ⟨46, _⟩ => ⟨S32x1, .i32⟩
  | .hbm, ⟨47, _⟩ => ⟨S32x1, .i32⟩
  | .hbm, ⟨48, _⟩ => ⟨S32x96, .i32⟩
  | .hbm, ⟨49, _⟩ => ⟨S32x96, .i32⟩
  | .hbm, ⟨50, _⟩ => ⟨S32x96, .i1⟩
  | .hbm, ⟨51, _⟩ => ⟨S_, .f32⟩
  | .hbm, ⟨52, _⟩ => ⟨S_, .f32⟩
  | .hbm, ⟨53, _⟩ => ⟨S32x96, .f32⟩
  | .hbm, ⟨54, _⟩ => ⟨S32x96, .f32⟩
  | .hbm, ⟨55, _⟩ => ⟨S32x96, .f32⟩
  | .hbm, ⟨56, _⟩ => ⟨S_, .f32⟩
  | .hbm, ⟨57, _⟩ => ⟨S2176x64, .f32⟩
  | .hbm, ⟨58, _⟩ => ⟨S2176x96, .f32⟩
  | .hbm, ⟨59, _⟩ => ⟨S_, .f32⟩
  | .hbm, ⟨60, _⟩ => ⟨S2176x64, .f32⟩
  | .hbm, ⟨61, _⟩ => ⟨S2176x96, .f32⟩
  | .hbm, ⟨62, _⟩ => ⟨S384x8x96, .bf16⟩
  | .hbm, ⟨63, _⟩ => ⟨S8x384x96, .bf16⟩
  | .hbm, ⟨64, _⟩ => ⟨S256x8x128, .bf16⟩
  | .hbm, ⟨65, _⟩ => ⟨S8x256x128, .bf16⟩
  | .hbm, ⟨66, _⟩ => ⟨S8x256x64, .bf16⟩
  | .hbm, ⟨67, _⟩ => ⟨S_, .bf16⟩
  | .hbm, ⟨68, _⟩ => ⟨S8x256x32, .bf16⟩
  | .hbm, ⟨69, _⟩ => ⟨S8x256x96, .bf16⟩
  | .hbm, ⟨70, _⟩ => ⟨S8x256x64, .bf16⟩
  | .hbm, ⟨71, _⟩ => ⟨S2176x384, .f32⟩
  | .hbm, ⟨72, _⟩ => ⟨S2176x256, .f32⟩
  | .hbm, ⟨73, _⟩ => ⟨S8x2176x96, .bf16⟩
  | .hbm, ⟨74, _⟩ => ⟨S2176x32, .f32⟩
  | .local _ .vmem, ⟨0, _⟩ => ⟨S8x544x96, .f32⟩
  | .local _ .vmem, ⟨1, _⟩ => ⟨S8x544x96, .f32⟩
  | .local _ .vmem, ⟨2, _⟩ => ⟨S8x544x96, .f32⟩
  | .local _ .vmem, ⟨3, _⟩ => ⟨S8x544x96, .f32⟩
  | .local _ .vmem, ⟨4, _⟩ => ⟨S8x544x64, .f32⟩
  | .local _ .vmem, ⟨5, _⟩ => ⟨S8x544x64, .f32⟩
  | .local _ .vmem, ⟨6, _⟩ => ⟨S544x96, .f32⟩
  | .local _ .vmem, ⟨7, _⟩ => ⟨S544x96, .f32⟩
  | .local _ .vmem, ⟨8, _⟩ => ⟨S544x96, .f32⟩
  | .local _ .vmem, ⟨9, _⟩ => ⟨S544x96, .f32⟩
  | .local _ .vmem, ⟨10, _⟩ => ⟨S96x96, .f32⟩
  | .local _ .vmem, ⟨11, _⟩ => ⟨S32x96, .f32⟩
  | .local _ .vmem, ⟨12, _⟩ => ⟨S8x384x96, .bf16⟩
  | .local _ .vmem, ⟨13, _⟩ => ⟨S8x256x96, .bf16⟩
  | .local _ .vmem, ⟨14, _⟩ => ⟨S8x256x64, .bf16⟩
  | .local _ .vmem, ⟨15, _⟩ => ⟨S544x384, .f32⟩
  | .local _ .vmem, ⟨16, _⟩ => ⟨S544x384, .f32⟩
  | .local _ .vmem, ⟨17, _⟩ => ⟨S544x256, .f32⟩
  | .local _ .vmem, ⟨18, _⟩ => ⟨S544x256, .f32⟩
  | .local _ .vmem, ⟨19, _⟩ => ⟨S8x544x96, .bf16⟩
  | .local _ .vmem, ⟨20, _⟩ => ⟨S8x544x96, .bf16⟩
  | .local _ .vmem, ⟨21, _⟩ => ⟨S544x32, .f32⟩
  | .local _ .vmem, ⟨22, _⟩ => ⟨S544x32, .f32⟩
  | _, _ => ⟨S8x2176x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_cst_5 : Ref sig .tc := ⟨.hbm, 39, rfl⟩
abbrev main_call1_v0 : Ref sig .tc := ⟨.hbm, 40, rfl⟩
abbrev main_call1_v1 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_cst_8 : Ref sig .tc := ⟨.hbm, 52, rfl⟩
abbrev main_call2_v0 : Ref sig .tc := ⟨.hbm, 53, rfl⟩
abbrev main_call2_v1 : Ref sig .tc := ⟨.hbm, 54, rfl⟩
abbrev main_v31 : Ref sig .tc := ⟨.hbm, 55, rfl⟩
abbrev main_cst_9 : Ref sig .tc := ⟨.hbm, 56, rfl⟩
abbrev main_v32 : Ref sig .tc := ⟨.hbm, 57, rfl⟩
abbrev main_v33 : Ref sig .tc := ⟨.hbm, 58, rfl⟩
abbrev main_cst_10 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_11 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44_0 : Ref sig .tc := ⟨.hbm, 71, rfl⟩
abbrev main_v44_1 : Ref sig .tc := ⟨.hbm, 72, rfl⟩
abbrev main_v44_2 : Ref sig .tc := ⟨.hbm, 73, rfl⟩
abbrev main_v44_3 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x544x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x544x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x544x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S96x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x384x96 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x256x96 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x256x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S544x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S544x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x544x96 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S544x32 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== LatBRefIdeal.lean ====
abbrev S8x2176x96 : Shape := ⟨3, ![8, 2176, 96]⟩
abbrev S8x2176x64 : Shape := ⟨3, ![8, 2176, 64]⟩
abbrev S2176x16 : Shape := ⟨2, ![2176, 16]⟩
abbrev S384x768 : Shape := ⟨2, ![384, 768]⟩
abbrev S256x1024 : Shape := ⟨2, ![256, 1024]⟩
abbrev S_ : Shape := ⟨0, ![]⟩
abbrev S2176x8x96 : Shape := ⟨3, ![2176, 8, 96]⟩
abbrev S2176x1x16 : Shape := ⟨3, ![2176, 1, 16]⟩
abbrev S2176x8x16 : Shape := ⟨3, ![2176, 8, 16]⟩
abbrev S2176x8x64 : Shape := ⟨3, ![2176, 8, 64]⟩
abbrev S2176x384 : Shape := ⟨2, ![2176, 384]⟩
abbrev S2176x768 : Shape := ⟨2, ![2176, 768]⟩
abbrev S2176x256 : Shape := ⟨2, ![2176, 256]⟩
abbrev S2176x32 : Shape := ⟨2, ![2176, 32]⟩
abbrev S2176x1024 : Shape := ⟨2, ![2176, 1024]⟩
abbrev S2176x8x128 : Shape := ⟨3, ![2176, 8, 128]⟩
abbrev S2176x1x32 : Shape := ⟨3, ![2176, 1, 32]⟩
abbrev S2176x8x32 : Shape := ⟨3, ![2176, 8, 32]⟩

abbrev nBuf : Space → Nat
  | .hbm => 88
  | .vmem => 0
  | .smem => 0
  | _ => 0

abbrev bufTy : (tb : Table) → Fin (tcTables nBuf tb) → BufTy
  | .hbm, ⟨0, _⟩ => ⟨S8x2176x96, .f32⟩
  | .hbm, ⟨1, _⟩ => ⟨S8x2176x96, .f32⟩
  | .hbm, ⟨2, _⟩ => ⟨S8x2176x64, .f32⟩
  | .hbm, ⟨3, _⟩ => ⟨S2176x16, .f32⟩
  | .hbm, ⟨4, _⟩ => ⟨S2176x16, .f32⟩
  | .hbm, ⟨5, _⟩ => ⟨S384x768, .bf16⟩
  | .hbm, ⟨6, _⟩ => ⟨S256x1024, .bf16⟩
  | .hbm, ⟨7, _⟩ => ⟨S_, .f32⟩
  | .hbm, ⟨8, _⟩ => ⟨S2176x8x96, .f32⟩
  | .hbm, ⟨9, _⟩ => ⟨S2176x1x16, .f32⟩
  | .hbm, ⟨10, _⟩ => ⟨S2176x1x16, .f32⟩
  | .hbm, ⟨11, _⟩ => ⟨S2176x8x16, .f32⟩
  | .hbm, ⟨12, _⟩ => ⟨S2176x8x16, .f32⟩
  | .hbm, ⟨13, _⟩ => ⟨S2176x8x64, .f32⟩
  | .hbm, ⟨14, _⟩ => ⟨S2176x8x16, .f32⟩
  | .hbm, ⟨15, _⟩ => ⟨S2176x8x16, .f32⟩
  | .hbm, ⟨16, _⟩ => ⟨S2176x8x16, .f32⟩
  | .hbm, ⟨17, _⟩ => ⟨S2176x8x16, .f32⟩
  | .hbm, ⟨18, _⟩ => ⟨S2176x8x16, .f32⟩
  | .hbm, ⟨19, _⟩ => ⟨S2176x8x16, .f32⟩
  | .hbm, ⟨20, _⟩ => ⟨S2176x8x16, .f32⟩
  | .hbm, ⟨21, _⟩ => ⟨S2176x8x16, .f32⟩
  | .hbm, ⟨22, _⟩ => ⟨S2176x8x16, .f32⟩
  | .hbm, ⟨23, _⟩ => ⟨S2176x8x16, .f32⟩
  | .hbm, ⟨24, _⟩ => ⟨S2176x8x96, .f32⟩
  | .hbm, ⟨25, _⟩ => ⟨S8x2176x96, .f32⟩
  | .hbm, ⟨26, _⟩ => ⟨S2176x8x96, .f32⟩
  | .hbm, ⟨27, _⟩ => ⟨S2176x8x64, .f32⟩
  | .hbm, ⟨28, _⟩ => ⟨S2176x8x16, .f32⟩
  | .hbm, ⟨29, _⟩ => ⟨S2176x8x16, .f32⟩
  | .hbm, ⟨30, _⟩ => ⟨S2176x8x16, .f32⟩
  | .hbm, ⟨31, _⟩ => ⟨S2176x8x16, .f32⟩
  | .hbm, ⟨32, _⟩ => ⟨S2176x8x16, .f32⟩
  | .hbm, ⟨33, _⟩ => ⟨S2176x8x16, .f32⟩
  | .hbm, ⟨34, _⟩ => ⟨S2176x8x16, .f32⟩
  | .hbm, ⟨35, _⟩ => ⟨S2176x8x16, .f32⟩
  | .hbm, ⟨36, _⟩ => ⟨S2176x8x16, .f32⟩
  | .hbm, ⟨37, _⟩ => ⟨S2176x8x16, .f32⟩
  | .hbm, ⟨38, _⟩ => ⟨S2176x8x16, .f32⟩
  | .hbm, ⟨39, _⟩ => ⟨S2176x8x16, .f32⟩
  | .hbm, ⟨40, _⟩ => ⟨S2176x8x16, .f32⟩
  | .hbm, ⟨41, _⟩ => ⟨S_, .f32⟩
  | .hbm, ⟨42, _⟩ => ⟨S2176x8x96, .f32⟩
  | .hbm, ⟨43, _⟩ => ⟨S_, .f32⟩
  | .hbm, ⟨44, _⟩ => ⟨S2176x8x96, .f32⟩
  | .hbm, ⟨45, _⟩ => ⟨S2176x8x96, .f32⟩
  | .hbm, ⟨46, _⟩ => ⟨S_, .f32⟩
  | .hbm, ⟨47, _⟩ => ⟨S2176x8x96, .f32⟩
  | .hbm, ⟨48, _⟩ => ⟨S2176x8x96, .f32⟩
  | .hbm, ⟨49, _⟩ => ⟨S_, .f32⟩
  | .hbm, ⟨50, _⟩ => ⟨S2176x384, .f32⟩
  | .hbm, ⟨51, _⟩ => ⟨S384x768, .f32⟩
  | .hbm, ⟨52, _⟩ => ⟨S2176x768, .f32⟩
  | .hbm, ⟨53, _⟩ => ⟨S2176x8x96, .f32⟩
  | .hbm, ⟨54, _⟩ => ⟨S2176x768, .f32⟩
  | .hbm, ⟨55, _⟩ => ⟨S2176x384, .f32⟩
  | .hbm, ⟨56, _⟩ => ⟨S_, .f32⟩
  | .hbm, ⟨57, _⟩ => ⟨S2176x256, .f32⟩
  | .hbm, ⟨58, _⟩ => ⟨S_, .f32⟩
  | .hbm, ⟨59, _⟩ => ⟨S2176x32, .f32⟩
  | .hbm, ⟨60, _⟩ => ⟨S256x1024, .f32⟩
  | .hbm, ⟨61, _⟩ => ⟨S2176x1024, .f32⟩
  | .hbm, ⟨62, _⟩ => ⟨S2176x8x128, .f32⟩
  | .hbm, ⟨63, _⟩ => ⟨S2176x8x64, .f32⟩
  | .hbm, ⟨64, _⟩ => ⟨S2176x1x32, .f32⟩
  | .hbm, ⟨65, _⟩ => ⟨S2176x8x32, .f32⟩
  | .hbm, ⟨66, _⟩ => ⟨S2176x8x96, .f32⟩
  | .hbm, ⟨67, _⟩ => ⟨S2176x8x64, .f32⟩
  | .hbm, ⟨68, _⟩ => ⟨S8x2176x96, .f32⟩
  | .hbm, ⟨69, _⟩ => ⟨S8x2176x64, .f32⟩
  | .hbm, ⟨70, _⟩ => ⟨S2176x8x64, .f32⟩
  | .hbm, ⟨71, _⟩ => ⟨S2176x8x96, .f32⟩
  | .hbm, ⟨72, _⟩ => ⟨S_, .f32⟩
  | .hbm, ⟨73, _⟩ => ⟨S2176x8x128, .f32⟩
  | .hbm, ⟨74, _⟩ => ⟨S2176x8x64, .f32⟩
  | .hbm, ⟨75, _⟩ => ⟨S2176x8x32, .f32⟩
  | .hbm, ⟨76, _⟩ => ⟨S_, .f32⟩
  | .hbm, ⟨77, _⟩ => ⟨S2176x32, .f32⟩
  | .hbm, ⟨78, _⟩ => ⟨S2176x1x32, .f32⟩
  | .hbm, ⟨79, _⟩ => ⟨S_, .f32⟩
  | .hbm, ⟨80, _⟩ => ⟨S2176x32, .f32⟩
  | .hbm, ⟨81, _⟩ => ⟨S_, .f32⟩
  | .hbm, ⟨82, _⟩ => ⟨S2176x8x128, .f32⟩
  | .hbm, ⟨83, _⟩ => ⟨S2176x8x128, .f32⟩
  | .hbm, ⟨84, _⟩ => ⟨S2176x1024, .f32⟩
  | .hbm, ⟨85, _⟩ => ⟨S2176x256, .f32⟩
  | .hbm, ⟨86, _⟩ => ⟨S8x2176x96, .f32⟩
  | .hbm, ⟨87, _⟩ => ⟨S8x2176x96, .bf16⟩
  | _, _ => ⟨S8x2176x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_0 : Ref sig .tc := ⟨.hbm, 41, rfl⟩
abbrev main_v33 : Ref sig .tc := ⟨.hbm, 42, rfl⟩
abbrev main_cst_1 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_6 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_7 : Ref sig .tc := ⟨.hbm, 76, rfl⟩
abbrev main_v61 : Ref sig .tc := ⟨.hbm, 77, rfl⟩
abbrev main_v62 : Ref sig .tc := ⟨.hbm, 78, rfl⟩
abbrev main_cst_8 : Ref sig .tc := ⟨.hbm, 79, rfl⟩
abbrev main_v63 : Ref sig .tc := ⟨.hbm, 80, rfl⟩
abbrev main_cst_9 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Lat.lean ====
abbrev S2176x384 : Shape := ⟨2, ![2176, 384]⟩
abbrev S2176x256 : Shape := ⟨2, ![2176, 256]⟩
abbrev S2176x32 : Shape := ⟨2, ![2176, 32]⟩
abbrev S2176x16 : Shape := ⟨2, ![2176, 16]⟩
abbrev S384x768 : Shape := ⟨2, ![384, 768]⟩
abbrev S256x1024 : Shape := ⟨2, ![256, 1024]⟩
abbrev S96 : Shape := ⟨1, ![96]⟩
abbrev S96x1 : Shape := ⟨2, ![96, 1]⟩
abbrev S1x96 : Shape := ⟨2, ![1, 96]⟩
abbrev S_ : Shape := ⟨0, ![]⟩
abbrev S96x96 : Shape := ⟨2, ![96, 96]⟩
abbrev S32x1 : Shape := ⟨2, ![32, 1]⟩
abbrev S32x96 : Shape := ⟨2, ![32, 96]⟩
abbrev S2176x64 : Shape := ⟨2, ![2176, 64]⟩
abbrev S2176x96 : Shape := ⟨2, ![2176, 96]⟩
abbrev S384x8x96 : Shape := ⟨3, ![384, 8, 96]⟩
abbrev S8x384x96 : Shape := ⟨3, ![8, 384, 96]⟩
abbrev S256x8x128 : Shape := ⟨3, ![256, 8, 128]⟩
abbrev S8x256x128 : Shape := ⟨3, ![8, 256, 128]⟩
abbrev S8x256x64 : Shape := ⟨3, ![8, 256, 64]⟩
abbrev S8x256x32 : Shape := ⟨3, ![8, 256, 32]⟩
abbrev S8x256x96 : Shape := ⟨3, ![8, 256, 96]⟩
abbrev S8x2176x96 : Shape := ⟨3, ![8, 2176, 96]⟩
abbrev S8x2176x64 : Shape := ⟨3, ![8, 2176, 64]⟩
abbrev S544x384 : Shape := ⟨2, ![544, 384]⟩
abbrev S544x256 : Shape := ⟨2, ![544, 256]⟩
abbrev S544x32 : Shape := ⟨2, ![544, 32]⟩
abbrev S544x96 : Shape := ⟨2, ![544, 96]⟩
abbrev S8x544x96 : Shape := ⟨3, ![8, 544, 96]⟩
abbrev S8x544x64 : Shape := ⟨3, ![8, 544, 64]⟩
abbrev S1x384x96 : Shape := ⟨3, ![1, 384, 96]⟩
abbrev S384x96 : Shape := ⟨2, ![384, 96]⟩
abbrev S1x544x96 : Shape := ⟨3, ![1, 544, 96]⟩
abbrev S1x256x96 : Shape := ⟨3, ![1, 256, 96]⟩
abbrev S256x96 : Shape := ⟨2, ![256, 96]⟩
abbrev S1x256x64 : Shape := ⟨3, ![1, 256, 64]⟩
abbrev S256x64 : Shape := ⟨2, ![256, 64]⟩
abbrev S544x64 : Shape := ⟨2, ![544, 64]⟩
abbrev S1x544x64 : Shape := ⟨3, ![1, 544, 64]⟩

abbrev nBuf : Space → Nat
  | .hbm => 74
  | .vmem => 21
  | .smem => 0
  | _ => 0

abbrev bufTy : (tb : Table) → Fin (tcTables nBuf tb) → BufTy
  | .hbm, ⟨0, _⟩ => ⟨S2176x384, .bf16⟩
  | .hbm, ⟨1, _⟩ => ⟨S2176x256, .bf16⟩
  | .hbm, ⟨2, _⟩ => ⟨S2176x32, .bf16⟩
  | .hbm, ⟨3, _⟩ => ⟨S2176x16, .f32⟩
  | .hbm, ⟨4, _⟩ => ⟨S2176x16, .f32⟩
  | .hbm, ⟨5, _⟩ => ⟨S384x768, .bf16⟩
  | .hbm, ⟨6, _⟩ => ⟨S256x1024, .bf16⟩
  | .hbm, ⟨7, _⟩ => ⟨S96, .i32⟩
  | .hbm, ⟨8, _⟩ => ⟨S96x1, .i32⟩
  | .hbm, ⟨9, _⟩ => ⟨S96, .i32⟩
  | .hbm, ⟨10, _⟩ => ⟨S1x96, .i32⟩
  | .hbm, ⟨11, _⟩ => ⟨S_, .i32⟩
  | .hbm, ⟨12, _⟩ => ⟨S96x1, .i32⟩
  | .hbm, ⟨13, _⟩ => ⟨S96x1, .i32⟩
  | .hbm, ⟨14, _⟩ => ⟨S96x96, .i32⟩
  | .hbm, ⟨15, _⟩ => ⟨S96x96, .i32⟩
  | .hbm, ⟨16, _⟩ => ⟨S96x96, .i1⟩
  | .hbm, ⟨17, _⟩ => ⟨S_, .i32⟩
  | .hbm, ⟨18, _⟩ => ⟨S96x1, .i32⟩
  | .hbm, ⟨19, _⟩ => ⟨S96x1, .i1⟩
  | .hbm, ⟨20, _⟩ => ⟨S96x96, .i1⟩
  | .hbm, ⟨21, _⟩ => ⟨S96x96, .i1⟩
  | .hbm, ⟨22, _⟩ => ⟨S_, .f32⟩
  | .hbm, ⟨23, _⟩ => ⟨S_, .f32⟩
  | .hbm, ⟨24, _⟩ => ⟨S96x96, .f32⟩
  | .hbm, ⟨25, _⟩ => ⟨S96x96, .f32⟩
  | .hbm, ⟨26, _⟩ => ⟨S96x96, .f32⟩
  | .hbm, ⟨27, _⟩ => ⟨S_, .i32⟩
  | .hbm, ⟨28, _⟩ => ⟨S1x96, .i32⟩
  | .hbm, ⟨29, _⟩ => ⟨S1x96, .i32⟩
  | .hbm, ⟨30, _⟩ => ⟨S96x96, .i32⟩
  | .hbm, ⟨31, _⟩ => ⟨S96x96, .i32⟩
  | .hbm, ⟨32, _⟩ => ⟨S96x96, .i1⟩
  | .hbm, ⟨33, _⟩ => ⟨S_, .i32⟩
  | .hbm, ⟨34, _⟩ => ⟨S1x96, .i32⟩
  | .hbm, ⟨35, _⟩ => ⟨S1x96, .i1⟩
  | .hbm, ⟨36, _⟩ => ⟨S96x96, .i1⟩
  | .hbm, ⟨37, _⟩ => ⟨S96x96, .i1⟩
  | .hbm, ⟨38, _⟩ => ⟨S_, .f32⟩
  | .hbm, ⟨39, _⟩ => ⟨S_, .f32⟩
  | .hbm, ⟨40, _⟩ => ⟨S96x96, .f32⟩
  | .hbm, ⟨41, _⟩ => ⟨S96x96, .f32⟩
  | .hbm, ⟨42, _⟩ => ⟨S96x96, .f32⟩
  | .hbm, ⟨43, _⟩ => ⟨S96x96, .f32⟩
  | .hbm, ⟨44, _⟩ => ⟨S32x1, .i32⟩
  | .hbm, ⟨45, _⟩ => ⟨S_, .i32⟩
  | .hbm, ⟨46, _⟩ => ⟨S32x1, .i32⟩
  | .hbm, ⟨47, _⟩ => ⟨S32x1, .i32⟩
  | .hbm, ⟨48, _⟩ => ⟨S32x96, .i32⟩
  | .hbm, ⟨49, _⟩ => ⟨S32x96, .i32⟩
  | .hbm, ⟨50, _⟩ => ⟨S32x96, .i1⟩
  | .hbm, ⟨51, _⟩ => ⟨S_, .f32⟩
  | .hbm, ⟨52, _⟩ => ⟨S_, .f32⟩
  | .hbm, ⟨53, _⟩ => ⟨S32x96, .f32⟩
  | .hbm, ⟨54, _⟩ => ⟨S32x96, .f32⟩
  | .hbm, ⟨55, _⟩ => ⟨S32x96, .f32⟩
  | .hbm, ⟨56, _⟩ => ⟨S_, .f32⟩
  | .hbm, ⟨57, _⟩ => ⟨S2176x64, .f32⟩
  | .hbm, ⟨58, _⟩ => ⟨S2176x96, .f32⟩
  | .hbm, ⟨59, _⟩ => ⟨S_, .f32⟩
  | .hbm, ⟨60, _⟩ => ⟨S2176x64, .f32⟩
  | .hbm, ⟨61, _⟩ => ⟨S2176x96, .f32⟩
  | .hbm, ⟨62, _⟩ => ⟨S384x8x96, .bf16⟩
  | .hbm, ⟨63, _⟩ => ⟨S8x384x96, .bf16⟩
  | .hbm, ⟨64, _⟩ => ⟨S256x8x128, .bf16⟩
  | .hbm, ⟨65, _⟩ => ⟨S8x256x128, .bf16⟩
  | .hbm, ⟨66, _⟩ => ⟨S8x256x64, .bf16⟩
  | .hbm, ⟨67, _⟩ => ⟨S_, .bf16⟩
  | .hbm, ⟨68, _⟩ => ⟨S8x256x32, .bf16⟩
  | .hbm, ⟨69, _⟩ => ⟨S8x256x96, .bf16⟩
  | .hbm, ⟨70, _⟩ => ⟨S8x256x64, .bf16⟩
  | .hbm, ⟨71, _⟩ => ⟨S8x2176x96, .bf16⟩
  | .hbm, ⟨72, _⟩ => ⟨S8x2176x96, .bf16⟩
  | .hbm, ⟨73, _⟩ => ⟨S8x2176x64, .bf16⟩
  | .local _ .vmem, ⟨0, _⟩ => ⟨S544x384, .bf16⟩
  | .local _ .vmem, ⟨1, _⟩ => ⟨S544x384, .bf16⟩
  | .local _ .vmem, ⟨2, _⟩ => ⟨S544x256, .bf16⟩
  | .local _ .vmem, ⟨3, _⟩ => ⟨S544x256, .bf16⟩
  | .local _ .vmem, ⟨4, _⟩ => ⟨S544x32, .bf16⟩
  | .local _ .vmem, ⟨5, _⟩ => ⟨S544x32, .bf16⟩
  | .local _ .vmem, ⟨6, _⟩ => ⟨S544x96, .f32⟩
  | .local _ .vmem, ⟨7, _⟩ => ⟨S544x96, .f32⟩
  | .local _ .vmem, ⟨8, _⟩ => ⟨S544x96, .f32⟩
  | .local _ .vmem, ⟨9, _⟩ => ⟨S544x96, .f32⟩
  | .local _ .vmem, ⟨10, _⟩ => ⟨S96x96, .f32⟩
  | .local _ .vmem, ⟨11, _⟩ => ⟨S32x96, .f32⟩
  | .local _ .vmem, ⟨12, _⟩ => ⟨S8x384x96, .bf16⟩
  | .local _ .vmem, ⟨13, _⟩ => ⟨S8x256x96, .bf16⟩
  | .local _ .vmem, ⟨14, _⟩ => ⟨S8x256x64, .bf16⟩
  | .local _ .vmem, ⟨15, _⟩ => ⟨S8x544x96, .bf16⟩
  | .local _ .vmem, ⟨16, _⟩ => ⟨S8x544x96, .bf16⟩
  | .local _ .vmem, ⟨17, _⟩ => ⟨S8x544x96, .bf16⟩
  | .local _ .vmem, ⟨18, _⟩ => ⟨S8x544x96, .bf16⟩
  | .local _ .vmem, ⟨19, _⟩ => ⟨S8x544x64, .bf16⟩
  | .local _ .vmem, ⟨20, _⟩ => ⟨S8x544x64, .bf16⟩
  | _, _ => ⟨S2176x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_cst_5 : Ref sig .tc := ⟨.hbm, 39, rfl⟩
abbrev main_call1_v0 : Ref sig .tc := ⟨.hbm, 40, rfl⟩
abbrev main_call1_v1 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_cst_8 : Ref sig .tc := ⟨.hbm, 52, rfl⟩
abbrev main_call2_v0 : Ref sig .tc := ⟨.hbm, 53, rfl⟩
abbrev main_call2_v1 : Ref sig .tc := ⟨.hbm, 54, rfl⟩
abbrev main_v31 : Ref sig .tc := ⟨.hbm, 55, rfl⟩
abbrev main_cst_9 : Ref sig .tc := ⟨.hbm, 56, rfl⟩
abbrev main_v32 : Ref sig .tc := ⟨.hbm, 57, rfl⟩
abbrev main_v33 : Ref sig .tc := ⟨.hbm, 58, rfl⟩
abbrev main_cst_10 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_11 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44_0 : Ref sig .tc := ⟨.hbm, 71, rfl⟩
abbrev main_v44_1 : Ref sig .tc := ⟨.hbm, 72, rfl⟩
abbrev main_v44_2 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S544x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S96x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x384x96 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x256x96 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x256x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x544x96 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x544x96 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x544x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== LatRefIdeal.lean ====
abbrev S2176x384 : Shape := ⟨2, ![2176, 384]⟩
abbrev S2176x256 : Shape := ⟨2, ![2176, 256]⟩
abbrev S2176x32 : Shape := ⟨2, ![2176, 32]⟩
abbrev S2176x16 : Shape := ⟨2, ![2176, 16]⟩
abbrev S384x768 : Shape := ⟨2, ![384, 768]⟩
abbrev S256x1024 : Shape := ⟨2, ![256, 1024]⟩
abbrev S2176x768 : Shape := ⟨2, ![2176, 768]⟩
abbrev S2176x8x96 : Shape := ⟨3, ![2176, 8, 96]⟩
abbrev S2176x1x16 : Shape := ⟨3, ![2176, 1, 16]⟩
abbrev S2176x8x16 : Shape := ⟨3, ![2176, 8, 16]⟩
abbrev S2176x8x64 : Shape := ⟨3, ![2176, 8, 64]⟩
abbrev S2176x1024 : Shape := ⟨2, ![2176, 1024]⟩
abbrev S2176x8x128 : Shape := ⟨3, ![2176, 8, 128]⟩
abbrev S2176x1x32 : Shape := ⟨3, ![2176, 1, 32]⟩
abbrev S2176x8x32 : Shape := ⟨3, ![2176, 8, 32]⟩
abbrev S8x2176x96 : Shape := ⟨3, ![8, 2176, 96]⟩
abbrev S8x2176x64 : Shape := ⟨3, ![8, 2176, 64]⟩

abbrev nBuf : Space → Nat
  | .hbm => 43
  | .vmem => 0
  | .smem => 0
  | _ => 0

abbrev bufTy : (tb : Table) → Fin (tcTables nBuf tb) → BufTy
  | .hbm, ⟨0, _⟩ => ⟨S2176x384, .bf16⟩
  | .hbm, ⟨1, _⟩ => ⟨S2176x256, .bf16⟩
  | .hbm, ⟨2, _⟩ => ⟨S2176x32, .bf16⟩
  | .hbm, ⟨3, _⟩ => ⟨S2176x16, .f32⟩
  | .hbm, ⟨4, _⟩ => ⟨S2176x16, .f32⟩
  | .hbm, ⟨5, _⟩ => ⟨S384x768, .bf16⟩
  | .hbm, ⟨6, _⟩ => ⟨S256x1024, .bf16⟩
  | .hbm, ⟨7, _⟩ => ⟨S2176x384, .f32⟩
  | .hbm, ⟨8, _⟩ => ⟨S384x768, .f32⟩
  | .hbm, ⟨9, _⟩ => ⟨S2176x768, .f32⟩
  | .hbm, ⟨10, _⟩ => ⟨S2176x8x96, .f32⟩
  | .hbm, ⟨11, _⟩ => ⟨S2176x1x16, .f32⟩
  | .hbm, ⟨12, _⟩ => ⟨S2176x1x16, .f32⟩
  | .hbm, ⟨13, _⟩ => ⟨S2176x8x16, .f32⟩
  | .hbm, ⟨14, _⟩ => ⟨S2176x8x16, .f32⟩
  | .hbm, ⟨15, _⟩ => ⟨S2176x8x64, .f32⟩
  | .hbm, ⟨16, _⟩ => ⟨S2176x8x16, .f32⟩
  | .hbm, ⟨17, _⟩ => ⟨S2176x8x16, .f32⟩
  | .hbm, ⟨18, _⟩ => ⟨S2176x8x16, .f32⟩
  | .hbm, ⟨19, _⟩ => ⟨S2176x8x16, .f32⟩
  | .hbm, ⟨20, _⟩ => ⟨S2176x8x16, .f32⟩
  | .hbm, ⟨21, _⟩ => ⟨S2176x8x16, .f32⟩
  | .hbm, ⟨22, _⟩ => ⟨S2176x8x16, .f32⟩
  | .hbm, ⟨23, _⟩ => ⟨S2176x8x16, .f32⟩
  | .hbm, ⟨24, _⟩ => ⟨S2176x8x16, .f32⟩
  | .hbm, ⟨25, _⟩ => ⟨S2176x8x16, .f32⟩
  | .hbm, ⟨26, _⟩ => ⟨S2176x8x96, .f32⟩
  | .hbm, ⟨27, _⟩ => ⟨S2176x256, .f32⟩
  | .hbm, ⟨28, _⟩ => ⟨S2176x32, .f32⟩
  | .hbm, ⟨29, _⟩ => ⟨S256x1024, .f32⟩
  | .hbm, ⟨30, _⟩ => ⟨S2176x1024, .f32⟩
  | .hbm, ⟨31, _⟩ => ⟨S2176x8x128, .f32⟩
  | .hbm, ⟨32, _⟩ => ⟨S2176x8x64, .f32⟩
  | .hbm, ⟨33, _⟩ => ⟨S2176x1x32, .f32⟩
  | .hbm, ⟨34, _⟩ => ⟨S2176x8x32, .f32⟩
  | .hbm, ⟨35, _⟩ => ⟨S2176x8x96, .f32⟩
  | .hbm, ⟨36, _⟩ => ⟨S2176x8x64, .f32⟩
  | .hbm, ⟨37, _⟩ => ⟨S8x2176x96, .f32⟩
  | .hbm, ⟨38, _⟩ => ⟨S8x2176x96, .bf16⟩
  | .hbm, ⟨39, _⟩ => ⟨S8x2176x96, .f32⟩
  | .hbm, ⟨40, _⟩ => ⟨S8x2176x96, .bf16⟩
  | .hbm, ⟨41, _⟩ => ⟨S8x2176x64, .f32⟩
  | .hbm, ⟨42, _⟩ => ⟨S8x2176x64, .bf16⟩
  | _, _ => ⟨S2176x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== CsDx.lean ====
abbrev S2176x512 : Shape := ⟨2, ![2176, 512]⟩
abbrev S32x16x64 : Shape := ⟨3, ![32, 16, 64]⟩
abbrev S1x2176x512 : Shape := ⟨3, ![1, 2176, 512]⟩
abbrev S32x64x16 : Shape := ⟨3, ![32, 64, 16]⟩
abbrev S8x8 : Shape := ⟨2, ![8, 8]⟩
abbrev S_ : Shape := ⟨0, ![]⟩
abbrev S4x8x64x16 : Shape := ⟨4, ![4, 8, 64, 16]⟩
abbrev S4x8x64x1x16 : Shape := ⟨5, ![4, 8, 64, 1, 16]⟩
abbrev S1x8x1x8x1 : Shape := ⟨5, ![1, 8, 1, 8, 1]⟩
abbrev S4x8x64x8x16 : Shape := ⟨5, ![4, 8, 64, 8, 16]⟩
abbrev S4x512x128 : Shape := ⟨3, ![4, 512, 128]⟩
abbrev S1x4x512x128 : Shape := ⟨4, ![1, 4, 512, 128]⟩
abbrev S2x4x512x128 : Shape := ⟨4, ![2, 4, 512, 128]⟩
abbrev S2x2176x2048 : Shape := ⟨3, ![2, 2176, 2048]⟩
abbrev S1x544x512 : Shape := ⟨3, ![1, 544, 512]⟩
abbrev S1x544x2048 : Shape := ⟨3, ![1, 544, 2048]⟩
abbrev S1x544x128 : Shape := ⟨3, ![1, 544, 128]⟩
abbrev S544x128 : Shape := ⟨2, ![544, 128]⟩
abbrev S1x1x512x128 : Shape := ⟨4, ![1, 1, 512, 128]⟩
abbrev S512x128 : Shape := ⟨2, ![512, 128]⟩
abbrev S544x512 : Shape := ⟨2, ![544, 512]⟩

abbrev nBuf : Space → Nat
  | .hbm => 40
  | .vmem => 6
  | .smem => 0
  | _ => 0

abbrev bufTy : (tb : Table) → Fin (tcTables nBuf tb) → BufTy
  | .hbm, ⟨0, _⟩ => ⟨S2176x512, .bf16⟩
  | .hbm, ⟨1, _⟩ => ⟨S32x16x64, .f32⟩
  | .hbm, ⟨2, _⟩ => ⟨S32x16x64, .f32⟩
  | .hbm, ⟨3, _⟩ => ⟨S1x2176x512, .bf16⟩
  | .hbm, ⟨4, _⟩ => ⟨S32x64x16, .f32⟩
  | .hbm, ⟨5, _⟩ => ⟨S8x8, .i32⟩
  | .hbm, ⟨6, _⟩ => ⟨S8x8, .i32⟩
  | .hbm, ⟨7, _⟩ => ⟨S_, .i32⟩
  | .hbm, ⟨8, _⟩ => ⟨S8x8, .i32⟩
  | .hbm, ⟨9, _⟩ => ⟨S8x8, .i32⟩
  | .hbm, ⟨10, _⟩ => ⟨S8x8, .i1⟩
  | .hbm, ⟨11, _⟩ => ⟨S8x8, .f32⟩
  | .hbm, ⟨12, _⟩ => ⟨S4x8x64x16, .f32⟩
  | .hbm, ⟨13, _⟩ => ⟨S4x8x64x1x16, .f32⟩
  | .hbm, ⟨14, _⟩ => ⟨S1x8x1x8x1, .f32⟩
  | .hbm, ⟨15, _⟩ => ⟨S4x8x64x8x16, .f32⟩
  | .hbm, ⟨16, _⟩ => ⟨S4x8x64x8x16, .f32⟩
  | .hbm, ⟨17, _⟩ => ⟨S4x8x64x8x16, .f32⟩
  | .hbm, ⟨18, _⟩ => ⟨S4x512x128, .f32⟩
  | .hbm, ⟨19, _⟩ => ⟨S32x64x16, .f32⟩
  | .hbm, ⟨20, _⟩ => ⟨S8x8, .i32⟩
  | .hbm, ⟨21, _⟩ => ⟨S8x8, .i32⟩
  | .hbm, ⟨22, _⟩ => ⟨S_, .i32⟩
  | .hbm, ⟨23, _⟩ => ⟨S8x8, .i32⟩
  | .hbm, ⟨24, _⟩ => ⟨S8x8, .i32⟩
  | .hbm, ⟨25, _⟩ => ⟨S8x8, .i1⟩
  | .hbm, ⟨26, _⟩ => ⟨S8x8, .f32⟩
  | .hbm, ⟨27, _⟩ => ⟨S4x8x64x16, .f32⟩
  | .hbm, ⟨28, _⟩ => ⟨S4x8x64x1x16, .f32⟩
  | .hbm, ⟨29, _⟩ => ⟨S1x8x1x8x1, .f32⟩
  | .hbm, ⟨30, _⟩ => ⟨S4x8x64x8x16, .f32⟩
  | .hbm, ⟨31, _⟩ => ⟨S4x8x64x8x16, .f32⟩
  | .hbm, ⟨32, _⟩ => ⟨S4x8x64x8x16, .f32⟩
  | .hbm, ⟨33, _⟩ => ⟨S4x512x128, .f32⟩
  | .hbm, ⟨34, _⟩ => ⟨S4x512x128, .f32⟩
  | .hbm, ⟨35, _⟩ => ⟨S1x4x512x128, .f32⟩
  | .hbm, ⟨36, _⟩ => ⟨S1x4x512x128, .f32⟩
  | .hbm, ⟨37, _⟩ => ⟨S2x4x512x128, .f32⟩
  | .hbm, ⟨38, _⟩ => ⟨S2x4x512x128, .bf16⟩
  | .hbm, ⟨39, _⟩ => ⟨S2x2176x2048, .f32⟩
  | .local _ .vmem, ⟨0, _⟩ => ⟨S1x544x512, .bf16⟩
  | .local _ .vmem, ⟨1, _⟩ => ⟨S1x544x512, .bf16⟩
  | .local _ .vmem, ⟨2, _⟩ => ⟨S1x4x512x128, .bf16⟩
  | .local _ .vmem, ⟨3, _⟩ => ⟨S1x4x512x128, .bf16⟩
  | .local _ .vmem, ⟨4, _⟩ => ⟨S1x544x2048, .f32⟩
  | .local _ .vmem, ⟨5, _⟩ => ⟨S1x544x2048, .f32⟩
  | _, _ => ⟨S2176x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x544x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x544x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CsDxRefIdeal.lean ====
abbrev S2176x512 : Shape := ⟨2, ![2176, 512]⟩
abbrev S32x16x64 : Shape := ⟨3, ![32, 16, 64]⟩
abbrev S_ : Shape := ⟨0, ![]⟩
abbrev S2176x32x64 : Shape := ⟨3, ![2176, 32, 64]⟩
abbrev S32x2176x16 : Shape := ⟨3, ![32, 2176, 16]⟩
abbrev S2176x32x16 : Shape := ⟨3, ![2176, 32, 16]⟩
abbrev S32x2176x64 : Shape := ⟨3, ![32, 2176, 64]⟩
abbrev S2176x2048 : Shape := ⟨2, ![2176, 2048]⟩
abbrev S1x2176x2048 : Shape := ⟨3, ![1, 2176, 2048]⟩
abbrev S2x2176x2048 : Shape := ⟨3, ![2, 2176, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2176x512, .bf16⟩
  | .hbm, ⟨1, _⟩ => ⟨S32x16x64, .f32⟩
  | .hbm, ⟨2, _⟩ => ⟨S32x16x64, .f32⟩
  | .hbm, ⟨3, _⟩ => ⟨S_, .f32⟩
  | .hbm, ⟨4, _⟩ => ⟨S2176x32x64, .f32⟩
  | .hbm, ⟨5, _⟩ => ⟨S32x2176x16, .f32⟩
  | .hbm, ⟨6, _⟩ => ⟨S2176x32x16, .f32⟩
  | .hbm, ⟨7, _⟩ => ⟨S32x2176x16, .f32⟩
  | .hbm, ⟨8, _⟩ => ⟨S2176x32x16, .f32⟩
  | .hbm, ⟨9, _⟩ => ⟨S2176x32x16, .f32⟩
  | .hbm, ⟨10, _⟩ => ⟨S2176x512, .f32⟩
  | .hbm, ⟨11, _⟩ => ⟨S2176x32x16, .f32⟩
  | .hbm, ⟨12, _⟩ => ⟨S2176x32x16, .f32⟩
  | .hbm, ⟨13, _⟩ => ⟨S32x2176x16, .f32⟩
  | .hbm, ⟨14, _⟩ => ⟨S32x2176x64, .f32⟩
  | .hbm, ⟨15, _⟩ => ⟨S2176x32x64, .f32⟩
  | .hbm, ⟨16, _⟩ => ⟨S32x2176x16, .f32⟩
  | .hbm, ⟨17, _⟩ => ⟨S32x2176x64, .f32⟩
  | .hbm, ⟨18, _⟩ => ⟨S2176x32x64, .f32⟩
  | .hbm, ⟨19, _⟩ => ⟨S2176x2048, .f32⟩
  | .hbm, ⟨20, _⟩ => ⟨S2176x2048, .f32⟩
  | .hbm, ⟨21, _⟩ => ⟨S1x2176x2048, .f32⟩
  | .hbm, ⟨22, _⟩ => ⟨S1x2176x2048, .f32⟩
  | .hbm, ⟨23, _⟩ => ⟨S2x2176x2048, .f32⟩
  | _, _ => ⟨S2176x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== CsDw.lean ====
abbrev S2x2176x2048 : Shape := ⟨3, ![2, 2176, 2048]⟩
abbrev S2176x512 : Shape := ⟨2, ![2176, 512]⟩
abbrev S1x2176x512 : Shape := ⟨3, ![1, 2176, 512]⟩
abbrev S2x4x512x128 : Shape := ⟨4, ![2, 4, 512, 128]⟩
abbrev S1x2176x128 : Shape := ⟨3, ![1, 2176, 128]⟩
abbrev S1x1x512x128 : Shape := ⟨4, ![1, 1, 512, 128]⟩
abbrev S2176x128 : Shape := ⟨2, ![2176, 128]⟩
abbrev S512x128 : Shape := ⟨2, ![512, 128]⟩
abbrev S1x4x512x128 : Shape := ⟨4, ![1, 4, 512, 128]⟩
abbrev S4x512x128 : Shape := ⟨3, ![4, 512, 128]⟩
abbrev S4x8x64x8x16 : Shape := ⟨5, ![4, 8, 64, 8, 16]⟩
abbrev S8x8 : Shape := ⟨2, ![8, 8]⟩
abbrev S_ : Shape := ⟨0, ![]⟩
abbrev S4x64x8x16 : Shape := ⟨4, ![4, 64, 8, 16]⟩
abbrev S4x8x64x16 : Shape := ⟨4, ![4, 8, 64, 16]⟩
abbrev S32x64x16 : Shape := ⟨3, ![32, 64, 16]⟩
abbrev S32x16x64 : Shape := ⟨3, ![32, 16, 64]⟩

abbrev nBuf : Space → Nat
  | .hbm => 34
  | .vmem => 6
  | .smem => 0
  | _ => 0

abbrev bufTy : (tb : Table) → Fin (tcTables nBuf tb) → BufTy
  | .hbm, ⟨0, _⟩ => ⟨S2x2176x2048, .f32⟩
  | .hbm, ⟨1, _⟩ => ⟨S2176x512, .bf16⟩
  | .hbm, ⟨2, _⟩ => ⟨S1x2176x512, .bf16⟩
  | .hbm, ⟨3, _⟩ => ⟨S2x4x512x128, .f32⟩
  | .hbm, ⟨4, _⟩ => ⟨S1x4x512x128, .f32⟩
  | .hbm, ⟨5, _⟩ => ⟨S4x512x128, .f32⟩
  | .hbm, ⟨6, _⟩ => ⟨S4x8x64x8x16, .f32⟩
  | .hbm, ⟨7, _⟩ => ⟨S8x8, .i32⟩
  | .hbm, ⟨8, _⟩ => ⟨S8x8, .i32⟩
  | .hbm, ⟨9, _⟩ => ⟨S8x8, .i1⟩
  | .hbm, ⟨10, _⟩ => ⟨S4x8x64x8x16, .i1⟩
  | .hbm, ⟨11, _⟩ => ⟨S_, .f32⟩
  | .hbm, ⟨12, _⟩ => ⟨S4x8x64x8x16, .f32⟩
  | .hbm, ⟨13, _⟩ => ⟨S4x8x64x8x16, .f32⟩
  | .hbm, ⟨14, _⟩ => ⟨S_, .f32⟩
  | .hbm, ⟨15, _⟩ => ⟨S4x64x8x16, .f32⟩
  | .hbm, ⟨16, _⟩ => ⟨S4x8x64x16, .f32⟩
  | .hbm, ⟨17, _⟩ => ⟨S32x64x16, .f32⟩
  | .hbm, ⟨18, _⟩ => ⟨S32x16x64, .f32⟩
  | .hbm, ⟨19, _⟩ => ⟨S1x4x512x128, .f32⟩
  | .hbm, ⟨20, _⟩ => ⟨S4x512x128, .f32⟩
  | .hbm, ⟨21, _⟩ => ⟨S4x8x64x8x16, .f32⟩
  | .hbm, ⟨22, _⟩ => ⟨S8x8, .i32⟩
  | .hbm, ⟨23, _⟩ => ⟨S8x8, .i32⟩
  | .hbm, ⟨24, _⟩ => ⟨S8x8, .i1⟩
  | .hbm, ⟨25, _⟩ => ⟨S4x8x64x8x16, .i1⟩
  | .hbm, ⟨26, _⟩ => ⟨S_, .f32⟩
  | .hbm, ⟨27, _⟩ => ⟨S4x8x64x8x16, .f32⟩
  | .hbm, ⟨28, _⟩ => ⟨S4x8x64x8x16, .f32⟩
  | .hbm, ⟨29, _⟩ => ⟨S_, .f32⟩
  | .hbm, ⟨30, _⟩ => ⟨S4x64x8x16, .f32⟩
  | .hbm, ⟨31, _⟩ => ⟨S4x8x64x16, .f32⟩
  | .hbm, ⟨32, _⟩ => ⟨S32x64x16, .f32⟩
  | .hbm, ⟨33, _⟩ => ⟨S32x16x64, .f32⟩
  | .local _ .vmem, ⟨0, _⟩ => ⟨S1x2176x512, .f32⟩
  | .local _ .vmem, ⟨1, _⟩ => ⟨S1x2176x512, .f32⟩
  | .local _ .vmem, ⟨2, _⟩ => ⟨S1x2176x128, .bf16⟩
  | .local _ .vmem, ⟨3, _⟩ => ⟨S1x2176x128, .bf16⟩
  | .local _ .vmem, ⟨4, _⟩ => ⟨S1x1x512x128, .f32⟩
  | .local _ .vmem, ⟨5, _⟩ => ⟨S1x1x512x128, .f32⟩
  | _, _ => ⟨S2x2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2176x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CsDwRefIdeal.lean ====
abbrev S2x2176x2048 : Shape := ⟨3, ![2, 2176, 2048]⟩
abbrev S2176x512 : Shape := ⟨2, ![2176, 512]⟩
abbrev S1x2176x2048 : Shape := ⟨3, ![1, 2176, 2048]⟩
abbrev S2176x2048 : Shape := ⟨2, ![2176, 2048]⟩
abbrev S2176x32x64 : Shape := ⟨3, ![2176, 32, 64]⟩
abbrev S_ : Shape := ⟨0, ![]⟩
abbrev S32x16x64 : Shape := ⟨3, ![32, 16, 64]⟩
abbrev S32x2176x16 : Shape := ⟨3, ![32, 2176, 16]⟩
abbrev S2176x32x16 : Shape := ⟨3, ![2176, 32, 16]⟩

abbrev nBuf : Space → Nat
  | .hbm => 21
  | .vmem => 0
  | .smem => 0
  | _ => 0

abbrev bufTy : (tb : Table) → Fin (tcTables nBuf tb) → BufTy
  | .hbm, ⟨0, _⟩ => ⟨S2x2176x2048, .f32⟩
  | .hbm, ⟨1, _⟩ => ⟨S2176x512, .bf16⟩
  | .hbm, ⟨2, _⟩ => ⟨S1x2176x2048, .f32⟩
  | .hbm, ⟨3, _⟩ => ⟨S2176x2048, .f32⟩
  | .hbm, ⟨4, _⟩ => ⟨S2176x32x64, .f32⟩
  | .hbm, ⟨5, _⟩ => ⟨S1x2176x2048, .f32⟩
  | .hbm, ⟨6, _⟩ => ⟨S2176x2048, .f32⟩
  | .hbm, ⟨7, _⟩ => ⟨S2176x32x64, .f32⟩
  | .hbm, ⟨8, _⟩ => ⟨S_, .f32⟩
  | .hbm, ⟨9, _⟩ => ⟨S32x16x64, .f32⟩
  | .hbm, ⟨10, _⟩ => ⟨S32x2176x16, .f32⟩
  | .hbm, ⟨11, _⟩ => ⟨S2176x32x16, .f32⟩
  | .hbm, ⟨12, _⟩ => ⟨S32x2176x16, .f32⟩
  | .hbm, ⟨13, _⟩ => ⟨S2176x32x16, .f32⟩
  | .hbm, ⟨14, _⟩ => ⟨S2176x32x16, .f32⟩
  | .hbm, ⟨15, _⟩ => ⟨S2176x512, .f32⟩
  | .hbm, ⟨16, _⟩ => ⟨S2176x32x16, .f32⟩
  | .hbm, ⟨17, _⟩ => ⟨S32x2176x16, .f32⟩
  | .hbm, ⟨18, _⟩ => ⟨S32x16x64, .f32⟩
  | .hbm, ⟨19, _⟩ => ⟨S32x2176x16, .f32⟩
  | .hbm, ⟨20, _⟩ => ⟨S32x16x64, .f32⟩
  | _, _ => ⟨S2x2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== BuDw.lean ====
abbrev S2176x512 : Shape := ⟨2, ![2176, 512]⟩
abbrev S2x2176x2048 : Shape := ⟨3, ![2, 2176, 2048]⟩
abbrev S1x2176x512 : Shape := ⟨3, ![1, 2176, 512]⟩
abbrev S2x4x128x512 : Shape := ⟨4, ![2, 4, 128, 512]⟩
abbrev S1x2176x128 : Shape := ⟨3, ![1, 2176, 128]⟩
abbrev S1x1x128x512 : Shape := ⟨4, ![1, 1, 128, 512]⟩
abbrev S2176x128 : Shape := ⟨2, ![2176, 128]⟩
abbrev S128x512 : Shape := ⟨2, ![128, 512]⟩
abbrev S1x4x128x512 : Shape := ⟨4, ![1, 4, 128, 512]⟩
abbrev S4x128x512 : Shape := ⟨3, ![4, 128, 512]⟩
abbrev S4x8x16x8x64 : Shape := ⟨5, ![4, 8, 16, 8, 64]⟩
abbrev S8x8 : Shape := ⟨2, ![8, 8]⟩
abbrev S_ : Shape := ⟨0, ![]⟩
abbrev S4x16x8x64 : Shape := ⟨4, ![4, 16, 8, 64]⟩
abbrev S4x8x16x64 : Shape := ⟨4, ![4, 8, 16, 64]⟩
abbrev S32x16x64 : Shape := ⟨3, ![32, 16, 64]⟩
abbrev S512x64 : Shape := ⟨2, ![512, 64]⟩

abbrev nBuf : Space → Nat
  | .hbm => 34
  | .vmem => 6
  | .smem => 0
  | _ => 0

abbrev bufTy : (tb : Table) → Fin (tcTables nBuf tb) → BufTy
  | .hbm, ⟨0, _⟩ => ⟨S2176x512, .bf16⟩
  | .hbm, ⟨1, _⟩ => ⟨S2x2176x2048, .f32⟩
  | .hbm, ⟨2, _⟩ => ⟨S1x2176x512, .bf16⟩
  | .hbm, ⟨3, _⟩ => ⟨S2x4x128x512, .f32⟩
  | .hbm, ⟨4, _⟩ => ⟨S1x4x128x512, .f32⟩
  | .hbm, ⟨5, _⟩ => ⟨S4x128x512, .f32⟩
  | .hbm, ⟨6, _⟩ => ⟨S4x8x16x8x64, .f32⟩
  | .hbm, ⟨7, _⟩ => ⟨S8x8, .i32⟩
  | .hbm, ⟨8, _⟩ => ⟨S8x8, .i32⟩
  | .hbm, ⟨9, _⟩ => ⟨S8x8, .i1⟩
  | .hbm, ⟨10, _⟩ => ⟨S4x8x16x8x64, .i1⟩
  | .hbm, ⟨11, _⟩ => ⟨S_, .f32⟩
  | .hbm, ⟨12, _⟩ => ⟨S4x8x16x8x64, .f32⟩
  | .hbm, ⟨13, _⟩ => ⟨S4x8x16x8x64, .f32⟩
  | .hbm, ⟨14, _⟩ => ⟨S_, .f32⟩
  | .hbm, ⟨15, _⟩ => ⟨S4x16x8x64, .f32⟩
  | .hbm, ⟨16, _⟩ => ⟨S4x8x16x64, .f32⟩
  | .hbm, ⟨17, _⟩ => ⟨S32x16x64, .f32⟩
  | .hbm, ⟨18, _⟩ => ⟨S512x64, .f32⟩
  | .hbm, ⟨19, _⟩ => ⟨S1x4x128x512, .f32⟩
  | .hbm, ⟨20, _⟩ => ⟨S4x128x512, .f32⟩
  | .hbm, ⟨21, _⟩ => ⟨S4x8x16x8x64, .f32⟩
  | .hbm, ⟨22, _⟩ => ⟨S8x8, .i32⟩
  | .hbm, ⟨23, _⟩ => ⟨S8x8, .i32⟩
  | .hbm, ⟨24, _⟩ => ⟨S8x8, .i1⟩
  | .hbm, ⟨25, _⟩ => ⟨S4x8x16x8x64, .i1⟩
  | .hbm, ⟨26, _⟩ => ⟨S_, .f32⟩
  | .hbm, ⟨27, _⟩ => ⟨S4x8x16x8x64, .f32⟩
  | .hbm, ⟨28, _⟩ => ⟨S4x8x16x8x64, .f32⟩
  | .hbm, ⟨29, _⟩ => ⟨S_, .f32⟩
  | .hbm, ⟨30, _⟩ => ⟨S4x16x8x64, .f32⟩
  | .hbm, ⟨31, _⟩ => ⟨S4x8x16x64, .f32⟩
  | .hbm, ⟨32, _⟩ => ⟨S32x16x64, .f32⟩
  | .hbm, ⟨33, _⟩ => ⟨S512x64, .f32⟩
  | .local _ .vmem, ⟨0, _⟩ => ⟨S1x2176x128, .bf16⟩
  | .local _ .vmem, ⟨1, _⟩ => ⟨S1x2176x128, .bf16⟩
  | .local _ .vmem, ⟨2, _⟩ => ⟨S1x2176x512, .f32⟩
  | .local _ .vmem, ⟨3, _⟩ => ⟨S1x2176x512, .f32⟩
  | .local _ .vmem, ⟨4, _⟩ => ⟨S1x1x128x512, .f32⟩
  | .local _ .vmem, ⟨5, _⟩ => ⟨S1x1x128x512, .f32⟩
  | _, _ => ⟨S2176x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2176x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2176x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BuDwRefIdeal.lean ====
abbrev S2176x512 : Shape := ⟨2, ![2176, 512]⟩
abbrev S2x2176x2048 : Shape := ⟨3, ![2, 2176, 2048]⟩
abbrev S2176x32x16 : Shape := ⟨3, ![2176, 32, 16]⟩
abbrev S_ : Shape := ⟨0, ![]⟩
abbrev S32x64x16 : Shape := ⟨3, ![32, 64, 16]⟩
abbrev S32x2176x64 : Shape := ⟨3, ![32, 2176, 64]⟩
abbrev S2176x32x64 : Shape := ⟨3, ![2176, 32, 64]⟩
abbrev S1x2176x2048 : Shape := ⟨3, ![1, 2176, 2048]⟩
abbrev S2176x2048 : Shape := ⟨2, ![2176, 2048]⟩
abbrev S32x16x64 : Shape := ⟨3, ![32, 16, 64]⟩
abbrev S512x64 : Shape := ⟨2, ![512, 64]⟩

abbrev nBuf : Space → Nat
  | .hbm => 24
  | .vmem => 0
  | .smem => 0
  | _ => 0

abbrev bufTy : (tb : Table) → Fin (tcTables nBuf tb) → BufTy
  | .hbm, ⟨0, _⟩ => ⟨S2176x512, .bf16⟩
  | .hbm, ⟨1, _⟩ => ⟨S2x2176x2048, .f32⟩
  | .hbm, ⟨2, _⟩ => ⟨S2176x512, .f32⟩
  | .hbm, ⟨3, _⟩ => ⟨S2176x32x16, .f32⟩
  | .hbm, ⟨4, _⟩ => ⟨S_, .f32⟩
  | .hbm, ⟨5, _⟩ => ⟨S32x64x16, .f32⟩
  | .hbm, ⟨6, _⟩ => ⟨S32x2176x64, .f32⟩
  | .hbm, ⟨7, _⟩ => ⟨S2176x32x64, .f32⟩
  | .hbm, ⟨8, _⟩ => ⟨S32x2176x64, .f32⟩
  | .hbm, ⟨9, _⟩ => ⟨S2176x32x64, .f32⟩
  | .hbm, ⟨10, _⟩ => ⟨S1x2176x2048, .f32⟩
  | .hbm, ⟨11, _⟩ => ⟨S2176x2048, .f32⟩
  | .hbm, ⟨12, _⟩ => ⟨S2176x32x64, .f32⟩
  | .hbm, ⟨13, _⟩ => ⟨S1x2176x2048, .f32⟩
  | .hbm, ⟨14, _⟩ => ⟨S2176x2048, .f32⟩
  | .hbm, ⟨15, _⟩ => ⟨S2176x32x64, .f32⟩
  | .hbm, ⟨16, _⟩ => ⟨S32x2176x64, .f32⟩
  | .hbm, ⟨17, _⟩ => ⟨S32x64x16, .f32⟩
  | .hbm, ⟨18, _⟩ => ⟨S32x2176x64, .f32⟩
  | .hbm, ⟨19, _⟩ => ⟨S32x64x16, .f32⟩
  | .hbm, ⟨20, _⟩ => ⟨S32x16x64, .f32⟩
  | .hbm, ⟨21, _⟩ => ⟨S512x64, .f32⟩
  | .hbm, ⟨22, _⟩ => ⟨S32x16x64, .f32⟩
  | .hbm, ⟨23, _⟩ => ⟨S512x64, .f32⟩
  | _, _ => ⟨S2176x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== BuDx.lean ====
abbrev S2x2176x2048 : Shape := ⟨3, ![2, 2176, 2048]⟩
abbrev S512x64 : Shape := ⟨2, ![512, 64]⟩
abbrev S2176x512 : Shape := ⟨2, ![2176, 512]⟩
abbrev S32x16x64 : Shape := ⟨3, ![32, 16, 64]⟩
abbrev S8x8 : Shape := ⟨2, ![8, 8]⟩
abbrev S_ : Shape := ⟨0, ![]⟩
abbrev S4x8x16x64 : Shape := ⟨4, ![4, 8, 16, 64]⟩
abbrev S4x8x16x1x64 : Shape := ⟨5, ![4, 8, 16, 1, 64]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S1x4x128x512 : Shape := ⟨4, ![1, 4, 128, 512]⟩
abbrev S2x4x128x512 : Shape := ⟨4, ![2, 4, 128, 512]⟩
abbrev S1x2176x512 : Shape := ⟨3, ![1, 2176, 512]⟩
abbrev S1x544x2048 : Shape := ⟨3, ![1, 544, 2048]⟩
abbrev S1x544x512 : Shape := ⟨3, ![1, 544, 512]⟩
abbrev S544x512 : Shape := ⟨2, ![544, 512]⟩
abbrev S1x1x128x512 : Shape := ⟨4, ![1, 1, 128, 512]⟩
abbrev S128x512 : Shape := ⟨2, ![128, 512]⟩
abbrev S544x128 : Shape := ⟨2, ![544, 128]⟩
abbrev S1x544x128 : Shape := ⟨3, ![1, 544, 128]⟩

abbrev nBuf : Space → Nat
  | .hbm => 40
  | .vmem => 9
  | .smem => 0
  | _ => 0

abbrev bufTy : (tb : Table) → Fin (tcTables nBuf tb) → BufTy
  | .hbm, ⟨0, _⟩ => ⟨S2x2176x2048, .f32⟩
  | .hbm, ⟨1, _⟩ => ⟨S512x64, .f32⟩
  | .hbm, ⟨2, _⟩ => ⟨S512x64, .f32⟩
  | .hbm, ⟨3, _⟩ => ⟨S2176x512, .f32⟩
  | .hbm, ⟨4, _⟩ => ⟨S32x16x64, .f32⟩
  | .hbm, ⟨5, _⟩ => ⟨S8x8, .i32⟩
  | .hbm, ⟨6, _⟩ => ⟨S8x8, .i32⟩
  | .hbm, ⟨7, _⟩ => ⟨S_, .i32⟩
  | .hbm, ⟨8, _⟩ => ⟨S8x8, .i32⟩
  | .hbm, ⟨9, _⟩ => ⟨S8x8, .i32⟩
  | .hbm, ⟨10, _⟩ => ⟨S8x8, .i1⟩
  | .hbm, ⟨11, _⟩ => ⟨S8x8, .f32⟩
  | .hbm, ⟨12, _⟩ => ⟨S4x8x16x64, .f32⟩
  | .hbm, ⟨13, _⟩ => ⟨S4x8x16x1x64, .f32⟩
  | .hbm, ⟨14, _⟩ => ⟨S1x8x1x8x1, .f32⟩
  | .hbm, ⟨15, _⟩ => ⟨S4x8x16x8x64, .f32⟩
  | .hbm, ⟨16, _⟩ => ⟨S4x8x16x8x64, .f32⟩
  | .hbm, ⟨17, _⟩ => ⟨S4x8x16x8x64, .f32⟩
  | .hbm, ⟨18, _⟩ => ⟨S4x128x512, .f32⟩
  | .hbm, ⟨19, _⟩ => ⟨S32x16x64, .f32⟩
  | .hbm, ⟨20, _⟩ => ⟨S8x8, .i32⟩
  | .hbm, ⟨21, _⟩ => ⟨S8x8, .i32⟩
  | .hbm, ⟨22, _⟩ => ⟨S_, .i32⟩
  | .hbm, ⟨23, _⟩ => ⟨S8x8, .i32⟩
  | .hbm, ⟨24, _⟩ => ⟨S8x8, .i32⟩
  | .hbm, ⟨25, _⟩ => ⟨S8x8, .i1⟩
  | .hbm, ⟨26, _⟩ => ⟨S8x8, .f32⟩
  | .hbm, ⟨27, _⟩ => ⟨S4x8x16x64, .f32⟩
  | .hbm, ⟨28, _⟩ => ⟨S4x8x16x1x64, .f32⟩
  | .hbm, ⟨29, _⟩ => ⟨S1x8x1x8x1, .f32⟩
  | .hbm, ⟨30, _⟩ => ⟨S4x8x16x8x64, .f32⟩
  | .hbm, ⟨31, _⟩ => ⟨S4x8x16x8x64, .f32⟩
  | .hbm, ⟨32, _⟩ => ⟨S4x8x16x8x64, .f32⟩
  | .hbm, ⟨33, _⟩ => ⟨S4x128x512, .f32⟩
  | .hbm, ⟨34, _⟩ => ⟨S1x4x128x512, .f32⟩
  | .hbm, ⟨35, _⟩ => ⟨S1x4x128x512, .f32⟩
  | .hbm, ⟨36, _⟩ => ⟨S2x4x128x512, .f32⟩
  | .hbm, ⟨37, _⟩ => ⟨S2x4x128x512, .bf16⟩
  | .hbm, ⟨38, _⟩ => ⟨S1x2176x512, .f32⟩
  | .hbm, ⟨39, _⟩ => ⟨S1x2176x512, .f32⟩
  | .local _ .vmem, ⟨0, _⟩ => ⟨S1x544x2048, .f32⟩
  | .local _ .vmem, ⟨1, _⟩ => ⟨S1x544x2048, .f32⟩
  | .local _ .vmem, ⟨2, _⟩ => ⟨S1x4x128x512, .bf16⟩
  | .local _ .vmem, ⟨3, _⟩ => ⟨S1x4x128x512, .bf16⟩
  | .local _ .vmem, ⟨4, _⟩ => ⟨S1x544x512, .f32⟩
  | .local _ .vmem, ⟨5, _⟩ => ⟨S1x544x512, .f32⟩
  | .local _ .vmem, ⟨6, _⟩ => ⟨S1x544x512, .f32⟩
  | .local _ .vmem, ⟨7, _⟩ => ⟨S1x544x512, .f32⟩
  | .local _ .vmem, ⟨8, _⟩ => ⟨S544x512, .f32⟩
  | _, _ => ⟨S2x2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_7 : BitVec 32 := 0#32
  let v11 : BitVec 1 := Scalar.cmpi .ne v10 c0_i32_7
  v11

def k0_cond4 (i : grid0.Coords) : BitVec 1 :=
  let arg2 : BitVec 32 := BitVec.ofNat 32 (i 2).val
  let c1_i32_16 : BitVec 32 := 1#32
  let v21 : BitVec 1 := Scalar.cmpi .eq arg2 c1_i32_16
  let v22 : BitVec 32 := Scalar.extui v21
  let c0_i32_17 : BitVec 32 := 0#32
  let v23 : BitVec 1 := Scalar.cmpi .ne v22 c0_i32_17
  v23

def k0_cond6 (i : grid0.Coords) : BitVec 1 :=
  let arg2 : BitVec 32 := BitVec.ofNat 32 (i 2).val
  let c1_i32_26 : BitVec 32 := 1#32
  let v33 : BitVec 1 := Scalar.cmpi .eq arg2 c1_i32_26
  let v34 : BitVec 32 := Scalar.extui v33
  let c0_i32_27 : BitVec 32 := 0#32
  let v35 : BitVec 1 := Scalar.cmpi .ne v34 c0_i32_27
  v35

def k0_cond8 (i : grid0.Coords) : BitVec 1 :=
  let arg2 : BitVec 32 := BitVec.ofNat 32 (i 2).val
  let c1_i32_36 : BitVec 32 := 1#32
  let v45 : BitVec 1 := Scalar.cmpi .eq arg2 c1_i32_36
  let v46 : BitVec 32 := Scalar.extui v45
  let c0_i32_37 : BitVec 32 := 0#32
  let v47 : BitVec 1 := Scalar.cmpi .ne v46 c0_i32_37
  v47

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg2.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x544x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x4x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x544x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== BuDxRefIdeal.lean ====
abbrev S2x2176x2048 : Shape := ⟨3, ![2, 2176, 2048]⟩
abbrev S512x64 : Shape := ⟨2, ![512, 64]⟩
abbrev S2176x512 : Shape := ⟨2, ![2176, 512]⟩
abbrev S_ : Shape := ⟨0, ![]⟩
abbrev S2176x32x16 : Shape := ⟨3, ![2176, 32, 16]⟩
abbrev S32x16x64 : Shape := ⟨3, ![32, 16, 64]⟩
abbrev S32x64x16 : Shape := ⟨3, ![32, 64, 16]⟩
abbrev S32x2176x64 : Shape := ⟨3, ![32, 2176, 64]⟩
abbrev S2176x32x64 : Shape := ⟨3, ![2176, 32, 64]⟩
abbrev S1x2176x2048 : Shape := ⟨3, ![1, 2176, 2048]⟩
abbrev S2176x2048 : Shape := ⟨2, ![2176, 2048]⟩
abbrev S32x2176x16 : Shape := ⟨3, ![32, 2176, 16]⟩
abbrev S1x2176x512 : Shape := ⟨3, ![1, 2176, 512]⟩

abbrev nBuf : Space → Nat
  | .hbm => 30
  | .vmem => 0
  | .smem => 0
  | _ => 0

abbrev bufTy : (tb : Table) → Fin (tcTables nBuf tb) → BufTy
  | .hbm, ⟨0, _⟩ => ⟨S2x2176x2048, .f32⟩
  | .hbm, ⟨1, _⟩ => ⟨S512x64, .f32⟩
  | .hbm, ⟨2, _⟩ => ⟨S512x64, .f32⟩
  | .hbm, ⟨3, _⟩ => ⟨S2176x512, .f32⟩
  | .hbm, ⟨4, _⟩ => ⟨S_, .f32⟩
  | .hbm, ⟨5, _⟩ => ⟨S2176x32x16, .f32⟩
  | .hbm, ⟨6, _⟩ => ⟨S32x16x64, .f32⟩
  | .hbm, ⟨7, _⟩ => ⟨S32x64x16, .f32⟩
  | .hbm, ⟨8, _⟩ => ⟨S32x2176x64, .f32⟩
  | .hbm, ⟨9, _⟩ => ⟨S2176x32x64, .f32⟩
  | .hbm, ⟨10, _⟩ => ⟨S32x16x64, .f32⟩
  | .hbm, ⟨11, _⟩ => ⟨S32x64x16, .f32⟩
  | .hbm, ⟨12, _⟩ => ⟨S32x2176x64, .f32⟩
  | .hbm, ⟨13, _⟩ => ⟨S2176x32x64, .f32⟩
  | .hbm, ⟨14, _⟩ => ⟨S1x2176x2048, .f32⟩
  | .hbm, ⟨15, _⟩ => ⟨S2176x2048, .f32⟩
  | .hbm, ⟨16, _⟩ => ⟨S2176x32x64, .f32⟩
  | .hbm, ⟨17, _⟩ => ⟨S1x2176x2048, .f32⟩
  | .hbm, ⟨18, _⟩ => ⟨S2176x2048, .f32⟩
  | .hbm, ⟨19, _⟩ => ⟨S2176x32x64, .f32⟩
  | .hbm, ⟨20, _⟩ => ⟨S2176x32x16, .f32⟩
  | .hbm, ⟨21, _⟩ => ⟨S32x2176x64, .f32⟩
  | .hbm, ⟨22, _⟩ => ⟨S32x2176x16, .f32⟩
  | .hbm, ⟨23, _⟩ => ⟨S2176x32x16, .f32⟩
  | .hbm, ⟨24, _⟩ => ⟨S2176x32x16, .f32⟩
  | .hbm, ⟨25, _⟩ => ⟨S32x2176x64, .f32⟩
  | .hbm, ⟨26, _⟩ => ⟨S32x2176x16, .f32⟩
  | .hbm, ⟨27, _⟩ => ⟨S2176x32x16, .f32⟩
  | .hbm, ⟨28, _⟩ => ⟨S2176x32x16, .f32⟩
  | .hbm, ⟨29, _⟩ => ⟨S1x2176x512, .f32⟩
  | _, _ => ⟨S2x2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Bu.lean ====
abbrev S2176x512 : Shape := ⟨2, ![2176, 512]⟩
abbrev S512x64 : Shape := ⟨2, ![512, 64]⟩
abbrev S1x2176x512 : Shape := ⟨3, ![1, 2176, 512]⟩
abbrev S32x16x64 : Shape := ⟨3, ![32, 16, 64]⟩
abbrev S8x8 : Shape := ⟨2, ![8, 8]⟩
abbrev S_ : Shape := ⟨0, ![]⟩
abbrev S4x8x16x64 : Shape := ⟨4, ![4, 8, 16, 64]⟩
abbrev S4x8x16x1x64 : Shape := ⟨5, ![4, 8, 16, 1, 64]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S1x4x128x512 : Shape := ⟨4, ![1, 4, 128, 512]⟩
abbrev S2x4x128x512 : Shape := ⟨4, ![2, 4, 128, 512]⟩
abbrev S2x2176x2048 : Shape := ⟨3, ![2, 2176, 2048]⟩
abbrev S1x544x512 : Shape := ⟨3, ![1, 544, 512]⟩
abbrev S1x544x2048 : Shape := ⟨3, ![1, 544, 2048]⟩
abbrev S1x544x128 : Shape := ⟨3, ![1, 544, 128]⟩
abbrev S544x128 : Shape := ⟨2, ![544, 128]⟩
abbrev S1x1x128x512 : Shape := ⟨4, ![1, 1, 128, 512]⟩
abbrev S128x512 : Shape := ⟨2, ![128, 512]⟩
abbrev S544x512 : Shape := ⟨2, ![544, 512]⟩

abbrev nBuf : Space → Nat
  | .hbm => 39
  | .vmem => 6
  | .smem => 0
  | _ => 0

abbrev bufTy : (tb : Table) → Fin (tcTables nBuf tb) → BufTy
  | .hbm, ⟨0, _⟩ => ⟨S2176x512, .bf16⟩
  | .hbm, ⟨1, _⟩ => ⟨S512x64, .f32⟩
  | .hbm, ⟨2, _⟩ => ⟨S512x64, .f32⟩
  | .hbm, ⟨3, _⟩ => ⟨S1x2176x512, .bf16⟩
  | .hbm, ⟨4, _⟩ => ⟨S32x16x64, .f32⟩
  | .hbm, ⟨5, _⟩ => ⟨S8x8, .i32⟩
  | .hbm, ⟨6, _⟩ => ⟨S8x8, .i32⟩
  | .hbm, ⟨7, _⟩ => ⟨S_, .i32⟩
  | .hbm, ⟨8, _⟩ => ⟨S8x8, .i32⟩
  | .hbm, ⟨9, _⟩ => ⟨S8x8, .i32⟩
  | .hbm, ⟨10, _⟩ => ⟨S8x8, .i1⟩
  | .hbm, ⟨11, _⟩ => ⟨S8x8, .f32⟩
  | .hbm, ⟨12, _⟩ => ⟨S4x8x16x64, .f32⟩
  | .hbm, ⟨13, _⟩ => ⟨S4x8x16x1x64, .f32⟩
  | .hbm, ⟨14, _⟩ => ⟨S1x8x1x8x1, .f32⟩
  | .hbm, ⟨15, _⟩ => ⟨S4x8x16x8x64, .f32⟩
  | .hbm, ⟨16, _⟩ => ⟨S4x8x16x8x64, .f32⟩
  | .hbm, ⟨17, _⟩ => ⟨S4x8x16x8x64, .f32⟩
  | .hbm, ⟨18, _⟩ => ⟨S4x128x512, .f32⟩
  | .hbm, ⟨19, _⟩ => ⟨S32x16x64, .f32⟩
  | .hbm, ⟨20, _⟩ => ⟨S8x8, .i32⟩
  | .hbm, ⟨21, _⟩ => ⟨S8x8, .i32⟩
  | .hbm, ⟨22, _⟩ => ⟨S_, .i32⟩
  | .hbm, ⟨23, _⟩ => ⟨S8x8, .i32⟩
  | .hbm, ⟨24, _⟩ => ⟨S8x8, .i32⟩
  | .hbm, ⟨25, _⟩ => ⟨S8x8, .i1⟩
  | .hbm, ⟨26, _⟩ => ⟨S8x8, .f32⟩
  | .hbm, ⟨27, _⟩ => ⟨S4x8x16x64, .f32⟩
  | .hbm, ⟨28, _⟩ => ⟨S4x8x16x1x64, .f32⟩
  | .hbm, ⟨29, _⟩ => ⟨S1x8x1x8x1, .f32⟩
  | .hbm, ⟨30, _⟩ => ⟨S4x8x16x8x64, .f32⟩
  | .hbm, ⟨31, _⟩ => ⟨S4x8x16x8x64, .f32⟩
  | .hbm, ⟨32, _⟩ => ⟨S4x8x16x8x64, .f32⟩
  | .hbm, ⟨33, _⟩ => ⟨S4x128x512, .f32⟩
  | .hbm, ⟨34, _⟩ => ⟨S1x4x128x512, .f32⟩
  | .hbm, ⟨35, _⟩ => ⟨S1x4x128x512, .f32⟩
  | .hbm, ⟨36, _⟩ => ⟨S2x4x128x512, .f32⟩
  | .hbm, ⟨37, _⟩ => ⟨S2x4x128x512, .bf16⟩
  | .hbm, ⟨38, _⟩ => ⟨S2x2176x2048, .f32⟩
  | .local _ .vmem, ⟨0, _⟩ => ⟨S1x544x512, .bf16⟩
  | .local _ .vmem, ⟨1, _⟩ => ⟨S1x544x512, .bf16⟩
  | .local _ .vmem, ⟨2, _⟩ => ⟨S1x4x128x512, .bf16⟩
  | .local _ .vmem, ⟨3, _⟩ => ⟨S1x4x128x512, .bf16⟩
  | .local _ .vmem, ⟨4, _⟩ => ⟨S1x544x2048, .f32⟩
  | .local _ .vmem, ⟨5, _⟩ => ⟨S1x544x2048, .f32⟩
  | _, _ => ⟨S2176x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x544x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x4x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x544x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BuRefIdeal.lean ====
abbrev S2176x512 : Shape := ⟨2, ![2176, 512]⟩
abbrev S512x64 : Shape := ⟨2, ![512, 64]⟩
abbrev S2176x32x16 : Shape := ⟨3, ![2176, 32, 16]⟩
abbrev S32x16x64 : Shape := ⟨3, ![32, 16, 64]⟩
abbrev S32x64x16 : Shape := ⟨3, ![32, 64, 16]⟩
abbrev S32x2176x64 : Shape := ⟨3, ![32, 2176, 64]⟩
abbrev S2176x32x64 : Shape := ⟨3, ![2176, 32, 64]⟩
abbrev S2176x2048 : Shape := ⟨2, ![2176, 2048]⟩
abbrev S1x2176x2048 : Shape := ⟨3, ![1, 2176, 2048]⟩
abbrev S2x2176x2048 : Shape := ⟨3, ![2, 2176, 2048]⟩

abbrev nBuf : Space → Nat
  | .hbm => 18
  | .vmem => 0
  | .smem => 0
  | _ => 0

abbrev bufTy : (tb : Table) → Fin (tcTables nBuf tb) → BufTy
  | .hbm, ⟨0, _⟩ => ⟨S2176x512, .bf16⟩
  | .hbm, ⟨1, _⟩ => ⟨S512x64, .f32⟩
  | .hbm, ⟨2, _⟩ => ⟨S512x64, .f32⟩
  | .hbm, ⟨3, _⟩ => ⟨S2176x512, .f32⟩
  | .hbm, ⟨4, _⟩ => ⟨S2176x32x16, .f32⟩
  | .hbm, ⟨5, _⟩ => ⟨S32x16x64, .f32⟩
  | .hbm, ⟨6, _⟩ => ⟨S32x64x16, .f32⟩
  | .hbm, ⟨7, _⟩ => ⟨S32x2176x64, .f32⟩
  | .hbm, ⟨8, _⟩ => ⟨S2176x32x64, .f32⟩
  | .hbm, ⟨9, _⟩ => ⟨S32x16x64, .f32⟩
  | .hbm, ⟨10, _⟩ => ⟨S32x64x16, .f32⟩
  | .hbm, ⟨11, _⟩ => ⟨S32x2176x64, .f32⟩
  | .hbm, ⟨12, _⟩ => ⟨S2176x32x64, .f32⟩
  | .hbm, ⟨13, _⟩ => ⟨S2176x2048, .f32⟩
  | .hbm, ⟨14, _⟩ => ⟨S2176x2048, .f32⟩
  | .hbm, ⟨15, _⟩ => ⟨S1x2176x2048, .f32⟩
  | .hbm, ⟨16, _⟩ => ⟨S1x2176x2048, .f32⟩
  | .hbm, ⟨17, _⟩ => ⟨S2x2176x2048, .f32⟩
  | _, _ => ⟨S2176x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Cs.lean ====
abbrev S2x2176x2048 : Shape := ⟨3, ![2, 2176, 2048]⟩
abbrev S32x16x64 : Shape := ⟨3, ![32, 16, 64]⟩
abbrev S32x64x16 : Shape := ⟨3, ![32, 64, 16]⟩
abbrev S8x8 : Shape := ⟨2, ![8, 8]⟩
abbrev S_ : Shape := ⟨0, ![]⟩
abbrev S4x8x64x16 : Shape := ⟨4, ![4, 8, 64, 16]⟩
abbrev S4x8x64x1x16 : Shape := ⟨5, ![4, 8, 64, 1, 16]⟩
abbrev S1x8x1x8x1 : Shape := ⟨5, ![1, 8, 1, 8, 1]⟩
abbrev S4x8x64x8x16 : Shape := ⟨5, ![4, 8, 64, 8, 16]⟩
abbrev S4x512x128 : Shape := ⟨3, ![4, 512, 128]⟩
abbrev S1x4x512x128 : Shape := ⟨4, ![1, 4, 512, 128]⟩
abbrev S2x4x512x128 : Shape := ⟨4, ![2, 4, 512, 128]⟩
abbrev S1x2176x512 : Shape := ⟨3, ![1, 2176, 512]⟩
abbrev S1x544x2048 : Shape := ⟨3, ![1, 544, 2048]⟩
abbrev S1x544x512 : Shape := ⟨3, ![1, 544, 512]⟩
abbrev S544x512 : Shape := ⟨2, ![544, 512]⟩
abbrev S1x1x512x128 : Shape := ⟨4, ![1, 1, 512, 128]⟩
abbrev S512x128 : Shape := ⟨2, ![512, 128]⟩
abbrev S544x128 : Shape := ⟨2, ![544, 128]⟩
abbrev S1x544x128 : Shape := ⟨3, ![1, 544, 128]⟩

abbrev nBuf : Space → Nat
  | .hbm => 39
  | .vmem => 7
  | .smem => 0
  | _ => 0

abbrev bufTy : (tb : Table) → Fin (tcTables nBuf tb) → BufTy
  | .hbm, ⟨0, _⟩ => ⟨S2x2176x2048, .f32⟩
  | .hbm, ⟨1, _⟩ => ⟨S32x16x64, .f32⟩
  | .hbm, ⟨2, _⟩ => ⟨S32x16x64, .f32⟩
  | .hbm, ⟨3, _⟩ => ⟨S32x64x16, .f32⟩
  | .hbm, ⟨4, _⟩ => ⟨S8x8, .i32⟩
  | .hbm, ⟨5, _⟩ => ⟨S8x8, .i32⟩
  | .hbm, ⟨6, _⟩ => ⟨S_, .i32⟩
  | .hbm, ⟨7, _⟩ => ⟨S8x8, .i32⟩
  | .hbm, ⟨8, _⟩ => ⟨S8x8, .i32⟩
  | .hbm, ⟨9, _⟩ => ⟨S8x8, .i1⟩
  | .hbm, ⟨10, _⟩ => ⟨S8x8, .f32⟩
  | .hbm, ⟨11, _⟩ => ⟨S4x8x64x16, .f32⟩
  | .hbm, ⟨12, _⟩ => ⟨S4x8x64x1x16, .f32⟩
  | .hbm, ⟨13, _⟩ => ⟨S1x8x1x8x1, .f32⟩
  | .hbm, ⟨14, _⟩ => ⟨S4x8x64x8x16, .f32⟩
  | .hbm, ⟨15, _⟩ => ⟨S4x8x64x8x16, .f32⟩
  | .hbm, ⟨16, _⟩ => ⟨S4x8x64x8x16, .f32⟩
  | .hbm, ⟨17, _⟩ => ⟨S4x512x128, .f32⟩
  | .hbm, ⟨18, _⟩ => ⟨S32x64x16, .f32⟩
  | .hbm, ⟨19, _⟩ => ⟨S8x8, .i32⟩
  | .hbm, ⟨20, _⟩ => ⟨S8x8, .i32⟩
  | .hbm, ⟨21, _⟩ => ⟨S_, .i32⟩
  | .hbm, ⟨22, _⟩ => ⟨S8x8, .i32⟩
  | .hbm, ⟨23, _⟩ => ⟨S8x8, .i32⟩
  | .hbm, ⟨24, _⟩ => ⟨S8x8, .i1⟩
  | .hbm, ⟨25, _⟩ => ⟨S8x8, .f32⟩
  | .hbm, ⟨26, _⟩ => ⟨S4x8x64x16, .f32⟩
  | .hbm, ⟨27, _⟩ => ⟨S4x8x64x1x16, .f32⟩
  | .hbm, ⟨28, _⟩ => ⟨S1x8x1x8x1, .f32⟩
  | .hbm, ⟨29, _⟩ => ⟨S4x8x64x8x16, .f32⟩
  | .hbm, ⟨30, _⟩ => ⟨S4x8x64x8x16, .f32⟩
  | .hbm, ⟨31, _⟩ => ⟨S4x8x64x8x16, .f32⟩
  | .hbm, ⟨32, _⟩ => ⟨S4x512x128, .f32⟩
  | .hbm, ⟨33, _⟩ => ⟨S4x512x128, .f32⟩
  | .hbm, ⟨34, _⟩ => ⟨S1x4x512x128, .f32⟩
  | .hbm, ⟨35, _⟩ => ⟨S1x4x512x128, .f32⟩
  | .hbm, ⟨36, _⟩ => ⟨S2x4x512x128, .f32⟩
  | .hbm, ⟨37, _⟩ => ⟨S2x4x512x128, .bf16⟩
  | .hbm, ⟨38, _⟩ => ⟨S1x2176x512, .f32⟩
  | .local _ .vmem, ⟨0, _⟩ => ⟨S1x544x2048, .f32⟩
  | .local _ .vmem, ⟨1, _⟩ => ⟨S1x544x2048, .f32⟩
  | .local _ .vmem, ⟨2, _⟩ => ⟨S1x4x512x128, .bf16⟩
  | .local _ .vmem, ⟨3, _⟩ => ⟨S1x4x512x128, .bf16⟩
  | .local _ .vmem, ⟨4, _⟩ => ⟨S1x544x512, .f32⟩
  | .local _ .vmem, ⟨5, _⟩ => ⟨S1x544x512, .f32⟩
  | .local _ .vmem, ⟨6, _⟩ => ⟨S544x512, .f32⟩
  | _, _ => ⟨S2x2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_7 : BitVec 32 := 0#32
  let v11 : BitVec 1 := Scalar.cmpi .ne v10 c0_i32_7
  v11

def k0_cond4 (i : grid0.Coords) : BitVec 1 :=
  let arg2 : BitVec 32 := BitVec.ofNat 32 (i 2).val
  let c1_i32_16 : BitVec 32 := 1#32
  let v21 : BitVec 1 := Scalar.cmpi .eq arg2 c1_i32_16
  let v22 : BitVec 32 := Scalar.extui v21
  let c0_i32_17 : BitVec 32 := 0#32
  let v23 : BitVec 1 := Scalar.cmpi .ne v22 c0_i32_17
  v23

def k0_cond6 (i : grid0.Coords) : BitVec 1 :=
  let arg2 : BitVec 32 := BitVec.ofNat 32 (i 2).val
  let c1_i32_26 : BitVec 32 := 1#32
  let v33 : BitVec 1 := Scalar.cmpi .eq arg2 c1_i32_26
  let v34 : BitVec 32 := Scalar.extui v33
  let c0_i32_27 : BitVec 32 := 0#32
  let v35 : BitVec 1 := Scalar.cmpi .ne v34 c0_i32_27
  v35

def k0_cond8 (i : grid0.Coords) : BitVec 1 :=
  let arg2 : BitVec 32 := BitVec.ofNat 32 (i 2).val
  let c1_i32_36 : BitVec 32 := 1#32
  let v45 : BitVec 1 := Scalar.cmpi .eq arg2 c1_i32_36
  let v46 : BitVec 32 := Scalar.extui v45
  let c0_i32_37 : BitVec 32 := 0#32
  let v47 : BitVec 1 := Scalar.cmpi .ne v46 c0_i32_37
  v47

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg2.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x544x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CsRefIdeal.lean ====
abbrev S2x2176x2048 : Shape := ⟨3, ![2, 2176, 2048]⟩
abbrev S32x16x64 : Shape := ⟨3, ![32, 16, 64]⟩
abbrev S1x2176x2048 : Shape := ⟨3, ![1, 2176, 2048]⟩
abbrev S2176x2048 : Shape := ⟨2, ![2176, 2048]⟩
abbrev S2176x32x64 : Shape := ⟨3, ![2176, 32, 64]⟩
abbrev S32x2176x16 : Shape := ⟨3, ![32, 2176, 16]⟩
abbrev S2176x32x16 : Shape := ⟨3, ![2176, 32, 16]⟩
abbrev S1x2176x512 : Shape := ⟨3, ![1, 2176, 512]⟩

abbrev nBuf : Space → Nat
  | .hbm => 15
  | .vmem => 0
  | .smem => 0
  | _ => 0

abbrev bufTy : (tb : Table) → Fin (tcTables nBuf tb) → BufTy
  | .hbm, ⟨0, _⟩ => ⟨S2x2176x2048, .f32⟩
  | .hbm, ⟨1, _⟩ => ⟨S32x16x64, .f32⟩
  | .hbm, ⟨2, _⟩ => ⟨S32x16x64, .f32⟩
  | .hbm, ⟨3, _⟩ => ⟨S1x2176x2048, .f32⟩
  | .hbm, ⟨4, _⟩ => ⟨S2176x2048, .f32⟩
  | .hbm, ⟨5, _⟩ => ⟨S2176x32x64, .f32⟩
  | .hbm, ⟨6, _⟩ => ⟨S32x2176x16, .f32⟩
  | .hbm, ⟨7, _⟩ => ⟨S2176x32x16, .f32⟩
  | .hbm, ⟨8, _⟩ => ⟨S1x2176x2048, .f32⟩
  | .hbm, ⟨9, _⟩ => ⟨S2176x2048, .f32⟩
  | .hbm, ⟨10, _⟩ => ⟨S2176x32x64, .f32⟩
  | .hbm, ⟨11, _⟩ => ⟨S32x2176x16, .f32⟩
  | .hbm, ⟨12, _⟩ => ⟨S2176x32x16, .f32⟩
  | .hbm, ⟨13, _⟩ => ⟨S2176x32x16, .f32⟩
  | .hbm, ⟨14, _⟩ => ⟨S1x2176x512, .f32⟩
  | _, _ => ⟨S2x2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Proof.Conv.Ref.lean ====
/-  The reference's five results, each as one function of the four argument arrays: the term the reference's run ends
    with, over typed variables. -/
module

public import proofs.«01_k».proof.Proof.Gen.ConvRefIdeal.Run
public import Idealize.ShloMosaic.Lib.Pointwise

@[expose] public section

set_option maxRecDepth 16384

noncomputable section

namespace Cert.ConvGrad

open Cert.ConvRefIdeal Cert.ConvRefIdeal.Gen Cert.ConvRefIdeal.Value Idealize.ShloMosaic Idealize.ShloMosaic.TcCoe Idealize.SL.Sem

/-- The reference's gradient of the convolved input. -/
def dX (D : FVec Ideal S2064x512 .f32) (P : FVec Ideal S2176x6144 .f32) (W : FVec Ideal S3x512 .f32) (B : FVec Ideal S1x512 .f32) : FVec Ideal S2176x512 .bf16 :=
  truncf .bf16 (pad S2176x512 ![112, 0] ![0, 0] ![0, 0] (mulf (extractStridedSlice S2064x512 ![112, 0] (extractStridedSlice S2176x512 ![0, 2048] P slices_S2176x6144_S2176x512_0_2048) slices_S2176x512_S2064x512_112_0) (extractStridedSlice S2064x512 ![2, 0] (addf (addf (pad S2066x512 ![2, 0] ![0, 0] ![0, 0] (mulf (broadcastInDim S2064x512 ![0, 1] bcast_S1x512_S2064x512_0_1 (broadcastInDim S1x512 ![1] bcast_S512_S1x512_1 (shapeCast _ (extractStridedSlice S1x512 ![2, 0] W slices_S3x512_S1x512_2_0) shapeCasts_S1x512_S512))) (mulf (extractStridedSlice S2064x512 ![112, 0] (extractStridedSlice S2176x512 ![0, 1536] P slices_S2176x6144_S2176x512_0_1536) slices_S2176x512_S2064x512_112_0) D)) (constant S_ .f32 0x00000000#32) pads_S2064x512_S2066x512_200_000 h_S_) (pad S2066x512 ![1, 0] ![1, 0] ![0, 0] (mulf (broadcastInDim S2064x512 ![0, 1] bcast_S1x512_S2064x512_0_1 (broadcastInDim S1x512 ![1] bcast_S512_S1x512_1 (shapeCast _ (extractStridedSlice S1x512 ![1, 0] W slices_S3x512_S1x512_1_0) shapeCasts_S1x512_S512))) (mulf (extractStridedSlice S2064x512 ![112, 0] (extractStridedSlice S2176x512 ![0, 1536] P slices_S2176x6144_S2176x512_0_1536) slices_S2176x512_S2064x512_112_0) D)) (constant S_ .f32 0x00000000#32) pads_S2064x512_S2066x512_110_000 h_S_)) (pad S2066x512 ![0, 0] ![2, 0] ![0, 0] (mulf (broadcastInDim S2064x512 ![0, 1] bcast_S1x512_S2064x512_0_1 (broadcastInDim S1x512 ![1] bcast_S512_S1x512_1 (shapeCast _ (extractStridedSlice S1x512 ![0, 0] W slices_S3x512_S1x512_0_0) shapeCasts_S1x512_S512))) (mulf (extractStridedSlice S2064x512 ![112, 0] (extractStridedSlice S2176x512 ![0, 1536] P slices_S2176x6144_S2176x512_0_1536) slices_S2176x512_S2064x512_112_0) D)) (constant S_ .f32 0x00000000#32) pads_S2064x512_S2066x512_020_000 h_S_)) slices_S2066x512_S2064x512_2_0)) (constant S_ .f32 0x00000000#32) pads_S2064x512_S2176x512_11200_000 h_S_) bitsLt_bf16_f32

/-- The reference's gradient of the outer gate. -/
def dGate (D : FVec Ideal S2064x512 .f32) (P : FVec Ideal S2176x6144 .f32) (W : FVec Ideal S3x512 .f32) (B : FVec Ideal S1x512 .f32) : FVec Ideal S2176x512 .bf16 :=
  truncf .bf16 (pad S2176x512 ![112, 0] ![0, 0] ![0, 0] (mulf D (addf (broadcastInDim S2064x512 ![0, 1] bcast_S1x512_S2064x512_0_1 B) (addf (addf (addf (broadcastInDim S2064x512 ![] bcast_S_S2064x512 (constant S_ .f32 0x00000000#32)) (mulf (broadcastInDim S2064x512 ![0, 1] bcast_S1x512_S2064x512_0_1 (broadcastInDim S1x512 ![1] bcast_S512_S1x512_1 (shapeCast _ (extractStridedSlice S1x512 ![0, 0] W slices_S3x512_S1x512_0_0) shapeCasts_S1x512_S512))) (extractStridedSlice S2064x512 ![0, 0] (concatenate S2066x512 0 [⟨S2x512, (broadcastInDim S2x512 ![] bcast_S_S2x512 (constant S_ .f32 0x00000000#32))⟩, ⟨S2064x512, (mulf (extractStridedSlice S2064x512 ![112, 0] (extractStridedSlice S2176x512 ![0, 2048] P slices_S2176x6144_S2176x512_0_2048) slices_S2176x512_S2064x512_112_0) (extractStridedSlice S2064x512 ![112, 0] (extractStridedSlice S2176x512 ![0, 1024] P slices_S2176x6144_S2176x512_0_1024) slices_S2176x512_S2064x512_112_0))⟩] concatenates_S2x512_S2064x512_S2066x512_d0) slices_S2066x512_S2064x512_0_0))) (mulf (broadcastInDim S2064x512 ![0, 1] bcast_S1x512_S2064x512_0_1 (broadcastInDim S1x512 ![1] bcast_S512_S1x512_1 (shapeCast _ (extractStridedSlice S1x512 ![1, 0] W slices_S3x512_S1x512_1_0) shapeCasts_S1x512_S512))) (extractStridedSlice S2064x512 ![1, 0] (concatenate S2066x512 0 [⟨S2x512, (broadcastInDim S2x512 ![] bcast_S_S2x512 (constant S_ .f32 0x00000000#32))⟩, ⟨S2064x512, (mulf (extractStridedSlice S2064x512 ![112, 0] (extractStridedSlice S2176x512 ![0, 2048] P slices_S2176x6144_S2176x512_0_2048) slices_S2176x512_S2064x512_112_0) (extractStridedSlice S2064x512 ![112, 0] (extractStridedSlice S2176x512 ![0, 1024] P slices_S2176x6144_S2176x512_0_1024) slices_S2176x512_S2064x512_112_0))⟩] concatenates_S2x512_S2064x512_S2066x512_d0) slices_S2066x512_S2064x512_1_0))) (mulf (broadcastInDim S2064x512 ![0, 1] bcast_S1x512_S2064x512_0_1 (broadcastInDim S1x512 ![1] bcast_S512_S1x512_1 (shapeCast _ (extractStridedSlice S1x512 ![2, 0] W slices_S3x512_S1x512_2_0) shapeCasts_S1x512_S512))) (extractStridedSlice S2064x512 ![2, 0] (concatenate S2066x512 0 [⟨S2x512, (broadcastInDim S2x512 ![] bcast_S_S2x512 (constant S_ .f32 0x00000000#32))⟩, ⟨S2064x512, (mulf (extractStridedSlice S2064x512 ![112, 0] (extractStridedSlice S2176x512 ![0, 2048] P slices_S2176x6144_S2176x512_0_2048) slices_S2176x512_S2064x512_112_0) (extractStridedSlice S2064x512 ![112, 0] (extractStridedSlice S2176x512 ![0, 1024] P slices_S2176x6144_S2176x512_0_1024) slices_S2176x512_S2064x512_112_0))⟩] concatenates_S2x512_S2064x512_S2066x512_d0) slices_S2066x512_S2064x512_2_0))))) (constant S_ .f32 0x00000000#32) pads_S2064x512_S2176x512_11200_000 h_S_) bitsLt_bf16_f32

/-- The reference's gradient of the inner gate. -/
def dC (D : FVec Ideal S2064x512 .f32) (P : FVec Ideal S2176x6144 .f32) (W : FVec Ideal S3x512 .f32) (B : FVec Ideal S1x512 .f32) : FVec Ideal S2176x512 .bf16 :=
  truncf .bf16 (pad S2176x512 ![112, 0] ![0, 0] ![0, 0] (mulf (extractStridedSlice S2064x512 ![2, 0] (addf (addf (pad S2066x512 ![2, 0] ![0, 0] ![0, 0] (mulf (broadcastInDim S2064x512 ![0, 1] bcast_S1x512_S2064x512_0_1 (broadcastInDim S1x512 ![1] bcast_S512_S1x512_1 (shapeCast _ (extractStridedSlice S1x512 ![2, 0] W slices_S3x512_S1x512_2_0) shapeCasts_S1x512_S512))) (mulf (extractStridedSlice S2064x512 ![112, 0] (extractStridedSlice S2176x512 ![0, 1536] P slices_S2176x6144_S2176x512_0_1536) slices_S2176x512_S2064x512_112_0) D)) (constant S_ .f32 0x00000000#32) pads_S2064x512_S2066x512_200_000 h_S_) (pad S2066x512 ![1, 0] ![1, 0] ![0, 0] (mulf (broadcastInDim S2064x512 ![0, 1] bcast_S1x512_S2064x512_0_1 (broadcastInDim S1x512 ![1] bcast_S512_S1x512_1 (shapeCast _ (extractStridedSlice S1x512 ![1, 0] W slices_S3x512_S1x512_1_0) shapeCasts_S1x512_S512))) (mulf (extractStridedSlice S2064x512 ![112, 0] (extractStridedSlice S2176x512 ![0, 1536] P slices_S2176x6144_S2176x512_0_1536) slices_S2176x512_S2064x512_112_0) D)) (constant S_ .f32 0x00000000#32) pads_S2064x512_S2066x512_110_000 h_S_)) (pad S2066x512 ![0, 0] ![2, 0] ![0, 0] (mulf (broadcastInDim S2064x512 ![0, 1] bcast_S1x512_S2064x512_0_1 (broadcastInDim S1x512 ![1] bcast_S512_S1x512_1 (shapeCast _ (extractStridedSlice S1x512 ![0, 0] W slices_S3x512_S1x512_0_0) shapeCasts_S1x512_S512))) (mulf (extractStridedSlice S2064x512 ![112, 0] (extractStridedSlice S2176x512 ![0, 1536] P slices_S2176x6144_S2176x512_0_1536) slices_S2176x512_S2064x512_112_0) D)) (constant S_ .f32 0x00000000#32) pads_S2064x512_S2066x512_020_000 h_S_)) slices_S2066x512_S2064x512_2_0) (extractStridedSlice S2064x512 ![112, 0] (extractStridedSlice S2176x512 ![0, 1024] P slices_S2176x6144_S2176x512_0_1024) slices_S2176x512_S2064x512_112_0)) (constant S_ .f32 0x00000000#32) pads_S2064x512_S2176x512_11200_000 h_S_) bitsLt_bf16_f32

/-- The reference's gradient of the three taps. -/
def dW (D : FVec Ideal S2064x512 .f32) (P : FVec Ideal S2176x6144 .f32) (W : FVec Ideal S3x512 .f32) (B : FVec Ideal S1x512 .f32) : FVec Ideal S3x512 .f32 :=
  addf (addf (pad S3x512 ![2, 0] ![0, 0] ![0, 0] (broadcastInDim S1x512 ![1] bcast_S512_S1x512_1 (Host.reduceAdd (shapeCast _ (Host.reduceAdd (mulf (mulf (extractStridedSlice S2064x512 ![112, 0] (extractStridedSlice S2176x512 ![0, 1536] P slices_S2176x6144_S2176x512_0_1536) slices_S2176x512_S2064x512_112_0) D) (extractStridedSlice S2064x512 ![2, 0] (concatenate S2066x512 0 [⟨S2x512, (broadcastInDim S2x512 ![] bcast_S_S2x512 (constant S_ .f32 0x00000000#32))⟩, ⟨S2064x512, (mulf (extractStridedSlice S2064x512 ![112, 0] (extractStridedSlice S2176x512 ![0, 2048] P slices_S2176x6144_S2176x512_0_2048) slices_S2176x512_S2064x512_112_0) (extractStridedSlice S2064x512 ![112, 0] (extractStridedSlice S2176x512 ![0, 1024] P slices_S2176x6144_S2176x512_0_1024) slices_S2176x512_S2064x512_112_0))⟩] concatenates_S2x512_S2064x512_S2066x512_d0) slices_S2066x512_S2064x512_2_0)) (constant S_ .f32 0x00000000#32) reducesTo_S2064x512_S512_d0 h_S_) shapeCasts_S512_S1x512) (constant S_ .f32 0x00000000#32) reducesTo_S1x512_S512_d0 h_S_)) (constant S_ .f32 0x00000000#32) pads_S1x512_S3x512_200_000 h_S_) (pad S3x512 ![1, 0] ![1, 0] ![0, 0] (broadcastInDim S1x512 ![1] bcast_S512_S1x512_1 (Host.reduceAdd (shapeCast _ (Host.reduceAdd (mulf (mulf (extractStridedSlice S2064x512 ![112, 0] (extractStridedSlice S2176x512 ![0, 1536] P slices_S2176x6144_S2176x512_0_1536) slices_S2176x512_S2064x512_112_0) D) (extractStridedSlice S2064x512 ![1, 0] (concatenate S2066x512 0 [⟨S2x512, (broadcastInDim S2x512 ![] bcast_S_S2x512 (constant S_ .f32 0x00000000#32))⟩, ⟨S2064x512, (mulf (extractStridedSlice S2064x512 ![112, 0] (extractStridedSlice S2176x512 ![0, 2048] P slices_S2176x6144_S2176x512_0_2048) slices_S2176x512_S2064x512_112_0) (extractStridedSlice S2064x512 ![112, 0] (extractStridedSlice S2176x512 ![0, 1024] P slices_S2176x6144_S2176x512_0_1024) slices_S2176x512_S2064x512_112_0))⟩] concatenates_S2x512_S2064x512_S2066x512_d0) slices_S2066x512_S2064x512_1_0)) (constant S_ .f32 0x00000000#32) reducesTo_S2064x512_S512_d0 h_S_) shapeCasts_S512_S1x512) (constant S_ .f32 0x00000000#32) reducesTo_S1x512_S512_d0 h_S_)) (constant S_ .f32 0x00000000#32) pads_S1x512_S3x512_110_000 h_S_)) (pad S3x512 ![0, 0] ![2, 0] ![0, 0] (broadcastInDim S1x512 ![1] bcast_S512_S1x512_1 (Host.reduceAdd (shapeCast _ (Host.reduceAdd (mulf (mulf (extractStridedSlice S2064x512 ![112, 0] (extractStridedSlice S2176x512 ![0, 1536] P slices_S2176x6144_S2176x512_0_1536) slices_S2176x512_S2064x512_112_0) D) (extractStridedSlice S2064x512 ![0, 0] (concatenate S2066x512 0 [⟨S2x512, (broadcastInDim S2x512 ![] bcast_S_S2x512 (constant S_ .f32 0x00000000#32))⟩, ⟨S2064x512, (mulf (extractStridedSlice S2064x512 ![112, 0] (extractStridedSlice S2176x512 ![0, 2048] P slices_S2176x6144_S2176x512_0_2048) slices_S2176x512_S2064x512_112_0) (extractStridedSlice S2064x512 ![112, 0] (extractStridedSlice S2176x512 ![0, 1024] P slices_S2176x6144_S2176x512_0_1024) slices_S2176x512_S2064x512_112_0))⟩] concatenates_S2x512_S2064x512_S2066x512_d0) slices_S2066x512_S2064x512_0_0)) (constant S_ .f32 0x00000000#32) reducesTo_S2064x512_S512_d0 h_S_) shapeCasts_S512_S1x512) (constant S_ .f32 0x00000000#32) reducesTo_S1x512_S512_d0 h_S_)) (constant S_ .f32 0x00000000#32) pads_S1x512_S3x512_020_000 h_S_)

/-- The reference's gradient of the bias. -/
def dBias (D : FVec Ideal S2064x512 .f32) (P : FVec Ideal S2176x6144 .f32) (W : FVec Ideal S3x512 .f32) (B : FVec Ideal S1x512 .f32) : FVec Ideal S1x512 .f32 :=
  shapeCast _ (Host.reduceAdd (mulf (extractStridedSlice S2064x512 ![112, 0] (extractStridedSlice S2176x512 ![0, 1536] P slices_S2176x6144_S2176x512_0_1536) slices_S2176x512_S2064x512_112_0) D) (constant S_ .f32 0x00000000#32) reducesTo_S2064x512_S512_d0 h_S_) shapeCasts_S512_S1x512

end Cert.ConvGrad

end
-- ==== Proof.Conv.Pure.lean ====
/-  One column of the convolution's gradient: what the body stores, read at a row, is the reference's term there. -/
module

public import proofs.«01_k».proof.Proof.Conv.Ref
public import proofs.«01_k».proof.Proof.Gen.ConvIdeal.Frame
public import Idealize.ShloMosaic.Lib.Pipeline.ValueKit
public import Idealize.ShloMosaic.Lib.WordCmp

@[expose] public section

set_option maxRecDepth 16384

noncomputable section

namespace Cert.ConvGrad
open Idealize.ShloMosaic Idealize.ShloMosaic.TcCoe Idealize.SL.Sem
open Cert.ConvIdeal Cert.ConvIdeal.Gen

/-! ## The shifts, at one column: rows of the padded layout against rows of the unpadded one -/

/-- The gradient of the convolution's input, times the other factor `p3` of the product it came from. -/
theorem shift_up (w0 w1 w2 : EReal) (d p2 p3 : ℕ → EReal) (r : ℕ) (hr : r < 2176) :
    (if 112 ≤ r then
      ((w2 * ((if 112 ≤ r then d (r - 112) else 0) * p2 r) +
            if r < 2175 then
              w1 * ((if 112 ≤ (r + 2176 - 2175) % 2176 then d ((r + 2176 - 2175) % 2176 - 112) else 0) *
                  p2 ((r + 2176 - 2175) % 2176))
            else 0) +
          if r < 2174 then
            w0 * ((if 112 ≤ (r + 2176 - 2174) % 2176 then d ((r + 2176 - 2174) % 2176 - 112) else 0) *
                p2 ((r + 2176 - 2174) % 2176))
          else 0) *
        p3 r
    else 0) =
    if 112 ≤ r ∧ r - 112 < 2064 then
      p3 (112 + (r - 112)) *
        (((if r - 112 < 2064 then w2 * (p2 (112 + (r - 112)) * d (r - 112)) else 0) +
            if 1 ≤ 2 + (r - 112) ∧ 2 + (r - 112) - 1 < 2064 then
              w1 * (p2 (112 + (2 + (r - 112) - 1)) * d (2 + (r - 112) - 1))
            else 0) +
          if 2 + (r - 112) < 2064 then w0 * (p2 (112 + (2 + (r - 112))) * d (2 + (r - 112))) else 0)
    else 0 := by
  rcases Nat.lt_or_ge r 112 with h | h
  · rw [if_neg (Nat.not_le.2 h), if_neg (fun q => Nat.not_le.2 h q.1)]
  obtain ⟨k, rfl⟩ := Nat.exists_eq_add_of_le h
  have hk : k < 2064 := by omega
  simp only [Nat.add_sub_cancel_left, if_pos h, if_pos hk, if_pos (show 112 ≤ 112 + k ∧ k < 2064 from ⟨h, hk⟩)]
  refine (mul_comm _ _).trans (congrArg₂ (· * ·) rfl (congrArg₂ (· + ·) (congrArg₂ (· + ·) (by rw [mul_comm (d k)]) ?_) ?_))
  · by_cases h1 : k + 1 < 2064
    · rw [show (112 + k + 2176 - 2175) % 2176 = 112 + (k + 1) by omega, show 2 + k - 1 = k + 1 by omega,
        if_pos (show 112 + k < 2175 by omega), if_pos (show 1 ≤ 2 + k ∧ k + 1 < 2064 by omega),
        if_pos (Nat.le_add_right _ _), Nat.add_sub_cancel_left, mul_comm (d _)]
    · rw [if_neg (by omega), if_neg (by omega)]
  · by_cases h1 : 2 + k < 2064
    · rw [show (112 + k + 2176 - 2174) % 2176 = 112 + (2 + k) by omega,
        if_pos (show 112 + k < 2174 by omega), if_pos h1,
        if_pos (Nat.le_add_right _ _), Nat.add_sub_cancel_left, mul_comm (d _)]
    · rw [if_neg (by omega), if_neg (by omega)]

/-- The convolution itself, times the incoming gradient: the gradient of the outer gate. -/
theorem shift_down (b w0 w1 w2 : EReal) (d p1 p3 : ℕ → EReal) (r : ℕ) (hr : r < 2176) :
    (if 112 ≤ r then d (r - 112) else 0) *
      (((b + if 2 ≤ r then
              if 112 ≤ (r + 2176 - 2) % 2176 then w0 * (p3 ((r + 2176 - 2) % 2176) * p1 ((r + 2176 - 2) % 2176)) else 0
            else 0) +
          if 1 ≤ r then
            if 112 ≤ (r + 2176 - 1) % 2176 then w1 * (p3 ((r + 2176 - 1) % 2176) * p1 ((r + 2176 - 1) % 2176)) else 0
          else 0) +
        if 112 ≤ r then w2 * (p3 r * p1 r) else 0) =
    if 112 ≤ r ∧ r - 112 < 2064 then
      d (r - 112) *
        (b + (((w0 * if r - 112 < 2 then 0 else p3 (112 + (r - 112 - 2)) * p1 (112 + (r - 112 - 2))) +
              w1 * if 1 + (r - 112) < 2 then 0 else p3 (112 + (1 + (r - 112) - 2)) * p1 (112 + (1 + (r - 112) - 2))) +
            w2 * (p3 (112 + (r - 112)) * p1 (112 + (r - 112)))))
    else 0 := by
  rcases Nat.lt_or_ge r 112 with h | h
  · rw [if_neg (Nat.not_le.2 h), zero_mul, if_neg (show ¬ (112 ≤ r ∧ r - 112 < 2064) from fun q => Nat.not_le.2 h q.1)]
  obtain ⟨k, rfl⟩ := Nat.exists_eq_add_of_le h
  have hk : k < 2064 := by omega
  simp only [Nat.add_sub_cancel_left, if_pos h, if_pos hk, if_pos (show 112 ≤ 112 + k ∧ k < 2064 from ⟨h, hk⟩),
    if_pos (show 2 ≤ 112 + k by omega), if_pos (show 1 ≤ 112 + k by omega), ← add_assoc]
  refine congrArg₂ (· * ·) rfl (congrArg₂ (· + ·) (congrArg₂ (· + ·) (congrArg₂ (· + ·) rfl ?_) ?_) rfl)
  · by_cases h1 : k < 2
    · rw [if_neg (by omega), if_pos h1, mul_zero]
    · rw [show (112 + k + 2176 - 2) % 2176 = 112 + (k - 2) by omega, if_pos (Nat.le_add_right _ _), if_neg h1]
  · by_cases h1 : 1 + k < 2
    · rw [if_neg (by omega), if_pos h1, mul_zero]
    · rw [show (112 + k + 2176 - 1) % 2176 = 112 + (1 + k - 2) by omega, if_pos (Nat.le_add_right _ _), if_neg h1]

/-- The gradient of the tap that looks back `s` rows: a sum over the rows of the padded layout, the first of which
    carry no gradient, against the sum over the others. -/
theorem tap (s : ℕ) (hs : s ≤ 112) (d p1 p2 p3 : ℕ → EReal) :
    ((∑ x : Fin 112, if s ≤ (x : ℕ) then
          if 112 ≤ ((x : ℕ) + 2176 - s) % 2176 then
            0 * p2 x * (p3 (((x : ℕ) + 2176 - s) % 2176) * p1 (((x : ℕ) + 2176 - s) % 2176)) else 0
        else 0) +
      ∑ x : Fin 2064, if s ≤ 112 + (x : ℕ) then
          if 112 ≤ (112 + (x : ℕ) + 2176 - s) % 2176 then
            d x * p2 (112 + x) * (p3 ((112 + (x : ℕ) + 2176 - s) % 2176) * p1 ((112 + (x : ℕ) + 2176 - s) % 2176))
          else 0
        else 0) =
    ∑ x : Fin 2064, if (x : ℕ) < s then 0 else p2 (112 + x) * d x * (p3 (112 + (x - s)) * p1 (112 + (x - s))) := by
  rw [Finset.sum_eq_zero (fun x _ => by simp only [zero_mul, ite_self]), zero_add]
  refine Finset.sum_congr rfl fun x _ => ?_
  obtain ⟨x, hx⟩ := x
  dsimp only
  rw [if_pos (show s ≤ 112 + x by omega)]
  by_cases h : x < s
  · rw [if_neg (by omega), if_pos h]
  · rw [show (112 + x + 2176 - s) % 2176 = 112 + (x - s) by omega, if_pos (Nat.le_add_right _ _), if_neg h, mul_comm (d _)]

/-- A sum over the rows, its first two apart. -/
theorem sum_rows (f : ℕ → EReal) : ∑ x : Fin 2064, f x = ∑ x : Fin 2, f x + ∑ x : Fin 2062, f (2 + x) :=
  Fin.sum_univ_add (a := 2) (b := 2062) (fun i : Fin (2 + 2062) => f i)

/-! ## The stored values -/

variable (D : FVec Ideal S2064x512 .f32) (P : FVec Ideal S2176x6144 .f32) (W : FVec Ideal S3x512 .f32) (B : FVec Ideal S1x512 .f32)
  (x0 x1 x2 x3 : FVec Ideal S2176x128 .f32) (x4 : FVec Ideal S3x128 .f32) (x5 : FVec Ideal S1x128 .f32) (l : Fin 128) (c : Fin 512)
  (d p1 p2 p3 : ℕ → EReal)
  (hd : ∀ (i : ℕ) (hi), D (ix2 ⟨i, hi⟩ c) = d i) (hd' : ∀ i : Fin 2064, D (ix2 i c) = d i)
  (h0 : ∀ r : Fin 2176, x0 (ix2 r l) = if 112 ≤ (r : ℕ) then d (r - 112) else 0)
  (h1 : ∀ r : Fin 2176, x1 (ix2 r l) = p1 r) (h2 : ∀ r : Fin 2176, x2 (ix2 r l) = p2 r) (h3 : ∀ r : Fin 2176, x3 (ix2 r l) = p3 r)
  (g1 : ∀ (i : ℕ) (hi hc), P (ix2 ⟨i, hi⟩ ⟨1024 + c, hc⟩) = p1 i)
  (g2 : ∀ (i : ℕ) (hi hc), P (ix2 ⟨i, hi⟩ ⟨1536 + c, hc⟩) = p2 i)
  (g3 : ∀ (i : ℕ) (hi hc), P (ix2 ⟨i, hi⟩ ⟨2048 + c, hc⟩) = p3 i)
  (h4 : ∀ k : Fin 3, x4 (ix2 k l) = W (ix2 k c)) (h5 : x5 (ix2 0 l) = B (ix2 0 c))

include h0 h1 h2 h3 h4 h5 hd hd' g1 g2 g3 in
/-- What the body stores as the gradient of the convolved input. -/
theorem dX_at (r : Fin 2176) :
    k0_pay3 (F := Ideal) x3 (k0_pay17 (F := Ideal) x0 x1 x2 x3 x4 x5)
      (k0_pay14 (F := Ideal) x4 (k0_pay17 (F := Ideal) x0 x1 x2 x3 x4 x5) (k0_pay7 (F := Ideal) x0) x2)
      (k0_pay15 (F := Ideal) (k0_pay17 (F := Ideal) x0 x1 x2 x3 x4 x5) (k0_pay7 (F := Ideal) x0) x2)
      (k0_pay16 (F := Ideal) x4) (ix2 r l) = dX D P W B (ix2 r c) := by
  pointwise [k0_pay3, k0_pay1, k0_pay17, k0_pay14, k0_pay15, k0_pay16, k0_pay7, k0_pay9, dX, Cert.ConvRefIdeal.Value.fn_main_v8, hlo_ix, h0, h1, h2, h3, h4, h5, g1, g2, g3, hd, hd']
  simp (disch := word_cmp_side) only [hlo_ix]
  exact (shift_up _ _ _ _ _ _ _ r.2)

include h0 h1 h2 h3 h4 h5 hd hd' g1 g2 g3 in
/-- What the body stores as the gradient of the inner gate. -/
theorem dC_at (r : Fin 2176) :
    k0_pay2 (F := Ideal) x1 (k0_pay17 (F := Ideal) x0 x1 x2 x3 x4 x5)
      (k0_pay14 (F := Ideal) x4 (k0_pay17 (F := Ideal) x0 x1 x2 x3 x4 x5) (k0_pay7 (F := Ideal) x0) x2)
      (k0_pay15 (F := Ideal) (k0_pay17 (F := Ideal) x0 x1 x2 x3 x4 x5) (k0_pay7 (F := Ideal) x0) x2)
      (k0_pay16 (F := Ideal) x4) (ix2 r l) = dC D P W B (ix2 r c) := by
  pointwise [k0_pay2, k0_pay1, k0_pay17, k0_pay14, k0_pay15, k0_pay16, k0_pay7, k0_pay9, dC, Cert.ConvRefIdeal.Value.fn_main_v8, hlo_ix, h0, h1, h2, h3, h4, h5, g1, g2, g3, hd, hd']
  simp (disch := word_cmp_side) only [hlo_ix]
  exact (shift_up _ _ _ _ _ _ _ r.2).trans (if_congr Iff.rfl (mul_comm _ _) rfl)

include h0 h1 h2 h3 h4 h5 hd hd' g1 g2 g3 in
/-- What the body stores as the gradient of the outer gate. -/
theorem dGate_at (r : Fin 2176) : k0_pay8 (F := Ideal) x1 x3 x4 x5 x0 (ix2 r l) = dGate D P W B (ix2 r c) := by
  pointwise [k0_pay8, k0_pay6, k0_pay5, k0_pay4, k0_pay7, dGate, Cert.ConvRefIdeal.Value.fn_main_v8, hlo_ix, h0, h1, h2, h3, h4, h5, g1, g2, g3, hd, hd']
  simp (disch := word_cmp_side) only [hlo_ix]
  exact shift_down _ _ _ _ _ _ _ _ r.2

include h0 h1 h2 h3 h4 h5 hd hd' g1 g2 g3 in
/-- What the body stores as the gradient of the bias. -/
theorem dBias_at : k0_pay10 (F := Ideal) (k0_pay7 (F := Ideal) x0) x2 (ix2 0 l) = dBias D P W B (ix2 0 c) := by
  pointwise [k0_pay10, k0_pay7, k0_pay9, dBias, Cert.ConvRefIdeal.Value.fn_main_v8, hlo_ix, h0, h1, h2, h3, h4, h5, g1, g2, g3, hd, hd']
  rw [Finset.sum_eq_zero (fun x _ => by rw [zero_mul]), zero_add]
  exact Finset.sum_congr rfl fun x _ => mul_comm _ _

include h0 h1 h2 h3 h4 h5 hd hd' g1 g2 g3 in
/-- What the body stores as the gradient of the tap two rows back. -/
theorem tap0_at :
    k0_pay11 (F := Ideal) (k0_pay6 (F := Ideal) x1 x3) (k0_pay7 (F := Ideal) x0) x2 (ix2 0 l) = dW D P W B (ix2 0 c) := by
  pointwise [k0_pay11, k0_pay6, k0_pay5, k0_pay4, k0_pay7, k0_pay9, dW, Cert.ConvRefIdeal.Value.fn_main_v8, hlo_ix, h0, h1, h2, h3, h4, h5, g1, g2, g3, hd, hd']
  simp (disch := word_cmp_side) only [hlo_ix]
  refine (tap 2 (by decide) _ _ _ _).trans ?_
  rw [Fin.sum_univ_one, sum_rows (fun x => if x < 2 then 0 else p2 (112 + x) * d x * (p3 (112 + (x - 2)) * p1 (112 + (x - 2))))]
  refine congrArg₂ (· + ·) (Finset.sum_congr rfl fun x _ => ?_) (Finset.sum_congr rfl fun x _ => ?_)
  · rw [if_pos x.2, mul_zero]
  · rw [if_neg (by omega), Nat.add_sub_cancel_left]

include h0 h1 h2 h3 h4 h5 hd hd' g1 g2 g3 in
/-- What the body stores as the gradient of the tap one row back. -/
theorem tap1_at :
    k0_pay12 (F := Ideal) (k0_pay5 (F := Ideal) x1 x3) (k0_pay7 (F := Ideal) x0) x2 (ix2 0 l) = dW D P W B (ix2 1 c) := by
  pointwise [k0_pay12, k0_pay6, k0_pay5, k0_pay4, k0_pay7, k0_pay9, dW, Cert.ConvRefIdeal.Value.fn_main_v8, hlo_ix, h0, h1, h2, h3, h4, h5, g1, g2, g3, hd, hd']
  simp (disch := word_cmp_side) only [hlo_ix]
  refine (tap 1 (by decide) _ _ _ _).trans ?_
  rw [Fin.sum_univ_one]
  refine Finset.sum_congr rfl fun x _ => ?_
  by_cases h : 1 + (x : ℕ) < 2
  · rw [dif_pos h, if_pos (by omega), mul_zero]
  · rw [dif_neg h, if_neg (by omega), show 1 + (x : ℕ) - 2 = x - 1 by omega]

include h0 h1 h2 h3 h4 h5 hd hd' g1 g2 g3 in
/-- What the body stores as the gradient of the tap on the row itself. -/
theorem tap2_at :
    k0_pay13 (F := Ideal) (k0_pay4 (F := Ideal) x1 x3) (k0_pay7 (F := Ideal) x0) x2 (ix2 0 l) = dW D P W B (ix2 2 c) := by
  pointwise [k0_pay13, k0_pay6, k0_pay5, k0_pay4, k0_pay7, k0_pay9, dW, Cert.ConvRefIdeal.Value.fn_main_v8, hlo_ix, h0, h1, h2, h3, h4, h5, g1, g2, g3, hd, hd']
  simp (disch := word_cmp_side) only [hlo_ix]
  rw [Fin.sum_univ_one, Finset.sum_eq_zero (fun x _ => by simp only [zero_mul, ite_self]), zero_add]
  exact Finset.sum_congr rfl fun x _ => by rw [if_pos (Nat.le_add_right _ _), mul_comm (d _)]

end Cert.ConvGrad

end
-- ==== Proof.Conv.Value.lean ====
/-  The five result arrays of the convolution's gradient kernel: each is the reference's term of the argument arrays. -/
module

public import proofs.«01_k».proof.Proof.Conv.Pure

@[expose] public section

set_option maxRecDepth 16384

noncomputable section

namespace Cert.ConvGrad

open Cert.ConvIdeal Cert.ConvIdeal.Gen Idealize.ShloMosaic Idealize.ShloMosaic.TcCoe Idealize.SL.Sem
open Idealize.ShloMosaic.Pipeline (Dat)

variable (m : (ℓ : Loc nD τ sig) → Buf (Elt Ideal) ℓ)

/-- The block every window is at, at point `t`: column block `t` (of the wide array, past the fields before its own). -/
theorem idx : ∀ t : Fin cfg0.N, win0_0.index t = ![0, t.val] ∧ win0_1.index t = ![0, 8 + t.val] ∧ win0_2.index t = ![0, 12 + t.val]
    ∧ win0_3.index t = ![0, 16 + t.val] ∧ win0_4.index t = ![0, t.val] ∧ win0_5.index t = ![0, t.val]
    ∧ win0_6.index t = ![0, t.val] ∧ win0_7.index t = ![0, t.val] ∧ win0_8.index t = ![0, t.val] ∧ win0_9.index t = ![0, t.val]
    ∧ win0_10.index t = ![0, t.val] ∧ t.val < 4 :=
  (by decide +kernel : ∀ t : Fin grid0.N, _)

/-- Lane `l` of column block `t`, as a column. -/
def col (t : Fin cfg0.N) (l : Fin 128) : Fin 512 :=
  ⟨t.val * 128 + l, by have := (idx t).2.2.2.2.2.2.2.2.2.2.2; omega⟩

/-- The argument arrays, at their types. -/
abbrev aD (c : Dev nD) : FVec Ideal S2064x512 .f32 := m ((c : Thread nD τ).loc main_arg0)
abbrev aP (c : Dev nD) : FVec Ideal S2176x6144 .f32 := m ((c : Thread nD τ).loc main_arg1)
abbrev aW (c : Dev nD) : FVec Ideal S3x512 .f32 := m ((c : Thread nD τ).loc main_arg2)
abbrev aB (c : Dev nD) : FVec Ideal S1x512 .f32 := m ((c : Thread nD τ).loc main_arg3)

/-- Column `j` of an array, as a function of the row, zero past the last. -/
def colD (D : FVec Ideal S2064x512 .f32) (j : Fin 512) (i : ℕ) : EReal := if h : i < 2064 then D (ix2 ⟨i, h⟩ j) else 0
def colP (P : FVec Ideal S2176x6144 .f32) (j : Fin 6144) (i : ℕ) : EReal := if h : i < 2176 then P (ix2 ⟨i, h⟩ j) else 0

theorem colD_lt (D : FVec Ideal S2064x512 .f32) (j : Fin 512) (i : ℕ) (h : i < 2064) : D (ix2 ⟨i, h⟩ j) = colD D j i := by
  unfold colD
  rw [dif_pos h]
theorem colP_lt (P : FVec Ideal S2176x6144 .f32) (j : Fin 6144) (i : ℕ) (h : i < 2176) : P (ix2 ⟨i, h⟩ j) = colP P j i := by
  unfold colP
  rw [dif_pos h]

/-- The gradient array at region entry: the argument under rows of zeros. -/
theorem entry0 (c : Dev nD) (r : Fin 2176) (l : Fin 512) : (show FVec Ideal S2176x512 .f32 from V m c main_v1) (ix2 r l)
    = if 112 ≤ (r : ℕ) then colD (aD m c) l (r - 112) else 0 := by
  entry_read
  pointwise
  by_cases h : (r : ℕ) < 112
  · rw [dif_pos h, if_neg (by omega)]
  · rw [dif_neg h]
    exact Eq.trans (colD_lt (aD m c) l _ (by omega)) (if_pos (by omega)).symm

theorem b0 (c : Dev nD) (t : Fin cfg0.N) (l : Fin 128) (r : Fin 2176) : (show FVec Ideal S2176x128 .f32 from iblk m c 0 t) (ix2 r l)
    = if 112 ≤ (r : ℕ) then colD (aD m c) (col t l) (r - 112) else 0 := by
  refine Eq.trans ?_ (entry0 m c r (col t l))
  blk_ext [iblk, idx t, col]

theorem b1 (c : Dev nD) (t : Fin cfg0.N) (l : Fin 128) (r : Fin 2176) : (show FVec Ideal S2176x128 .f32 from iblk m c 1 t) (ix2 r l)
    = colP (aP m c) ⟨1024 + col t l, by omega⟩ r := by
  refine Eq.trans ?_ (colP_lt (aP m c) ⟨1024 + col t l, by omega⟩ r r.2)
  blk_ext [iblk, V, idx t, col]

theorem b2 (c : Dev nD) (t : Fin cfg0.N) (l : Fin 128) (r : Fin 2176) : (show FVec Ideal S2176x128 .f32 from iblk m c 2 t) (ix2 r l)
    = colP (aP m c) ⟨1536 + col t l, by omega⟩ r := by
  refine Eq.trans ?_ (colP_lt (aP m c) ⟨1536 + col t l, by omega⟩ r r.2)
  blk_ext [iblk, V, idx t, col]

theorem b3 (c : Dev nD) (t : Fin cfg0.N) (l : Fin 128) (r : Fin 2176) : (show FVec Ideal S2176x128 .f32 from iblk m c 3 t) (ix2 r l)
    = colP (aP m c) ⟨2048 + col t l, by omega⟩ r := by
  refine Eq.trans ?_ (colP_lt (aP m c) ⟨2048 + col t l, by omega⟩ r r.2)
  blk_ext [iblk, V, idx t, col]

theorem b4 (c : Dev nD) (t : Fin cfg0.N) (l : Fin 128) (k : Fin 3) : (show FVec Ideal S3x128 .f32 from iblk m c 4 t) (ix2 k l)
    = aW m c (ix2 k (col t l)) := by
  blk_ext [iblk, V, idx t, col]

theorem b5 (c : Dev nD) (t : Fin cfg0.N) (l : Fin 128) : (show FVec Ideal S1x128 .f32 from iblk m c 5 t) (ix2 0 l)
    = aB m c (ix2 0 (col t l)) := by
  blk_ext [iblk, V, idx t, col]

/-- The array of the gradient of the convolved input, after the run. -/
theorem final6 (c : Dev nD) : (dats m 0 c).arrAt 6 (cfgs 0).N = dX (aD m c) (aP m c) (aW m c) (aB m c) := by
  refine (dats m 0 c).arrAt_eq_of_covers 6 _ (by decide +kernel) fun t _ y => ?_
  blk_simp
  rw [after0_6]
  unfold_out out0_6
  frame_out
  have hy : y = ix2 (y 0) (y 1) := eq_ix2 y
  generalize y 0 = r at hy
  generalize y 1 = l at hy
  subst hy
  have hemb : ((cfg0.win 6).blk t).view.emb (ix2 r l) = (ix2 r (col t l) : S2176x512.Idx) := by blk_ext [idx t, col]
  exact Eq.trans (dX_at (aD m c) (aP m c) (aW m c) (aB m c) _ _ _ _ _ _ l (col t l) _ _ _ _ (colD_lt (aD m c) _) (fun i => colD_lt (aD m c) _ i i.2) (b0 m c t l) (b1 m c t l) (b2 m c t l) (b3 m c t l)
      (fun i hi _ => colP_lt (aP m c) _ i hi) (fun i hi _ => colP_lt (aP m c) _ i hi) (fun i hi _ => colP_lt (aP m c) _ i hi) (b4 m c t l) (b5 m c t l) r) (congrArg (dX (aD m c) (aP m c) (aW m c) (aB m c)) hemb.symm)

/-- The array of the gradient of the outer gate, after the run. -/
theorem final7 (c : Dev nD) : (dats m 0 c).arrAt 7 (cfgs 0).N = dGate (aD m c) (aP m c) (aW m c) (aB m c) := by
  refine (dats m 0 c).arrAt_eq_of_covers 7 _ (by decide +kernel) fun t _ y => ?_
  blk_simp
  rw [after0_7]
  unfold_out out0_7
  frame_out
  have hy : y = ix2 (y 0) (y 1) := eq_ix2 y
  generalize y 0 = r at hy
  generalize y 1 = l at hy
  subst hy
  have hemb : ((cfg0.win 7).blk t).view.emb (ix2 r l) = (ix2 r (col t l) : S2176x512.Idx) := by blk_ext [idx t, col]
  exact Eq.trans (dGate_at (aD m c) (aP m c) (aW m c) (aB m c) _ _ _ _ _ _ l (col t l) _ _ _ _ (colD_lt (aD m c) _) (fun i => colD_lt (aD m c) _ i i.2) (b0 m c t l) (b1 m c t l) (b2 m c t l) (b3 m c t l)
      (fun i hi _ => colP_lt (aP m c) _ i hi) (fun i hi _ => colP_lt (aP m c) _ i hi) (fun i hi _ => colP_lt (aP m c) _ i hi) (b4 m c t l) (b5 m c t l) r) (congrArg (dGate (aD m c) (aP m c) (aW m c) (aB m c)) hemb.symm)

/-- The array of the gradient of the inner gate, after the run. -/
theorem final8 (c : Dev nD) : (dats m 0 c).arrAt 8 (cfgs 0).N = dC (aD m c) (aP m c) (aW m c) (aB m c) := by
  refine (dats m 0 c).arrAt_eq_of_covers 8 _ (by decide +kernel) fun t _ y => ?_
  blk_simp
  rw [after0_8]
  unfold_out out0_8
  frame_out
  have hy : y = ix2 (y 0) (y 1) := eq_ix2 y
  generalize y 0 = r at hy
  generalize y 1 = l at hy
  subst hy
  have hemb : ((cfg0.win 8).blk t).view.emb (ix2 r l) = (ix2 r (col t l) : S2176x512.Idx) := by blk_ext [idx t, col]
  exact Eq.trans (dC_at (aD m c) (aP m c) (aW m c) (aB m c) _ _ _ _ _ _ l (col t l) _ _ _ _ (colD_lt (aD m c) _) (fun i => colD_lt (aD m c) _ i i.2) (b0 m c t l) (b1 m c t l) (b2 m c t l) (b3 m c t l)
      (fun i hi _ => colP_lt (aP m c) _ i hi) (fun i hi _ => colP_lt (aP m c) _ i hi) (fun i hi _ => colP_lt (aP m c) _ i hi) (b4 m c t l) (b5 m c t l) r) (congrArg (dC (aD m c) (aP m c) (aW m c) (aB m c)) hemb.symm)

/-- The array of the gradient of the bias, after the run. -/
theorem final10 (c : Dev nD) : (dats m 0 c).arrAt 10 (cfgs 0).N = dBias (aD m c) (aP m c) (aW m c) (aB m c) := by
  refine (dats m 0 c).arrAt_eq_of_covers 10 _ (by decide +kernel) fun t _ y => ?_
  blk_simp
  rw [after0_10]
  unfold_out out0_10
  frame_out
  have hy : y = ix2 (y 0) (y 1) := eq_ix2 y
  generalize y 0 = r at hy
  generalize y 1 = l at hy
  subst hy
  have hr : r = (0 : Fin 1) := Subsingleton.elim (α := Fin 1) r 0
  subst hr
  have hemb : ((cfg0.win 10).blk t).view.emb (ix2 0 l) = (ix2 0 (col t l) : S1x512.Idx) := by blk_ext [idx t, col]
  exact Eq.trans (dBias_at (aD m c) (aP m c) (aW m c) (aB m c) _ _ _ _ _ _ l (col t l) _ _ _ _ (colD_lt (aD m c) _) (fun i => colD_lt (aD m c) _ i i.2) (b0 m c t l) (b1 m c t l) (b2 m c t l) (b3 m c t l)
      (fun i hi _ => colP_lt (aP m c) _ i hi) (fun i hi _ => colP_lt (aP m c) _ i hi) (fun i hi _ => colP_lt (aP m c) _ i hi) (b4 m c t l) (b5 m c t l) ) (congrArg (dBias (aD m c) (aP m c) (aW m c) (aB m c)) hemb.symm)

/-- The three tap rows the body stores, read at a row of the block. -/
theorem point9 (c : Dev nD) (t : Fin cfg0.N) (y : S3x128.Idx) (z : S3x512.Idx) (hz0 : (z 0 : ℕ) = y 0) (hz1 : (z 1 : ℕ) = t.val * 128 + y 1) :
    out0_9 (F := Ideal) (iblk m c 0 t) (iblk m c 1 t) (iblk m c 2 t) (iblk m c 3 t) (iblk m c 4 t) (iblk m c 5 t) y = dW (aD m c) (aP m c) (aW m c) (aB m c) z := by
  unfold_out out0_9
  canon_tiles x h
  all_goals
    have hx : x = ix2 (0 : Fin 1) (x 1 : Fin 128) := (eq_ix2 x).trans (congrArg (fun a : Fin 1 => ix2 a (x 1 : Fin 128)) (Subsingleton.elim (α := Fin 1) (x 0) 0))
    have ld : ∀ v : Vec Ideal S2176x128 .f32, View.ld v r0_0 = v := fun v => by
      have hz : (![0, 0] : Fin 2 → ℕ) = fun _ => 0 := funext fun a => by fin_cases a <;> rfl
      exact View.ld_unit_zero hz _ v
    rw [ld, ld, ld, ld]
    have hy1 : (z 1 : Fin 512) = col t (x 1) := Fin.ext (by rw [hz1, h1]; rfl)
    have hz : z = ix2 (z 0 : Fin 3) (z 1 : Fin 512) := eq_ix2 z
    rw [hz, hy1]
    rw [hx]
    clear hx hz hy1
    generalize (x 1 : Fin 128) = l
  · have e : z 0 = (2 : Fin 3) := Fin.ext (by rw [hz0, h0]; show 2 + (x 0 : ℕ) = 2; omega)
    rw [e]
    exact tap2_at (aD m c) (aP m c) (aW m c) (aB m c) _ _ _ _ _ _ l (col t l) _ _ _ _ (colD_lt (aD m c) _) (fun i => colD_lt (aD m c) _ i i.2) (b0 m c t l) (b1 m c t l) (b2 m c t l) (b3 m c t l)
      (fun i hi _ => colP_lt (aP m c) _ i hi) (fun i hi _ => colP_lt (aP m c) _ i hi) (fun i hi _ => colP_lt (aP m c) _ i hi) (b4 m c t l) (b5 m c t l)
  · have e : z 0 = (1 : Fin 3) := Fin.ext (by rw [hz0, h0]; show 1 + (x 0 : ℕ) = 1; omega)
    rw [e]
    exact tap1_at (aD m c) (aP m c) (aW m c) (aB m c) _ _ _ _ _ _ l (col t l) _ _ _ _ (colD_lt (aD m c) _) (fun i => colD_lt (aD m c) _ i i.2) (b0 m c t l) (b1 m c t l) (b2 m c t l) (b3 m c t l)
      (fun i hi _ => colP_lt (aP m c) _ i hi) (fun i hi _ => colP_lt (aP m c) _ i hi) (fun i hi _ => colP_lt (aP m c) _ i hi) (b4 m c t l) (b5 m c t l)
  · have e : z 0 = (0 : Fin 3) := Fin.ext (by rw [hz0, h0]; show (x 0 : ℕ) = 0; omega)
    rw [e]
    exact tap0_at (aD m c) (aP m c) (aW m c) (aB m c) _ _ _ _ _ _ l (col t l) _ _ _ _ (colD_lt (aD m c) _) (fun i => colD_lt (aD m c) _ i i.2) (b0 m c t l) (b1 m c t l) (b2 m c t l) (b3 m c t l)
      (fun i hi _ => colP_lt (aP m c) _ i hi) (fun i hi _ => colP_lt (aP m c) _ i hi) (fun i hi _ => colP_lt (aP m c) _ i hi) (b4 m c t l) (b5 m c t l)

/-- The array of the gradient of the taps, after the run. -/
theorem final9 (c : Dev nD) : (dats m 0 c).arrAt 9 (cfgs 0).N = dW (aD m c) (aP m c) (aW m c) (aB m c) := by
  refine (dats m 0 c).arrAt_eq_of_covers 9 _ (by decide +kernel) fun t _ y => ?_
  blk_simp
  rw [after0_9]
  refine point9 m c t y _ ?_ ?_
  all_goals (blk_simp [idx t] <;> try omega)

end Cert.ConvGrad

end
-- ==== Proof.Conv.Claims.lean ====
/-  The claims about the convolution's gradient. -/
module

public import proofs.«01_k».proof.Defs
public import proofs.«01_k».proof.Proof.Gen.Conv.Frame
public import proofs.«01_k».proof.Proof.Gen.ConvIdeal.Frame
public import proofs.«01_k».proof.Proof.Gen.ConvRefIdeal.Run
public import proofs.«01_k».proof.Proof.Conv.Value
public import Idealize.ShloMosaic.Lib.Quiescent
public import Idealize.ShloMosaic.Lib.Claim

@[expose] public section

noncomputable section

namespace Cert.ConvGrad

open Idealize.ShloMosaic Idealize.ShloMosaic.TcCoe Idealize.SL.Sem

theorem frame_kernel : Cert.quiescent_Conv := fun m ρ _ => Cert.Conv.Gen.frame m ρ
theorem frame_ideal : Cert.quiescent_ConvIdeal := fun m ρ _ => Cert.ConvIdeal.Gen.frame m ρ
theorem frame_ref : Cert.quiescent_ConvRefIdeal := fun m ρ _ =>
  (θ_run Cert.ConvRefIdeal.defs _ _).mono (fun r h => ⟨fun c => (h c).2.2.2.2.2, sem_eq_zero_of_no_sems (by decide) r.2⟩)
    (Cert.ConvRefIdeal.Value.run (F := Ideal) m ρ)

section

variable (m : (ℓ : Loc Cert.ConvIdeal.nD Cert.ConvIdeal.τ Cert.ConvIdeal.sig) → Buf (Elt Ideal) ℓ) (g : Dev Cert.ConvIdeal.nD → PrngReg)

/-- The kernel's run: its five results at the reference's terms, its arguments unchanged. -/
theorem run_kernel : θ_run (Cert.ConvIdeal.defs (F := Ideal)) (onTc (τ := Cert.ConvIdeal.τ) (Cert.ConvIdeal.main (F := Ideal))) ⟨m, fun _ => 0, g⟩ (fun r => ∀ c : Dev Cert.ConvIdeal.nD,
    r.2.mem ((c.tc : Thread Cert.ConvIdeal.nD Cert.ConvIdeal.τ).loc Cert.ConvIdeal.main_v2_0) = dX (aD m c) (aP m c) (aW m c) (aB m c)
    ∧ r.2.mem ((c.tc : Thread Cert.ConvIdeal.nD Cert.ConvIdeal.τ).loc Cert.ConvIdeal.main_v2_1) = dGate (aD m c) (aP m c) (aW m c) (aB m c)
    ∧ r.2.mem ((c.tc : Thread Cert.ConvIdeal.nD Cert.ConvIdeal.τ).loc Cert.ConvIdeal.main_v2_2) = dC (aD m c) (aP m c) (aW m c) (aB m c)
    ∧ r.2.mem ((c.tc : Thread Cert.ConvIdeal.nD Cert.ConvIdeal.τ).loc Cert.ConvIdeal.main_v2_3) = dW (aD m c) (aP m c) (aW m c) (aB m c)
    ∧ r.2.mem ((c.tc : Thread Cert.ConvIdeal.nD Cert.ConvIdeal.τ).loc Cert.ConvIdeal.main_v2_4) = dBias (aD m c) (aP m c) (aW m c) (aB m c)
    ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
    ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
    ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
    ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)) := by
  run_from Cert.ConvIdeal.Gen.run_main m g
  · exact final6 m c
  · exact final7 m c
  · exact final8 m c
  · exact final9 m c
  · exact final10 m c

variable (m' : (ℓ : Loc Cert.ConvRefIdeal.nD Cert.ConvRefIdeal.τ Cert.ConvRefIdeal.sig) → Buf (Elt Ideal) ℓ) (g' : Dev Cert.ConvRefIdeal.nD → PrngReg)

/-- The reference's run, its results named. -/
theorem run_ref : θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
    r.2.mem ((c.tc : Thread Cert.ConvRefIdeal.nD Cert.ConvRefIdeal.τ).loc Cert.ConvRefIdeal.main_v77) = dX (m' ((c.tc : Thread Cert.ConvRefIdeal.nD Cert.ConvRefIdeal.τ).loc Cert.ConvRefIdeal.main_arg0)) (m' ((c.tc : Thread Cert.ConvRefIdeal.nD Cert.ConvRefIdeal.τ).loc Cert.ConvRefIdeal.main_arg1)) (m' ((c.tc : Thread Cert.ConvRefIdeal.nD Cert.ConvRefIdeal.τ).loc Cert.ConvRefIdeal.main_arg2)) (m' ((c.tc : Thread Cert.ConvRefIdeal.nD Cert.ConvRefIdeal.τ).loc Cert.ConvRefIdeal.main_arg3))
    ∧ r.2.mem ((c.tc : Thread Cert.ConvRefIdeal.nD Cert.ConvRefIdeal.τ).loc Cert.ConvRefIdeal.main_v78) = dGate (m' ((c.tc : Thread Cert.ConvRefIdeal.nD Cert.ConvRefIdeal.τ).loc Cert.ConvRefIdeal.main_arg0)) (m' ((c.tc : Thread Cert.ConvRefIdeal.nD Cert.ConvRefIdeal.τ).loc Cert.ConvRefIdeal.main_arg1)) (m' ((c.tc : Thread Cert.ConvRefIdeal.nD Cert.ConvRefIdeal.τ).loc Cert.ConvRefIdeal.main_arg2)) (m' ((c.tc : Thread Cert.ConvRefIdeal.nD Cert.ConvRefIdeal.τ).loc Cert.ConvRefIdeal.main_arg3))
    ∧ r.2.mem ((c.tc : Thread Cert.ConvRefIdeal.nD Cert.ConvRefIdeal.τ).loc Cert.ConvRefIdeal.main_v79) = dC (m' ((c.tc : Thread Cert.ConvRefIdeal.nD Cert.ConvRefIdeal.τ).loc Cert.ConvRefIdeal.main_arg0)) (m' ((c.tc : Thread Cert.ConvRefIdeal.nD Cert.ConvRefIdeal.τ).loc Cert.ConvRefIdeal.main_arg1)) (m' ((c.tc : Thread Cert.ConvRefIdeal.nD Cert.ConvRefIdeal.τ).loc Cert.ConvRefIdeal.main_arg2)) (m' ((c.tc : Thread Cert.ConvRefIdeal.nD Cert.ConvRefIdeal.τ).loc Cert.ConvRefIdeal.main_arg3))
    ∧ r.2.mem ((c.tc : Thread Cert.ConvRefIdeal.nD Cert.ConvRefIdeal.τ).loc Cert.ConvRefIdeal.main_v69) = dW (m' ((c.tc : Thread Cert.ConvRefIdeal.nD Cert.ConvRefIdeal.τ).loc Cert.ConvRefIdeal.main_arg0)) (m' ((c.tc : Thread Cert.ConvRefIdeal.nD Cert.ConvRefIdeal.τ).loc Cert.ConvRefIdeal.main_arg1)) (m' ((c.tc : Thread Cert.ConvRefIdeal.nD Cert.ConvRefIdeal.τ).loc Cert.ConvRefIdeal.main_arg2)) (m' ((c.tc : Thread Cert.ConvRefIdeal.nD Cert.ConvRefIdeal.τ).loc Cert.ConvRefIdeal.main_arg3))
    ∧ r.2.mem ((c.tc : Thread Cert.ConvRefIdeal.nD Cert.ConvRefIdeal.τ).loc Cert.ConvRefIdeal.main_v38) = dBias (m' ((c.tc : Thread Cert.ConvRefIdeal.nD Cert.ConvRefIdeal.τ).loc Cert.ConvRefIdeal.main_arg0)) (m' ((c.tc : Thread Cert.ConvRefIdeal.nD Cert.ConvRefIdeal.τ).loc Cert.ConvRefIdeal.main_arg1)) (m' ((c.tc : Thread Cert.ConvRefIdeal.nD Cert.ConvRefIdeal.τ).loc Cert.ConvRefIdeal.main_arg2)) (m' ((c.tc : Thread Cert.ConvRefIdeal.nD Cert.ConvRefIdeal.τ).loc Cert.ConvRefIdeal.main_arg3))
    ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
    ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
    ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
    ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)) := by
  unfold dX dGate dC dW dBias
  exact Cert.ConvRefIdeal.Value.run m' g'

end

/-- Each of the kernel's five results is the reference's. -/
theorem algebraic : Cert.algebraic_ConvIdeal_ConvRefIdeal := by
  intro m g m' g' _ hagree
  refine ⟨_, _, _, _, _, run_kernel m g, (θ_run Cert.ConvRefIdeal.defs _ _).mono (fun r h c => ?_) (run_ref m' g')⟩
  have e0 := (hagree c).1
  have e1 := (hagree c).2.1
  have e2 := (hagree c).2.2.1
  have e3 := (hagree c).2.2.2
  obtain ⟨h0, h1, h2, h3, h4, h5⟩ := h c
  rw [e0, e1, e2, e3] at h0 h1 h2 h3 h4
  exact ⟨h0, h1, h2, h3, h4, h5⟩

end Cert.ConvGrad

end
-- ==== Proof.Up.Ref.lean ====
/-  The reference's results for the feed-forward's gated product: the terms its run ends with, over typed variables. -/
module

public import proofs.«01_k».proof.Proof.Gen.UpRefIdeal.Run
public import Idealize.ShloMosaic.Lib.Pointwise

@[expose] public section

set_option maxRecDepth 16384

noncomputable section

namespace Cert.UpValue

open Cert.UpRefIdeal Cert.UpRefIdeal.Gen Cert.UpRefIdeal.Value Idealize.ShloMosaic Idealize.ShloMosaic.TcCoe Idealize.SL.Sem

/-- The reference's pair of preactivations. -/
def pre (H : FVec Ideal S2176x1024 .bf16) (Wg : FVec Ideal S4x704x1024 .bf16) (Wu : FVec Ideal S4x704x1024 .bf16) : FVec Ideal S4x2x2176x704 .bf16 :=
  truncf .bf16 (concatenate S4x2x2176x704 1 [⟨S4x1x2176x704, (broadcastInDim S4x1x2176x704 ![0, 2, 3] bcast_S4x2176x704_S4x1x2176x704_0_2_3 (transpose S4x2176x704 [0, 2, 1] (Host.dotGeneral dot_S4x704x1024_S2176x1024_S4x704x2176_2_1_01_0_n_n none (extf .f32 Wg bitsLt_bf16_f32) (extf .f32 H bitsLt_bf16_f32)) transposes_S4x704x2176_S4x2176x704_0_2_1))⟩, ⟨S4x1x2176x704, (broadcastInDim S4x1x2176x704 ![0, 2, 3] bcast_S4x2176x704_S4x1x2176x704_0_2_3 (transpose S4x2176x704 [0, 2, 1] (Host.dotGeneral dot_S4x704x1024_S2176x1024_S4x704x2176_2_1_01_0_n_n none (extf .f32 Wu bitsLt_bf16_f32) (extf .f32 H bitsLt_bf16_f32)) transposes_S4x704x2176_S4x2176x704_0_2_1))⟩] concatenates_S4x1x2176x704_S4x1x2176x704_S4x2x2176x704_d1) bitsLt_bf16_f32

/-- The reference's gated product. -/
def hid (H : FVec Ideal S2176x1024 .bf16) (Wg : FVec Ideal S4x704x1024 .bf16) (Wu : FVec Ideal S4x704x1024 .bf16) : FVec Ideal S4x2176x704 .bf16 :=
  truncf .bf16 (mulf (mulf (transpose S4x2176x704 [0, 2, 1] (Host.dotGeneral dot_S4x704x1024_S2176x1024_S4x704x2176_2_1_01_0_n_n none (extf .f32 Wg bitsLt_bf16_f32) (extf .f32 H bitsLt_bf16_f32)) transposes_S4x704x2176_S4x2176x704_0_2_1) (Host.divf (broadcastInDim S4x2176x704 ![] bcast_S_S4x2176x704 (constant S_ .f32 0x3F800000#32)) (addf (broadcastInDim S4x2176x704 ![] bcast_S_S4x2176x704 (constant S_ .f32 0x3F800000#32)) (Host.exp (Host.negf (transpose S4x2176x704 [0, 2, 1] (Host.dotGeneral dot_S4x704x1024_S2176x1024_S4x704x2176_2_1_01_0_n_n none (extf .f32 Wg bitsLt_bf16_f32) (extf .f32 H bitsLt_bf16_f32)) transposes_S4x704x2176_S4x2176x704_0_2_1)))))) (transpose S4x2176x704 [0, 2, 1] (Host.dotGeneral dot_S4x704x1024_S2176x1024_S4x704x2176_2_1_01_0_n_n none (extf .f32 Wu bitsLt_bf16_f32) (extf .f32 H bitsLt_bf16_f32)) transposes_S4x704x2176_S4x2176x704_0_2_1)) bitsLt_bf16_f32

end Cert.UpValue

end
-- ==== Proof.Up.Value.lean ====
/-  The result arrays of the kernel for the feed-forward's gated product: each is the reference's term of the argument arrays. -/
module

public import proofs.«01_k».proof.Proof.Gen.UpIdeal.Frame
public import proofs.«01_k».proof.Proof.Up.Ref
public import Idealize.ShloMosaic.Lib.Pipeline.ValueKit
public import Idealize.ShloMosaic.Lib.Pointwise

@[expose] public section

set_option maxRecDepth 16384

noncomputable section

namespace Cert.UpValue

open Cert.UpIdeal Cert.UpIdeal.Gen Idealize.ShloMosaic Idealize.ShloMosaic.TcCoe Idealize.SL.Sem
open Idealize.ShloMosaic.Pipeline (Dat)

variable (m : (ℓ : Loc nD τ sig) → Buf (Elt Ideal) ℓ)

/-- The argument arrays, at their types. -/
abbrev aH (c : Dev nD) : FVec Ideal S2176x1024 .bf16 := m ((c : Thread nD τ).loc main_arg0)
abbrev aWg (c : Dev nD) : FVec Ideal S4x704x1024 .bf16 := m ((c : Thread nD τ).loc main_arg1)
abbrev aWu (c : Dev nD) : FVec Ideal S4x704x1024 .bf16 := m ((c : Thread nD τ).loc main_arg2)

/-- The block every window is at, at each point. -/
theorem idx : ∀ t : Fin cfg0.N, win0_0.index t = ![(grid0.coords t 1).val, 0] ∧ win0_1.index t = ![(grid0.coords t 0).val, 0, 0] ∧ win0_2.index t = ![(grid0.coords t 0).val, 0, 0] ∧ win0_3.index t = ![(grid0.coords t 0).val, 0, (grid0.coords t 1).val, 0] ∧ win0_4.index t = ![(grid0.coords t 0).val, (grid0.coords t 1).val, 0] :=
  (by decide +kernel : ∀ t : Fin grid0.N, _)

theorem point3 (c : Dev nD) (t : Fin cfg0.N) (y : S1x2x1088x704.Idx) : out0_3 (iblk m c 0 t) (iblk m c 1 t) (iblk m c 2 t) y
    = pre (aH m c) (aWg m c) (aWu m c) ((((cfg0.win 3).blk t).view.emb y : S4x2x2176x704.Idx)) := by
  canon_tiles x h
  all_goals
    pointwise [k0_pay3, k0_pay4, k0_pay1, k0_pay2, pre]
    simp only [mul_comm (aWg m c _), mul_comm (aWu m c _)]
    have hc : (((((cfg0.win 3).blk t).view.emb y : S4x2x2176x704.Idx) 1 : Fin 2) : ℕ) = y 1 := by blk_simp [idx t]
    split
    · rename_i hlt
      first | (exfalso; rw [hc] at hlt; omega) | blk_point [iblk, V, idx t]
    · rename_i hlt
      first | (exfalso; rw [hc] at hlt; omega) | blk_point [iblk, V, idx t]

/-- The array of the pair of preactivations, after the run. -/
theorem final3 (c : Dev nD) : (dats m 0 c).arrAt 3 (cfgs 0).N = pre (aH m c) (aWg m c) (aWu m c) := by
  refine (dats m 0 c).arrAt_eq_of_covers 3 _ (by decide +kernel) fun t _ y => ?_
  blk_simp
  rw [after0_3]
  exact point3 m c t y

theorem point4 (c : Dev nD) (t : Fin cfg0.N) (y) : k0_pay5 (iblk m c 0 t) (iblk m c 1 t) (iblk m c 2 t) y
    = hid (aH m c) (aWg m c) (aWu m c) (((cfg0.win 4).blk t).view.emb y) := by
  pointwise [k0_pay5, k0_pay1, k0_pay2, hid]
  simp only [mul_comm (aWg m c _), mul_comm (aWu m c _), zero_sub]
  blk_point [iblk, V, idx t]

/-- The array of the gated product, after the run. -/
theorem final4 (c : Dev nD) : (dats m 0 c).arrAt 4 (cfgs 0).N = hid (aH m c) (aWg m c) (aWu m c) := by
  refine (dats m 0 c).arrAt_eq_of_covers 4 _ (by decide +kernel) fun t _ y => ?_
  blk_simp
  rw [after0_4]; frame_out
  exact point4 m c t y

end Cert.UpValue

end
-- ==== Proof.Up.Claims.lean ====
/-  The claims about the feed-forward's gated product. -/
module

public import proofs.«01_k».proof.Defs
public import proofs.«01_k».proof.Proof.Gen.Up.Frame
public import proofs.«01_k».proof.Proof.Gen.UpIdeal.Frame
public import proofs.«01_k».proof.Proof.Gen.UpRefIdeal.Run
public import proofs.«01_k».proof.Proof.Up.Value
public import Idealize.ShloMosaic.Lib.Quiescent
public import Idealize.ShloMosaic.Lib.Claim

@[expose] public section

set_option maxRecDepth 16384

noncomputable section

namespace Cert.UpValue

open Idealize.ShloMosaic Idealize.ShloMosaic.TcCoe Idealize.SL.Sem

theorem frame_kernel : Cert.quiescent_Up := fun m ρ _ => Cert.Up.Gen.frame m ρ
theorem frame_ideal : Cert.quiescent_UpIdeal := fun m ρ _ => Cert.UpIdeal.Gen.frame m ρ

theorem frame_ref : Cert.quiescent_UpRefIdeal := fun m ρ _ =>
  (θ_run Cert.UpRefIdeal.defs _ _).mono (fun r h => ⟨fun c => (h c).2.2, sem_eq_zero_of_no_sems (by decide) r.2⟩)
    (Cert.UpRefIdeal.Value.run (F := Ideal) m ρ)

section

variable (m : (ℓ : Loc Cert.UpIdeal.nD Cert.UpIdeal.τ Cert.UpIdeal.sig) → Buf (Elt Ideal) ℓ) (g : Dev Cert.UpIdeal.nD → PrngReg)

/-- The kernel's run: its results at the reference's terms, its arguments unchanged. -/
theorem run_kernel : θ_run (Cert.UpIdeal.defs (F := Ideal)) (onTc (τ := Cert.UpIdeal.τ) (Cert.UpIdeal.main (F := Ideal))) ⟨m, fun _ => 0, g⟩ (fun r => ∀ c : Dev Cert.UpIdeal.nD,
    r.2.mem ((c.tc : Thread Cert.UpIdeal.nD Cert.UpIdeal.τ).loc Cert.UpIdeal.main_v0_0) = pre (aH m c) (aWg m c) (aWu m c)
    ∧ r.2.mem ((c.tc : Thread Cert.UpIdeal.nD Cert.UpIdeal.τ).loc Cert.UpIdeal.main_v0_1) = hid (aH m c) (aWg m c) (aWu m c)
    ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
    ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
    ∧ r.2.mem ((c.tc : Thread Cert.UpIdeal.nD Cert.UpIdeal.τ).loc Cert.UpIdeal.main_arg2) = m ((c.tc : Thread Cert.UpIdeal.nD Cert.UpIdeal.τ).loc Cert.UpIdeal.main_arg2)) := by
  run_from Cert.UpIdeal.Gen.run_main m g
  · exact final3 m c
  · exact final4 m c

variable (m' : (ℓ : Loc Cert.UpRefIdeal.nD Cert.UpRefIdeal.τ Cert.UpRefIdeal.sig) → Buf (Elt Ideal) ℓ) (g' : Dev Cert.UpRefIdeal.nD → PrngReg)

/-- The reference's run, its results named. -/
theorem run_ref : θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
    r.2.mem ((c.tc : Thread Cert.UpRefIdeal.nD Cert.UpRefIdeal.τ).loc Cert.UpRefIdeal.main_v11) = pre (m' ((c.tc : Thread Cert.UpRefIdeal.nD Cert.UpRefIdeal.τ).loc Cert.UpRefIdeal.main_arg0)) (m' ((c.tc : Thread Cert.UpRefIdeal.nD Cert.UpRefIdeal.τ).loc Cert.UpRefIdeal.main_arg1)) (m' ((c.tc : Thread Cert.UpRefIdeal.nD Cert.UpRefIdeal.τ).loc Cert.UpRefIdeal.main_arg2))
    ∧ r.2.mem ((c.tc : Thread Cert.UpRefIdeal.nD Cert.UpRefIdeal.τ).loc Cert.UpRefIdeal.main_v14) = hid (m' ((c.tc : Thread Cert.UpRefIdeal.nD Cert.UpRefIdeal.τ).loc Cert.UpRefIdeal.main_arg0)) (m' ((c.tc : Thread Cert.UpRefIdeal.nD Cert.UpRefIdeal.τ).loc Cert.UpRefIdeal.main_arg1)) (m' ((c.tc : Thread Cert.UpRefIdeal.nD Cert.UpRefIdeal.τ).loc Cert.UpRefIdeal.main_arg2))
    ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
    ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
    ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)) := by
  unfold pre hid
  exact Cert.UpRefIdeal.Value.run m' g'

end

/-- Each of the kernel's results is the reference's. -/
theorem algebraic : Cert.algebraic_UpIdeal_UpRefIdeal := by
  intro m g m' g' _ hagree
  refine ⟨_, _, run_kernel m g, (θ_run Cert.UpRefIdeal.defs _ _).mono (fun r h c => ?_) (run_ref m' g')⟩
  have e0 := (hagree c).1
  have e1 := (hagree c).2.1
  have e2 := (hagree c).2.2
  obtain ⟨h0, h1, hargs⟩ := h c
  rw [e0, e1, e2] at h0 h1
  exact ⟨h0, h1, hargs⟩

end Cert.UpValue

end
-- ==== Proof.Finite.lean ====
/-  Entries that are real numbers: what the sums and products of such entries are, and the derivative of the gate at one. -/
module

public import Idealize.ShloMosaic.PureOps.Ideal.Laws
public import Idealize.ShloMosaic.Lib.ReduceAll
public import Idealize.ShloMosaic.Lib.Pointwise

@[expose] public section

noncomputable section

namespace Cert.Finite

open Idealize.ShloMosaic

/-- The entry is a real number. -/
def IsR (x : EReal) : Prop := ∃ r : ℝ, x = (r : EReal)

theorem IsR.mul {x y : EReal} : IsR x → IsR y → IsR (x * y) := by
  rintro ⟨a, rfl⟩ ⟨b, rfl⟩; exact ⟨a * b, (EReal.coe_mul a b).symm⟩

theorem IsR.add {x y : EReal} : IsR x → IsR y → IsR (x + y) := by
  rintro ⟨a, rfl⟩ ⟨b, rfl⟩; exact ⟨a + b, (EReal.coe_add a b).symm⟩

/-- A finite sum of reals is real. -/
theorem IsR.sum {ι : Type} (s : Finset ι) (f : ι → EReal) (h : ∀ i, IsR (f i)) : IsR (∑ i ∈ s, f i) := by
  classical
  induction s using Finset.induction_on with
  | empty => exact ⟨0, by simp⟩
  | insert a s ha ih => rw [Finset.sum_insert ha]; exact (h a).add ih

/-- A number whose absolute value is below `⊤` is real. -/
theorem isR_of_abs_lt {x : EReal} (h : max x (-x) < ⊤) : IsR x := by
  induction x with
  | bot => simp at h
  | top => simp at h
  | coe r => exact ⟨r, rfl⟩

/-- The same of a comparison, as the printed predicate writes it. -/
theorem isR_of_olt {x : Ideal .f32} (h : Ideal.cmp .olt (max x (-x)) (Ideal.ofBits .f32 0x7F800000#32) = 1#1) : IsR x := by
  refine isR_of_abs_lt ?_
  have e : (Ideal.ofBits .f32 0x7F800000#32 : EReal) = ⊤ := by simp [Ideal.ofBits, Ideal.ieee]
  rw [e] at h
  by_contra hn
  simp [Ideal.cmp, hn] at h

/-- The derivative of `a ↦ P·(a·σ(a))`, written as one product, is the sum that the chain rule gives, `P` and `a` real. -/
theorem gate {P a : EReal} (hP : IsR P) (ha : IsR a) :
    P * (Ideal.div 1 (1 + Ideal.exp (-a)) * (1 + a * (1 - Ideal.div 1 (1 + Ideal.exp (-a)))))
      = P * Ideal.div 1 (1 + Ideal.exp (-a))
        + a * P * (Ideal.div 1 (1 + Ideal.exp (-a)) * (1 - Ideal.div 1 (1 + Ideal.exp (-a)))) := by
  obtain ⟨p, rfl⟩ := hP
  obtain ⟨r, rfl⟩ := ha
  have hs : Ideal.div 1 (1 + Ideal.exp (-(r : EReal))) = (((1 + Real.exp (-r))⁻¹ : ℝ) : EReal) := Ideal.logistic_coe r
  rw [hs, ← EReal.coe_one]
  norm_cast
  ring

end Cert.Finite

end
-- ==== Proof.Down.Ref.lean ====
/-  The reference's results for the gradient through the feed-forward's gate: the terms its run ends with, over typed variables. -/
module

public import proofs.«01_k».proof.Proof.Gen.DownRefIdeal.Run
public import Idealize.ShloMosaic.Lib.Pointwise

@[expose] public section

set_option maxRecDepth 16384

noncomputable section

namespace Cert.DownValue

open Cert.DownRefIdeal Cert.DownRefIdeal.Gen Cert.DownRefIdeal.Value Idealize.ShloMosaic Idealize.ShloMosaic.TcCoe Idealize.SL.Sem

/-- The reference's gradient of the gate preactivation. -/
def dA (D : FVec Ideal S2176x1024 .bf16) (W : FVec Ideal S4x704x1024 .bf16) (A : FVec Ideal S4x2x2176x704 .bf16) : FVec Ideal S4x2176x704 .bf16 :=
  truncf .bf16 (addf (mulf (mulf (transpose S4x2176x704 [1, 0, 2] (Host.dotGeneral dot_S2176x1024_S4x704x1024_S2176x4x704_1_2_0_01_n_n none (extf .f32 D bitsLt_bf16_f32) (extf .f32 W bitsLt_bf16_f32)) transposes_S2176x4x704_S4x2176x704_1_0_2) (extf .f32 (shapeCast _ (extractStridedSlice S4x1x2176x704 ![0, 1, 0, 0] A slices_S4x2x2176x704_S4x1x2176x704_0_1_0_0) shapeCasts_S4x1x2176x704_S4x2176x704) bitsLt_bf16_f32)) (Host.divf (broadcastInDim S4x2176x704 ![] bcast_S_S4x2176x704 (constant S_ .f32 0x3F800000#32)) (addf (broadcastInDim S4x2176x704 ![] bcast_S_S4x2176x704 (constant S_ .f32 0x3F800000#32)) (Host.exp (Host.negf (extf .f32 (shapeCast _ (extractStridedSlice S4x1x2176x704 ![0, 0, 0, 0] A slices_S4x2x2176x704_S4x1x2176x704_0_0_0_0) shapeCasts_S4x1x2176x704_S4x2176x704) bitsLt_bf16_f32)))))) (mulf (mulf (extf .f32 (shapeCast _ (extractStridedSlice S4x1x2176x704 ![0, 0, 0, 0] A slices_S4x2x2176x704_S4x1x2176x704_0_0_0_0) shapeCasts_S4x1x2176x704_S4x2176x704) bitsLt_bf16_f32) (mulf (transpose S4x2176x704 [1, 0, 2] (Host.dotGeneral dot_S2176x1024_S4x704x1024_S2176x4x704_1_2_0_01_n_n none (extf .f32 D bitsLt_bf16_f32) (extf .f32 W bitsLt_bf16_f32)) transposes_S2176x4x704_S4x2176x704_1_0_2) (extf .f32 (shapeCast _ (extractStridedSlice S4x1x2176x704 ![0, 1, 0, 0] A slices_S4x2x2176x704_S4x1x2176x704_0_1_0_0) shapeCasts_S4x1x2176x704_S4x2176x704) bitsLt_bf16_f32))) (mulf (Host.divf (broadcastInDim S4x2176x704 ![] bcast_S_S4x2176x704 (constant S_ .f32 0x3F800000#32)) (addf (broadcastInDim S4x2176x704 ![] bcast_S_S4x2176x704 (constant S_ .f32 0x3F800000#32)) (Host.exp (Host.negf (extf .f32 (shapeCast _ (extractStridedSlice S4x1x2176x704 ![0, 0, 0, 0] A slices_S4x2x2176x704_S4x1x2176x704_0_0_0_0) shapeCasts_S4x1x2176x704_S4x2176x704) bitsLt_bf16_f32))))) (subf (broadcastInDim S4x2176x704 ![] bcast_S_S4x2176x704 (constant S_ .f32 0x3F800000#32)) (Host.divf (broadcastInDim S4x2176x704 ![] bcast_S_S4x2176x704 (constant S_ .f32 0x3F800000#32)) (addf (broadcastInDim S4x2176x704 ![] bcast_S_S4x2176x704 (constant S_ .f32 0x3F800000#32)) (Host.exp (Host.negf (extf .f32 (shapeCast _ (extractStridedSlice S4x1x2176x704 ![0, 0, 0, 0] A slices_S4x2x2176x704_S4x1x2176x704_0_0_0_0) shapeCasts_S4x1x2176x704_S4x2176x704) bitsLt_bf16_f32))))))))) bitsLt_bf16_f32

/-- The reference's gradient of the linear preactivation. -/
def dB (D : FVec Ideal S2176x1024 .bf16) (W : FVec Ideal S4x704x1024 .bf16) (A : FVec Ideal S4x2x2176x704 .bf16) : FVec Ideal S4x2176x704 .bf16 :=
  truncf .bf16 (mulf (mulf (extf .f32 (shapeCast _ (extractStridedSlice S4x1x2176x704 ![0, 0, 0, 0] A slices_S4x2x2176x704_S4x1x2176x704_0_0_0_0) shapeCasts_S4x1x2176x704_S4x2176x704) bitsLt_bf16_f32) (Host.divf (broadcastInDim S4x2176x704 ![] bcast_S_S4x2176x704 (constant S_ .f32 0x3F800000#32)) (addf (broadcastInDim S4x2176x704 ![] bcast_S_S4x2176x704 (constant S_ .f32 0x3F800000#32)) (Host.exp (Host.negf (extf .f32 (shapeCast _ (extractStridedSlice S4x1x2176x704 ![0, 0, 0, 0] A slices_S4x2x2176x704_S4x1x2176x704_0_0_0_0) shapeCasts_S4x1x2176x704_S4x2176x704) bitsLt_bf16_f32)))))) (transpose S4x2176x704 [1, 0, 2] (Host.dotGeneral dot_S2176x1024_S4x704x1024_S2176x4x704_1_2_0_01_n_n none (extf .f32 D bitsLt_bf16_f32) (extf .f32 W bitsLt_bf16_f32)) transposes_S2176x4x704_S4x2176x704_1_0_2)) bitsLt_bf16_f32

end Cert.DownValue

end
-- ==== Proof.Down.Value.lean ====
/-  The result arrays of the kernel for the gradient through the feed-forward's gate: each is the reference's term of the argument arrays. -/
module

public import proofs.«01_k».proof.Proof.Gen.DownIdeal.Frame
public import proofs.«01_k».proof.Defs
public import proofs.«01_k».proof.Proof.Gen.Pre_down_finite
public import proofs.«01_k».proof.Proof.Finite
public import proofs.«01_k».proof.Proof.Down.Ref
public import Idealize.ShloMosaic.Lib.Pipeline.ValueKit
public import Idealize.ShloMosaic.Lib.Pointwise

@[expose] public section

set_option maxRecDepth 16384

noncomputable section

namespace Cert.DownValue

open Cert.DownIdeal Cert.DownIdeal.Gen Idealize.ShloMosaic Idealize.ShloMosaic.TcCoe Idealize.SL.Sem
open Idealize.ShloMosaic.Pipeline (Dat)

open Cert.Finite

variable (m : (ℓ : Loc nD τ sig) → Buf (Elt Ideal) ℓ)

/-- The argument arrays, at their types. -/
abbrev aD (c : Dev nD) : FVec Ideal S2176x1024 .bf16 := m ((c : Thread nD τ).loc main_arg0)
abbrev aW (c : Dev nD) : FVec Ideal S4x704x1024 .bf16 := m ((c : Thread nD τ).loc main_arg1)
abbrev aA (c : Dev nD) : FVec Ideal S4x2x2176x704 .bf16 := m ((c : Thread nD τ).loc main_arg2)

/-- Every entry of the arguments is a real number. -/
def FinDown : Prop := ∀ c : Dev nD, (∀ i, IsR (aD m c i)) ∧ (∀ i, IsR (aW m c i)) ∧ ∀ i, IsR (aA m c i)

instance : Subsingleton Cert.Pre_down_finite.S_.Idx := ⟨fun a b => funext fun d => d.elim0⟩

/-- What the precondition says of the arguments. -/
theorem fin_of_pre (h : Cert.Pre_DownIdeal_down_finite m) : FinDown m := by
  intro c
  have e := congrFun (h c) ix0
  obtain ⟨e, e2⟩ := IntOp.andi_eq_one.1 e
  obtain ⟨e0, e1⟩ := IntOp.andi_eq_one.1 e
  refine ⟨fun i => ?_, fun i => ?_, fun i => ?_⟩
  · exact isR_of_olt (Host.reduce_andi_all _ _ _ _ _ e0 i)
  · exact isR_of_olt (Host.reduce_andi_all _ _ _ _ _ e1 i)
  · exact isR_of_olt (Host.reduce_andi_all _ _ _ _ _ e2 i)

/-- The block every window is at, at each point. -/
theorem idx : ∀ t : Fin cfg0.N, win0_0.index t = ![(grid0.coords t 1).val, 0] ∧ win0_1.index t = ![(grid0.coords t 0).val, 0, 0] ∧ win0_2.index t = ![(grid0.coords t 0).val, 0, (grid0.coords t 1).val, 0] ∧ win0_3.index t = ![(grid0.coords t 0).val, (grid0.coords t 1).val, 0] ∧ win0_4.index t = ![(grid0.coords t 0).val, (grid0.coords t 1).val, 0] :=
  (by decide +kernel : ∀ t : Fin grid0.N, _)

theorem point3 (hf : FinDown m) (c : Dev nD) (t : Fin cfg0.N) (y) : out0_3 (iblk m c 0 t) (iblk m c 1 t) (iblk m c 2 t) y
    = dA (aD m c) (aW m c) (aA m c) (((cfg0.win 3).blk t).view.emb y) := by
  frame_out
  pointwise [k0_pay1, k0_pay2, k0_pay3, k0_pay4, k0_pay5, k0_pay6, dA]
  simp only [zero_sub]
  refine Eq.trans ?_ (gate ((IsR.sum _ _ fun k => ((hf c).1 _).mul ((hf c).2.1 _)).mul ((hf c).2.2 _)) ((hf c).2.2 _))
  blk_point [iblk, V, idx t]

/-- The array of the gradient of the gate preactivation, after the run. -/
theorem final3 (hf : FinDown m) (c : Dev nD) : (dats m 0 c).arrAt 3 (cfgs 0).N = dA (aD m c) (aW m c) (aA m c) := by
  refine (dats m 0 c).arrAt_eq_of_covers 3 _ (by decide +kernel) fun t _ y => ?_
  blk_simp
  rw [after0_3]
  exact point3 m hf c t y

theorem point4 (c : Dev nD) (t : Fin cfg0.N) (y) : out0_4 (iblk m c 0 t) (iblk m c 1 t) (iblk m c 2 t) y
    = dB (aD m c) (aW m c) (aA m c) (((cfg0.win 4).blk t).view.emb y) := by
  frame_out
  pointwise [k0_pay1, k0_pay2, k0_pay3, k0_pay4, k0_pay5, k0_pay6, dB]
  simp only [zero_sub]
  rw [mul_comm]
  blk_point [iblk, V, idx t]

/-- The array of the gradient of the linear preactivation, after the run. -/
theorem final4 (_ : FinDown m) (c : Dev nD) : (dats m 0 c).arrAt 4 (cfgs 0).N = dB (aD m c) (aW m c) (aA m c) := by
  refine (dats m 0 c).arrAt_eq_of_covers 4 _ (by decide +kernel) fun t _ y => ?_
  blk_simp
  rw [after0_4]
  exact point4 m c t y

end Cert.DownValue

end
-- ==== Proof.Down.Claims.lean ====
/-  The claims about the gradient through the feed-forward's gate. -/
module

public import proofs.«01_k».proof.Defs
public import proofs.«01_k».proof.Proof.Gen.Down.Frame
public import proofs.«01_k».proof.Proof.Gen.DownIdeal.Frame
public import proofs.«01_k».proof.Proof.Gen.DownRefIdeal.Run
public import proofs.«01_k».proof.Proof.Down.Value
public import Idealize.ShloMosaic.Lib.Quiescent
public import Idealize.ShloMosaic.Lib.Claim

@[expose] public section

set_option maxRecDepth 16384

noncomputable section

namespace Cert.DownValue

open Idealize.ShloMosaic Idealize.ShloMosaic.TcCoe Idealize.SL.Sem

theorem frame_kernel : Cert.quiescent_Down := fun m ρ _ => Cert.Down.Gen.frame m ρ
theorem frame_ideal : Cert.quiescent_DownIdeal := fun m ρ _ => Cert.DownIdeal.Gen.frame m ρ

theorem frame_ref : Cert.quiescent_DownRefIdeal := fun m ρ _ =>
  (θ_run Cert.DownRefIdeal.defs _ _).mono (fun r h => ⟨fun c => (h c).2.2, sem_eq_zero_of_no_sems (by decide) r.2⟩)
    (Cert.DownRefIdeal.Value.run (F := Ideal) m ρ)

section

variable (m : (ℓ : Loc Cert.DownIdeal.nD Cert.DownIdeal.τ Cert.DownIdeal.sig) → Buf (Elt Ideal) ℓ) (g : Dev Cert.DownIdeal.nD → PrngReg)

/-- The kernel's run: its results at the reference's terms, its arguments unchanged. -/
theorem run_kernel (hf : FinDown m) : θ_run (Cert.DownIdeal.defs (F := Ideal)) (onTc (τ := Cert.DownIdeal.τ) (Cert.DownIdeal.main (F := Ideal))) ⟨m, fun _ => 0, g⟩ (fun r => ∀ c : Dev Cert.DownIdeal.nD,
    r.2.mem ((c.tc : Thread Cert.DownIdeal.nD Cert.DownIdeal.τ).loc Cert.DownIdeal.main_v0_0) = dA (aD m c) (aW m c) (aA m c)
    ∧ r.2.mem ((c.tc : Thread Cert.DownIdeal.nD Cert.DownIdeal.τ).loc Cert.DownIdeal.main_v0_1) = dB (aD m c) (aW m c) (aA m c)
    ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
    ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
    ∧ r.2.mem ((c.tc : Thread Cert.DownIdeal.nD Cert.DownIdeal.τ).loc Cert.DownIdeal.main_arg2) = m ((c.tc : Thread Cert.DownIdeal.nD Cert.DownIdeal.τ).loc Cert.DownIdeal.main_arg2)) := by
  run_from Cert.DownIdeal.Gen.run_main m g
  · exact final3 m hf c
  · exact final4 m hf c

variable (m' : (ℓ : Loc Cert.DownRefIdeal.nD Cert.DownRefIdeal.τ Cert.DownRefIdeal.sig) → Buf (Elt Ideal) ℓ) (g' : Dev Cert.DownRefIdeal.nD → PrngReg)

/-- The reference's run, its results named. -/
theorem run_ref : θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
    r.2.mem ((c.tc : Thread Cert.DownRefIdeal.nD Cert.DownRefIdeal.τ).loc Cert.DownRefIdeal.main_v16) = dA (m' ((c.tc : Thread Cert.DownRefIdeal.nD Cert.DownRefIdeal.τ).loc Cert.DownRefIdeal.main_arg0)) (m' ((c.tc : Thread Cert.DownRefIdeal.nD Cert.DownRefIdeal.τ).loc Cert.DownRefIdeal.main_arg1)) (m' ((c.tc : Thread Cert.DownRefIdeal.nD Cert.DownRefIdeal.τ).loc Cert.DownRefIdeal.main_arg2))
    ∧ r.2.mem ((c.tc : Thread Cert.DownRefIdeal.nD Cert.DownRefIdeal.τ).loc Cert.DownRefIdeal.main_v17) = dB (m' ((c.tc : Thread Cert.DownRefIdeal.nD Cert.DownRefIdeal.τ).loc Cert.DownRefIdeal.main_arg0)) (m' ((c.tc : Thread Cert.DownRefIdeal.nD Cert.DownRefIdeal.τ).loc Cert.DownRefIdeal.main_arg1)) (m' ((c.tc : Thread Cert.DownRefIdeal.nD Cert.DownRefIdeal.τ).loc Cert.DownRefIdeal.main_arg2))
    ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
    ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
    ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)) := by
  unfold dA dB
  exact Cert.DownRefIdeal.Value.run m' g'

end

/-- Each of the kernel's results is the reference's. -/
theorem algebraic : Cert.algebraic_DownIdeal_DownRefIdeal_pre_down_finite := by
  intro m g m' g' hpre hagree
  refine ⟨_, _, run_kernel m g (fin_of_pre m hpre), (θ_run Cert.DownRefIdeal.defs _ _).mono (fun r h c => ?_) (run_ref m' g')⟩
  have e0 := (hagree c).1
  have e1 := (hagree c).2.1
  have e2 := (hagree c).2.2
  obtain ⟨h0, h1, hargs⟩ := h c
  rw [e0, e1, e2] at h0 h1
  exact ⟨h0, h1, hargs⟩

end Cert.DownValue

end
-- ==== Proof.Dw.DwdRef.lean ====
/-  The reference's results for the gradients of the feed-forward weights: the terms its run ends with, over typed variables. -/
module

public import proofs.«01_k».proof.Proof.Gen.DwdRefIdeal.Run
public import Idealize.ShloMosaic.Lib.Pointwise

@[expose] public section

set_option maxRecDepth 16384

noncomputable section

namespace Cert.DwdValue

open Cert.DwdRefIdeal Cert.DwdRefIdeal.Gen Cert.DwdRefIdeal.Value Idealize.ShloMosaic Idealize.ShloMosaic.TcCoe Idealize.SL.Sem

/-- The reference's gradient of the down weights. -/
def dWd (H : FVec Ideal S4x2176x704 .bf16) (D : FVec Ideal S2176x1024 .bf16) : FVec Ideal S4x704x1024 .bf16 :=
  truncf .bf16 (transpose S4x704x1024 [1, 2, 0] (Host.dotGeneral dot_S2176x1024_S4x2176x704_S1024x4x704_0_1_1_02_n_n none (extf .f32 D bitsLt_bf16_f32) (extf .f32 H bitsLt_bf16_f32)) transposes_S1024x4x704_S4x704x1024_1_2_0) bitsLt_bf16_f32

end Cert.DwdValue

end
-- ==== Proof.Dw.DwuRef.lean ====
/-  The reference's results for the gradients of the feed-forward weights: the terms its run ends with, over typed variables. -/
module

public import proofs.«01_k».proof.Proof.Gen.DwuRefIdeal.Run
public import Idealize.ShloMosaic.Lib.Pointwise

@[expose] public section

set_option maxRecDepth 16384

noncomputable section

namespace Cert.DwuValue

open Cert.DwuRefIdeal Cert.DwuRefIdeal.Gen Cert.DwuRefIdeal.Value Idealize.ShloMosaic Idealize.ShloMosaic.TcCoe Idealize.SL.Sem

/-- The reference's gradient of the up weights. -/
def dWu (H : FVec Ideal S4x2176x704 .bf16) (D : FVec Ideal S2176x1024 .bf16) : FVec Ideal S4x704x1024 .bf16 :=
  truncf .bf16 (Host.dotGeneral dot_S4x704x2176_S2176x1024_S4x704x1024_2_0_01_1_n_n none (transpose S4x704x2176 [0, 2, 1] (extf .f32 H bitsLt_bf16_f32) transposes_S4x2176x704_S4x704x2176_0_2_1) (extf .f32 D bitsLt_bf16_f32)) bitsLt_bf16_f32

end Cert.DwuValue

end
-- ==== Proof.Dw.Value.lean ====
/-  The result arrays of the kernel for the gradients of the feed-forward weights: each is the reference's term of the argument arrays. -/
module

public import proofs.«01_k».proof.Proof.Gen.DwIdeal.Frame
public import proofs.«01_k».proof.Proof.Dw.DwdRef
public import proofs.«01_k».proof.Proof.Dw.DwuRef
public import Idealize.ShloMosaic.Lib.Pipeline.ValueKit
public import Idealize.ShloMosaic.Lib.Pointwise

@[expose] public section

set_option maxRecDepth 16384

noncomputable section

namespace Cert.DwValue

open Cert.DwIdeal Cert.DwIdeal.Gen Idealize.ShloMosaic Idealize.ShloMosaic.TcCoe Idealize.SL.Sem
open Idealize.ShloMosaic.Pipeline (Dat)

variable (m : (ℓ : Loc nD τ sig) → Buf (Elt Ideal) ℓ)

/-- The argument arrays, at their types. -/
abbrev aH (c : Dev nD) : FVec Ideal S4x2176x704 .bf16 := m ((c : Thread nD τ).loc main_arg0)
abbrev aD (c : Dev nD) : FVec Ideal S2176x1024 .bf16 := m ((c : Thread nD τ).loc main_arg1)

/-- The block every window is at, at each point. -/
theorem idx : ∀ t : Fin cfg0.N, win0_0.index t = ![(grid0.coords t 0).val, 0, 0] ∧ win0_1.index t = ![0, 0, 0] ∧ win0_2.index t = ![(grid0.coords t 0).val, 0, 0] :=
  (by decide +kernel : ∀ t : Fin grid0.N, _)

theorem point2_dwd (c : Dev nD) (t : Fin cfg0.N) (y) : k0_pay1 (iblk m c 0 t) (iblk m c 1 t) y
    = Cert.DwdValue.dWd (aH m c) (aD m c) (((cfg0.win 2).blk t).view.emb y) := by
  pointwise [k0_pay1, Cert.DwdValue.dWd]
  simp only [mul_comm (aD m c _)]
  blk_point [iblk, V, idx t]

/-- The array of the gradient of the down weights, after the run. -/
theorem final2_dwd (c : Dev nD) : (dats m 0 c).arrAt 2 (cfgs 0).N = Cert.DwdValue.dWd (aH m c) (aD m c) := by
  refine (dats m 0 c).arrAt_eq_of_covers 2 _ (by decide +kernel) fun t _ y => ?_
  blk_simp
  rw [after0_2]; frame_out
  exact point2_dwd m c t y

theorem point2_dwu (c : Dev nD) (t : Fin cfg0.N) (y) : k0_pay1 (iblk m c 0 t) (iblk m c 1 t) y
    = Cert.DwuValue.dWu (aH m c) (aD m c) (((cfg0.win 2).blk t).view.emb y) := by
  pointwise [k0_pay1, Cert.DwuValue.dWu]
  blk_point [iblk, V, idx t]

/-- The array of the gradient of the up weights, after the run. -/
theorem final2_dwu (c : Dev nD) : (dats m 0 c).arrAt 2 (cfgs 0).N = Cert.DwuValue.dWu (aH m c) (aD m c) := by
  refine (dats m 0 c).arrAt_eq_of_covers 2 _ (by decide +kernel) fun t _ y => ?_
  blk_simp
  rw [after0_2]; frame_out
  exact point2_dwu m c t y

end Cert.DwValue

end
-- ==== Proof.Dw.Claims.lean ====
/-  The claims about the gradients of the feed-forward weights. -/
module

public import proofs.«01_k».proof.Defs
public import proofs.«01_k».proof.Proof.Gen.Dw.Frame
public import proofs.«01_k».proof.Proof.Gen.DwIdeal.Frame
public import proofs.«01_k».proof.Proof.Gen.DwdRefIdeal.Run
public import proofs.«01_k».proof.Proof.Gen.DwuRefIdeal.Run
public import proofs.«01_k».proof.Proof.Dw.Value
public import Idealize.ShloMosaic.Lib.Quiescent
public import Idealize.ShloMosaic.Lib.Claim

@[expose] public section

set_option maxRecDepth 16384

noncomputable section

namespace Cert.DwValue

open Idealize.ShloMosaic Idealize.ShloMosaic.TcCoe Idealize.SL.Sem

theorem frame_kernel : Cert.quiescent_Dw := fun m ρ _ => Cert.Dw.Gen.frame m ρ
theorem frame_ideal : Cert.quiescent_DwIdeal := fun m ρ _ => Cert.DwIdeal.Gen.frame m ρ

theorem frame_ref_dwd : Cert.quiescent_DwdRefIdeal := fun m ρ _ =>
  (θ_run Cert.DwdRefIdeal.defs _ _).mono (fun r h => ⟨fun c => (h c).2, sem_eq_zero_of_no_sems (by decide) r.2⟩)
    (Cert.DwdRefIdeal.Value.run (F := Ideal) m ρ)

section

variable (m : (ℓ : Loc Cert.DwIdeal.nD Cert.DwIdeal.τ Cert.DwIdeal.sig) → Buf (Elt Ideal) ℓ) (g : Dev Cert.DwIdeal.nD → PrngReg)

/-- The kernel's run: its results at the reference's terms, its arguments unchanged. -/
theorem run_kernel_dwd : θ_run (Cert.DwIdeal.defs (F := Ideal)) (onTc (τ := Cert.DwIdeal.τ) (Cert.DwIdeal.main (F := Ideal))) ⟨m, fun _ => 0, g⟩ (fun r => ∀ c : Dev Cert.DwIdeal.nD,
    r.2.mem ((c.tc : Thread Cert.DwIdeal.nD Cert.DwIdeal.τ).loc Cert.DwIdeal.main_v1) = Cert.DwdValue.dWd (aH m c) (aD m c)
    ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
    ∧ r.2.mem ((c.tc : Thread Cert.DwIdeal.nD Cert.DwIdeal.τ).loc Cert.DwIdeal.main_arg1) = m ((c.tc : Thread Cert.DwIdeal.nD Cert.DwIdeal.τ).loc Cert.DwIdeal.main_arg1)) := by
  run_from Cert.DwIdeal.Gen.run_main m g
  · exact final2_dwd m c

variable (m' : (ℓ : Loc Cert.DwdRefIdeal.nD Cert.DwdRefIdeal.τ Cert.DwdRefIdeal.sig) → Buf (Elt Ideal) ℓ) (g' : Dev Cert.DwdRefIdeal.nD → PrngReg)

/-- The reference's run, its results named. -/
theorem run_ref_dwd : θ_run (Cert.DwdRefIdeal.defs (F := Ideal)) (onTc (τ := Cert.DwdRefIdeal.τ) (Cert.DwdRefIdeal.main (F := Ideal))) ⟨m', fun _ => 0, g'⟩ (fun r => ∀ c : Dev Cert.DwdRefIdeal.nD,
    r.2.mem ((c.tc : Thread Cert.DwdRefIdeal.nD Cert.DwdRefIdeal.τ).loc Cert.DwdRefIdeal.main_v6) = Cert.DwdValue.dWd (m' ((c.tc : Thread Cert.DwdRefIdeal.nD Cert.DwdRefIdeal.τ).loc Cert.DwdRefIdeal.main_arg0)) (m' ((c.tc : Thread Cert.DwdRefIdeal.nD Cert.DwdRefIdeal.τ).loc Cert.DwdRefIdeal.main_arg1))
    ∧ r.2.mem ((c.tc : Thread Cert.DwdRefIdeal.nD Cert.DwdRefIdeal.τ).loc Cert.DwdRefIdeal.main_arg0) = m' ((c.tc : Thread Cert.DwdRefIdeal.nD Cert.DwdRefIdeal.τ).loc Cert.DwdRefIdeal.main_arg0)
    ∧ r.2.mem ((c.tc : Thread Cert.DwdRefIdeal.nD Cert.DwdRefIdeal.τ).loc Cert.DwdRefIdeal.main_arg1) = m' ((c.tc : Thread Cert.DwdRefIdeal.nD Cert.DwdRefIdeal.τ).loc Cert.DwdRefIdeal.main_arg1)) := by
  unfold Cert.DwdValue.dWd
  exact Cert.DwdRefIdeal.Value.run m' g'

end

/-- Each of the kernel's results is the reference's. -/
theorem algebraic_dwd : Cert.algebraic_DwIdeal_DwdRefIdeal := by
  intro m g m' g' _ hagree
  refine ⟨_, run_kernel_dwd m g, (θ_run Cert.DwdRefIdeal.defs _ _).mono (fun r h c => ?_) (run_ref_dwd m' g')⟩
  have e0 := (hagree c).1
  have e1 := (hagree c).2
  obtain ⟨h0, hargs⟩ := h c
  rw [e0, e1] at h0
  exact ⟨h0, hargs⟩

theorem frame_ref_dwu : Cert.quiescent_DwuRefIdeal := fun m ρ _ =>
  (θ_run Cert.DwuRefIdeal.defs _ _).mono (fun r h => ⟨fun c => (h c).2, sem_eq_zero_of_no_sems (by decide) r.2⟩)
    (Cert.DwuRefIdeal.Value.run (F := Ideal) m ρ)

section

variable (m : (ℓ : Loc Cert.DwIdeal.nD Cert.DwIdeal.τ Cert.DwIdeal.sig) → Buf (Elt Ideal) ℓ) (g : Dev Cert.DwIdeal.nD → PrngReg)

/-- The kernel's run: its results at the reference's terms, its arguments unchanged. -/
theorem run_kernel_dwu : θ_run (Cert.DwIdeal.defs (F := Ideal)) (onTc (τ := Cert.DwIdeal.τ) (Cert.DwIdeal.main (F := Ideal))) ⟨m, fun _ => 0, g⟩ (fun r => ∀ c : Dev Cert.DwIdeal.nD,
    r.2.mem ((c.tc : Thread Cert.DwIdeal.nD Cert.DwIdeal.τ).loc Cert.DwIdeal.main_v1) = Cert.DwuValue.dWu (aH m c) (aD m c)
    ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
    ∧ r.2.mem ((c.tc : Thread Cert.DwIdeal.nD Cert.DwIdeal.τ).loc Cert.DwIdeal.main_arg1) = m ((c.tc : Thread Cert.DwIdeal.nD Cert.DwIdeal.τ).loc Cert.DwIdeal.main_arg1)) := by
  run_from Cert.DwIdeal.Gen.run_main m g
  · exact final2_dwu m c

variable (m' : (ℓ : Loc Cert.DwuRefIdeal.nD Cert.DwuRefIdeal.τ Cert.DwuRefIdeal.sig) → Buf (Elt Ideal) ℓ) (g' : Dev Cert.DwuRefIdeal.nD → PrngReg)

/-- The reference's run, its results named. -/
theorem run_ref_dwu : θ_run (Cert.DwuRefIdeal.defs (F := Ideal)) (onTc (τ := Cert.DwuRefIdeal.τ) (Cert.DwuRefIdeal.main (F := Ideal))) ⟨m', fun _ => 0, g'⟩ (fun r => ∀ c : Dev Cert.DwuRefIdeal.nD,
    r.2.mem ((c.tc : Thread Cert.DwuRefIdeal.nD Cert.DwuRefIdeal.τ).loc Cert.DwuRefIdeal.main_v7) = Cert.DwuValue.dWu (m' ((c.tc : Thread Cert.DwuRefIdeal.nD Cert.DwuRefIdeal.τ).loc Cert.DwuRefIdeal.main_arg0)) (m' ((c.tc : Thread Cert.DwuRefIdeal.nD Cert.DwuRefIdeal.τ).loc Cert.DwuRefIdeal.main_arg1))
    ∧ r.2.mem ((c.tc : Thread Cert.DwuRefIdeal.nD Cert.DwuRefIdeal.τ).loc Cert.DwuRefIdeal.main_arg0) = m' ((c.tc : Thread Cert.DwuRefIdeal.nD Cert.DwuRefIdeal.τ).loc Cert.DwuRefIdeal.main_arg0)
    ∧ r.2.mem ((c.tc : Thread Cert.DwuRefIdeal.nD Cert.DwuRefIdeal.τ).loc Cert.DwuRefIdeal.main_arg1) = m' ((c.tc : Thread Cert.DwuRefIdeal.nD Cert.DwuRefIdeal.τ).loc Cert.DwuRefIdeal.main_arg1)) := by
  unfold Cert.DwuValue.dWu
  exact Cert.DwuRefIdeal.Value.run m' g'

end

/-- Each of the kernel's results is the reference's. -/
theorem algebraic_dwu : Cert.algebraic_DwIdeal_DwuRefIdeal := by
  intro m g m' g' _ hagree
  refine ⟨_, run_kernel_dwu m g, (θ_run Cert.DwuRefIdeal.defs _ _).mono (fun r h c => ?_) (run_ref_dwu m' g')⟩
  have e0 := (hagree c).1
  have e1 := (hagree c).2
  obtain ⟨h0, hargs⟩ := h c
  rw [e0, e1] at h0
  exact ⟨h0, hargs⟩

end Cert.DwValue

end
-- ==== Proof.Dx.Ref.lean ====
/-  The reference's results for the gradient of the feed-forward's input: the terms its run ends with, over typed variables. -/
module

public import proofs.«01_k».proof.Proof.Gen.DxRefIdeal.Run
public import Idealize.ShloMosaic.Lib.Pointwise

@[expose] public section

set_option maxRecDepth 16384

noncomputable section

namespace Cert.DxValue

open Cert.DxRefIdeal Cert.DxRefIdeal.Gen Cert.DxRefIdeal.Value Idealize.ShloMosaic Idealize.ShloMosaic.TcCoe Idealize.SL.Sem

/-- The reference's gradient of the feed-forward input. -/
def dH (Da : FVec Ideal S4x2176x704 .bf16) (Db : FVec Ideal S4x2176x704 .bf16) (Wg : FVec Ideal S4x704x1024 .bf16) (Wu : FVec Ideal S4x704x1024 .bf16) (Z : FVec Ideal S2176x1024 .f32) : FVec Ideal S2176x1024 .f32 :=
  addf (addf (mulf (broadcastInDim S2176x1024 ![] bcast_S_S2176x1024 (constant S_ .f32 0x3FB504F3#32)) Z) (Host.dotGeneral dot_S4x704x2176_S4x704x1024_S2176x1024_01_01_2_2_n_n none (transpose S4x704x2176 [0, 2, 1] (extf .f32 Db bitsLt_bf16_f32) transposes_S4x2176x704_S4x704x2176_0_2_1) (extf .f32 Wu bitsLt_bf16_f32))) (Host.dotGeneral dot_S4x704x2176_S4x704x1024_S2176x1024_01_01_2_2_n_n none (transpose S4x704x2176 [0, 2, 1] (extf .f32 Da bitsLt_bf16_f32) transposes_S4x2176x704_S4x704x2176_0_2_1) (extf .f32 Wg bitsLt_bf16_f32))

end Cert.DxValue

end
-- ==== Proof.Dx.Value.lean ====
/-  The result arrays of the kernel for the gradient of the feed-forward's input: each is the reference's term of the argument arrays. -/
module

public import proofs.«01_k».proof.Proof.Gen.DxIdeal.Frame
public import proofs.«01_k».proof.Proof.Dx.Ref
public import Idealize.ShloMosaic.Lib.Pipeline.ValueKit
public import Idealize.ShloMosaic.Lib.Pointwise

@[expose] public section

set_option maxRecDepth 16384

noncomputable section

namespace Cert.DxValue

open Cert.DxIdeal Cert.DxIdeal.Gen Idealize.ShloMosaic Idealize.ShloMosaic.TcCoe Idealize.SL.Sem
open Idealize.ShloMosaic.Pipeline (Dat)

variable (m : (ℓ : Loc nD τ sig) → Buf (Elt Ideal) ℓ)

/-- The argument arrays, at their types. -/
abbrev aDa (c : Dev nD) : FVec Ideal S4x2176x704 .bf16 := m ((c : Thread nD τ).loc main_arg0)
abbrev aDb (c : Dev nD) : FVec Ideal S4x2176x704 .bf16 := m ((c : Thread nD τ).loc main_arg1)
abbrev aWg (c : Dev nD) : FVec Ideal S4x704x1024 .bf16 := m ((c : Thread nD τ).loc main_arg2)
abbrev aWu (c : Dev nD) : FVec Ideal S4x704x1024 .bf16 := m ((c : Thread nD τ).loc main_arg3)
abbrev aZ (c : Dev nD) : FVec Ideal S2176x1024 .f32 := m ((c : Thread nD τ).loc main_arg4)

/-- The block every window is at, at each point. -/
theorem idx : ∀ t : Fin cfg0.N, win0_0.index t = ![0, (grid0.coords t 0).val, 0] ∧ win0_1.index t = ![0, (grid0.coords t 0).val, 0] ∧ win0_2.index t = ![0, 0, 0] ∧ win0_3.index t = ![0, 0, 0] ∧ win0_4.index t = ![(grid0.coords t 0).val, 0] ∧ win0_5.index t = ![(grid0.coords t 0).val, 0] :=
  (by decide +kernel : ∀ t : Fin grid0.N, _)

/-- Eight products added one after another, grouped by weight. -/
theorem regroup (z b0 b1 b2 b3 a0 a1 a2 a3 : EReal) :
    z + a0 + b0 + a1 + b1 + a2 + b2 + a3 + b3 = z + (b0 + b1 + b2 + b3) + (a0 + a1 + a2 + a3) := by ac_rfl

theorem point5 (c : Dev nD) (t : Fin cfg0.N) (y) : out0_5 (iblk m c 0 t) (iblk m c 1 t) (iblk m c 2 t) (iblk m c 3 t) (iblk m c 4 t) y
    = dH (aDa m c) (aDb m c) (aWg m c) (aWu m c) (aZ m c) (((cfg0.win 5).blk t).view.emb y) := by
  frame_out
  pointwise [k0_pay1, k0_pay2, dH]
  simp only [Fin.sum_univ_four]
  refine Eq.trans ?_ (regroup ..)
  blk_point [iblk, V, idx t]

/-- The array of the gradient of the feed-forward input, after the run. -/
theorem final5 (c : Dev nD) : (dats m 0 c).arrAt 5 (cfgs 0).N = dH (aDa m c) (aDb m c) (aWg m c) (aWu m c) (aZ m c) := by
  refine (dats m 0 c).arrAt_eq_of_covers 5 _ (by decide +kernel) fun t _ y => ?_
  blk_simp
  rw [after0_5]
  exact point5 m c t y

end Cert.DxValue

end
-- ==== Proof.Dx.Claims.lean ====
/-  The claims about the gradient of the feed-forward's input. -/
module

public import proofs.«01_k».proof.Defs
public import proofs.«01_k».proof.Proof.Gen.Dx.Frame
public import proofs.«01_k».proof.Proof.Gen.DxIdeal.Frame
public import proofs.«01_k».proof.Proof.Gen.DxRefIdeal.Run
public import proofs.«01_k».proof.Proof.Dx.Value
public import Idealize.ShloMosaic.Lib.Quiescent
public import Idealize.ShloMosaic.Lib.Claim

@[expose] public section

set_option maxRecDepth 16384

noncomputable section

namespace Cert.DxValue

open Idealize.ShloMosaic Idealize.ShloMosaic.TcCoe Idealize.SL.Sem

theorem frame_kernel : Cert.quiescent_Dx := fun m ρ _ => Cert.Dx.Gen.frame m ρ
theorem frame_ideal : Cert.quiescent_DxIdeal := fun m ρ _ => Cert.DxIdeal.Gen.frame m ρ

theorem frame_ref : Cert.quiescent_DxRefIdeal := fun m ρ _ =>
  (θ_run Cert.DxRefIdeal.defs _ _).mono (fun r h => ⟨fun c => (h c).2, sem_eq_zero_of_no_sems (by decide) r.2⟩)
    (Cert.DxRefIdeal.Value.run (F := Ideal) m ρ)

section

variable (m : (ℓ : Loc Cert.DxIdeal.nD Cert.DxIdeal.τ Cert.DxIdeal.sig) → Buf (Elt Ideal) ℓ) (g : Dev Cert.DxIdeal.nD → PrngReg)

/-- The kernel's run: its results at the reference's terms, its arguments unchanged. -/
theorem run_kernel : θ_run (Cert.DxIdeal.defs (F := Ideal)) (onTc (τ := Cert.DxIdeal.τ) (Cert.DxIdeal.main (F := Ideal))) ⟨m, fun _ => 0, g⟩ (fun r => ∀ c : Dev Cert.DxIdeal.nD,
    r.2.mem ((c.tc : Thread Cert.DxIdeal.nD Cert.DxIdeal.τ).loc Cert.DxIdeal.main_v0) = dH (aDa m c) (aDb m c) (aWg m c) (aWu m c) (aZ m c)
    ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
    ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
    ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
    ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
    ∧ r.2.mem ((c.tc : Thread Cert.DxIdeal.nD Cert.DxIdeal.τ).loc Cert.DxIdeal.main_arg4) = m ((c.tc : Thread Cert.DxIdeal.nD Cert.DxIdeal.τ).loc Cert.DxIdeal.main_arg4)) := by
  run_from Cert.DxIdeal.Gen.run_main m g
  · exact final5 m c

variable (m' : (ℓ : Loc Cert.DxRefIdeal.nD Cert.DxRefIdeal.τ Cert.DxRefIdeal.sig) → Buf (Elt Ideal) ℓ) (g' : Dev Cert.DxRefIdeal.nD → PrngReg)

/-- The reference's run, its results named. -/
theorem run_ref : θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
    r.2.mem ((c.tc : Thread Cert.DxRefIdeal.nD Cert.DxRefIdeal.τ).loc Cert.DxRefIdeal.main_v18) = dH (m' ((c.tc : Thread Cert.DxRefIdeal.nD Cert.DxRefIdeal.τ).loc Cert.DxRefIdeal.main_arg0)) (m' ((c.tc : Thread Cert.DxRefIdeal.nD Cert.DxRefIdeal.τ).loc Cert.DxRefIdeal.main_arg1)) (m' ((c.tc : Thread Cert.DxRefIdeal.nD Cert.DxRefIdeal.τ).loc Cert.DxRefIdeal.main_arg2)) (m' ((c.tc : Thread Cert.DxRefIdeal.nD Cert.DxRefIdeal.τ).loc Cert.DxRefIdeal.main_arg3)) (m' ((c.tc : Thread Cert.DxRefIdeal.nD Cert.DxRefIdeal.τ).loc Cert.DxRefIdeal.main_arg4))
    ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
    ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
    ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
    ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
    ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)) := by
  unfold dH
  exact Cert.DxRefIdeal.Value.run m' g'

end

/-- Each of the kernel's results is the reference's. -/
theorem algebraic : Cert.algebraic_DxIdeal_DxRefIdeal := by
  intro m g m' g' _ hagree
  refine ⟨_, run_kernel m g, (θ_run Cert.DxRefIdeal.defs _ _).mono (fun r h c => ?_) (run_ref m' g')⟩
  have e0 := (hagree c).1
  have e1 := (hagree c).2.1
  have e2 := (hagree c).2.2.1
  have e3 := (hagree c).2.2.2.1
  have e4 := (hagree c).2.2.2.2
  obtain ⟨h0, hargs⟩ := h c
  rw [e0, e1, e2, e3, e4] at h0
  exact ⟨h0, hargs⟩

end Cert.DxValue

end
-- ==== Proof.Res.Ref.lean ====
/-  The reference's results for the feed-forward's down product, its residual sum and norm: the terms its run ends with, over typed variables. -/
module

public import proofs.«01_k».proof.Proof.Gen.ResRefIdeal.Run
public import Idealize.ShloMosaic.Lib.Pointwise

@[expose] public section

set_option maxRecDepth 16384

noncomputable section

namespace Cert.ResValue

open Cert.ResRefIdeal Cert.ResRefIdeal.Gen Cert.ResRefIdeal.Value Idealize.ShloMosaic Idealize.ShloMosaic.TcCoe Idealize.SL.Sem

/-- The reference's residual sum. -/
def sum (H : FVec Ideal S4x2176x704 .bf16) (W : FVec Ideal S4x704x1024 .bf16) (X : FVec Ideal S2176x1024 .f32) (G : FVec Ideal S1x1024 .f32) (B : FVec Ideal S1x1024 .f32) : FVec Ideal S2176x1024 .f32 :=
  addf (mulf (broadcastInDim S2176x1024 ![] bcast_S_S2176x1024 (constant S_ .f32 0x3FB504F3#32)) X) (mulf (broadcastInDim S2176x1024 ![] bcast_S_S2176x1024 (constant S_ .f32 0x3F000000#32)) (Host.dotGeneral dot_S4x2176x704_S4x704x1024_S2176x1024_20_10_1_2_n_n none (extf .f32 H bitsLt_bf16_f32) (extf .f32 W bitsLt_bf16_f32)))

/-- The reference's norm, of any array. -/
def normOf (Z : FVec Ideal S2176x1024 .f32) (G : FVec Ideal S1x1024 .f32) (B : FVec Ideal S1x1024 .f32) : FVec Ideal S2176x1024 .f32 :=
  addf (mulf (mulf (subf Z (broadcastInDim S2176x1024 ![0, 1] bcast_S2176x1_S2176x1024_0_1 (Host.divf (broadcastInDim S2176x1 ![0] bcast_S2176_S2176x1_0 (Host.reduceAdd Z (constant S_ .f32 0x00000000#32) reducesTo_S2176x1024_S2176_d1 h_S_)) (broadcastInDim S2176x1 ![] bcast_S_S2176x1 (constant S_ .f32 0x44800000#32))))) (broadcastInDim S2176x1024 ![0, 1] bcast_S2176x1_S2176x1024_0_1 (Host.rsqrt (addf (Host.divf (broadcastInDim S2176x1 ![0] bcast_S2176_S2176x1_0 (Host.reduceAdd (mulf (subf Z (broadcastInDim S2176x1024 ![0, 1] bcast_S2176x1_S2176x1024_0_1 (Host.divf (broadcastInDim S2176x1 ![0] bcast_S2176_S2176x1_0 (Host.reduceAdd Z (constant S_ .f32 0x00000000#32) reducesTo_S2176x1024_S2176_d1 h_S_)) (broadcastInDim S2176x1 ![] bcast_S_S2176x1 (constant S_ .f32 0x44800000#32))))) (subf Z (broadcastInDim S2176x1024 ![0, 1] bcast_S2176x1_S2176x1024_0_1 (Host.divf (broadcastInDim S2176x1 ![0] bcast_S2176_S2176x1_0 (Host.reduceAdd Z (constant S_ .f32 0x00000000#32) reducesTo_S2176x1024_S2176_d1 h_S_)) (broadcastInDim S2176x1 ![] bcast_S_S2176x1 (constant S_ .f32 0x44800000#32)))))) (constant S_ .f32 0x00000000#32) reducesTo_S2176x1024_S2176_d1 h_S_)) (broadcastInDim S2176x1 ![] bcast_S_S2176x1 (constant S_ .f32 0x44800000#32))) (broadcastInDim S2176x1 ![] bcast_S_S2176x1 (constant S_ .f32 0x3727C5AC#32)))))) (broadcastInDim S2176x1024 ![0, 1] bcast_S1x1024_S2176x1024_0_1 G)) (broadcastInDim S2176x1024 ![0, 1] bcast_S1x1024_S2176x1024_0_1 B)

/-- The reference's normed sum. -/
def norm (H : FVec Ideal S4x2176x704 .bf16) (W : FVec Ideal S4x704x1024 .bf16) (X : FVec Ideal S2176x1024 .f32) (G : FVec Ideal S1x1024 .f32) (B : FVec Ideal S1x1024 .f32) : FVec Ideal S2176x1024 .f32 :=
  normOf (sum H W X G B) G B

/-- The reference's normed sum, rounded. -/
def normB (H : FVec Ideal S4x2176x704 .bf16) (W : FVec Ideal S4x704x1024 .bf16) (X : FVec Ideal S2176x1024 .f32) (G : FVec Ideal S1x1024 .f32) (B : FVec Ideal S1x1024 .f32) : FVec Ideal S2176x1024 .bf16 :=
  truncf .bf16 (normOf (sum H W X G B) G B) bitsLt_bf16_f32

end Cert.ResValue

end
-- ==== Proof.Res.Value.lean ====
/-  The result arrays of the kernel for the feed-forward's down product, its residual sum and norm: each is the reference's term of the argument arrays. -/
module

public import proofs.«01_k».proof.Proof.Gen.ResIdeal.Frame
public import proofs.«01_k».proof.Proof.Res.Ref
public import Idealize.ShloMosaic.Lib.Pipeline.ValueKit
public import Idealize.ShloMosaic.Lib.Pointwise

@[expose] public section

set_option maxRecDepth 16384

noncomputable section

namespace Cert.ResValue

open Cert.ResIdeal Cert.ResIdeal.Gen Idealize.ShloMosaic Idealize.ShloMosaic.TcCoe Idealize.SL.Sem
open Idealize.ShloMosaic.Pipeline (Dat)

variable (m : (ℓ : Loc nD τ sig) → Buf (Elt Ideal) ℓ)

/-- The argument arrays, at their types. -/
abbrev aH (c : Dev nD) : FVec Ideal S4x2176x704 .bf16 := m ((c : Thread nD τ).loc main_arg0)
abbrev aW (c : Dev nD) : FVec Ideal S4x704x1024 .bf16 := m ((c : Thread nD τ).loc main_arg1)
abbrev aX (c : Dev nD) : FVec Ideal S2176x1024 .f32 := m ((c : Thread nD τ).loc main_arg2)
abbrev aG (c : Dev nD) : FVec Ideal S1x1024 .f32 := m ((c : Thread nD τ).loc main_arg3)
abbrev aB (c : Dev nD) : FVec Ideal S1x1024 .f32 := m ((c : Thread nD τ).loc main_arg4)

/-- The block every window is at, at each point. -/
theorem idx : ∀ t : Fin cfg0.N, win0_0.index t = ![0, (grid0.coords t 0).val, 0] ∧ win0_1.index t = ![0, 0, 0] ∧ win0_2.index t = ![(grid0.coords t 0).val, 0] ∧ win0_3.index t = ![0, 0] ∧ win0_4.index t = ![0, 0] ∧ win0_5.index t = ![(grid0.coords t 0).val, 0] ∧ win0_6.index t = ![(grid0.coords t 0).val, 0] ∧ win0_7.index t = ![(grid0.coords t 0).val, 0] :=
  (by decide +kernel : ∀ t : Fin grid0.N, _)

/-- The rows of the residual sum that a point computes. -/
theorem sum_at (c : Dev nD) (t : Fin cfg0.N) (y : S544x1024.Idx) : k0_pay1 (k0_pay7 (iblk m c 0 t) (iblk m c 1 t) (iblk m c 2 t) (iblk m c 3 t) (iblk m c 4 t)) (k0_pay8 (iblk m c 0 t) (iblk m c 1 t) (iblk m c 2 t) (iblk m c 3 t) (iblk m c 4 t)) (k0_pay9 (iblk m c 0 t) (iblk m c 1 t) (iblk m c 2 t) (iblk m c 3 t) (iblk m c 4 t)) y
    = sum (aH m c) (aW m c) (aX m c) (aG m c) (aB m c) (((cfg0.win 5).blk t).view.emb y) := by
  unfold k0_pay7 k0_pay8 k0_pay9
  pointwise [k0_pay1, k0_pay4, k0_pay5, k0_pay6, sum]
  rw [Finset.sum_comm (s := (Finset.univ : Finset (Fin 704)))]
  simp only [Fin.sum_univ_four]
  blk_point [iblk, V, idx t]

theorem point5 (c : Dev nD) (t : Fin cfg0.N) (y) : out0_5 (iblk m c 0 t) (iblk m c 1 t) (iblk m c 2 t) (iblk m c 3 t) (iblk m c 4 t) y
    = sum (aH m c) (aW m c) (aX m c) (aG m c) (aB m c) (((cfg0.win 5).blk t).view.emb y) := by
  frame_out
  exact sum_at m c t y

/-- The array of the residual sum, after the run. -/
theorem final5 (c : Dev nD) : (dats m 0 c).arrAt 5 (cfgs 0).N = sum (aH m c) (aW m c) (aX m c) (aG m c) (aB m c) := by
  refine (dats m 0 c).arrAt_eq_of_covers 5 _ (by decide +kernel) fun t _ y => ?_
  blk_simp
  rw [after0_5]
  exact point5 m c t y

theorem point6 (c : Dev nD) (t : Fin cfg0.N) (y) : out0_6 (iblk m c 0 t) (iblk m c 1 t) (iblk m c 2 t) (iblk m c 3 t) (iblk m c 4 t) y
    = norm (aH m c) (aW m c) (aX m c) (aG m c) (aB m c) (((cfg0.win 6).blk t).view.emb y) := by
  frame_out
  pointwise [k0_pay2, k0_pay3, norm, normOf]
  simp only [sum_at]
  blk_point [iblk, V, idx t]

/-- The array of the normed sum, after the run. -/
theorem final6 (c : Dev nD) : (dats m 0 c).arrAt 6 (cfgs 0).N = norm (aH m c) (aW m c) (aX m c) (aG m c) (aB m c) := by
  refine (dats m 0 c).arrAt_eq_of_covers 6 _ (by decide +kernel) fun t _ y => ?_
  blk_simp
  rw [after0_6]
  exact point6 m c t y

theorem point7 (c : Dev nD) (t : Fin cfg0.N) (y) : out0_7 (iblk m c 0 t) (iblk m c 1 t) (iblk m c 2 t) (iblk m c 3 t) (iblk m c 4 t) y
    = normB (aH m c) (aW m c) (aX m c) (aG m c) (aB m c) (((cfg0.win 7).blk t).view.emb y) := by
  frame_out
  pointwise [k0_pay2, k0_pay3, normB, normOf]
  simp only [sum_at]
  blk_point [iblk, V, idx t]

/-- The array of the normed sum, rounded, after the run. -/
theorem final7 (c : Dev nD) : (dats m 0 c).arrAt 7 (cfgs 0).N = normB (aH m c) (aW m c) (aX m c) (aG m c) (aB m c) := by
  refine (dats m 0 c).arrAt_eq_of_covers 7 _ (by decide +kernel) fun t _ y => ?_
  blk_simp
  rw [after0_7]
  exact point7 m c t y

end Cert.ResValue

end
-- ==== Proof.Res.Claims.lean ====
/-  The claims about the feed-forward's down product, its residual sum and norm. -/
module

public import proofs.«01_k».proof.Defs
public import proofs.«01_k».proof.Proof.Gen.Res.Frame
public import proofs.«01_k».proof.Proof.Gen.ResIdeal.Frame
public import proofs.«01_k».proof.Proof.Gen.ResRefIdeal.Run
public import proofs.«01_k».proof.Proof.Res.Value
public import Idealize.ShloMosaic.Lib.Quiescent
public import Idealize.ShloMosaic.Lib.Claim

@[expose] public section

set_option maxRecDepth 16384

noncomputable section

namespace Cert.ResValue

open Idealize.ShloMosaic Idealize.ShloMosaic.TcCoe Idealize.SL.Sem

theorem frame_kernel : Cert.quiescent_Res := fun m ρ _ => Cert.Res.Gen.frame m ρ
theorem frame_ideal : Cert.quiescent_ResIdeal := fun m ρ _ => Cert.ResIdeal.Gen.frame m ρ

theorem frame_ref : Cert.quiescent_ResRefIdeal := fun m ρ _ =>
  (θ_run Cert.ResRefIdeal.defs _ _).mono (fun r h => ⟨fun c => (h c).2.2.2, sem_eq_zero_of_no_sems (by decide) r.2⟩)
    (Cert.ResRefIdeal.Value.run (F := Ideal) m ρ)

section

variable (m : (ℓ : Loc Cert.ResIdeal.nD Cert.ResIdeal.τ Cert.ResIdeal.sig) → Buf (Elt Ideal) ℓ) (g : Dev Cert.ResIdeal.nD → PrngReg)

/-- The kernel's run: its results at the reference's terms, its arguments unchanged. -/
theorem run_kernel : θ_run (Cert.ResIdeal.defs (F := Ideal)) (onTc (τ := Cert.ResIdeal.τ) (Cert.ResIdeal.main (F := Ideal))) ⟨m, fun _ => 0, g⟩ (fun r => ∀ c : Dev Cert.ResIdeal.nD,
    r.2.mem ((c.tc : Thread Cert.ResIdeal.nD Cert.ResIdeal.τ).loc Cert.ResIdeal.main_v0_0) = sum (aH m c) (aW m c) (aX m c) (aG m c) (aB m c)
    ∧ r.2.mem ((c.tc : Thread Cert.ResIdeal.nD Cert.ResIdeal.τ).loc Cert.ResIdeal.main_v0_1) = norm (aH m c) (aW m c) (aX m c) (aG m c) (aB m c)
    ∧ r.2.mem ((c.tc : Thread Cert.ResIdeal.nD Cert.ResIdeal.τ).loc Cert.ResIdeal.main_v0_2) = normB (aH m c) (aW m c) (aX m c) (aG m c) (aB m c)
    ∧ r.2.mem ((c.tc : Thread Cert.ResIdeal.nD Cert.ResIdeal.τ).loc Cert.ResIdeal.main_arg0) = m ((c.tc : Thread Cert.ResIdeal.nD Cert.ResIdeal.τ).loc Cert.ResIdeal.main_arg0)
    ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
    ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
    ∧ r.2.mem ((c.tc : Thread Cert.ResIdeal.nD Cert.ResIdeal.τ).loc Cert.ResIdeal.main_arg3) = m ((c.tc : Thread Cert.ResIdeal.nD Cert.ResIdeal.τ).loc Cert.ResIdeal.main_arg3)
    ∧ r.2.mem ((c.tc : Thread Cert.ResIdeal.nD Cert.ResIdeal.τ).loc Cert.ResIdeal.main_arg4) = m ((c.tc : Thread Cert.ResIdeal.nD Cert.ResIdeal.τ).loc Cert.ResIdeal.main_arg4)) := by
  run_from Cert.ResIdeal.Gen.run_main m g
  · exact final5 m c
  · exact final6 m c
  · exact final7 m c

variable (m' : (ℓ : Loc Cert.ResRefIdeal.nD Cert.ResRefIdeal.τ Cert.ResRefIdeal.sig) → Buf (Elt Ideal) ℓ) (g' : Dev Cert.ResRefIdeal.nD → PrngReg)

/-- The reference's run, its results named. -/
theorem run_ref : θ_run (Cert.ResRefIdeal.defs (F := Ideal)) (onTc (τ := Cert.ResRefIdeal.τ) (Cert.ResRefIdeal.main (F := Ideal))) ⟨m', fun _ => 0, g'⟩ (fun r => ∀ c : Dev Cert.ResRefIdeal.nD,
    r.2.mem ((c.tc : Thread Cert.ResRefIdeal.nD Cert.ResRefIdeal.τ).loc Cert.ResRefIdeal.main_v7) = sum (m' ((c.tc : Thread Cert.ResRefIdeal.nD Cert.ResRefIdeal.τ).loc Cert.ResRefIdeal.main_arg0)) (m' ((c.tc : Thread Cert.ResRefIdeal.nD Cert.ResRefIdeal.τ).loc Cert.ResRefIdeal.main_arg1)) (m' ((c.tc : Thread Cert.ResRefIdeal.nD Cert.ResRefIdeal.τ).loc Cert.ResRefIdeal.main_arg2)) (m' ((c.tc : Thread Cert.ResRefIdeal.nD Cert.ResRefIdeal.τ).loc Cert.ResRefIdeal.main_arg3)) (m' ((c.tc : Thread Cert.ResRefIdeal.nD Cert.ResRefIdeal.τ).loc Cert.ResRefIdeal.main_arg4))
    ∧ r.2.mem ((c.tc : Thread Cert.ResRefIdeal.nD Cert.ResRefIdeal.τ).loc Cert.ResRefIdeal.main_v29) = norm (m' ((c.tc : Thread Cert.ResRefIdeal.nD Cert.ResRefIdeal.τ).loc Cert.ResRefIdeal.main_arg0)) (m' ((c.tc : Thread Cert.ResRefIdeal.nD Cert.ResRefIdeal.τ).loc Cert.ResRefIdeal.main_arg1)) (m' ((c.tc : Thread Cert.ResRefIdeal.nD Cert.ResRefIdeal.τ).loc Cert.ResRefIdeal.main_arg2)) (m' ((c.tc : Thread Cert.ResRefIdeal.nD Cert.ResRefIdeal.τ).loc Cert.ResRefIdeal.main_arg3)) (m' ((c.tc : Thread Cert.ResRefIdeal.nD Cert.ResRefIdeal.τ).loc Cert.ResRefIdeal.main_arg4))
    ∧ r.2.mem ((c.tc : Thread Cert.ResRefIdeal.nD Cert.ResRefIdeal.τ).loc Cert.ResRefIdeal.main_v30) = normB (m' ((c.tc : Thread Cert.ResRefIdeal.nD Cert.ResRefIdeal.τ).loc Cert.ResRefIdeal.main_arg0)) (m' ((c.tc : Thread Cert.ResRefIdeal.nD Cert.ResRefIdeal.τ).loc Cert.ResRefIdeal.main_arg1)) (m' ((c.tc : Thread Cert.ResRefIdeal.nD Cert.ResRefIdeal.τ).loc Cert.ResRefIdeal.main_arg2)) (m' ((c.tc : Thread Cert.ResRefIdeal.nD Cert.ResRefIdeal.τ).loc Cert.ResRefIdeal.main_arg3)) (m' ((c.tc : Thread Cert.ResRefIdeal.nD Cert.ResRefIdeal.τ).loc Cert.ResRefIdeal.main_arg4))
    ∧ r.2.mem ((c.tc : Thread Cert.ResRefIdeal.nD Cert.ResRefIdeal.τ).loc Cert.ResRefIdeal.main_arg0) = m' ((c.tc : Thread Cert.ResRefIdeal.nD Cert.ResRefIdeal.τ).loc Cert.ResRefIdeal.main_arg0)
    ∧ r.2.mem ((c.tc : Thread Cert.ResRefIdeal.nD Cert.ResRefIdeal.τ).loc Cert.ResRefIdeal.main_arg1) = m' ((c.tc : Thread Cert.ResRefIdeal.nD Cert.ResRefIdeal.τ).loc Cert.ResRefIdeal.main_arg1)
    ∧ r.2.mem ((c.tc : Thread Cert.ResRefIdeal.nD Cert.ResRefIdeal.τ).loc Cert.ResRefIdeal.main_arg2) = m' ((c.tc : Thread Cert.ResRefIdeal.nD Cert.ResRefIdeal.τ).loc Cert.ResRefIdeal.main_arg2)
    ∧ r.2.mem ((c.tc : Thread Cert.ResRefIdeal.nD Cert.ResRefIdeal.τ).loc Cert.ResRefIdeal.main_arg3) = m' ((c.tc : Thread Cert.ResRefIdeal.nD Cert.ResRefIdeal.τ).loc Cert.ResRefIdeal.main_arg3)
    ∧ r.2.mem ((c.tc : Thread Cert.ResRefIdeal.nD Cert.ResRefIdeal.τ).loc Cert.ResRefIdeal.main_arg4) = m' ((c.tc : Thread Cert.ResRefIdeal.nD Cert.ResRefIdeal.τ).loc Cert.ResRefIdeal.main_arg4)) := by
  unfold sum norm normB
  exact Cert.ResRefIdeal.Value.run m' g'

end

/-- Each of the kernel's results is the reference's. -/
theorem algebraic : Cert.algebraic_ResIdeal_ResRefIdeal := by
  intro m g m' g' _ hagree
  refine ⟨_, _, _, run_kernel m g, (θ_run Cert.ResRefIdeal.defs _ _).mono (fun r h c => ?_) (run_ref m' g')⟩
  have e0 := (hagree c).1
  have e1 := (hagree c).2.1
  have e2 := (hagree c).2.2.1
  have e3 := (hagree c).2.2.2.1
  have e4 := (hagree c).2.2.2.2
  obtain ⟨h0, h1, h2, hargs⟩ := h c
  rw [e0, e1, e2, e3, e4] at h0 h1 h2
  exact ⟨h0, h1, h2, hargs⟩

end Cert.ResValue

end
-- ==== Proof.Proj.Ref.lean ====
/-  The reference's results for the input projection: the terms its run ends with, over typed variables. -/
module

public import proofs.«01_k».proof.Proof.Gen.ProjRefIdeal.Run
public import Idealize.ShloMosaic.Lib.Pointwise

@[expose] public section

set_option maxRecDepth 16384

noncomputable section

namespace Cert.ProjValue

open Cert.ProjRefIdeal Cert.ProjRefIdeal.Gen Cert.ProjRefIdeal.Value Idealize.ShloMosaic Idealize.ShloMosaic.TcCoe Idealize.SL.Sem

/-- The reference's projection. -/
def proj (H : FVec Ideal S2176x1024 .bf16) (W : FVec Ideal S5792x1024 .bf16) : FVec Ideal S1x2176x6144 .f32 :=
  broadcastInDim S1x2176x6144 ![1, 2] bcast_S2176x6144_S1x2176x6144_1_2 ((concatenate S2176x6144 1 [⟨S2176x384, ((extractStridedSlice S2176x384 ![0, 0] (Host.dotGeneral dot_S2176x1024_S1024x5792_S2176x5792_1_0_0_1_n_n none (extf .f32 H bitsLt_bf16_f32) (transpose S1024x5792 [1, 0] (extf .f32 W bitsLt_bf16_f32) transposes_S5792x1024_S1024x5792_1_0)) slices_S2176x5792_S2176x384_0_0) : FVec Ideal S2176x384 .f32)⟩, ⟨S2176x32, ((extractStridedSlice S2176x32 ![0, 640] (Host.dotGeneral dot_S2176x1024_S1024x5792_S2176x5792_1_0_0_1_n_n none (extf .f32 H bitsLt_bf16_f32) (transpose S1024x5792 [1, 0] (extf .f32 W bitsLt_bf16_f32) transposes_S5792x1024_S1024x5792_1_0)) slices_S2176x5792_S2176x32_0_640) : FVec Ideal S2176x32 .f32)⟩, ⟨S2176x96, ((broadcastInDim S2176x96 ![] bcast_S_S2176x96 (constant S_ .f32 0x00000000#32)) : FVec Ideal S2176x96 .f32)⟩, ⟨S2176x256, ((extractStridedSlice S2176x256 ![0, 384] (Host.dotGeneral dot_S2176x1024_S1024x5792_S2176x5792_1_0_0_1_n_n none (extf .f32 H bitsLt_bf16_f32) (transpose S1024x5792 [1, 0] (extf .f32 W bitsLt_bf16_f32) transposes_S5792x1024_S1024x5792_1_0)) slices_S2176x5792_S2176x256_0_384) : FVec Ideal S2176x256 .f32)⟩, ⟨S2176x256, ((broadcastInDim S2176x256 ![] bcast_S_S2176x256 (constant S_ .f32 0x00000000#32)) : FVec Ideal S2176x256 .f32)⟩, ⟨S2176x5120, ((extractStridedSlice S2176x5120 ![0, 672] (Host.dotGeneral dot_S2176x1024_S1024x5792_S2176x5792_1_0_0_1_n_n none (extf .f32 H bitsLt_bf16_f32) (transpose S1024x5792 [1, 0] (extf .f32 W bitsLt_bf16_f32) transposes_S5792x1024_S1024x5792_1_0)) slices_S2176x5792_S2176x5120_0_672) : FVec Ideal S2176x5120 .f32)⟩] concatenates_S2176x384_S2176x32_S2176x96_S2176x256_S2176x256_S2176x5120_S2176x6144_d1 : FVec Ideal S2176x6144 .f32))

end Cert.ProjValue

end
-- ==== Proof.Proj.Value.lean ====
/-  The result arrays of the kernel for the input projection: each is the reference's term of the argument arrays. -/
module

public import proofs.«01_k».proof.Proof.Gen.ProjIdeal.Frame
public import proofs.«01_k».proof.Proof.Proj.Ref
public import Idealize.ShloMosaic.Lib.Pipeline.ValueKit
public import Idealize.ShloMosaic.Lib.Pointwise

@[expose] public section

set_option maxRecDepth 16384

noncomputable section

namespace Cert.ProjValue

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ)

/-- The argument arrays, at their types. -/
abbrev aH (c : Dev nD) : FVec Ideal S2176x1024 .bf16 := m ((c : Thread nD τ).loc main_arg0)
abbrev aW (c : Dev nD) : FVec Ideal S5792x1024 .bf16 := m ((c : Thread nD τ).loc main_arg1)

/-- The block every window is at, at each point. -/
theorem idx : ∀ t : Fin cfg0.N, win0_0.index t = ![0, (grid0.coords t 1).val, 0] ∧ win0_1.index t = ![0, (grid0.coords t 2).val, 0] ∧ win0_2.index t = ![0, (grid0.coords t 1).val, (grid0.coords t 2).val] :=
  (by decide +kernel : ∀ t : Fin grid0.N, _)

/-- Row `j`, entry `k` of the padded weights: the fields of the unpadded rows, with zeros between. -/
def padW (W : FVec Ideal S5792x1024 .bf16) (j : Fin 6144) (k : Fin 1024) : EReal :=
  if h : (j : ℕ) < 384 then W (ix2 ⟨j, by omega⟩ k)
  else if h : (j : ℕ) - 384 < 32 then W (ix2 ⟨640 + (j - 384), by omega⟩ k)
  else if h : (j : ℕ) - 384 - 32 < 96 then 0
  else if h : (j : ℕ) - 384 - 32 - 96 < 256 then W (ix2 ⟨384 + (j - 384 - 32 - 96), by omega⟩ k)
  else if h : (j : ℕ) - 384 - 32 - 96 - 256 < 256 then 0
  else W (ix2 ⟨672 + (j - 384 - 32 - 96 - 256 - 256), by omega⟩ k)

/-- The padded weights as the host builds them. -/
def padded (W : FVec Ideal S5792x1024 .bf16) : FVec Ideal S1x6144x1024 .bf16 :=
  broadcastInDim S1x6144x1024 ![1, 2] bcast_S6144x1024_S1x6144x1024_1_2 (concatenate S6144x1024 0
    [⟨S384x1024, (extractStridedSlice S384x1024 ![0, 0] W slices_S5792x1024_S384x1024_0_0 : FVec Ideal S384x1024 .bf16)⟩,
     ⟨S32x1024, (extractStridedSlice S32x1024 ![640, 0] W slices_S5792x1024_S32x1024_640_0 : FVec Ideal S32x1024 .bf16)⟩,
     ⟨S96x1024, (broadcastInDim S96x1024 ![] bcast_S_S96x1024 (constant S_ .bf16 0x0000#16) : FVec Ideal S96x1024 .bf16)⟩,
     ⟨S256x1024, (extractStridedSlice S256x1024 ![384, 0] W slices_S5792x1024_S256x1024_384_0 : FVec Ideal S256x1024 .bf16)⟩,
     ⟨S256x1024, (broadcastInDim S256x1024 ![] bcast_S_S256x1024 (constant S_ .bf16 0x0000#16) : FVec Ideal S256x1024 .bf16)⟩,
     ⟨S5120x1024, (extractStridedSlice S5120x1024 ![672, 0] W slices_S5792x1024_S5120x1024_672_0 : FVec Ideal S5120x1024 .bf16)⟩]
    concatenates_S384x1024_S32x1024_S96x1024_S256x1024_S256x1024_S5120x1024_S6144x1024_d0 : FVec Ideal S6144x1024 .bf16)

theorem padded_at (W : FVec Ideal S5792x1024 .bf16) (j : Fin 6144) (k : Fin 1024) : padded W (ix3 0 j k) = padW W j k := by
  pointwise [padded]
  unfold padW
  rfl

/-- The weights at region entry are the padded weights. -/
theorem entry (c : Dev nD) : V m c main_v8 = padded (aW m c) := by
  unfold padded aW
  after_results <;> rfl

/-- The reference is the product with the padded weights: a column it fills with zero is a product with zeros. -/
theorem proj_at (H : FVec Ideal S2176x1024 .bf16) (W : FVec Ideal S5792x1024 .bf16) (n : Fin 2176) (j : Fin 6144) :
    proj H W (ix3 0 n j) = ∑ k : Fin 1024, (show EReal from H (ix2 n k)) * padW W j k := by
  pointwise [proj]
  unfold padW
  split_ifs
  all_goals simp only [mul_zero, Finset.sum_const_zero]

/-- Row `r` of row block `t`, and row `r` of weight block `t`. -/
def row (t : Fin cfg0.N) (r : Fin 1088) : Fin 2176 := ⟨(grid0.coords t 1).val * 1088 + r, by have := (grid0.coords t 1).isLt; simp at this; omega⟩
def wrow (t : Fin cfg0.N) (r : Fin 1024) : Fin 6144 := ⟨(grid0.coords t 2).val * 1024 + r, by have := (grid0.coords t 2).isLt; simp at this; omega⟩

theorem b1 (c : Dev nD) (t : Fin cfg0.N) (r k : Fin 1024) : (show FVec Ideal S1x1024x1024 .bf16 from iblk m c 1 t) (ix3 0 r k) = padW (aW m c) (wrow t r) k := by
  refine Eq.trans ?_ ((congrFun (entry m c) (ix3 0 (wrow t r) k)).trans (padded_at (aW m c) (wrow t r) k))
  blk_ext [iblk, idx t, wrow]

theorem b0 (c : Dev nD) (t : Fin cfg0.N) (r : Fin 1088) (k : Fin 1024) : (show FVec Ideal S1x1088x1024 .bf16 from iblk m c 0 t) (ix3 0 r k) = aH m c (ix2 (row t r) k) := by
  have e : (show FVec Ideal S1x2176x1024 .bf16 from V m c main_v0) (ix3 0 (row t r) k) = aH m c (ix2 (row t r) k) := by
    entry_read
    pointwise
  refine Eq.trans ?_ e
  blk_ext [iblk, idx t, row]

theorem point2 (c : Dev nD) (t : Fin cfg0.N) (y) : k0_pay1 (iblk m c 0 t) (iblk m c 1 t) y
    = proj (aH m c) (aW m c) (((cfg0.win 2).blk t).view.emb y) := by
  obtain ⟨a, r, l, rfl⟩ : ∃ (a : Fin 1) (r : Fin 1088) (l : Fin 1024), y = ix3 a r l := ⟨y 0, y 1, y 2, eq_ix3 y⟩
  obtain rfl : a = 0 := Subsingleton.elim (α := Fin 1) _ _
  have hemb : ((cfg0.win 2).blk t).view.emb (ix3 0 r l) = (ix3 0 (row t r) (wrow t l) : S1x2176x6144.Idx) := by blk_ext [idx t, row, wrow]
  refine Eq.trans ?_ (Eq.trans (proj_at (aH m c) (aW m c) (row t r) (wrow t l)).symm (congrArg (proj (aH m c) (aW m c)) hemb.symm))
  pointwise [k0_pay1]
  refine Finset.sum_congr rfl fun k _ => ?_
  exact congrArg₂ (· * ·) (b0 m c t r k) (b1 m c t l k)

/-- The array of the projection, after the run. -/
theorem final2 (c : Dev nD) : (dats m 0 c).arrAt 2 (cfgs 0).N = proj (aH m c) (aW m c) := by
  refine (dats m 0 c).arrAt_eq_of_covers 2 _ (by decide +kernel) fun t _ y => ?_
  blk_simp
  rw [after0_2]; frame_out
  exact point2 m c t y

end Cert.ProjValue

end
-- ==== Proof.Proj.Claims.lean ====
/-  The claims about the input projection. -/
module

public import proofs.«01_k».proof.Defs
public import proofs.«01_k».proof.Proof.Gen.Proj.Frame
public import proofs.«01_k».proof.Proof.Gen.ProjIdeal.Frame
public import proofs.«01_k».proof.Proof.Gen.ProjRefIdeal.Run
public import proofs.«01_k».proof.Proof.Proj.Value
public import Idealize.ShloMosaic.Lib.Quiescent
public import Idealize.ShloMosaic.Lib.Claim

@[expose] public section

set_option maxRecDepth 16384

noncomputable section

namespace Cert.ProjValue

open Idealize.ShloMosaic Idealize.ShloMosaic.TcCoe Idealize.SL.Sem

theorem frame_kernel : Cert.quiescent_Proj := fun m ρ _ => Cert.Proj.Gen.frame m ρ
theorem frame_ideal : Cert.quiescent_ProjIdeal := fun m ρ _ => Cert.ProjIdeal.Gen.frame m ρ

theorem frame_ref : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

section

variable (m : (ℓ : Loc Cert.ProjIdeal.nD Cert.ProjIdeal.τ Cert.ProjIdeal.sig) → Buf (Elt Ideal) ℓ) (g : Dev Cert.ProjIdeal.nD → PrngReg)

/-- The kernel's run: its results at the reference's terms, its arguments unchanged. -/
theorem run_kernel : θ_run (Cert.ProjIdeal.defs (F := Ideal)) (onTc (τ := Cert.ProjIdeal.τ) (Cert.ProjIdeal.main (F := Ideal))) ⟨m, fun _ => 0, g⟩ (fun r => ∀ c : Dev Cert.ProjIdeal.nD,
    r.2.mem ((c.tc : Thread Cert.ProjIdeal.nD Cert.ProjIdeal.τ).loc Cert.ProjIdeal.main_v9) = proj (aH m c) (aW m c)
    ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
    ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)) := by
  run_from Cert.ProjIdeal.Gen.run_main m g
  · exact final2 m c

variable (m' : (ℓ : Loc Cert.ProjRefIdeal.nD Cert.ProjRefIdeal.τ Cert.ProjRefIdeal.sig) → Buf (Elt Ideal) ℓ) (g' : Dev Cert.ProjRefIdeal.nD → PrngReg)

/-- The reference's run, its results named. -/
theorem run_ref : θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
    r.2.mem ((c.tc : Thread Cert.ProjRefIdeal.nD Cert.ProjRefIdeal.τ).loc Cert.ProjRefIdeal.main_v11) = proj (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1))
    ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
    ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)) := by
  unfold proj
  exact Cert.ProjRefIdeal.Value.run m' g'

end

/-- Each of the kernel's results is the reference's. -/
theorem algebraic : Cert.algebraic_ProjIdeal_ProjRefIdeal := by
  intro m g m' g' _ hagree
  refine ⟨_, run_kernel m g, (θ_run Cert.ProjRefIdeal.defs _ _).mono (fun r h c => ?_) (run_ref m' g')⟩
  have e0 := (hagree c).1
  have e1 := (hagree c).2
  obtain ⟨h0, hargs⟩ := h c
  rw [e0, e1] at h0
  exact ⟨h0, hargs⟩

end Cert.ProjValue

end
-- ==== Proof.ProjDx.Ref.lean ====
/-  The reference's results for the gradient of the input projection's argument: the terms its run ends with, over typed variables. -/
module

public import proofs.«01_k».proof.Proof.Gen.ProjDxRefIdeal.Run
public import Idealize.ShloMosaic.Lib.Pointwise

@[expose] public section

set_option maxRecDepth 16384

noncomputable section

namespace Cert.ProjDxValue

open Cert.ProjDxRefIdeal Cert.ProjDxRefIdeal.Gen Cert.ProjDxRefIdeal.Value Idealize.ShloMosaic Idealize.ShloMosaic.TcCoe Idealize.SL.Sem

/-- The reference's gradient of the layer input. -/
def dH (D : FVec Ideal S2176x6144 .bf16) (W : FVec Ideal S6144x1024 .bf16) (Z : FVec Ideal S2176x1024 .f32) : FVec Ideal S1x2176x1024 .f32 :=
  broadcastInDim S1x2176x1024 ![1, 2] bcast_S2176x1024_S1x2176x1024_1_2 (addf (mulf (broadcastInDim S2176x1024 ![] bcast_S_S2176x1024 (constant S_ .f32 0x3FB504F3#32)) Z) (Host.dotGeneral dot_S2176x6144_S1024x6144_S2176x1024_1_1_0_0_n_n none (extf .f32 D bitsLt_bf16_f32) (transpose S1024x6144 [1, 0] (extf .f32 W bitsLt_bf16_f32) transposes_S6144x1024_S1024x6144_1_0)))

end Cert.ProjDxValue

end
-- ==== Proof.ProjDx.Value.lean ====
/-  The result array of the kernel for the gradient of the input projection's argument is the reference's term of the argument arrays. -/
module

public import proofs.«01_k».proof.Proof.Gen.ProjDxIdeal.Frame
public import proofs.«01_k».proof.Proof.ProjDx.Ref
public import Idealize.ShloMosaic.Lib.Pipeline.ValueKit
public import Idealize.ShloMosaic.Lib.Pointwise
public import Idealize.ShloMosaic.Lib.Pipeline.ReadBack

@[expose] public section

set_option maxRecDepth 16384

noncomputable section

namespace Cert.ProjDxValue

open Cert.ProjDxIdeal Cert.ProjDxIdeal.Gen Idealize.ShloMosaic Idealize.ShloMosaic.TcCoe Idealize.SL.Sem
open Idealize.ShloMosaic.Pipeline (Dat)

variable (m : (ℓ : Loc nD τ sig) → Buf (Elt Ideal) ℓ)

/-- The argument arrays, at their types. -/
abbrev aD (c : Dev nD) : FVec Ideal S2176x6144 .bf16 := m ((c : Thread nD τ).loc main_arg0)
abbrev aW (c : Dev nD) : FVec Ideal S6144x1024 .bf16 := m ((c : Thread nD τ).loc main_arg1)
abbrev aZ (c : Dev nD) : FVec Ideal S2176x1024 .f32 := m ((c : Thread nD τ).loc main_arg2)

/-- The block every window is at, at each point. -/
theorem idx : ∀ t : Fin cfg0.N, win0_0.index t = ![0, t.val / 6, t.val % 6] ∧ win0_1.index t = ![0, t.val % 6, 0] ∧ win0_2.index t = ![0, t.val / 6, 0] ∧ win0_3.index t = ![0, t.val / 6, 0] :=
  (by decide +kernel : ∀ t : Fin grid0.N, _)

/-- One step's product. -/
theorem prod (x0 : Vec Ideal S1x1088x1024 .bf16) (x1 : Vec Ideal S1x1024x1024 .bf16) (j : S1088x1024.Idx) :
    k0_pay2 x0 x1 j = ∑ k : Fin 1024, x0 (ix3 0 (j 0) k) * x1 (ix3 0 k (j 1)) := by
  pointwise [k0_pay2, k0_pay1]

/-- A later step adds its product. -/
theorem step (x0 : Vec Ideal S1x1088x1024 .bf16) (x1 : Vec Ideal S1x1024x1024 .bf16) (acc : Vec Ideal S1088x1024 .f32) (j : S1088x1024.Idx) :
    k0_pay3 x0 x1 acc j = acc j + ∑ k : Fin 1024, x0 (ix3 0 (j 0) k) * x1 (ix3 0 k (j 1)) := by
  pointwise [k0_pay3, k0_pay1]

/-- At the last step the result is the accumulator and the scaled residual. -/
theorem out_last (c : Dev nD) (t : Fin cfg0.N) (h : t.val % 6 = 5) :
    (outsAt0 m c t.val t.isLt).1 = k0_pay4 (outsAt0 m c t.val t.isLt).2 (iblk m c 2 t) := by
  rw [outsAt0_C m c t (by omega) (by omega) h]
  frame_out

theorem final3 (c : Dev nD) : (dats m 0 c).arrAt 3 (cfgs 0).N = dH (aD m c) (aW m c) (aZ m c) := by
  refine (dats m 0 c).arrAt_eq_of_covers 3 _ (by decide +kernel) fun t hf y => ?_
  blk_simp
  rw [after0_3, out_last m c t ((flush0_3 t).mp hf)]
  have hread := read_unread_whole (Val := Elt Ideal) cc0_scratch0 (Memref.isWhole_whole _)
  pointwise [k0_pay4, dH]
  rw [Pipeline.eq_sum_fin_of_reset_step_apply_of_flush (fun n h => (outsAt0 m c n h).2) 6 (fun _ => 0) _
    (fun t h j => by rw [outsAt0_A m c t h (by omega) (by omega)]; frame_out; rw [prod, zero_add])
    (fun t h j => by
      by_cases h5 : t.val % 6 = 5
      · rw [outsAt0_C m c t h (by omega) h5]; frame_out; rw [step, hread]
      · rw [outsAt0_B m c t h (by omega) h5]; frame_out; rw [step, hread])
    t ((flush0_3 t).mp hf) _, zero_add]
  rw [add_comm]
  refine Ideal.add_congr ?_ ?_
  · blk_point [iblk, V, idx t]
  · refine Fin.sum_mul_add_congr fun s k hl => ?_
    blk_point [iblk, V, idx t, idx ⟨_, Pipeline.run_point_lt_of_flush t ((flush0_3 t).mp hf) s⟩]

end Cert.ProjDxValue

end
-- ==== Proof.ProjDx.Claims.lean ====
/-  The claims about the gradient of the input projection's argument. -/
module

public import proofs.«01_k».proof.Defs
public import proofs.«01_k».proof.Proof.Gen.ProjDx.Frame
public import proofs.«01_k».proof.Proof.Gen.ProjDxIdeal.Frame
public import proofs.«01_k».proof.Proof.Gen.ProjDxRefIdeal.Run
public import proofs.«01_k».proof.Proof.ProjDx.Value
public import Idealize.ShloMosaic.Lib.Quiescent
public import Idealize.ShloMosaic.Lib.Claim

@[expose] public section

set_option maxRecDepth 16384

noncomputable section

namespace Cert.ProjDxValue

open Idealize.ShloMosaic Idealize.ShloMosaic.TcCoe Idealize.SL.Sem

theorem frame_kernel : Cert.quiescent_ProjDx := fun m ρ _ => Cert.ProjDx.Gen.frame m ρ
theorem frame_ideal : Cert.quiescent_ProjDxIdeal := fun m ρ _ => Cert.ProjDxIdeal.Gen.frame m ρ

theorem frame_ref : Cert.quiescent_ProjDxRefIdeal := fun m ρ _ =>
  (θ_run Cert.ProjDxRefIdeal.defs _ _).mono (fun r h => ⟨fun c => (h c).2, sem_eq_zero_of_no_sems (by decide) r.2⟩)
    (Cert.ProjDxRefIdeal.Value.run (F := Ideal) m ρ)

section

variable (m : (ℓ : Loc Cert.ProjDxIdeal.nD Cert.ProjDxIdeal.τ Cert.ProjDxIdeal.sig) → Buf (Elt Ideal) ℓ) (g : Dev Cert.ProjDxIdeal.nD → PrngReg)

/-- The kernel's run: its results at the reference's terms, its arguments unchanged. -/
theorem run_kernel : θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
    r.2.mem ((c.tc : Thread Cert.ProjDxIdeal.nD Cert.ProjDxIdeal.τ).loc Cert.ProjDxIdeal.main_v3) = dH (aD m c) (aW m c) (aZ m c)
    ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
    ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
    ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2)) := by
  run_from Cert.ProjDxIdeal.Gen.run_main m g
  · exact final3 m c

variable (m' : (ℓ : Loc Cert.ProjDxRefIdeal.nD Cert.ProjDxRefIdeal.τ Cert.ProjDxRefIdeal.sig) → Buf (Elt Ideal) ℓ) (g' : Dev Cert.ProjDxRefIdeal.nD → PrngReg)

/-- The reference's run, its results named. -/
theorem run_ref : θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
    r.2.mem ((c.tc : Thread Cert.ProjDxRefIdeal.nD Cert.ProjDxRefIdeal.τ).loc Cert.ProjDxRefIdeal.main_v11) = dH (m' ((c.tc : Thread Cert.ProjDxRefIdeal.nD Cert.ProjDxRefIdeal.τ).loc Cert.ProjDxRefIdeal.main_arg0)) (m' ((c.tc : Thread Cert.ProjDxRefIdeal.nD Cert.ProjDxRefIdeal.τ).loc Cert.ProjDxRefIdeal.main_arg1)) (m' ((c.tc : Thread Cert.ProjDxRefIdeal.nD Cert.ProjDxRefIdeal.τ).loc Cert.ProjDxRefIdeal.main_arg2))
    ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
    ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1)
    ∧ r.2.mem ((c.tc : Thread Cert.ProjDxRefIdeal.nD Cert.ProjDxRefIdeal.τ).loc Cert.ProjDxRefIdeal.main_arg2) = m' ((c.tc : Thread Cert.ProjDxRefIdeal.nD Cert.ProjDxRefIdeal.τ).loc Cert.ProjDxRefIdeal.main_arg2)) := by
  unfold dH
  exact Cert.ProjDxRefIdeal.Value.run m' g'

end

/-- Each of the kernel's results is the reference's. -/
theorem algebraic : Cert.algebraic_ProjDxIdeal_ProjDxRefIdeal := by
  intro m g m' g' _ hagree
  refine ⟨_, run_kernel m g, (θ_run Cert.ProjDxRefIdeal.defs _ _).mono (fun r h c => ?_) (run_ref m' g')⟩
  have e0 := (hagree c).1
  have e1 := (hagree c).2.1
  have e2 := (hagree c).2.2
  obtain ⟨h0, hargs⟩ := h c
  rw [e0, e1, e2] at h0
  exact ⟨h0, hargs⟩

end Cert.ProjDxValue

end
-- ==== Proof.ProjDw.Ref.lean ====
/-  The reference's results for the gradient of the input projection's weights: the terms its run ends with, over typed variables. -/
module

public import proofs.«01_k».proof.Proof.Gen.ProjDwRefIdeal.Run
public import Idealize.ShloMosaic.Lib.Pointwise

@[expose] public section

set_option maxRecDepth 16384

noncomputable section

namespace Cert.ProjDwValue

open Cert.ProjDwRefIdeal Cert.ProjDwRefIdeal.Gen Cert.ProjDwRefIdeal.Value Idealize.ShloMosaic Idealize.ShloMosaic.TcCoe Idealize.SL.Sem

/-- The reference's gradient of the input projection. -/
def dWin (D : FVec Ideal S2176x6144 .bf16) (H : FVec Ideal S2176x1024 .bf16) : FVec Ideal S1x6144x1024 .bf16 :=
  broadcastInDim S1x6144x1024 ![1, 2] bcast_S6144x1024_S1x6144x1024_1_2 (truncf .bf16 (transpose S6144x1024 [1, 0] (transpose S1024x6144 [1, 0] (Host.dotGeneral dot_S2176x6144_S2176x1024_S6144x1024_0_0_1_1_n_n none (extf .f32 D bitsLt_bf16_f32) (extf .f32 H bitsLt_bf16_f32)) transposes_S6144x1024_S1024x6144_1_0) transposes_S1024x6144_S6144x1024_1_0) bitsLt_bf16_f32)

end Cert.ProjDwValue

end
-- ==== Proof.ProjDw.Value.lean ====
/-  The result arrays of the kernel for the gradient of the input projection's weights: each is the reference's term of the argument arrays. -/
module

public import proofs.«01_k».proof.Proof.Gen.ProjDwIdeal.Frame
public import proofs.«01_k».proof.Proof.ProjDw.Ref
public import Idealize.ShloMosaic.Lib.Pipeline.ValueKit
public import Idealize.ShloMosaic.Lib.Pointwise

@[expose] public section

set_option maxRecDepth 16384

noncomputable section

namespace Cert.ProjDwValue

open Cert.ProjDwIdeal Cert.ProjDwIdeal.Gen Idealize.ShloMosaic Idealize.ShloMosaic.TcCoe Idealize.SL.Sem
open Idealize.ShloMosaic.Pipeline (Dat)

variable (m : (ℓ : Loc nD τ sig) → Buf (Elt Ideal) ℓ)

/-- The argument arrays, at their types. -/
abbrev aD (c : Dev nD) : FVec Ideal S2176x6144 .bf16 := m ((c : Thread nD τ).loc main_arg0)
abbrev aH (c : Dev nD) : FVec Ideal S2176x1024 .bf16 := m ((c : Thread nD τ).loc main_arg1)

/-- The block every window is at, at each point. -/
theorem idx : ∀ t : Fin cfg0.N, win0_0.index t = ![0, 0, (grid0.coords t 1).val] ∧ win0_1.index t = ![0, 0, 0] ∧ win0_2.index t = ![0, (grid0.coords t 1).val, 0] :=
  (by decide +kernel : ∀ t : Fin grid0.N, _)

theorem point2 (c : Dev nD) (t : Fin cfg0.N) (y) : k0_pay1 (iblk m c 0 t) (iblk m c 1 t) y
    = dWin (aD m c) (aH m c) (((cfg0.win 2).blk t).view.emb y) := by
  pointwise [k0_pay1, dWin]
  blk_point [iblk, V, idx t]

/-- The array of the gradient of the input projection, after the run. -/
theorem final2 (c : Dev nD) : (dats m 0 c).arrAt 2 (cfgs 0).N = dWin (aD m c) (aH m c) := by
  refine (dats m 0 c).arrAt_eq_of_covers 2 _ (by decide +kernel) fun t _ y => ?_
  blk_simp
  rw [after0_2]; frame_out
  exact point2 m c t y

end Cert.ProjDwValue

end
-- ==== Proof.ProjDw.Claims.lean ====
/-  The claims about the gradient of the input projection's weights. -/
module

public import proofs.«01_k».proof.Defs
public import proofs.«01_k».proof.Proof.Gen.ProjDw.Frame
public import proofs.«01_k».proof.Proof.Gen.ProjDwIdeal.Frame
public import proofs.«01_k».proof.Proof.Gen.ProjDwRefIdeal.Run
public import proofs.«01_k».proof.Proof.ProjDw.Value
public import Idealize.ShloMosaic.Lib.Quiescent
public import Idealize.ShloMosaic.Lib.Claim

@[expose] public section

set_option maxRecDepth 16384

noncomputable section

namespace Cert.ProjDwValue

open Idealize.ShloMosaic Idealize.ShloMosaic.TcCoe Idealize.SL.Sem

theorem frame_kernel : Cert.quiescent_ProjDw := fun m ρ _ => Cert.ProjDw.Gen.frame m ρ
theorem frame_ideal : Cert.quiescent_ProjDwIdeal := fun m ρ _ => Cert.ProjDwIdeal.Gen.frame m ρ

theorem frame_ref : Cert.quiescent_ProjDwRefIdeal := fun m ρ _ =>
  (θ_run Cert.ProjDwRefIdeal.defs _ _).mono (fun r h => ⟨fun c => (h c).2, sem_eq_zero_of_no_sems (by decide) r.2⟩)
    (Cert.ProjDwRefIdeal.Value.run (F := Ideal) m ρ)

section

variable (m : (ℓ : Loc Cert.ProjDwIdeal.nD Cert.ProjDwIdeal.τ Cert.ProjDwIdeal.sig) → Buf (Elt Ideal) ℓ) (g : Dev Cert.ProjDwIdeal.nD → PrngReg)

/-- The kernel's run: its results at the reference's terms, its arguments unchanged. -/
theorem run_kernel : θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
    r.2.mem ((c.tc : Thread Cert.ProjDwIdeal.nD Cert.ProjDwIdeal.τ).loc Cert.ProjDwIdeal.main_v2) = dWin (aD m c) (aH m c)
    ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
    ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1)) := by
  run_from Cert.ProjDwIdeal.Gen.run_main m g
  · exact final2 m c

variable (m' : (ℓ : Loc Cert.ProjDwRefIdeal.nD Cert.ProjDwRefIdeal.τ Cert.ProjDwRefIdeal.sig) → Buf (Elt Ideal) ℓ) (g' : Dev Cert.ProjDwRefIdeal.nD → PrngReg)

/-- The reference's run, its results named. -/
theorem run_ref : θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
    r.2.mem ((c.tc : Thread Cert.ProjDwRefIdeal.nD Cert.ProjDwRefIdeal.τ).loc Cert.ProjDwRefIdeal.main_v9) = dWin (m' ((c.tc : Thread Cert.ProjDwRefIdeal.nD Cert.ProjDwRefIdeal.τ).loc Cert.ProjDwRefIdeal.main_arg0)) (m' ((c.tc : Thread Cert.ProjDwRefIdeal.nD Cert.ProjDwRefIdeal.τ).loc Cert.ProjDwRefIdeal.main_arg1))
    ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
    ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1)) := by
  unfold dWin
  exact Cert.ProjDwRefIdeal.Value.run m' g'

end

/-- Each of the kernel's results is the reference's. -/
theorem algebraic : Cert.algebraic_ProjDwIdeal_ProjDwRefIdeal := by
  intro m g m' g' _ hagree
  refine ⟨_, run_kernel m g, (θ_run Cert.ProjDwRefIdeal.defs _ _).mono (fun r h c => ?_) (run_ref m' g')⟩
  have e0 := (hagree c).1
  have e1 := (hagree c).2
  obtain ⟨h0, hargs⟩ := h c
  rw [e0, e1] at h0
  exact ⟨h0, hargs⟩

end Cert.ProjDwValue

end
-- ==== Proof.WoDx.Ref.lean ====
/-  The reference's results for the gradient of the output projection's argument: the terms its run ends with, over typed variables. -/
module

public import proofs.«01_k».proof.Proof.Gen.WoDxRefIdeal.Run
public import Idealize.ShloMosaic.Lib.Pointwise

@[expose] public section

set_option maxRecDepth 16384

noncomputable section

namespace Cert.WoDxValue

open Cert.WoDxRefIdeal Cert.WoDxRefIdeal.Gen Cert.WoDxRefIdeal.Value Idealize.ShloMosaic Idealize.ShloMosaic.TcCoe Idealize.SL.Sem

/-- The reference's gradient of the mixed heads. -/
def dMixed (D : FVec Ideal S2176x1024 .bf16) (W : FVec Ideal S1024x1024 .bf16) : FVec Ideal S1x2176x1024 .f32 :=
  broadcastInDim S1x2176x1024 ![1, 2] bcast_S2176x1024_S1x2176x1024_1_2 (Host.dotGeneral dot_S2176x1024_S1024x1024_S2176x1024_1_1_0_0_n_n none (extf .f32 D bitsLt_bf16_f32) (extf .f32 W bitsLt_bf16_f32))

end Cert.WoDxValue

end
-- ==== Proof.WoDx.Value.lean ====
/-  The result arrays of the kernel for the gradient of the output projection's argument: each is the reference's term of the argument arrays. -/
module

public import proofs.«01_k».proof.Proof.Gen.WoDxIdeal.Frame
public import proofs.«01_k».proof.Proof.WoDx.Ref
public import Idealize.ShloMosaic.Lib.Pipeline.ValueKit
public import Idealize.ShloMosaic.Lib.Pointwise

@[expose] public section

set_option maxRecDepth 16384

noncomputable section

namespace Cert.WoDxValue

open Cert.WoDxIdeal Cert.WoDxIdeal.Gen Idealize.ShloMosaic Idealize.ShloMosaic.TcCoe Idealize.SL.Sem
open Idealize.ShloMosaic.Pipeline (Dat)

variable (m : (ℓ : Loc nD τ sig) → Buf (Elt Ideal) ℓ)

/-- The argument arrays, at their types. -/
abbrev aD (c : Dev nD) : FVec Ideal S2176x1024 .bf16 := m ((c : Thread nD τ).loc main_arg0)
abbrev aW (c : Dev nD) : FVec Ideal S1024x1024 .bf16 := m ((c : Thread nD τ).loc main_arg1)

/-- The block every window is at, at each point. -/
theorem idx : ∀ t : Fin cfg0.N, win0_0.index t = ![0, (grid0.coords t 1).val, 0] ∧ win0_1.index t = ![0, 0, 0] ∧ win0_2.index t = ![0, (grid0.coords t 1).val, 0] :=
  (by decide +kernel : ∀ t : Fin grid0.N, _)

theorem point2 (c : Dev nD) (t : Fin cfg0.N) (y) : k0_pay1 (iblk m c 0 t) (iblk m c 1 t) y
    = dMixed (aD m c) (aW m c) (((cfg0.win 2).blk t).view.emb y) := by
  pointwise [k0_pay1, dMixed]
  blk_point [iblk, V, idx t]

/-- The array of the gradient of the mixed heads, after the run. -/
theorem final2 (c : Dev nD) : (dats m 0 c).arrAt 2 (cfgs 0).N = dMixed (aD m c) (aW m c) := by
  refine (dats m 0 c).arrAt_eq_of_covers 2 _ (by decide +kernel) fun t _ y => ?_
  blk_simp
  rw [after0_2]; frame_out
  exact point2 m c t y

end Cert.WoDxValue

end
-- ==== Proof.WoDx.Claims.lean ====
/-  The claims about the gradient of the output projection's argument. -/
module

public import proofs.«01_k».proof.Defs
public import proofs.«01_k».proof.Proof.Gen.WoDx.Frame
public import proofs.«01_k».proof.Proof.Gen.WoDxIdeal.Frame
public import proofs.«01_k».proof.Proof.Gen.WoDxRefIdeal.Run
public import proofs.«01_k».proof.Proof.WoDx.Value
public import Idealize.ShloMosaic.Lib.Quiescent
public import Idealize.ShloMosaic.Lib.Claim

@[expose] public section

set_option maxRecDepth 16384

noncomputable section

namespace Cert.WoDxValue

open Idealize.ShloMosaic Idealize.ShloMosaic.TcCoe Idealize.SL.Sem

theorem frame_kernel : Cert.quiescent_WoDx := fun m ρ _ => Cert.WoDx.Gen.frame m ρ
theorem frame_ideal : Cert.quiescent_WoDxIdeal := fun m ρ _ => Cert.WoDxIdeal.Gen.frame m ρ

theorem frame_ref : Cert.quiescent_WoDxRefIdeal := fun m ρ _ =>
  (θ_run Cert.WoDxRefIdeal.defs _ _).mono (fun r h => ⟨fun c => (h c).2, sem_eq_zero_of_no_sems (by decide) r.2⟩)
    (Cert.WoDxRefIdeal.Value.run (F := Ideal) m ρ)

section

variable (m : (ℓ : Loc Cert.WoDxIdeal.nD Cert.WoDxIdeal.τ Cert.WoDxIdeal.sig) → Buf (Elt Ideal) ℓ) (g : Dev Cert.WoDxIdeal.nD → PrngReg)

/-- The kernel's run: its results at the reference's terms, its arguments unchanged. -/
theorem run_kernel : θ_run (Cert.WoDxIdeal.defs (F := Ideal)) (onTc (τ := Cert.WoDxIdeal.τ) (Cert.WoDxIdeal.main (F := Ideal))) ⟨m, fun _ => 0, g⟩ (fun r => ∀ c : Dev Cert.WoDxIdeal.nD,
    r.2.mem ((c.tc : Thread Cert.WoDxIdeal.nD Cert.WoDxIdeal.τ).loc Cert.WoDxIdeal.main_v2) = dMixed (aD m c) (aW m c)
    ∧ r.2.mem ((c.tc : Thread Cert.WoDxIdeal.nD Cert.WoDxIdeal.τ).loc Cert.WoDxIdeal.main_arg0) = m ((c.tc : Thread Cert.WoDxIdeal.nD Cert.WoDxIdeal.τ).loc Cert.WoDxIdeal.main_arg0)
    ∧ r.2.mem ((c.tc : Thread Cert.WoDxIdeal.nD Cert.WoDxIdeal.τ).loc Cert.WoDxIdeal.main_arg1) = m ((c.tc : Thread Cert.WoDxIdeal.nD Cert.WoDxIdeal.τ).loc Cert.WoDxIdeal.main_arg1)) := by
  run_from Cert.WoDxIdeal.Gen.run_main m g
  · exact final2 m c

variable (m' : (ℓ : Loc Cert.WoDxRefIdeal.nD Cert.WoDxRefIdeal.τ Cert.WoDxRefIdeal.sig) → Buf (Elt Ideal) ℓ) (g' : Dev Cert.WoDxRefIdeal.nD → PrngReg)

/-- The reference's run, its results named. -/
theorem run_ref : θ_run (Cert.WoDxRefIdeal.defs (F := Ideal)) (onTc (τ := Cert.WoDxRefIdeal.τ) (Cert.WoDxRefIdeal.main (F := Ideal))) ⟨m', fun _ => 0, g'⟩ (fun r => ∀ c : Dev Cert.WoDxRefIdeal.nD,
    r.2.mem ((c.tc : Thread Cert.WoDxRefIdeal.nD Cert.WoDxRefIdeal.τ).loc Cert.WoDxRefIdeal.main_v5) = dMixed (m' ((c.tc : Thread Cert.WoDxRefIdeal.nD Cert.WoDxRefIdeal.τ).loc Cert.WoDxRefIdeal.main_arg0)) (m' ((c.tc : Thread Cert.WoDxRefIdeal.nD Cert.WoDxRefIdeal.τ).loc Cert.WoDxRefIdeal.main_arg1))
    ∧ r.2.mem ((c.tc : Thread Cert.WoDxRefIdeal.nD Cert.WoDxRefIdeal.τ).loc Cert.WoDxRefIdeal.main_arg0) = m' ((c.tc : Thread Cert.WoDxRefIdeal.nD Cert.WoDxRefIdeal.τ).loc Cert.WoDxRefIdeal.main_arg0)
    ∧ r.2.mem ((c.tc : Thread Cert.WoDxRefIdeal.nD Cert.WoDxRefIdeal.τ).loc Cert.WoDxRefIdeal.main_arg1) = m' ((c.tc : Thread Cert.WoDxRefIdeal.nD Cert.WoDxRefIdeal.τ).loc Cert.WoDxRefIdeal.main_arg1)) := by
  unfold dMixed
  exact Cert.WoDxRefIdeal.Value.run m' g'

end

/-- Each of the kernel's results is the reference's. -/
theorem algebraic : Cert.algebraic_WoDxIdeal_WoDxRefIdeal := by
  intro m g m' g' _ hagree
  refine ⟨_, run_kernel m g, (θ_run Cert.WoDxRefIdeal.defs _ _).mono (fun r h c => ?_) (run_ref m' g')⟩
  have e0 := (hagree c).1
  have e1 := (hagree c).2
  obtain ⟨h0, hargs⟩ := h c
  rw [e0, e1] at h0
  exact ⟨h0, hargs⟩

end Cert.WoDxValue

end
-- ==== Proof.WoDw.Ref.lean ====
/-  The reference's results for the gradient of the output projection's weights: the terms its run ends with, over typed variables. -/
module

public import proofs.«01_k».proof.Proof.Gen.WoDwRefIdeal.Run
public import Idealize.ShloMosaic.Lib.Pointwise

@[expose] public section

set_option maxRecDepth 16384

noncomputable section

namespace Cert.WoDwValue

open Cert.WoDwRefIdeal Cert.WoDwRefIdeal.Gen Cert.WoDwRefIdeal.Value Idealize.ShloMosaic Idealize.ShloMosaic.TcCoe Idealize.SL.Sem

/-- The reference's gradient of the output projection. -/
def dWo (X : FVec Ideal S2176x1024 .bf16) (D : FVec Ideal S2176x1024 .bf16) : FVec Ideal S1x1024x1024 .bf16 :=
  broadcastInDim S1x1024x1024 ![1, 2] bcast_S1024x1024_S1x1024x1024_1_2 (truncf .bf16 (transpose S1024x1024 [1, 0] (Host.dotGeneral dot_S2176x1024_S2176x1024_S1024x1024_0_0_1_1_n_n none (extf .f32 D bitsLt_bf16_f32) (extf .f32 X bitsLt_bf16_f32)) transposes_S1024x1024_S1024x1024_1_0) bitsLt_bf16_f32)

end Cert.WoDwValue

end
-- ==== Proof.WoDw.Value.lean ====
/-  The result arrays of the kernel for the gradient of the output projection's weights: each is the reference's term of the argument arrays. -/
module

public import proofs.«01_k».proof.Proof.Gen.WoDwIdeal.Frame
public import proofs.«01_k».proof.Proof.WoDw.Ref
public import Idealize.ShloMosaic.Lib.Pipeline.ValueKit
public import Idealize.ShloMosaic.Lib.Pointwise

@[expose] public section

set_option maxRecDepth 16384

noncomputable section

namespace Cert.WoDwValue

open Cert.WoDwIdeal Cert.WoDwIdeal.Gen Idealize.ShloMosaic Idealize.ShloMosaic.TcCoe Idealize.SL.Sem
open Idealize.ShloMosaic.Pipeline (Dat)

variable (m : (ℓ : Loc nD τ sig) → Buf (Elt Ideal) ℓ)

/-- The argument arrays, at their types. -/
abbrev aX (c : Dev nD) : FVec Ideal S2176x1024 .bf16 := m ((c : Thread nD τ).loc main_arg0)
abbrev aD (c : Dev nD) : FVec Ideal S2176x1024 .bf16 := m ((c : Thread nD τ).loc main_arg1)

/-- The block every window is at, at each point. -/
theorem idx : ∀ t : Fin cfg0.N, win0_0.index t = ![0, 0, 0] ∧ win0_1.index t = ![0, 0, 0] ∧ win0_2.index t = ![0, 0, 0] :=
  (by decide +kernel : ∀ t : Fin grid0.N, _)

theorem point2 (c : Dev nD) (t : Fin cfg0.N) (y) : k0_pay1 (iblk m c 0 t) (iblk m c 1 t) y
    = dWo (aX m c) (aD m c) (((cfg0.win 2).blk t).view.emb y) := by
  pointwise [k0_pay1, dWo]
  simp only [mul_comm (aD m c _)]
  blk_point [iblk, V, idx t]

/-- The array of the gradient of the output projection, after the run. -/
theorem final2 (c : Dev nD) : (dats m 0 c).arrAt 2 (cfgs 0).N = dWo (aX m c) (aD m c) := by
  refine (dats m 0 c).arrAt_eq_of_covers 2 _ (by decide +kernel) fun t _ y => ?_
  blk_simp
  rw [after0_2]; frame_out
  exact point2 m c t y

end Cert.WoDwValue

end
-- ==== Proof.WoDw.Claims.lean ====
/-  The claims about the gradient of the output projection's weights. -/
module

public import proofs.«01_k».proof.Defs
public import proofs.«01_k».proof.Proof.Gen.WoDw.Frame
public import proofs.«01_k».proof.Proof.Gen.WoDwIdeal.Frame
public import proofs.«01_k».proof.Proof.Gen.WoDwRefIdeal.Run
public import proofs.«01_k».proof.Proof.WoDw.Value
public import Idealize.ShloMosaic.Lib.Quiescent
public import Idealize.ShloMosaic.Lib.Claim

@[expose] public section

set_option maxRecDepth 16384

noncomputable section

namespace Cert.WoDwValue

open Idealize.ShloMosaic Idealize.ShloMosaic.TcCoe Idealize.SL.Sem

theorem frame_kernel : Cert.quiescent_WoDw := fun m ρ _ => Cert.WoDw.Gen.frame m ρ
theorem frame_ideal : Cert.quiescent_WoDwIdeal := fun m ρ _ => Cert.WoDwIdeal.Gen.frame m ρ

theorem frame_ref : Cert.quiescent_WoDwRefIdeal := fun m ρ _ =>
  (θ_run Cert.WoDwRefIdeal.defs _ _).mono (fun r h => ⟨fun c => (h c).2, sem_eq_zero_of_no_sems (by decide) r.2⟩)
    (Cert.WoDwRefIdeal.Value.run (F := Ideal) m ρ)

section

variable (m : (ℓ : Loc Cert.WoDwIdeal.nD Cert.WoDwIdeal.τ Cert.WoDwIdeal.sig) → Buf (Elt Ideal) ℓ) (g : Dev Cert.WoDwIdeal.nD → PrngReg)

/-- The kernel's run: its results at the reference's terms, its arguments unchanged. -/
theorem run_kernel : θ_run (Cert.WoDwIdeal.defs (F := Ideal)) (onTc (τ := Cert.WoDwIdeal.τ) (Cert.WoDwIdeal.main (F := Ideal))) ⟨m, fun _ => 0, g⟩ (fun r => ∀ c : Dev Cert.WoDwIdeal.nD,
    r.2.mem ((c.tc : Thread Cert.WoDwIdeal.nD Cert.WoDwIdeal.τ).loc Cert.WoDwIdeal.main_v2) = dWo (aX m c) (aD m c)
    ∧ r.2.mem ((c.tc : Thread Cert.WoDwIdeal.nD Cert.WoDwIdeal.τ).loc Cert.WoDwIdeal.main_arg0) = m ((c.tc : Thread Cert.WoDwIdeal.nD Cert.WoDwIdeal.τ).loc Cert.WoDwIdeal.main_arg0)
    ∧ r.2.mem ((c.tc : Thread Cert.WoDwIdeal.nD Cert.WoDwIdeal.τ).loc Cert.WoDwIdeal.main_arg1) = m ((c.tc : Thread Cert.WoDwIdeal.nD Cert.WoDwIdeal.τ).loc Cert.WoDwIdeal.main_arg1)) := by
  run_from Cert.WoDwIdeal.Gen.run_main m g
  · exact final2 m c

variable (m' : (ℓ : Loc Cert.WoDwRefIdeal.nD Cert.WoDwRefIdeal.τ Cert.WoDwRefIdeal.sig) → Buf (Elt Ideal) ℓ) (g' : Dev Cert.WoDwRefIdeal.nD → PrngReg)

/-- The reference's run, its results named. -/
theorem run_ref : θ_run (Cert.WoDwRefIdeal.defs (F := Ideal)) (onTc (τ := Cert.WoDwRefIdeal.τ) (Cert.WoDwRefIdeal.main (F := Ideal))) ⟨m', fun _ => 0, g'⟩ (fun r => ∀ c : Dev Cert.WoDwRefIdeal.nD,
    r.2.mem ((c.tc : Thread Cert.WoDwRefIdeal.nD Cert.WoDwRefIdeal.τ).loc Cert.WoDwRefIdeal.main_v7) = dWo (m' ((c.tc : Thread Cert.WoDwRefIdeal.nD Cert.WoDwRefIdeal.τ).loc Cert.WoDwRefIdeal.main_arg0)) (m' ((c.tc : Thread Cert.WoDwRefIdeal.nD Cert.WoDwRefIdeal.τ).loc Cert.WoDwRefIdeal.main_arg1))
    ∧ r.2.mem ((c.tc : Thread Cert.WoDwRefIdeal.nD Cert.WoDwRefIdeal.τ).loc Cert.WoDwRefIdeal.main_arg0) = m' ((c.tc : Thread Cert.WoDwRefIdeal.nD Cert.WoDwRefIdeal.τ).loc Cert.WoDwRefIdeal.main_arg0)
    ∧ r.2.mem ((c.tc : Thread Cert.WoDwRefIdeal.nD Cert.WoDwRefIdeal.τ).loc Cert.WoDwRefIdeal.main_arg1) = m' ((c.tc : Thread Cert.WoDwRefIdeal.nD Cert.WoDwRefIdeal.τ).loc Cert.WoDwRefIdeal.main_arg1)) := by
  unfold dWo
  exact Cert.WoDwRefIdeal.Value.run m' g'

end

/-- Each of the kernel's results is the reference's. -/
theorem algebraic : Cert.algebraic_WoDwIdeal_WoDwRefIdeal := by
  intro m g m' g' _ hagree
  refine ⟨_, run_kernel m g, (θ_run Cert.WoDwRefIdeal.defs _ _).mono (fun r h c => ?_) (run_ref m' g')⟩
  have e0 := (hagree c).1
  have e1 := (hagree c).2
  obtain ⟨h0, hargs⟩ := h c
  rw [e0, e1] at h0
  exact ⟨h0, hargs⟩

end Cert.WoDwValue

end
-- ==== Proof.WoLn.Ref.lean ====
/-  The reference's results for the output projection, its residual sum and norm: the terms its run ends with, over typed variables. -/
module

public import proofs.«01_k».proof.Proof.Gen.WoLnRefIdeal.Run
public import Idealize.ShloMosaic.Lib.Pointwise

@[expose] public section

set_option maxRecDepth 16384

noncomputable section

namespace Cert.WoLnValue

open Cert.WoLnRefIdeal Cert.WoLnRefIdeal.Gen Cert.WoLnRefIdeal.Value Idealize.ShloMosaic Idealize.ShloMosaic.TcCoe Idealize.SL.Sem

/-- The reference's residual sum. -/
def sum (H : FVec Ideal S2176x1024 .bf16) (W : FVec Ideal S1024x1024 .bf16) (X : FVec Ideal S2176x1024 .f32) (G : FVec Ideal S1x1024 .f32) (B : FVec Ideal S1x1024 .f32) : FVec Ideal S2176x1024 .f32 :=
  addf (mulf (broadcastInDim S2176x1024 ![] bcast_S_S2176x1024 (constant S_ .f32 0x3FB504F3#32)) X) (Host.dotGeneral dot_S2176x1024_S1024x1024_S2176x1024_1_0_0_1_n_n none (extf .f32 H bitsLt_bf16_f32) (extf .f32 W bitsLt_bf16_f32))

/-- The reference's norm, of any array. -/
def normOf (Z : FVec Ideal S2176x1024 .f32) (G : FVec Ideal S1x1024 .f32) (B : FVec Ideal S1x1024 .f32) : FVec Ideal S2176x1024 .f32 :=
  addf (mulf (mulf (subf Z (broadcastInDim S2176x1024 ![0, 1] bcast_S2176x1_S2176x1024_0_1 (Host.divf (broadcastInDim S2176x1 ![0] bcast_S2176_S2176x1_0 (Host.reduceAdd Z (constant S_ .f32 0x00000000#32) reducesTo_S2176x1024_S2176_d1 h_S_)) (broadcastInDim S2176x1 ![] bcast_S_S2176x1 (constant S_ .f32 0x44800000#32))))) (broadcastInDim S2176x1024 ![0, 1] bcast_S2176x1_S2176x1024_0_1 (Host.rsqrt (addf (Host.divf (broadcastInDim S2176x1 ![0] bcast_S2176_S2176x1_0 (Host.reduceAdd (mulf (subf Z (broadcastInDim S2176x1024 ![0, 1] bcast_S2176x1_S2176x1024_0_1 (Host.divf (broadcastInDim S2176x1 ![0] bcast_S2176_S2176x1_0 (Host.reduceAdd Z (constant S_ .f32 0x00000000#32) reducesTo_S2176x1024_S2176_d1 h_S_)) (broadcastInDim S2176x1 ![] bcast_S_S2176x1 (constant S_ .f32 0x44800000#32))))) (subf Z (broadcastInDim S2176x1024 ![0, 1] bcast_S2176x1_S2176x1024_0_1 (Host.divf (broadcastInDim S2176x1 ![0] bcast_S2176_S2176x1_0 (Host.reduceAdd Z (constant S_ .f32 0x00000000#32) reducesTo_S2176x1024_S2176_d1 h_S_)) (broadcastInDim S2176x1 ![] bcast_S_S2176x1 (constant S_ .f32 0x44800000#32)))))) (constant S_ .f32 0x00000000#32) reducesTo_S2176x1024_S2176_d1 h_S_)) (broadcastInDim S2176x1 ![] bcast_S_S2176x1 (constant S_ .f32 0x44800000#32))) (broadcastInDim S2176x1 ![] bcast_S_S2176x1 (constant S_ .f32 0x3727C5AC#32)))))) (broadcastInDim S2176x1024 ![0, 1] bcast_S1x1024_S2176x1024_0_1 G)) (broadcastInDim S2176x1024 ![0, 1] bcast_S1x1024_S2176x1024_0_1 B)

/-- The reference's normed sum. -/
def norm (H : FVec Ideal S2176x1024 .bf16) (W : FVec Ideal S1024x1024 .bf16) (X : FVec Ideal S2176x1024 .f32) (G : FVec Ideal S1x1024 .f32) (B : FVec Ideal S1x1024 .f32) : FVec Ideal S2176x1024 .f32 :=
  normOf (sum H W X G B) G B

/-- The reference's normed sum, rounded. -/
def normB (H : FVec Ideal S2176x1024 .bf16) (W : FVec Ideal S1024x1024 .bf16) (X : FVec Ideal S2176x1024 .f32) (G : FVec Ideal S1x1024 .f32) (B : FVec Ideal S1x1024 .f32) : FVec Ideal S2176x1024 .bf16 :=
  truncf .bf16 (normOf (sum H W X G B) G B) bitsLt_bf16_f32

end Cert.WoLnValue

end
-- ==== Proof.WoLn.Value.lean ====
/-  The result arrays of the kernel for the output projection, its residual sum and norm: each is the reference's term of the argument arrays. -/
module

public import proofs.«01_k».proof.Proof.Gen.WoLnIdeal.Frame
public import proofs.«01_k».proof.Proof.WoLn.Ref
public import Idealize.ShloMosaic.Lib.Pipeline.ValueKit
public import Idealize.ShloMosaic.Lib.Pointwise

@[expose] public section

set_option maxRecDepth 16384

noncomputable section

namespace Cert.WoLnValue

open Cert.WoLnIdeal Cert.WoLnIdeal.Gen Idealize.ShloMosaic Idealize.ShloMosaic.TcCoe Idealize.SL.Sem
open Idealize.ShloMosaic.Pipeline (Dat)

variable (m : (ℓ : Loc nD τ sig) → Buf (Elt Ideal) ℓ)

/-- The argument arrays, at their types. -/
abbrev aH (c : Dev nD) : FVec Ideal S2176x1024 .bf16 := m ((c : Thread nD τ).loc main_arg0)
abbrev aW (c : Dev nD) : FVec Ideal S1024x1024 .bf16 := m ((c : Thread nD τ).loc main_arg1)
abbrev aX (c : Dev nD) : FVec Ideal S2176x1024 .f32 := m ((c : Thread nD τ).loc main_arg2)
abbrev aG (c : Dev nD) : FVec Ideal S1x1024 .f32 := m ((c : Thread nD τ).loc main_arg3)
abbrev aB (c : Dev nD) : FVec Ideal S1x1024 .f32 := m ((c : Thread nD τ).loc main_arg4)

/-- The block every window is at, at each point. -/
theorem idx : ∀ t : Fin cfg0.N, win0_0.index t = ![0, (grid0.coords t 0).val, 0] ∧ win0_1.index t = ![0, 0, 0] ∧ win0_2.index t = ![(grid0.coords t 0).val, 0] ∧ win0_3.index t = ![0, 0] ∧ win0_4.index t = ![0, 0] ∧ win0_5.index t = ![(grid0.coords t 0).val, 0] ∧ win0_6.index t = ![(grid0.coords t 0).val, 0] ∧ win0_7.index t = ![(grid0.coords t 0).val, 0] :=
  (by decide +kernel : ∀ t : Fin grid0.N, _)

/-- The rows of the residual sum that a point computes. -/
theorem sum_at (c : Dev nD) (t : Fin cfg0.N) (y : S544x1024.Idx) : k0_pay2 (iblk m c 0 t) (iblk m c 1 t) (iblk m c 2 t) y
    = sum (aH m c) (aW m c) (aX m c) (aG m c) (aB m c) (((cfg0.win 5).blk t).view.emb y) := by
  pointwise [k0_pay2, sum]
  blk_point [iblk, V, idx t]

theorem point5 (c : Dev nD) (t : Fin cfg0.N) (y) : out0_5 (iblk m c 0 t) (iblk m c 1 t) (iblk m c 2 t) (iblk m c 3 t) (iblk m c 4 t) y
    = sum (aH m c) (aW m c) (aX m c) (aG m c) (aB m c) (((cfg0.win 5).blk t).view.emb y) := by
  frame_out
  exact sum_at m c t y

/-- The array of the residual sum, after the run. -/
theorem final5 (c : Dev nD) : (dats m 0 c).arrAt 5 (cfgs 0).N = sum (aH m c) (aW m c) (aX m c) (aG m c) (aB m c) := by
  refine (dats m 0 c).arrAt_eq_of_covers 5 _ (by decide +kernel) fun t _ y => ?_
  blk_simp
  rw [after0_5]
  exact point5 m c t y

theorem point6 (c : Dev nD) (t : Fin cfg0.N) (y) : out0_6 (iblk m c 0 t) (iblk m c 1 t) (iblk m c 2 t) (iblk m c 3 t) (iblk m c 4 t) y
    = norm (aH m c) (aW m c) (aX m c) (aG m c) (aB m c) (((cfg0.win 6).blk t).view.emb y) := by
  frame_out
  unfold k0_pay4
  frame_out
  pointwise [k0_pay3, norm, normOf]
  simp only [sum_at]
  blk_point [iblk, V, idx t]

/-- The array of the normed sum, after the run. -/
theorem final6 (c : Dev nD) : (dats m 0 c).arrAt 6 (cfgs 0).N = norm (aH m c) (aW m c) (aX m c) (aG m c) (aB m c) := by
  refine (dats m 0 c).arrAt_eq_of_covers 6 _ (by decide +kernel) fun t _ y => ?_
  blk_simp
  rw [after0_6]
  exact point6 m c t y

theorem point7 (c : Dev nD) (t : Fin cfg0.N) (y) : out0_7 (iblk m c 0 t) (iblk m c 1 t) (iblk m c 2 t) (iblk m c 3 t) (iblk m c 4 t) y
    = normB (aH m c) (aW m c) (aX m c) (aG m c) (aB m c) (((cfg0.win 7).blk t).view.emb y) := by
  frame_out
  unfold k0_pay4
  frame_out
  pointwise [k0_pay1, k0_pay3, normB, normOf]
  simp only [sum_at]
  blk_point [iblk, V, idx t]

/-- The array of the normed sum, rounded, after the run. -/
theorem final7 (c : Dev nD) : (dats m 0 c).arrAt 7 (cfgs 0).N = normB (aH m c) (aW m c) (aX m c) (aG m c) (aB m c) := by
  refine (dats m 0 c).arrAt_eq_of_covers 7 _ (by decide +kernel) fun t _ y => ?_
  blk_simp
  rw [after0_7]
  exact point7 m c t y

end Cert.WoLnValue

end
-- ==== Proof.WoLn.Claims.lean ====
/-  The claims about the output projection, its residual sum and norm. -/
module

public import proofs.«01_k».proof.Defs
public import proofs.«01_k».proof.Proof.Gen.WoLn.Frame
public import proofs.«01_k».proof.Proof.Gen.WoLnIdeal.Frame
public import proofs.«01_k».proof.Proof.Gen.WoLnRefIdeal.Run
public import proofs.«01_k».proof.Proof.WoLn.Value
public import Idealize.ShloMosaic.Lib.Quiescent
public import Idealize.ShloMosaic.Lib.Claim

@[expose] public section

set_option maxRecDepth 16384

noncomputable section

namespace Cert.WoLnValue

open Idealize.ShloMosaic Idealize.ShloMosaic.TcCoe Idealize.SL.Sem

theorem frame_kernel : Cert.quiescent_WoLn := fun m ρ _ => Cert.WoLn.Gen.frame m ρ
theorem frame_ideal : Cert.quiescent_WoLnIdeal := fun m ρ _ => Cert.WoLnIdeal.Gen.frame m ρ

theorem frame_ref : Cert.quiescent_WoLnRefIdeal := fun m ρ _ =>
  (θ_run Cert.WoLnRefIdeal.defs _ _).mono (fun r h => ⟨fun c => (h c).2.2.2, sem_eq_zero_of_no_sems (by decide) r.2⟩)
    (Cert.WoLnRefIdeal.Value.run (F := Ideal) m ρ)

section

variable (m : (ℓ : Loc Cert.WoLnIdeal.nD Cert.WoLnIdeal.τ Cert.WoLnIdeal.sig) → Buf (Elt Ideal) ℓ) (g : Dev Cert.WoLnIdeal.nD → PrngReg)

/-- The kernel's run: its results at the reference's terms, its arguments unchanged. -/
theorem run_kernel : θ_run (Cert.WoLnIdeal.defs (F := Ideal)) (onTc (τ := Cert.WoLnIdeal.τ) (Cert.WoLnIdeal.main (F := Ideal))) ⟨m, fun _ => 0, g⟩ (fun r => ∀ c : Dev Cert.WoLnIdeal.nD,
    r.2.mem ((c.tc : Thread Cert.WoLnIdeal.nD Cert.WoLnIdeal.τ).loc Cert.WoLnIdeal.main_v2_0) = sum (aH m c) (aW m c) (aX m c) (aG m c) (aB m c)
    ∧ r.2.mem ((c.tc : Thread Cert.WoLnIdeal.nD Cert.WoLnIdeal.τ).loc Cert.WoLnIdeal.main_v2_1) = norm (aH m c) (aW m c) (aX m c) (aG m c) (aB m c)
    ∧ r.2.mem ((c.tc : Thread Cert.WoLnIdeal.nD Cert.WoLnIdeal.τ).loc Cert.WoLnIdeal.main_v2_2) = normB (aH m c) (aW m c) (aX m c) (aG m c) (aB m c)
    ∧ r.2.mem ((c.tc : Thread Cert.WoLnIdeal.nD Cert.WoLnIdeal.τ).loc Cert.WoLnIdeal.main_arg0) = m ((c.tc : Thread Cert.WoLnIdeal.nD Cert.WoLnIdeal.τ).loc Cert.WoLnIdeal.main_arg0)
    ∧ r.2.mem ((c.tc : Thread Cert.WoLnIdeal.nD Cert.WoLnIdeal.τ).loc Cert.WoLnIdeal.main_arg1) = m ((c.tc : Thread Cert.WoLnIdeal.nD Cert.WoLnIdeal.τ).loc Cert.WoLnIdeal.main_arg1)
    ∧ r.2.mem ((c.tc : Thread Cert.WoLnIdeal.nD Cert.WoLnIdeal.τ).loc Cert.WoLnIdeal.main_arg2) = m ((c.tc : Thread Cert.WoLnIdeal.nD Cert.WoLnIdeal.τ).loc Cert.WoLnIdeal.main_arg2)
    ∧ r.2.mem ((c.tc : Thread Cert.WoLnIdeal.nD Cert.WoLnIdeal.τ).loc Cert.WoLnIdeal.main_arg3) = m ((c.tc : Thread Cert.WoLnIdeal.nD Cert.WoLnIdeal.τ).loc Cert.WoLnIdeal.main_arg3)
    ∧ r.2.mem ((c.tc : Thread Cert.WoLnIdeal.nD Cert.WoLnIdeal.τ).loc Cert.WoLnIdeal.main_arg4) = m ((c.tc : Thread Cert.WoLnIdeal.nD Cert.WoLnIdeal.τ).loc Cert.WoLnIdeal.main_arg4)) := by
  run_from Cert.WoLnIdeal.Gen.run_main m g
  · exact final5 m c
  · exact final6 m c
  · exact final7 m c

variable (m' : (ℓ : Loc Cert.WoLnRefIdeal.nD Cert.WoLnRefIdeal.τ Cert.WoLnRefIdeal.sig) → Buf (Elt Ideal) ℓ) (g' : Dev Cert.WoLnRefIdeal.nD → PrngReg)

/-- The reference's run, its results named. -/
theorem run_ref : θ_run (Cert.WoLnRefIdeal.defs (F := Ideal)) (onTc (τ := Cert.WoLnRefIdeal.τ) (Cert.WoLnRefIdeal.main (F := Ideal))) ⟨m', fun _ => 0, g'⟩ (fun r => ∀ c : Dev Cert.WoLnRefIdeal.nD,
    r.2.mem ((c.tc : Thread Cert.WoLnRefIdeal.nD Cert.WoLnRefIdeal.τ).loc Cert.WoLnRefIdeal.main_v5) = sum (m' ((c.tc : Thread Cert.WoLnRefIdeal.nD Cert.WoLnRefIdeal.τ).loc Cert.WoLnRefIdeal.main_arg0)) (m' ((c.tc : Thread Cert.WoLnRefIdeal.nD Cert.WoLnRefIdeal.τ).loc Cert.WoLnRefIdeal.main_arg1)) (m' ((c.tc : Thread Cert.WoLnRefIdeal.nD Cert.WoLnRefIdeal.τ).loc Cert.WoLnRefIdeal.main_arg2)) (m' ((c.tc : Thread Cert.WoLnRefIdeal.nD Cert.WoLnRefIdeal.τ).loc Cert.WoLnRefIdeal.main_arg3)) (m' ((c.tc : Thread Cert.WoLnRefIdeal.nD Cert.WoLnRefIdeal.τ).loc Cert.WoLnRefIdeal.main_arg4))
    ∧ r.2.mem ((c.tc : Thread Cert.WoLnRefIdeal.nD Cert.WoLnRefIdeal.τ).loc Cert.WoLnRefIdeal.main_v27) = norm (m' ((c.tc : Thread Cert.WoLnRefIdeal.nD Cert.WoLnRefIdeal.τ).loc Cert.WoLnRefIdeal.main_arg0)) (m' ((c.tc : Thread Cert.WoLnRefIdeal.nD Cert.WoLnRefIdeal.τ).loc Cert.WoLnRefIdeal.main_arg1)) (m' ((c.tc : Thread Cert.WoLnRefIdeal.nD Cert.WoLnRefIdeal.τ).loc Cert.WoLnRefIdeal.main_arg2)) (m' ((c.tc : Thread Cert.WoLnRefIdeal.nD Cert.WoLnRefIdeal.τ).loc Cert.WoLnRefIdeal.main_arg3)) (m' ((c.tc : Thread Cert.WoLnRefIdeal.nD Cert.WoLnRefIdeal.τ).loc Cert.WoLnRefIdeal.main_arg4))
    ∧ r.2.mem ((c.tc : Thread Cert.WoLnRefIdeal.nD Cert.WoLnRefIdeal.τ).loc Cert.WoLnRefIdeal.main_v28) = normB (m' ((c.tc : Thread Cert.WoLnRefIdeal.nD Cert.WoLnRefIdeal.τ).loc Cert.WoLnRefIdeal.main_arg0)) (m' ((c.tc : Thread Cert.WoLnRefIdeal.nD Cert.WoLnRefIdeal.τ).loc Cert.WoLnRefIdeal.main_arg1)) (m' ((c.tc : Thread Cert.WoLnRefIdeal.nD Cert.WoLnRefIdeal.τ).loc Cert.WoLnRefIdeal.main_arg2)) (m' ((c.tc : Thread Cert.WoLnRefIdeal.nD Cert.WoLnRefIdeal.τ).loc Cert.WoLnRefIdeal.main_arg3)) (m' ((c.tc : Thread Cert.WoLnRefIdeal.nD Cert.WoLnRefIdeal.τ).loc Cert.WoLnRefIdeal.main_arg4))
    ∧ r.2.mem ((c.tc : Thread Cert.WoLnRefIdeal.nD Cert.WoLnRefIdeal.τ).loc Cert.WoLnRefIdeal.main_arg0) = m' ((c.tc : Thread Cert.WoLnRefIdeal.nD Cert.WoLnRefIdeal.τ).loc Cert.WoLnRefIdeal.main_arg0)
    ∧ r.2.mem ((c.tc : Thread Cert.WoLnRefIdeal.nD Cert.WoLnRefIdeal.τ).loc Cert.WoLnRefIdeal.main_arg1) = m' ((c.tc : Thread Cert.WoLnRefIdeal.nD Cert.WoLnRefIdeal.τ).loc Cert.WoLnRefIdeal.main_arg1)
    ∧ r.2.mem ((c.tc : Thread Cert.WoLnRefIdeal.nD Cert.WoLnRefIdeal.τ).loc Cert.WoLnRefIdeal.main_arg2) = m' ((c.tc : Thread Cert.WoLnRefIdeal.nD Cert.WoLnRefIdeal.τ).loc Cert.WoLnRefIdeal.main_arg2)
    ∧ r.2.mem ((c.tc : Thread Cert.WoLnRefIdeal.nD Cert.WoLnRefIdeal.τ).loc Cert.WoLnRefIdeal.main_arg3) = m' ((c.tc : Thread Cert.WoLnRefIdeal.nD Cert.WoLnRefIdeal.τ).loc Cert.WoLnRefIdeal.main_arg3)
    ∧ r.2.mem ((c.tc : Thread Cert.WoLnRefIdeal.nD Cert.WoLnRefIdeal.τ).loc Cert.WoLnRefIdeal.main_arg4) = m' ((c.tc : Thread Cert.WoLnRefIdeal.nD Cert.WoLnRefIdeal.τ).loc Cert.WoLnRefIdeal.main_arg4)) := by
  unfold sum norm normB
  exact Cert.WoLnRefIdeal.Value.run m' g'

end

/-- Each of the kernel's results is the reference's. -/
theorem algebraic : Cert.algebraic_WoLnIdeal_WoLnRefIdeal := by
  intro m g m' g' _ hagree
  refine ⟨_, _, _, run_kernel m g, (θ_run Cert.WoLnRefIdeal.defs _ _).mono (fun r h c => ?_) (run_ref m' g')⟩
  have e0 := (hagree c).1
  have e1 := (hagree c).2.1
  have e2 := (hagree c).2.2.1
  have e3 := (hagree c).2.2.2.1
  have e4 := (hagree c).2.2.2.2
  obtain ⟨h0, h1, h2, hargs⟩ := h c
  rw [e0, e1, e2, e3, e4] at h0 h1 h2
  exact ⟨h0, h1, h2, hargs⟩

end Cert.WoLnValue

end
-- ==== Proof.OutDx.Ref.lean ====
/-  The reference's results for the gradient of a branch's output product's argument: the terms its run ends with, over typed variables. -/
module

public import proofs.«01_k».proof.Proof.Gen.OutDxRefIdeal.Run
public import Idealize.ShloMosaic.Lib.Pointwise

@[expose] public section

set_option maxRecDepth 16384

noncomputable section

namespace Cert.OutDxValue

open Cert.OutDxRefIdeal Cert.OutDxRefIdeal.Gen Cert.OutDxRefIdeal.Value Idealize.ShloMosaic Idealize.ShloMosaic.TcCoe Idealize.SL.Sem

/-- The reference's gradient of the branch. -/
def dX (D : FVec Ideal S2176x1024 .bf16) (W : FVec Ideal S512x1024 .bf16) : FVec Ideal S1x2176x512 .f32 :=
  broadcastInDim S1x2176x512 ![1, 2] bcast_S2176x512_S1x2176x512_1_2 (Host.dotGeneral dot_S2176x1024_S512x1024_S2176x512_1_1_0_0_n_n none (extf .f32 D bitsLt_bf16_f32) (extf .f32 W bitsLt_bf16_f32))

end Cert.OutDxValue

end
-- ==== Proof.OutDx.Value.lean ====
/-  The result arrays of the kernel for the gradient of a branch's output product's argument: each is the reference's term of the argument arrays. -/
module

public import proofs.«01_k».proof.Proof.Gen.OutDxIdeal.Frame
public import proofs.«01_k».proof.Proof.OutDx.Ref
public import Idealize.ShloMosaic.Lib.Pipeline.ValueKit
public import Idealize.ShloMosaic.Lib.Pointwise

@[expose] public section

set_option maxRecDepth 16384

noncomputable section

namespace Cert.OutDxValue

open Cert.OutDxIdeal Cert.OutDxIdeal.Gen Idealize.ShloMosaic Idealize.ShloMosaic.TcCoe Idealize.SL.Sem
open Idealize.ShloMosaic.Pipeline (Dat)

variable (m : (ℓ : Loc nD τ sig) → Buf (Elt Ideal) ℓ)

/-- The argument arrays, at their types. -/
abbrev aD (c : Dev nD) : FVec Ideal S2176x1024 .bf16 := m ((c : Thread nD τ).loc main_arg0)
abbrev aW (c : Dev nD) : FVec Ideal S512x1024 .bf16 := m ((c : Thread nD τ).loc main_arg1)

/-- The block every window is at, at each point. -/
theorem idx : ∀ t : Fin cfg0.N, win0_0.index t = ![0, (grid0.coords t 1).val, 0] ∧ win0_1.index t = ![0, 0, 0] ∧ win0_2.index t = ![0, (grid0.coords t 1).val, 0] :=
  (by decide +kernel : ∀ t : Fin grid0.N, _)

theorem point2 (c : Dev nD) (t : Fin cfg0.N) (y) : k0_pay1 (iblk m c 0 t) (iblk m c 1 t) y
    = dX (aD m c) (aW m c) (((cfg0.win 2).blk t).view.emb y) := by
  pointwise [k0_pay1, dX]
  blk_point [iblk, V, idx t]

/-- The array of the gradient of the branch, after the run. -/
theorem final2 (c : Dev nD) : (dats m 0 c).arrAt 2 (cfgs 0).N = dX (aD m c) (aW m c) := by
  refine (dats m 0 c).arrAt_eq_of_covers 2 _ (by decide +kernel) fun t _ y => ?_
  blk_simp
  rw [after0_2]; frame_out
  exact point2 m c t y

end Cert.OutDxValue

end
-- ==== Proof.OutDx.Claims.lean ====
/-  The claims about the gradient of a branch's output product's argument. -/
module

public import proofs.«01_k».proof.Defs
public import proofs.«01_k».proof.Proof.Gen.OutDx.Frame
public import proofs.«01_k».proof.Proof.Gen.OutDxIdeal.Frame
public import proofs.«01_k».proof.Proof.Gen.OutDxRefIdeal.Run
public import proofs.«01_k».proof.Proof.OutDx.Value
public import Idealize.ShloMosaic.Lib.Quiescent
public import Idealize.ShloMosaic.Lib.Claim

@[expose] public section

set_option maxRecDepth 16384

noncomputable section

namespace Cert.OutDxValue

open Idealize.ShloMosaic Idealize.ShloMosaic.TcCoe Idealize.SL.Sem

theorem frame_kernel : Cert.quiescent_OutDx := fun m ρ _ => Cert.OutDx.Gen.frame m ρ
theorem frame_ideal : Cert.quiescent_OutDxIdeal := fun m ρ _ => Cert.OutDxIdeal.Gen.frame m ρ

theorem frame_ref : Cert.quiescent_OutDxRefIdeal := fun m ρ _ =>
  (θ_run Cert.OutDxRefIdeal.defs _ _).mono (fun r h => ⟨fun c => (h c).2, sem_eq_zero_of_no_sems (by decide) r.2⟩)
    (Cert.OutDxRefIdeal.Value.run (F := Ideal) m ρ)

section

variable (m : (ℓ : Loc Cert.OutDxIdeal.nD Cert.OutDxIdeal.τ Cert.OutDxIdeal.sig) → Buf (Elt Ideal) ℓ) (g : Dev Cert.OutDxIdeal.nD → PrngReg)

/-- The kernel's run: its results at the reference's terms, its arguments unchanged. -/
theorem run_kernel : θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
    r.2.mem ((c.tc : Thread Cert.OutDxIdeal.nD Cert.OutDxIdeal.τ).loc Cert.OutDxIdeal.main_v2) = dX (aD m c) (aW m c)
    ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
    ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)) := by
  run_from Cert.OutDxIdeal.Gen.run_main m g
  · exact final2 m c

variable (m' : (ℓ : Loc Cert.OutDxRefIdeal.nD Cert.OutDxRefIdeal.τ Cert.OutDxRefIdeal.sig) → Buf (Elt Ideal) ℓ) (g' : Dev Cert.OutDxRefIdeal.nD → PrngReg)

/-- The reference's run, its results named. -/
theorem run_ref : θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
    r.2.mem ((c.tc : Thread Cert.OutDxRefIdeal.nD Cert.OutDxRefIdeal.τ).loc Cert.OutDxRefIdeal.main_v5) = dX (m' ((c.tc : Thread Cert.OutDxRefIdeal.nD Cert.OutDxRefIdeal.τ).loc Cert.OutDxRefIdeal.main_arg0)) (m' ((c.tc : Thread Cert.OutDxRefIdeal.nD Cert.OutDxRefIdeal.τ).loc Cert.OutDxRefIdeal.main_arg1))
    ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
    ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1)) := by
  unfold dX
  exact Cert.OutDxRefIdeal.Value.run m' g'

end

/-- Each of the kernel's results is the reference's. -/
theorem algebraic : Cert.algebraic_OutDxIdeal_OutDxRefIdeal := by
  intro m g m' g' _ hagree
  refine ⟨_, run_kernel m g, (θ_run Cert.OutDxRefIdeal.defs _ _).mono (fun r h c => ?_) (run_ref m' g')⟩
  have e0 := (hagree c).1
  have e1 := (hagree c).2
  obtain ⟨h0, hargs⟩ := h c
  rw [e0, e1] at h0
  exact ⟨h0, hargs⟩

end Cert.OutDxValue

end
-- ==== Proof.OutDw.Ref.lean ====
/-  The reference's results for the gradient of a branch's output weights: the terms its run ends with, over typed variables. -/
module

public import proofs.«01_k».proof.Proof.Gen.OutDwRefIdeal.Run
public import Idealize.ShloMosaic.Lib.Pointwise

@[expose] public section

set_option maxRecDepth 16384

noncomputable section

namespace Cert.OutDwValue

open Cert.OutDwRefIdeal Cert.OutDwRefIdeal.Gen Cert.OutDwRefIdeal.Value Idealize.ShloMosaic Idealize.ShloMosaic.TcCoe Idealize.SL.Sem

/-- The reference's gradient of the output weights. -/
def dW (X : FVec Ideal S2176x512 .bf16) (D : FVec Ideal S2176x1024 .bf16) : FVec Ideal S1x512x1024 .bf16 :=
  broadcastInDim S1x512x1024 ![1, 2] bcast_S512x1024_S1x512x1024_1_2 (truncf .bf16 (transpose S512x1024 [1, 0] (Host.dotGeneral dot_S2176x1024_S2176x512_S1024x512_0_0_1_1_n_n none (extf .f32 D bitsLt_bf16_f32) (extf .f32 X bitsLt_bf16_f32)) transposes_S1024x512_S512x1024_1_0) bitsLt_bf16_f32)

end Cert.OutDwValue

end
-- ==== Proof.OutDw.Value.lean ====
/-  The result arrays of the kernel for the gradient of a branch's output weights: each is the reference's term of the argument arrays. -/
module

public import proofs.«01_k».proof.Proof.Gen.OutDwIdeal.Frame
public import proofs.«01_k».proof.Proof.OutDw.Ref
public import Idealize.ShloMosaic.Lib.Pipeline.ValueKit
public import Idealize.ShloMosaic.Lib.Pointwise

@[expose] public section

set_option maxRecDepth 16384

noncomputable section

namespace Cert.OutDwValue

open Cert.OutDwIdeal Cert.OutDwIdeal.Gen Idealize.ShloMosaic Idealize.ShloMosaic.TcCoe Idealize.SL.Sem
open Idealize.ShloMosaic.Pipeline (Dat)

variable (m : (ℓ : Loc nD τ sig) → Buf (Elt Ideal) ℓ)

/-- The argument arrays, at their types. -/
abbrev aX (c : Dev nD) : FVec Ideal S2176x512 .bf16 := m ((c : Thread nD τ).loc main_arg0)
abbrev aD (c : Dev nD) : FVec Ideal S2176x1024 .bf16 := m ((c : Thread nD τ).loc main_arg1)

/-- The block every window is at, at each point. -/
theorem idx : ∀ t : Fin cfg0.N, win0_0.index t = ![0, 0, 0] ∧ win0_1.index t = ![0, 0, 0] ∧ win0_2.index t = ![0, 0, 0] :=
  (by decide +kernel : ∀ t : Fin grid0.N, _)

theorem point2 (c : Dev nD) (t : Fin cfg0.N) (y) : k0_pay1 (iblk m c 0 t) (iblk m c 1 t) y
    = dW (aX m c) (aD m c) (((cfg0.win 2).blk t).view.emb y) := by
  pointwise [k0_pay1, dW]
  simp only [mul_comm (aD m c _)]
  blk_point [iblk, V, idx t]

/-- The array of the gradient of the output weights, after the run. -/
theorem final2 (c : Dev nD) : (dats m 0 c).arrAt 2 (cfgs 0).N = dW (aX m c) (aD m c) := by
  refine (dats m 0 c).arrAt_eq_of_covers 2 _ (by decide +kernel) fun t _ y => ?_
  blk_simp
  rw [after0_2]; frame_out
  exact point2 m c t y

end Cert.OutDwValue

end
-- ==== Proof.OutDw.Claims.lean ====
/-  The claims about the gradient of a branch's output weights. -/
module

public import proofs.«01_k».proof.Defs
public import proofs.«01_k».proof.Proof.Gen.OutDw.Frame
public import proofs.«01_k».proof.Proof.Gen.OutDwIdeal.Frame
public import proofs.«01_k».proof.Proof.Gen.OutDwRefIdeal.Run
public import proofs.«01_k».proof.Proof.OutDw.Value
public import Idealize.ShloMosaic.Lib.Quiescent
public import Idealize.ShloMosaic.Lib.Claim

@[expose] public section

set_option maxRecDepth 16384

noncomputable section

namespace Cert.OutDwValue

open Idealize.ShloMosaic Idealize.ShloMosaic.TcCoe Idealize.SL.Sem

theorem frame_kernel : Cert.quiescent_OutDw := fun m ρ _ => Cert.OutDw.Gen.frame m ρ
theorem frame_ideal : Cert.quiescent_OutDwIdeal := fun m ρ _ => Cert.OutDwIdeal.Gen.frame m ρ

theorem frame_ref : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run (F := Ideal) m ρ)

section

variable (m : (ℓ : Loc Cert.OutDwIdeal.nD Cert.OutDwIdeal.τ Cert.OutDwIdeal.sig) → Buf (Elt Ideal) ℓ) (g : Dev Cert.OutDwIdeal.nD → PrngReg)

/-- The kernel's run: its results at the reference's terms, its arguments unchanged. -/
theorem run_kernel : θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
    r.2.mem ((c.tc : Thread Cert.OutDwIdeal.nD Cert.OutDwIdeal.τ).loc Cert.OutDwIdeal.main_v2) = dW (aX m c) (aD m c)
    ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
    ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)) := by
  run_from Cert.OutDwIdeal.Gen.run_main m g
  · exact final2 m c

variable (m' : (ℓ : Loc Cert.OutDwRefIdeal.nD Cert.OutDwRefIdeal.τ Cert.OutDwRefIdeal.sig) → Buf (Elt Ideal) ℓ) (g' : Dev Cert.OutDwRefIdeal.nD → PrngReg)

/-- The reference's run, its results named. -/
theorem run_ref : θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
    r.2.mem ((c.tc : Thread Cert.OutDwRefIdeal.nD Cert.OutDwRefIdeal.τ).loc Cert.OutDwRefIdeal.main_v7) = dW (m' ((c.tc : Thread Cert.OutDwRefIdeal.nD Cert.OutDwRefIdeal.τ).loc Cert.OutDwRefIdeal.main_arg0)) (m' ((c.tc : Thread Cert.OutDwRefIdeal.nD Cert.OutDwRefIdeal.τ).loc Cert.OutDwRefIdeal.main_arg1))
    ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
    ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)) := by
  unfold dW
  exact Cert.OutDwRefIdeal.Value.run m' g'

end

/-- Each of the kernel's results is the reference's. -/
theorem algebraic : Cert.algebraic_OutDwIdeal_OutDwRefIdeal := by
  intro m g m' g' _ hagree
  refine ⟨_, run_kernel m g, (θ_run Cert.OutDwRefIdeal.defs _ _).mono (fun r h c => ?_) (run_ref m' g')⟩
  have e0 := (hagree c).1
  have e1 := (hagree c).2
  obtain ⟨h0, hargs⟩ := h c
  rw [e0, e1] at h0
  exact ⟨h0, hargs⟩

end Cert.OutDwValue

end
-- ==== Proof.Out.Ref.lean ====
/-  The reference's results for a branch's output product: the terms its run ends with, over typed variables. -/
module

public import proofs.«01_k».proof.Proof.Gen.OutRefIdeal.Run
public import Idealize.ShloMosaic.Lib.Pointwise

@[expose] public section

set_option maxRecDepth 16384

noncomputable section

namespace Cert.OutValue

open Cert.OutRefIdeal Cert.OutRefIdeal.Gen Cert.OutRefIdeal.Value Idealize.ShloMosaic Idealize.ShloMosaic.TcCoe Idealize.SL.Sem

/-- The reference's branch output. -/
def out (X : FVec Ideal S2176x512 .bf16) (W : FVec Ideal S512x1024 .bf16) : FVec Ideal S1x2176x1024 .bf16 :=
  broadcastInDim S1x2176x1024 ![1, 2] bcast_S2176x1024_S1x2176x1024_1_2 (truncf .bf16 (Host.dotGeneral dot_S2176x512_S512x1024_S2176x1024_1_0_0_1_n_n none (extf .f32 X bitsLt_bf16_f32) (extf .f32 W bitsLt_bf16_f32)) bitsLt_bf16_f32)

end Cert.OutValue

end
-- ==== Proof.Out.Value.lean ====
/-  The result arrays of the kernel for a branch's output product: each is the reference's term of the argument arrays. -/
module

public import proofs.«01_k».proof.Proof.Gen.OutIdeal.Frame
public import proofs.«01_k».proof.Proof.Out.Ref
public import Idealize.ShloMosaic.Lib.Pipeline.ValueKit
public import Idealize.ShloMosaic.Lib.Pointwise

@[expose] public section

set_option maxRecDepth 16384

noncomputable section

namespace Cert.OutValue

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ)

/-- The argument arrays, at their types. -/
abbrev aX (c : Dev nD) : FVec Ideal S2176x512 .bf16 := m ((c : Thread nD τ).loc main_arg0)
abbrev aW (c : Dev nD) : FVec Ideal S512x1024 .bf16 := m ((c : Thread nD τ).loc main_arg1)

/-- The block every window is at, at each point. -/
theorem idx : ∀ t : Fin cfg0.N, win0_0.index t = ![0, (grid0.coords t 1).val, 0] ∧ win0_1.index t = ![0, 0, 0] ∧ win0_2.index t = ![0, (grid0.coords t 1).val, 0] :=
  (by decide +kernel : ∀ t : Fin grid0.N, _)

theorem point2 (c : Dev nD) (t : Fin cfg0.N) (y) : k0_pay1 (iblk m c 0 t) (iblk m c 1 t) y
    = out (aX m c) (aW m c) (((cfg0.win 2).blk t).view.emb y) := by
  pointwise [k0_pay1, out]
  blk_point [iblk, V, idx t]

/-- The array of the branch output, after the run. -/
theorem final2 (c : Dev nD) : (dats m 0 c).arrAt 2 (cfgs 0).N = out (aX m c) (aW m c) := by
  refine (dats m 0 c).arrAt_eq_of_covers 2 _ (by decide +kernel) fun t _ y => ?_
  blk_simp
  rw [after0_2]; frame_out
  exact point2 m c t y

end Cert.OutValue

end
-- ==== Proof.Out.Claims.lean ====
/-  The claims about a branch's output product. -/
module

public import proofs.«01_k».proof.Defs
public import proofs.«01_k».proof.Proof.Gen.Out.Frame
public import proofs.«01_k».proof.Proof.Gen.OutIdeal.Frame
public import proofs.«01_k».proof.Proof.Gen.OutRefIdeal.Run
public import proofs.«01_k».proof.Proof.Out.Value
public import Idealize.ShloMosaic.Lib.Quiescent
public import Idealize.ShloMosaic.Lib.Claim

@[expose] public section

set_option maxRecDepth 16384

noncomputable section

namespace Cert.OutValue

open Idealize.ShloMosaic Idealize.ShloMosaic.TcCoe Idealize.SL.Sem

theorem frame_kernel : Cert.quiescent_Out := fun m ρ _ => Cert.Out.Gen.frame m ρ
theorem frame_ideal : Cert.quiescent_OutIdeal := fun m ρ _ => Cert.OutIdeal.Gen.frame m ρ

theorem frame_ref : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

section

variable (m : (ℓ : Loc Cert.OutIdeal.nD Cert.OutIdeal.τ Cert.OutIdeal.sig) → Buf (Elt Ideal) ℓ) (g : Dev Cert.OutIdeal.nD → PrngReg)

/-- The kernel's run: its results at the reference's terms, its arguments unchanged. -/
theorem run_kernel : θ_run (Cert.OutIdeal.defs (F := Ideal)) (onTc (τ := Cert.OutIdeal.τ) (Cert.OutIdeal.main (F := Ideal))) ⟨m, fun _ => 0, g⟩ (fun r => ∀ c : Dev Cert.OutIdeal.nD,
    r.2.mem ((c.tc : Thread Cert.OutIdeal.nD Cert.OutIdeal.τ).loc Cert.OutIdeal.main_v2) = out (aX m c) (aW m c)
    ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
    ∧ r.2.mem ((c.tc : Thread Cert.OutIdeal.nD Cert.OutIdeal.τ).loc Cert.OutIdeal.main_arg1) = m ((c.tc : Thread Cert.OutIdeal.nD Cert.OutIdeal.τ).loc Cert.OutIdeal.main_arg1)) := by
  run_from Cert.OutIdeal.Gen.run_main m g
  · exact final2 m c

variable (m' : (ℓ : Loc Cert.OutRefIdeal.nD Cert.OutRefIdeal.τ Cert.OutRefIdeal.sig) → Buf (Elt Ideal) ℓ) (g' : Dev Cert.OutRefIdeal.nD → PrngReg)

/-- The reference's run, its results named. -/
theorem run_ref : θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
    r.2.mem ((c.tc : Thread Cert.OutRefIdeal.nD Cert.OutRefIdeal.τ).loc Cert.OutRefIdeal.main_v4) = out (m' ((c.tc : Thread Cert.OutRefIdeal.nD Cert.OutRefIdeal.τ).loc Cert.OutRefIdeal.main_arg0)) (m' ((c.tc : Thread Cert.OutRefIdeal.nD Cert.OutRefIdeal.τ).loc Cert.OutRefIdeal.main_arg1))
    ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
    ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)) := by
  unfold out
  exact Cert.OutRefIdeal.Value.run m' g'

end

/-- Each of the kernel's results is the reference's. -/
theorem algebraic : Cert.algebraic_OutIdeal_OutRefIdeal := by
  intro m g m' g' _ hagree
  refine ⟨_, run_kernel m g, (θ_run Cert.OutRefIdeal.defs _ _).mono (fun r h c => ?_) (run_ref m' g')⟩
  have e0 := (hagree c).1
  have e1 := (hagree c).2
  obtain ⟨h0, hargs⟩ := h c
  rw [e0, e1] at h0
  exact ⟨h0, hargs⟩

end Cert.OutValue

end
-- ==== Proof.GluDx.Ref.lean ====
/-  The reference's results for the gradient of the state branch's gate product's argument: the terms its run ends with, over typed variables. -/
module

public import proofs.«01_k».proof.Proof.Gen.GluDxRefIdeal.Run
public import Idealize.ShloMosaic.Lib.Pointwise

@[expose] public section

set_option maxRecDepth 16384

noncomputable section

namespace Cert.GluDxValue

open Cert.GluDxRefIdeal Cert.GluDxRefIdeal.Gen Cert.GluDxRefIdeal.Value Idealize.ShloMosaic Idealize.ShloMosaic.TcCoe Idealize.SL.Sem

/-- The reference's gradient of the gated state output. -/
def dY (D : FVec Ideal S2176x512 .bf16) (W : FVec Ideal S512x512 .bf16) (T : FVec Ideal S2176x512 .f32) : FVec Ideal S1x2176x512 .f32 :=
  broadcastInDim S1x2176x512 ![1, 2] bcast_S2176x512_S1x2176x512_1_2 (addf T (Host.dotGeneral dot_S2176x512_S512x512_S2176x512_1_1_0_0_n_n none (extf .f32 D bitsLt_bf16_f32) (extf .f32 W bitsLt_bf16_f32)))

end Cert.GluDxValue

end
-- ==== Proof.GluDx.Value.lean ====
/-  The result arrays of the kernel for the gradient of the state branch's gate product's argument: each is the reference's term of the argument arrays. -/
module

public import proofs.«01_k».proof.Proof.Gen.GluDxIdeal.Frame
public import proofs.«01_k».proof.Proof.GluDx.Ref
public import Idealize.ShloMosaic.Lib.Pipeline.ValueKit
public import Idealize.ShloMosaic.Lib.Pointwise

@[expose] public section

set_option maxRecDepth 16384

noncomputable section

namespace Cert.GluDxValue

open Cert.GluDxIdeal Cert.GluDxIdeal.Gen Idealize.ShloMosaic Idealize.ShloMosaic.TcCoe Idealize.SL.Sem
open Idealize.ShloMosaic.Pipeline (Dat)

variable (m : (ℓ : Loc nD τ sig) → Buf (Elt Ideal) ℓ)

/-- The argument arrays, at their types. -/
abbrev aD (c : Dev nD) : FVec Ideal S2176x512 .bf16 := m ((c : Thread nD τ).loc main_arg0)
abbrev aW (c : Dev nD) : FVec Ideal S512x512 .bf16 := m ((c : Thread nD τ).loc main_arg1)
abbrev aT (c : Dev nD) : FVec Ideal S2176x512 .f32 := m ((c : Thread nD τ).loc main_arg2)

/-- The block every window is at, at each point. -/
theorem idx : ∀ t : Fin cfg0.N, win0_0.index t = ![0, (grid0.coords t 1).val, 0] ∧ win0_1.index t = ![0, 0, 0] ∧ win0_2.index t = ![0, (grid0.coords t 1).val, 0] ∧ win0_3.index t = ![0, (grid0.coords t 1).val, 0] :=
  (by decide +kernel : ∀ t : Fin grid0.N, _)

theorem point3 (c : Dev nD) (t : Fin cfg0.N) (y) : k0_pay1 (iblk m c 0 t) (iblk m c 1 t) (iblk m c 2 t) y
    = dY (aD m c) (aW m c) (aT m c) (((cfg0.win 3).blk t).view.emb y) := by
  pointwise [k0_pay1, dY]
  blk_point [iblk, V, idx t]

/-- The array of the gradient of the gated state output, after the run. -/
theorem final3 (c : Dev nD) : (dats m 0 c).arrAt 3 (cfgs 0).N = dY (aD m c) (aW m c) (aT m c) := by
  refine (dats m 0 c).arrAt_eq_of_covers 3 _ (by decide +kernel) fun t _ y => ?_
  blk_simp
  rw [after0_3]; frame_out
  exact point3 m c t y

end Cert.GluDxValue

end
-- ==== Proof.GluDx.Claims.lean ====
/-  The claims about the gradient of the state branch's gate product's argument. -/
module

public import proofs.«01_k».proof.Defs
public import proofs.«01_k».proof.Proof.Gen.GluDx.Frame
public import proofs.«01_k».proof.Proof.Gen.GluDxIdeal.Frame
public import proofs.«01_k».proof.Proof.Gen.GluDxRefIdeal.Run
public import proofs.«01_k».proof.Proof.GluDx.Value
public import Idealize.ShloMosaic.Lib.Quiescent
public import Idealize.ShloMosaic.Lib.Claim

@[expose] public section

set_option maxRecDepth 16384

noncomputable section

namespace Cert.GluDxValue

open Idealize.ShloMosaic Idealize.ShloMosaic.TcCoe Idealize.SL.Sem

theorem frame_kernel : Cert.quiescent_GluDx := fun m ρ _ => Cert.GluDx.Gen.frame m ρ
theorem frame_ideal : Cert.quiescent_GluDxIdeal := fun m ρ _ => Cert.GluDxIdeal.Gen.frame m ρ

theorem frame_ref : Cert.quiescent_GluDxRefIdeal := fun m ρ _ =>
  (θ_run Cert.GluDxRefIdeal.defs _ _).mono (fun r h => ⟨fun c => (h c).2, sem_eq_zero_of_no_sems (by decide) r.2⟩)
    (Cert.GluDxRefIdeal.Value.run (F := Ideal) m ρ)

section

variable (m : (ℓ : Loc Cert.GluDxIdeal.nD Cert.GluDxIdeal.τ Cert.GluDxIdeal.sig) → Buf (Elt Ideal) ℓ) (g : Dev Cert.GluDxIdeal.nD → PrngReg)

/-- The kernel's run: its results at the reference's terms, its arguments unchanged. -/
theorem run_kernel : θ_run (Cert.GluDxIdeal.defs (F := Ideal)) (onTc (τ := Cert.GluDxIdeal.τ) (Cert.GluDxIdeal.main (F := Ideal))) ⟨m, fun _ => 0, g⟩ (fun r => ∀ c : Dev Cert.GluDxIdeal.nD,
    r.2.mem ((c.tc : Thread Cert.GluDxIdeal.nD Cert.GluDxIdeal.τ).loc Cert.GluDxIdeal.main_v3) = dY (aD m c) (aW m c) (aT m c)
    ∧ r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
    ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1)
    ∧ r.2.mem ((c.tc : Thread Cert.GluDxIdeal.nD Cert.GluDxIdeal.τ).loc Cert.GluDxIdeal.main_arg2) = m ((c.tc : Thread Cert.GluDxIdeal.nD Cert.GluDxIdeal.τ).loc Cert.GluDxIdeal.main_arg2)) := by
  run_from Cert.GluDxIdeal.Gen.run_main m g
  · exact final3 m c

variable (m' : (ℓ : Loc Cert.GluDxRefIdeal.nD Cert.GluDxRefIdeal.τ Cert.GluDxRefIdeal.sig) → Buf (Elt Ideal) ℓ) (g' : Dev Cert.GluDxRefIdeal.nD → PrngReg)

/-- The reference's run, its results named. -/
theorem run_ref : θ_run (Cert.GluDxRefIdeal.defs (F := Ideal)) (onTc (τ := Cert.GluDxRefIdeal.τ) (Cert.GluDxRefIdeal.main (F := Ideal))) ⟨m', fun _ => 0, g'⟩ (fun r => ∀ c : Dev Cert.GluDxRefIdeal.nD,
    r.2.mem ((c.tc : Thread Cert.GluDxRefIdeal.nD Cert.GluDxRefIdeal.τ).loc Cert.GluDxRefIdeal.main_v6) = dY (m' ((c.tc : Thread Cert.GluDxRefIdeal.nD Cert.GluDxRefIdeal.τ).loc Cert.GluDxRefIdeal.main_arg0)) (m' ((c.tc : Thread Cert.GluDxRefIdeal.nD Cert.GluDxRefIdeal.τ).loc Cert.GluDxRefIdeal.main_arg1)) (m' ((c.tc : Thread Cert.GluDxRefIdeal.nD Cert.GluDxRefIdeal.τ).loc Cert.GluDxRefIdeal.main_arg2))
    ∧ r.2.mem ((c.tc : Thread Cert.GluDxRefIdeal.nD Cert.GluDxRefIdeal.τ).loc Cert.GluDxRefIdeal.main_arg0) = m' ((c.tc : Thread Cert.GluDxRefIdeal.nD Cert.GluDxRefIdeal.τ).loc Cert.GluDxRefIdeal.main_arg0)
    ∧ r.2.mem ((c.tc : Thread Cert.GluDxRefIdeal.nD Cert.GluDxRefIdeal.τ).loc Cert.GluDxRefIdeal.main_arg1) = m' ((c.tc : Thread Cert.GluDxRefIdeal.nD Cert.GluDxRefIdeal.τ).loc Cert.GluDxRefIdeal.main_arg1)
    ∧ r.2.mem ((c.tc : Thread Cert.GluDxRefIdeal.nD Cert.GluDxRefIdeal.τ).loc Cert.GluDxRefIdeal.main_arg2) = m' ((c.tc : Thread Cert.GluDxRefIdeal.nD Cert.GluDxRefIdeal.τ).loc Cert.GluDxRefIdeal.main_arg2)) := by
  unfold dY
  exact Cert.GluDxRefIdeal.Value.run m' g'

end

/-- Each of the kernel's results is the reference's. -/
theorem algebraic : Cert.algebraic_GluDxIdeal_GluDxRefIdeal := by
  intro m g m' g' _ hagree
  refine ⟨_, run_kernel m g, (θ_run Cert.GluDxRefIdeal.defs _ _).mono (fun r h c => ?_) (run_ref m' g')⟩
  have e0 := (hagree c).1
  have e1 := (hagree c).2.1
  have e2 := (hagree c).2.2
  obtain ⟨h0, hargs⟩ := h c
  rw [e0, e1, e2] at h0
  exact ⟨h0, hargs⟩

end Cert.GluDxValue

end
-- ==== Proof.GluDw.Ref.lean ====
/-  The reference's results for the gradient of the state branch's gate weights: the terms its run ends with, over typed variables. -/
module

public import proofs.«01_k».proof.Proof.Gen.GluDwRefIdeal.Run
public import Idealize.ShloMosaic.Lib.Pointwise

@[expose] public section

set_option maxRecDepth 16384

noncomputable section

namespace Cert.GluDwValue

open Cert.GluDwRefIdeal Cert.GluDwRefIdeal.Gen Cert.GluDwRefIdeal.Value Idealize.ShloMosaic Idealize.ShloMosaic.TcCoe Idealize.SL.Sem

/-- The reference's gradient of the gate weights. -/
def dW (X : FVec Ideal S2176x512 .bf16) (D : FVec Ideal S2176x512 .bf16) : FVec Ideal S1x512x512 .bf16 :=
  broadcastInDim S1x512x512 ![1, 2] bcast_S512x512_S1x512x512_1_2 (truncf .bf16 (transpose S512x512 [1, 0] (Host.dotGeneral dot_S2176x512_S2176x512_S512x512_0_0_1_1_n_n none (extf .f32 D bitsLt_bf16_f32) (extf .f32 X bitsLt_bf16_f32)) transposes_S512x512_S512x512_1_0) bitsLt_bf16_f32)

end Cert.GluDwValue

end
-- ==== Proof.GluDw.Value.lean ====
/-  The result arrays of the kernel for the gradient of the state branch's gate weights: each is the reference's term of the argument arrays. -/
module

public import proofs.«01_k».proof.Proof.Gen.GluDwIdeal.Frame
public import proofs.«01_k».proof.Proof.GluDw.Ref
public import Idealize.ShloMosaic.Lib.Pipeline.ValueKit
public import Idealize.ShloMosaic.Lib.Pointwise

@[expose] public section

set_option maxRecDepth 16384

noncomputable section

namespace Cert.GluDwValue

open Cert.GluDwIdeal Cert.GluDwIdeal.Gen Idealize.ShloMosaic Idealize.ShloMosaic.TcCoe Idealize.SL.Sem
open Idealize.ShloMosaic.Pipeline (Dat)

variable (m : (ℓ : Loc nD τ sig) → Buf (Elt Ideal) ℓ)

/-- The argument arrays, at their types. -/
abbrev aX (c : Dev nD) : FVec Ideal S2176x512 .bf16 := m ((c : Thread nD τ).loc main_arg0)
abbrev aD (c : Dev nD) : FVec Ideal S2176x512 .bf16 := m ((c : Thread nD τ).loc main_arg1)

/-- The block every window is at, at each point. -/
theorem idx : ∀ t : Fin cfg0.N, win0_0.index t = ![0, 0, 0] ∧ win0_1.index t = ![0, 0, 0] ∧ win0_2.index t = ![0, 0, 0] :=
  (by decide +kernel : ∀ t : Fin grid0.N, _)

theorem point2 (c : Dev nD) (t : Fin cfg0.N) (y) : k0_pay1 (iblk m c 0 t) (iblk m c 1 t) y
    = dW (aX m c) (aD m c) (((cfg0.win 2).blk t).view.emb y) := by
  pointwise [k0_pay1, dW]
  simp only [mul_comm (aD m c _)]
  blk_point [iblk, V, idx t]

/-- The array of the gradient of the gate weights, after the run. -/
theorem final2 (c : Dev nD) : (dats m 0 c).arrAt 2 (cfgs 0).N = dW (aX m c) (aD m c) := by
  refine (dats m 0 c).arrAt_eq_of_covers 2 _ (by decide +kernel) fun t _ y => ?_
  blk_simp
  rw [after0_2]; frame_out
  exact point2 m c t y

end Cert.GluDwValue

end
-- ==== Proof.GluDw.Claims.lean ====
/-  The claims about the gradient of the state branch's gate weights. -/
module

public import proofs.«01_k».proof.Defs
public import proofs.«01_k».proof.Proof.Gen.GluDw.Frame
public import proofs.«01_k».proof.Proof.Gen.GluDwIdeal.Frame
public import proofs.«01_k».proof.Proof.Gen.GluDwRefIdeal.Run
public import proofs.«01_k».proof.Proof.GluDw.Value
public import Idealize.ShloMosaic.Lib.Quiescent
public import Idealize.ShloMosaic.Lib.Claim

@[expose] public section

set_option maxRecDepth 16384

noncomputable section

namespace Cert.GluDwValue

open Idealize.ShloMosaic Idealize.ShloMosaic.TcCoe Idealize.SL.Sem

theorem frame_kernel : Cert.quiescent_GluDw := fun m ρ _ => Cert.GluDw.Gen.frame m ρ
theorem frame_ideal : Cert.quiescent_GluDwIdeal := fun m ρ _ => Cert.GluDwIdeal.Gen.frame m ρ

theorem frame_ref : Cert.quiescent_GluDwRefIdeal := fun m ρ _ =>
  (θ_run Cert.GluDwRefIdeal.defs _ _).mono (fun r h => ⟨fun c => (h c).2, sem_eq_zero_of_no_sems (by decide) r.2⟩)
    (Cert.GluDwRefIdeal.Value.run (F := Ideal) m ρ)

section

variable (m : (ℓ : Loc Cert.GluDwIdeal.nD Cert.GluDwIdeal.τ Cert.GluDwIdeal.sig) → Buf (Elt Ideal) ℓ) (g : Dev Cert.GluDwIdeal.nD → PrngReg)

/-- The kernel's run: its results at the reference's terms, its arguments unchanged. -/
theorem run_kernel : θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
    r.2.mem ((c.tc : Thread Cert.GluDwIdeal.nD Cert.GluDwIdeal.τ).loc Cert.GluDwIdeal.main_v2) = dW (aX m c) (aD m c)
    ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
    ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1)) := by
  run_from Cert.GluDwIdeal.Gen.run_main m g
  · exact final2 m c

variable (m' : (ℓ : Loc Cert.GluDwRefIdeal.nD Cert.GluDwRefIdeal.τ Cert.GluDwRefIdeal.sig) → Buf (Elt Ideal) ℓ) (g' : Dev Cert.GluDwRefIdeal.nD → PrngReg)

/-- The reference's run, its results named. -/
theorem run_ref : θ_run (Cert.GluDwRefIdeal.defs (F := Ideal)) (onTc (τ := Cert.GluDwRefIdeal.τ) (Cert.GluDwRefIdeal.main (F := Ideal))) ⟨m', fun _ => 0, g'⟩ (fun r => ∀ c : Dev Cert.GluDwRefIdeal.nD,
    r.2.mem ((c.tc : Thread Cert.GluDwRefIdeal.nD Cert.GluDwRefIdeal.τ).loc Cert.GluDwRefIdeal.main_v7) = dW (m' ((c.tc : Thread Cert.GluDwRefIdeal.nD Cert.GluDwRefIdeal.τ).loc Cert.GluDwRefIdeal.main_arg0)) (m' ((c.tc : Thread Cert.GluDwRefIdeal.nD Cert.GluDwRefIdeal.τ).loc Cert.GluDwRefIdeal.main_arg1))
    ∧ r.2.mem ((c.tc : Thread Cert.GluDwRefIdeal.nD Cert.GluDwRefIdeal.τ).loc Cert.GluDwRefIdeal.main_arg0) = m' ((c.tc : Thread Cert.GluDwRefIdeal.nD Cert.GluDwRefIdeal.τ).loc Cert.GluDwRefIdeal.main_arg0)
    ∧ r.2.mem ((c.tc : Thread Cert.GluDwRefIdeal.nD Cert.GluDwRefIdeal.τ).loc Cert.GluDwRefIdeal.main_arg1) = m' ((c.tc : Thread Cert.GluDwRefIdeal.nD Cert.GluDwRefIdeal.τ).loc Cert.GluDwRefIdeal.main_arg1)) := by
  unfold dW
  exact Cert.GluDwRefIdeal.Value.run m' g'

end

/-- Each of the kernel's results is the reference's. -/
theorem algebraic : Cert.algebraic_GluDwIdeal_GluDwRefIdeal := by
  intro m g m' g' _ hagree
  refine ⟨_, run_kernel m g, (θ_run Cert.GluDwRefIdeal.defs _ _).mono (fun r h c => ?_) (run_ref m' g')⟩
  have e0 := (hagree c).1
  have e1 := (hagree c).2
  obtain ⟨h0, hargs⟩ := h c
  rw [e0, e1] at h0
  exact ⟨h0, hargs⟩

end Cert.GluDwValue

end
-- ==== Proof.Glu.Ref.lean ====
/-  The reference's results for the state branch's gate product: the terms its run ends with, over typed variables. -/
module

public import proofs.«01_k».proof.Proof.Gen.GluRefIdeal.Run
public import Idealize.ShloMosaic.Lib.Pointwise

@[expose] public section

set_option maxRecDepth 16384

noncomputable section

namespace Cert.GluValue

open Cert.GluRefIdeal Cert.GluRefIdeal.Gen Cert.GluRefIdeal.Value Idealize.ShloMosaic Idealize.ShloMosaic.TcCoe Idealize.SL.Sem

/-- The reference's gate preactivation. -/
def z (X : FVec Ideal S2176x512 .bf16) (W : FVec Ideal S512x512 .bf16) : FVec Ideal S1x2176x512 .f32 :=
  broadcastInDim S1x2176x512 ![1, 2] bcast_S2176x512_S1x2176x512_1_2 (Host.dotGeneral dot_S2176x512_S512x512_S2176x512_1_0_0_1_n_n none (extf .f32 X bitsLt_bf16_f32) (extf .f32 W bitsLt_bf16_f32))

end Cert.GluValue

end
-- ==== Proof.Glu.Value.lean ====
/-  The result arrays of the kernel for the state branch's gate product: each is the reference's term of the argument arrays. -/
module

public import proofs.«01_k».proof.Proof.Gen.GluIdeal.Frame
public import proofs.«01_k».proof.Proof.Glu.Ref
public import Idealize.ShloMosaic.Lib.Pipeline.ValueKit
public import Idealize.ShloMosaic.Lib.Pointwise

@[expose] public section

set_option maxRecDepth 16384

noncomputable section

namespace Cert.GluValue

open Cert.GluIdeal Cert.GluIdeal.Gen Idealize.ShloMosaic Idealize.ShloMosaic.TcCoe Idealize.SL.Sem
open Idealize.ShloMosaic.Pipeline (Dat)

variable (m : (ℓ : Loc nD τ sig) → Buf (Elt Ideal) ℓ)

/-- The argument arrays, at their types. -/
abbrev aX (c : Dev nD) : FVec Ideal S2176x512 .bf16 := m ((c : Thread nD τ).loc main_arg0)
abbrev aW (c : Dev nD) : FVec Ideal S512x512 .bf16 := m ((c : Thread nD τ).loc main_arg1)

/-- The block every window is at, at each point. -/
theorem idx : ∀ t : Fin cfg0.N, win0_0.index t = ![0, (grid0.coords t 1).val, 0] ∧ win0_1.index t = ![0, 0, 0] ∧ win0_2.index t = ![0, (grid0.coords t 1).val, 0] :=
  (by decide +kernel : ∀ t : Fin grid0.N, _)

theorem point2 (c : Dev nD) (t : Fin cfg0.N) (y) : k0_pay1 (iblk m c 0 t) (iblk m c 1 t) y
    = z (aX m c) (aW m c) (((cfg0.win 2).blk t).view.emb y) := by
  pointwise [k0_pay1, z]
  blk_point [iblk, V, idx t]

/-- The array of the gate preactivation, after the run. -/
theorem final2 (c : Dev nD) : (dats m 0 c).arrAt 2 (cfgs 0).N = z (aX m c) (aW m c) := by
  refine (dats m 0 c).arrAt_eq_of_covers 2 _ (by decide +kernel) fun t _ y => ?_
  blk_simp
  rw [after0_2]; frame_out
  exact point2 m c t y

end Cert.GluValue

end
-- ==== Proof.Glu.Claims.lean ====
/-  The claims about the state branch's gate product. -/
module

public import proofs.«01_k».proof.Defs
public import proofs.«01_k».proof.Proof.Gen.Glu.Frame
public import proofs.«01_k».proof.Proof.Gen.GluIdeal.Frame
public import proofs.«01_k».proof.Proof.Gen.GluRefIdeal.Run
public import proofs.«01_k».proof.Proof.Glu.Value
public import Idealize.ShloMosaic.Lib.Quiescent
public import Idealize.ShloMosaic.Lib.Claim

@[expose] public section

set_option maxRecDepth 16384

noncomputable section

namespace Cert.GluValue

open Idealize.ShloMosaic Idealize.ShloMosaic.TcCoe Idealize.SL.Sem

theorem frame_kernel : Cert.quiescent_Glu := fun m ρ _ => Cert.Glu.Gen.frame m ρ
theorem frame_ideal : Cert.quiescent_GluIdeal := fun m ρ _ => Cert.GluIdeal.Gen.frame m ρ

theorem frame_ref : Cert.quiescent_GluRefIdeal := fun m ρ _ =>
  (θ_run Cert.GluRefIdeal.defs _ _).mono (fun r h => ⟨fun c => (h c).2, sem_eq_zero_of_no_sems (by decide) r.2⟩)
    (Cert.GluRefIdeal.Value.run (F := Ideal) m ρ)

section

variable (m : (ℓ : Loc Cert.GluIdeal.nD Cert.GluIdeal.τ Cert.GluIdeal.sig) → Buf (Elt Ideal) ℓ) (g : Dev Cert.GluIdeal.nD → PrngReg)

/-- The kernel's run: its results at the reference's terms, its arguments unchanged. -/
theorem run_kernel : θ_run (Cert.GluIdeal.defs (F := Ideal)) (onTc (τ := Cert.GluIdeal.τ) (Cert.GluIdeal.main (F := Ideal))) ⟨m, fun _ => 0, g⟩ (fun r => ∀ c : Dev Cert.GluIdeal.nD,
    r.2.mem ((c.tc : Thread Cert.GluIdeal.nD Cert.GluIdeal.τ).loc Cert.GluIdeal.main_v2) = z (aX m c) (aW m c)
    ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
    ∧ r.2.mem ((c.tc : Thread Cert.GluIdeal.nD Cert.GluIdeal.τ).loc Cert.GluIdeal.main_arg1) = m ((c.tc : Thread Cert.GluIdeal.nD Cert.GluIdeal.τ).loc Cert.GluIdeal.main_arg1)) := by
  run_from Cert.GluIdeal.Gen.run_main m g
  · exact final2 m c

variable (m' : (ℓ : Loc Cert.GluRefIdeal.nD Cert.GluRefIdeal.τ Cert.GluRefIdeal.sig) → Buf (Elt Ideal) ℓ) (g' : Dev Cert.GluRefIdeal.nD → PrngReg)

/-- The reference's run, its results named. -/
theorem run_ref : θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
    r.2.mem ((c.tc : Thread Cert.GluRefIdeal.nD Cert.GluRefIdeal.τ).loc Cert.GluRefIdeal.main_v3) = z (m' ((c.tc : Thread Cert.GluRefIdeal.nD Cert.GluRefIdeal.τ).loc Cert.GluRefIdeal.main_arg0)) (m' ((c.tc : Thread Cert.GluRefIdeal.nD Cert.GluRefIdeal.τ).loc Cert.GluRefIdeal.main_arg1))
    ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
    ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)) := by
  unfold z
  exact Cert.GluRefIdeal.Value.run m' g'

end

/-- Each of the kernel's results is the reference's. -/
theorem algebraic : Cert.algebraic_GluIdeal_GluRefIdeal := by
  intro m g m' g' _ hagree
  refine ⟨_, run_kernel m g, (θ_run Cert.GluRefIdeal.defs _ _).mono (fun r h c => ?_) (run_ref m' g')⟩
  have e0 := (hagree c).1
  have e1 := (hagree c).2
  obtain ⟨h0, hargs⟩ := h c
  rw [e0, e1] at h0
  exact ⟨h0, hargs⟩

end Cert.GluValue

end
-- ==== Proof.Heads.Ref.lean ====
/-  The reference's results for the attention heads' output product: the terms its run ends with, over typed variables. -/
module

public import proofs.«01_k».proof.Proof.Gen.HeadsRefIdeal.Run
public import Idealize.ShloMosaic.Lib.Pointwise

@[expose] public section

set_option maxRecDepth 16384

noncomputable section

namespace Cert.HeadsValue

open Cert.HeadsRefIdeal Cert.HeadsRefIdeal.Gen Cert.HeadsRefIdeal.Value Idealize.ShloMosaic Idealize.ShloMosaic.TcCoe Idealize.SL.Sem

/-- The reference's attention branch output. -/
def out (O : FVec Ideal S8x2176x64 .bf16) (W : FVec Ideal S8x64x1024 .bf16) : FVec Ideal S2176x1024 .bf16 :=
  truncf .bf16 (Host.dotGeneral dot_S8x2176x64_S8x64x1024_S2176x1024_20_10_1_2_n_n none (extf .f32 O bitsLt_bf16_f32) (extf .f32 W bitsLt_bf16_f32)) bitsLt_bf16_f32

end Cert.HeadsValue

end
-- ==== Proof.Heads.Value.lean ====
/-  The result arrays of the kernel for the attention heads' output product: each is the reference's term of the argument arrays. -/
module

public import proofs.«01_k».proof.Proof.Gen.HeadsIdeal.Frame
public import proofs.«01_k».proof.Proof.Heads.Ref
public import Idealize.ShloMosaic.Lib.Pipeline.ValueKit
public import Idealize.ShloMosaic.Lib.Pointwise

@[expose] public section

set_option maxRecDepth 16384

noncomputable section

namespace Cert.HeadsValue

open Cert.HeadsIdeal Cert.HeadsIdeal.Gen Idealize.ShloMosaic Idealize.ShloMosaic.TcCoe Idealize.SL.Sem
open Idealize.ShloMosaic.Pipeline (Dat)

variable (m : (ℓ : Loc nD τ sig) → Buf (Elt Ideal) ℓ)

/-- The argument arrays, at their types. -/
abbrev aO (c : Dev nD) : FVec Ideal S8x2176x64 .bf16 := m ((c : Thread nD τ).loc main_arg0)
abbrev aW (c : Dev nD) : FVec Ideal S8x64x1024 .bf16 := m ((c : Thread nD τ).loc main_arg1)

/-- The block every window is at, at each point. -/
theorem idx : ∀ t : Fin cfg0.N, win0_0.index t = ![0, (grid0.coords t 0).val, 0] ∧ win0_1.index t = ![0, 0, 0] ∧ win0_2.index t = ![(grid0.coords t 0).val, 0] :=
  (by decide +kernel : ∀ t : Fin grid0.N, _)

theorem point2 (c : Dev nD) (t : Fin cfg0.N) (y) : out0_2 (iblk m c 0 t) (iblk m c 1 t) y
    = out (aO m c) (aW m c) (((cfg0.win 2).blk t).view.emb y) := by
  frame_out
  pointwise [k0_pay1, k0_pay2, k0_pay3, out]
  rw [Finset.sum_comm (s := (Finset.univ : Finset (Fin 64)))]
  simp only [Fin.sum_univ_eight]
  blk_point [iblk, V, idx t]

/-- The array of the attention branch output, after the run. -/
theorem final2 (c : Dev nD) : (dats m 0 c).arrAt 2 (cfgs 0).N = out (aO m c) (aW m c) := by
  refine (dats m 0 c).arrAt_eq_of_covers 2 _ (by decide +kernel) fun t _ y => ?_
  blk_simp
  rw [after0_2]
  exact point2 m c t y

end Cert.HeadsValue

end
-- ==== Proof.Heads.Claims.lean ====
/-  The claims about the attention heads' output product. -/
module

public import proofs.«01_k».proof.Defs
public import proofs.«01_k».proof.Proof.Gen.Heads.Frame
public import proofs.«01_k».proof.Proof.Gen.HeadsIdeal.Frame
public import proofs.«01_k».proof.Proof.Gen.HeadsRefIdeal.Run
public import proofs.«01_k».proof.Proof.Heads.Value
public import Idealize.ShloMosaic.Lib.Quiescent
public import Idealize.ShloMosaic.Lib.Claim

@[expose] public section

set_option maxRecDepth 16384

noncomputable section

namespace Cert.HeadsValue

open Idealize.ShloMosaic Idealize.ShloMosaic.TcCoe Idealize.SL.Sem

theorem frame_kernel : Cert.quiescent_Heads := fun m ρ _ => Cert.Heads.Gen.frame m ρ
theorem frame_ideal : Cert.quiescent_HeadsIdeal := fun m ρ _ => Cert.HeadsIdeal.Gen.frame m ρ

theorem frame_ref : Cert.quiescent_HeadsRefIdeal := fun m ρ _ =>
  (θ_run Cert.HeadsRefIdeal.defs _ _).mono (fun r h => ⟨fun c => (h c).2, sem_eq_zero_of_no_sems (by decide) r.2⟩)
    (Cert.HeadsRefIdeal.Value.run (F := Ideal) m ρ)

section

variable (m : (ℓ : Loc Cert.HeadsIdeal.nD Cert.HeadsIdeal.τ Cert.HeadsIdeal.sig) → Buf (Elt Ideal) ℓ) (g : Dev Cert.HeadsIdeal.nD → PrngReg)

/-- The kernel's run: its results at the reference's terms, its arguments unchanged. -/
theorem run_kernel : θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
    r.2.mem ((c.tc : Thread Cert.HeadsIdeal.nD Cert.HeadsIdeal.τ).loc Cert.HeadsIdeal.main_v0) = out (aO m c) (aW m c)
    ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
    ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)) := by
  run_from Cert.HeadsIdeal.Gen.run_main m g
  · exact final2 m c

variable (m' : (ℓ : Loc Cert.HeadsRefIdeal.nD Cert.HeadsRefIdeal.τ Cert.HeadsRefIdeal.sig) → Buf (Elt Ideal) ℓ) (g' : Dev Cert.HeadsRefIdeal.nD → PrngReg)

/-- The reference's run, its results named. -/
theorem run_ref : θ_run (Cert.HeadsRefIdeal.defs (F := Ideal)) (onTc (τ := Cert.HeadsRefIdeal.τ) (Cert.HeadsRefIdeal.main (F := Ideal))) ⟨m', fun _ => 0, g'⟩ (fun r => ∀ c : Dev Cert.HeadsRefIdeal.nD,
    r.2.mem ((c.tc : Thread Cert.HeadsRefIdeal.nD Cert.HeadsRefIdeal.τ).loc Cert.HeadsRefIdeal.main_v3) = out (m' ((c.tc : Thread Cert.HeadsRefIdeal.nD Cert.HeadsRefIdeal.τ).loc Cert.HeadsRefIdeal.main_arg0)) (m' ((c.tc : Thread Cert.HeadsRefIdeal.nD Cert.HeadsRefIdeal.τ).loc Cert.HeadsRefIdeal.main_arg1))
    ∧ r.2.mem ((c.tc : Thread Cert.HeadsRefIdeal.nD Cert.HeadsRefIdeal.τ).loc Cert.HeadsRefIdeal.main_arg0) = m' ((c.tc : Thread Cert.HeadsRefIdeal.nD Cert.HeadsRefIdeal.τ).loc Cert.HeadsRefIdeal.main_arg0)
    ∧ r.2.mem ((c.tc : Thread Cert.HeadsRefIdeal.nD Cert.HeadsRefIdeal.τ).loc Cert.HeadsRefIdeal.main_arg1) = m' ((c.tc : Thread Cert.HeadsRefIdeal.nD Cert.HeadsRefIdeal.τ).loc Cert.HeadsRefIdeal.main_arg1)) := by
  unfold out
  exact Cert.HeadsRefIdeal.Value.run m' g'

end

/-- Each of the kernel's results is the reference's. -/
theorem algebraic : Cert.algebraic_HeadsIdeal_HeadsRefIdeal := by
  intro m g m' g' _ hagree
  refine ⟨_, run_kernel m g, (θ_run Cert.HeadsRefIdeal.defs _ _).mono (fun r h c => ?_) (run_ref m' g')⟩
  have e0 := (hagree c).1
  have e1 := (hagree c).2
  obtain ⟨h0, hargs⟩ := h c
  rw [e0, e1] at h0
  exact ⟨h0, hargs⟩

end Cert.HeadsValue

end
-- ==== Proof.HeadsDx.Ref.lean ====
/-  The reference's results for the gradient of the attention heads: the terms its run ends with, over typed variables. -/
module

public import proofs.«01_k».proof.Proof.Gen.HeadsDxRefIdeal.Run
public import Idealize.ShloMosaic.Lib.Pointwise

@[expose] public section

set_option maxRecDepth 16384

noncomputable section

namespace Cert.HeadsDxValue

open Cert.HeadsDxRefIdeal Cert.HeadsDxRefIdeal.Gen Cert.HeadsDxRefIdeal.Value Idealize.ShloMosaic Idealize.ShloMosaic.TcCoe Idealize.SL.Sem

/-- The reference's gradient of the attention heads. -/
def dO (D : FVec Ideal S2176x1024 .bf16) (W : FVec Ideal S8x64x1024 .bf16) : FVec Ideal S8x2176x64 .bf16 :=
  truncf .bf16 (transpose S8x2176x64 [1, 0, 2] (Host.dotGeneral dot_S2176x1024_S8x64x1024_S2176x8x64_1_2_0_01_n_n none (extf .f32 D bitsLt_bf16_f32) (extf .f32 W bitsLt_bf16_f32)) transposes_S2176x8x64_S8x2176x64_1_0_2) bitsLt_bf16_f32

end Cert.HeadsDxValue

end
-- ==== Proof.HeadsDx.Value.lean ====
/-  The result arrays of the kernel for the gradient of the attention heads: each is the reference's term of the argument arrays. -/
module

public import proofs.«01_k».proof.Proof.Gen.HeadsDxIdeal.Frame
public import proofs.«01_k».proof.Proof.HeadsDx.Ref
public import Idealize.ShloMosaic.Lib.Pipeline.ValueKit
public import Idealize.ShloMosaic.Lib.Pointwise

@[expose] public section

set_option maxRecDepth 16384

noncomputable section

namespace Cert.HeadsDxValue

open Cert.HeadsDxIdeal Cert.HeadsDxIdeal.Gen Idealize.ShloMosaic Idealize.ShloMosaic.TcCoe Idealize.SL.Sem
open Idealize.ShloMosaic.Pipeline (Dat)

variable (m : (ℓ : Loc nD τ sig) → Buf (Elt Ideal) ℓ)

/-- The argument arrays, at their types. -/
abbrev aD (c : Dev nD) : FVec Ideal S2176x1024 .bf16 := m ((c : Thread nD τ).loc main_arg0)
abbrev aW (c : Dev nD) : FVec Ideal S8x64x1024 .bf16 := m ((c : Thread nD τ).loc main_arg1)

/-- The block every window is at, at each point. -/
theorem idx : ∀ t : Fin cfg0.N, win0_0.index t = ![(grid0.coords t 0).val, 0] ∧ win0_1.index t = ![0, 0, 0] ∧ win0_2.index t = ![0, (grid0.coords t 0).val, 0] :=
  (by decide +kernel : ∀ t : Fin grid0.N, _)

theorem point2 (c : Dev nD) (t : Fin cfg0.N) (y) : out0_2 (iblk m c 0 t) (iblk m c 1 t) y
    = dO (aD m c) (aW m c) (((cfg0.win 2).blk t).view.emb y) := by
  canon_tiles x h
  all_goals
    pointwise [k0_pay1, k0_pay2, k0_pay3, k0_pay4, k0_pay5, k0_pay6, k0_pay7, k0_pay8, k0_pay9, k0_pay10, dO]
    blk_point [iblk, V, idx t]

/-- The array of the gradient of the attention heads, after the run. -/
theorem final2 (c : Dev nD) : (dats m 0 c).arrAt 2 (cfgs 0).N = dO (aD m c) (aW m c) := by
  refine (dats m 0 c).arrAt_eq_of_covers 2 _ (by decide +kernel) fun t _ y => ?_
  blk_simp
  rw [after0_2]
  exact point2 m c t y

end Cert.HeadsDxValue

end
-- ==== Proof.HeadsDx.Claims.lean ====
/-  The claims about the gradient of the attention heads. -/
module

public import proofs.«01_k».proof.Defs
public import proofs.«01_k».proof.Proof.Gen.HeadsDx.Frame
public import proofs.«01_k».proof.Proof.Gen.HeadsDxIdeal.Frame
public import proofs.«01_k».proof.Proof.Gen.HeadsDxRefIdeal.Run
public import proofs.«01_k».proof.Proof.HeadsDx.Value
public import Idealize.ShloMosaic.Lib.Quiescent
public import Idealize.ShloMosaic.Lib.Claim

@[expose] public section

set_option maxRecDepth 16384

noncomputable section

namespace Cert.HeadsDxValue

open Idealize.ShloMosaic Idealize.ShloMosaic.TcCoe Idealize.SL.Sem

theorem frame_kernel : Cert.quiescent_HeadsDx := fun m ρ _ => Cert.HeadsDx.Gen.frame m ρ
theorem frame_ideal : Cert.quiescent_HeadsDxIdeal := fun m ρ _ => Cert.HeadsDxIdeal.Gen.frame m ρ

theorem frame_ref : Cert.quiescent_HeadsDxRefIdeal := fun m ρ _ =>
  (θ_run Cert.HeadsDxRefIdeal.defs _ _).mono (fun r h => ⟨fun c => (h c).2, sem_eq_zero_of_no_sems (by decide) r.2⟩)
    (Cert.HeadsDxRefIdeal.Value.run (F := Ideal) m ρ)

section

variable (m : (ℓ : Loc Cert.HeadsDxIdeal.nD Cert.HeadsDxIdeal.τ Cert.HeadsDxIdeal.sig) → Buf (Elt Ideal) ℓ) (g : Dev Cert.HeadsDxIdeal.nD → PrngReg)

/-- The kernel's run: its results at the reference's terms, its arguments unchanged. -/
theorem run_kernel : θ_run (Cert.HeadsDxIdeal.defs (F := Ideal)) (onTc (τ := Cert.HeadsDxIdeal.τ) (Cert.HeadsDxIdeal.main (F := Ideal))) ⟨m, fun _ => 0, g⟩ (fun r => ∀ c : Dev Cert.HeadsDxIdeal.nD,
    r.2.mem ((c.tc : Thread Cert.HeadsDxIdeal.nD Cert.HeadsDxIdeal.τ).loc Cert.HeadsDxIdeal.main_v0) = dO (aD m c) (aW m c)
    ∧ r.2.mem ((c.tc : Thread Cert.HeadsDxIdeal.nD Cert.HeadsDxIdeal.τ).loc Cert.HeadsDxIdeal.main_arg0) = m ((c.tc : Thread Cert.HeadsDxIdeal.nD Cert.HeadsDxIdeal.τ).loc Cert.HeadsDxIdeal.main_arg0)
    ∧ r.2.mem ((c.tc : Thread Cert.HeadsDxIdeal.nD Cert.HeadsDxIdeal.τ).loc Cert.HeadsDxIdeal.main_arg1) = m ((c.tc : Thread Cert.HeadsDxIdeal.nD Cert.HeadsDxIdeal.τ).loc Cert.HeadsDxIdeal.main_arg1)) := by
  run_from Cert.HeadsDxIdeal.Gen.run_main m g
  · exact final2 m c

variable (m' : (ℓ : Loc Cert.HeadsDxRefIdeal.nD Cert.HeadsDxRefIdeal.τ Cert.HeadsDxRefIdeal.sig) → Buf (Elt Ideal) ℓ) (g' : Dev Cert.HeadsDxRefIdeal.nD → PrngReg)

/-- The reference's run, its results named. -/
theorem run_ref : θ_run (Cert.HeadsDxRefIdeal.defs (F := Ideal)) (onTc (τ := Cert.HeadsDxRefIdeal.τ) (Cert.HeadsDxRefIdeal.main (F := Ideal))) ⟨m', fun _ => 0, g'⟩ (fun r => ∀ c : Dev Cert.HeadsDxRefIdeal.nD,
    r.2.mem ((c.tc : Thread Cert.HeadsDxRefIdeal.nD Cert.HeadsDxRefIdeal.τ).loc Cert.HeadsDxRefIdeal.main_v6) = dO (m' ((c.tc : Thread Cert.HeadsDxRefIdeal.nD Cert.HeadsDxRefIdeal.τ).loc Cert.HeadsDxRefIdeal.main_arg0)) (m' ((c.tc : Thread Cert.HeadsDxRefIdeal.nD Cert.HeadsDxRefIdeal.τ).loc Cert.HeadsDxRefIdeal.main_arg1))
    ∧ r.2.mem ((c.tc : Thread Cert.HeadsDxRefIdeal.nD Cert.HeadsDxRefIdeal.τ).loc Cert.HeadsDxRefIdeal.main_arg0) = m' ((c.tc : Thread Cert.HeadsDxRefIdeal.nD Cert.HeadsDxRefIdeal.τ).loc Cert.HeadsDxRefIdeal.main_arg0)
    ∧ r.2.mem ((c.tc : Thread Cert.HeadsDxRefIdeal.nD Cert.HeadsDxRefIdeal.τ).loc Cert.HeadsDxRefIdeal.main_arg1) = m' ((c.tc : Thread Cert.HeadsDxRefIdeal.nD Cert.HeadsDxRefIdeal.τ).loc Cert.HeadsDxRefIdeal.main_arg1)) := by
  unfold dO
  exact Cert.HeadsDxRefIdeal.Value.run m' g'

end

/-- Each of the kernel's results is the reference's. -/
theorem algebraic : Cert.algebraic_HeadsDxIdeal_HeadsDxRefIdeal := by
  intro m g m' g' _ hagree
  refine ⟨_, run_kernel m g, (θ_run Cert.HeadsDxRefIdeal.defs _ _).mono (fun r h c => ?_) (run_ref m' g')⟩
  have e0 := (hagree c).1
  have e1 := (hagree c).2
  obtain ⟨h0, hargs⟩ := h c
  rw [e0, e1] at h0
  exact ⟨h0, hargs⟩

end Cert.HeadsDxValue

end
-- ==== Proof.HeadsDw.Ref.lean ====
/-  The reference's results for the gradient of the attention output weights: the terms its run ends with, over typed variables. -/
module

public import proofs.«01_k».proof.Proof.Gen.HeadsDwRefIdeal.Run
public import Idealize.ShloMosaic.Lib.Pointwise

@[expose] public section

set_option maxRecDepth 16384

noncomputable section

namespace Cert.HeadsDwValue

open Cert.HeadsDwRefIdeal Cert.HeadsDwRefIdeal.Gen Cert.HeadsDwRefIdeal.Value Idealize.ShloMosaic Idealize.ShloMosaic.TcCoe Idealize.SL.Sem

/-- The reference's gradient of the attention output weights. -/
def dW (O : FVec Ideal S8x2176x64 .bf16) (D : FVec Ideal S2176x1024 .bf16) : FVec Ideal S8x64x1024 .bf16 :=
  truncf .bf16 (transpose S8x64x1024 [1, 2, 0] (Host.dotGeneral dot_S2176x1024_S8x2176x64_S1024x8x64_0_1_1_02_n_n none (extf .f32 D bitsLt_bf16_f32) (extf .f32 O bitsLt_bf16_f32)) transposes_S1024x8x64_S8x64x1024_1_2_0) bitsLt_bf16_f32

end Cert.HeadsDwValue

end
-- ==== Proof.HeadsDw.Value.lean ====
/-  The result arrays of the kernel for the gradient of the attention output weights: each is the reference's term of the argument arrays. -/
module

public import proofs.«01_k».proof.Proof.Gen.HeadsDwIdeal.Frame
public import proofs.«01_k».proof.Proof.HeadsDw.Ref
public import Idealize.ShloMosaic.Lib.Pipeline.ValueKit
public import Idealize.ShloMosaic.Lib.Pointwise

@[expose] public section

set_option maxRecDepth 16384

noncomputable section

namespace Cert.HeadsDwValue

open Cert.HeadsDwIdeal Cert.HeadsDwIdeal.Gen Idealize.ShloMosaic Idealize.ShloMosaic.TcCoe Idealize.SL.Sem
open Idealize.ShloMosaic.Pipeline (Dat)

variable (m : (ℓ : Loc nD τ sig) → Buf (Elt Ideal) ℓ)

/-- The argument arrays, at their types. -/
abbrev aO (c : Dev nD) : FVec Ideal S8x2176x64 .bf16 := m ((c : Thread nD τ).loc main_arg0)
abbrev aD (c : Dev nD) : FVec Ideal S2176x1024 .bf16 := m ((c : Thread nD τ).loc main_arg1)

/-- The block every window is at, at each point. -/
theorem idx : ∀ t : Fin cfg0.N, win0_0.index t = ![(grid0.coords t 0).val, 0, 0] ∧ win0_1.index t = ![0, 0, 0] ∧ win0_2.index t = ![(grid0.coords t 0).val, 0, 0] :=
  (by decide +kernel : ∀ t : Fin grid0.N, _)

theorem point2 (c : Dev nD) (t : Fin cfg0.N) (y) : k0_pay1 (iblk m c 0 t) (iblk m c 1 t) y
    = dW (aO m c) (aD m c) (((cfg0.win 2).blk t).view.emb y) := by
  pointwise [k0_pay1, dW]
  simp only [mul_comm (aD m c _)]
  blk_point [iblk, V, idx t]

/-- The array of the gradient of the attention output weights, after the run. -/
theorem final2 (c : Dev nD) : (dats m 0 c).arrAt 2 (cfgs 0).N = dW (aO m c) (aD m c) := by
  refine (dats m 0 c).arrAt_eq_of_covers 2 _ (by decide +kernel) fun t _ y => ?_
  blk_simp
  rw [after0_2]; frame_out
  exact point2 m c t y

end Cert.HeadsDwValue

end
-- ==== Proof.HeadsDw.Claims.lean ====
/-  The claims about the gradient of the attention output weights. -/
module

public import proofs.«01_k».proof.Defs
public import proofs.«01_k».proof.Proof.Gen.HeadsDw.Frame
public import proofs.«01_k».proof.Proof.Gen.HeadsDwIdeal.Frame
public import proofs.«01_k».proof.Proof.Gen.HeadsDwRefIdeal.Run
public import proofs.«01_k».proof.Proof.HeadsDw.Value
public import Idealize.ShloMosaic.Lib.Quiescent
public import Idealize.ShloMosaic.Lib.Claim

@[expose] public section

set_option maxRecDepth 16384

noncomputable section

namespace Cert.HeadsDwValue

open Idealize.ShloMosaic Idealize.ShloMosaic.TcCoe Idealize.SL.Sem

theorem frame_kernel : Cert.quiescent_HeadsDw := fun m ρ _ => Cert.HeadsDw.Gen.frame m ρ
theorem frame_ideal : Cert.quiescent_HeadsDwIdeal := fun m ρ _ => Cert.HeadsDwIdeal.Gen.frame m ρ

theorem frame_ref : Cert.quiescent_HeadsDwRefIdeal := fun m ρ _ =>
  (θ_run Cert.HeadsDwRefIdeal.defs _ _).mono (fun r h => ⟨fun c => (h c).2, sem_eq_zero_of_no_sems (by decide) r.2⟩)
    (Cert.HeadsDwRefIdeal.Value.run (F := Ideal) m ρ)

section

variable (m : (ℓ : Loc Cert.HeadsDwIdeal.nD Cert.HeadsDwIdeal.τ Cert.HeadsDwIdeal.sig) → Buf (Elt Ideal) ℓ) (g : Dev Cert.HeadsDwIdeal.nD → PrngReg)

/-- The kernel's run: its results at the reference's terms, its arguments unchanged. -/
theorem run_kernel : θ_run (Cert.HeadsDwIdeal.defs (F := Ideal)) (onTc (τ := Cert.HeadsDwIdeal.τ) (Cert.HeadsDwIdeal.main (F := Ideal))) ⟨m, fun _ => 0, g⟩ (fun r => ∀ c : Dev Cert.HeadsDwIdeal.nD,
    r.2.mem ((c.tc : Thread Cert.HeadsDwIdeal.nD Cert.HeadsDwIdeal.τ).loc Cert.HeadsDwIdeal.main_v1) = dW (aO m c) (aD m c)
    ∧ r.2.mem ((c.tc : Thread Cert.HeadsDwIdeal.nD Cert.HeadsDwIdeal.τ).loc Cert.HeadsDwIdeal.main_arg0) = m ((c.tc : Thread Cert.HeadsDwIdeal.nD Cert.HeadsDwIdeal.τ).loc Cert.HeadsDwIdeal.main_arg0)
    ∧ r.2.mem ((c.tc : Thread Cert.HeadsDwIdeal.nD Cert.HeadsDwIdeal.τ).loc Cert.HeadsDwIdeal.main_arg1) = m ((c.tc : Thread Cert.HeadsDwIdeal.nD Cert.HeadsDwIdeal.τ).loc Cert.HeadsDwIdeal.main_arg1)) := by
  run_from Cert.HeadsDwIdeal.Gen.run_main m g
  · exact final2 m c

variable (m' : (ℓ : Loc Cert.HeadsDwRefIdeal.nD Cert.HeadsDwRefIdeal.τ Cert.HeadsDwRefIdeal.sig) → Buf (Elt Ideal) ℓ) (g' : Dev Cert.HeadsDwRefIdeal.nD → PrngReg)

/-- The reference's run, its results named. -/
theorem run_ref : θ_run (Cert.HeadsDwRefIdeal.defs (F := Ideal)) (onTc (τ := Cert.HeadsDwRefIdeal.τ) (Cert.HeadsDwRefIdeal.main (F := Ideal))) ⟨m', fun _ => 0, g'⟩ (fun r => ∀ c : Dev Cert.HeadsDwRefIdeal.nD,
    r.2.mem ((c.tc : Thread Cert.HeadsDwRefIdeal.nD Cert.HeadsDwRefIdeal.τ).loc Cert.HeadsDwRefIdeal.main_v6) = dW (m' ((c.tc : Thread Cert.HeadsDwRefIdeal.nD Cert.HeadsDwRefIdeal.τ).loc Cert.HeadsDwRefIdeal.main_arg0)) (m' ((c.tc : Thread Cert.HeadsDwRefIdeal.nD Cert.HeadsDwRefIdeal.τ).loc Cert.HeadsDwRefIdeal.main_arg1))
    ∧ r.2.mem ((c.tc : Thread Cert.HeadsDwRefIdeal.nD Cert.HeadsDwRefIdeal.τ).loc Cert.HeadsDwRefIdeal.main_arg0) = m' ((c.tc : Thread Cert.HeadsDwRefIdeal.nD Cert.HeadsDwRefIdeal.τ).loc Cert.HeadsDwRefIdeal.main_arg0)
    ∧ r.2.mem ((c.tc : Thread Cert.HeadsDwRefIdeal.nD Cert.HeadsDwRefIdeal.τ).loc Cert.HeadsDwRefIdeal.main_arg1) = m' ((c.tc : Thread Cert.HeadsDwRefIdeal.nD Cert.HeadsDwRefIdeal.τ).loc Cert.HeadsDwRefIdeal.main_arg1)) := by
  unfold dW
  exact Cert.HeadsDwRefIdeal.Value.run m' g'

end

/-- Each of the kernel's results is the reference's. -/
theorem algebraic : Cert.algebraic_HeadsDwIdeal_HeadsDwRefIdeal := by
  intro m g m' g' _ hagree
  refine ⟨_, run_kernel m g, (θ_run Cert.HeadsDwRefIdeal.defs _ _).mono (fun r h c => ?_) (run_ref m' g')⟩
  have e0 := (hagree c).1
  have e1 := (hagree c).2
  obtain ⟨h0, hargs⟩ := h c
  rw [e0, e1] at h0
  exact ⟨h0, hargs⟩

end Cert.HeadsDwValue

end
-- ==== Proof.Dwq.Ref.lean ====
/-  The reference's results for the gradient of the query weights: the terms its run ends with, over typed variables. -/
module

public import proofs.«01_k».proof.Proof.Gen.DwqRefIdeal.Run
public import Idealize.ShloMosaic.Lib.Pointwise

@[expose] public section

set_option maxRecDepth 16384

noncomputable section

namespace Cert.DwqValue

open Cert.DwqRefIdeal Cert.DwqRefIdeal.Gen Cert.DwqRefIdeal.Value Idealize.ShloMosaic Idealize.ShloMosaic.TcCoe Idealize.SL.Sem

/-- The reference's gradient of the query weights. -/
def dW (C : FVec Ideal S2176x384 .bf16) (D : FVec Ideal S8x2176x96 .bf16) : FVec Ideal S8x384x96 .bf16 :=
  truncf .bf16 (transpose S8x384x96 [0, 2, 1] (Host.dotGeneral dot_S8x96x2176_S2176x384_S8x96x384_2_0_01_1_n_n none (transpose S8x96x2176 [0, 2, 1] (extf .f32 D bitsLt_bf16_f32) transposes_S8x2176x96_S8x96x2176_0_2_1) (extf .f32 C bitsLt_bf16_f32)) transposes_S8x96x384_S8x384x96_0_2_1) bitsLt_bf16_f32

end Cert.DwqValue

end
-- ==== Proof.Dwq.Value.lean ====
/-  The result arrays of the kernel for the gradient of the query weights: each is the reference's term of the argument arrays. -/
module

public import proofs.«01_k».proof.Proof.Gen.DwqIdeal.Frame
public import proofs.«01_k».proof.Proof.Dwq.Ref
public import Idealize.ShloMosaic.Lib.Pipeline.ValueKit
public import Idealize.ShloMosaic.Lib.Pointwise

@[expose] public section

set_option maxRecDepth 16384

noncomputable section

namespace Cert.DwqValue

open Cert.DwqIdeal Cert.DwqIdeal.Gen Idealize.ShloMosaic Idealize.ShloMosaic.TcCoe Idealize.SL.Sem
open Idealize.ShloMosaic.Pipeline (Dat)

variable (m : (ℓ : Loc nD τ sig) → Buf (Elt Ideal) ℓ)

/-- The argument arrays, at their types. -/
abbrev aC (c : Dev nD) : FVec Ideal S2176x384 .bf16 := m ((c : Thread nD τ).loc main_arg0)
abbrev aD (c : Dev nD) : FVec Ideal S8x2176x96 .bf16 := m ((c : Thread nD τ).loc main_arg1)

/-- The block every window is at, at each point. -/
theorem idx : ∀ t : Fin cfg0.N, win0_0.index t = ![0, 0, 0] ∧ win0_1.index t = ![(grid0.coords t 0).val, 0, 0] ∧ win0_2.index t = ![(grid0.coords t 0).val, 0, 0] :=
  (by decide +kernel : ∀ t : Fin grid0.N, _)

theorem point2 (c : Dev nD) (t : Fin cfg0.N) (y) : k0_pay1 (iblk m c 0 t) (iblk m c 1 t) y
    = dW (aC m c) (aD m c) (((cfg0.win 2).blk t).view.emb y) := by
  pointwise [k0_pay1, dW]
  simp only [mul_comm (aD m c _)]
  blk_point [iblk, V, idx t]

/-- The array of the gradient of the query weights, after the run. -/
theorem final2 (c : Dev nD) : (dats m 0 c).arrAt 2 (cfgs 0).N = dW (aC m c) (aD m c) := by
  refine (dats m 0 c).arrAt_eq_of_covers 2 _ (by decide +kernel) fun t _ y => ?_
  blk_simp
  rw [after0_2]; frame_out
  exact point2 m c t y

end Cert.DwqValue

end
-- ==== Proof.Dwq.Claims.lean ====
/-  The claims about the gradient of the query weights. -/
module

public import proofs.«01_k».proof.Defs
public import proofs.«01_k».proof.Proof.Gen.Dwq.Frame
public import proofs.«01_k».proof.Proof.Gen.DwqIdeal.Frame
public import proofs.«01_k».proof.Proof.Gen.DwqRefIdeal.Run
public import proofs.«01_k».proof.Proof.Dwq.Value
public import Idealize.ShloMosaic.Lib.Quiescent
public import Idealize.ShloMosaic.Lib.Claim

@[expose] public section

set_option maxRecDepth 16384

noncomputable section

namespace Cert.DwqValue

open Idealize.ShloMosaic Idealize.ShloMosaic.TcCoe Idealize.SL.Sem

theorem frame_kernel : Cert.quiescent_Dwq := fun m ρ _ => Cert.Dwq.Gen.frame m ρ
theorem frame_ideal : Cert.quiescent_DwqIdeal := fun m ρ _ => Cert.DwqIdeal.Gen.frame m ρ

theorem frame_ref : Cert.quiescent_DwqRefIdeal := fun m ρ _ =>
  (θ_run Cert.DwqRefIdeal.defs _ _).mono (fun r h => ⟨fun c => (h c).2, sem_eq_zero_of_no_sems (by decide) r.2⟩)
    (Cert.DwqRefIdeal.Value.run (F := Ideal) m ρ)

section

variable (m : (ℓ : Loc Cert.DwqIdeal.nD Cert.DwqIdeal.τ Cert.DwqIdeal.sig) → Buf (Elt Ideal) ℓ) (g : Dev Cert.DwqIdeal.nD → PrngReg)

/-- The kernel's run: its results at the reference's terms, its arguments unchanged. -/
theorem run_kernel : θ_run (Cert.DwqIdeal.defs (F := Ideal)) (onTc (τ := Cert.DwqIdeal.τ) (Cert.DwqIdeal.main (F := Ideal))) ⟨m, fun _ => 0, g⟩ (fun r => ∀ c : Dev Cert.DwqIdeal.nD,
    r.2.mem ((c.tc : Thread Cert.DwqIdeal.nD Cert.DwqIdeal.τ).loc Cert.DwqIdeal.main_v1) = dW (aC m c) (aD m c)
    ∧ r.2.mem ((c.tc : Thread Cert.DwqIdeal.nD Cert.DwqIdeal.τ).loc Cert.DwqIdeal.main_arg0) = m ((c.tc : Thread Cert.DwqIdeal.nD Cert.DwqIdeal.τ).loc Cert.DwqIdeal.main_arg0)
    ∧ r.2.mem ((c.tc : Thread Cert.DwqIdeal.nD Cert.DwqIdeal.τ).loc Cert.DwqIdeal.main_arg1) = m ((c.tc : Thread Cert.DwqIdeal.nD Cert.DwqIdeal.τ).loc Cert.DwqIdeal.main_arg1)) := by
  run_from Cert.DwqIdeal.Gen.run_main m g
  · exact final2 m c

variable (m' : (ℓ : Loc Cert.DwqRefIdeal.nD Cert.DwqRefIdeal.τ Cert.DwqRefIdeal.sig) → Buf (Elt Ideal) ℓ) (g' : Dev Cert.DwqRefIdeal.nD → PrngReg)

/-- The reference's run, its results named. -/
theorem run_ref : θ_run (Cert.DwqRefIdeal.defs (F := Ideal)) (onTc (τ := Cert.DwqRefIdeal.τ) (Cert.DwqRefIdeal.main (F := Ideal))) ⟨m', fun _ => 0, g'⟩ (fun r => ∀ c : Dev Cert.DwqRefIdeal.nD,
    r.2.mem ((c.tc : Thread Cert.DwqRefIdeal.nD Cert.DwqRefIdeal.τ).loc Cert.DwqRefIdeal.main_v8) = dW (m' ((c.tc : Thread Cert.DwqRefIdeal.nD Cert.DwqRefIdeal.τ).loc Cert.DwqRefIdeal.main_arg0)) (m' ((c.tc : Thread Cert.DwqRefIdeal.nD Cert.DwqRefIdeal.τ).loc Cert.DwqRefIdeal.main_arg1))
    ∧ r.2.mem ((c.tc : Thread Cert.DwqRefIdeal.nD Cert.DwqRefIdeal.τ).loc Cert.DwqRefIdeal.main_arg0) = m' ((c.tc : Thread Cert.DwqRefIdeal.nD Cert.DwqRefIdeal.τ).loc Cert.DwqRefIdeal.main_arg0)
    ∧ r.2.mem ((c.tc : Thread Cert.DwqRefIdeal.nD Cert.DwqRefIdeal.τ).loc Cert.DwqRefIdeal.main_arg1) = m' ((c.tc : Thread Cert.DwqRefIdeal.nD Cert.DwqRefIdeal.τ).loc Cert.DwqRefIdeal.main_arg1)) := by
  unfold dW
  exact Cert.DwqRefIdeal.Value.run m' g'

end

/-- Each of the kernel's results is the reference's. -/
theorem algebraic : Cert.algebraic_DwqIdeal_DwqRefIdeal := by
  intro m g m' g' _ hagree
  refine ⟨_, run_kernel m g, (θ_run Cert.DwqRefIdeal.defs _ _).mono (fun r h c => ?_) (run_ref m' g')⟩
  have e0 := (hagree c).1
  have e1 := (hagree c).2
  obtain ⟨h0, hargs⟩ := h c
  rw [e0, e1] at h0
  exact ⟨h0, hargs⟩

end Cert.DwqValue

end
-- ==== Proof.Dwk.Ref.lean ====
/-  The reference's results for the gradient of the key weights: the terms its run ends with, over typed variables. -/
module

public import proofs.«01_k».proof.Proof.Gen.DwkRefIdeal.Run
public import Idealize.ShloMosaic.Lib.Pointwise

@[expose] public section

set_option maxRecDepth 16384

noncomputable section

namespace Cert.DwkValue

open Cert.DwkRefIdeal Cert.DwkRefIdeal.Gen Cert.DwkRefIdeal.Value Idealize.ShloMosaic Idealize.ShloMosaic.TcCoe Idealize.SL.Sem

/-- The reference's gradient of the key weights. -/
def dW (C : FVec Ideal S2176x256 .bf16) (D : FVec Ideal S8x2176x96 .f32) : FVec Ideal S8x256x96 .bf16 :=
  truncf .bf16 (transpose S8x256x96 [0, 2, 1] (Host.dotGeneral dot_S8x96x2176_S2176x256_S8x96x256_2_0_01_1_n_n none (transpose S8x96x2176 [0, 2, 1] D transposes_S8x2176x96_S8x96x2176_0_2_1) (extf .f32 C bitsLt_bf16_f32)) transposes_S8x96x256_S8x256x96_0_2_1) bitsLt_bf16_f32

end Cert.DwkValue

end
-- ==== Proof.Dwk.Value.lean ====
/-  The result arrays of the kernel for the gradient of the key weights: each is the reference's term of the argument arrays. -/
module

public import proofs.«01_k».proof.Proof.Gen.DwkIdeal.Frame
public import proofs.«01_k».proof.Proof.Dwk.Ref
public import Idealize.ShloMosaic.Lib.Pipeline.ValueKit
public import Idealize.ShloMosaic.Lib.Pointwise

@[expose] public section

set_option maxRecDepth 16384

noncomputable section

namespace Cert.DwkValue

open Cert.DwkIdeal Cert.DwkIdeal.Gen Idealize.ShloMosaic Idealize.ShloMosaic.TcCoe Idealize.SL.Sem
open Idealize.ShloMosaic.Pipeline (Dat)

variable (m : (ℓ : Loc nD τ sig) → Buf (Elt Ideal) ℓ)

/-- The argument arrays, at their types. -/
abbrev aC (c : Dev nD) : FVec Ideal S2176x256 .bf16 := m ((c : Thread nD τ).loc main_arg0)
abbrev aD (c : Dev nD) : FVec Ideal S8x2176x96 .f32 := m ((c : Thread nD τ).loc main_arg1)

/-- The block every window is at, at each point. -/
theorem idx : ∀ t : Fin cfg0.N, win0_0.index t = ![0, 0, 0] ∧ win0_1.index t = ![(grid0.coords t 0).val, 0, 0] ∧ win0_2.index t = ![(grid0.coords t 0).val, 0, 0] :=
  (by decide +kernel : ∀ t : Fin grid0.N, _)

theorem point2 (c : Dev nD) (t : Fin cfg0.N) (y) : k0_pay1 (iblk m c 0 t) (iblk m c 1 t) y
    = dW (aC m c) (aD m c) (((cfg0.win 2).blk t).view.emb y) := by
  pointwise [k0_pay1, dW]
  simp only [mul_comm (aD m c _)]
  blk_point [iblk, V, idx t]

/-- The array of the gradient of the key weights, after the run. -/
theorem final2 (c : Dev nD) : (dats m 0 c).arrAt 2 (cfgs 0).N = dW (aC m c) (aD m c) := by
  refine (dats m 0 c).arrAt_eq_of_covers 2 _ (by decide +kernel) fun t _ y => ?_
  blk_simp
  rw [after0_2]; frame_out
  exact point2 m c t y

end Cert.DwkValue

end
-- ==== Proof.Dwk.Claims.lean ====
/-  The claims about the gradient of the key weights. -/
module

public import proofs.«01_k».proof.Defs
public import proofs.«01_k».proof.Proof.Gen.Dwk.Frame
public import proofs.«01_k».proof.Proof.Gen.DwkIdeal.Frame
public import proofs.«01_k».proof.Proof.Gen.DwkRefIdeal.Run
public import proofs.«01_k».proof.Proof.Dwk.Value
public import Idealize.ShloMosaic.Lib.Quiescent
public import Idealize.ShloMosaic.Lib.Claim

@[expose] public section

set_option maxRecDepth 16384

noncomputable section

namespace Cert.DwkValue

open Idealize.ShloMosaic Idealize.ShloMosaic.TcCoe Idealize.SL.Sem

theorem frame_kernel : Cert.quiescent_Dwk := fun m ρ _ => Cert.Dwk.Gen.frame m ρ
theorem frame_ideal : Cert.quiescent_DwkIdeal := fun m ρ _ => Cert.DwkIdeal.Gen.frame m ρ

theorem frame_ref : Cert.quiescent_DwkRefIdeal := fun m ρ _ =>
  (θ_run Cert.DwkRefIdeal.defs _ _).mono (fun r h => ⟨fun c => (h c).2, sem_eq_zero_of_no_sems (by decide) r.2⟩)
    (Cert.DwkRefIdeal.Value.run (F := Ideal) m ρ)

section

variable (m : (ℓ : Loc Cert.DwkIdeal.nD Cert.DwkIdeal.τ Cert.DwkIdeal.sig) → Buf (Elt Ideal) ℓ) (g : Dev Cert.DwkIdeal.nD → PrngReg)

/-- The kernel's run: its results at the reference's terms, its arguments unchanged. -/
theorem run_kernel : θ_run (Cert.DwkIdeal.defs (F := Ideal)) (onTc (τ := Cert.DwkIdeal.τ) (Cert.DwkIdeal.main (F := Ideal))) ⟨m, fun _ => 0, g⟩ (fun r => ∀ c : Dev Cert.DwkIdeal.nD,
    r.2.mem ((c.tc : Thread Cert.DwkIdeal.nD Cert.DwkIdeal.τ).loc Cert.DwkIdeal.main_v1) = dW (aC m c) (aD m c)
    ∧ r.2.mem ((c.tc : Thread Cert.DwkIdeal.nD Cert.DwkIdeal.τ).loc Cert.DwkIdeal.main_arg0) = m ((c.tc : Thread Cert.DwkIdeal.nD Cert.DwkIdeal.τ).loc Cert.DwkIdeal.main_arg0)
    ∧ r.2.mem ((c.tc : Thread Cert.DwkIdeal.nD Cert.DwkIdeal.τ).loc Cert.DwkIdeal.main_arg1) = m ((c.tc : Thread Cert.DwkIdeal.nD Cert.DwkIdeal.τ).loc Cert.DwkIdeal.main_arg1)) := by
  run_from Cert.DwkIdeal.Gen.run_main m g
  · exact final2 m c

variable (m' : (ℓ : Loc Cert.DwkRefIdeal.nD Cert.DwkRefIdeal.τ Cert.DwkRefIdeal.sig) → Buf (Elt Ideal) ℓ) (g' : Dev Cert.DwkRefIdeal.nD → PrngReg)

/-- The reference's run, its results named. -/
theorem run_ref : θ_run (Cert.DwkRefIdeal.defs (F := Ideal)) (onTc (τ := Cert.DwkRefIdeal.τ) (Cert.DwkRefIdeal.main (F := Ideal))) ⟨m', fun _ => 0, g'⟩ (fun r => ∀ c : Dev Cert.DwkRefIdeal.nD,
    r.2.mem ((c.tc : Thread Cert.DwkRefIdeal.nD Cert.DwkRefIdeal.τ).loc Cert.DwkRefIdeal.main_v7) = dW (m' ((c.tc : Thread Cert.DwkRefIdeal.nD Cert.DwkRefIdeal.τ).loc Cert.DwkRefIdeal.main_arg0)) (m' ((c.tc : Thread Cert.DwkRefIdeal.nD Cert.DwkRefIdeal.τ).loc Cert.DwkRefIdeal.main_arg1))
    ∧ r.2.mem ((c.tc : Thread Cert.DwkRefIdeal.nD Cert.DwkRefIdeal.τ).loc Cert.DwkRefIdeal.main_arg0) = m' ((c.tc : Thread Cert.DwkRefIdeal.nD Cert.DwkRefIdeal.τ).loc Cert.DwkRefIdeal.main_arg0)
    ∧ r.2.mem ((c.tc : Thread Cert.DwkRefIdeal.nD Cert.DwkRefIdeal.τ).loc Cert.DwkRefIdeal.main_arg1) = m' ((c.tc : Thread Cert.DwkRefIdeal.nD Cert.DwkRefIdeal.τ).loc Cert.DwkRefIdeal.main_arg1)) := by
  unfold dW
  exact Cert.DwkRefIdeal.Value.run m' g'

end

/-- Each of the kernel's results is the reference's. -/
theorem algebraic : Cert.algebraic_DwkIdeal_DwkRefIdeal := by
  intro m g m' g' _ hagree
  refine ⟨_, run_kernel m g, (θ_run Cert.DwkRefIdeal.defs _ _).mono (fun r h c => ?_) (run_ref m' g')⟩
  have e0 := (hagree c).1
  have e1 := (hagree c).2
  obtain ⟨h0, hargs⟩ := h c
  rw [e0, e1] at h0
  exact ⟨h0, hargs⟩

end Cert.DwkValue

end
-- ==== Proof.Dwv.Ref.lean ====
/-  The reference's results for the gradient of the value weights: the terms its run ends with, over typed variables. -/
module

public import proofs.«01_k».proof.Proof.Gen.DwvRefIdeal.Run
public import Idealize.ShloMosaic.Lib.Pointwise

@[expose] public section

set_option maxRecDepth 16384

noncomputable section

namespace Cert.DwvValue

open Cert.DwvRefIdeal Cert.DwvRefIdeal.Gen Cert.DwvRefIdeal.Value Idealize.ShloMosaic Idealize.ShloMosaic.TcCoe Idealize.SL.Sem

/-- The reference's gradient of the value weights. -/
def dW (C : FVec Ideal S2176x256 .bf16) (D : FVec Ideal S8x2176x64 .f32) : FVec Ideal S8x256x64 .bf16 :=
  truncf .bf16 (transpose S8x256x64 [0, 2, 1] (Host.dotGeneral dot_S8x64x2176_S2176x256_S8x64x256_2_0_01_1_n_n none (transpose S8x64x2176 [0, 2, 1] D transposes_S8x2176x64_S8x64x2176_0_2_1) (extf .f32 C bitsLt_bf16_f32)) transposes_S8x64x256_S8x256x64_0_2_1) bitsLt_bf16_f32

end Cert.DwvValue

end
-- ==== Proof.Dwv.Value.lean ====
/-  The result arrays of the kernel for the gradient of the value weights: each is the reference's term of the argument arrays. -/
module

public import proofs.«01_k».proof.Proof.Gen.DwvIdeal.Frame
public import proofs.«01_k».proof.Proof.Dwv.Ref
public import Idealize.ShloMosaic.Lib.Pipeline.ValueKit
public import Idealize.ShloMosaic.Lib.Pointwise

@[expose] public section

set_option maxRecDepth 16384

noncomputable section

namespace Cert.DwvValue

open Cert.DwvIdeal Cert.DwvIdeal.Gen Idealize.ShloMosaic Idealize.ShloMosaic.TcCoe Idealize.SL.Sem
open Idealize.ShloMosaic.Pipeline (Dat)

variable (m : (ℓ : Loc nD τ sig) → Buf (Elt Ideal) ℓ)

/-- The argument arrays, at their types. -/
abbrev aC (c : Dev nD) : FVec Ideal S2176x256 .bf16 := m ((c : Thread nD τ).loc main_arg0)
abbrev aD (c : Dev nD) : FVec Ideal S8x2176x64 .f32 := m ((c : Thread nD τ).loc main_arg1)

/-- The block every window is at, at each point. -/
theorem idx : ∀ t : Fin cfg0.N, win0_0.index t = ![0, 0, 0] ∧ win0_1.index t = ![(grid0.coords t 0).val, 0, 0] ∧ win0_2.index t = ![(grid0.coords t 0).val, 0, 0] :=
  (by decide +kernel : ∀ t : Fin grid0.N, _)

theorem point2 (c : Dev nD) (t : Fin cfg0.N) (y) : k0_pay1 (iblk m c 0 t) (iblk m c 1 t) y
    = dW (aC m c) (aD m c) (((cfg0.win 2).blk t).view.emb y) := by
  pointwise [k0_pay1, dW]
  simp only [mul_comm (aD m c _)]
  blk_point [iblk, V, idx t]

/-- The array of the gradient of the value weights, after the run. -/
theorem final2 (c : Dev nD) : (dats m 0 c).arrAt 2 (cfgs 0).N = dW (aC m c) (aD m c) := by
  refine (dats m 0 c).arrAt_eq_of_covers 2 _ (by decide +kernel) fun t _ y => ?_
  blk_simp
  rw [after0_2]; frame_out
  exact point2 m c t y

end Cert.DwvValue

end
-- ==== Proof.Dwv.Claims.lean ====
/-  The claims about the gradient of the value weights. -/
module

public import proofs.«01_k».proof.Defs
public import proofs.«01_k».proof.Proof.Gen.Dwv.Frame
public import proofs.«01_k».proof.Proof.Gen.DwvIdeal.Frame
public import proofs.«01_k».proof.Proof.Gen.DwvRefIdeal.Run
public import proofs.«01_k».proof.Proof.Dwv.Value
public import Idealize.ShloMosaic.Lib.Quiescent
public import Idealize.ShloMosaic.Lib.Claim

@[expose] public section

set_option maxRecDepth 16384

noncomputable section

namespace Cert.DwvValue

open Idealize.ShloMosaic Idealize.ShloMosaic.TcCoe Idealize.SL.Sem

theorem frame_kernel : Cert.quiescent_Dwv := fun m ρ _ => Cert.Dwv.Gen.frame m ρ
theorem frame_ideal : Cert.quiescent_DwvIdeal := fun m ρ _ => Cert.DwvIdeal.Gen.frame m ρ

theorem frame_ref : Cert.quiescent_DwvRefIdeal := fun m ρ _ =>
  (θ_run Cert.DwvRefIdeal.defs _ _).mono (fun r h => ⟨fun c => (h c).2, sem_eq_zero_of_no_sems (by decide) r.2⟩)
    (Cert.DwvRefIdeal.Value.run (F := Ideal) m ρ)

section

variable (m : (ℓ : Loc Cert.DwvIdeal.nD Cert.DwvIdeal.τ Cert.DwvIdeal.sig) → Buf (Elt Ideal) ℓ) (g : Dev Cert.DwvIdeal.nD → PrngReg)

/-- The kernel's run: its results at the reference's terms, its arguments unchanged. -/
theorem run_kernel : θ_run (Cert.DwvIdeal.defs (F := Ideal)) (onTc (τ := Cert.DwvIdeal.τ) (Cert.DwvIdeal.main (F := Ideal))) ⟨m, fun _ => 0, g⟩ (fun r => ∀ c : Dev Cert.DwvIdeal.nD,
    r.2.mem ((c.tc : Thread Cert.DwvIdeal.nD Cert.DwvIdeal.τ).loc Cert.DwvIdeal.main_v1) = dW (aC m c) (aD m c)
    ∧ r.2.mem ((c.tc : Thread Cert.DwvIdeal.nD Cert.DwvIdeal.τ).loc Cert.DwvIdeal.main_arg0) = m ((c.tc : Thread Cert.DwvIdeal.nD Cert.DwvIdeal.τ).loc Cert.DwvIdeal.main_arg0)
    ∧ r.2.mem ((c.tc : Thread Cert.DwvIdeal.nD Cert.DwvIdeal.τ).loc Cert.DwvIdeal.main_arg1) = m ((c.tc : Thread Cert.DwvIdeal.nD Cert.DwvIdeal.τ).loc Cert.DwvIdeal.main_arg1)) := by
  run_from Cert.DwvIdeal.Gen.run_main m g
  · exact final2 m c

variable (m' : (ℓ : Loc Cert.DwvRefIdeal.nD Cert.DwvRefIdeal.τ Cert.DwvRefIdeal.sig) → Buf (Elt Ideal) ℓ) (g' : Dev Cert.DwvRefIdeal.nD → PrngReg)

/-- The reference's run, its results named. -/
theorem run_ref : θ_run (Cert.DwvRefIdeal.defs (F := Ideal)) (onTc (τ := Cert.DwvRefIdeal.τ) (Cert.DwvRefIdeal.main (F := Ideal))) ⟨m', fun _ => 0, g'⟩ (fun r => ∀ c : Dev Cert.DwvRefIdeal.nD,
    r.2.mem ((c.tc : Thread Cert.DwvRefIdeal.nD Cert.DwvRefIdeal.τ).loc Cert.DwvRefIdeal.main_v7) = dW (m' ((c.tc : Thread Cert.DwvRefIdeal.nD Cert.DwvRefIdeal.τ).loc Cert.DwvRefIdeal.main_arg0)) (m' ((c.tc : Thread Cert.DwvRefIdeal.nD Cert.DwvRefIdeal.τ).loc Cert.DwvRefIdeal.main_arg1))
    ∧ r.2.mem ((c.tc : Thread Cert.DwvRefIdeal.nD Cert.DwvRefIdeal.τ).loc Cert.DwvRefIdeal.main_arg0) = m' ((c.tc : Thread Cert.DwvRefIdeal.nD Cert.DwvRefIdeal.τ).loc Cert.DwvRefIdeal.main_arg0)
    ∧ r.2.mem ((c.tc : Thread Cert.DwvRefIdeal.nD Cert.DwvRefIdeal.τ).loc Cert.DwvRefIdeal.main_arg1) = m' ((c.tc : Thread Cert.DwvRefIdeal.nD Cert.DwvRefIdeal.τ).loc Cert.DwvRefIdeal.main_arg1)) := by
  unfold dW
  exact Cert.DwvRefIdeal.Value.run m' g'

end

/-- Each of the kernel's results is the reference's. -/
theorem algebraic : Cert.algebraic_DwvIdeal_DwvRefIdeal := by
  intro m g m' g' _ hagree
  refine ⟨_, run_kernel m g, (θ_run Cert.DwvRefIdeal.defs _ _).mono (fun r h c => ?_) (run_ref m' g')⟩
  have e0 := (hagree c).1
  have e1 := (hagree c).2
  obtain ⟨h0, hargs⟩ := h c
  rw [e0, e1] at h0
  exact ⟨h0, hargs⟩

end Cert.DwvValue

end
-- ==== Proof.AttB.Ref.lean ====
/-  The reference's results for the gradient of the attention: the terms its run ends with, over typed variables. -/
module

public import proofs.«01_k».proof.Proof.Gen.AttBRefIdeal.Run
public import Idealize.ShloMosaic.Lib.Pointwise

@[expose] public section

set_option maxRecDepth 16384

noncomputable section

namespace Cert.AttBValue

open Cert.AttBRefIdeal Cert.AttBRefIdeal.Gen Cert.AttBRefIdeal.Value Idealize.ShloMosaic Idealize.ShloMosaic.TcCoe Idealize.SL.Sem

/-- The mask: a key is seen from its own row and later ones. -/
def mask  : IVec S8x2064x2064 1 :=
  broadcastInDim S8x2064x2064 ![0, 1, 2] bcast_S1x2064x2064_S8x2064x2064_0_1_2 (broadcastInDim S1x2064x2064 ![1, 2] bcast_S2064x2064_S1x2064x2064_1_2 (cmpi .sle (broadcastInDim S2064x2064 ![0, 1] bcast_S1x2064_S2064x2064_0_1 (broadcastInDim S1x2064 ![1] bcast_S2064_S1x2064_1 (iotaInDim S2064 32 0))) (broadcastInDim S2064x2064 ![0, 1] bcast_S2064x1_S2064x2064_0_1 (broadcastInDim S2064x1 ![0] bcast_S2064_S2064x1_0 (iotaInDim S2064 32 0)))))

/-- The masked scores. -/
def score (Q : FVec Ideal S8x2176x96 .bf16) (K : FVec Ideal S8x2176x96 .bf16) : FVec Ideal S8x2064x2064 .f32 :=
  select mask (mulf (Host.dotGeneral dot_S8x2064x96_S8x2064x96_S8x2064x2064_2_2_1_1_0_0 none (extractStridedSlice S8x2064x96 ![0, 112, 0] (extf .f32 Q bitsLt_bf16_f32) slices_S8x2176x96_S8x2064x96_0_112_0) (extractStridedSlice S8x2064x96 ![0, 112, 0] (extf .f32 K bitsLt_bf16_f32) slices_S8x2176x96_S8x2064x96_0_112_0)) (broadcastInDim S8x2064x2064 ![] bcast_S_S8x2064x2064 (constant S_ .f32 0x3DD105EC#32))) (broadcastInDim S8x2064x2064 ![] bcast_S_S8x2064x2064 (id (constant S_ .f32 0xFF800000#32)))

/-- The largest score of each row. -/
def top (Q : FVec Ideal S8x2176x96 .bf16) (K : FVec Ideal S8x2176x96 .bf16) : FVec Ideal S8x2064 .f32 :=
  Host.reduce FloatOps.maximumf (score Q K) (constant S_ .f32 0xFF800000#32) reducesTo_S8x2064x2064_S8x2064_d2 h_S_

/-- The exponentials of their differences to the largest. -/
def expo (Q : FVec Ideal S8x2176x96 .bf16) (K : FVec Ideal S8x2176x96 .bf16) : FVec Ideal S8x2064x2064 .f32 :=
  Host.exp (subf (score Q K) (broadcastInDim S8x2064x2064 ![0, 1, 2] bcast_S8x2064x1_S8x2064x2064_0_1_2 (broadcastInDim S8x2064x1 ![0, 1] bcast_S8x2064_S8x2064x1_0_1 (maximumf (broadcastInDim S8x2064 ![] bcast_S_S8x2064 (constant S_ .f32 0xFF800000#32)) (top Q K)))))

/-- The sums of the exponentials. -/
def total (Q : FVec Ideal S8x2176x96 .bf16) (K : FVec Ideal S8x2176x96 .bf16) : FVec Ideal S8x2064x1 .f32 :=
  broadcastInDim S8x2064x1 ![0, 1] bcast_S8x2064_S8x2064x1_0_1 (Host.reduceAdd (expo Q K) (constant S_ .f32 0x00000000#32) reducesTo_S8x2064x2064_S8x2064_d2 h_S_)

/-- The gradient of the weights. -/
def gwt (V : FVec Ideal S8x2176x64 .bf16) (D : FVec Ideal S8x2064x64 .bf16) : FVec Ideal S8x2064x2064 .f32 :=
  Host.dotGeneral dot_S8x2064x64_S8x2064x64_S8x2064x2064_2_2_1_1_0_0 none (extf .f32 D bitsLt_bf16_f32) (extractStridedSlice S8x2064x64 ![0, 112, 0] (extf .f32 V bitsLt_bf16_f32) slices_S8x2176x64_S8x2064x64_0_112_0)

/-- The gradient of the scores. -/
def dsc (Q : FVec Ideal S8x2176x96 .bf16) (K : FVec Ideal S8x2176x96 .bf16) (V : FVec Ideal S8x2176x64 .bf16) (D : FVec Ideal S8x2064x64 .bf16) : FVec Ideal S8x2064x2064 .f32 :=
  mulf (select mask (mulf (addf (Host.divf (gwt V D) (broadcastInDim S8x2064x2064 ![0, 1, 2] bcast_S8x2064x1_S8x2064x2064_0_1_2 (total Q K))) (broadcastInDim S8x2064x2064 ![0, 1] bcast_S8x2064_S8x2064x2064_0_1 (Host.reduceAdd (Host.negf (shapeCast _ (Host.reduceAdd (mulf (mulf (gwt V D) (broadcastInDim S8x2064x2064 ![0, 1, 2] bcast_S8x2064x1_S8x2064x2064_0_1_2 (Host.divf (broadcastInDim S8x2064x1 ![] bcast_S_S8x2064x1 (constant S_ .f32 0x3F800000#32)) (mulf (total Q K) (total Q K))))) (expo Q K)) (constant S_ .f32 0x00000000#32) reducesTo_S8x2064x2064_S8x2064_d2 h_S_) shapeCasts_S8x2064_S8x2064x1)) (constant S_ .f32 0x00000000#32) reducesTo_S8x2064x1_S8x2064_d2 h_S_))) (expo Q K)) (broadcastInDim S8x2064x2064 ![] bcast_S_S8x2064x2064 (constant S_ .f32 0x00000000#32))) (broadcastInDim S8x2064x2064 ![] bcast_S_S8x2064x2064 (constant S_ .f32 0x3DD105EC#32))

/-- The reference's gradient of the queries. -/
def dQ (Q : FVec Ideal S8x2176x96 .bf16) (K : FVec Ideal S8x2176x96 .bf16) (V : FVec Ideal S8x2176x64 .bf16) (D : FVec Ideal S8x2064x64 .bf16) : FVec Ideal S8x2176x96 .f32 :=
  pad S8x2176x96 ![0, 112, 0] ![0, 0, 0] ![0, 0, 0] (Host.dotGeneral dot_S8x2064x2064_S8x2064x96_S8x2064x96_2_1_1_2_0_0 none (dsc Q K V D) (extractStridedSlice S8x2064x96 ![0, 112, 0] (extf .f32 K bitsLt_bf16_f32) slices_S8x2176x96_S8x2064x96_0_112_0)) (constant S_ .f32 0x00000000#32) pads_S8x2064x96_S8x2176x96_000_11200_000 h_S_

/-- The reference's gradient of the keys. -/
def dK (Q : FVec Ideal S8x2176x96 .bf16) (K : FVec Ideal S8x2176x96 .bf16) (V : FVec Ideal S8x2176x64 .bf16) (D : FVec Ideal S8x2064x64 .bf16) : FVec Ideal S8x2176x96 .f32 :=
  pad S8x2176x96 ![0, 112, 0] ![0, 0, 0] ![0, 0, 0] (Host.dotGeneral dot_S8x2064x2064_S8x2064x96_S8x2064x96_1_1_2_2_0_0 none (dsc Q K V D) (extractStridedSlice S8x2064x96 ![0, 112, 0] (extf .f32 Q bitsLt_bf16_f32) slices_S8x2176x96_S8x2064x96_0_112_0)) (constant S_ .f32 0x00000000#32) pads_S8x2064x96_S8x2176x96_000_11200_000 h_S_

/-- The reference's gradient of the values. -/
def dV (Q : FVec Ideal S8x2176x96 .bf16) (K : FVec Ideal S8x2176x96 .bf16) (V : FVec Ideal S8x2176x64 .bf16) (D : FVec Ideal S8x2064x64 .bf16) : FVec Ideal S8x2176x64 .f32 :=
  pad S8x2176x64 ![0, 112, 0] ![0, 0, 0] ![0, 0, 0] (transpose S8x2064x64 [0, 2, 1] (Host.dotGeneral dot_S8x2064x64_S8x2064x2064_S8x64x2064_1_1_2_2_0_0 none (extf .f32 D bitsLt_bf16_f32) (Host.divf (expo Q K) (broadcastInDim S8x2064x2064 ![0, 1, 2] bcast_S8x2064x1_S8x2064x2064_0_1_2 (total Q K)))) transposes_S8x64x2064_S8x2064x64_0_2_1) (constant S_ .f32 0x00000000#32) pads_S8x2064x64_S8x2176x64_000_11200_000 h_S_

end Cert.AttBValue

end
-- ==== Proof.Att.Softmax.lean ====
/-  One row of masked attention: the softmax weights of a row whose masked scores are `⊥`, their gradient, and what both
    are when the row is taken over more keys, all masked. -/
module

public import proofs.«01_k».proof.Proof.Finite
public import Idealize.ShloMosaic.Lib.WordCmp

@[expose] public section

noncomputable section

namespace Cert.Attention

open Idealize.ShloMosaic Cert.Finite

variable {ι κ : Type} [Fintype ι] [Fintype κ]

/-- The exponential of a score's difference to the row's largest. -/
def ex (s : ι → EReal) (k : ι) : EReal := Ideal.exp (s k - Finset.univ.sup s)

/-- Their sum. -/
def tot (s : ι → EReal) : EReal := ∑ k, ex s k

/-- The softmax weight. -/
def prob (s : ι → EReal) (k : ι) : EReal := Ideal.div (ex s k) (tot s)

/-- The gradient of the scores, `g` the gradient of the weights. -/
def grad (s g : ι → EReal) (k : ι) : EReal := prob s k * (g k - ∑ j, prob s j * g j)

/-- A row's scores are real or masked, one at least real. -/
structure Row (s : ι → EReal) : Prop where
  ent : ∀ k, s k = ⊥ ∨ IsR (s k)
  one : ∃ k, IsR (s k)

theorem exp_bot_sub (x : EReal) : Ideal.exp (⊥ - x) = 0 := by
  rw [EReal.bot_sub]; rfl

theorem Row.sup {s : ι → EReal} (h : Row s) : IsR (Finset.univ.sup s) := by
  have h1 : Finset.univ.sup s < ⊤ := by
    refine (Finset.sup_lt_iff (bot_lt_top : (⊥ : EReal) < ⊤)).2 fun k _ => ?_
    rcases h.ent k with e | ⟨r, e⟩ <;> rw [e]
    · exact bot_lt_top
    · exact EReal.coe_lt_top r
  have h2 : ⊥ < Finset.univ.sup s := by
    obtain ⟨k, r, e⟩ := h.one
    exact lt_of_lt_of_le (e ▸ EReal.bot_lt_coe r) (Finset.le_sup (Finset.mem_univ k))
  exact ⟨_, (EReal.coe_toReal h1.ne h2.ne').symm⟩

theorem Row.ex {s : ι → EReal} (h : Row s) : ∃ r : ι → ℝ, (∀ k, 0 ≤ r k) ∧ (∃ k, 0 < r k) ∧ ∀ k, ex s k = (r k : EReal) := by
  obtain ⟨M, hM⟩ := h.sup
  have key : ∀ k, ∃ x : ℝ, 0 ≤ x ∧ (IsR (s k) → 0 < x) ∧ Attention.ex s k = (x : EReal) := by
    intro k
    unfold Attention.ex
    rw [hM]
    rcases h.ent k with e | ⟨r, e⟩
    · refine ⟨0, le_refl _, ?_, ?_⟩
      · rintro ⟨r, e'⟩
        exact absurd (e.symm.trans e') (EReal.bot_ne_coe r)
      · rw [e, exp_bot_sub]; rfl
    · refine ⟨Real.exp (r - M), (Real.exp_pos _).le, fun _ => Real.exp_pos _, ?_⟩
      rw [e, ← EReal.coe_sub]; rfl
  choose r h0 h1 h2 using key
  obtain ⟨k, hk⟩ := h.one
  exact ⟨r, h0, ⟨k, h1 k hk⟩, h2⟩

theorem coe_sum {α : Type} (s : Finset α) (f : α → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The exponentials are real and their sum is a positive real. -/
theorem Row.real {s : ι → EReal} (h : Row s) : ∃ (r : ι → ℝ) (t : ℝ), 0 < t ∧ (∀ k, Attention.ex s k = (r k : EReal)) ∧ tot s = (t : EReal) := by
  obtain ⟨r, h0, ⟨k, hk⟩, h2⟩ := h.ex
  refine ⟨r, ∑ k, r k, Finset.sum_pos' (fun k _ => h0 k) ⟨k, Finset.mem_univ k, hk⟩, h2, ?_⟩
  rw [tot, Finset.sum_congr rfl fun k _ => h2 k, coe_sum]

/-- A quotient of reals, the divisor not zero. -/
theorem div_coe (a : ℝ) {b : ℝ} (hb : b ≠ 0) : Ideal.div (a : EReal) (b : EReal) = ((a / b : ℝ) : EReal) := by
  unfold Ideal.div
  rw [if_neg (by exact_mod_cast hb), div_eq_mul_inv, EReal.coe_mul, EReal.coe_inv]

/-- A masked key's weight is zero. -/
theorem Row.prob_bot {s : ι → EReal} (h : Row s) {k : ι} (hk : s k = ⊥) : prob s k = 0 := by
  obtain ⟨r, t, ht, -, e⟩ := h.real
  unfold prob
  rw [e, Attention.ex, hk, exp_bot_sub, ← EReal.coe_zero, div_coe 0 ht.ne', zero_div]

theorem Row.prob_real {s : ι → EReal} (h : Row s) (k : ι) : IsR (prob s k) := by
  obtain ⟨r, t, ht, h2, e⟩ := h.real
  exact ⟨r k / t, by rw [prob, h2, e, div_coe _ ht.ne']⟩

section Emb

variable {φ : ι → κ} {t : κ → EReal}

theorem sup_emb (h0 : ∀ k, k ∉ Set.range φ → t k = ⊥) : (Finset.univ.sup fun i => t (φ i)) = Finset.univ.sup t := by
  refine le_antisymm (Finset.sup_le fun i _ => Finset.le_sup (f := t) (Finset.mem_univ (φ i))) (Finset.sup_le fun k _ => ?_)
  by_cases hk : k ∈ Set.range φ
  · obtain ⟨i, rfl⟩ := hk
    exact Finset.le_sup (f := fun i => t (φ i)) (Finset.mem_univ i)
  · rw [h0 k hk]; exact bot_le

theorem ex_emb (h0 : ∀ k, k ∉ Set.range φ → t k = ⊥) (i : ι) : ex (fun i => t (φ i)) i = ex t (φ i) := by
  unfold ex; rw [sup_emb h0]

theorem tot_emb (hφ : Function.Injective φ) (h0 : ∀ k, k ∉ Set.range φ → t k = ⊥) : tot (fun i => t (φ i)) = tot t :=
  Fintype.sum_of_injective φ hφ _ _ (fun k hk => by rw [ex, h0 k hk, exp_bot_sub]) fun i => ex_emb h0 i

/-- A row over more keys, the further ones masked, has the same weights. -/
theorem prob_emb (hφ : Function.Injective φ) (h0 : ∀ k, k ∉ Set.range φ → t k = ⊥) (i : ι) :
    prob (fun i => t (φ i)) i = prob t (φ i) := by
  unfold prob; rw [ex_emb h0, tot_emb hφ h0]

/-- … and the same weighted sums. -/
theorem sum_prob_emb (hφ : Function.Injective φ) (h0 : ∀ k, k ∉ Set.range φ → t k = ⊥) (ht : Row t) (v : κ → EReal) :
    ∑ i, prob (fun i => t (φ i)) i * v (φ i) = ∑ k, prob t k * v k :=
  Fintype.sum_of_injective φ hφ _ _ (fun k hk => by rw [ht.prob_bot (h0 k hk), zero_mul]) fun i => by rw [prob_emb hφ h0]

/-- … and the same gradients. -/
theorem grad_emb (hφ : Function.Injective φ) (h0 : ∀ k, k ∉ Set.range φ → t k = ⊥) (ht : Row t) (g : κ → EReal) (i : ι) :
    grad (fun i => t (φ i)) (fun i => g (φ i)) i = grad t g (φ i) := by
  unfold grad; rw [sum_prob_emb hφ h0 ht, prob_emb hφ h0]

end Emb

theorem Row.grad_bot {s : ι → EReal} (h : Row s) (g : ι → EReal) {k : ι} (hk : s k = ⊥) : grad s g k = 0 := by
  unfold grad; rw [h.prob_bot hk, zero_mul]

/-- Where the gradient of the weights is zero, so is the gradient of the scores. -/
theorem grad_zero (s : ι → EReal) {g : ι → EReal} (hg : ∀ k, g k = 0) (k : ι) : grad s g k = 0 := by
  unfold grad; simp [hg]

theorem IsR.neg {x : EReal} : IsR x → IsR (-x) := by
  rintro ⟨a, rfl⟩; exact ⟨-a, (EReal.coe_neg a).symm⟩

/-- The chain rule through the quotient and the exponential gives the same gradient. -/
theorem Row.grad_chain {s g : ι → EReal} (h : Row s) (hg : ∀ k, IsR (g k)) (k : ι) :
    (Ideal.div (g k) (tot s) + -(∑ j, g j * Ideal.div 1 (tot s * tot s) * Attention.ex s j)) * Attention.ex s k = grad s g k := by
  obtain ⟨r, t, ht, h2, e⟩ := h.real
  choose γ hγ using hg
  have ht2 : t * t ≠ 0 := mul_ne_zero ht.ne' ht.ne'
  have e1 : ∀ j, g j * Ideal.div 1 (tot s * tot s) * Attention.ex s j = ((γ j * (1 / (t * t)) * r j : ℝ) : EReal) := fun j => by
    rw [hγ, h2, e, ← EReal.coe_mul, ← EReal.coe_one, div_coe 1 ht2, ← EReal.coe_mul, ← EReal.coe_mul]
  have e2 : ∀ j, prob s j * g j = ((r j / t * γ j : ℝ) : EReal) := fun j => by
    rw [prob, h2, e, hγ, div_coe _ ht.ne', ← EReal.coe_mul]
  unfold grad
  simp only [e1, e2, coe_sum]
  rw [prob, h2, e, hγ, div_coe _ ht.ne', div_coe _ ht.ne']
  norm_cast
  have e3 : ∑ j, γ j * (1 / (t * t)) * r j = (∑ j, r j / t * γ j) / t := by
    rw [Finset.sum_div]
    refine Finset.sum_congr rfl fun j _ => ?_
    field_simp
  rw [e3]
  field_simp
  ring

/-- The word of minus infinity. -/
theorem bits_bot : (Ideal.ofBits FTy.f32 4286578688#32 : EReal) = ⊥ := by simp [Ideal.ofBits, Ideal.ieee]

/-- The running maximum from `⊥`, as the programs print it. -/
theorem fold_max (s : ι → EReal) : Finset.fold max (Ideal.ofBits FTy.f32 4286578688#32) s Finset.univ = Finset.univ.sup s := by
  rw [bits_bot]; rfl

/-- The scale of the scores is real. -/
theorem scale_real : IsR (Ideal.ofBits FTy.f32 1037108716#32) := by
  simp [Ideal.ofBits, Ideal.ieee]
  exact ⟨_, rfl⟩

/-- The comparison `a ≤ b` of small words. -/
theorem sle_word (a b : ℕ) (ha : a < 8192) (hb : b < 8192) :
    IntOp.cmpi .sle (BitVec.ofNat 32 a) (BitVec.ofNat 32 b) = BitVec.ofBool (decide (a ≤ b)) :=
  WordCmp.cmpi_sle_ofNat (by omega) (by omega)

/-- The mask of a tile of rows: key `j` is seen from row `r + i` when it is no padding and not after it. -/
theorem mask_tile {α : Type} (j r i : ℕ) (hj : j < 4096) (hr : r < 4096) (hi : i < 4096) (a b : α) :
    Scalar.select (IntOp.andi (IntOp.cmpi .sle (BitVec.ofNat 32 j) (IntOp.addi (BitVec.ofNat 32 r) (BitVec.ofNat 32 i)))
      (IntOp.cmpi .sge (BitVec.ofNat 32 j) 112#32)) a b = if 112 ≤ j ∧ j ≤ r + i then a else b := by
  have e1 : IntOp.addi (BitVec.ofNat 32 r) (BitVec.ofNat 32 i) = BitVec.ofNat 32 (r + i) := (BitVec.ofNat_add r i).symm
  have e2 : IntOp.cmpi .sge (BitVec.ofNat 32 j) 112#32 = BitVec.ofBool (decide (112 ≤ j)) := sle_word 112 j (by omega) (by omega)
  rw [e1, sle_word _ _ (by omega) (by omega), e2]
  by_cases h1 : 112 ≤ j <;> by_cases h2 : j ≤ r + i <;> simp [h1, h2, Scalar.select, IntOp.andi]

/-- The reference's mask. -/
theorem mask_ref {α : Type} (j i : ℕ) (hj : j < 4096) (hi : i < 4096) (a b : α) :
    Scalar.select (IntOp.cmpi .sle (BitVec.ofNat 32 j) (BitVec.ofNat 32 i)) a b = if j ≤ i then a else b := by
  rw [sle_word _ _ (by omega) (by omega)]
  by_cases h : j ≤ i <;> simp [h, Scalar.select]

end Cert.Attention

end
-- ==== Proof.Att.Rows.lean ====
/-  Masked attention and its gradients as sums over the 2176 rows, the first 112 of them padding: the terms that both the
    kernels' tiles and the references' whole rows are compared with. -/
module

public import proofs.«01_k».proof.Proof.Att.Softmax
public import Idealize.ShloMosaic.Lib.Pipeline.ValueKit

@[expose] public section

noncomputable section

namespace Cert.Attention

open Idealize.ShloMosaic Cert.Finite

/-- The scale of the scores. -/
def scale : EReal := Ideal.ofBits FTy.f32 1037108716#32

/-- The masked scores of row `i` with query `q`: key `j` is seen when it is no padding and not after the row. -/
def row {n : ℕ} (q : Fin 96 → EReal) (k : Fin n → Fin 96 → EReal) (i : ℕ) (j : Fin n) : EReal :=
  if 112 ≤ j.val ∧ j.val ≤ i then (∑ d, q d * k j d) * scale else ⊥

theorem row_bot {n : ℕ} {q : Fin 96 → EReal} {k : Fin n → Fin 96 → EReal} {i : ℕ} {j : Fin n} (h : ¬(112 ≤ j.val ∧ j.val ≤ i)) :
    row q k i j = ⊥ := if_neg h

/-- A row that is no padding sees itself, so it is a row of real scores. -/
theorem row_isRow {n : ℕ} {q : Fin 96 → EReal} {k : Fin n → Fin 96 → EReal} {i : ℕ} (hq : ∀ d, IsR (q d)) (hk : ∀ j d, IsR (k j d))
    (h1 : 112 ≤ i) (h2 : i < n) : Row (row q k i) := by
  have hr : ∀ j : Fin n, IsR ((∑ d, q d * k j d) * scale) := fun j => (IsR.sum _ _ fun d => (hq d).mul (hk j d)).mul scale_real
  refine ⟨fun j => ?_, ⟨⟨i, h2⟩, ?_⟩⟩
  · unfold row
    split_ifs with h
    · exact .inr (hr j)
    · exact .inl rfl
  · unfold row
    rw [if_pos ⟨h1, le_refl _⟩]
    exact hr _

/-- The arrays' rows: head, row, entry. -/
abbrev Arr (n d : ℕ) : Type := Fin 8 → Fin n → Fin d → EReal

/-- An array of a program, by head, row and entry. -/
def arr {n d : ℕ} (x : (⟨3, ![8, n, d]⟩ : Shape).Idx → EReal) : Arr n d := fun h i e => x (ix3 h i e)

/-- The same with the 112 padding rows, all zero, before it. -/
def padded {d : ℕ} (x : (⟨3, ![8, 2064, d]⟩ : Shape).Idx → EReal) : Arr 2176 d :=
  fun h i e => if hi : 112 ≤ i.val then x (ix3 h ⟨i.val - 112, by omega⟩ e) else 0

variable (Q K : Arr 2176 96) (V D : Arr 2176 64) (h : Fin 8)

/-- The scores of row `q`. -/
def sc (q : Fin 2176) : Fin 2176 → EReal := row (Q h q) (K h) q.val

/-- The gradient of the weights of row `q`. -/
def gw (q k : Fin 2176) : EReal := ∑ d, D h q d * V h k d

/-- The attention's result. -/
def att (q : Fin 2176) (d : Fin 64) : EReal := ∑ k, prob (sc Q K h q) k * V h k d

/-- The gradient of the scores before their scale. -/
def ds (q k : Fin 2176) : EReal := grad (sc Q K h q) (gw V D h q) k * scale

def dq (q : Fin 2176) (d : Fin 96) : EReal := ∑ k, ds Q K V D h q k * K h k d
def dk (k : Fin 2176) (d : Fin 96) : EReal := ∑ q, ds Q K V D h q k * Q h q d
def dv (k : Fin 2176) (d : Fin 64) : EReal := ∑ q, prob (sc Q K h q) k * D h q d

/-- Everything the gradients are of is real, and padding rows carry no gradient. -/
structure Fine : Prop where
  q : ∀ h i d, IsR (Q h i d)
  k : ∀ h i d, IsR (K h i d)
  v : ∀ h i d, IsR (V h i d)
  d : ∀ h i d, IsR (D h i d)
  pad : ∀ h i d, i.val < 112 → D h i d = 0

section

variable {Q K V D}

theorem sc_isRow (hq : ∀ h i d, IsR (Q h i d)) (hk : ∀ h i d, IsR (K h i d)) (q : Fin 2176) (h1 : 112 ≤ q.val) : Row (sc Q K h q) :=
  row_isRow (hq h q) (hk h) h1 q.isLt

theorem gw_pad (hf : Fine Q K V D) {q : Fin 2176} (h1 : q.val < 112) (k : Fin 2176) : gw V D h q k = 0 := by
  unfold gw; simp [hf.pad h q _ h1]

theorem ds_pad (hf : Fine Q K V D) {q : Fin 2176} (h1 : q.val < 112) (k : Fin 2176) : ds Q K V D h q k = 0 := by
  unfold ds; rw [grad_zero _ (gw_pad h hf h1), zero_mul]

/-- A masked key's score has no gradient. -/
theorem ds_mask (hf : Fine Q K V D) {q k : Fin 2176} (hm : ¬(112 ≤ k.val ∧ k.val ≤ q.val)) : ds Q K V D h q k = 0 := by
  by_cases h1 : q.val < 112
  · exact ds_pad h hf h1 k
  · unfold ds
    rw [(sc_isRow h hf.q hf.k q (by omega)).grad_bot _ (row_bot hm), zero_mul]

/-- A masked key's weight adds nothing to the gradient of its value. -/
theorem pv_mask (hf : Fine Q K V D) {q k : Fin 2176} (hm : ¬(112 ≤ k.val ∧ k.val ≤ q.val)) (d : Fin 64) :
    prob (sc Q K h q) k * D h q d = 0 := by
  by_cases h1 : q.val < 112
  · rw [hf.pad h q d h1, mul_zero]
  · rw [(sc_isRow h hf.q hf.k q (by omega)).prob_bot (row_bot hm), zero_mul]

end

/-! ## A tile of rows, its keys the first `n` -/

section Tile

variable {Q K V D} {n : ℕ} (hn : n ≤ 2176)

/-- The tile's scores are the row's, the keys after the tile masked. -/
theorem sc_tile (q : Fin 2176) : row (Q h q) (fun j : Fin n => K h (j.castLE hn)) q.val = fun j => sc Q K h q (j.castLE hn) := rfl

theorem off_tile {q : Fin 2176} (hq : q.val < n) : ∀ k : Fin 2176, k ∉ Set.range (Fin.castLE hn) → sc Q K h q k = ⊥ := by
  intro k hk
  refine row_bot fun hm => hk ⟨⟨k.val, by omega⟩, rfl⟩

theorem att_tile (hq : ∀ h i d, IsR (Q h i d)) (hk : ∀ h i d, IsR (K h i d)) {q : Fin 2176} (h1 : 112 ≤ q.val) (h2 : q.val < n) (d : Fin 64) :
    ∑ j : Fin n, prob (row (Q h q) (fun j : Fin n => K h (j.castLE hn)) q.val) j * V h (j.castLE hn) d = att Q K V h q d :=
  sum_prob_emb (Fin.castLE_injective hn) (off_tile h hn h2) (sc_isRow h hq hk q h1) fun k => V h k d

theorem prob_tile {q : Fin 2176} (h2 : q.val < n) (j : Fin n) :
    prob (row (Q h q) (fun j : Fin n => K h (j.castLE hn)) q.val) j = prob (sc Q K h q) (j.castLE hn) :=
  prob_emb (Fin.castLE_injective hn) (off_tile h hn h2) j

theorem ds_tile (hf : Fine Q K V D) {q : Fin 2176} (h2 : q.val < n) (j : Fin n) :
    grad (row (Q h q) (fun j : Fin n => K h (j.castLE hn)) q.val) (fun j : Fin n => ∑ d, D h q d * V h (j.castLE hn) d) j * scale
      = ds Q K V D h q (j.castLE hn) := by
  by_cases h1 : q.val < 112
  · rw [ds_pad h hf h1, grad_zero _ (g := fun j : Fin n => ∑ d, D h q d * V h (j.castLE hn) d) (fun j => gw_pad h hf h1 (j.castLE hn)), zero_mul]
  · unfold ds
    rw [← grad_emb (Fin.castLE_injective hn) (off_tile h hn h2) (sc_isRow h hf.q hf.k q (by omega))]
    rfl

theorem dq_tile (hf : Fine Q K V D) {q : Fin 2176} (h2 : q.val < n) (d : Fin 96) :
    ∑ j : Fin n, grad (row (Q h q) (fun j : Fin n => K h (j.castLE hn)) q.val) (fun j : Fin n => ∑ d, D h q d * V h (j.castLE hn) d) j * scale
      * K h (j.castLE hn) d = dq Q K V D h q d := by
  refine Fintype.sum_of_injective (Fin.castLE hn) (Fin.castLE_injective hn) _ _ (fun k hk => ?_) fun j => by rw [ds_tile h hn hf h2]
  rw [ds_mask h hf (fun hm => hk ⟨⟨k.val, by omega⟩, rfl⟩), zero_mul]

end Tile

/-! ## The rows that are no padding -/

/-- Row `i` of the 2064 among the 2176. -/
def up (i : Fin 2064) : Fin 2176 := ⟨112 + i.val, by omega⟩

theorem up_sub {i : Fin 2176} (h : 112 ≤ i.val ∧ i.val - 112 < 2064) : up ⟨i.val - 112, h.2⟩ = i := Fin.ext (by simp only [up]; omega)

theorem padded_up {d : ℕ} (x : (⟨3, ![8, 2064, d]⟩ : Shape).Idx → EReal) (h : Fin 8) (i : Fin 2064) (e : Fin d) :
    padded x h (up i) e = x (ix3 h i e) := by
  unfold padded
  rw [dif_pos (by simp only [up]; omega)]
  exact congrArg (fun j => x (ix3 h j e)) (Fin.ext (by simp only [up]; omega))

theorem up_inj : Function.Injective up := fun a b e => Fin.ext (by have := congrArg Fin.val e; simp only [up] at this; omega)

theorem off_up {k : Fin 2176} (hk : k ∉ Set.range up) : k.val < 112 := by
  by_contra hc
  exact hk ⟨⟨k.val - 112, by omega⟩, Fin.ext (by simp only [up]; omega)⟩

section

variable {Q K V D}

theorem sc_off_up {q : Fin 2176} : ∀ k : Fin 2176, k ∉ Set.range up → sc Q K h q k = ⊥ := fun k hk =>
  row_bot fun hm => absurd (off_up hk) (by omega)

theorem att_up (hq : ∀ h i d, IsR (Q h i d)) (hk : ∀ h i d, IsR (K h i d)) (i : Fin 2064) (d : Fin 64) :
    ∑ j : Fin 2064, prob (fun j => sc Q K h (up i) (up j)) j * V h (up j) d = att Q K V h (up i) d :=
  sum_prob_emb up_inj (sc_off_up h) (sc_isRow h hq hk (up i) (by simp only [up]; omega)) fun k => V h k d

/-- The chain rule through the exponentials, over the unpadded keys. -/
theorem ds_up (hf : Fine Q K V D) (i j : Fin 2064) :
    (if j.val ≤ i.val then
        (Ideal.div (gw V D h (up i) (up j)) (tot fun j => sc Q K h (up i) (up j))
          + -(∑ l, gw V D h (up i) (up l) * Ideal.div 1 ((tot fun j => sc Q K h (up i) (up j)) * tot fun j => sc Q K h (up i) (up j))
              * ex (fun j => sc Q K h (up i) (up j)) l)) * ex (fun j => sc Q K h (up i) (up j)) j
      else 0) * scale = ds Q K V D h (up i) (up j) := by
  have hi : 112 ≤ (up i).val := by simp only [up]; omega
  have hrow : Row fun j => sc Q K h (up i) (up j) := by
    have hr := sc_isRow (Q := Q) (K := K) h hf.q hf.k (up i) hi
    refine ⟨fun j => hr.ent (up j), ⟨i, ?_⟩⟩
    unfold sc row
    rw [if_pos ⟨hi, le_refl _⟩]
    exact (IsR.sum _ _ fun d => (hf.q h _ d).mul (hf.k h _ d)).mul scale_real
  have hg : ∀ k : Fin 2064, IsR (gw V D h (up i) (up k)) := fun k => IsR.sum _ _ fun d => (hf.d h _ d).mul (hf.v h _ d)
  rw [hrow.grad_chain (g := fun k => gw V D h (up i) (up k)) hg j]
  split_ifs with hm
  · rw [grad_emb up_inj (sc_off_up h) (sc_isRow h hf.q hf.k (up i) hi)]; rfl
  · rw [ds_mask h hf (by simp only [up]; omega), zero_mul]

theorem dq_up (hf : Fine Q K V D) (i : Fin 2064) (d : Fin 96) :
    ∑ j, ds Q K V D h (up i) (up j) * K h (up j) d = dq Q K V D h (up i) d :=
  Fintype.sum_of_injective up up_inj _ _ (fun k hk => by rw [ds_mask h hf (fun hm => absurd (off_up hk) (by omega)), zero_mul]) fun _ => rfl

theorem dk_up (hf : Fine Q K V D) (j : Fin 2064) (d : Fin 96) :
    ∑ i, ds Q K V D h (up i) (up j) * Q h (up i) d = dk Q K V D h (up j) d :=
  Fintype.sum_of_injective up up_inj _ _ (fun q hq => by rw [ds_pad h hf (off_up hq), zero_mul]) fun _ => rfl

theorem dv_up (hf : Fine Q K V D) (j : Fin 2064) (d : Fin 64) :
    ∑ i, D h (up i) d * prob (fun j => sc Q K h (up i) (up j)) j = dv Q K D h (up j) d :=
  Fintype.sum_of_injective up up_inj _ _ (fun q hq => by rw [hf.pad h q d (off_up hq), mul_zero])
    fun i => by rw [prob_emb up_inj (sc_off_up h), mul_comm]

theorem dq_pad (hf : Fine Q K V D) {q : Fin 2176} (h1 : q.val < 112) (d : Fin 96) : dq Q K V D h q d = 0 :=
  Finset.sum_eq_zero fun k _ => by rw [ds_pad h hf h1, zero_mul]

theorem dk_pad (hf : Fine Q K V D) {k : Fin 2176} (h1 : k.val < 112) (d : Fin 96) : dk Q K V D h k d = 0 :=
  Finset.sum_eq_zero fun q _ => by rw [ds_mask h hf (by omega), zero_mul]

theorem dv_pad (hf : Fine Q K V D) {k : Fin 2176} (h1 : k.val < 112) (d : Fin 64) : dv Q K D h k d = 0 :=
  Finset.sum_eq_zero fun q _ => pv_mask h hf (by omega) d

end

end Cert.Attention

end
-- ==== Proof.AttB.RefValue.lean ====
/-  The reference's gradient of the attention, entry by entry. -/
module

public import proofs.«01_k».proof.Proof.AttB.Ref
public import proofs.«01_k».proof.Proof.Att.Rows
public import Idealize.ShloMosaic.Lib.Pipeline.ValueKit
public import Idealize.ShloMosaic.Lib.Pointwise

@[expose] public section

set_option maxRecDepth 16384

noncomputable section

namespace Cert.AttBValue

open Cert.AttBRefIdeal Cert.AttBRefIdeal.Gen Idealize.ShloMosaic Idealize.ShloMosaic.TcCoe Idealize.SL.Sem
open Cert.Attention

/-- A row's largest entry. -/
theorem host_max (x : FVec Ideal S8x2064x2064 .f32) (h : Fin 8) (i : Fin 2064) :
    Host.reduce FloatOps.maximumf x (constant S_ .f32 0xFF800000#32) reducesTo_S8x2064x2064_S8x2064_d2 h_S_ (ix2 h i)
      = Finset.univ.sup fun j => x (ix3 h i j) := by
  pointwise
  exact fold_max _

/-- The exponential of an entry's difference to its row's value. -/
theorem shifted (x : FVec Ideal S8x2064x2064 .f32) (y : FVec Ideal S8x2064 .f32) (h : Fin 8) (i j : Fin 2064) :
    Host.exp (subf x (broadcastInDim S8x2064x2064 ![0, 1, 2] bcast_S8x2064x1_S8x2064x2064_0_1_2
      (broadcastInDim S8x2064x1 ![0, 1] bcast_S8x2064_S8x2064x1_0_1 y))) (ix3 h i j) = Ideal.exp (x (ix3 h i j) - y (ix2 h i)) := by
  pointwise

/-- The maximum with `⊥` changes nothing. -/
theorem capped (y : FVec Ideal S8x2064 .f32) (h : Fin 8) (i : Fin 2064) :
    maximumf (broadcastInDim S8x2064 ![] bcast_S_S8x2064 (constant S_ .f32 0xFF800000#32)) y (ix2 h i) = y (ix2 h i) := by
  show max (Ideal.ofBits .f32 0xFF800000#32) (y (ix2 h i)) = _
  rw [bits_bot]
  exact max_bot_left _

section

variable (Q K : FVec Ideal S8x2176x96 .bf16) (V : FVec Ideal S8x2176x64 .bf16) (D : FVec Ideal S8x2064x64 .bf16)

theorem score_at (h : Fin 8) (i j : Fin 2064) : score Q K (ix3 h i j) = sc (arr Q) (arr K) h (up i) (up j) := by
  pointwise [score, mask]
  rw [mask_ref _ _ (by omega) (by omega)]
  unfold sc row
  refine if_congr (by simp only [up]; omega) rfl ?_
  exact bits_bot

theorem top_at (h : Fin 8) (i : Fin 2064) : top Q K (ix2 h i) = Finset.univ.sup fun j => sc (arr Q) (arr K) h (up i) (up j) :=
  (host_max _ h i).trans (by simp only [score_at])

theorem expo_at (h : Fin 8) (i j : Fin 2064) : expo Q K (ix3 h i j) = ex (fun j => sc (arr Q) (arr K) h (up i) (up j)) j := by
  refine (shifted _ _ h i j).trans ?_
  rw [capped, top_at, score_at]
  rfl

theorem total_at (h : Fin 8) (i : Fin 2064) (z : Fin 1) : total Q K (ix3 h i z) = tot (fun j => sc (arr Q) (arr K) h (up i) (up j)) := by
  pointwise [total]
  simp only [expo_at]
  rfl

theorem gwt_at (h : Fin 8) (i j : Fin 2064) : gwt V D (ix3 h i j) = gw (arr V) (padded D) h (up i) (up j) := by
  pointwise [gwt]
  refine Finset.sum_congr rfl fun x _ => ?_
  rw [padded_up]
  rfl

variable {Q K V D}

theorem dsc_at (hf : Fine (arr Q) (arr K) (arr V) (padded D)) (h : Fin 8) (i j : Fin 2064) :
    dsc Q K V D (ix3 h i j) = ds (arr Q) (arr K) (arr V) (padded D) h (up i) (up j) := by
  pointwise [dsc, mask]
  simp only [expo_at, total_at, gwt_at]
  rw [mask_ref _ _ (by omega) (by omega), ← ds_up h hf i j]
  simp only [Finset.univ_unique, Finset.sum_singleton]
  split_ifs
  · rfl
  · rw [zero_mul]

theorem dQ_at (hf : Fine (arr Q) (arr K) (arr V) (padded D)) (h : Fin 8) (i : Fin 2176) (d : Fin 96) :
    dQ Q K V D (ix3 h i d) = dq (arr Q) (arr K) (arr V) (padded D) h i d := by
  pointwise [dQ]
  split_ifs with h1
  · refine Eq.trans ?_ ((dq_up h hf ⟨i.val - 112, h1.2⟩ d).trans (by rw [up_sub h1]))
    exact Finset.sum_congr rfl fun x _ => by rw [dsc_at hf]; rfl
  · exact (dq_pad h hf (by omega) d).symm

theorem dK_at (hf : Fine (arr Q) (arr K) (arr V) (padded D)) (h : Fin 8) (i : Fin 2176) (d : Fin 96) :
    dK Q K V D (ix3 h i d) = dk (arr Q) (arr K) (arr V) (padded D) h i d := by
  pointwise [dK]
  split_ifs with h1
  · refine Eq.trans ?_ ((dk_up h hf ⟨i.val - 112, h1.2⟩ d).trans (by rw [up_sub h1]))
    exact Finset.sum_congr rfl fun x _ => by rw [dsc_at hf]; rfl
  · exact (dk_pad h hf (by omega) d).symm

theorem dV_at (hf : Fine (arr Q) (arr K) (arr V) (padded D)) (h : Fin 8) (i : Fin 2176) (d : Fin 64) :
    dV Q K V D (ix3 h i d) = dv (arr Q) (arr K) (padded D) h i d := by
  pointwise [dV]
  split_ifs with h1
  · refine Eq.trans ?_ ((dv_up h hf ⟨i.val - 112, h1.2⟩ d).trans (by rw [up_sub h1]))
    exact Finset.sum_congr rfl fun x _ => by rw [expo_at, total_at, padded_up]; rfl
  · exact (dv_pad h hf (by omega) d).symm

end

end Cert.AttBValue

end
-- ==== Proof.Att.Tile.lean ====
/-  The kernels' tiles: a tile of rows sees only the keys up to its last row, whose masked scores are `⊥`. -/
module

public import proofs.«01_k».proof.Proof.Att.Rows

@[expose] public section

set_option maxRecDepth 16384

noncomputable section

namespace Cert.Attention

open Idealize.ShloMosaic Cert.Finite

variable {n : ℕ}

/-- The masked scores as a tile computes them: row `i` of the tile whose first row is `r`. -/
abbrev msk (b : EReal) (r i : ℕ) (q : Fin 96 → EReal) (k : Fin n → Fin 96 → EReal) (j : Fin n) : EReal :=
  Scalar.select (IntOp.andi (IntOp.cmpi CmpIPredicate.sle (BitVec.ofNat 32 j.val) (IntOp.addi (BitVec.ofNat 32 r) (BitVec.ofNat 32 i)))
    (IntOp.cmpi CmpIPredicate.sge (BitVec.ofNat 32 j.val) 112#32)) ((∑ d, q d * k j d) * Ideal.ofBits FTy.f32 1037108716#32) b

/-- The weights as a tile computes them. -/
abbrev wgt (s : Fin n → EReal) (j : Fin n) : EReal :=
  Ideal.div (Ideal.exp (s j - Finset.fold max (Ideal.ofBits FTy.f32 4286578688#32) s Finset.univ))
    (∑ j, Ideal.exp (s j - Finset.fold max (Ideal.ofBits FTy.f32 4286578688#32) s Finset.univ))

theorem msk_eq {b : EReal} (hb : b = ⊥) {r i : ℕ} (hn : n ≤ 2176) (hr : r + i < n) (q : Fin 96 → EReal) (k : Fin n → Fin 96 → EReal) :
    msk b r i q k = row q k (r + i) := by
  funext j
  unfold msk
  rw [mask_tile _ _ _ (by omega) (by omega) (by omega), hb]
  rfl

theorem wgt_eq (s : Fin n → EReal) : wgt s = prob s := by
  funext j
  unfold wgt
  rw [fold_max]
  rfl

/-- What the forward kernel leaves: a padding row has the weights of the tile it is in. -/
def kG (Q K : Arr 2176 96) (V : Arr 2176 64) : Arr 2176 64 := fun h q d =>
  if q.val < 112 then ∑ j : Fin 128, prob (row (Q h q) (fun j : Fin 128 => K h (j.castLE (by omega))) q.val) j * V h (j.castLE (by omega)) d
  else att Q K V h q d

theorem kG_congr {Q K : Arr 2176 96} {V : Arr 2176 64} {h h' : Fin 8} {q q' : Fin 2176} {d d' : Fin 64} (e0 : h = h') (e1 : q = q') (e2 : d = d') :
    kG Q K V h q d = kG Q K V h' q' d' := by subst e0 e1 e2; rfl

theorem att_piece {Q K : Arr 2176 96} {V : Arr 2176 64} (hQ : ∀ h i d, IsR (Q h i d)) (hK : ∀ h i d, IsR (K h i d)) {b : EReal} (hb : b = ⊥)
    (r i : ℕ) (hn : n ≤ 2176) (hr : r + i < n) (h1 : n = 128 ∨ 112 ≤ r) (h : Fin 8) (q : Fin 2176) (hq : q.val = r + i) (d : Fin 64) :
    ∑ j : Fin n, wgt (msk b r i (Q h q) fun j : Fin n => K h (j.castLE hn)) j * V h (j.castLE hn) d = kG Q K V h q d := by
  rw [msk_eq hb hn hr, wgt_eq, ← hq]
  unfold kG
  split_ifs with hp
  · obtain rfl : n = 128 := by omega
    rfl
  · exact att_tile h hn hQ hK (by omega) (by omega) d

/-- A tile's gradient of the scores, as the backward kernel computes it. -/
abbrev dsw (s g : Fin n → EReal) (j : Fin n) : EReal := wgt s j * (g j - ∑ j, wgt s j * g j) * Ideal.ofBits FTy.f32 1037108716#32

section

variable {Q K : Arr 2176 96} {V D : Arr 2176 64} (hf : Fine Q K V D) {b : EReal} (hb : b = ⊥) (r i : ℕ) (hn : n ≤ 2176) (hr : r + i < n)
  (h : Fin 8) (q : Fin 2176) (hq : q.val = r + i)

include hb hr hq

theorem wgt_piece (j : Fin n) : wgt (msk b r i (Q h q) fun j : Fin n => K h (j.castLE hn)) j = prob (sc Q K h q) (j.castLE hn) := by
  rw [msk_eq hb hn hr, wgt_eq, ← hq]
  exact prob_tile h hn (by omega) j

include hf

theorem ds_piece (j : Fin n) : dsw (msk b r i (Q h q) fun j : Fin n => K h (j.castLE hn)) (fun j : Fin n => ∑ d, D h q d * V h (j.castLE hn) d) j
    = ds Q K V D h q (j.castLE hn) := by
  unfold dsw
  rw [msk_eq hb hn hr, wgt_eq, ← hq]
  exact ds_tile h hn hf (by omega) j

theorem dq_piece (d : Fin 96) : ∑ j : Fin n, dsw (msk b r i (Q h q) fun j : Fin n => K h (j.castLE hn)) (fun j : Fin n => ∑ d, D h q d * V h (j.castLE hn) d) j
    * K h (j.castLE hn) d = dq Q K V D h q d := by
  unfold dsw
  rw [msk_eq hb hn hr, wgt_eq, ← hq]
  exact dq_tile h hn hf (by omega) d

end

end Cert.Attention

end
-- ==== Proof.Att.Acc.lean ====
/-  A buffer the tiles add to in turn: after a tile of rows it holds the sums over the rows so far. -/
module

public import proofs.«01_k».proof.Proof.Att.Tile
public import Idealize.ShloMosaic.Lib.Pipeline.ReadBack

@[expose] public section

set_option maxRecDepth 16384

noncomputable section

namespace Cert.Attention

open Idealize.ShloMosaic Cert.Finite

/-- The sum over the first `n` rows. -/
def part (f : Fin 2176 → EReal) (n : ℕ) : EReal := ∑ q, if q.val < n then f q else 0

theorem part_zero {f : Fin 2176 → EReal} {n : ℕ} (h : ∀ q, q.val < n → f q = 0) : part f n = 0 :=
  Finset.sum_eq_zero fun q _ => by split_ifs with hq; exacts [h q hq, rfl]

theorem part_all (f : Fin 2176 → EReal) : part f 2176 = ∑ q, f q := Finset.sum_congr rfl fun q _ => if_pos q.isLt

theorem part_add (f : Fin 2176 → EReal) {s m : ℕ} (h : s + m ≤ 2176) :
    part f (s + m) = part f s + ∑ i : Fin m, f ⟨s + i.val, by omega⟩ := by
  have e : ∑ i : Fin m, f ⟨s + i.val, by omega⟩ = ∑ q : Fin 2176, if s ≤ q.val ∧ q.val < s + m then f q else 0 := by
    refine Fintype.sum_of_injective (fun i : Fin m => (⟨s + i.val, by omega⟩ : Fin 2176)) (fun a b hab => Fin.ext ?_) _ _ (fun q hq => if_neg fun hc => hq ?_)
      fun i => ?_
    · have := congrArg Fin.val hab
      simp only [] at this
      omega
    · exact ⟨⟨q.val - s, by omega⟩, Fin.ext (by simp only []; omega)⟩
    · exact (if_pos (by simp only []; omega)).symm
  rw [e]
  unfold part
  rw [← Finset.sum_add_distrib]
  refine Finset.sum_congr rfl fun q _ => ?_
  by_cases h1 : q.val < s
  · rw [if_pos (by omega), if_pos h1, if_neg (by omega), add_zero]
  · rw [if_neg h1, zero_add]
    exact if_congr (by omega) rfl rfl

variable {d n : ℕ} {sig : RefSig} {κ : Kind} {sp : Space}

/-- One tile's addition. A key past the tile's last row gets nothing from it. -/
theorem acc_step (v : View sig κ sp (⟨3, ![1, 2176, d]⟩ : Shape) .f32) (s m : ℕ) (hn : n ≤ 2176) (hs : s + m = n)
    {f : Fin 2176 → Fin d → Fin 2176 → EReal} (hz : ∀ k e q, q.val < k.val → f k e q = 0)
    {inb : ∀ a, (![0, 0, 0] : Fin 3 → ℕ) a + (![1, n, d] : Fin 3 → ℕ) a ≤ (⟨3, ![1, 2176, d]⟩ : Shape).size a}
    {L : List (View.Piece (Elt Ideal) (⟨3, ![1, 2176, d]⟩ : Shape) .f32)}
    (pay : FVec Ideal (⟨3, ![1, n, d]⟩ : Shape) .f32 → FVec Ideal (⟨3, ![1, n, d]⟩ : Shape) .f32)
    (hpay : ∀ (r : FVec Ideal (⟨3, ![1, n, d]⟩ : Shape) .f32) (j : Fin n) (e : Fin d),
      pay r (ix3 0 j e) = r (ix3 0 j e) + ∑ i : Fin m, f (j.castLE hn) e ⟨s + i.val, by omega⟩)
    (hL : ∀ (k : Fin 2176) (e : Fin d), View.canon L (ix3 0 k e) = part (f k e) s) (k : Fin 2176) (e : Fin d) :
    View.canon ((⟨Rect.unit (s := (⟨3, ![1, 2176, d]⟩ : Shape)) ![0, 0, 0] ![1, n, d] inb, pay (v.readCov L (Rect.unit (s := (⟨3, ![1, 2176, d]⟩ : Shape)) ![0, 0, 0] ![1, n, d] inb).toLoadRect)⟩ :
      View.Piece (Elt Ideal) (⟨3, ![1, 2176, d]⟩ : Shape) .f32) :: L) (ix3 0 k e) = part (f k e) n := by
  have emb : ∀ j : Fin n, (Rect.unit (s := (⟨3, ![1, 2176, d]⟩ : Shape)) ![0, 0, 0] ![1, n, d] inb).emb (ix3 0 j e) = ix3 0 (j.castLE hn) e := by
    intro j
    funext a
    fin_cases a <;> refine Fin.ext ?_ <;> simp [Rect.emb, Rect.unit]
  by_cases hk : k.val < n
  · have ek : k = (⟨k.val, hk⟩ : Fin n).castLE hn := rfl
    rw [ek, ← emb ⟨k.val, hk⟩, View.canon_cons_emb]
    refine (hpay _ _ _).trans ?_
    have ea : part (f k e) n = part (f k e) s + ∑ i : Fin m, f k e ⟨s + i.val, by omega⟩ :=
      (congrArg (part (f k e)) hs.symm).trans (part_add _ (by omega))
    refine Eq.trans ?_ ea.symm
    rw [View.readCov_eq_canon', ← hL]
    exact congrArg (· + _) (congrArg (View.canon L) (emb ⟨k.val, hk⟩))
  · rw [View.canon_cons_of_not_mem, hL, part_zero, part_zero]
    · exact fun q hq => hz k e q (by omega)
    · exact fun q hq => hz k e q (by omega)
    · intro hy
      obtain ⟨x, hx⟩ := LoadRect.exists_idx_of_mem _ hy
      have h1 := congrArg Fin.val (congrFun hx 1)
      have h2 := (x 1).isLt
      simp [LoadRect.idx, Rect.unit] at h1 h2
      omega

/-- The last tile, whose keys are all the rows. -/
theorem acc_last (v : View sig κ sp (⟨3, ![1, 2176, d]⟩ : Shape) .f32) (s m : ℕ) (hs : s + m = 2176)
    {f : Fin 2176 → Fin d → Fin 2176 → EReal}
    {inb : ∀ a, (![0, 0, 0] : Fin 3 → ℕ) a + (![1, 2176, d] : Fin 3 → ℕ) a ≤ (⟨3, ![1, 2176, d]⟩ : Shape).size a}
    {L : List (View.Piece (Elt Ideal) (⟨3, ![1, 2176, d]⟩ : Shape) .f32)}
    (pay : FVec Ideal (⟨3, ![1, 2176, d]⟩ : Shape) .f32 → FVec Ideal (⟨3, ![1, 2176, d]⟩ : Shape) .f32)
    (hpay : ∀ (r : FVec Ideal (⟨3, ![1, 2176, d]⟩ : Shape) .f32) (j : Fin 2176) (e : Fin d),
      pay r (ix3 0 j e) = r (ix3 0 j e) + ∑ i : Fin m, f (j.castLE le_rfl) e ⟨s + i.val, by omega⟩)
    (hL : ∀ (k : Fin 2176) (e : Fin d), View.canon L (ix3 0 k e) = part (f k e) s) (k : Fin 2176) (e : Fin d) :
    pay (v.readCov L (Rect.unit (s := (⟨3, ![1, 2176, d]⟩ : Shape)) ![0, 0, 0] ![1, 2176, d] inb).toLoadRect) (ix3 0 k e) = part (f k e) 2176 := by
  refine (hpay _ _ _).trans ?_
  have ea : part (f k e) 2176 = part (f k e) s + ∑ i : Fin m, f k e ⟨s + i.val, by omega⟩ :=
    (congrArg (part (f k e)) hs.symm).trans (part_add _ (by omega))
  refine Eq.trans ?_ ea.symm
  rw [View.readCov_eq_canon', ← hL]
  refine congrArg (· + _) (congrArg (View.canon L) ?_)
  funext a
  fin_cases a <;> refine Fin.ext ?_ <;> simp [LoadRect.idx, Rect.unit]

/-- The zeroed buffer. -/
theorem acc_zero {f : Fin 2176 → Fin d → Fin 2176 → EReal} {inb : ∀ a, (![0, 0, 0] : Fin 3 → ℕ) a + (![1, 2176, d] : Fin 3 → ℕ) a ≤ (⟨3, ![1, 2176, d]⟩ : Shape).size a}
    (z : FVec Ideal (⟨3, ![1, 2176, d]⟩ : Shape) .f32) (hz : ∀ k e, z (ix3 0 k e) = 0) (k : Fin 2176) (e : Fin d) :
    View.canon ([⟨Rect.unit (s := (⟨3, ![1, 2176, d]⟩ : Shape)) ![0, 0, 0] ![1, 2176, d] inb, z⟩] : List (View.Piece (Elt Ideal) (⟨3, ![1, 2176, d]⟩ : Shape) .f32)) (ix3 0 k e)
      = part (f k e) 0 := by
  have emb : (Rect.unit (s := (⟨3, ![1, 2176, d]⟩ : Shape)) ![0, 0, 0] ![1, 2176, d] inb).emb (ix3 0 k e) = ix3 0 k e := by
    funext a
    fin_cases a <;> refine Fin.ext ?_ <;> simp [Rect.emb, Rect.unit]
  rw [part_zero fun q hq => absurd hq (by omega)]
  refine Eq.trans ?_ (hz k e)
  rw [← emb, View.canon_cons_emb, emb]

end Cert.Attention

end
-- ==== Proof.AttB.Value.lean ====
/-  The result arrays of the kernel for the attention's gradient, tile by tile. -/
module

public import proofs.«01_k».proof.Proof.Gen.AttBIdeal.Frame
public import proofs.«01_k».proof.Defs
public import proofs.«01_k».proof.Proof.Gen.Pre_att_finite
public import proofs.«01_k».proof.Proof.Finite
public import proofs.«01_k».proof.Proof.AttB.RefValue
public import proofs.«01_k».proof.Proof.Att.Acc
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AttBValue

open Cert.AttBIdeal Cert.AttBIdeal.Gen Idealize.ShloMosaic Idealize.ShloMosaic.TcCoe Idealize.SL.Sem
open Idealize.ShloMosaic.Pipeline (Dat)

open Cert.Finite Cert.Attention

variable (m : (ℓ : Loc nD τ sig) → Buf (Elt Ideal) ℓ)

/-- The block every window is at, at each point. -/
theorem idx : ∀ t : Fin cfg0.N, win0_0.index t = ![(grid0.coords t 0).val, 0, 0] ∧ win0_1.index t = ![(grid0.coords t 0).val, 0, 0] ∧ win0_2.index t = ![(grid0.coords t 0).val, 0, 0] ∧ win0_3.index t = ![(grid0.coords t 0).val, 0, 0] ∧ win0_4.index t = ![(grid0.coords t 0).val, 0, 0] ∧ win0_5.index t = ![(grid0.coords t 0).val, 0, 0] ∧ win0_6.index t = ![(grid0.coords t 0).val, 0, 0] :=
  (by decide +kernel : ∀ t : Fin grid0.N, _)

/-- The argument arrays, at their types. -/
abbrev aQ (c : Dev nD) : FVec Ideal S8x2176x96 .bf16 := m ((c : Thread nD τ).loc main_arg0)
abbrev aK (c : Dev nD) : FVec Ideal S8x2176x96 .bf16 := m ((c : Thread nD τ).loc main_arg1)
abbrev aV (c : Dev nD) : FVec Ideal S8x2176x64 .bf16 := m ((c : Thread nD τ).loc main_arg2)
abbrev aD (c : Dev nD) : FVec Ideal S8x2064x64 .bf16 := m ((c : Thread nD τ).loc main_arg3)

/-- Every entry of the arguments is a real number. -/
def FinAttB : Prop := ∀ c : Dev nD, (∀ i, IsR (aQ m c i)) ∧ (∀ i, IsR (aK m c i)) ∧ (∀ i, IsR (aV m c i)) ∧ ∀ i, IsR (aD m c i)

instance : Subsingleton Cert.Pre_att_finite.S_.Idx := ⟨fun a b => funext fun d => d.elim0⟩

/-- What the precondition says of the arguments. -/
theorem fin_of_pre (h : Cert.Pre_AttBIdeal_att_finite m) : FinAttB m := by
  intro c
  have e := congrFun (h c) ix0
  obtain ⟨e, e3⟩ := IntOp.andi_eq_one.1 e
  obtain ⟨e, e2⟩ := IntOp.andi_eq_one.1 e
  obtain ⟨e0, e1⟩ := IntOp.andi_eq_one.1 e
  refine ⟨fun i => ?_, fun i => ?_, fun i => ?_, fun i => ?_⟩
  · exact isR_of_olt (Host.reduce_andi_all _ _ _ _ _ e0 i)
  · exact isR_of_olt (Host.reduce_andi_all _ _ _ _ _ e1 i)
  · exact isR_of_olt (Host.reduce_andi_all _ _ _ _ _ e2 i)
  · exact isR_of_olt (Host.reduce_andi_all _ _ _ _ _ e3 i)

/-- The named mask is `⊥`. -/
theorem named_bot : (Named.named κ "mask" 4048155338#32 : Ideal .f32) = (⊥ : EReal) := IdealRules.named_const.ideal_named_scalar _ _ _ _ rfl

/-- The head a point is at. -/
abbrev hd (t : Fin cfg0.N) : Fin 8 := grid0.coords t 0

theorem in0 (c : Dev nD) (t : Fin cfg0.N) (i : Fin 2176) (e : Fin 96) : iblk m c 0 t (ix3 0 i e) = arr (aQ m c) (hd t) i e := by
  unfold arr hd
  blk_point [iblk, V, idx t]

theorem in1 (c : Dev nD) (t : Fin cfg0.N) (i : Fin 2176) (e : Fin 96) : iblk m c 1 t (ix3 0 i e) = arr (aK m c) (hd t) i e := by
  unfold arr hd
  blk_point [iblk, V, idx t]

theorem in2 (c : Dev nD) (t : Fin cfg0.N) (i : Fin 2176) (e : Fin 64) : iblk m c 2 t (ix3 0 i e) = arr (aV m c) (hd t) i e := by
  unfold arr hd
  blk_point [iblk, V, idx t]

/-- The gradient with its padding rows, as the host builds it. -/
def padD (D : FVec Ideal S8x2064x64 .bf16) : FVec Ideal S8x2176x64 .bf16 :=
  concatenate S8x2176x64 1 [⟨S8x112x64, (broadcastInDim S8x112x64 ![] bcast_S_S8x112x64 (constant S_ .bf16 0x0000#16) : FVec Ideal S8x112x64 .bf16)⟩, ⟨S8x2064x64, D⟩]
    concatenates_S8x112x64_S8x2064x64_S8x2176x64_d1

theorem padD_at (D : FVec Ideal S8x2064x64 .bf16) (h : Fin 8) (i : Fin 2176) (e : Fin 64) : padD D (ix3 h i e) = padded D h i e := by
  pointwise [padD]
  unfold padded
  by_cases hi : 112 ≤ i.val
  · rw [dif_pos hi, dif_neg (by omega)]
  · rw [dif_neg hi, dif_pos (by omega)]

theorem entry (c : Dev nD) : V m c main_v1 = padD (aD m c) := by
  unfold padD aD
  after_results <;> rfl

theorem in3 (c : Dev nD) (t : Fin cfg0.N) (i : Fin 2176) (e : Fin 64) : iblk m c 3 t (ix3 0 i e) = padded (aD m c) (hd t) i e := by
  rw [← padD_at, ← entry m c]
  unfold hd
  blk_point [iblk, idx t]

/-- Everything is real, and the padding rows carry no gradient. -/
theorem fine (hf : FinAttB m) (c : Dev nD) : Fine (arr (aQ m c)) (arr (aK m c)) (arr (aV m c)) (padded (aD m c)) where
  q _ _ _ := (hf c).1 _
  k _ _ _ := (hf c).2.1 _
  v _ _ _ := (hf c).2.2.1 _
  d h i d := by
    unfold padded
    split_ifs
    · exact (hf c).2.2.2 _
    · exact ⟨0, rfl⟩
  pad h i d hi := by
    unfold padded
    exact dif_neg (by omega)

/-- The two tiles whose sum the kernel writes in two operations. -/
abbrev payK (a : FVec Ideal S256x96 .bf16) (b : FVec Ideal S256x640 .bf16) (z : FVec Ideal S640x96 .f32) (r : FVec Ideal S1x640x96 .f32) : FVec Ideal S1x640x96 .f32 :=
  k0_pay33 a b (k0_pay32 r) z
abbrev payV (a : FVec Ideal S256x64 .bf16) (b : FVec Ideal S256x896 .f32) (z : IVec S256x896 1) (r : FVec Ideal S1x896x64 .f32) : FVec Ideal S1x896x64 .f32 :=
  k0_pay46 (k0_pay45 a b z r)

theorem dq_congr {Q K : Arr 2176 96} {V D : Arr 2176 64} {h h' : Fin 8} {q q' : Fin 2176} {d d' : Fin 96} (e0 : h = h') (e1 : q = q') (e2 : d = d') :
    dq Q K V D h q d = dq Q K V D h' q' d' := by subst e0 e1 e2; rfl

/-- What a point leaves of the gradient of the queries. -/
theorem point4 (hf : FinAttB m) (c : Dev nD) (t : Fin cfg0.N) (y : S1x2176x96.Idx) : (outsAt0 m c t).1 y
    = dq (arr (aQ m c)) (arr (aK m c)) (arr (aV m c)) (padded (aD m c)) (hd t) (y 1) (y 2) := by
  dsimp only [outsAt0]
  unfold out0_A_4
  frame_out
  canon_tiles y h using (View.cover_of_tiledBy _ ![1, 128, 96] (by sl_kernel_rfl) y)
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92]
    simp only [in0, in1, in2, in3]
    refine Eq.trans (Finset.sum_congr rfl fun j _ => congrArg (_ * ·) (in1 m c t _ _)) ?_
    refine (dq_piece (fine m hf c) named_bot _ _ (by decide) ?_ (hd t) _ ?_ _).trans (dq_congr rfl (Fin.ext ?_) (Fin.ext ?_))
    all_goals first | omega | (simp only [] <;> omega)

/-- A row's part in the gradient of the keys, and in that of the values. -/
abbrev termK (c : Dev nD) (t : Fin cfg0.N) (k : Fin 2176) (e : Fin 96) (q : Fin 2176) : EReal :=
  ds (arr (aQ m c)) (arr (aK m c)) (arr (aV m c)) (padded (aD m c)) (hd t) q k * arr (aQ m c) (hd t) q e
abbrev termV (c : Dev nD) (t : Fin cfg0.N) (k : Fin 2176) (e : Fin 64) (q : Fin 2176) : EReal :=
  prob (sc (arr (aQ m c)) (arr (aK m c)) (hd t) q) k * padded (aD m c) (hd t) q e

/-- What a point leaves of the gradient of the keys: the tiles' parts, added up. -/
theorem point5 (hf : FinAttB m) (c : Dev nD) (t : Fin cfg0.N) (k : Fin 2176) (e : Fin 96) : (outsAt0 m c t).2.1 (ix3 0 k e)
    = part (termK m c t k e) 2176 := by
  have hz : ∀ (k : Fin 2176) (e : Fin 96) (q : Fin 2176), q.val < k.val → termK m c t k e q = 0 :=
    fun k e q hq => by unfold termK; rw [ds_mask _ (fine m hf c) (by omega), zero_mul]
  dsimp only [outsAt0]
  unfold out0_A_5
  frame_out
  refine acc_last (f := termK m c t) _ 1920 256 (by decide) _ (fun r j e => ?_) (fun k e => ?_) k e
  rotate_left
  refine acc_step (n := 1920) _ 1664 256 (by decide) (by decide) hz _ (fun r j e => ?_) (fun k e => ?_) k e
  rotate_left
  refine acc_step (n := 1664) _ 1408 256 (by decide) (by decide) hz _ (fun r j e => ?_) (fun k e => ?_) k e
  rotate_left
  refine acc_step (n := 1408) _ 1152 256 (by decide) (by decide) hz _ (fun r j e => ?_) (fun k e => ?_) k e
  rotate_left
  refine acc_step (n := 1152) _ 896 256 (by decide) (by decide) hz _ (fun r j e => ?_) (fun k e => ?_) k e
  rotate_left
  refine acc_step (n := 896) _ 640 256 (by decide) (by decide) hz _ (fun r j e => ?_) (fun k e => ?_) k e
  rotate_left
  refine acc_step (n := 640) _ 384 256 (by decide) (by decide) hz (payK _ _ _) (fun r j e => ?_) (fun k e => ?_) k e
  rotate_left
  refine acc_step (n := 384) _ 128 256 (by decide) (by decide) hz _ (fun r j e => ?_) (fun k e => ?_) k e
  rotate_left
  refine acc_step (n := 128) _ 0 128 (by decide) (by decide) hz _ (fun r j e => ?_) (fun k e => ?_) k e
  rotate_left
  · exact acc_zero _ (fun k e => by pointwise [k0_pay4]) k e
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92]
    simp only [in0, in1, in2, in3]
    refine congrArg (_ + ·) (Finset.sum_congr rfl fun i _ => ?_)
    refine congrArg₂ (· * ·) (ds_piece (fine m hf c) named_bot _ _ (by decide) ?_ (hd t) _ ?_ _) ?_
    all_goals first | rfl | omega | (simp only [] <;> omega)

/-- What a point leaves of the gradient of the values. -/
theorem point6 (hf : FinAttB m) (c : Dev nD) (t : Fin cfg0.N) (k : Fin 2176) (e : Fin 64) : (outsAt0 m c t).2.2 (ix3 0 k e)
    = part (termV m c t k e) 2176 := by
  have hz : ∀ (k : Fin 2176) (e : Fin 64) (q : Fin 2176), q.val < k.val → termV m c t k e q = 0 :=
    fun k e q hq => by unfold termV; rw [pv_mask _ (fine m hf c) (by omega)]
  dsimp only [outsAt0]
  unfold out0_A_6
  frame_out
  refine acc_last (f := termV m c t) _ 1920 256 (by decide) _ (fun r j e => ?_) (fun k e => ?_) k e
  rotate_left
  refine acc_step (n := 1920) _ 1664 256 (by decide) (by decide) hz _ (fun r j e => ?_) (fun k e => ?_) k e
  rotate_left
  refine acc_step (n := 1664) _ 1408 256 (by decide) (by decide) hz _ (fun r j e => ?_) (fun k e => ?_) k e
  rotate_left
  refine acc_step (n := 1408) _ 1152 256 (by decide) (by decide) hz _ (fun r j e => ?_) (fun k e => ?_) k e
  rotate_left
  refine acc_step (n := 1152) _ 896 256 (by decide) (by decide) hz _ (fun r j e => ?_) (fun k e => ?_) k e
  rotate_left
  refine acc_step (n := 896) _ 640 256 (by decide) (by decide) hz (payV _ _ _) (fun r j e => ?_) (fun k e => ?_) k e
  rotate_left
  refine acc_step (n := 640) _ 384 256 (by decide) (by decide) hz _ (fun r j e => ?_) (fun k e => ?_) k e
  rotate_left
  refine acc_step (n := 384) _ 128 256 (by decide) (by decide) hz _ (fun r j e => ?_) (fun k e => ?_) k e
  rotate_left
  refine acc_step (n := 128) _ 0 128 (by decide) (by decide) hz _ (fun r j e => ?_) (fun k e => ?_) k e
  rotate_left
  · exact acc_zero _ (fun k e => by pointwise [k0_pay5]) k e
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92]
    simp only [in0, in1, in2, in3]
    refine congrArg (_ + ·) (Finset.sum_congr rfl fun i _ => ?_)
    refine congrArg₂ (· * ·) (wgt_piece named_bot _ _ (by decide) ?_ (hd t) _ ?_ _) ?_
    all_goals first | rfl | omega | (simp only [] <;> omega)

theorem emb4 (t : Fin cfg0.N) (y : S1x2176x96.Idx) : ((cfg0.win 4).blk t).view.emb y = ix3 (hd t) (y 1) (y 2) := by
  refine (eq_ix3 _).trans ?_
  have e0 : ((cfg0.win 4).blk t).view.emb y 0 = hd t := by refine Fin.ext ?_; unfold hd; blk_point [idx t]
  have e1 : ((cfg0.win 4).blk t).view.emb y 1 = y 1 := by refine Fin.ext ?_; blk_point [idx t]
  have e2 : ((cfg0.win 4).blk t).view.emb y 2 = y 2 := by refine Fin.ext ?_; blk_point [idx t]
  exact (congrArg (fun z => ix3 z _ _) e0).trans ((congrArg (fun z => ix3 _ z _) e1).trans (congrArg (fun z => ix3 _ _ z) e2))

/-- The array of the gradient of the queries, after the run. -/
theorem final4 (hf : FinAttB m) (c : Dev nD) : (dats m 0 c).arrAt 4 (cfgs 0).N = dQ (aQ m c) (aK m c) (aV m c) (aD m c) := by
  refine (dats m 0 c).arrAt_eq_of_covers 4 _ (by decide +kernel) fun t _ y => ?_
  blk_simp
  rw [after0_4, emb4 t y]
  refine Eq.trans ?_ (dQ_at (fine m hf c) (hd t) (y 1) (y 2)).symm
  exact point4 m hf c t y

theorem emb5 (t : Fin cfg0.N) (y : S1x2176x96.Idx) : ((cfg0.win 5).blk t).view.emb y = ix3 (hd t) (y 1) (y 2) := by
  refine (eq_ix3 _).trans ?_
  have e0 : ((cfg0.win 5).blk t).view.emb y 0 = hd t := by refine Fin.ext ?_; unfold hd; blk_point [idx t]
  have e1 : ((cfg0.win 5).blk t).view.emb y 1 = y 1 := by refine Fin.ext ?_; blk_point [idx t]
  have e2 : ((cfg0.win 5).blk t).view.emb y 2 = y 2 := by refine Fin.ext ?_; blk_point [idx t]
  exact (congrArg (fun z => ix3 z _ _) e0).trans ((congrArg (fun z => ix3 _ z _) e1).trans (congrArg (fun z => ix3 _ _ z) e2))

/-- The array of the gradient of the keys, after the run. -/
theorem final5 (hf : FinAttB m) (c : Dev nD) : (dats m 0 c).arrAt 5 (cfgs 0).N = dK (aQ m c) (aK m c) (aV m c) (aD m c) := by
  refine (dats m 0 c).arrAt_eq_of_covers 5 _ (by decide +kernel) fun t _ y => ?_
  blk_simp
  rw [after0_5, emb5 t y]
  refine Eq.trans ?_ (dK_at (fine m hf c) (hd t) (y 1) (y 2)).symm
  obtain ⟨k, e, rfl⟩ : ∃ (k : Fin 2176) (e : Fin 96), y = ix3 0 k e := ⟨y 1, y 2, (eq_ix3 y).trans (congrArg (fun z => ix3 z _ _) (Subsingleton.elim _ _))⟩
  refine (point5 m hf c t k e).trans ?_
  exact part_all _

theorem emb6 (t : Fin cfg0.N) (y : S1x2176x64.Idx) : ((cfg0.win 6).blk t).view.emb y = ix3 (hd t) (y 1) (y 2) := by
  refine (eq_ix3 _).trans ?_
  have e0 : ((cfg0.win 6).blk t).view.emb y 0 = hd t := by refine Fin.ext ?_; unfold hd; blk_point [idx t]
  have e1 : ((cfg0.win 6).blk t).view.emb y 1 = y 1 := by refine Fin.ext ?_; blk_point [idx t]
  have e2 : ((cfg0.win 6).blk t).view.emb y 2 = y 2 := by refine Fin.ext ?_; blk_point [idx t]
  exact (congrArg (fun z => ix3 z _ _) e0).trans ((congrArg (fun z => ix3 _ z _) e1).trans (congrArg (fun z => ix3 _ _ z) e2))

/-- The array of the gradient of the values, after the run. -/
theorem final6 (hf : FinAttB m) (c : Dev nD) : (dats m 0 c).arrAt 6 (cfgs 0).N = dV (aQ m c) (aK m c) (aV m c) (aD m c) := by
  refine (dats m 0 c).arrAt_eq_of_covers 6 _ (by decide +kernel) fun t _ y => ?_
  blk_simp
  rw [after0_6, emb6 t y]
  refine Eq.trans ?_ (dV_at (fine m hf c) (hd t) (y 1) (y 2)).symm
  obtain ⟨k, e, rfl⟩ : ∃ (k : Fin 2176) (e : Fin 64), y = ix3 0 k e := ⟨y 1, y 2, (eq_ix3 y).trans (congrArg (fun z => ix3 z _ _) (Subsingleton.elim _ _))⟩
  refine (point6 m hf c t k e).trans ?_
  exact part_all _

end Cert.AttBValue

end
-- ==== Proof.AttB.Claims.lean ====
/-  The claims about the attention's gradient. -/
module

public import proofs.«01_k».proof.Defs
public import proofs.«01_k».proof.Proof.Gen.AttB.Frame
public import proofs.«01_k».proof.Proof.Gen.AttBIdeal.Frame
public import proofs.«01_k».proof.Proof.Gen.AttBRefIdeal.Run
public import proofs.«01_k».proof.Proof.AttB.Value
public import Idealize.ShloMosaic.Lib.Quiescent
public import Idealize.ShloMosaic.Lib.Claim

@[expose] public section

set_option maxRecDepth 16384

noncomputable section

namespace Cert.AttBValue

open Idealize.ShloMosaic Idealize.ShloMosaic.TcCoe Idealize.SL.Sem

theorem frame_kernel : Cert.quiescent_AttB := fun m ρ _ => Cert.AttB.Gen.frame m ρ
theorem frame_ideal : Cert.quiescent_AttBIdeal := fun m ρ _ => Cert.AttBIdeal.Gen.frame m ρ

theorem frame_ref : Cert.quiescent_AttBRefIdeal := fun m ρ _ =>
  (θ_run Cert.AttBRefIdeal.defs _ _).mono (fun r h => ⟨fun c => (h c).2.2.2, sem_eq_zero_of_no_sems (by decide) r.2⟩)
    (Cert.AttBRefIdeal.Value.run (F := Ideal) m ρ)

/-- Naming the mask is the one rewriting. -/
theorem preserves : Cert.preserves_AttB_AttBIdeal :=
  IdealRules.named_const.statement Cert.AttBIdeal.κ "mask" .f32 0xF149F2CA#32 ⊥ rfl

section

variable (m : (ℓ : Loc Cert.AttBIdeal.nD Cert.AttBIdeal.τ Cert.AttBIdeal.sig) → Buf (Elt Ideal) ℓ) (g : Dev Cert.AttBIdeal.nD → PrngReg)

/-- The kernel's run: its results at the reference's terms, its arguments unchanged. -/
theorem run_kernel (hf : FinAttB m) : θ_run (Cert.AttBIdeal.defs (F := Ideal)) (onTc (τ := Cert.AttBIdeal.τ) (Cert.AttBIdeal.main (F := Ideal))) ⟨m, fun _ => 0, g⟩ (fun r => ∀ c : Dev Cert.AttBIdeal.nD,
    r.2.mem ((c.tc : Thread Cert.AttBIdeal.nD Cert.AttBIdeal.τ).loc Cert.AttBIdeal.main_v2_0) = dQ (aQ m c) (aK m c) (aV m c) (aD m c)
    ∧ r.2.mem ((c.tc : Thread Cert.AttBIdeal.nD Cert.AttBIdeal.τ).loc Cert.AttBIdeal.main_v2_1) = dK (aQ m c) (aK m c) (aV m c) (aD m c)
    ∧ r.2.mem ((c.tc : Thread Cert.AttBIdeal.nD Cert.AttBIdeal.τ).loc Cert.AttBIdeal.main_v2_2) = dV (aQ m c) (aK m c) (aV m c) (aD m c)
    ∧ r.2.mem ((c.tc : Thread Cert.AttBIdeal.nD Cert.AttBIdeal.τ).loc Cert.AttBIdeal.main_arg0) = m ((c.tc : Thread Cert.AttBIdeal.nD Cert.AttBIdeal.τ).loc Cert.AttBIdeal.main_arg0)
    ∧ r.2.mem ((c.tc : Thread Cert.AttBIdeal.nD Cert.AttBIdeal.τ).loc Cert.AttBIdeal.main_arg1) = m ((c.tc : Thread Cert.AttBIdeal.nD Cert.AttBIdeal.τ).loc Cert.AttBIdeal.main_arg1)
    ∧ r.2.mem ((c.tc : Thread Cert.AttBIdeal.nD Cert.AttBIdeal.τ).loc Cert.AttBIdeal.main_arg2) = m ((c.tc : Thread Cert.AttBIdeal.nD Cert.AttBIdeal.τ).loc Cert.AttBIdeal.main_arg2)
    ∧ r.2.mem ((c.tc : Thread Cert.AttBIdeal.nD Cert.AttBIdeal.τ).loc Cert.AttBIdeal.main_arg3) = m ((c.tc : Thread Cert.AttBIdeal.nD Cert.AttBIdeal.τ).loc Cert.AttBIdeal.main_arg3)) := by
  run_from Cert.AttBIdeal.Gen.run_main m g
  · exact final4 m hf c
  · exact final5 m hf c
  · exact final6 m hf c

variable (m' : (ℓ : Loc Cert.AttBRefIdeal.nD Cert.AttBRefIdeal.τ Cert.AttBRefIdeal.sig) → Buf (Elt Ideal) ℓ) (g' : Dev Cert.AttBRefIdeal.nD → PrngReg)

/-- The reference's run, its results named. -/
theorem run_ref : θ_run (Cert.AttBRefIdeal.defs (F := Ideal)) (onTc (τ := Cert.AttBRefIdeal.τ) (Cert.AttBRefIdeal.main (F := Ideal))) ⟨m', fun _ => 0, g'⟩ (fun r => ∀ c : Dev Cert.AttBRefIdeal.nD,
    r.2.mem ((c.tc : Thread Cert.AttBRefIdeal.nD Cert.AttBRefIdeal.τ).loc Cert.AttBRefIdeal.main_v70) = dQ (m' ((c.tc : Thread Cert.AttBRefIdeal.nD Cert.AttBRefIdeal.τ).loc Cert.AttBRefIdeal.main_arg0)) (m' ((c.tc : Thread Cert.AttBRefIdeal.nD Cert.AttBRefIdeal.τ).loc Cert.AttBRefIdeal.main_arg1)) (m' ((c.tc : Thread Cert.AttBRefIdeal.nD Cert.AttBRefIdeal.τ).loc Cert.AttBRefIdeal.main_arg2)) (m' ((c.tc : Thread Cert.AttBRefIdeal.nD Cert.AttBRefIdeal.τ).loc Cert.AttBRefIdeal.main_arg3))
    ∧ r.2.mem ((c.tc : Thread Cert.AttBRefIdeal.nD Cert.AttBRefIdeal.τ).loc Cert.AttBRefIdeal.main_v69) = dK (m' ((c.tc : Thread Cert.AttBRefIdeal.nD Cert.AttBRefIdeal.τ).loc Cert.AttBRefIdeal.main_arg0)) (m' ((c.tc : Thread Cert.AttBRefIdeal.nD Cert.AttBRefIdeal.τ).loc Cert.AttBRefIdeal.main_arg1)) (m' ((c.tc : Thread Cert.AttBRefIdeal.nD Cert.AttBRefIdeal.τ).loc Cert.AttBRefIdeal.main_arg2)) (m' ((c.tc : Thread Cert.AttBRefIdeal.nD Cert.AttBRefIdeal.τ).loc Cert.AttBRefIdeal.main_arg3))
    ∧ r.2.mem ((c.tc : Thread Cert.AttBRefIdeal.nD Cert.AttBRefIdeal.τ).loc Cert.AttBRefIdeal.main_v68) = dV (m' ((c.tc : Thread Cert.AttBRefIdeal.nD Cert.AttBRefIdeal.τ).loc Cert.AttBRefIdeal.main_arg0)) (m' ((c.tc : Thread Cert.AttBRefIdeal.nD Cert.AttBRefIdeal.τ).loc Cert.AttBRefIdeal.main_arg1)) (m' ((c.tc : Thread Cert.AttBRefIdeal.nD Cert.AttBRefIdeal.τ).loc Cert.AttBRefIdeal.main_arg2)) (m' ((c.tc : Thread Cert.AttBRefIdeal.nD Cert.AttBRefIdeal.τ).loc Cert.AttBRefIdeal.main_arg3))
    ∧ r.2.mem ((c.tc : Thread Cert.AttBRefIdeal.nD Cert.AttBRefIdeal.τ).loc Cert.AttBRefIdeal.main_arg0) = m' ((c.tc : Thread Cert.AttBRefIdeal.nD Cert.AttBRefIdeal.τ).loc Cert.AttBRefIdeal.main_arg0)
    ∧ r.2.mem ((c.tc : Thread Cert.AttBRefIdeal.nD Cert.AttBRefIdeal.τ).loc Cert.AttBRefIdeal.main_arg1) = m' ((c.tc : Thread Cert.AttBRefIdeal.nD Cert.AttBRefIdeal.τ).loc Cert.AttBRefIdeal.main_arg1)
    ∧ r.2.mem ((c.tc : Thread Cert.AttBRefIdeal.nD Cert.AttBRefIdeal.τ).loc Cert.AttBRefIdeal.main_arg2) = m' ((c.tc : Thread Cert.AttBRefIdeal.nD Cert.AttBRefIdeal.τ).loc Cert.AttBRefIdeal.main_arg2)
    ∧ r.2.mem ((c.tc : Thread Cert.AttBRefIdeal.nD Cert.AttBRefIdeal.τ).loc Cert.AttBRefIdeal.main_arg3) = m' ((c.tc : Thread Cert.AttBRefIdeal.nD Cert.AttBRefIdeal.τ).loc Cert.AttBRefIdeal.main_arg3)) := by
  unfold dQ dK dV dsc gwt total expo top score mask
  exact Cert.AttBRefIdeal.Value.run m' g'

end

/-- Each of the kernel's results is the reference's. -/
theorem algebraic : Cert.algebraic_AttBIdeal_AttBRefIdeal_pre_att_finite := by
  intro m g m' g' hpre hagree
  refine ⟨_, _, _, run_kernel m g (fin_of_pre m hpre), (θ_run Cert.AttBRefIdeal.defs _ _).mono (fun r h c => ?_) (run_ref m' g')⟩
  have e0 := (hagree c).1
  have e1 := (hagree c).2.1
  have e2 := (hagree c).2.2.1
  have e3 := (hagree c).2.2.2
  obtain ⟨h0, h1, h2, hargs⟩ := h c
  rw [e0, e1, e2, e3] at h0 h1 h2
  exact ⟨h0, h1, h2, hargs⟩

end Cert.AttBValue

end
-- ==== Proof.AttF.Ref.lean ====
/-  The reference's results for the attention: the terms its run ends with, over typed variables. -/
module

public import proofs.«01_k».proof.Proof.Gen.AttFRefIdeal.Run
public import Idealize.ShloMosaic.Lib.Pointwise

@[expose] public section

set_option maxRecDepth 16384

noncomputable section

namespace Cert.AttFValue

open Cert.AttFRefIdeal Cert.AttFRefIdeal.Gen Cert.AttFRefIdeal.Value Idealize.ShloMosaic Idealize.ShloMosaic.TcCoe Idealize.SL.Sem

/-- The mask: a key is seen from its own row and later ones. -/
def mask  : IVec S8x2064x2064 1 :=
  broadcastInDim S8x2064x2064 ![0, 1, 2] bcast_S1x2064x2064_S8x2064x2064_0_1_2 (broadcastInDim S1x2064x2064 ![1, 2] bcast_S2064x2064_S1x2064x2064_1_2 (cmpi .sle (broadcastInDim S2064x2064 ![0, 1] bcast_S1x2064_S2064x2064_0_1 (broadcastInDim S1x2064 ![1] bcast_S2064_S1x2064_1 (iotaInDim S2064 32 0))) (broadcastInDim S2064x2064 ![0, 1] bcast_S2064x1_S2064x2064_0_1 (broadcastInDim S2064x1 ![0] bcast_S2064_S2064x1_0 (iotaInDim S2064 32 0)))))

/-- The masked scores. -/
def score (Q : FVec Ideal S8x2176x96 .bf16) (K : FVec Ideal S8x2176x96 .bf16) : FVec Ideal S8x2064x2064 .f32 :=
  select mask (mulf (Host.dotGeneral dot_S8x2064x96_S8x2064x96_S8x2064x2064_2_2_1_1_0_0 none (extractStridedSlice S8x2064x96 ![0, 112, 0] Q slices_S8x2176x96_S8x2064x96_0_112_0) (extractStridedSlice S8x2064x96 ![0, 112, 0] K slices_S8x2176x96_S8x2064x96_0_112_0)) (broadcastInDim S8x2064x2064 ![] bcast_S_S8x2064x2064 (constant S_ .f32 0x3DD105EC#32))) (broadcastInDim S8x2064x2064 ![] bcast_S_S8x2064x2064 (id (constant S_ .f32 0xFF800000#32)))

/-- The largest score of each row. -/
def top (Q : FVec Ideal S8x2176x96 .bf16) (K : FVec Ideal S8x2176x96 .bf16) : FVec Ideal S8x2064 .f32 :=
  Host.reduce FloatOps.maximumf (score Q K) (constant S_ .f32 0xFF800000#32) reducesTo_S8x2064x2064_S8x2064_d2 h_S_

/-- The exponentials of their differences to the largest. -/
def expo (Q : FVec Ideal S8x2176x96 .bf16) (K : FVec Ideal S8x2176x96 .bf16) : FVec Ideal S8x2064x2064 .f32 :=
  Host.exp (subf (score Q K) (broadcastInDim S8x2064x2064 ![0, 1, 2] bcast_S8x2064x1_S8x2064x2064_0_1_2 (broadcastInDim S8x2064x1 ![0, 1] bcast_S8x2064_S8x2064x1_0_1 (maximumf (broadcastInDim S8x2064 ![] bcast_S_S8x2064 (constant S_ .f32 0xFF800000#32)) (top Q K)))))

/-- The sums of the exponentials. -/
def total (Q : FVec Ideal S8x2176x96 .bf16) (K : FVec Ideal S8x2176x96 .bf16) : FVec Ideal S8x2064x1 .f32 :=
  broadcastInDim S8x2064x1 ![0, 1] bcast_S8x2064_S8x2064x1_0_1 (Host.reduceAdd (expo Q K) (constant S_ .f32 0x00000000#32) reducesTo_S8x2064x2064_S8x2064_d2 h_S_)

/-- The reference's attention. -/
def attn (Q : FVec Ideal S8x2176x96 .bf16) (K : FVec Ideal S8x2176x96 .bf16) (V : FVec Ideal S8x2176x64 .bf16) : FVec Ideal S8x2064x64 .bf16 :=
  truncf .bf16 (Host.dotGeneral dot_S8x2064x2064_S8x2064x64_S8x2064x64_2_1_1_2_0_0 none (truncf .bf16 (Host.divf (expo Q K) (broadcastInDim S8x2064x2064 ![0, 1, 2] bcast_S8x2064x1_S8x2064x2064_0_1_2 (total Q K))) bitsLt_bf16_f32) (extractStridedSlice S8x2064x64 ![0, 112, 0] V slices_S8x2176x64_S8x2064x64_0_112_0)) bitsLt_bf16_f32

end Cert.AttFValue

end
-- ==== Proof.AttF.RefValue.lean ====
/-  The reference's attention, entry by entry. -/
module

public import proofs.«01_k».proof.Proof.AttF.Ref
public import proofs.«01_k».proof.Proof.Att.Rows
public import Idealize.ShloMosaic.Lib.Pipeline.ValueKit
public import Idealize.ShloMosaic.Lib.Pointwise

@[expose] public section

set_option maxRecDepth 16384

noncomputable section

namespace Cert.AttFValue

open Cert.AttFRefIdeal Cert.AttFRefIdeal.Gen Idealize.ShloMosaic Idealize.ShloMosaic.TcCoe Idealize.SL.Sem
open Cert.Attention

/-- A row's largest entry. -/
theorem host_max (x : FVec Ideal S8x2064x2064 .f32) (h : Fin 8) (i : Fin 2064) :
    Host.reduce FloatOps.maximumf x (constant S_ .f32 0xFF800000#32) reducesTo_S8x2064x2064_S8x2064_d2 h_S_ (ix2 h i)
      = Finset.univ.sup fun j => x (ix3 h i j) := by
  pointwise
  exact fold_max _

/-- The exponential of an entry's difference to its row's value. -/
theorem shifted (x : FVec Ideal S8x2064x2064 .f32) (y : FVec Ideal S8x2064 .f32) (h : Fin 8) (i j : Fin 2064) :
    Host.exp (subf x (broadcastInDim S8x2064x2064 ![0, 1, 2] bcast_S8x2064x1_S8x2064x2064_0_1_2
      (broadcastInDim S8x2064x1 ![0, 1] bcast_S8x2064_S8x2064x1_0_1 y))) (ix3 h i j) = Ideal.exp (x (ix3 h i j) - y (ix2 h i)) := by
  pointwise

/-- The maximum with `⊥` changes nothing. -/
theorem capped (y : FVec Ideal S8x2064 .f32) (h : Fin 8) (i : Fin 2064) :
    maximumf (broadcastInDim S8x2064 ![] bcast_S_S8x2064 (constant S_ .f32 0xFF800000#32)) y (ix2 h i) = y (ix2 h i) := by
  show max (Ideal.ofBits .f32 0xFF800000#32) (y (ix2 h i)) = _
  rw [bits_bot]
  exact max_bot_left _

section

variable (Q K : FVec Ideal S8x2176x96 .bf16) (V : FVec Ideal S8x2176x64 .bf16)

theorem score_at (h : Fin 8) (i j : Fin 2064) : score Q K (ix3 h i j) = sc (arr Q) (arr K) h (up i) (up j) := by
  pointwise [score, mask]
  rw [mask_ref _ _ (by omega) (by omega)]
  unfold sc row
  refine if_congr (by simp only [up]; omega) rfl ?_
  exact bits_bot

theorem top_at (h : Fin 8) (i : Fin 2064) : top Q K (ix2 h i) = Finset.univ.sup fun j => sc (arr Q) (arr K) h (up i) (up j) :=
  (host_max _ h i).trans (by simp only [score_at])

theorem expo_at (h : Fin 8) (i j : Fin 2064) : expo Q K (ix3 h i j) = ex (fun j => sc (arr Q) (arr K) h (up i) (up j)) j := by
  refine (shifted _ _ h i j).trans ?_
  rw [capped, top_at, score_at]
  rfl

theorem total_at (h : Fin 8) (i : Fin 2064) (z : Fin 1) : total Q K (ix3 h i z) = tot (fun j => sc (arr Q) (arr K) h (up i) (up j)) := by
  pointwise [total]
  simp only [expo_at]
  rfl

/-- The reference's attention. -/
theorem attn_at (hq : ∀ i, Finite.IsR (Q i)) (hk : ∀ i, Finite.IsR (K i)) (h : Fin 8) (i : Fin 2064) (d : Fin 64) :
    attn Q K V (ix3 h i d) = att (arr Q) (arr K) (arr V) h (up i) d := by
  pointwise [attn]
  simp only [expo_at, total_at]
  exact att_up (V := arr V) h (fun _ _ _ => hq _) (fun _ _ _ => hk _) i d

end

end Cert.AttFValue

end
-- ==== Proof.AttF.Value.lean ====
/-  The result array of the attention's kernel, tile by tile. -/
module

public import proofs.«01_k».proof.Proof.Gen.AttFIdeal.Frame
public import proofs.«01_k».proof.Defs
public import proofs.«01_k».proof.Proof.Gen.Pre_scores_finite
public import proofs.«01_k».proof.Proof.Finite
public import proofs.«01_k».proof.Proof.AttF.RefValue
public import proofs.«01_k».proof.Proof.Att.Tile
public import Idealize.ShloMosaic.Lib.Pipeline.ValueKit
public import Idealize.ShloMosaic.Lib.Pointwise

@[expose] public section

set_option maxRecDepth 16384

noncomputable section

namespace Cert.AttFValue

open Cert.AttFIdeal Cert.AttFIdeal.Gen Idealize.ShloMosaic Idealize.ShloMosaic.TcCoe Idealize.SL.Sem
open Idealize.ShloMosaic.Pipeline (Dat)

open Cert.Finite Cert.Attention

variable (m : (ℓ : Loc nD τ sig) → Buf (Elt Ideal) ℓ)

/-- The block every window is at, at each point. -/
theorem idx : ∀ t : Fin cfg0.N, win0_0.index t = ![(grid0.coords t 0).val, 0, 0] ∧ win0_1.index t = ![(grid0.coords t 0).val, 0, 0] ∧ win0_2.index t = ![(grid0.coords t 0).val, 0, 0] ∧ win0_3.index t = ![(grid0.coords t 0).val, 0, 0] :=
  (by decide +kernel : ∀ t : Fin grid0.N, _)

/-- The argument arrays, at their types. -/
abbrev aQ (c : Dev nD) : FVec Ideal S8x2176x96 .bf16 := m ((c : Thread nD τ).loc main_arg0)
abbrev aK (c : Dev nD) : FVec Ideal S8x2176x96 .bf16 := m ((c : Thread nD τ).loc main_arg1)
abbrev aV (c : Dev nD) : FVec Ideal S8x2176x64 .bf16 := m ((c : Thread nD τ).loc main_arg2)

/-- Every entry of the queries and keys is a real number. -/
def FinAttF : Prop := ∀ c : Dev nD, (∀ i, IsR (aQ m c i)) ∧ ∀ i, IsR (aK m c i)

instance : Subsingleton Cert.Pre_scores_finite.S_.Idx := ⟨fun a b => funext fun d => d.elim0⟩

/-- What the precondition says of the arguments. -/
theorem fin_of_pre (h : Cert.Pre_AttFIdeal_scores_finite m) : FinAttF m := by
  intro c
  have e := congrFun (h c) ix0
  obtain ⟨e0, e1⟩ := IntOp.andi_eq_one.1 e
  refine ⟨fun i => ?_, fun i => ?_⟩
  · exact isR_of_olt (Host.reduce_andi_all _ _ _ _ _ e0 i)
  · exact isR_of_olt (Host.reduce_andi_all _ _ _ _ _ e1 i)

/-- The head a point is at. -/
abbrev hd (t : Fin cfg0.N) : Fin 8 := grid0.coords t 0

theorem in0 (c : Dev nD) (t : Fin cfg0.N) (i : Fin 2176) (e : Fin 96) : iblk m c 0 t (ix3 0 i e) = arr (aQ m c) (hd t) i e := by
  unfold arr hd
  blk_point [iblk, V, idx t]

theorem in1 (c : Dev nD) (t : Fin cfg0.N) (i : Fin 2176) (e : Fin 96) : iblk m c 1 t (ix3 0 i e) = arr (aK m c) (hd t) i e := by
  unfold arr hd
  blk_point [iblk, V, idx t]

theorem in2 (c : Dev nD) (t : Fin cfg0.N) (i : Fin 2176) (e : Fin 64) : iblk m c 2 t (ix3 0 i e) = arr (aV m c) (hd t) i e := by
  unfold arr hd
  blk_point [iblk, V, idx t]

/-- The named mask is `⊥`. -/
theorem named_bot : (Named.named κ "mask" 4048155338#32 : Ideal .f32) = (⊥ : EReal) := IdealRules.named_const.ideal_named_scalar _ _ _ _ rfl

theorem emb3 (t : Fin cfg0.N) (y : S1x2176x64.Idx) : ((cfg0.win 3).blk t).view.emb y 0 = hd t ∧ ((cfg0.win 3).blk t).view.emb y 1 = y 1
    ∧ ((cfg0.win 3).blk t).view.emb y 2 = y 2 := by
  refine ⟨?_, ?_, ?_⟩ <;> refine Fin.ext ?_ <;> blk_point [idx t]

/-- The array the launch leaves. -/
def kOut (c : Dev nD) : FVec Ideal S8x2176x64 .bf16 := fun x => kG (arr (aQ m c)) (arr (aK m c)) (arr (aV m c)) (x 0) (x 1) (x 2)

theorem point3 (hf : FinAttF m) (c : Dev nD) (t : Fin cfg0.N) (y : S1x2176x64.Idx) : outsAt0 m c t y
    = kG (arr (aQ m c)) (arr (aK m c)) (arr (aV m c)) (hd t) (y 1) (y 2) := by
  unfold outsAt0 out0_A_3
  frame_out
  canon_tiles y h using (View.cover_of_tiledBy _ ![1, 128, 64] (by sl_kernel_rfl) y)
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
    simp only [in0, in1]
    refine Eq.trans (Finset.sum_congr rfl fun j _ => congrArg (_ * ·) (in2 m c t _ _)) ?_
    refine (att_piece (Q := arr (aQ m c)) (K := arr (aK m c)) (V := arr (aV m c)) (fun _ _ _ => (hf c).1 _) (fun _ _ _ => (hf c).2 _)
      named_bot _ _ (by decide) ?_ ?_ (hd t) _ ?_ _).trans (kG_congr rfl (Fin.ext ?_) (Fin.ext ?_))
    all_goals first | omega | (simp only [] <;> omega)

/-- The array of the attention, after the run. -/
theorem final3 (hf : FinAttF m) (c : Dev nD) : (dats m 0 c).arrAt 3 (cfgs 0).N = kOut m c := by
  refine (dats m 0 c).arrAt_eq_of_covers 3 _ (by decide +kernel) fun t _ y => ?_
  blk_simp
  rw [after0_3]
  refine (point3 m hf c t y).trans ?_
  obtain ⟨e0, e1, e2⟩ := emb3 t y
  exact (kG_congr e0 e1 e2).symm

/-- Its rows past the padding are the reference's. -/
theorem cut_out (hf : FinAttF m) (c : Dev nD) :
    extractStridedSlice S8x2064x64 ![0, 112, 0] (kOut m c) slices_S8x2176x64_S8x2064x64_0_112_0 = attn (aQ m c) (aK m c) (aV m c) := by
  funext x
  obtain ⟨h, i, d, rfl⟩ : ∃ (h : Fin 8) (i : Fin 2064) (d : Fin 64), x = ix3 h i d := ⟨x 0, x 1, x 2, eq_ix3 x⟩
  rw [attn_at (aQ m c) (aK m c) (aV m c) (hf c).1 (hf c).2 h i d]
  pointwise [kOut]
  unfold kG
  exact if_neg (by simp only []; omega)

end Cert.AttFValue

end
-- ==== Proof.AttF.Claims.lean ====
/-  The claims about the attention. -/
module

public import proofs.«01_k».proof.Defs
public import proofs.«01_k».proof.Proof.Gen.AttF.Frame
public import proofs.«01_k».proof.Proof.Gen.AttFIdeal.Frame
public import proofs.«01_k».proof.Proof.Gen.AttFRefIdeal.Run
public import proofs.«01_k».proof.Proof.AttF.Value
public import Idealize.ShloMosaic.Lib.Quiescent
public import Idealize.ShloMosaic.Lib.Claim

@[expose] public section

set_option maxRecDepth 16384

noncomputable section

namespace Cert.AttFValue

open Idealize.ShloMosaic Idealize.ShloMosaic.TcCoe Idealize.SL.Sem

theorem frame_kernel : Cert.quiescent_AttF := fun m ρ _ => Cert.AttF.Gen.frame m ρ
theorem frame_ideal : Cert.quiescent_AttFIdeal := fun m ρ _ => Cert.AttFIdeal.Gen.frame m ρ

theorem frame_ref : Cert.quiescent_AttFRefIdeal := fun m ρ _ =>
  (θ_run Cert.AttFRefIdeal.defs _ _).mono (fun r h => ⟨fun c => (h c).2, sem_eq_zero_of_no_sems (by decide) r.2⟩)
    (Cert.AttFRefIdeal.Value.run (F := Ideal) m ρ)

/-- Naming the mask is the one rewriting. -/
theorem preserves : Cert.preserves_AttF_AttFIdeal :=
  IdealRules.named_const.statement Cert.AttFIdeal.κ "mask" .f32 0xF149F2CA#32 ⊥ rfl

section

variable (m : (ℓ : Loc Cert.AttFIdeal.nD Cert.AttFIdeal.τ Cert.AttFIdeal.sig) → Buf (Elt Ideal) ℓ) (g : Dev Cert.AttFIdeal.nD → PrngReg)

/-- The rows cut off the launch's array are the reference's. -/
theorem tail (hf : FinAttF m) (c : Dev Cert.AttFIdeal.nD) : Pipeline.afterTail₀ Cert.AttFIdeal.cfgs (Cert.AttFIdeal.Gen.dats m) 0 (Cert.AttFIdeal.Gen.V0 m) [Cert.AttFIdeal.Gen.hostOps1] c
    Cert.AttFIdeal.main_v1 = attn (aQ m c) (aK m c) (aV m c) := by
  unfold Pipeline.afterTail₀
  show StableHlo.after Cert.AttFIdeal.Gen.hostOps1 _ _ = _
  after_results
  refine (congrArg (extractStridedSlice Cert.AttFIdeal.S8x2064x64 ![0, 112, 0] · Cert.AttFIdeal.Gen.slices_S8x2176x64_S8x2064x64_0_112_0)
    ((Pipeline.withArrays_arr (Cert.AttFIdeal.cfgs 0).spec (by decide) c (Cert.AttFIdeal.Gen.V0 m c) (fun w => (Cert.AttFIdeal.Gen.dats m 0 c).arrAt w (Cert.AttFIdeal.cfgs 0).N) (3 : Fin 4)).trans (final3 m hf c))).trans ?_
  exact cut_out m hf c

/-- The kernel's run: its results at the reference's terms, its arguments unchanged. -/
theorem run_kernel (hf : FinAttF m) : θ_run (Cert.AttFIdeal.defs (F := Ideal)) (onTc (τ := Cert.AttFIdeal.τ) (Cert.AttFIdeal.main (F := Ideal))) ⟨m, fun _ => 0, g⟩ (fun r => ∀ c : Dev Cert.AttFIdeal.nD,
    r.2.mem ((c.tc : Thread Cert.AttFIdeal.nD Cert.AttFIdeal.τ).loc Cert.AttFIdeal.main_v1) = attn (aQ m c) (aK m c) (aV m c)
    ∧ r.2.mem ((c.tc : Thread Cert.AttFIdeal.nD Cert.AttFIdeal.τ).loc Cert.AttFIdeal.main_arg0) = m ((c.tc : Thread Cert.AttFIdeal.nD Cert.AttFIdeal.τ).loc Cert.AttFIdeal.main_arg0)
    ∧ r.2.mem ((c.tc : Thread Cert.AttFIdeal.nD Cert.AttFIdeal.τ).loc Cert.AttFIdeal.main_arg1) = m ((c.tc : Thread Cert.AttFIdeal.nD Cert.AttFIdeal.τ).loc Cert.AttFIdeal.main_arg1)
    ∧ r.2.mem ((c.tc : Thread Cert.AttFIdeal.nD Cert.AttFIdeal.τ).loc Cert.AttFIdeal.main_arg2) = m ((c.tc : Thread Cert.AttFIdeal.nD Cert.AttFIdeal.τ).loc Cert.AttFIdeal.main_arg2)) := by
  run_from Cert.AttFIdeal.Gen.run_main m g
  · exact tail m hf c

variable (m' : (ℓ : Loc Cert.AttFRefIdeal.nD Cert.AttFRefIdeal.τ Cert.AttFRefIdeal.sig) → Buf (Elt Ideal) ℓ) (g' : Dev Cert.AttFRefIdeal.nD → PrngReg)

/-- The reference's run, its results named. -/
theorem run_ref : θ_run (Cert.AttFRefIdeal.defs (F := Ideal)) (onTc (τ := Cert.AttFRefIdeal.τ) (Cert.AttFRefIdeal.main (F := Ideal))) ⟨m', fun _ => 0, g'⟩ (fun r => ∀ c : Dev Cert.AttFRefIdeal.nD,
    r.2.mem ((c.tc : Thread Cert.AttFRefIdeal.nD Cert.AttFRefIdeal.τ).loc Cert.AttFRefIdeal.main_v28) = attn (m' ((c.tc : Thread Cert.AttFRefIdeal.nD Cert.AttFRefIdeal.τ).loc Cert.AttFRefIdeal.main_arg0)) (m' ((c.tc : Thread Cert.AttFRefIdeal.nD Cert.AttFRefIdeal.τ).loc Cert.AttFRefIdeal.main_arg1)) (m' ((c.tc : Thread Cert.AttFRefIdeal.nD Cert.AttFRefIdeal.τ).loc Cert.AttFRefIdeal.main_arg2))
    ∧ r.2.mem ((c.tc : Thread Cert.AttFRefIdeal.nD Cert.AttFRefIdeal.τ).loc Cert.AttFRefIdeal.main_arg0) = m' ((c.tc : Thread Cert.AttFRefIdeal.nD Cert.AttFRefIdeal.τ).loc Cert.AttFRefIdeal.main_arg0)
    ∧ r.2.mem ((c.tc : Thread Cert.AttFRefIdeal.nD Cert.AttFRefIdeal.τ).loc Cert.AttFRefIdeal.main_arg1) = m' ((c.tc : Thread Cert.AttFRefIdeal.nD Cert.AttFRefIdeal.τ).loc Cert.AttFRefIdeal.main_arg1)
    ∧ r.2.mem ((c.tc : Thread Cert.AttFRefIdeal.nD Cert.AttFRefIdeal.τ).loc Cert.AttFRefIdeal.main_arg2) = m' ((c.tc : Thread Cert.AttFRefIdeal.nD Cert.AttFRefIdeal.τ).loc Cert.AttFRefIdeal.main_arg2)) := by
  unfold attn total expo top score mask
  exact Cert.AttFRefIdeal.Value.run m' g'

end

/-- Each of the kernel's results is the reference's. -/
theorem algebraic : Cert.algebraic_AttFIdeal_AttFRefIdeal_pre_scores_finite := by
  intro m g m' g' hpre hagree
  refine ⟨_, run_kernel m g (fin_of_pre m hpre), (θ_run Cert.AttFRefIdeal.defs _ _).mono (fun r h c => ?_) (run_ref m' g')⟩
  have e0 := (hagree c).1
  have e1 := (hagree c).2.1
  have e2 := (hagree c).2.2
  obtain ⟨h0, hargs⟩ := h c
  rw [e0, e1, e2] at h0
  exact ⟨h0, hargs⟩

end Cert.AttFValue

end
-- ==== Proof.LatB.Ref.lean ====
/-  The reference's gradients by the latents: the terms its run ends with, over typed variables. -/
module

public import proofs.«01_k».proof.Proof.Gen.LatBRefIdeal.Run
public import Idealize.ShloMosaic.Lib.Pointwise

@[expose] public section

set_option maxRecDepth 16384

noncomputable section

namespace Cert.LatBValue

open Cert.LatBRefIdeal Cert.LatBRefIdeal.Gen Cert.LatBRefIdeal.Value Idealize.ShloMosaic Idealize.ShloMosaic.TcCoe Idealize.SL.Sem

/-- The gradient of the queries before the rotary positions, by row, head and column. -/
def turned (D : FVec Ideal S8x2176x96 .f32) (C : FVec Ideal S2176x16 .f32) (S : FVec Ideal S2176x16 .f32) : FVec Ideal S2176x8x96 .f32 :=
  addf (addf (pad S2176x8x96 ![0, 0, 0] ![0, 0, 32] ![0, 0, 0] (extractStridedSlice S2176x8x64 ![0, 0, 0] (transpose S2176x8x96 [1, 0, 2] D transposes_S8x2176x96_S2176x8x96_1_0_2) slices_S2176x8x96_S2176x8x64_0_0_0) (constant S_ .f32 0x00000000#32) pads_S2176x8x64_S2176x8x96_000_000_0320 h_S_) (pad S2176x8x96 ![0, 0, 80] ![0, 0, 0] ![0, 0, 0] (addf (mulf (extractStridedSlice S2176x8x16 ![0, 0, 80] (transpose S2176x8x96 [1, 0, 2] D transposes_S8x2176x96_S2176x8x96_1_0_2) slices_S2176x8x96_S2176x8x16_0_0_80) (broadcastInDim S2176x8x16 ![0, 1, 2] bcast_S2176x1x16_S2176x8x16_0_1_2 (broadcastInDim S2176x1x16 ![0, 2] bcast_S2176x16_S2176x1x16_0_2 C))) (mulf (Host.negf (extractStridedSlice S2176x8x16 ![0, 0, 64] (transpose S2176x8x96 [1, 0, 2] D transposes_S8x2176x96_S2176x8x96_1_0_2) slices_S2176x8x96_S2176x8x16_0_0_64)) (broadcastInDim S2176x8x16 ![0, 1, 2] bcast_S2176x1x16_S2176x8x16_0_1_2 (broadcastInDim S2176x1x16 ![0, 2] bcast_S2176x16_S2176x1x16_0_2 S)))) (constant S_ .f32 0x00000000#32) pads_S2176x8x16_S2176x8x96_000_000_8000 h_S_)) (pad S2176x8x96 ![0, 0, 64] ![0, 0, 16] ![0, 0, 0] (addf (mulf (extractStridedSlice S2176x8x16 ![0, 0, 80] (transpose S2176x8x96 [1, 0, 2] D transposes_S8x2176x96_S2176x8x96_1_0_2) slices_S2176x8x96_S2176x8x16_0_0_80) (broadcastInDim S2176x8x16 ![0, 1, 2] bcast_S2176x1x16_S2176x8x16_0_1_2 (broadcastInDim S2176x1x16 ![0, 2] bcast_S2176x16_S2176x1x16_0_2 S))) (mulf (extractStridedSlice S2176x8x16 ![0, 0, 64] (transpose S2176x8x96 [1, 0, 2] D transposes_S8x2176x96_S2176x8x96_1_0_2) slices_S2176x8x96_S2176x8x16_0_0_64) (broadcastInDim S2176x8x16 ![0, 1, 2] bcast_S2176x1x16_S2176x8x16_0_1_2 (broadcastInDim S2176x1x16 ![0, 2] bcast_S2176x16_S2176x1x16_0_2 C)))) (constant S_ .f32 0x00000000#32) pads_S2176x8x16_S2176x8x96_000_000_64160 h_S_)

/-- The gradients of the keys and values, side by side. -/
def joined (E : FVec Ideal S8x2176x96 .f32) (G : FVec Ideal S8x2176x64 .f32) : FVec Ideal S2176x8x128 .f32 :=
  addf (pad S2176x8x128 ![0, 0, 64] ![0, 0, 0] ![0, 0, 0] (transpose S2176x8x64 [1, 0, 2] G transposes_S8x2176x64_S2176x8x64_1_0_2) (constant S_ .f32 0x00000000#32) pads_S2176x8x64_S2176x8x128_000_000_6400 h_S_) (pad S2176x8x128 ![0, 0, 0] ![0, 0, 64] ![0, 0, 0] (extractStridedSlice S2176x8x64 ![0, 0, 0] (transpose S2176x8x96 [1, 0, 2] E transposes_S8x2176x96_S2176x8x96_1_0_2) slices_S2176x8x96_S2176x8x64_0_0_0) (constant S_ .f32 0x00000000#32) pads_S2176x8x64_S2176x8x128_000_000_0640 h_S_)

/-- The reference's gradient by the queries' latent. -/
def dcq (D : FVec Ideal S8x2176x96 .f32) (C : FVec Ideal S2176x16 .f32) (S : FVec Ideal S2176x16 .f32) (W : FVec Ideal S384x768 .bf16) : FVec Ideal S2176x384 .f32 :=
  Host.dotGeneral dot_S2176x768_S384x768_S2176x384_1_1_0_0_n_n none (shapeCast _ (turned D C S) shapeCasts_S2176x8x96_S2176x768) (extf .f32 W bitsLt_bf16_f32)

/-- The reference's gradient by the keys' and values' latent. -/
def dckv (E : FVec Ideal S8x2176x96 .f32) (G : FVec Ideal S8x2176x64 .f32) (U : FVec Ideal S256x1024 .bf16) : FVec Ideal S2176x256 .f32 :=
  Host.dotGeneral dot_S2176x1024_S256x1024_S2176x256_1_1_0_0_n_n none (shapeCast _ (joined E G) shapeCasts_S2176x8x128_S2176x1024) (extf .f32 U bitsLt_bf16_f32)

/-- The reference's gradient of the queries, by head. -/
def dqp (D : FVec Ideal S8x2176x96 .f32) (C : FVec Ideal S2176x16 .f32) (S : FVec Ideal S2176x16 .f32) : FVec Ideal S8x2176x96 .bf16 :=
  truncf .bf16 (transpose S8x2176x96 [1, 0, 2] (turned D C S) transposes_S2176x8x96_S8x2176x96_1_0_2) bitsLt_bf16_f32

/-- The reference's gradient of the shared columns. -/
def dkr (E : FVec Ideal S8x2176x96 .f32) : FVec Ideal S2176x32 .f32 :=
  Host.reduceAdd (broadcastInDim S2176x1x32 ![0, 2] bcast_S2176x32_S2176x1x32_0_2 (Host.reduceAdd (extractStridedSlice S2176x8x32 ![0, 0, 64] (transpose S2176x8x96 [1, 0, 2] E transposes_S8x2176x96_S2176x8x96_1_0_2) slices_S2176x8x96_S2176x8x32_0_0_64) (constant S_ .f32 0x00000000#32) reducesTo_S2176x8x32_S2176x32_d1 h_S_)) (constant S_ .f32 0x00000000#32) reducesTo_S2176x1x32_S2176x32_d1 h_S_

end Cert.LatBValue

end
-- ==== Proof.Lat.Tables.lean ====
/-  The tables the host builds for the rotary positions, and the head's columns of the weights, entry by entry. -/
module

public import proofs.«01_k».proof.Proof.Gen.LatIdeal.Frame
public import Idealize.ShloMosaic.Lib.Pipeline.ValueKit
public import Idealize.ShloMosaic.Lib.Pointwise

@[expose] public section

set_option maxRecDepth 16384

noncomputable section

namespace Cert.Rope

open Cert.LatIdeal Cert.LatIdeal.Gen Idealize.ShloMosaic Idealize.ShloMosaic.TcCoe Idealize.SL.Sem

/-- The row numbers, as a column. -/
def rowT : IVec S96x1 32 := broadcastInDim S96x1 ![0] bcast_S96_S96x1_0 (iotaInDim S96 32 0)
/-- The column numbers, as a row. -/
def colT : IVec S1x96 32 := broadcastInDim S1x96 ![1] bcast_S96_S1x96_1 (iotaInDim S96 32 0)

/-- The ones and zeros a mask chooses. -/
def oneT (c : IVec S96x96 1) : FVec Ideal S96x96 .f32 :=
  select c (broadcastInDim S96x96 ![] bcast_S_S96x96 (constant (F := Ideal) S_ .f32 0x3F800000#32)) (broadcastInDim S96x96 ![] bcast_S_S96x96 (constant (F := Ideal) S_ .f32 0x00000000#32))

/-- The pairs a half later. -/
def upT : IVec S96x96 1 :=
  andi (cmpi .eq (broadcastInDim S96x96 ![0, 1] bcast_S1x96_S96x96_0_1 colT) (broadcastInDim S96x96 ![0, 1] bcast_S96x1_S96x96_0_1 (addi rowT (broadcastInDim S96x1 ![] bcast_S_S96x1 (constantI S_ 32 16#32)))))
    (broadcastInDim S96x96 ![0, 1] bcast_S96x1_S96x96_0_1 (cmpi .sge rowT (broadcastInDim S96x1 ![] bcast_S_S96x1 (constantI S_ 32 64#32))))

/-- The pairs a half earlier. -/
def downT : IVec S96x96 1 :=
  andi (cmpi .eq (broadcastInDim S96x96 ![0, 1] bcast_S96x1_S96x96_0_1 rowT) (broadcastInDim S96x96 ![0, 1] bcast_S1x96_S96x96_0_1 (addi colT (broadcastInDim S1x96 ![] bcast_S_S1x96 (constantI S_ 32 16#32)))))
    (broadcastInDim S96x96 ![0, 1] bcast_S1x96_S96x96_0_1 (cmpi .sge colT (broadcastInDim S1x96 ![] bcast_S_S1x96 (constantI S_ 32 64#32))))

/-- The half turn. -/
def rotT : FVec Ideal S96x96 .f32 := subf (oneT upT) (oneT downT)

/-- The places of the shared rotary columns. -/
def placeT : FVec Ideal S32x96 .f32 :=
  select (cmpi .eq (broadcastInDim S32x96 ![0, 1] bcast_S1x96_S32x96_0_1 colT)
      (broadcastInDim S32x96 ![0, 1] bcast_S32x1_S32x96_0_1 (addi (extractStridedSlice S32x1 ![0, 0] rowT slices_S96x1_S32x1_0_0) (broadcastInDim S32x1 ![] bcast_S_S32x1 (constantI S_ 32 64#32)))))
    (broadcastInDim S32x96 ![] bcast_S_S32x96 (constant (F := Ideal) S_ .f32 0x3F800000#32)) (broadcastInDim S32x96 ![] bcast_S_S32x96 (constant (F := Ideal) S_ .f32 0x00000000#32))

/-- A table of half the width, twice, after a constant. -/
def wideT (b : BitVec 32) (T : FVec Ideal S2176x16 .f32) : FVec Ideal S2176x96 .f32 :=
  concatenate S2176x96 1 [⟨S2176x64, (broadcastInDim S2176x64 ![] bcast_S_S2176x64 (constant (F := Ideal) S_ .f32 b) : FVec Ideal S2176x64 .f32)⟩, ⟨S2176x16, T⟩, ⟨S2176x16, T⟩]
    concatenates_S2176x64_S2176x16_S2176x16_S2176x96_d1

/-- The queries' weights by head. -/
def wqT (W : FVec Ideal S384x768 .bf16) : FVec Ideal S8x384x96 .bf16 :=
  transpose S8x384x96 [1, 0, 2] (shapeCast S384x8x96 W shapeCasts_S384x768_S384x8x96) transposes_S384x8x96_S8x384x96_1_0_2

/-- The keys' and values' weights by head. -/
def wuT (W : FVec Ideal S256x1024 .bf16) : FVec Ideal S8x256x128 .bf16 :=
  transpose S8x256x128 [1, 0, 2] (shapeCast S256x8x128 W shapeCasts_S256x1024_S256x8x128) transposes_S256x8x128_S8x256x128_1_0_2

/-- The keys' weights by head, none for the shared columns. -/
def wkT (W : FVec Ideal S256x1024 .bf16) : FVec Ideal S8x256x96 .bf16 :=
  concatenate S8x256x96 2 [⟨S8x256x64, extractStridedSlice S8x256x64 ![0, 0, 0] (wuT W) slices_S8x256x128_S8x256x64_0_0_0⟩, ⟨S8x256x32, (broadcastInDim S8x256x32 ![] bcast_S_S8x256x32 (constant (F := Ideal) S_ .bf16 0x0000#16) : FVec Ideal S8x256x32 .bf16)⟩]
    concatenates_S8x256x64_S8x256x32_S8x256x96_d2

/-- The values' weights by head. -/
def wvT (W : FVec Ideal S256x1024 .bf16) : FVec Ideal S8x256x64 .bf16 :=
  extractStridedSlice S8x256x64 ![0, 0, 64] (wuT W) slices_S8x256x128_S8x256x64_0_0_64

theorem word_up : ∀ k j : Fin 96, IntOp.andi (IntOp.cmpi .eq (BitVec.ofNat 32 j.val) (IntOp.addi (BitVec.ofNat 32 k.val) 16#32)) (IntOp.cmpi .sge (BitVec.ofNat 32 k.val) 64#32)
    = if j.val = k.val + 16 ∧ 64 ≤ k.val then 1#1 else 0#1 := by decide +kernel

theorem word_place : ∀ (k : Fin 32) (j : Fin 96), IntOp.cmpi .eq (BitVec.ofNat 32 j.val) (IntOp.addi (BitVec.ofNat 32 k.val) 64#32)
    = if j.val = k.val + 64 then 1#1 else 0#1 := by decide +kernel

/-- A one or a zero chosen by a mask. -/
theorem choose (p : Prop) [Decidable p] : Scalar.select (if p then 1#1 else 0#1) (1 : EReal) 0 = if p then (1 : EReal) else 0 := by
  split_ifs <;> simp [Scalar.select]

theorem rot_at (k j : Fin 96) : rotT (ix2 k j) = (if j.val = k.val + 16 ∧ 64 ≤ k.val then (1 : EReal) else 0) - if k.val = j.val + 16 ∧ 64 ≤ j.val then 1 else 0 := by
  pointwise [rotT, oneT, upT, downT, rowT, colT]
  rw [word_up k j, word_up j k, choose, choose]

theorem place_at (k : Fin 32) (j : Fin 96) : placeT (ix2 k j) = if j.val = k.val + 64 then (1 : EReal) else 0 := by
  pointwise [placeT, rowT, colT]
  rw [word_place k j]
  rw [choose]

theorem wide_at (b : BitVec 32) (T : FVec Ideal S2176x16 .f32) (i : Fin 2176) (j : Fin 96) : wideT b T (ix2 i j)
    = if h : j.val < 64 then Ideal.ofBits .f32 b else if h : j.val < 80 then T (ix2 i ⟨j.val - 64, by omega⟩) else T (ix2 i ⟨j.val - 80, by omega⟩) := by
  pointwise [wideT]
  refine dite_congr rfl (fun _ => rfl) fun h1 => ?_
  by_cases h2 : j.val < 80
  · rw [dif_pos h2, dif_pos (by omega)]
  · rw [dif_neg h2, dif_neg (by omega)]
    exact congrArg T (congrArg (ix2 i) (Fin.ext (by show j.val - 64 - 16 = j.val - 80; omega)))

theorem wq_at (W : FVec Ideal S384x768 .bf16) (h : Fin 8) (k : Fin 384) (j : Fin 96) : wqT W (ix3 h k j) = W (ix2 k ⟨h.val * 96 + j.val, by omega⟩) := by
  pointwise [wqT]

theorem wk_at (W : FVec Ideal S256x1024 .bf16) (h : Fin 8) (k : Fin 256) (j : Fin 96) : wkT W (ix3 h k j)
    = if hj : j.val < 64 then W (ix2 k ⟨h.val * 128 + j.val, by omega⟩) else 0 := by
  pointwise [wkT, wuT]

theorem wv_at (W : FVec Ideal S256x1024 .bf16) (h : Fin 8) (k : Fin 256) (j : Fin 64) : wvT W (ix3 h k j) = W (ix2 k ⟨h.val * 128 + (64 + j.val), by omega⟩) := by
  pointwise [wvT, wuT]

/-- What the half turn leaves of a row. -/
theorem rot_sum (f : Fin 96 → EReal) (j : Fin 96) : ∑ k : Fin 96, f k * rotT (ix2 k j)
    = if h : j.val < 64 then 0 else if h : j.val < 80 then -f ⟨j.val + 16, by omega⟩ else f ⟨j.val - 16, by have := j.isLt; omega⟩ := by
  simp only [rot_at]
  split_ifs with h1 h2
  · refine Finset.sum_eq_zero fun k _ => ?_
    rw [if_neg (by omega), if_neg (by omega)]
    simp
  · rw [Finset.sum_eq_single (⟨j.val + 16, by omega⟩ : Fin 96)]
    · rw [if_neg (by simp only []; omega), if_pos ⟨rfl, by omega⟩]
      simp
    · intro k _ hk
      have : k.val ≠ j.val + 16 := fun e => hk (Fin.ext e)
      rw [if_neg (by omega), if_neg (by omega)]
      simp
    · simp
  · rw [Finset.sum_eq_single (⟨j.val - 16, by omega⟩ : Fin 96)]
    · rw [if_pos (by simp only []; omega), if_neg (by simp only []; omega)]
      simp
    · intro k _ hk
      have : k.val ≠ j.val - 16 := fun e => hk (Fin.ext e)
      rw [if_neg (by omega), if_neg (by omega)]
      simp
    · simp

/-- The shared columns in their places. -/
theorem place_sum (f : Fin 32 → EReal) (j : Fin 96) : ∑ k : Fin 32, f k * placeT (ix2 k j)
    = if h : j.val < 64 then 0 else f ⟨j.val - 64, by omega⟩ := by
  simp only [place_at]
  split_ifs with h
  · refine Finset.sum_eq_zero fun k _ => ?_
    rw [if_neg (by omega), mul_zero]
  · rw [Finset.sum_eq_single (⟨j.val - 64, by omega⟩ : Fin 32)]
    · rw [if_pos (by simp only []; omega), mul_one]
    · intro k _ hk
      have : k.val ≠ j.val - 64 := fun e => hk (Fin.ext e)
      rw [if_neg (by omega), mul_zero]
    · simp

/-- The shared columns read back from their places. -/
theorem place_back (f : Fin 96 → EReal) (k : Fin 32) : ∑ j : Fin 96, f j * placeT (ix2 k j) = f ⟨k.val + 64, by omega⟩ := by
  simp only [place_at]
  rw [Finset.sum_eq_single (⟨k.val + 64, by omega⟩ : Fin 96)]
  · rw [if_pos (by simp only []), mul_one]
  · intro j _ hj
    have : j.val ≠ k.val + 64 := fun e => hj (Fin.ext e)
    rw [if_neg this, mul_zero]
  · simp

/-- A row at its rotary position. -/
def turn (c s : Fin 16 → EReal) (f : Fin 96 → EReal) (j : Fin 96) : EReal :=
  if h : j.val < 64 then f j else if h : j.val < 80 then f j * c ⟨j.val - 64, by omega⟩ - f ⟨j.val + 16, by omega⟩ * s ⟨j.val - 64, by omega⟩
    else f j * c ⟨j.val - 80, by omega⟩ + f ⟨j.val - 16, by omega⟩ * s ⟨j.val - 80, by omega⟩

theorem turn_eq (C S : FVec Ideal S2176x16 .f32) (i : Fin 2176) (f : Fin 96 → EReal) (j : Fin 96) :
    f j * wideT 0x3F800000#32 C (ix2 i j) + (∑ k : Fin 96, f k * rotT (ix2 k j)) * wideT 0x00000000#32 S (ix2 i j)
      = turn (fun a => C (ix2 i a)) (fun a => S (ix2 i a)) f j := by
  rw [rot_sum, wide_at, wide_at, Ideal.ofBits_one_f32, Ideal.ofBits_zero_f32]
  unfold turn
  split_ifs with h1 h2
  · simp
  · rw [EReal.neg_mul, ← sub_eq_add_neg]
  · rfl

/-- A row's gradient before its rotary position. -/
def back (c s : Fin 16 → EReal) (f : Fin 96 → EReal) (j : Fin 96) : EReal :=
  if h : j.val < 64 then f j else if h : j.val < 80 then f j * c ⟨j.val - 64, by omega⟩ + f ⟨j.val + 16, by omega⟩ * s ⟨j.val - 64, by omega⟩
    else f j * c ⟨j.val - 80, by omega⟩ - f ⟨j.val - 16, by omega⟩ * s ⟨j.val - 80, by omega⟩

theorem back_eq (C S : FVec Ideal S2176x16 .f32) (i : Fin 2176) (f : Fin 96 → EReal) (j : Fin 96) :
    f j * wideT 0x3F800000#32 C (ix2 i j) - ∑ k : Fin 96, f k * wideT 0x00000000#32 S (ix2 i k) * rotT (ix2 k j)
      = back (fun a => C (ix2 i a)) (fun a => S (ix2 i a)) f j := by
  rw [rot_sum (fun k => f k * wideT 0x00000000#32 S (ix2 i k))]
  simp only [wide_at]
  rw [Ideal.ofBits_one_f32]
  unfold back
  by_cases h1 : j.val < 64
  · rw [dif_pos h1, dif_pos h1, dif_pos h1]
    simp
  · rw [dif_neg h1, dif_neg h1, dif_neg h1]
    by_cases h2 : j.val < 80
    · rw [dif_pos h2, dif_pos h2, dif_pos h2, dif_neg (by omega), dif_neg (by omega), sub_eq_add_neg, neg_neg]
      refine congrArg₂ (· + ·) rfl (congrArg (_ * ·) (congrArg S (congrArg (ix2 i) (Fin.ext ?_))))
      simp only []
      omega
    · rw [dif_neg h2, dif_neg h2, dif_neg h2, dif_neg (by omega), dif_pos (by omega)]
      refine congrArg₂ (· - ·) rfl (congrArg (_ * ·) (congrArg S (congrArg (ix2 i) (Fin.ext ?_))))
      simp only []
      omega

/-- A sum over the columns of all heads, head by head. -/
theorem sum_heads {n k N : ℕ} (hN : n * k = N) (g : Fin N → EReal) : ∑ x, g x
    = ∑ h : Fin n, ∑ j : Fin k, g ⟨h.val * k + j.val, by
        have : h.val * k + k ≤ N := hN ▸ (Nat.succ_mul h.val k ▸ Nat.mul_le_mul_right k h.isLt : h.val * k + k ≤ n * k)
        omega⟩ := by
  subst hN
  rw [← finProdFinEquiv.sum_comp, Fintype.sum_prod_type]
  refine Finset.sum_congr rfl fun h _ => Finset.sum_congr rfl fun j _ => congrArg g (Fin.ext ?_)
  simp only [finProdFinEquiv_apply_val]
  rw [Nat.mul_comm, Nat.add_comm]

end Cert.Rope

end
-- ==== Proof.LatB.RefValue.lean ====
/-  The reference's gradients by the latents, entry by entry. -/
module

public import proofs.«01_k».proof.Proof.LatB.Ref
public import proofs.«01_k».proof.Proof.Lat.Tables
public import Idealize.ShloMosaic.Lib.Pipeline.ValueKit
public import Idealize.ShloMosaic.Lib.Pointwise

@[expose] public section

set_option maxRecDepth 16384

noncomputable section

namespace Cert.LatBValue

open Cert.LatBRefIdeal Cert.LatBRefIdeal.Gen Idealize.ShloMosaic Idealize.ShloMosaic.TcCoe Idealize.SL.Sem
open Cert.Rope

variable (D E : FVec Ideal S8x2176x96 .f32) (G : FVec Ideal S8x2176x64 .f32) (C S : FVec Ideal S2176x16 .f32)
  (W : FVec Ideal S384x768 .bf16) (U : FVec Ideal S256x1024 .bf16)

theorem turned_at (i : Fin 2176) (h : Fin 8) (j : Fin 96) : turned D C S (ix3 i h j)
    = back (fun a => C (ix2 i a)) (fun a => S (ix2 i a)) (fun j => D (ix3 h i j)) j := by
  pointwise [turned]
  unfold back
  by_cases h1 : j.val < 64
  · rw [dif_pos h1, dif_pos h1, dif_neg (by omega), dif_neg (by omega), add_zero, add_zero]
  · rw [dif_neg h1, dif_neg h1, zero_add]
    by_cases h2 : j.val < 80
    · rw [dif_pos h2, dif_neg (by omega), dif_pos (by omega), zero_add, add_comm]
      refine congrArg₂ (· + ·) (congrArg (· * _) (congrArg D (congrArg (ix3 h i) (Fin.ext ?_)))) (congrArg (· * _) (congrArg D (congrArg (ix3 h i) (Fin.ext ?_))))
      all_goals simp only []; omega
    · rw [dif_neg h2, dif_pos (by omega), dif_neg (by omega), add_zero, EReal.neg_mul, ← sub_eq_add_neg]
      refine congrArg₂ (· - ·) (congrArg (· * _) (congrArg D (congrArg (ix3 h i) (Fin.ext ?_)))) (congrArg (· * _) (congrArg D (congrArg (ix3 h i) (Fin.ext ?_))))
      all_goals simp only []; omega

theorem joined_at (i : Fin 2176) (h : Fin 8) (j : Fin 128) : joined E G (ix3 i h j)
    = if hj : j.val < 64 then E (ix3 h i ⟨j.val, by omega⟩) else G (ix3 h i ⟨j.val - 64, by omega⟩) := by
  pointwise [joined]
  by_cases h1 : j.val < 64
  · rw [dif_pos h1, dif_pos h1, dif_neg (by omega), zero_add]
  · rw [dif_neg h1, dif_neg h1, dif_pos (by omega), add_zero]

theorem dqp_at (h : Fin 8) (i : Fin 2176) (j : Fin 96) : dqp D C S (ix3 h i j)
    = back (fun a => C (ix2 i a)) (fun a => S (ix2 i a)) (fun j => D (ix3 h i j)) j := by
  refine Eq.trans ?_ (turned_at D C S i h j)
  pointwise [dqp]

theorem dkr_at (i : Fin 2176) (k : Fin 32) : dkr E (ix2 i k) = ∑ h : Fin 8, E (ix3 h i ⟨k.val + 64, by omega⟩) := by
  pointwise [dkr]
  rw [Fin.sum_univ_one]
  exact Finset.sum_congr rfl fun h _ => congrArg E (congrArg (ix3 h i) (Fin.ext (Nat.add_comm _ _)))

theorem dcq_at (i : Fin 2176) (k : Fin 384) : dcq D C S W (ix2 i k) = ∑ h : Fin 8, ∑ j : Fin 96, turned D C S (ix3 i h j) * W (ix2 k ⟨h.val * 96 + j.val, by omega⟩) := by
  pointwise [dcq]
  refine (sum_heads (n := 8) (k := 96) rfl _).trans (Finset.sum_congr rfl fun h _ => Finset.sum_congr rfl fun j _ => congrArg (· * _) (congrArg (turned D C S) ?_))
  refine congrArg₂ (ix3 i) (Fin.ext ?_) (Fin.ext ?_)
  all_goals simp only []; omega

theorem dckv_at (i : Fin 2176) (k : Fin 256) : dckv E G U (ix2 i k) = ∑ h : Fin 8, ∑ j : Fin 128, joined E G (ix3 i h j) * U (ix2 k ⟨h.val * 128 + j.val, by omega⟩) := by
  pointwise [dckv]
  refine (sum_heads (n := 8) (k := 128) rfl _).trans (Finset.sum_congr rfl fun h _ => Finset.sum_congr rfl fun j _ => congrArg (· * _) (congrArg (joined E G) ?_))
  refine congrArg₂ (ix3 i) (Fin.ext ?_) (Fin.ext ?_)
  all_goals simp only []; omega

end Cert.LatBValue

end
-- ==== Proof.LatB.Blocks.lean ====
/-  The blocks the kernel for the gradients by the latents reads, entry by entry. -/
module

public import proofs.«01_k».proof.Proof.Gen.LatBIdeal.Frame
public import proofs.«01_k».proof.Proof.LatB.RefValue
public import Idealize.ShloMosaic.Lib.Pipeline.ValueKit
public import Idealize.ShloMosaic.Lib.Pointwise

@[expose] public section

set_option maxRecDepth 16384

noncomputable section

namespace Cert.LatBValue

open Cert.LatBIdeal Cert.LatBIdeal.Gen Idealize.ShloMosaic Idealize.ShloMosaic.TcCoe Idealize.SL.Sem
open Idealize.ShloMosaic.Pipeline (Dat)
open Cert.Rope

variable (m : (ℓ : Loc nD τ sig) → Buf (Elt Ideal) ℓ)

/-- The argument arrays, at their types. -/
abbrev aD (c : Dev nD) : FVec Ideal S8x2176x96 .f32 := m ((c : Thread nD τ).loc main_arg0)
abbrev aE (c : Dev nD) : FVec Ideal S8x2176x96 .f32 := m ((c : Thread nD τ).loc main_arg1)
abbrev aG (c : Dev nD) : FVec Ideal S8x2176x64 .f32 := m ((c : Thread nD τ).loc main_arg2)
abbrev aC (c : Dev nD) : FVec Ideal S2176x16 .f32 := m ((c : Thread nD τ).loc main_arg3)
abbrev aS (c : Dev nD) : FVec Ideal S2176x16 .f32 := m ((c : Thread nD τ).loc main_arg4)
abbrev aW (c : Dev nD) : FVec Ideal S384x768 .bf16 := m ((c : Thread nD τ).loc main_arg5)
abbrev aU (c : Dev nD) : FVec Ideal S256x1024 .bf16 := m ((c : Thread nD τ).loc main_arg6)

/-- The block every window is at, at each point. -/
theorem idx : ∀ t : Fin cfg0.N, win0_0.index t = ![0, (grid0.coords t 0).val, 0] ∧ win0_1.index t = ![0, (grid0.coords t 0).val, 0] ∧ win0_2.index t = ![0, (grid0.coords t 0).val, 0]
    ∧ win0_3.index t = ![(grid0.coords t 0).val, 0] ∧ win0_4.index t = ![(grid0.coords t 0).val, 0] ∧ win0_5.index t = ![0, 0] ∧ win0_6.index t = ![0, 0]
    ∧ win0_7.index t = ![0, 0, 0] ∧ win0_8.index t = ![0, 0, 0] ∧ win0_9.index t = ![0, 0, 0]
    ∧ win0_10.index t = ![(grid0.coords t 0).val, 0] ∧ win0_11.index t = ![(grid0.coords t 0).val, 0] ∧ win0_12.index t = ![0, (grid0.coords t 0).val, 0] ∧ win0_13.index t = ![(grid0.coords t 0).val, 0] :=
  (by decide +kernel : ∀ t : Fin grid0.N, _)

/-- The row of the arrays a tile's row is. -/
def row (t : Fin cfg0.N) (r : Fin 544) : Fin 2176 := ⟨(grid0.coords t 0).val * 544 + r, by have := (grid0.coords t 0).isLt; simp at this; omega⟩

theorem entry3 (c : Dev nD) : V m c main_v33 = wideT 0x3F800000#32 (aC m c) := by
  unfold wideT aC
  after_results <;> rfl

theorem entry4 (c : Dev nD) : V m c main_v35 = wideT 0x00000000#32 (aS m c) := by
  unfold wideT aS
  after_results <;> rfl

theorem entry5 (c : Dev nD) : V m c main_v24 = rotT := by
  unfold rotT oneT upT downT rowT colT
  after_results <;> rfl

theorem entry6 (c : Dev nD) : V m c main_v31 = placeT := by
  unfold placeT rowT colT
  after_results <;> rfl

theorem entry7 (c : Dev nD) : V m c main_v37 = wqT (aW m c) := by
  unfold wqT aW
  after_results <;> rfl

theorem entry8 (c : Dev nD) : V m c main_v42 = wkT (aU m c) := by
  unfold wkT wuT aU
  after_results <;> rfl

theorem entry9 (c : Dev nD) : V m c main_v43 = wvT (aU m c) := by
  unfold wvT wuT aU
  after_results <;> rfl

theorem in0 (c : Dev nD) (t : Fin cfg0.N) (h : Fin 8) (r : Fin 544) (j : Fin 96) : iblk m c 0 t (ix3 h r j) = aD m c (ix3 h (row t r) j) := by
  unfold row aD
  rw [← V_main_arg0 m c]
  blk_point [iblk, idx t]

theorem in1 (c : Dev nD) (t : Fin cfg0.N) (h : Fin 8) (r : Fin 544) (j : Fin 96) : iblk m c 1 t (ix3 h r j) = aE m c (ix3 h (row t r) j) := by
  unfold row aE
  rw [← V_main_arg1 m c]
  blk_point [iblk, idx t]

theorem in2 (c : Dev nD) (t : Fin cfg0.N) (h : Fin 8) (r : Fin 544) (j : Fin 64) : iblk m c 2 t (ix3 h r j) = aG m c (ix3 h (row t r) j) := by
  unfold row aG
  rw [← V_main_arg2 m c]
  blk_point [iblk, idx t]

theorem in3 (c : Dev nD) (t : Fin cfg0.N) (r : Fin 544) (k : Fin 96) : iblk m c 3 t (ix2 r k) = wideT 0x3F800000#32 (aC m c) (ix2 (row t r) k) := by
  rw [← entry3 m c]
  unfold row
  blk_point [iblk, idx t]

theorem in4 (c : Dev nD) (t : Fin cfg0.N) (r : Fin 544) (k : Fin 96) : iblk m c 4 t (ix2 r k) = wideT 0x00000000#32 (aS m c) (ix2 (row t r) k) := by
  rw [← entry4 m c]
  unfold row
  blk_point [iblk, idx t]

theorem in5 (c : Dev nD) (t : Fin cfg0.N) (k j : Fin 96) : iblk m c 5 t (ix2 k j) = rotT (ix2 k j) := by
  rw [← entry5 m c]
  blk_point [iblk, idx t]

theorem in6 (c : Dev nD) (t : Fin cfg0.N) (k : Fin 32) (j : Fin 96) : iblk m c 6 t (ix2 k j) = placeT (ix2 k j) := by
  rw [← entry6 m c]
  blk_point [iblk, idx t]

theorem in7 (c : Dev nD) (t : Fin cfg0.N) (h : Fin 8) (k : Fin 384) (j : Fin 96) : iblk m c 7 t (ix3 h k j) = aW m c (ix2 k ⟨h.val * 96 + j.val, by omega⟩) := by
  rw [← wq_at (aW m c), ← entry7 m c]
  blk_point [iblk, idx t]

theorem in8 (c : Dev nD) (t : Fin cfg0.N) (h : Fin 8) (k : Fin 256) (j : Fin 96) : iblk m c 8 t (ix3 h k j) = wkT (aU m c) (ix3 h k j) := by
  rw [← entry8 m c]
  blk_point [iblk, idx t]

theorem in9 (c : Dev nD) (t : Fin cfg0.N) (h : Fin 8) (k : Fin 256) (j : Fin 64) : iblk m c 9 t (ix3 h k j) = aU m c (ix2 k ⟨h.val * 128 + (64 + j.val), by omega⟩) := by
  rw [← wv_at (aU m c), ← entry9 m c]
  blk_point [iblk, idx t]

end Cert.LatBValue

end
-- ==== Proof.LatB.Value.lean ====
/-  The result arrays of the kernel for the gradients by the latents: each is the reference's term of the argument arrays. -/
module

public import proofs.«01_k».proof.Proof.LatB.Blocks
public import proofs.«01_k».proof.Proof.LatB.RefValue
public import Idealize.ShloMosaic.Lib.Pipeline.ValueKit
public import Idealize.ShloMosaic.Lib.Pointwise

@[expose] public section

set_option maxRecDepth 16384

noncomputable section

namespace Cert.LatBValue

open Cert.LatBIdeal Cert.LatBIdeal.Gen Idealize.ShloMosaic Idealize.ShloMosaic.TcCoe Idealize.SL.Sem
open Idealize.ShloMosaic.Pipeline (Dat)
open Cert.Rope

variable (m : (ℓ : Loc nD τ sig) → Buf (Elt Ideal) ℓ)

theorem ix3_congr {a b c : ℕ} {x x' : Fin a} {y y' : Fin b} {z z' : Fin c} (e0 : x = x') (e1 : y = y') (e2 : z = z') : ix3 x y z = ix3 x' y' z' := by
  rw [e0, e1, e2]

theorem ix2_congr {a b : ℕ} {x x' : Fin a} {y y' : Fin b} (e0 : x = x') (e1 : y = y') : ix2 x y = ix2 x' y' := by
  rw [e0, e1]

/-- The gradient of the queries before their turn, as the kernel writes it. -/
theorem q_val (c : Dev nD) (t : Fin cfg0.N) (h : Fin 8) (r : Fin 544) (j : Fin 96) :
    aD m c (ix3 h (row t r) j) * wideT 0x3F800000#32 (aC m c) (ix2 (row t r) j)
      - ∑ x : Fin 96, aD m c (ix3 h (row t r) x) * wideT 0x00000000#32 (aS m c) (ix2 (row t r) x) * rotT (ix2 x j)
      = dqp (aD m c) (aC m c) (aS m c) (ix3 h (row t r) j) :=
  (back_eq (aC m c) (aS m c) (row t r) (fun j => aD m c (ix3 h (row t r) j)) j).trans (dqp_at _ _ _ h (row t r) j).symm

/-- Every head's part of the gradient by the queries' latent. -/
theorem cq_val (c : Dev nD) (t : Fin cfg0.N) (r : Fin 544) (k : Fin 384) :
    dcq (aD m c) (aC m c) (aS m c) (aW m c) (ix2 (row t r) k)
      = ∑ h : Fin 8, ∑ j : Fin 96, dqp (aD m c) (aC m c) (aS m c) (ix3 h (row t r) j) * aW m c (ix2 k ⟨h.val * 96 + j.val, by omega⟩) := by
  rw [dcq_at]
  simp only [turned_at, dqp_at]

/-- One head's part of the gradient by the keys' and values' latent: its columns are the keys' then the values'. -/
theorem ckv_head (E : FVec Ideal S8x2176x96 .f32) (G : FVec Ideal S8x2176x64 .f32) (U : FVec Ideal S256x1024 .bf16) (i : Fin 2176) (h : Fin 8) (k : Fin 256) :
    ∑ j : Fin 128, joined E G (ix3 i h j) * U (ix2 k ⟨h.val * 128 + j.val, by omega⟩)
      = ∑ j : Fin 96, E (ix3 h i j) * wkT U (ix3 h k j) + ∑ j : Fin 64, G (ix3 h i j) * U (ix2 k ⟨h.val * 128 + (64 + j.val), by omega⟩) := by
  refine (Fin.sum_univ_add (a := 64) (b := 64) (fun j : Fin (64 + 64) => joined E G (ix3 i h j) * U (ix2 k ⟨h.val * 128 + j.val, by omega⟩))).trans ?_
  refine congrArg₂ (· + ·) ?_ (Finset.sum_congr rfl fun j _ => ?_)
  · refine Eq.trans ?_ (Fin.sum_univ_add (a := 64) (b := 32) (fun j : Fin (64 + 32) => E (ix3 h i j) * wkT U (ix3 h k j))).symm
    refine Eq.trans (Finset.sum_congr rfl fun j _ => ?_) ((congrArg (_ + ·) (Finset.sum_eq_zero fun j _ => ?_)).trans (add_zero _)).symm
    · rw [joined_at, wk_at, dif_pos (by simp), dif_pos (by simp)]
      rfl
    · rw [wk_at, dif_neg (by simp), mul_zero]
  · rw [joined_at, dif_neg (by simp)]
    refine congrArg₂ (· * ·) (congrArg G (ix3_congr rfl rfl (Fin.ext ?_))) rfl
    simp

theorem emb12 (t : Fin cfg0.N) (y : S8x544x96.Idx) : ((cfg0.win 12).blk t).view.emb y = ix3 (y 0) (row t (y 1)) (y 2) := by
  refine (eq_ix3 _).trans (ix3_congr (Fin.ext ?_) (Fin.ext ?_) (Fin.ext ?_))
  all_goals
    try unfold row
    blk_point [idx t]

/-- What a point leaves of the gradient of the queries. -/
theorem point12 (c : Dev nD) (t : Fin cfg0.N) (y : S8x544x96.Idx) : out0_12 (iblk m c 0 t) (iblk m c 1 t) (iblk m c 2 t) (iblk m c 3 t) (iblk m c 4 t) (iblk m c 5 t) (iblk m c 6 t) (iblk m c 7 t) (iblk m c 8 t) (iblk m c 9 t) y
    = dqp (aD m c) (aC m c) (aS m c) (ix3 (y 0) (row t (y 1)) (y 2)) := by
  unfold_out out0_12
  canon_tiles y h
  all_goals
    obtain ⟨a, r, j, rfl⟩ : ∃ (a : Fin 1) (r : Fin 544) (j : Fin 96), y = ix3 a r j := ⟨y 0, y 1, y 2, eq_ix3 y⟩
    obtain rfl : a = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    simp only [in0, in1, in2, in3, in4, in5, in6, in7, in8, in9]
    refine (q_val m c t _ r j).trans (congrArg _ (ix3_congr (Fin.ext ?_) (congrArg (row t) (Fin.ext ?_)) (Fin.ext ?_)))
    all_goals first | exact h0.symm | exact h1.symm | exact h2.symm

/-- The array of the gradient of the queries, after the run. -/
theorem final12 (c : Dev nD) : (dats m 0 c).arrAt 12 (cfgs 0).N = dqp (aD m c) (aC m c) (aS m c) := by
  refine (dats m 0 c).arrAt_eq_of_covers 12 _ (by decide +kernel) fun t _ y => ?_
  blk_simp
  rw [after0_12]
  exact (point12 m c t y).trans (congrArg _ (emb12 t y).symm)

theorem emb10 (t : Fin cfg0.N) (y : S544x384.Idx) : ((cfg0.win 10).blk t).view.emb y = ix2 (row t (y 0)) (y 1) := by
  refine (eq_ix2 _).trans (ix2_congr (Fin.ext ?_) (Fin.ext ?_))
  all_goals
    try unfold row
    blk_point [idx t]

/-- What a point leaves of the gradient by the queries' latent. -/
theorem point10 (c : Dev nD) (t : Fin cfg0.N) (r : Fin 544) (k : Fin 384) : out0_10 (iblk m c 0 t) (iblk m c 1 t) (iblk m c 2 t) (iblk m c 3 t) (iblk m c 4 t) (iblk m c 5 t) (iblk m c 6 t) (iblk m c 7 t) (iblk m c 8 t) (iblk m c 9 t) (ix2 r k)
    = dcq (aD m c) (aC m c) (aS m c) (aW m c) (ix2 (row t r) k) := by
  unfold_out out0_10
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  simp only [in0, in1, in2, in3, in4, in5, in6, in7, in8, in9]
  simp only [q_val]
  rw [cq_val, Fin.sum_univ_eight]

/-- The array of the gradient by the queries' latent, after the run. -/
theorem final10 (c : Dev nD) : (dats m 0 c).arrAt 10 (cfgs 0).N = dcq (aD m c) (aC m c) (aS m c) (aW m c) := by
  refine (dats m 0 c).arrAt_eq_of_covers 10 _ (by decide +kernel) fun t _ y => ?_
  blk_simp
  rw [after0_10]
  obtain ⟨r, k, rfl⟩ : ∃ (r : Fin 544) (k : Fin 384), y = ix2 r k := ⟨y 0, y 1, eq_ix2 y⟩
  exact (point10 m c t r k).trans (congrArg _ (emb10 t (ix2 r k)).symm)

theorem emb11 (t : Fin cfg0.N) (y : S544x256.Idx) : ((cfg0.win 11).blk t).view.emb y = ix2 (row t (y 0)) (y 1) := by
  refine (eq_ix2 _).trans (ix2_congr (Fin.ext ?_) (Fin.ext ?_))
  all_goals
    try unfold row
    blk_point [idx t]

/-- What a point leaves of the gradient by the keys' and values' latent. -/
theorem point11 (c : Dev nD) (t : Fin cfg0.N) (r : Fin 544) (k : Fin 256) : out0_11 (iblk m c 0 t) (iblk m c 1 t) (iblk m c 2 t) (iblk m c 3 t) (iblk m c 4 t) (iblk m c 5 t) (iblk m c 6 t) (iblk m c 7 t) (iblk m c 8 t) (iblk m c 9 t) (ix2 r k)
    = dckv (aE m c) (aG m c) (aU m c) (ix2 (row t r) k) := by
  unfold_out out0_11
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  simp only [in0, in1, in2, in3, in4, in5, in6, in7, in8, in9]
  rw [dckv_at]
  simp only [ckv_head]
  rw [Fin.sum_univ_eight]
  simp only [← add_assoc]

/-- The array of the gradient by the keys' and values' latent, after the run. -/
theorem final11 (c : Dev nD) : (dats m 0 c).arrAt 11 (cfgs 0).N = dckv (aE m c) (aG m c) (aU m c) := by
  refine (dats m 0 c).arrAt_eq_of_covers 11 _ (by decide +kernel) fun t _ y => ?_
  blk_simp
  rw [after0_11]
  obtain ⟨r, k, rfl⟩ : ∃ (r : Fin 544) (k : Fin 256), y = ix2 r k := ⟨y 0, y 1, eq_ix2 y⟩
  exact (point11 m c t r k).trans (congrArg _ (emb11 t (ix2 r k)).symm)

theorem emb13 (t : Fin cfg0.N) (y : S544x32.Idx) : ((cfg0.win 13).blk t).view.emb y = ix2 (row t (y 0)) (y 1) := by
  refine (eq_ix2 _).trans (ix2_congr (Fin.ext ?_) (Fin.ext ?_))
  all_goals
    try unfold row
    blk_point [idx t]

/-- What a point leaves of the gradient of the shared columns. -/
theorem point13 (c : Dev nD) (t : Fin cfg0.N) (r : Fin 544) (k : Fin 32) : out0_13 (iblk m c 0 t) (iblk m c 1 t) (iblk m c 2 t) (iblk m c 3 t) (iblk m c 4 t) (iblk m c 5 t) (iblk m c 6 t) (iblk m c 7 t) (iblk m c 8 t) (iblk m c 9 t) (ix2 r k)
    = dkr (aE m c) (ix2 (row t r) k) := by
  unfold_out out0_13
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  simp only [in0, in1, in2, in3, in4, in5, in6, in7, in8, in9]
  rw [dkr_at, Fin.sum_univ_eight]
  simp only [fun h => place_back (fun x => aE m c (ix3 h (row t r) x)) k]

/-- The array of the gradient of the shared columns, after the run. -/
theorem final13 (c : Dev nD) : (dats m 0 c).arrAt 13 (cfgs 0).N = dkr (aE m c) := by
  refine (dats m 0 c).arrAt_eq_of_covers 13 _ (by decide +kernel) fun t _ y => ?_
  blk_simp
  rw [after0_13]
  obtain ⟨r, k, rfl⟩ : ∃ (r : Fin 544) (k : Fin 32), y = ix2 r k := ⟨y 0, y 1, eq_ix2 y⟩
  exact (point13 m c t r k).trans (congrArg _ (emb13 t (ix2 r k)).symm)

end Cert.LatBValue

end
-- ==== Proof.LatB.Claims.lean ====
/-  The claims about the gradients by the latents. -/
module

public import proofs.«01_k».proof.Defs
public import proofs.«01_k».proof.Proof.Gen.LatB.Frame
public import proofs.«01_k».proof.Proof.Gen.LatBIdeal.Frame
public import proofs.«01_k».proof.Proof.Gen.LatBRefIdeal.Run
public import proofs.«01_k».proof.Proof.LatB.Value
public import Idealize.ShloMosaic.Lib.Quiescent
public import Idealize.ShloMosaic.Lib.Claim

@[expose] public section

set_option maxRecDepth 16384

noncomputable section

namespace Cert.LatBValue

open Idealize.ShloMosaic Idealize.ShloMosaic.TcCoe Idealize.SL.Sem

theorem frame_kernel : Cert.quiescent_LatB := fun m ρ _ => Cert.LatB.Gen.frame m ρ
theorem frame_ideal : Cert.quiescent_LatBIdeal := fun m ρ _ => Cert.LatBIdeal.Gen.frame m ρ

theorem frame_ref : Cert.quiescent_LatBRefIdeal := fun m ρ _ =>
  (θ_run Cert.LatBRefIdeal.defs _ _).mono (fun r h => ⟨fun c => (h c).2.2.2.2, sem_eq_zero_of_no_sems (by decide) r.2⟩)
    (Cert.LatBRefIdeal.Value.run (F := Ideal) m ρ)

section

variable (m : (ℓ : Loc Cert.LatBIdeal.nD Cert.LatBIdeal.τ Cert.LatBIdeal.sig) → Buf (Elt Ideal) ℓ) (g : Dev Cert.LatBIdeal.nD → PrngReg)

set_option maxHeartbeats 1000000 in
/-- The kernel's run: its results at the reference's terms, its arguments unchanged. -/
theorem run_kernel : θ_run (Cert.LatBIdeal.defs (F := Ideal)) (onTc (τ := Cert.LatBIdeal.τ) (Cert.LatBIdeal.main (F := Ideal))) ⟨m, fun _ => 0, g⟩ (fun r => ∀ c : Dev Cert.LatBIdeal.nD,
    r.2.mem ((c.tc : Thread Cert.LatBIdeal.nD Cert.LatBIdeal.τ).loc Cert.LatBIdeal.main_v44_0) = dcq (aD m c) (aC m c) (aS m c) (aW m c)
    ∧ r.2.mem ((c.tc : Thread Cert.LatBIdeal.nD Cert.LatBIdeal.τ).loc Cert.LatBIdeal.main_v44_1) = dckv (aE m c) (aG m c) (aU m c)
    ∧ r.2.mem ((c.tc : Thread Cert.LatBIdeal.nD Cert.LatBIdeal.τ).loc Cert.LatBIdeal.main_v44_2) = dqp (aD m c) (aC m c) (aS m c)
    ∧ r.2.mem ((c.tc : Thread Cert.LatBIdeal.nD Cert.LatBIdeal.τ).loc Cert.LatBIdeal.main_v44_3) = dkr (aE m c)
    ∧ r.2.mem ((c.tc : Thread Cert.LatBIdeal.nD Cert.LatBIdeal.τ).loc Cert.LatBIdeal.main_arg0) = m ((c.tc : Thread Cert.LatBIdeal.nD Cert.LatBIdeal.τ).loc Cert.LatBIdeal.main_arg0)
    ∧ r.2.mem ((c.tc : Thread Cert.LatBIdeal.nD Cert.LatBIdeal.τ).loc Cert.LatBIdeal.main_arg1) = m ((c.tc : Thread Cert.LatBIdeal.nD Cert.LatBIdeal.τ).loc Cert.LatBIdeal.main_arg1)
    ∧ r.2.mem ((c.tc : Thread Cert.LatBIdeal.nD Cert.LatBIdeal.τ).loc Cert.LatBIdeal.main_arg2) = m ((c.tc : Thread Cert.LatBIdeal.nD Cert.LatBIdeal.τ).loc Cert.LatBIdeal.main_arg2)
    ∧ r.2.mem ((c.tc : Thread Cert.LatBIdeal.nD Cert.LatBIdeal.τ).loc Cert.LatBIdeal.main_arg3) = m ((c.tc : Thread Cert.LatBIdeal.nD Cert.LatBIdeal.τ).loc Cert.LatBIdeal.main_arg3)
    ∧ r.2.mem ((c.tc : Thread Cert.LatBIdeal.nD Cert.LatBIdeal.τ).loc Cert.LatBIdeal.main_arg4) = m ((c.tc : Thread Cert.LatBIdeal.nD Cert.LatBIdeal.τ).loc Cert.LatBIdeal.main_arg4)
    ∧ r.2.mem ((c.tc : Thread Cert.LatBIdeal.nD Cert.LatBIdeal.τ).loc Cert.LatBIdeal.main_arg5) = m ((c.tc : Thread Cert.LatBIdeal.nD Cert.LatBIdeal.τ).loc Cert.LatBIdeal.main_arg5)
    ∧ r.2.mem ((c.tc : Thread Cert.LatBIdeal.nD Cert.LatBIdeal.τ).loc Cert.LatBIdeal.main_arg6) = m ((c.tc : Thread Cert.LatBIdeal.nD Cert.LatBIdeal.τ).loc Cert.LatBIdeal.main_arg6)) := by
  run_from Cert.LatBIdeal.Gen.unchanged m g & Cert.LatBIdeal.Gen.run_main m g
  · exact final10 m c
  · exact final11 m c
  · exact final12 m c
  · exact final13 m c

variable (m' : (ℓ : Loc Cert.LatBRefIdeal.nD Cert.LatBRefIdeal.τ Cert.LatBRefIdeal.sig) → Buf (Elt Ideal) ℓ) (g' : Dev Cert.LatBRefIdeal.nD → PrngReg)

/-- The reference's run, its results named. -/
theorem run_ref : θ_run (Cert.LatBRefIdeal.defs (F := Ideal)) (onTc (τ := Cert.LatBRefIdeal.τ) (Cert.LatBRefIdeal.main (F := Ideal))) ⟨m', fun _ => 0, g'⟩ (fun r => ∀ c : Dev Cert.LatBRefIdeal.nD,
    r.2.mem ((c.tc : Thread Cert.LatBRefIdeal.nD Cert.LatBRefIdeal.τ).loc Cert.LatBRefIdeal.main_v43) = dcq (m' ((c.tc : Thread Cert.LatBRefIdeal.nD Cert.LatBRefIdeal.τ).loc Cert.LatBRefIdeal.main_arg0)) (m' ((c.tc : Thread Cert.LatBRefIdeal.nD Cert.LatBRefIdeal.τ).loc Cert.LatBRefIdeal.main_arg3)) (m' ((c.tc : Thread Cert.LatBRefIdeal.nD Cert.LatBRefIdeal.τ).loc Cert.LatBRefIdeal.main_arg4)) (m' ((c.tc : Thread Cert.LatBRefIdeal.nD Cert.LatBRefIdeal.τ).loc Cert.LatBRefIdeal.main_arg5))
    ∧ r.2.mem ((c.tc : Thread Cert.LatBRefIdeal.nD Cert.LatBRefIdeal.τ).loc Cert.LatBRefIdeal.main_v67) = dckv (m' ((c.tc : Thread Cert.LatBRefIdeal.nD Cert.LatBRefIdeal.τ).loc Cert.LatBRefIdeal.main_arg1)) (m' ((c.tc : Thread Cert.LatBRefIdeal.nD Cert.LatBRefIdeal.τ).loc Cert.LatBRefIdeal.main_arg2)) (m' ((c.tc : Thread Cert.LatBRefIdeal.nD Cert.LatBRefIdeal.τ).loc Cert.LatBRefIdeal.main_arg6))
    ∧ r.2.mem ((c.tc : Thread Cert.LatBRefIdeal.nD Cert.LatBRefIdeal.τ).loc Cert.LatBRefIdeal.main_v69) = dqp (m' ((c.tc : Thread Cert.LatBRefIdeal.nD Cert.LatBRefIdeal.τ).loc Cert.LatBRefIdeal.main_arg0)) (m' ((c.tc : Thread Cert.LatBRefIdeal.nD Cert.LatBRefIdeal.τ).loc Cert.LatBRefIdeal.main_arg3)) (m' ((c.tc : Thread Cert.LatBRefIdeal.nD Cert.LatBRefIdeal.τ).loc Cert.LatBRefIdeal.main_arg4))
    ∧ r.2.mem ((c.tc : Thread Cert.LatBRefIdeal.nD Cert.LatBRefIdeal.τ).loc Cert.LatBRefIdeal.main_v63) = dkr (m' ((c.tc : Thread Cert.LatBRefIdeal.nD Cert.LatBRefIdeal.τ).loc Cert.LatBRefIdeal.main_arg1))
    ∧ r.2.mem ((c.tc : Thread Cert.LatBRefIdeal.nD Cert.LatBRefIdeal.τ).loc Cert.LatBRefIdeal.main_arg0) = m' ((c.tc : Thread Cert.LatBRefIdeal.nD Cert.LatBRefIdeal.τ).loc Cert.LatBRefIdeal.main_arg0)
    ∧ r.2.mem ((c.tc : Thread Cert.LatBRefIdeal.nD Cert.LatBRefIdeal.τ).loc Cert.LatBRefIdeal.main_arg1) = m' ((c.tc : Thread Cert.LatBRefIdeal.nD Cert.LatBRefIdeal.τ).loc Cert.LatBRefIdeal.main_arg1)
    ∧ r.2.mem ((c.tc : Thread Cert.LatBRefIdeal.nD Cert.LatBRefIdeal.τ).loc Cert.LatBRefIdeal.main_arg2) = m' ((c.tc : Thread Cert.LatBRefIdeal.nD Cert.LatBRefIdeal.τ).loc Cert.LatBRefIdeal.main_arg2)
    ∧ r.2.mem ((c.tc : Thread Cert.LatBRefIdeal.nD Cert.LatBRefIdeal.τ).loc Cert.LatBRefIdeal.main_arg3) = m' ((c.tc : Thread Cert.LatBRefIdeal.nD Cert.LatBRefIdeal.τ).loc Cert.LatBRefIdeal.main_arg3)
    ∧ r.2.mem ((c.tc : Thread Cert.LatBRefIdeal.nD Cert.LatBRefIdeal.τ).loc Cert.LatBRefIdeal.main_arg4) = m' ((c.tc : Thread Cert.LatBRefIdeal.nD Cert.LatBRefIdeal.τ).loc Cert.LatBRefIdeal.main_arg4)
    ∧ r.2.mem ((c.tc : Thread Cert.LatBRefIdeal.nD Cert.LatBRefIdeal.τ).loc Cert.LatBRefIdeal.main_arg5) = m' ((c.tc : Thread Cert.LatBRefIdeal.nD Cert.LatBRefIdeal.τ).loc Cert.LatBRefIdeal.main_arg5)
    ∧ r.2.mem ((c.tc : Thread Cert.LatBRefIdeal.nD Cert.LatBRefIdeal.τ).loc Cert.LatBRefIdeal.main_arg6) = m' ((c.tc : Thread Cert.LatBRefIdeal.nD Cert.LatBRefIdeal.τ).loc Cert.LatBRefIdeal.main_arg6)) := by
  unfold dcq dckv dqp dkr turned joined
  exact Cert.LatBRefIdeal.Value.run m' g'

end

/-- Each of the kernel's results is the reference's. -/
theorem algebraic : Cert.algebraic_LatBIdeal_LatBRefIdeal := by
  intro m g m' g' _ hagree
  refine ⟨_, _, _, _, run_kernel m g, (θ_run Cert.LatBRefIdeal.defs _ _).mono (fun r h c => ?_) (run_ref m' g')⟩
  have e0 := (hagree c).1
  have e1 := (hagree c).2.1
  have e2 := (hagree c).2.2.1
  have e3 := (hagree c).2.2.2.1
  have e4 := (hagree c).2.2.2.2.1
  have e5 := (hagree c).2.2.2.2.2.1
  have e6 := (hagree c).2.2.2.2.2.2
  obtain ⟨h0, h1, h2, h3, hargs⟩ := h c
  rw [e0, e3, e4, e5] at h0
  rw [e1, e2, e6] at h1
  rw [e0, e3, e4] at h2
  rw [e1] at h3
  exact ⟨h0, h1, h2, h3, hargs⟩

end Cert.LatBValue

end
-- ==== Proof.Lat.Ref.lean ====
/-  The reference's queries, keys and values from the latents: the terms its run ends with, over typed variables. -/
module

public import proofs.«01_k».proof.Proof.Gen.LatRefIdeal.Run
public import Idealize.ShloMosaic.Lib.Pointwise

@[expose] public section

set_option maxRecDepth 16384

noncomputable section

namespace Cert.LatValue

open Cert.LatRefIdeal Cert.LatRefIdeal.Gen Cert.LatRefIdeal.Value Idealize.ShloMosaic Idealize.ShloMosaic.TcCoe Idealize.SL.Sem

/-- The queries before the rotary positions, by row, head and column. -/
def plain (X : FVec Ideal S2176x384 .bf16) (W : FVec Ideal S384x768 .bf16) : FVec Ideal S2176x8x96 .f32 :=
  shapeCast S2176x8x96 (Host.dotGeneral dot_S2176x384_S384x768_S2176x768_1_0_0_1_n_n none (extf .f32 X bitsLt_bf16_f32) (extf .f32 W bitsLt_bf16_f32)) shapeCasts_S2176x768_S2176x8x96

/-- The keys and values of the latents, by row, head and column. -/
def both (Y : FVec Ideal S2176x256 .bf16) (U : FVec Ideal S256x1024 .bf16) : FVec Ideal S2176x8x128 .f32 :=
  shapeCast S2176x8x128 (Host.dotGeneral dot_S2176x256_S256x1024_S2176x1024_1_0_0_1_n_n none (extf .f32 Y bitsLt_bf16_f32) (extf .f32 U bitsLt_bf16_f32)) shapeCasts_S2176x1024_S2176x8x128

/-- The reference's queries. -/
def qR (X : FVec Ideal S2176x384 .bf16) (C : FVec Ideal S2176x16 .f32) (S : FVec Ideal S2176x16 .f32) (W : FVec Ideal S384x768 .bf16) : FVec Ideal S8x2176x96 .bf16 :=
  truncf .bf16 (transpose S8x2176x96 [1, 0, 2] ((concatenate S2176x8x96 2 [⟨S2176x8x64, ((extractStridedSlice S2176x8x64 ![0, 0, 0] (plain X W) slices_S2176x8x96_S2176x8x64_0_0_0) : FVec Ideal S2176x8x64 .f32)⟩, ⟨S2176x8x16, ((subf (mulf (extractStridedSlice S2176x8x16 ![0, 0, 64] (plain X W) slices_S2176x8x96_S2176x8x16_0_0_64) (broadcastInDim S2176x8x16 ![0, 1, 2] bcast_S2176x1x16_S2176x8x16_0_1_2 (broadcastInDim S2176x1x16 ![0, 2] bcast_S2176x16_S2176x1x16_0_2 C))) (mulf (extractStridedSlice S2176x8x16 ![0, 0, 80] (plain X W) slices_S2176x8x96_S2176x8x16_0_0_80) (broadcastInDim S2176x8x16 ![0, 1, 2] bcast_S2176x1x16_S2176x8x16_0_1_2 (broadcastInDim S2176x1x16 ![0, 2] bcast_S2176x16_S2176x1x16_0_2 S)))) : FVec Ideal S2176x8x16 .f32)⟩, ⟨S2176x8x16, ((addf (mulf (extractStridedSlice S2176x8x16 ![0, 0, 80] (plain X W) slices_S2176x8x96_S2176x8x16_0_0_80) (broadcastInDim S2176x8x16 ![0, 1, 2] bcast_S2176x1x16_S2176x8x16_0_1_2 (broadcastInDim S2176x1x16 ![0, 2] bcast_S2176x16_S2176x1x16_0_2 C))) (mulf (extractStridedSlice S2176x8x16 ![0, 0, 64] (plain X W) slices_S2176x8x96_S2176x8x16_0_0_64) (broadcastInDim S2176x8x16 ![0, 1, 2] bcast_S2176x1x16_S2176x8x16_0_1_2 (broadcastInDim S2176x1x16 ![0, 2] bcast_S2176x16_S2176x1x16_0_2 S)))) : FVec Ideal S2176x8x16 .f32)⟩] concatenates_S2176x8x64_S2176x8x16_S2176x8x16_S2176x8x96_d2 : FVec Ideal S2176x8x96 .f32)) transposes_S2176x8x96_S8x2176x96_1_0_2) bitsLt_bf16_f32

/-- The reference's keys. -/
def kR (Y : FVec Ideal S2176x256 .bf16) (R : FVec Ideal S2176x32 .bf16) (U : FVec Ideal S256x1024 .bf16) : FVec Ideal S8x2176x96 .bf16 :=
  truncf .bf16 (transpose S8x2176x96 [1, 0, 2] (concatenate S2176x8x96 2 [⟨S2176x8x64, (extractStridedSlice S2176x8x64 ![0, 0, 0] (both Y U) slices_S2176x8x128_S2176x8x64_0_0_0)⟩, ⟨S2176x8x32, (broadcastInDim S2176x8x32 ![0, 1, 2] bcast_S2176x1x32_S2176x8x32_0_1_2 (broadcastInDim S2176x1x32 ![0, 2] bcast_S2176x32_S2176x1x32_0_2 (extf .f32 R bitsLt_bf16_f32)))⟩] concatenates_S2176x8x64_S2176x8x32_S2176x8x96_d2) transposes_S2176x8x96_S8x2176x96_1_0_2) bitsLt_bf16_f32

/-- The reference's values. -/
def vR (Y : FVec Ideal S2176x256 .bf16) (U : FVec Ideal S256x1024 .bf16) : FVec Ideal S8x2176x64 .bf16 :=
  truncf .bf16 (transpose S8x2176x64 [1, 0, 2] (extractStridedSlice S2176x8x64 ![0, 0, 64] (both Y U) slices_S2176x8x128_S2176x8x64_0_0_64) transposes_S2176x8x64_S8x2176x64_1_0_2) bitsLt_bf16_f32

end Cert.LatValue

end
-- ==== Proof.Lat.RefValue.lean ====
/-  The reference's queries, keys and values, entry by entry. -/
module

public import proofs.«01_k».proof.Proof.Lat.Ref
public import proofs.«01_k».proof.Proof.Lat.Tables
public import Idealize.ShloMosaic.Lib.Pipeline.ValueKit
public import Idealize.ShloMosaic.Lib.Pointwise

@[expose] public section

set_option maxRecDepth 16384

noncomputable section

namespace Cert.LatValue

open Cert.LatRefIdeal Cert.LatRefIdeal.Gen Idealize.ShloMosaic Idealize.ShloMosaic.TcCoe Idealize.SL.Sem
open Cert.Rope

variable (X : FVec Ideal S2176x384 .bf16) (Y : FVec Ideal S2176x256 .bf16) (R : FVec Ideal S2176x32 .bf16) (C S : FVec Ideal S2176x16 .f32)
  (W : FVec Ideal S384x768 .bf16) (U : FVec Ideal S256x1024 .bf16)

/-- A query before its rotary position. -/
abbrev pre (i : Fin 2176) (h : Fin 8) (j : Fin 96) : EReal := ∑ k : Fin 384, X (ix2 i k) * W (ix2 k ⟨h.val * 96 + j.val, by omega⟩)

theorem plain_at (i : Fin 2176) (h : Fin 8) (j : Fin 96) : plain X W (ix3 i h j) = pre X W i h j := by
  pointwise [plain]

theorem qR_at (h : Fin 8) (i : Fin 2176) (j : Fin 96) : qR X C S W (ix3 h i j) = turn (fun a => C (ix2 i a)) (fun a => S (ix2 i a)) (pre X W i h) j := by
  pointwise [qR]
  simp only [plain_at]
  unfold turn
  refine dite_congr rfl (fun _ => rfl) fun h1 => ?_
  by_cases h2 : j.val < 80
  · rw [dif_pos h2, dif_pos (by omega)]
    refine congrArg₂ (· - ·) (congrArg (· * _) (congrArg (pre X W i h) (Fin.ext ?_))) (congrArg (· * _) (congrArg (pre X W i h) (Fin.ext ?_)))
    all_goals simp only []; omega
  · rw [dif_neg h2, dif_neg (by omega)]
    refine congrArg₂ (· + ·) (congrArg₂ (· * ·) (congrArg (pre X W i h) (Fin.ext ?_)) (congrArg C (congrArg (ix2 i) (Fin.ext ?_))))
      (congrArg₂ (· * ·) (congrArg (pre X W i h) (Fin.ext ?_)) (congrArg S (congrArg (ix2 i) (Fin.ext ?_))))
    all_goals simp only []; omega

theorem kR_at (h : Fin 8) (i : Fin 2176) (j : Fin 96) : kR Y R U (ix3 h i j)
    = if hj : j.val < 64 then ∑ k : Fin 256, Y (ix2 i k) * U (ix2 k ⟨h.val * 128 + j.val, by omega⟩) else R (ix2 i ⟨j.val - 64, by omega⟩) := by
  pointwise [kR, both]

theorem vR_at (h : Fin 8) (i : Fin 2176) (j : Fin 64) : vR Y U (ix3 h i j) = ∑ k : Fin 256, Y (ix2 i k) * U (ix2 k ⟨h.val * 128 + (64 + j.val), by omega⟩) := by
  pointwise [vR, both]

end Cert.LatValue

end
-- ==== Proof.Lat.Blocks.lean ====
/-  The blocks the kernel for the queries, keys and values reads, entry by entry. -/
module

public import proofs.«01_k».proof.Proof.Gen.LatIdeal.Frame
public import proofs.«01_k».proof.Proof.Lat.RefValue
public import Idealize.ShloMosaic.Lib.Pipeline.ValueKit
public import Idealize.ShloMosaic.Lib.Pointwise

@[expose] public section

set_option maxRecDepth 16384

noncomputable section

namespace Cert.LatValue

open Cert.LatIdeal Cert.LatIdeal.Gen Idealize.ShloMosaic Idealize.ShloMosaic.TcCoe Idealize.SL.Sem
open Idealize.ShloMosaic.Pipeline (Dat)
open Cert.Rope

variable (m : (ℓ : Loc nD τ sig) → Buf (Elt Ideal) ℓ)

/-- The argument arrays, at their types. -/
abbrev aX (c : Dev nD) : FVec Ideal S2176x384 .bf16 := m ((c : Thread nD τ).loc main_arg0)
abbrev aY (c : Dev nD) : FVec Ideal S2176x256 .bf16 := m ((c : Thread nD τ).loc main_arg1)
abbrev aR (c : Dev nD) : FVec Ideal S2176x32 .bf16 := m ((c : Thread nD τ).loc main_arg2)
abbrev aC (c : Dev nD) : FVec Ideal S2176x16 .f32 := m ((c : Thread nD τ).loc main_arg3)
abbrev aS (c : Dev nD) : FVec Ideal S2176x16 .f32 := m ((c : Thread nD τ).loc main_arg4)
abbrev aW (c : Dev nD) : FVec Ideal S384x768 .bf16 := m ((c : Thread nD τ).loc main_arg5)
abbrev aU (c : Dev nD) : FVec Ideal S256x1024 .bf16 := m ((c : Thread nD τ).loc main_arg6)

/-- The block every window is at, at each point. -/
theorem idx : ∀ t : Fin cfg0.N, win0_0.index t = ![(grid0.coords t 0).val, 0] ∧ win0_1.index t = ![(grid0.coords t 0).val, 0] ∧ win0_2.index t = ![(grid0.coords t 0).val, 0]
    ∧ win0_3.index t = ![(grid0.coords t 0).val, 0] ∧ win0_4.index t = ![(grid0.coords t 0).val, 0] ∧ win0_5.index t = ![0, 0] ∧ win0_6.index t = ![0, 0]
    ∧ win0_7.index t = ![0, 0, 0] ∧ win0_8.index t = ![0, 0, 0] ∧ win0_9.index t = ![0, 0, 0]
    ∧ win0_10.index t = ![0, (grid0.coords t 0).val, 0] ∧ win0_11.index t = ![0, (grid0.coords t 0).val, 0] ∧ win0_12.index t = ![0, (grid0.coords t 0).val, 0] :=
  (by decide +kernel : ∀ t : Fin grid0.N, _)

/-- The row of the arrays a tile's row is. -/
def row (t : Fin cfg0.N) (r : Fin 544) : Fin 2176 := ⟨(grid0.coords t 0).val * 544 + r, by have := (grid0.coords t 0).isLt; simp at this; omega⟩

theorem entry3 (c : Dev nD) : V m c main_v33 = wideT 0x3F800000#32 (aC m c) := by
  unfold wideT aC
  after_results <;> rfl

theorem entry4 (c : Dev nD) : V m c main_v35 = wideT 0x00000000#32 (aS m c) := by
  unfold wideT aS
  after_results <;> rfl

theorem entry5 (c : Dev nD) : V m c main_v24 = rotT := by
  unfold rotT oneT upT downT rowT colT
  after_results <;> rfl

theorem entry6 (c : Dev nD) : V m c main_v31 = placeT := by
  unfold placeT rowT colT
  after_results <;> rfl

theorem entry7 (c : Dev nD) : V m c main_v37 = wqT (aW m c) := by
  unfold wqT aW
  after_results <;> rfl

theorem entry8 (c : Dev nD) : V m c main_v42 = wkT (aU m c) := by
  unfold wkT wuT aU
  after_results <;> rfl

theorem entry9 (c : Dev nD) : V m c main_v43 = wvT (aU m c) := by
  unfold wvT wuT aU
  after_results <;> rfl

theorem in0 (c : Dev nD) (t : Fin cfg0.N) (r : Fin 544) (k : Fin 384) : iblk m c 0 t (ix2 r k) = aX m c (ix2 (row t r) k) := by
  unfold row aX
  rw [← V_main_arg0 m c]
  blk_point [iblk, idx t]

theorem in1 (c : Dev nD) (t : Fin cfg0.N) (r : Fin 544) (k : Fin 256) : iblk m c 1 t (ix2 r k) = aY m c (ix2 (row t r) k) := by
  unfold row aY
  rw [← V_main_arg1 m c]
  blk_point [iblk, idx t]

theorem in2 (c : Dev nD) (t : Fin cfg0.N) (r : Fin 544) (k : Fin 32) : iblk m c 2 t (ix2 r k) = aR m c (ix2 (row t r) k) := by
  unfold row aR
  rw [← V_main_arg2 m c]
  blk_point [iblk, idx t]

theorem in3 (c : Dev nD) (t : Fin cfg0.N) (r : Fin 544) (k : Fin 96) : iblk m c 3 t (ix2 r k) = wideT 0x3F800000#32 (aC m c) (ix2 (row t r) k) := by
  rw [← entry3 m c]
  unfold row
  blk_point [iblk, idx t]

theorem in4 (c : Dev nD) (t : Fin cfg0.N) (r : Fin 544) (k : Fin 96) : iblk m c 4 t (ix2 r k) = wideT 0x00000000#32 (aS m c) (ix2 (row t r) k) := by
  rw [← entry4 m c]
  unfold row
  blk_point [iblk, idx t]

theorem in5 (c : Dev nD) (t : Fin cfg0.N) (k j : Fin 96) : iblk m c 5 t (ix2 k j) = rotT (ix2 k j) := by
  rw [← entry5 m c]
  blk_point [iblk, idx t]

theorem in6 (c : Dev nD) (t : Fin cfg0.N) (k : Fin 32) (j : Fin 96) : iblk m c 6 t (ix2 k j) = placeT (ix2 k j) := by
  rw [← entry6 m c]
  blk_point [iblk, idx t]

theorem in7 (c : Dev nD) (t : Fin cfg0.N) (h : Fin 8) (k : Fin 384) (j : Fin 96) : iblk m c 7 t (ix3 h k j) = aW m c (ix2 k ⟨h.val * 96 + j.val, by omega⟩) := by
  rw [← wq_at (aW m c), ← entry7 m c]
  blk_point [iblk, idx t]

theorem in8 (c : Dev nD) (t : Fin cfg0.N) (h : Fin 8) (k : Fin 256) (j : Fin 96) : iblk m c 8 t (ix3 h k j) = wkT (aU m c) (ix3 h k j) := by
  rw [← entry8 m c]
  blk_point [iblk, idx t]

theorem in9 (c : Dev nD) (t : Fin cfg0.N) (h : Fin 8) (k : Fin 256) (j : Fin 64) : iblk m c 9 t (ix3 h k j) = aU m c (ix2 k ⟨h.val * 128 + (64 + j.val), by omega⟩) := by
  rw [← wv_at (aU m c), ← entry9 m c]
  blk_point [iblk, idx t]

end Cert.LatValue

end
-- ==== Proof.Lat.Value.lean ====
/-  The result arrays of the kernel for the queries, keys and values: each is the reference's term of the argument arrays. -/
module

public import proofs.«01_k».proof.Proof.Lat.Blocks
public import proofs.«01_k».proof.Proof.Lat.RefValue
public import Idealize.ShloMosaic.Lib.Pipeline.ValueKit
public import Idealize.ShloMosaic.Lib.Pointwise

@[expose] public section

set_option maxRecDepth 16384

noncomputable section

namespace Cert.LatValue

open Cert.LatIdeal Cert.LatIdeal.Gen Idealize.ShloMosaic Idealize.ShloMosaic.TcCoe Idealize.SL.Sem
open Idealize.ShloMosaic.Pipeline (Dat)
open Cert.Rope

variable (m : (ℓ : Loc nD τ sig) → Buf (Elt Ideal) ℓ)

theorem ix3_congr {a b c : ℕ} {x x' : Fin a} {y y' : Fin b} {z z' : Fin c} (e0 : x = x') (e1 : y = y') (e2 : z = z') : ix3 x y z = ix3 x' y' z' := by
  rw [e0, e1, e2]

theorem q_val (c : Dev nD) (t : Fin cfg0.N) (h : Fin 8) (r : Fin 544) (j : Fin 96) :
    pre (aX m c) (aW m c) (row t r) h j * wideT 0x3F800000#32 (aC m c) (ix2 (row t r) j)
      + (∑ k : Fin 96, pre (aX m c) (aW m c) (row t r) h k * rotT (ix2 k j)) * wideT 0x00000000#32 (aS m c) (ix2 (row t r) j)
      = qR (aX m c) (aC m c) (aS m c) (aW m c) (ix3 h (row t r) j) :=
  (turn_eq (aC m c) (aS m c) (row t r) (pre (aX m c) (aW m c) (row t r) h) j).trans (qR_at _ _ _ _ h (row t r) j).symm

theorem k_val (c : Dev nD) (t : Fin cfg0.N) (h : Fin 8) (r : Fin 544) (j : Fin 96) :
    ∑ k : Fin 256, aY m c (ix2 (row t r) k) * wkT (aU m c) (ix3 h k j) + ∑ k : Fin 32, aR m c (ix2 (row t r) k) * placeT (ix2 k j)
      = kR (aY m c) (aR m c) (aU m c) (ix3 h (row t r) j) := by
  rw [kR_at]
  refine (congrArg (_ + ·) (place_sum (fun k => aR m c (ix2 (row t r) k)) j)).trans ?_
  simp only [wk_at]
  by_cases hj : j.val < 64
  · simp only [dif_pos hj, add_zero]
  · simp only [dif_neg hj, mul_zero, Finset.sum_const_zero, zero_add]

theorem v_val (c : Dev nD) (t : Fin cfg0.N) (h : Fin 8) (r : Fin 544) (j : Fin 64) :
    ∑ k : Fin 256, aY m c (ix2 (row t r) k) * aU m c (ix2 k ⟨h.val * 128 + (64 + j.val), by omega⟩) = vR (aY m c) (aU m c) (ix3 h (row t r) j) :=
  (vR_at _ _ h (row t r) j).symm

theorem emb10 (t : Fin cfg0.N) (y : S8x544x96.Idx) : ((cfg0.win 10).blk t).view.emb y = ix3 (y 0) (row t (y 1)) (y 2) := by
  refine (eq_ix3 _).trans (ix3_congr (Fin.ext ?_) (Fin.ext ?_) (Fin.ext ?_))
  all_goals
    try unfold row
    blk_point [idx t]

/-- What a point leaves of the queries. -/
theorem point10 (c : Dev nD) (t : Fin cfg0.N) (y : S8x544x96.Idx) : out0_10 (iblk m c 0 t) (iblk m c 1 t) (iblk m c 2 t) (iblk m c 3 t) (iblk m c 4 t) (iblk m c 5 t) (iblk m c 6 t) (iblk m c 7 t) (iblk m c 8 t) (iblk m c 9 t) y
    = qR (aX m c) (aC m c) (aS m c) (aW m c) (ix3 (y 0) (row t (y 1)) (y 2)) := by
  canon_tiles y h
  all_goals
    obtain ⟨a, r, j, rfl⟩ : ∃ (a : Fin 1) (r : Fin 544) (j : Fin 96), y = ix3 a r j := ⟨y 0, y 1, y 2, eq_ix3 y⟩
    obtain rfl : a = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    simp only [in0, in1, in2, in3, in4, in5, in6, in7, in8, in9]
    refine (q_val m c t _ r j).trans (congrArg _ (ix3_congr (Fin.ext ?_) (congrArg (row t) (Fin.ext ?_)) (Fin.ext ?_)))
    all_goals first | exact h0.symm | exact h1.symm | exact h2.symm

/-- The array of the queries, after the run. -/
theorem final10 (c : Dev nD) : (dats m 0 c).arrAt 10 (cfgs 0).N = qR (aX m c) (aC m c) (aS m c) (aW m c) := by
  refine (dats m 0 c).arrAt_eq_of_covers 10 _ (by decide +kernel) fun t _ y => ?_
  blk_simp
  rw [after0_10]
  exact (point10 m c t y).trans (congrArg _ (emb10 t y).symm)

theorem emb11 (t : Fin cfg0.N) (y : S8x544x96.Idx) : ((cfg0.win 11).blk t).view.emb y = ix3 (y 0) (row t (y 1)) (y 2) := by
  refine (eq_ix3 _).trans (ix3_congr (Fin.ext ?_) (Fin.ext ?_) (Fin.ext ?_))
  all_goals
    try unfold row
    blk_point [idx t]

/-- What a point leaves of the keys. -/
theorem point11 (c : Dev nD) (t : Fin cfg0.N) (y : S8x544x96.Idx) : out0_11 (iblk m c 0 t) (iblk m c 1 t) (iblk m c 2 t) (iblk m c 3 t) (iblk m c 4 t) (iblk m c 5 t) (iblk m c 6 t) (iblk m c 7 t) (iblk m c 8 t) (iblk m c 9 t) y
    = kR (aY m c) (aR m c) (aU m c) (ix3 (y 0) (row t (y 1)) (y 2)) := by
  canon_tiles y h
  all_goals
    obtain ⟨a, r, j, rfl⟩ : ∃ (a : Fin 1) (r : Fin 544) (j : Fin 96), y = ix3 a r j := ⟨y 0, y 1, y 2, eq_ix3 y⟩
    obtain rfl : a = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    simp only [in0, in1, in2, in3, in4, in5, in6, in7, in8, in9]
    refine (k_val m c t _ r j).trans (congrArg _ (ix3_congr (Fin.ext ?_) (congrArg (row t) (Fin.ext ?_)) (Fin.ext ?_)))
    all_goals first | exact h0.symm | exact h1.symm | exact h2.symm

/-- The array of the keys, after the run. -/
theorem final11 (c : Dev nD) : (dats m 0 c).arrAt 11 (cfgs 0).N = kR (aY m c) (aR m c) (aU m c) := by
  refine (dats m 0 c).arrAt_eq_of_covers 11 _ (by decide +kernel) fun t _ y => ?_
  blk_simp
  rw [after0_11]
  exact (point11 m c t y).trans (congrArg _ (emb11 t y).symm)

theorem emb12 (t : Fin cfg0.N) (y : S8x544x64.Idx) : ((cfg0.win 12).blk t).view.emb y = ix3 (y 0) (row t (y 1)) (y 2) := by
  refine (eq_ix3 _).trans (ix3_congr (Fin.ext ?_) (Fin.ext ?_) (Fin.ext ?_))
  all_goals
    try unfold row
    blk_point [idx t]

/-- What a point leaves of the values. -/
theorem point12 (c : Dev nD) (t : Fin cfg0.N) (y : S8x544x64.Idx) : out0_12 (iblk m c 0 t) (iblk m c 1 t) (iblk m c 2 t) (iblk m c 3 t) (iblk m c 4 t) (iblk m c 5 t) (iblk m c 6 t) (iblk m c 7 t) (iblk m c 8 t) (iblk m c 9 t) y
    = vR (aY m c) (aU m c) (ix3 (y 0) (row t (y 1)) (y 2)) := by
  canon_tiles y h
  all_goals
    obtain ⟨a, r, j, rfl⟩ : ∃ (a : Fin 1) (r : Fin 544) (j : Fin 64), y = ix3 a r j := ⟨y 0, y 1, y 2, eq_ix3 y⟩
    obtain rfl : a = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    simp only [in0, in1, in2, in3, in4, in5, in6, in7, in8, in9]
    refine (v_val m c t _ r j).trans (congrArg _ (ix3_congr (Fin.ext ?_) (congrArg (row t) (Fin.ext ?_)) (Fin.ext ?_)))
    all_goals first | exact h0.symm | exact h1.symm | exact h2.symm

/-- The array of the values, after the run. -/
theorem final12 (c : Dev nD) : (dats m 0 c).arrAt 12 (cfgs 0).N = vR (aY m c) (aU m c) := by
  refine (dats m 0 c).arrAt_eq_of_covers 12 _ (by decide +kernel) fun t _ y => ?_
  blk_simp
  rw [after0_12]
  exact (point12 m c t y).trans (congrArg _ (emb12 t y).symm)

end Cert.LatValue

end
-- ==== Proof.Lat.Claims.lean ====
/-  The claims about the queries, keys and values. -/
module

public import proofs.«01_k».proof.Defs
public import proofs.«01_k».proof.Proof.Gen.Lat.Frame
public import proofs.«01_k».proof.Proof.Gen.LatIdeal.Frame
public import proofs.«01_k».proof.Proof.Gen.LatRefIdeal.Run
public import proofs.«01_k».proof.Proof.Lat.Value
public import Idealize.ShloMosaic.Lib.Quiescent
public import Idealize.ShloMosaic.Lib.Claim

@[expose] public section

set_option maxRecDepth 16384

noncomputable section

namespace Cert.LatValue

open Idealize.ShloMosaic Idealize.ShloMosaic.TcCoe Idealize.SL.Sem

theorem frame_kernel : Cert.quiescent_Lat := fun m ρ _ => Cert.Lat.Gen.frame m ρ
theorem frame_ideal : Cert.quiescent_LatIdeal := fun m ρ _ => Cert.LatIdeal.Gen.frame m ρ

theorem frame_ref : Cert.quiescent_LatRefIdeal := fun m ρ _ =>
  (θ_run Cert.LatRefIdeal.defs _ _).mono (fun r h => ⟨fun c => (h c).2.2.2, sem_eq_zero_of_no_sems (by decide) r.2⟩)
    (Cert.LatRefIdeal.Value.run (F := Ideal) m ρ)

section

variable (m : (ℓ : Loc Cert.LatIdeal.nD Cert.LatIdeal.τ Cert.LatIdeal.sig) → Buf (Elt Ideal) ℓ) (g : Dev Cert.LatIdeal.nD → PrngReg)

set_option maxHeartbeats 1000000 in
/-- The kernel's run: its results at the reference's terms, its arguments unchanged. -/
theorem run_kernel : θ_run (Cert.LatIdeal.defs (F := Ideal)) (onTc (τ := Cert.LatIdeal.τ) (Cert.LatIdeal.main (F := Ideal))) ⟨m, fun _ => 0, g⟩ (fun r => ∀ c : Dev Cert.LatIdeal.nD,
    r.2.mem ((c.tc : Thread Cert.LatIdeal.nD Cert.LatIdeal.τ).loc Cert.LatIdeal.main_v44_0) = qR (aX m c) (aC m c) (aS m c) (aW m c)
    ∧ r.2.mem ((c.tc : Thread Cert.LatIdeal.nD Cert.LatIdeal.τ).loc Cert.LatIdeal.main_v44_1) = kR (aY m c) (aR m c) (aU m c)
    ∧ r.2.mem ((c.tc : Thread Cert.LatIdeal.nD Cert.LatIdeal.τ).loc Cert.LatIdeal.main_v44_2) = vR (aY m c) (aU m c)
    ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
    ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
    ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
    ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
    ∧ r.2.mem ((c.tc : Thread Cert.LatIdeal.nD Cert.LatIdeal.τ).loc Cert.LatIdeal.main_arg4) = m ((c.tc : Thread Cert.LatIdeal.nD Cert.LatIdeal.τ).loc Cert.LatIdeal.main_arg4)
    ∧ r.2.mem ((c.tc : Thread Cert.LatIdeal.nD Cert.LatIdeal.τ).loc Cert.LatIdeal.main_arg5) = m ((c.tc : Thread Cert.LatIdeal.nD Cert.LatIdeal.τ).loc Cert.LatIdeal.main_arg5)
    ∧ r.2.mem ((c.tc : Thread Cert.LatIdeal.nD Cert.LatIdeal.τ).loc Cert.LatIdeal.main_arg6) = m ((c.tc : Thread Cert.LatIdeal.nD Cert.LatIdeal.τ).loc Cert.LatIdeal.main_arg6)) := by
  run_from Cert.LatIdeal.Gen.unchanged m g & Cert.LatIdeal.Gen.run_main m g
  · exact final10 m c
  · exact final11 m c
  · exact final12 m c

variable (m' : (ℓ : Loc Cert.LatRefIdeal.nD Cert.LatRefIdeal.τ Cert.LatRefIdeal.sig) → Buf (Elt Ideal) ℓ) (g' : Dev Cert.LatRefIdeal.nD → PrngReg)

/-- The reference's run, its results named. -/
theorem run_ref : θ_run (Cert.LatRefIdeal.defs (F := Ideal)) (onTc (τ := Cert.LatRefIdeal.τ) (Cert.LatRefIdeal.main (F := Ideal))) ⟨m', fun _ => 0, g'⟩ (fun r => ∀ c : Dev Cert.LatRefIdeal.nD,
    r.2.mem ((c.tc : Thread Cert.LatRefIdeal.nD Cert.LatRefIdeal.τ).loc Cert.LatRefIdeal.main_v31) = qR (m' ((c.tc : Thread Cert.LatRefIdeal.nD Cert.LatRefIdeal.τ).loc Cert.LatRefIdeal.main_arg0)) (m' ((c.tc : Thread Cert.LatRefIdeal.nD Cert.LatRefIdeal.τ).loc Cert.LatRefIdeal.main_arg3)) (m' ((c.tc : Thread Cert.LatRefIdeal.nD Cert.LatRefIdeal.τ).loc Cert.LatRefIdeal.main_arg4)) (m' ((c.tc : Thread Cert.LatRefIdeal.nD Cert.LatRefIdeal.τ).loc Cert.LatRefIdeal.main_arg5))
    ∧ r.2.mem ((c.tc : Thread Cert.LatRefIdeal.nD Cert.LatRefIdeal.τ).loc Cert.LatRefIdeal.main_v33) = kR (m' ((c.tc : Thread Cert.LatRefIdeal.nD Cert.LatRefIdeal.τ).loc Cert.LatRefIdeal.main_arg1)) (m' ((c.tc : Thread Cert.LatRefIdeal.nD Cert.LatRefIdeal.τ).loc Cert.LatRefIdeal.main_arg2)) (m' ((c.tc : Thread Cert.LatRefIdeal.nD Cert.LatRefIdeal.τ).loc Cert.LatRefIdeal.main_arg6))
    ∧ r.2.mem ((c.tc : Thread Cert.LatRefIdeal.nD Cert.LatRefIdeal.τ).loc Cert.LatRefIdeal.main_v35) = vR (m' ((c.tc : Thread Cert.LatRefIdeal.nD Cert.LatRefIdeal.τ).loc Cert.LatRefIdeal.main_arg1)) (m' ((c.tc : Thread Cert.LatRefIdeal.nD Cert.LatRefIdeal.τ).loc Cert.LatRefIdeal.main_arg6))
    ∧ r.2.mem ((c.tc : Thread Cert.LatRefIdeal.nD Cert.LatRefIdeal.τ).loc Cert.LatRefIdeal.main_arg0) = m' ((c.tc : Thread Cert.LatRefIdeal.nD Cert.LatRefIdeal.τ).loc Cert.LatRefIdeal.main_arg0)
    ∧ r.2.mem ((c.tc : Thread Cert.LatRefIdeal.nD Cert.LatRefIdeal.τ).loc Cert.LatRefIdeal.main_arg1) = m' ((c.tc : Thread Cert.LatRefIdeal.nD Cert.LatRefIdeal.τ).loc Cert.LatRefIdeal.main_arg1)
    ∧ r.2.mem ((c.tc : Thread Cert.LatRefIdeal.nD Cert.LatRefIdeal.τ).loc Cert.LatRefIdeal.main_arg2) = m' ((c.tc : Thread Cert.LatRefIdeal.nD Cert.LatRefIdeal.τ).loc Cert.LatRefIdeal.main_arg2)
    ∧ r.2.mem ((c.tc : Thread Cert.LatRefIdeal.nD Cert.LatRefIdeal.τ).loc Cert.LatRefIdeal.main_arg3) = m' ((c.tc : Thread Cert.LatRefIdeal.nD Cert.LatRefIdeal.τ).loc Cert.LatRefIdeal.main_arg3)
    ∧ r.2.mem ((c.tc : Thread Cert.LatRefIdeal.nD Cert.LatRefIdeal.τ).loc Cert.LatRefIdeal.main_arg4) = m' ((c.tc : Thread Cert.LatRefIdeal.nD Cert.LatRefIdeal.τ).loc Cert.LatRefIdeal.main_arg4)
    ∧ r.2.mem ((c.tc : Thread Cert.LatRefIdeal.nD Cert.LatRefIdeal.τ).loc Cert.LatRefIdeal.main_arg5) = m' ((c.tc : Thread Cert.LatRefIdeal.nD Cert.LatRefIdeal.τ).loc Cert.LatRefIdeal.main_arg5)
    ∧ r.2.mem ((c.tc : Thread Cert.LatRefIdeal.nD Cert.LatRefIdeal.τ).loc Cert.LatRefIdeal.main_arg6) = m' ((c.tc : Thread Cert.LatRefIdeal.nD Cert.LatRefIdeal.τ).loc Cert.LatRefIdeal.main_arg6)) := by
  unfold qR kR vR plain both
  exact Cert.LatRefIdeal.Value.run m' g'

end

/-- Each of the kernel's results is the reference's. -/
theorem algebraic : Cert.algebraic_LatIdeal_LatRefIdeal := by
  intro m g m' g' _ hagree
  refine ⟨_, _, _, run_kernel m g, (θ_run Cert.LatRefIdeal.defs _ _).mono (fun r h c => ?_) (run_ref m' g')⟩
  have e0 := (hagree c).1
  have e1 := (hagree c).2.1
  have e2 := (hagree c).2.2.1
  have e3 := (hagree c).2.2.2.1
  have e4 := (hagree c).2.2.2.2.1
  have e5 := (hagree c).2.2.2.2.2.1
  have e6 := (hagree c).2.2.2.2.2.2
  obtain ⟨h0, h1, h2, hargs⟩ := h c
  rw [e0, e3, e4, e5] at h0
  rw [e1, e2, e6] at h1
  rw [e1, e6] at h2
  exact ⟨h0, h1, h2, hargs⟩

end Cert.LatValue

end
-- ==== Proof.CsDx.Ref.lean ====
/-  The reference's results for the gradient of the states by their output product: the terms its run ends with, over typed variables. -/
module

public import proofs.«01_k».proof.Proof.Gen.CsDxRefIdeal.Run
public import Idealize.ShloMosaic.Lib.Pointwise

@[expose] public section

set_option maxRecDepth 16384

noncomputable section

namespace Cert.CsDxValue

open Cert.CsDxRefIdeal Cert.CsDxRefIdeal.Gen Cert.CsDxRefIdeal.Value Idealize.ShloMosaic Idealize.ShloMosaic.TcCoe Idealize.SL.Sem

/-- The reference's gradient of the states. -/
def dX (D : FVec Ideal S2176x512 .bf16) (A : FVec Ideal S32x16x64 .f32) (B : FVec Ideal S32x16x64 .f32) : FVec Ideal S2x2176x2048 .f32 :=
  concatenate S2x2176x2048 0 [⟨S1x2176x2048, (broadcastInDim S1x2176x2048 ![1, 2] bcast_S2176x2048_S1x2176x2048_1_2 (shapeCast _ (transpose S2176x32x64 [1, 0, 2] (Host.dotGeneral dot_S32x2176x16_S32x16x64_S32x2176x64_2_1_1_2_0_0 none (transpose S32x2176x16 [1, 0, 2] (shapeCast _ (extf .f32 D bitsLt_bf16_f32) shapeCasts_S2176x512_S2176x32x16) transposes_S2176x32x16_S32x2176x16_1_0_2) A) transposes_S32x2176x64_S2176x32x64_1_0_2) shapeCasts_S2176x32x64_S2176x2048))⟩, ⟨S1x2176x2048, (broadcastInDim S1x2176x2048 ![1, 2] bcast_S2176x2048_S1x2176x2048_1_2 (shapeCast _ (transpose S2176x32x64 [1, 0, 2] (Host.dotGeneral dot_S32x2176x16_S32x16x64_S32x2176x64_2_1_1_2_0_0 none (transpose S32x2176x16 [1, 0, 2] (Host.negf (shapeCast _ (extf .f32 D bitsLt_bf16_f32) shapeCasts_S2176x512_S2176x32x16)) transposes_S2176x32x16_S32x2176x16_1_0_2) B) transposes_S32x2176x64_S2176x32x64_1_0_2) shapeCasts_S2176x32x64_S2176x2048))⟩] concatenates_S1x2176x2048_S1x2176x2048_S2x2176x2048_d0

end Cert.CsDxValue

end
-- ==== Proof.CsDx.Tables.lean ====
/-  The block diagonal weights the host lays out for the states' gradient, and the reference's term, entry by entry. -/
module

public import proofs.«01_k».proof.Proof.Gen.CsDxIdeal.Frame
public import proofs.«01_k».proof.Proof.CsDx.Ref
public import proofs.«01_k».proof.Proof.Lat.Tables
public import Idealize.ShloMosaic.Lib.Pipeline.ValueKit
public import Idealize.ShloMosaic.Lib.Pointwise

@[expose] public section

set_option maxRecDepth 16384

noncomputable section

namespace Cert.CsDxValue

open Cert.CsDxIdeal Cert.CsDxIdeal.Gen Idealize.ShloMosaic Idealize.ShloMosaic.TcCoe Idealize.SL.Sem

/-- The ones on the diagonal of the groups of a block. -/
def eyeT : FVec Ideal S8x8 .f32 :=
  uitofp .f32 (cmpi .eq (addi (iotaInDim S8x8 32 0) (broadcastInDim S8x8 ![] bcast_S_S8x8 (constantI S_ 32 0#32))) (iotaInDim S8x8 32 1))

/-- One part's weights, each group's on the diagonal of its block. -/
def diagT (A : FVec Ideal S32x16x64 .f32) : FVec Ideal S4x512x128 .f32 :=
  shapeCast S4x512x128 (mulf (broadcastInDim S4x8x64x8x16 ![0, 1, 2, 3, 4] bcast_S4x8x64x1x16_S4x8x64x8x16_0_1_2_3_4
      (broadcastInDim S4x8x64x1x16 ![0, 1, 2, 4] bcast_S4x8x64x16_S4x8x64x1x16_0_1_2_4
        (shapeCast S4x8x64x16 (transpose S32x64x16 [0, 2, 1] A transposes_S32x16x64_S32x64x16_0_2_1) shapeCasts_S32x64x16_S4x8x64x16)))
    (broadcastInDim S4x8x64x8x16 ![0, 1, 2, 3, 4] bcast_S1x8x1x8x1_S4x8x64x8x16_0_1_2_3_4 (broadcastInDim S1x8x1x8x1 ![1, 3] bcast_S8x8_S1x8x1x8x1_1_3 eyeT)))
    shapeCasts_S4x8x64x8x16_S4x512x128

/-- Both parts' weights, the imaginary ones negated. -/
def ctT (A B : FVec Ideal S32x16x64 .f32) : FVec Ideal S2x4x512x128 .bf16 :=
  truncf .bf16 (concatenate S2x4x512x128 0 [⟨S1x4x512x128, (broadcastInDim S1x4x512x128 ![1, 2, 3] bcast_S4x512x128_S1x4x512x128_1_2_3 (diagT A) : FVec Ideal S1x4x512x128 .f32)⟩,
    ⟨S1x4x512x128, (broadcastInDim S1x4x512x128 ![1, 2, 3] bcast_S4x512x128_S1x4x512x128_1_2_3 (Host.negf (diagT B)) : FVec Ideal S1x4x512x128 .f32)⟩]
    concatenates_S1x4x512x128_S1x4x512x128_S2x4x512x128_d0) bitsLt_bf16_f32

theorem word_eye : ∀ g h : Fin 8, IntOp.cmpi .eq (IntOp.addi (BitVec.ofNat 32 g.val) 0#32) (BitVec.ofNat 32 h.val) = if g = h then 1#1 else 0#1 := by decide +kernel

theorem eye_at (g h : Fin 8) : eyeT (ix2 g h) = if g = h then (1 : EReal) else 0 := by
  pointwise [eyeT]
  rw [word_eye g h]
  split_ifs
  · show (((1#1 : BitVec 1).toNat : ℝ) : EReal) = 1
    simp
  · show (((0#1 : BitVec 1).toNat : ℝ) : EReal) = 0
    simp

theorem diag_at (A : FVec Ideal S32x16x64 .f32) (q : Fin 4) (k : Fin 512) (g : Fin 8) (h : Fin 16) : diagT A (ix3 q k ⟨g.val * 16 + h.val, by omega⟩)
    = A (ix3 ⟨q.val * 8 + k.val / 64, by omega⟩ h ⟨k.val % 64, by omega⟩) * eyeT (ix2 ⟨k.val / 64, by omega⟩ g) := by
  pointwise [diagT]

theorem ct_re (A B : FVec Ideal S32x16x64 .f32) (q : Fin 4) (k : Fin 512) (j : Fin 128) : ctT A B (ix4 0 q k j) = diagT A (ix3 q k j) := by
  pointwise [ctT]

theorem ct_im (A B : FVec Ideal S32x16x64 .f32) (q : Fin 4) (k : Fin 512) (j : Fin 128) : ctT A B (ix4 1 q k j) = -diagT B (ix3 q k j) := by
  pointwise [ctT]

theorem dX_re (D : FVec Ideal S2176x512 .bf16) (A B : FVec Ideal S32x16x64 .f32) (i : Fin 2176) (q : Fin 4) (k : Fin 512) : dX D A B (ix3 0 i ⟨q.val * 512 + k.val, by omega⟩)
    = ∑ h : Fin 16, D (ix2 i ⟨(q.val * 8 + k.val / 64) * 16 + h.val, by omega⟩) * A (ix3 ⟨q.val * 8 + k.val / 64, by omega⟩ h ⟨k.val % 64, by omega⟩) := by
  pointwise [dX]
  have e1 : (q.val * 512 + k.val) / 64 = q.val * 8 + k.val / 64 := by omega
  have e2 : (q.val * 512 + k.val) % 64 = k.val % 64 := by omega
  simp only [e1, e2]

theorem dX_im (D : FVec Ideal S2176x512 .bf16) (A B : FVec Ideal S32x16x64 .f32) (i : Fin 2176) (q : Fin 4) (k : Fin 512) : dX D A B (ix3 1 i ⟨q.val * 512 + k.val, by omega⟩)
    = ∑ h : Fin 16, -D (ix2 i ⟨(q.val * 8 + k.val / 64) * 16 + h.val, by omega⟩) * B (ix3 ⟨q.val * 8 + k.val / 64, by omega⟩ h ⟨k.val % 64, by omega⟩) := by
  pointwise [dX]
  have e1 : (q.val * 512 + k.val) / 64 = q.val * 8 + k.val / 64 := by omega
  have e2 : (q.val * 512 + k.val) % 64 = k.val % 64 := by omega
  simp only [e1, e2]

theorem pick_eye (f : Fin 8 → Fin 16 → EReal) (w : Fin 16 → EReal) (a : Fin 8) :
    ∑ g : Fin 8, ∑ h : Fin 16, f g h * (w h * eyeT (ix2 a g)) = ∑ h : Fin 16, f a h * w h := by
  simp only [eye_at]
  rw [Finset.sum_eq_single a]
  · simp
  · intro g _ hg
    rw [if_neg (Ne.symm hg)]
    simp
  · simp

theorem pick_neg (f : Fin 8 → Fin 16 → EReal) (w : Fin 16 → EReal) (a : Fin 8) :
    ∑ g : Fin 8, ∑ h : Fin 16, f g h * -(w h * eyeT (ix2 a g)) = ∑ h : Fin 16, -f a h * w h := by
  refine (Finset.sum_congr rfl fun g _ => Finset.sum_congr rfl fun h _ => ?_).trans (pick_eye (fun g h => -f g h) w a)
  rw [mul_neg, neg_mul]

/-- A row against a block's column is the row's group against the group's weights. -/
theorem val (D : FVec Ideal S2176x512 .bf16) (A B : FVec Ideal S32x16x64 .f32) (o : Fin 2) (i : Fin 2176) (q : Fin 4) (k : Fin 512) :
    ∑ j : Fin 128, D (ix2 i ⟨q.val * 128 + j.val, by omega⟩) * ctT A B (ix4 o q k j) = dX D A B (ix3 o i ⟨q.val * 512 + k.val, by omega⟩) := by
  rw [Cert.Rope.sum_heads (n := 8) (k := 16) rfl]
  have e : ∀ h : Fin 16, D (ix2 i ⟨q.val * 128 + (k.val / 64 * 16 + h.val), by omega⟩) = D (ix2 i ⟨(q.val * 8 + k.val / 64) * 16 + h.val, by omega⟩) :=
    fun h => congrArg (fun z => D (ix2 i z)) (Fin.ext (by show q.val * 128 + (k.val / 64 * 16 + h.val) = (q.val * 8 + k.val / 64) * 16 + h.val; omega))
  obtain rfl | rfl : o = 0 ∨ o = 1 := by omega
  · simp only [ct_re, diag_at]
    rw [dX_re]
    refine (pick_eye (fun g h => D (ix2 i ⟨q.val * 128 + (g.val * 16 + h.val), by omega⟩)) _ _).trans ?_
    exact Finset.sum_congr rfl fun h _ => congrArg (· * _) (e h)
  · simp only [ct_im, diag_at]
    rw [dX_im]
    refine (pick_neg (fun g h => D (ix2 i ⟨q.val * 128 + (g.val * 16 + h.val), by omega⟩)) _ _).trans ?_
    exact Finset.sum_congr rfl fun h _ => congrArg (-· * _) (e h)

end Cert.CsDxValue

end
-- ==== Proof.CsDx.Value.lean ====
/-  The result array of the kernel for the gradient of the states by their output product: the reference's term of the argument arrays. -/
module

public import proofs.«01_k».proof.Proof.CsDx.Tables

@[expose] public section

set_option maxRecDepth 16384

noncomputable section

namespace Cert.CsDxValue

open Cert.CsDxIdeal Cert.CsDxIdeal.Gen Idealize.ShloMosaic Idealize.ShloMosaic.TcCoe Idealize.SL.Sem
open Idealize.ShloMosaic.Pipeline (Dat)

variable (m : (ℓ : Loc nD τ sig) → Buf (Elt Ideal) ℓ)

/-- The argument arrays, at their types. -/
abbrev aD (c : Dev nD) : FVec Ideal S2176x512 .bf16 := m ((c : Thread nD τ).loc main_arg0)
abbrev aA (c : Dev nD) : FVec Ideal S32x16x64 .f32 := m ((c : Thread nD τ).loc main_arg1)
abbrev aB (c : Dev nD) : FVec Ideal S32x16x64 .f32 := m ((c : Thread nD τ).loc main_arg2)

/-- The block every window is at, at each point. -/
theorem idx : ∀ t : Fin cfg0.N, win0_0.index t = ![0, (grid0.coords t 1).val, 0] ∧ win0_1.index t = ![(grid0.coords t 0).val, 0, 0, 0]
    ∧ win0_2.index t = ![(grid0.coords t 0).val, (grid0.coords t 1).val, 0] :=
  (by decide +kernel : ∀ t : Fin grid0.N, _)

/-- The row of the arrays a tile's row is. -/
def row (t : Fin cfg0.N) (r : Fin 544) : Fin 2176 := ⟨(grid0.coords t 1).val * 544 + r, by have := (grid0.coords t 1).isLt; simp at this; omega⟩

/-- The part of the states a point computes. -/
def part (t : Fin cfg0.N) : Fin 2 := ⟨(grid0.coords t 0).val, by have := (grid0.coords t 0).isLt; simp at this; omega⟩

theorem entry0 (c : Dev nD) : V m c main_v0 = broadcastInDim S1x2176x512 ![1, 2] bcast_S2176x512_S1x2176x512_1_2 (aD m c) := by
  unfold aD
  after_results <;> rfl

theorem entry1 (c : Dev nD) : V m c main_v33 = ctT (aA m c) (aB m c) := by
  unfold ctT diagT eyeT aA aB
  after_results <;> rfl

theorem in0 (c : Dev nD) (t : Fin cfg0.N) (r : Fin 544) (k : Fin 512) : iblk m c 0 t (ix3 0 r k) = aD m c (ix2 (row t r) k) := by
  unfold row
  have e : (broadcastInDim S1x2176x512 ![1, 2] bcast_S2176x512_S1x2176x512_1_2 (aD m c) : FVec Ideal S1x2176x512 .bf16) (ix3 0 (row t r) k) = aD m c (ix2 (row t r) k) := by
    pointwise []
  refine Eq.trans ?_ e
  rw [← entry0 m c]
  unfold row
  blk_point [iblk, idx t]

theorem in1 (c : Dev nD) (t : Fin cfg0.N) (q : Fin 4) (k : Fin 512) (j : Fin 128) : iblk m c 1 t (ix4 0 q k j) = ctT (aA m c) (aB m c) (ix4 (part t) q k j) := by
  rw [← entry1 m c]
  unfold part
  blk_point [iblk, idx t]

theorem ix3_congr {a b c : ℕ} {x x' : Fin a} {y y' : Fin b} {z z' : Fin c} (e0 : x = x') (e1 : y = y') (e2 : z = z') : ix3 x y z = ix3 x' y' z' := by
  rw [e0, e1, e2]

theorem emb2 (t : Fin cfg0.N) (y : S1x544x2048.Idx) : ((cfg0.win 2).blk t).view.emb y = ix3 (part t) (row t (y 1)) (y 2) := by
  refine (eq_ix3 _).trans (ix3_congr (Fin.ext ?_) (Fin.ext ?_) (Fin.ext ?_))
  all_goals
    try unfold row
    try unfold part
    blk_point [idx t]

/-- What a point leaves of the states' gradient. -/
theorem point2 (c : Dev nD) (t : Fin cfg0.N) (y : S1x544x2048.Idx) : out0_2 (iblk m c 0 t) (iblk m c 1 t) y
    = dX (aD m c) (aA m c) (aB m c) (ix3 (part t) (row t (y 1)) (y 2)) := by
  canon_tiles y h
  all_goals
    obtain ⟨a, r, k, rfl⟩ : ∃ (a : Fin 1) (r : Fin 544) (k : Fin 512), y = ix3 a r k := ⟨y 0, y 1, y 2, eq_ix3 y⟩
    obtain rfl : a = 0 := Subsingleton.elim _ _
    pointwise [k0_pay1, k0_pay2, k0_pay3, k0_pay4, k0_pay5]
    simp only [in0, in1]
    first
      | refine (val (aD m c) (aA m c) (aB m c) (part t) (row t r) 3 k).trans (congrArg _ (ix3_congr rfl (congrArg (row t) (Fin.ext ?_)) (Fin.ext ?_)))
      | refine (val (aD m c) (aA m c) (aB m c) (part t) (row t r) 2 k).trans (congrArg _ (ix3_congr rfl (congrArg (row t) (Fin.ext ?_)) (Fin.ext ?_)))
      | refine (val (aD m c) (aA m c) (aB m c) (part t) (row t r) 1 k).trans (congrArg _ (ix3_congr rfl (congrArg (row t) (Fin.ext ?_)) (Fin.ext ?_)))
      | refine (Eq.trans (Finset.sum_congr rfl fun j _ => congrArg (fun z => aD m c (ix2 (row t r) z) * _) (Fin.ext (Nat.zero_add _).symm)) (val (aD m c) (aA m c) (aB m c) (part t) (row t r) 0 k)).trans (congrArg _ (ix3_congr rfl (congrArg (row t) (Fin.ext ?_)) (Fin.ext ?_)))
    all_goals first | exact h0.symm | exact h1.symm | exact h2.symm | exact (congrArg (· + k.val) (Nat.zero_mul 512)).trans ((Nat.zero_add _).trans h2.symm)

/-- The array of the states' gradient, after the run. -/
theorem final2 (c : Dev nD) : (dats m 0 c).arrAt 2 (cfgs 0).N = dX (aD m c) (aA m c) (aB m c) := by
  refine (dats m 0 c).arrAt_eq_of_covers 2 _ (by decide +kernel) fun t _ y => ?_
  blk_simp
  rw [after0_2]
  exact (point2 m c t y).trans (congrArg _ (emb2 t y).symm)

end Cert.CsDxValue

end
-- ==== Proof.CsDx.Claims.lean ====
/-  The claims about the gradient of the states by their output product. -/
module

public import proofs.«01_k».proof.Defs
public import proofs.«01_k».proof.Proof.Gen.CsDx.Frame
public import proofs.«01_k».proof.Proof.Gen.CsDxIdeal.Frame
public import proofs.«01_k».proof.Proof.Gen.CsDxRefIdeal.Run
public import proofs.«01_k».proof.Proof.CsDx.Value
public import Idealize.ShloMosaic.Lib.Quiescent
public import Idealize.ShloMosaic.Lib.Claim

@[expose] public section

set_option maxRecDepth 16384

noncomputable section

namespace Cert.CsDxValue

open Idealize.ShloMosaic Idealize.ShloMosaic.TcCoe Idealize.SL.Sem

theorem frame_kernel : Cert.quiescent_CsDx := fun m ρ _ => Cert.CsDx.Gen.frame m ρ
theorem frame_ideal : Cert.quiescent_CsDxIdeal := fun m ρ _ => Cert.CsDxIdeal.Gen.frame m ρ

theorem frame_ref : Cert.quiescent_CsDxRefIdeal := fun m ρ _ =>
  (θ_run Cert.CsDxRefIdeal.defs _ _).mono (fun r h => ⟨fun c => (h c).2, sem_eq_zero_of_no_sems (by decide) r.2⟩)
    (Cert.CsDxRefIdeal.Value.run (F := Ideal) m ρ)

section

variable (m : (ℓ : Loc Cert.CsDxIdeal.nD Cert.CsDxIdeal.τ Cert.CsDxIdeal.sig) → Buf (Elt Ideal) ℓ) (g : Dev Cert.CsDxIdeal.nD → PrngReg)

set_option maxHeartbeats 1000000 in
/-- The kernel's run: its results at the reference's terms, its arguments unchanged. -/
theorem run_kernel : θ_run (Cert.CsDxIdeal.defs (F := Ideal)) (onTc (τ := Cert.CsDxIdeal.τ) (Cert.CsDxIdeal.main (F := Ideal))) ⟨m, fun _ => 0, g⟩ (fun r => ∀ c : Dev Cert.CsDxIdeal.nD,
    r.2.mem ((c.tc : Thread Cert.CsDxIdeal.nD Cert.CsDxIdeal.τ).loc Cert.CsDxIdeal.main_v34) = dX (aD m c) (aA m c) (aB m c)
    ∧ r.2.mem ((c.tc : Thread Cert.CsDxIdeal.nD Cert.CsDxIdeal.τ).loc Cert.CsDxIdeal.main_arg0) = m ((c.tc : Thread Cert.CsDxIdeal.nD Cert.CsDxIdeal.τ).loc Cert.CsDxIdeal.main_arg0)
    ∧ r.2.mem ((c.tc : Thread Cert.CsDxIdeal.nD Cert.CsDxIdeal.τ).loc Cert.CsDxIdeal.main_arg1) = m ((c.tc : Thread Cert.CsDxIdeal.nD Cert.CsDxIdeal.τ).loc Cert.CsDxIdeal.main_arg1)
    ∧ r.2.mem ((c.tc : Thread Cert.CsDxIdeal.nD Cert.CsDxIdeal.τ).loc Cert.CsDxIdeal.main_arg2) = m ((c.tc : Thread Cert.CsDxIdeal.nD Cert.CsDxIdeal.τ).loc Cert.CsDxIdeal.main_arg2)) := by
  run_from Cert.CsDxIdeal.Gen.unchanged m g & Cert.CsDxIdeal.Gen.run_main m g
  · exact final2 m c

variable (m' : (ℓ : Loc Cert.CsDxRefIdeal.nD Cert.CsDxRefIdeal.τ Cert.CsDxRefIdeal.sig) → Buf (Elt Ideal) ℓ) (g' : Dev Cert.CsDxRefIdeal.nD → PrngReg)

/-- The reference's run, its results named. -/
theorem run_ref : θ_run (Cert.CsDxRefIdeal.defs (F := Ideal)) (onTc (τ := Cert.CsDxRefIdeal.τ) (Cert.CsDxRefIdeal.main (F := Ideal))) ⟨m', fun _ => 0, g'⟩ (fun r => ∀ c : Dev Cert.CsDxRefIdeal.nD,
    r.2.mem ((c.tc : Thread Cert.CsDxRefIdeal.nD Cert.CsDxRefIdeal.τ).loc Cert.CsDxRefIdeal.main_v19) = dX (m' ((c.tc : Thread Cert.CsDxRefIdeal.nD Cert.CsDxRefIdeal.τ).loc Cert.CsDxRefIdeal.main_arg0)) (m' ((c.tc : Thread Cert.CsDxRefIdeal.nD Cert.CsDxRefIdeal.τ).loc Cert.CsDxRefIdeal.main_arg1)) (m' ((c.tc : Thread Cert.CsDxRefIdeal.nD Cert.CsDxRefIdeal.τ).loc Cert.CsDxRefIdeal.main_arg2))
    ∧ r.2.mem ((c.tc : Thread Cert.CsDxRefIdeal.nD Cert.CsDxRefIdeal.τ).loc Cert.CsDxRefIdeal.main_arg0) = m' ((c.tc : Thread Cert.CsDxRefIdeal.nD Cert.CsDxRefIdeal.τ).loc Cert.CsDxRefIdeal.main_arg0)
    ∧ r.2.mem ((c.tc : Thread Cert.CsDxRefIdeal.nD Cert.CsDxRefIdeal.τ).loc Cert.CsDxRefIdeal.main_arg1) = m' ((c.tc : Thread Cert.CsDxRefIdeal.nD Cert.CsDxRefIdeal.τ).loc Cert.CsDxRefIdeal.main_arg1)
    ∧ r.2.mem ((c.tc : Thread Cert.CsDxRefIdeal.nD Cert.CsDxRefIdeal.τ).loc Cert.CsDxRefIdeal.main_arg2) = m' ((c.tc : Thread Cert.CsDxRefIdeal.nD Cert.CsDxRefIdeal.τ).loc Cert.CsDxRefIdeal.main_arg2)) := by
  exact Cert.CsDxRefIdeal.Value.run m' g'

end

/-- Each of the kernel's results is the reference's. -/
theorem algebraic : Cert.algebraic_CsDxIdeal_CsDxRefIdeal := by
  intro m g m' g' _ hagree
  refine ⟨_, run_kernel m g, (θ_run Cert.CsDxRefIdeal.defs _ _).mono (fun r h c => ?_) (run_ref m' g')⟩
  have e0 := (hagree c).1
  have e1 := (hagree c).2.1
  have e2 := (hagree c).2.2
  obtain ⟨h0, hargs⟩ := h c
  rw [e0, e1, e2] at h0
  exact ⟨h0, hargs⟩

end Cert.CsDxValue

end
-- ==== Proof.CsDw.Ref.lean ====
/-  The reference's results for the gradient of the state's output weights: the terms its run ends with, over typed variables. -/
module

public import proofs.«01_k».proof.Proof.Gen.CsDwRefIdeal.Run
public import Idealize.ShloMosaic.Lib.Pointwise

@[expose] public section

set_option maxRecDepth 16384

noncomputable section

namespace Cert.CsDwValue

open Cert.CsDwRefIdeal Cert.CsDwRefIdeal.Gen Cert.CsDwRefIdeal.Value Idealize.ShloMosaic Idealize.ShloMosaic.TcCoe Idealize.SL.Sem

/-- The reference's gradient by the real parts. -/
def dRe (X : FVec Ideal S2x2176x2048 .f32) (D : FVec Ideal S2176x512 .bf16) : FVec Ideal S32x16x64 .f32 :=
  Host.dotGeneral dot_S32x2176x16_S2176x32x64_S32x16x64_1_0_2_2_0_1 none (transpose S32x2176x16 [1, 0, 2] (shapeCast _ (extf .f32 D bitsLt_bf16_f32) shapeCasts_S2176x512_S2176x32x16) transposes_S2176x32x16_S32x2176x16_1_0_2) (shapeCast _ (shapeCast _ (extractStridedSlice S1x2176x2048 ![0, 0, 0] X slices_S2x2176x2048_S1x2176x2048_0_0_0) shapeCasts_S1x2176x2048_S2176x2048) shapeCasts_S2176x2048_S2176x32x64)

/-- The reference's gradient by the negated imaginary parts. -/
def dIm (X : FVec Ideal S2x2176x2048 .f32) (D : FVec Ideal S2176x512 .bf16) : FVec Ideal S32x16x64 .f32 :=
  Host.dotGeneral dot_S32x2176x16_S2176x32x64_S32x16x64_1_0_2_2_0_1 none (transpose S32x2176x16 [1, 0, 2] (shapeCast _ (extf .f32 D bitsLt_bf16_f32) shapeCasts_S2176x512_S2176x32x16) transposes_S2176x32x16_S32x2176x16_1_0_2) (shapeCast _ (shapeCast _ (extractStridedSlice S1x2176x2048 ![1, 0, 0] X slices_S2x2176x2048_S1x2176x2048_1_0_0) shapeCasts_S1x2176x2048_S2176x2048) shapeCasts_S2176x2048_S2176x32x64)

end Cert.CsDwValue

end
-- ==== Proof.CsDw.Value.lean ====
/-  The diagonal blocks the host takes from the kernel's products, and the kernel's and the reference's terms, entry by entry: the gradient of the state's output weights. -/
module

public import proofs.«01_k».proof.Proof.Gen.CsDwIdeal.Frame
public import proofs.«01_k».proof.Proof.CsDw.Ref
public import Idealize.ShloMosaic.Lib.Pipeline.ValueKit
public import Idealize.ShloMosaic.Lib.Pointwise

@[expose] public section

set_option maxRecDepth 16384

noncomputable section

namespace Cert.CsDwValue

open Cert.CsDwIdeal Cert.CsDwIdeal.Gen Idealize.ShloMosaic Idealize.ShloMosaic.TcCoe Idealize.SL.Sem
open Idealize.ShloMosaic.Pipeline (Dat)

/-- The places where the two groups are one. -/
def maskT : IVec S4x8x64x8x16 1 := broadcastInDim S4x8x64x8x16 ![1, 3] bcast_S8x8_S4x8x64x8x16_1_3 (cmpi .eq (iotaInDim S8x8 32 0) (iotaInDim S8x8 32 1))

/-- The diagonal blocks of one part's products. -/
def diagT (G : FVec Ideal S1x4x512x128 .f32) : FVec Ideal S32x16x64 .f32 :=
  transpose S32x16x64 [0, 2, 1] (shapeCast S32x64x16 (transpose S4x8x64x16 [0, 2, 1, 3] (Host.reduceAdd (select maskT
      (shapeCast S4x8x64x8x16 (shapeCast S4x512x128 G shapeCasts_S1x4x512x128_S4x512x128) shapeCasts_S4x512x128_S4x8x64x8x16)
      (broadcastInDim S4x8x64x8x16 ![] bcast_S_S4x8x64x8x16 (constant (F := Ideal) S_ .f32 0x00000000#32)))
    (constant (F := Ideal) S_ .f32 0x00000000#32) reducesTo_S4x8x64x8x16_S4x64x8x16_d1 h_S_) transposes_S4x64x8x16_S4x8x64x16_0_2_1_3) shapeCasts_S4x8x64x16_S32x64x16) transposes_S32x64x16_S32x16x64_0_2_1

/-- The diagonal blocks of the first part's products. -/
def takeRe (G : FVec Ideal S2x4x512x128 .f32) : FVec Ideal S32x16x64 .f32 := diagT (extractStridedSlice S1x4x512x128 ![0, 0, 0, 0] G slices_S2x4x512x128_S1x4x512x128_0_0_0_0)

/-- The diagonal blocks of the second part's products. -/
def takeIm (G : FVec Ideal S2x4x512x128 .f32) : FVec Ideal S32x16x64 .f32 := diagT (extractStridedSlice S1x4x512x128 ![1, 0, 0, 0] G slices_S2x4x512x128_S1x4x512x128_1_0_0_0)

theorem word_diag : ∀ g h : Fin 8, IntOp.cmpi .eq (BitVec.ofNat 32 g.val) (BitVec.ofNat 32 h.val) = if g = h then 1#1 else 0#1 := by decide +kernel

/-- An entry or a zero chosen by a mask. -/
theorem keep (p : Prop) [Decidable p] (x : EReal) : Scalar.select (if p then 1#1 else 0#1) x 0 = if p then x else 0 := by
  split_ifs <;> simp [Scalar.select]

theorem diag_at (G : FVec Ideal S1x4x512x128 .f32) (g : Fin 32) (h : Fin 16) (n : Fin 64) : diagT G (ix3 g h n) = G (ix4 0 ⟨g.val / 8, by omega⟩ ⟨g.val % 8 * 64 + n.val, by omega⟩ ⟨g.val % 8 * 16 + h.val, by omega⟩) := by
  pointwise [diagT, maskT]
  simp only [fun x : Fin 8 => word_diag x ⟨g.val % 8, by omega⟩, keep]
  refine (Finset.sum_eq_single (⟨g.val % 8, by omega⟩ : Fin 8) (fun x _ hx => if_neg hx) (by simp)).trans ?_
  rw [if_pos rfl]

/-- The products the kernel leaves: a block's columns of the one against its columns of the other. -/
def outer (X : FVec Ideal S2x2176x2048 .f32) (D : FVec Ideal S2176x512 .bf16) : FVec Ideal S2x4x512x128 .f32 :=
  fun x => ∑ i : Fin 2176, X (ix3 (x 0) i ⟨(x 1).val * 512 + (x 2).val, by have := (x 1).isLt; have := (x 2).isLt; simp at *; omega⟩) * D (ix2 i ⟨(x 1).val * 128 + (x 3).val, by have := (x 1).isLt; have := (x 3).isLt; simp at *; omega⟩)

theorem take_re (X : FVec Ideal S2x2176x2048 .f32) (D : FVec Ideal S2176x512 .bf16) : takeRe (outer X D) = dRe X D := by
  funext y
  obtain ⟨g, h, n, rfl⟩ : ∃ (g : Fin 32) (h : Fin 16) (n : Fin 64), y = ix3 g h n := ⟨y 0, y 1, y 2, eq_ix3 y⟩
  unfold takeRe
  rw [diag_at]
  pointwise [dRe, outer]
  refine Finset.sum_congr rfl fun i _ => ?_
  rw [mul_comm]
  exact congrArg₂ (· * ·) (congrArg (fun z => D (ix2 i z)) (Fin.ext (by show g.val / 8 * 128 + (g.val % 8 * 16 + h.val) = g.val * 16 + h.val; omega)))
    (congrArg (fun z => X (ix3 0 i z)) (Fin.ext (by show g.val / 8 * 512 + (g.val % 8 * 64 + n.val) = g.val * 64 + n.val; omega)))

theorem take_im (X : FVec Ideal S2x2176x2048 .f32) (D : FVec Ideal S2176x512 .bf16) : takeIm (outer X D) = dIm X D := by
  funext y
  obtain ⟨g, h, n, rfl⟩ : ∃ (g : Fin 32) (h : Fin 16) (n : Fin 64), y = ix3 g h n := ⟨y 0, y 1, y 2, eq_ix3 y⟩
  unfold takeIm
  rw [diag_at]
  pointwise [dIm, outer]
  refine Finset.sum_congr rfl fun i _ => ?_
  rw [mul_comm]
  exact congrArg₂ (· * ·) (congrArg (fun z => D (ix2 i z)) (Fin.ext (by show g.val / 8 * 128 + (g.val % 8 * 16 + h.val) = g.val * 16 + h.val; omega)))
    (congrArg (fun z => X (ix3 1 i z)) (Fin.ext (by show g.val / 8 * 512 + (g.val % 8 * 64 + n.val) = g.val * 64 + n.val; omega)))

variable (m : (ℓ : Loc nD τ sig) → Buf (Elt Ideal) ℓ)

/-- The argument arrays, at their types. -/
abbrev aX (c : Dev nD) : FVec Ideal S2x2176x2048 .f32 := m ((c : Thread nD τ).loc main_arg0)
abbrev aD (c : Dev nD) : FVec Ideal S2176x512 .bf16 := m ((c : Thread nD τ).loc main_arg1)

/-- The block every window is at, at each point. -/
theorem idx : ∀ t : Fin cfg0.N, win0_0.index t = ![(grid0.coords t 0).val, 0, (grid0.coords t 1).val] ∧ win0_1.index t = ![0, 0, (grid0.coords t 1).val]
    ∧ win0_2.index t = ![(grid0.coords t 0).val, (grid0.coords t 1).val, 0, 0] :=
  (by decide +kernel : ∀ t : Fin grid0.N, _)

theorem entryD (c : Dev nD) : V m c main_v0 = broadcastInDim S1x2176x512 ![1, 2] bcast_S2176x512_S1x2176x512_1_2 (aD m c) := by
  unfold aD
  after_results <;> rfl

/-- The part of the states a point reads. -/
def part (t : Fin cfg0.N) : Fin 2 := ⟨(grid0.coords t 0).val, by have := (grid0.coords t 0).isLt; simp at this; omega⟩

/-- The block of groups a point is at. -/
def block (t : Fin cfg0.N) : Fin 4 := ⟨(grid0.coords t 1).val, by have := (grid0.coords t 1).isLt; simp at this; omega⟩

theorem inX (c : Dev nD) (t : Fin cfg0.N) (i : Fin 2176) (k : Fin 512) : iblk m c 0 t (ix3 0 i k) = aX m c (ix3 (part t) i ⟨(block t).val * 512 + k.val, by omega⟩) := by
  unfold part block aX
  rw [← V_main_arg0 m c]
  blk_point [iblk, idx t]

theorem inD (c : Dev nD) (t : Fin cfg0.N) (i : Fin 2176) (k : Fin 128) : iblk m c 1 t (ix3 0 i k) = aD m c (ix2 i ⟨(block t).val * 128 + k.val, by omega⟩) := by
  have e : ∀ z : Fin 512, (broadcastInDim S1x2176x512 ![1, 2] bcast_S2176x512_S1x2176x512_1_2 (aD m c) : FVec Ideal S1x2176x512 .bf16) (ix3 0 i z) = aD m c (ix2 i z) := fun z => by
    pointwise []
  refine Eq.trans ?_ (e _)
  rw [← entryD m c]
  unfold block
  blk_point [iblk, idx t]

theorem ix4_congr {a b c d : ℕ} {x x' : Fin a} {y y' : Fin b} {z z' : Fin c} {w w' : Fin d} (e0 : x = x') (e1 : y = y') (e2 : z = z') (e3 : w = w') : ix4 x y z w = ix4 x' y' z' w' := by
  rw [e0, e1, e2, e3]

theorem emb2 (t : Fin cfg0.N) (y : S1x1x512x128.Idx) : ((cfg0.win 2).blk t).view.emb y = ix4 (part t) (block t) (y 2) (y 3) := by
  refine (eq_ix4 _).trans (ix4_congr (Fin.ext ?_) (Fin.ext ?_) (Fin.ext ?_) (Fin.ext ?_))
  all_goals
    try unfold part
    try unfold block
    blk_point [idx t]

theorem point2 (c : Dev nD) (t : Fin cfg0.N) (y : S1x1x512x128.Idx) : k0_pay1 (iblk m c 0 t) (iblk m c 1 t) y
    = outer (aX m c) (aD m c) (((cfg0.win 2).blk t).view.emb y) := by
  pointwise [k0_pay1, outer]
  rw [emb2 t y]
  refine Finset.sum_congr rfl fun i _ => ?_
  exact congrArg₂ (· * ·) (inX m c t i (y 2)) (inD m c t i (y 3))

/-- The array of the products, after the run. -/
theorem final2 (c : Dev nD) : (dats m 0 c).arrAt 2 (cfgs 0).N = outer (aX m c) (aD m c) := by
  refine (dats m 0 c).arrAt_eq_of_covers 2 _ (by decide +kernel) fun t _ y => ?_
  blk_simp
  rw [after0_2]; frame_out
  exact point2 m c t y

end Cert.CsDwValue

end
-- ==== Proof.CsDw.Claims.lean ====
/-  The claims about the gradient of the state's output weights. -/
module

public import proofs.«01_k».proof.Defs
public import proofs.«01_k».proof.Proof.Gen.CsDw.Frame
public import proofs.«01_k».proof.Proof.Gen.CsDwIdeal.Frame
public import proofs.«01_k».proof.Proof.Gen.CsDwRefIdeal.Run
public import proofs.«01_k».proof.Proof.CsDw.Value
public import Idealize.ShloMosaic.Lib.Quiescent
public import Idealize.ShloMosaic.Lib.Claim

@[expose] public section

set_option maxRecDepth 16384

noncomputable section

namespace Cert.CsDwValue

open Idealize.ShloMosaic Idealize.ShloMosaic.TcCoe Idealize.SL.Sem

theorem frame_kernel : Cert.quiescent_CsDw := fun m ρ _ => Cert.CsDw.Gen.frame m ρ
theorem frame_ideal : Cert.quiescent_CsDwIdeal := fun m ρ _ => Cert.CsDwIdeal.Gen.frame m ρ

theorem frame_ref : Cert.quiescent_CsDwRefIdeal := fun m ρ _ =>
  (θ_run Cert.CsDwRefIdeal.defs _ _).mono (fun r h => ⟨fun c => (h c).2.2, sem_eq_zero_of_no_sems (by decide) r.2⟩)
    (Cert.CsDwRefIdeal.Value.run (F := Ideal) m ρ)

section

variable (m : (ℓ : Loc Cert.CsDwIdeal.nD Cert.CsDwIdeal.τ Cert.CsDwIdeal.sig) → Buf (Elt Ideal) ℓ) (g : Dev Cert.CsDwIdeal.nD → PrngReg)

set_option maxHeartbeats 1000000 in
/-- The diagonal blocks taken from the launch's array are the reference's first result. -/
theorem tail0 (c : Dev Cert.CsDwIdeal.nD) : Pipeline.afterTail₀ Cert.CsDwIdeal.cfgs (Cert.CsDwIdeal.Gen.dats m) 0 (Cert.CsDwIdeal.Gen.V0 m) [Cert.CsDwIdeal.Gen.hostOps1] c
    Cert.CsDwIdeal.main_v14 = dRe (aX m c) (aD m c) := by
  unfold Pipeline.afterTail₀
  show StableHlo.after Cert.CsDwIdeal.Gen.hostOps1 _ _ = _
  after_results
  refine (congrArg takeRe ((Pipeline.withArrays_arr (Cert.CsDwIdeal.cfgs 0).spec (by decide) c (Cert.CsDwIdeal.Gen.V0 m c) (fun w => (Cert.CsDwIdeal.Gen.dats m 0 c).arrAt w (Cert.CsDwIdeal.cfgs 0).N) (2 : Fin 3)).trans (final2 m c))).trans ?_
  exact take_re (aX m c) (aD m c)

set_option maxHeartbeats 1000000 in
/-- The diagonal blocks taken from the launch's array are the reference's second result. -/
theorem tail1 (c : Dev Cert.CsDwIdeal.nD) : Pipeline.afterTail₀ Cert.CsDwIdeal.cfgs (Cert.CsDwIdeal.Gen.dats m) 0 (Cert.CsDwIdeal.Gen.V0 m) [Cert.CsDwIdeal.Gen.hostOps1] c
    Cert.CsDwIdeal.main_v27 = dIm (aX m c) (aD m c) := by
  unfold Pipeline.afterTail₀
  show StableHlo.after Cert.CsDwIdeal.Gen.hostOps1 _ _ = _
  after_results
  refine (congrArg takeIm ((Pipeline.withArrays_arr (Cert.CsDwIdeal.cfgs 0).spec (by decide) c (Cert.CsDwIdeal.Gen.V0 m c) (fun w => (Cert.CsDwIdeal.Gen.dats m 0 c).arrAt w (Cert.CsDwIdeal.cfgs 0).N) (2 : Fin 3)).trans (final2 m c))).trans ?_
  exact take_im (aX m c) (aD m c)

set_option maxHeartbeats 1000000 in
/-- The kernel's run: its results at the reference's terms, its arguments unchanged. -/
theorem run_kernel : θ_run (Cert.CsDwIdeal.defs (F := Ideal)) (onTc (τ := Cert.CsDwIdeal.τ) (Cert.CsDwIdeal.main (F := Ideal))) ⟨m, fun _ => 0, g⟩ (fun r => ∀ c : Dev Cert.CsDwIdeal.nD,
    r.2.mem ((c.tc : Thread Cert.CsDwIdeal.nD Cert.CsDwIdeal.τ).loc Cert.CsDwIdeal.main_v14) = dRe (aX m c) (aD m c)
    ∧ r.2.mem ((c.tc : Thread Cert.CsDwIdeal.nD Cert.CsDwIdeal.τ).loc Cert.CsDwIdeal.main_v27) = dIm (aX m c) (aD m c)
    ∧ r.2.mem ((c.tc : Thread Cert.CsDwIdeal.nD Cert.CsDwIdeal.τ).loc Cert.CsDwIdeal.main_arg0) = m ((c.tc : Thread Cert.CsDwIdeal.nD Cert.CsDwIdeal.τ).loc Cert.CsDwIdeal.main_arg0)
    ∧ r.2.mem ((c.tc : Thread Cert.CsDwIdeal.nD Cert.CsDwIdeal.τ).loc Cert.CsDwIdeal.main_arg1) = m ((c.tc : Thread Cert.CsDwIdeal.nD Cert.CsDwIdeal.τ).loc Cert.CsDwIdeal.main_arg1)) := by
  run_from Cert.CsDwIdeal.Gen.unchanged m g & Cert.CsDwIdeal.Gen.run_main m g
  · exact tail0 m c
  · exact tail1 m c

variable (m' : (ℓ : Loc Cert.CsDwRefIdeal.nD Cert.CsDwRefIdeal.τ Cert.CsDwRefIdeal.sig) → Buf (Elt Ideal) ℓ) (g' : Dev Cert.CsDwRefIdeal.nD → PrngReg)

/-- The reference's run, its results named. -/
theorem run_ref : θ_run (Cert.CsDwRefIdeal.defs (F := Ideal)) (onTc (τ := Cert.CsDwRefIdeal.τ) (Cert.CsDwRefIdeal.main (F := Ideal))) ⟨m', fun _ => 0, g'⟩ (fun r => ∀ c : Dev Cert.CsDwRefIdeal.nD,
    r.2.mem ((c.tc : Thread Cert.CsDwRefIdeal.nD Cert.CsDwRefIdeal.τ).loc Cert.CsDwRefIdeal.main_v17) = dRe (m' ((c.tc : Thread Cert.CsDwRefIdeal.nD Cert.CsDwRefIdeal.τ).loc Cert.CsDwRefIdeal.main_arg0)) (m' ((c.tc : Thread Cert.CsDwRefIdeal.nD Cert.CsDwRefIdeal.τ).loc Cert.CsDwRefIdeal.main_arg1))
    ∧ r.2.mem ((c.tc : Thread Cert.CsDwRefIdeal.nD Cert.CsDwRefIdeal.τ).loc Cert.CsDwRefIdeal.main_v15) = dIm (m' ((c.tc : Thread Cert.CsDwRefIdeal.nD Cert.CsDwRefIdeal.τ).loc Cert.CsDwRefIdeal.main_arg0)) (m' ((c.tc : Thread Cert.CsDwRefIdeal.nD Cert.CsDwRefIdeal.τ).loc Cert.CsDwRefIdeal.main_arg1))
    ∧ r.2.mem ((c.tc : Thread Cert.CsDwRefIdeal.nD Cert.CsDwRefIdeal.τ).loc Cert.CsDwRefIdeal.main_arg0) = m' ((c.tc : Thread Cert.CsDwRefIdeal.nD Cert.CsDwRefIdeal.τ).loc Cert.CsDwRefIdeal.main_arg0)
    ∧ r.2.mem ((c.tc : Thread Cert.CsDwRefIdeal.nD Cert.CsDwRefIdeal.τ).loc Cert.CsDwRefIdeal.main_arg1) = m' ((c.tc : Thread Cert.CsDwRefIdeal.nD Cert.CsDwRefIdeal.τ).loc Cert.CsDwRefIdeal.main_arg1)) := by
  exact Cert.CsDwRefIdeal.Value.run m' g'

end

/-- Each of the kernel's results is the reference's. -/
theorem algebraic : Cert.algebraic_CsDwIdeal_CsDwRefIdeal := by
  intro m g m' g' _ hagree
  refine ⟨_, _, run_kernel m g, (θ_run Cert.CsDwRefIdeal.defs _ _).mono (fun r h c => ?_) (run_ref m' g')⟩
  have e0 := (hagree c).1
  have e1 := (hagree c).2
  obtain ⟨h0, h1, hargs⟩ := h c
  rw [e0, e1] at h0
  rw [e0, e1] at h1
  exact ⟨h0, h1, hargs⟩

end Cert.CsDwValue

end
-- ==== Proof.BuDw.Ref.lean ====
/-  The reference's results for the gradient of the state's input weights: the terms its run ends with, over typed variables. -/
module

public import proofs.«01_k».proof.Proof.Gen.BuDwRefIdeal.Run
public import Idealize.ShloMosaic.Lib.Pointwise

@[expose] public section

set_option maxRecDepth 16384

noncomputable section

namespace Cert.BuDwValue

open Cert.BuDwRefIdeal Cert.BuDwRefIdeal.Gen Cert.BuDwRefIdeal.Value Idealize.ShloMosaic Idealize.ShloMosaic.TcCoe Idealize.SL.Sem

/-- The reference's gradient by the real parts. -/
def dRe (U : FVec Ideal S2176x512 .bf16) (G : FVec Ideal S2x2176x2048 .f32) : FVec Ideal S512x64 .f32 :=
  shapeCast _ (transpose S32x16x64 [0, 2, 1] (Host.dotGeneral dot_S32x2176x64_S2176x32x16_S32x64x16_1_0_2_2_0_1 none (transpose S32x2176x64 [1, 0, 2] (shapeCast _ (shapeCast _ (extractStridedSlice S1x2176x2048 ![0, 0, 0] G slices_S2x2176x2048_S1x2176x2048_0_0_0) shapeCasts_S1x2176x2048_S2176x2048) shapeCasts_S2176x2048_S2176x32x64) transposes_S2176x32x64_S32x2176x64_1_0_2) (shapeCast _ (extf .f32 U bitsLt_bf16_f32) shapeCasts_S2176x512_S2176x32x16)) transposes_S32x64x16_S32x16x64_0_2_1) shapeCasts_S32x16x64_S512x64

/-- The reference's gradient by the imaginary parts. -/
def dIm (U : FVec Ideal S2176x512 .bf16) (G : FVec Ideal S2x2176x2048 .f32) : FVec Ideal S512x64 .f32 :=
  shapeCast _ (transpose S32x16x64 [0, 2, 1] (Host.dotGeneral dot_S32x2176x64_S2176x32x16_S32x64x16_1_0_2_2_0_1 none (transpose S32x2176x64 [1, 0, 2] (shapeCast _ (shapeCast _ (extractStridedSlice S1x2176x2048 ![1, 0, 0] G slices_S2x2176x2048_S1x2176x2048_1_0_0) shapeCasts_S1x2176x2048_S2176x2048) shapeCasts_S2176x2048_S2176x32x64) transposes_S2176x32x64_S32x2176x64_1_0_2) (shapeCast _ (extf .f32 U bitsLt_bf16_f32) shapeCasts_S2176x512_S2176x32x16)) transposes_S32x64x16_S32x16x64_0_2_1) shapeCasts_S32x16x64_S512x64

end Cert.BuDwValue

end
-- ==== Proof.BuDw.Value.lean ====
/-  The diagonal blocks the host takes from the kernel's products, and the kernel's and the reference's terms, entry by entry: the gradient of the state's input weights. -/
module

public import proofs.«01_k».proof.Proof.Gen.BuDwIdeal.Frame
public import proofs.«01_k».proof.Proof.BuDw.Ref
public import Idealize.ShloMosaic.Lib.Pipeline.ValueKit
public import Idealize.ShloMosaic.Lib.Pointwise

@[expose] public section

set_option maxRecDepth 16384

noncomputable section

namespace Cert.BuDwValue

open Cert.BuDwIdeal Cert.BuDwIdeal.Gen Idealize.ShloMosaic Idealize.ShloMosaic.TcCoe Idealize.SL.Sem
open Idealize.ShloMosaic.Pipeline (Dat)

/-- The places where the two groups are one. -/
def maskT : IVec S4x8x16x8x64 1 := broadcastInDim S4x8x16x8x64 ![1, 3] bcast_S8x8_S4x8x16x8x64_1_3 (cmpi .eq (iotaInDim S8x8 32 0) (iotaInDim S8x8 32 1))

/-- The diagonal blocks of one part's products. -/
def diagT (G : FVec Ideal S1x4x128x512 .f32) : FVec Ideal S512x64 .f32 :=
  shapeCast S512x64 (shapeCast S32x16x64 (transpose S4x8x16x64 [0, 2, 1, 3] (Host.reduceAdd (select maskT
      (shapeCast S4x8x16x8x64 (shapeCast S4x128x512 G shapeCasts_S1x4x128x512_S4x128x512) shapeCasts_S4x128x512_S4x8x16x8x64)
      (broadcastInDim S4x8x16x8x64 ![] bcast_S_S4x8x16x8x64 (constant (F := Ideal) S_ .f32 0x00000000#32)))
    (constant (F := Ideal) S_ .f32 0x00000000#32) reducesTo_S4x8x16x8x64_S4x16x8x64_d1 h_S_) transposes_S4x16x8x64_S4x8x16x64_0_2_1_3) shapeCasts_S4x8x16x64_S32x16x64) shapeCasts_S32x16x64_S512x64

/-- The diagonal blocks of the first part's products. -/
def takeRe (G : FVec Ideal S2x4x128x512 .f32) : FVec Ideal S512x64 .f32 := diagT (extractStridedSlice S1x4x128x512 ![0, 0, 0, 0] G slices_S2x4x128x512_S1x4x128x512_0_0_0_0)

/-- The diagonal blocks of the second part's products. -/
def takeIm (G : FVec Ideal S2x4x128x512 .f32) : FVec Ideal S512x64 .f32 := diagT (extractStridedSlice S1x4x128x512 ![1, 0, 0, 0] G slices_S2x4x128x512_S1x4x128x512_1_0_0_0)

theorem word_diag : ∀ g h : Fin 8, IntOp.cmpi .eq (BitVec.ofNat 32 g.val) (BitVec.ofNat 32 h.val) = if g = h then 1#1 else 0#1 := by decide +kernel

/-- An entry or a zero chosen by a mask. -/
theorem keep (p : Prop) [Decidable p] (x : EReal) : Scalar.select (if p then 1#1 else 0#1) x 0 = if p then x else 0 := by
  split_ifs <;> simp [Scalar.select]

theorem diag_at (G : FVec Ideal S1x4x128x512 .f32) (k : Fin 512) (n : Fin 64) : diagT G (ix2 k n) = G (ix4 0 ⟨k.val / 128, by omega⟩ ⟨k.val % 128, by omega⟩ ⟨k.val / 16 % 8 * 64 + n.val, by omega⟩) := by
  pointwise [diagT, maskT]
  simp only [fun x : Fin 8 => word_diag x ⟨k.val / 16 % 8, by omega⟩, keep]
  refine (Finset.sum_eq_single (⟨k.val / 16 % 8, by omega⟩ : Fin 8) (fun x _ hx => if_neg hx) (by simp)).trans ?_
  rw [if_pos rfl]
  exact congrArg (fun z => G (ix4 0 _ z _)) (Fin.ext (by show k.val / 16 % 8 * 16 + k.val % 16 = k.val % 128; omega))

/-- The products the kernel leaves: a block's columns of the one against its columns of the other. -/
def outer (X : FVec Ideal S2x2176x2048 .f32) (D : FVec Ideal S2176x512 .bf16) : FVec Ideal S2x4x128x512 .f32 :=
  fun x => ∑ i : Fin 2176, D (ix2 i ⟨(x 1).val * 128 + (x 2).val, by have := (x 1).isLt; have := (x 2).isLt; simp at *; omega⟩) * X (ix3 (x 0) i ⟨(x 1).val * 512 + (x 3).val, by have := (x 1).isLt; have := (x 3).isLt; simp at *; omega⟩)

theorem take_re (X : FVec Ideal S2x2176x2048 .f32) (D : FVec Ideal S2176x512 .bf16) : takeRe (outer X D) = dRe D X := by
  funext y
  obtain ⟨k, n, rfl⟩ : ∃ (k : Fin 512) (n : Fin 64), y = ix2 k n := ⟨y 0, y 1, eq_ix2 y⟩
  unfold takeRe
  rw [diag_at]
  pointwise [dRe, outer]
  refine Finset.sum_congr rfl fun i _ => ?_
  rw [mul_comm]
  exact congrArg₂ (· * ·) (congrArg (fun z => X (ix3 0 i z)) (Fin.ext (by show k.val / 128 * 512 + (k.val / 16 % 8 * 64 + n.val) = k.val / 16 * 64 + n.val; omega)))
    (congrArg (fun z => D (ix2 i z)) (Fin.ext (by show k.val / 128 * 128 + k.val % 128 = k.val; omega)))

theorem take_im (X : FVec Ideal S2x2176x2048 .f32) (D : FVec Ideal S2176x512 .bf16) : takeIm (outer X D) = dIm D X := by
  funext y
  obtain ⟨k, n, rfl⟩ : ∃ (k : Fin 512) (n : Fin 64), y = ix2 k n := ⟨y 0, y 1, eq_ix2 y⟩
  unfold takeIm
  rw [diag_at]
  pointwise [dIm, outer]
  refine Finset.sum_congr rfl fun i _ => ?_
  rw [mul_comm]
  exact congrArg₂ (· * ·) (congrArg (fun z => X (ix3 1 i z)) (Fin.ext (by show k.val / 128 * 512 + (k.val / 16 % 8 * 64 + n.val) = k.val / 16 * 64 + n.val; omega)))
    (congrArg (fun z => D (ix2 i z)) (Fin.ext (by show k.val / 128 * 128 + k.val % 128 = k.val; omega)))

variable (m : (ℓ : Loc nD τ sig) → Buf (Elt Ideal) ℓ)

/-- The argument arrays, at their types. -/
abbrev aX (c : Dev nD) : FVec Ideal S2x2176x2048 .f32 := m ((c : Thread nD τ).loc main_arg1)
abbrev aD (c : Dev nD) : FVec Ideal S2176x512 .bf16 := m ((c : Thread nD τ).loc main_arg0)

/-- The block every window is at, at each point. -/
theorem idx : ∀ t : Fin cfg0.N, win0_0.index t = ![0, 0, (grid0.coords t 1).val] ∧ win0_1.index t = ![(grid0.coords t 0).val, 0, (grid0.coords t 1).val]
    ∧ win0_2.index t = ![(grid0.coords t 0).val, (grid0.coords t 1).val, 0, 0] :=
  (by decide +kernel : ∀ t : Fin grid0.N, _)

theorem entryD (c : Dev nD) : V m c main_v0 = broadcastInDim S1x2176x512 ![1, 2] bcast_S2176x512_S1x2176x512_1_2 (aD m c) := by
  unfold aD
  after_results <;> rfl

/-- The part of the states a point reads. -/
def part (t : Fin cfg0.N) : Fin 2 := ⟨(grid0.coords t 0).val, by have := (grid0.coords t 0).isLt; simp at this; omega⟩

/-- The block of groups a point is at. -/
def block (t : Fin cfg0.N) : Fin 4 := ⟨(grid0.coords t 1).val, by have := (grid0.coords t 1).isLt; simp at this; omega⟩

theorem inX (c : Dev nD) (t : Fin cfg0.N) (i : Fin 2176) (k : Fin 512) : iblk m c 1 t (ix3 0 i k) = aX m c (ix3 (part t) i ⟨(block t).val * 512 + k.val, by omega⟩) := by
  unfold part block aX
  rw [← V_main_arg1 m c]
  blk_point [iblk, idx t]

theorem inD (c : Dev nD) (t : Fin cfg0.N) (i : Fin 2176) (k : Fin 128) : iblk m c 0 t (ix3 0 i k) = aD m c (ix2 i ⟨(block t).val * 128 + k.val, by omega⟩) := by
  have e : ∀ z : Fin 512, (broadcastInDim S1x2176x512 ![1, 2] bcast_S2176x512_S1x2176x512_1_2 (aD m c) : FVec Ideal S1x2176x512 .bf16) (ix3 0 i z) = aD m c (ix2 i z) := fun z => by
    pointwise []
  refine Eq.trans ?_ (e _)
  rw [← entryD m c]
  unfold block
  blk_point [iblk, idx t]

theorem ix4_congr {a b c d : ℕ} {x x' : Fin a} {y y' : Fin b} {z z' : Fin c} {w w' : Fin d} (e0 : x = x') (e1 : y = y') (e2 : z = z') (e3 : w = w') : ix4 x y z w = ix4 x' y' z' w' := by
  rw [e0, e1, e2, e3]

theorem emb2 (t : Fin cfg0.N) (y : S1x1x128x512.Idx) : ((cfg0.win 2).blk t).view.emb y = ix4 (part t) (block t) (y 2) (y 3) := by
  refine (eq_ix4 _).trans (ix4_congr (Fin.ext ?_) (Fin.ext ?_) (Fin.ext ?_) (Fin.ext ?_))
  all_goals
    try unfold part
    try unfold block
    blk_point [idx t]

theorem point2 (c : Dev nD) (t : Fin cfg0.N) (y : S1x1x128x512.Idx) : k0_pay1 (iblk m c 0 t) (iblk m c 1 t) y
    = outer (aX m c) (aD m c) (((cfg0.win 2).blk t).view.emb y) := by
  pointwise [k0_pay1, outer]
  rw [emb2 t y]
  refine Finset.sum_congr rfl fun i _ => ?_
  exact congrArg₂ (· * ·) (inD m c t i (y 2)) (inX m c t i (y 3))

/-- The array of the products, after the run. -/
theorem final2 (c : Dev nD) : (dats m 0 c).arrAt 2 (cfgs 0).N = outer (aX m c) (aD m c) := by
  refine (dats m 0 c).arrAt_eq_of_covers 2 _ (by decide +kernel) fun t _ y => ?_
  blk_simp
  rw [after0_2]; frame_out
  exact point2 m c t y

end Cert.BuDwValue

end
-- ==== Proof.BuDw.Claims.lean ====
/-  The claims about the gradient of the state's input weights. -/
module

public import proofs.«01_k».proof.Defs
public import proofs.«01_k».proof.Proof.Gen.BuDw.Frame
public import proofs.«01_k».proof.Proof.Gen.BuDwIdeal.Frame
public import proofs.«01_k».proof.Proof.Gen.BuDwRefIdeal.Run
public import proofs.«01_k».proof.Proof.BuDw.Value
public import Idealize.ShloMosaic.Lib.Quiescent
public import Idealize.ShloMosaic.Lib.Claim

@[expose] public section

set_option maxRecDepth 16384

noncomputable section

namespace Cert.BuDwValue

open Idealize.ShloMosaic Idealize.ShloMosaic.TcCoe Idealize.SL.Sem

theorem frame_kernel : Cert.quiescent_BuDw := fun m ρ _ => Cert.BuDw.Gen.frame m ρ
theorem frame_ideal : Cert.quiescent_BuDwIdeal := fun m ρ _ => Cert.BuDwIdeal.Gen.frame m ρ

theorem frame_ref : Cert.quiescent_BuDwRefIdeal := fun m ρ _ =>
  (θ_run Cert.BuDwRefIdeal.defs _ _).mono (fun r h => ⟨fun c => (h c).2.2, sem_eq_zero_of_no_sems (by decide) r.2⟩)
    (Cert.BuDwRefIdeal.Value.run (F := Ideal) m ρ)

section

variable (m : (ℓ : Loc Cert.BuDwIdeal.nD Cert.BuDwIdeal.τ Cert.BuDwIdeal.sig) → Buf (Elt Ideal) ℓ) (g : Dev Cert.BuDwIdeal.nD → PrngReg)

set_option maxHeartbeats 1000000 in
/-- The diagonal blocks taken from the launch's array are the reference's first result. -/
theorem tail0 (c : Dev Cert.BuDwIdeal.nD) : Pipeline.afterTail₀ Cert.BuDwIdeal.cfgs (Cert.BuDwIdeal.Gen.dats m) 0 (Cert.BuDwIdeal.Gen.V0 m) [Cert.BuDwIdeal.Gen.hostOps1] c
    Cert.BuDwIdeal.main_v14 = dRe (aD m c) (aX m c) := by
  unfold Pipeline.afterTail₀
  show StableHlo.after Cert.BuDwIdeal.Gen.hostOps1 _ _ = _
  after_results
  refine (congrArg takeRe ((Pipeline.withArrays_arr (Cert.BuDwIdeal.cfgs 0).spec (by decide) c (Cert.BuDwIdeal.Gen.V0 m c) (fun w => (Cert.BuDwIdeal.Gen.dats m 0 c).arrAt w (Cert.BuDwIdeal.cfgs 0).N) (2 : Fin 3)).trans (final2 m c))).trans ?_
  exact take_re (aX m c) (aD m c)

set_option maxHeartbeats 1000000 in
/-- The diagonal blocks taken from the launch's array are the reference's second result. -/
theorem tail1 (c : Dev Cert.BuDwIdeal.nD) : Pipeline.afterTail₀ Cert.BuDwIdeal.cfgs (Cert.BuDwIdeal.Gen.dats m) 0 (Cert.BuDwIdeal.Gen.V0 m) [Cert.BuDwIdeal.Gen.hostOps1] c
    Cert.BuDwIdeal.main_v27 = dIm (aD m c) (aX m c) := by
  unfold Pipeline.afterTail₀
  show StableHlo.after Cert.BuDwIdeal.Gen.hostOps1 _ _ = _
  after_results
  refine (congrArg takeIm ((Pipeline.withArrays_arr (Cert.BuDwIdeal.cfgs 0).spec (by decide) c (Cert.BuDwIdeal.Gen.V0 m c) (fun w => (Cert.BuDwIdeal.Gen.dats m 0 c).arrAt w (Cert.BuDwIdeal.cfgs 0).N) (2 : Fin 3)).trans (final2 m c))).trans ?_
  exact take_im (aX m c) (aD m c)

set_option maxHeartbeats 1000000 in
/-- The kernel's run: its results at the reference's terms, its arguments unchanged. -/
theorem run_kernel : θ_run (Cert.BuDwIdeal.defs (F := Ideal)) (onTc (τ := Cert.BuDwIdeal.τ) (Cert.BuDwIdeal.main (F := Ideal))) ⟨m, fun _ => 0, g⟩ (fun r => ∀ c : Dev Cert.BuDwIdeal.nD,
    r.2.mem ((c.tc : Thread Cert.BuDwIdeal.nD Cert.BuDwIdeal.τ).loc Cert.BuDwIdeal.main_v14) = dRe (aD m c) (aX m c)
    ∧ r.2.mem ((c.tc : Thread Cert.BuDwIdeal.nD Cert.BuDwIdeal.τ).loc Cert.BuDwIdeal.main_v27) = dIm (aD m c) (aX m c)
    ∧ r.2.mem ((c.tc : Thread Cert.BuDwIdeal.nD Cert.BuDwIdeal.τ).loc Cert.BuDwIdeal.main_arg0) = m ((c.tc : Thread Cert.BuDwIdeal.nD Cert.BuDwIdeal.τ).loc Cert.BuDwIdeal.main_arg0)
    ∧ r.2.mem ((c.tc : Thread Cert.BuDwIdeal.nD Cert.BuDwIdeal.τ).loc Cert.BuDwIdeal.main_arg1) = m ((c.tc : Thread Cert.BuDwIdeal.nD Cert.BuDwIdeal.τ).loc Cert.BuDwIdeal.main_arg1)) := by
  run_from Cert.BuDwIdeal.Gen.unchanged m g & Cert.BuDwIdeal.Gen.run_main m g
  · exact tail0 m c
  · exact tail1 m c

variable (m' : (ℓ : Loc Cert.BuDwRefIdeal.nD Cert.BuDwRefIdeal.τ Cert.BuDwRefIdeal.sig) → Buf (Elt Ideal) ℓ) (g' : Dev Cert.BuDwRefIdeal.nD → PrngReg)

/-- The reference's run, its results named. -/
theorem run_ref : θ_run (Cert.BuDwRefIdeal.defs (F := Ideal)) (onTc (τ := Cert.BuDwRefIdeal.τ) (Cert.BuDwRefIdeal.main (F := Ideal))) ⟨m', fun _ => 0, g'⟩ (fun r => ∀ c : Dev Cert.BuDwRefIdeal.nD,
    r.2.mem ((c.tc : Thread Cert.BuDwRefIdeal.nD Cert.BuDwRefIdeal.τ).loc Cert.BuDwRefIdeal.main_v18) = dRe (m' ((c.tc : Thread Cert.BuDwRefIdeal.nD Cert.BuDwRefIdeal.τ).loc Cert.BuDwRefIdeal.main_arg0)) (m' ((c.tc : Thread Cert.BuDwRefIdeal.nD Cert.BuDwRefIdeal.τ).loc Cert.BuDwRefIdeal.main_arg1))
    ∧ r.2.mem ((c.tc : Thread Cert.BuDwRefIdeal.nD Cert.BuDwRefIdeal.τ).loc Cert.BuDwRefIdeal.main_v20) = dIm (m' ((c.tc : Thread Cert.BuDwRefIdeal.nD Cert.BuDwRefIdeal.τ).loc Cert.BuDwRefIdeal.main_arg0)) (m' ((c.tc : Thread Cert.BuDwRefIdeal.nD Cert.BuDwRefIdeal.τ).loc Cert.BuDwRefIdeal.main_arg1))
    ∧ r.2.mem ((c.tc : Thread Cert.BuDwRefIdeal.nD Cert.BuDwRefIdeal.τ).loc Cert.BuDwRefIdeal.main_arg0) = m' ((c.tc : Thread Cert.BuDwRefIdeal.nD Cert.BuDwRefIdeal.τ).loc Cert.BuDwRefIdeal.main_arg0)
    ∧ r.2.mem ((c.tc : Thread Cert.BuDwRefIdeal.nD Cert.BuDwRefIdeal.τ).loc Cert.BuDwRefIdeal.main_arg1) = m' ((c.tc : Thread Cert.BuDwRefIdeal.nD Cert.BuDwRefIdeal.τ).loc Cert.BuDwRefIdeal.main_arg1)) := by
  exact Cert.BuDwRefIdeal.Value.run m' g'

end

/-- Each of the kernel's results is the reference's. -/
theorem algebraic : Cert.algebraic_BuDwIdeal_BuDwRefIdeal := by
  intro m g m' g' _ hagree
  refine ⟨_, _, run_kernel m g, (θ_run Cert.BuDwRefIdeal.defs _ _).mono (fun r h c => ?_) (run_ref m' g')⟩
  have e0 := (hagree c).1
  have e1 := (hagree c).2
  obtain ⟨h0, h1, hargs⟩ := h c
  rw [e0, e1] at h0
  rw [e0, e1] at h1
  exact ⟨h0, h1, hargs⟩

end Cert.BuDwValue

end
-- ==== Proof.BuDx.Ref.lean ====
/-  The reference's results for the gradient of the state branch's input: the terms its run ends with, over typed variables. -/
module

public import proofs.«01_k».proof.Proof.Gen.BuDxRefIdeal.Run
public import Idealize.ShloMosaic.Lib.Pointwise

@[expose] public section

set_option maxRecDepth 16384

noncomputable section

namespace Cert.BuDxValue

open Cert.BuDxRefIdeal Cert.BuDxRefIdeal.Gen Cert.BuDxRefIdeal.Value Idealize.ShloMosaic Idealize.ShloMosaic.TcCoe Idealize.SL.Sem

/-- The reference's gradient of the branch input. -/
def du (G : FVec Ideal S2x2176x2048 .f32) (A : FVec Ideal S512x64 .f32) (B : FVec Ideal S512x64 .f32) (T : FVec Ideal S2176x512 .f32) : FVec Ideal S1x2176x512 .f32 :=
  shapeCast _ (addf (addf (shapeCast _ T shapeCasts_S2176x512_S2176x32x16) (transpose S2176x32x16 [1, 0, 2] (Host.dotGeneral dot_S32x2176x64_S32x64x16_S32x2176x16_2_1_1_2_0_0 none (transpose S32x2176x64 [1, 0, 2] (shapeCast _ (shapeCast _ (extractStridedSlice S1x2176x2048 ![1, 0, 0] G slices_S2x2176x2048_S1x2176x2048_1_0_0) shapeCasts_S1x2176x2048_S2176x2048) shapeCasts_S2176x2048_S2176x32x64) transposes_S2176x32x64_S32x2176x64_1_0_2) (transpose S32x64x16 [0, 2, 1] (shapeCast _ B shapeCasts_S512x64_S32x16x64) transposes_S32x16x64_S32x64x16_0_2_1)) transposes_S32x2176x16_S2176x32x16_1_0_2)) (transpose S2176x32x16 [1, 0, 2] (Host.dotGeneral dot_S32x2176x64_S32x64x16_S32x2176x16_2_1_1_2_0_0 none (transpose S32x2176x64 [1, 0, 2] (shapeCast _ (shapeCast _ (extractStridedSlice S1x2176x2048 ![0, 0, 0] G slices_S2x2176x2048_S1x2176x2048_0_0_0) shapeCasts_S1x2176x2048_S2176x2048) shapeCasts_S2176x2048_S2176x32x64) transposes_S2176x32x64_S32x2176x64_1_0_2) (transpose S32x64x16 [0, 2, 1] (shapeCast _ A shapeCasts_S512x64_S32x16x64) transposes_S32x16x64_S32x64x16_0_2_1)) transposes_S32x2176x16_S2176x32x16_1_0_2)) shapeCasts_S2176x32x16_S1x2176x512

end Cert.BuDxValue

end
-- ==== Proof.BuDx.Tables.lean ====
/-  The block diagonal weights the host lays out for the gradient of the state branch's input, and the reference's term, entry by entry. -/
module

public import proofs.«01_k».proof.Proof.Gen.BuDxIdeal.Frame
public import proofs.«01_k».proof.Proof.BuDx.Ref
public import proofs.«01_k».proof.Proof.Lat.Tables
public import Idealize.ShloMosaic.Lib.Pipeline.ValueKit
public import Idealize.ShloMosaic.Lib.Pointwise

@[expose] public section

set_option maxRecDepth 16384

noncomputable section

namespace Cert.BuDxValue

open Cert.BuDxIdeal Cert.BuDxIdeal.Gen Idealize.ShloMosaic Idealize.ShloMosaic.TcCoe Idealize.SL.Sem

/-- The ones on the diagonal of the groups of a block. -/
def eyeT : FVec Ideal S8x8 .f32 :=
  uitofp .f32 (cmpi .eq (addi (iotaInDim S8x8 32 0) (broadcastInDim S8x8 ![] bcast_S_S8x8 (constantI S_ 32 0#32))) (iotaInDim S8x8 32 1))

/-- One part's weights, each group's on the diagonal of its block. -/
def diagT (A : FVec Ideal S512x64 .f32) : FVec Ideal S4x128x512 .f32 :=
  shapeCast S4x128x512 (mulf (broadcastInDim S4x8x16x8x64 ![0, 1, 2, 3, 4] bcast_S4x8x16x1x64_S4x8x16x8x64_0_1_2_3_4
      (broadcastInDim S4x8x16x1x64 ![0, 1, 2, 4] bcast_S4x8x16x64_S4x8x16x1x64_0_1_2_4
        (shapeCast S4x8x16x64 (shapeCast S32x16x64 A shapeCasts_S512x64_S32x16x64) shapeCasts_S32x16x64_S4x8x16x64)))
    (broadcastInDim S4x8x16x8x64 ![0, 1, 2, 3, 4] bcast_S1x8x1x8x1_S4x8x16x8x64_0_1_2_3_4 (broadcastInDim S1x8x1x8x1 ![1, 3] bcast_S8x8_S1x8x1x8x1_1_3 eyeT)))
    shapeCasts_S4x8x16x8x64_S4x128x512

/-- Both parts' weights. -/
def bbT (A B : FVec Ideal S512x64 .f32) : FVec Ideal S2x4x128x512 .bf16 :=
  truncf .bf16 (concatenate S2x4x128x512 0 [⟨S1x4x128x512, (broadcastInDim S1x4x128x512 ![1, 2, 3] bcast_S4x128x512_S1x4x128x512_1_2_3 (diagT A) : FVec Ideal S1x4x128x512 .f32)⟩,
    ⟨S1x4x128x512, (broadcastInDim S1x4x128x512 ![1, 2, 3] bcast_S4x128x512_S1x4x128x512_1_2_3 (diagT B) : FVec Ideal S1x4x128x512 .f32)⟩]
    concatenates_S1x4x128x512_S1x4x128x512_S2x4x128x512_d0) bitsLt_bf16_f32

theorem word_eye : ∀ g h : Fin 8, IntOp.cmpi .eq (IntOp.addi (BitVec.ofNat 32 g.val) 0#32) (BitVec.ofNat 32 h.val) = if g = h then 1#1 else 0#1 := by decide +kernel

theorem eye_at (g h : Fin 8) : eyeT (ix2 g h) = if g = h then (1 : EReal) else 0 := by
  pointwise [eyeT]
  rw [word_eye g h]
  split_ifs
  · show (((1#1 : BitVec 1).toNat : ℝ) : EReal) = 1
    simp
  · show (((0#1 : BitVec 1).toNat : ℝ) : EReal) = 0
    simp

theorem diag_at (A : FVec Ideal S512x64 .f32) (q : Fin 4) (j : Fin 128) (g : Fin 8) (n : Fin 64) : diagT A (ix3 q j ⟨g.val * 64 + n.val, by omega⟩)
    = A (ix2 ⟨q.val * 128 + j.val, by omega⟩ n) * eyeT (ix2 ⟨j.val / 16, by omega⟩ g) := by
  pointwise [diagT]
  exact congrArg (fun z => A (ix2 z n) * _) (Fin.ext (by show q.val * 128 + j.val / 16 * 16 + j.val % 16 = q.val * 128 + j.val; omega))

theorem bb_re (A B : FVec Ideal S512x64 .f32) (q : Fin 4) (j : Fin 128) (k : Fin 512) : bbT A B (ix4 0 q j k) = diagT A (ix3 q j k) := by
  pointwise [bbT]

theorem bb_im (A B : FVec Ideal S512x64 .f32) (q : Fin 4) (j : Fin 128) (k : Fin 512) : bbT A B (ix4 1 q j k) = diagT B (ix3 q j k) := by
  pointwise [bbT]

theorem pick_eye (f w : Fin 8 → Fin 64 → EReal) (a : Fin 8) : ∑ g : Fin 8, ∑ n : Fin 64, f g n * (w g n * eyeT (ix2 a g)) = ∑ n : Fin 64, f a n * w a n := by
  simp only [eye_at]
  rw [Finset.sum_eq_single a]
  · simp
  · intro g _ hg
    rw [if_neg (Ne.symm hg)]
    simp
  · simp

/-- A row's group against the group's weights, of one part. -/
def gsum (G : FVec Ideal S2x2176x2048 .f32) (W : FVec Ideal S512x64 .f32) (o : Fin 2) (i : Fin 2176) (q : Fin 4) (j : Fin 128) : EReal :=
  ∑ n : Fin 64, G (ix3 o i ⟨(q.val * 8 + j.val / 16) * 64 + n.val, by omega⟩) * W (ix2 ⟨q.val * 128 + j.val, by omega⟩ n)

theorem du_at (G : FVec Ideal S2x2176x2048 .f32) (A B : FVec Ideal S512x64 .f32) (T : FVec Ideal S2176x512 .f32) (i : Fin 2176) (q : Fin 4) (j : Fin 128) :
    du G A B T (ix3 0 i ⟨q.val * 128 + j.val, by omega⟩) = (T (ix2 i ⟨q.val * 128 + j.val, by omega⟩) + gsum G B 1 i q j) + gsum G A 0 i q j := by
  pointwise [du, gsum]
  have e1 : (q.val * 128 + j.val) / 16 = q.val * 8 + j.val / 16 := by omega
  have e2 : (q.val * 8 + j.val / 16) * 16 + (q.val * 128 + j.val) % 16 = q.val * 128 + j.val := by omega
  simp only [e1, e2]

/-- A row against a block's row is the row's group against the group's weights. -/
theorem val (G : FVec Ideal S2x2176x2048 .f32) (A B : FVec Ideal S512x64 .f32) (o : Fin 2) (i : Fin 2176) (q : Fin 4) (j : Fin 128) :
    ∑ k : Fin 512, G (ix3 o i ⟨q.val * 512 + k.val, by omega⟩) * bbT A B (ix4 o q j k) = gsum G (if o = 0 then A else B) o i q j := by
  rw [Cert.Rope.sum_heads (n := 8) (k := 64) rfl]
  have e : ∀ n : Fin 64, G (ix3 o i ⟨q.val * 512 + (j.val / 16 * 64 + n.val), by omega⟩) = G (ix3 o i ⟨(q.val * 8 + j.val / 16) * 64 + n.val, by omega⟩) :=
    fun n => congrArg (fun z => G (ix3 o i z)) (Fin.ext (by show q.val * 512 + (j.val / 16 * 64 + n.val) = (q.val * 8 + j.val / 16) * 64 + n.val; omega))
  obtain rfl | rfl : o = 0 ∨ o = 1 := by omega
  · rw [if_pos rfl]
    unfold gsum
    simp only [bb_re, diag_at]
    refine (pick_eye (fun g n => G (ix3 0 i ⟨q.val * 512 + (g.val * 64 + n.val), by omega⟩)) (fun g n => A (ix2 ⟨q.val * 128 + j.val, by omega⟩ n)) ⟨j.val / 16, by omega⟩).trans ?_
    exact Finset.sum_congr rfl fun n _ => congrArg (· * _) (e n)
  · rw [if_neg (by decide)]
    unfold gsum
    simp only [bb_im, diag_at]
    refine (pick_eye (fun g n => G (ix3 1 i ⟨q.val * 512 + (g.val * 64 + n.val), by omega⟩)) (fun g n => B (ix2 ⟨q.val * 128 + j.val, by omega⟩ n)) ⟨j.val / 16, by omega⟩).trans ?_
    exact Finset.sum_congr rfl fun n _ => congrArg (· * _) (e n)

end Cert.BuDxValue

end
-- ==== Proof.BuDx.Value.lean ====
/-  The result array of the kernel for the gradient of the state branch's input: the reference's term of the argument arrays. -/
module

public import proofs.«01_k».proof.Proof.BuDx.Tables
public import Idealize.ShloMosaic.Lib.Pipeline.ReadBack

@[expose] public section

set_option maxRecDepth 16384

noncomputable section

namespace Cert.BuDxValue

open Cert.BuDxIdeal Cert.BuDxIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- The argument arrays, at their types. -/
abbrev aG (c : Dev nD) : FVec Ideal S2x2176x2048 .f32 := m ((c : Thread nD τ).loc main_arg0)
abbrev aA (c : Dev nD) : FVec Ideal S512x64 .f32 := m ((c : Thread nD τ).loc main_arg1)
abbrev aB (c : Dev nD) : FVec Ideal S512x64 .f32 := m ((c : Thread nD τ).loc main_arg2)
abbrev aT (c : Dev nD) : FVec Ideal S2176x512 .f32 := m ((c : Thread nD τ).loc main_arg3)

/-- The block every window is at, at each point. -/
theorem idx : ∀ t : Fin cfg0.N, win0_0.index t = ![t.val % 2, t.val / 2, 0] ∧ win0_1.index t = ![t.val % 2, 0, 0, 0]
    ∧ win0_2.index t = ![0, t.val / 2, 0] ∧ win0_3.index t = ![0, t.val / 2, 0] :=
  (by decide +kernel : ∀ t : Fin grid0.N, _)

/-- The row of the arrays a tile's row is. -/
def row (t : Fin cfg0.N) (r : Fin 544) : Fin 2176 := ⟨t.val / 2 * 544 + r, by have := t.isLt; have e : cfg0.N = 8 := N_0; omega⟩

/-- The part of the states a point reads. -/
def part (t : Fin cfg0.N) : Fin 2 := ⟨t.val % 2, by omega⟩

theorem entry1 (c : Dev nD) : V m c main_v31 = bbT (aA m c) (aB m c) := by
  unfold bbT diagT eyeT aA aB
  after_results <;> rfl

theorem entry2 (c : Dev nD) : V m c main_v32 = broadcastInDim S1x2176x512 ![1, 2] bcast_S2176x512_S1x2176x512_1_2 (aT m c) := by
  unfold aT
  after_results <;> rfl

theorem in0 (c : Dev nD) (t : Fin cfg0.N) (r : Fin 544) (k : Fin 2048) : iblk m c 0 t (ix3 0 r k) = aG m c (ix3 (part t) (row t r) k) := by
  unfold row part aG
  rw [← V_main_arg0 m c]
  blk_point [iblk, idx t]

theorem in1 (c : Dev nD) (t : Fin cfg0.N) (q : Fin 4) (k : Fin 128) (j : Fin 512) : iblk m c 1 t (ix4 0 q k j) = bbT (aA m c) (aB m c) (ix4 (part t) q k j) := by
  rw [← entry1 m c]
  unfold part
  blk_point [iblk, idx t]

theorem in2 (c : Dev nD) (t : Fin cfg0.N) (r : Fin 544) (k : Fin 512) : iblk m c 2 t (ix3 0 r k) = aT m c (ix2 (row t r) k) := by
  have e : ∀ i : Fin 2176, (broadcastInDim S1x2176x512 ![1, 2] bcast_S2176x512_S1x2176x512_1_2 (aT m c) : FVec Ideal S1x2176x512 .f32) (ix3 0 i k) = aT m c (ix2 i k) := fun i => by
    pointwise []
  refine Eq.trans ?_ (e _)
  rw [← entry2 m c]
  unfold row
  blk_point [iblk, idx t]

theorem gsum_congr {G : FVec Ideal S2x2176x2048 .f32} {W : FVec Ideal S512x64 .f32} {o : Fin 2} {i i' : Fin 2176} {q q' : Fin 4} {j j' : Fin 128} (e0 : i = i') (e1 : q = q') (e2 : j = j') :
    gsum G W o i q j = gsum G W o i' q' j' := by rw [e0, e1, e2]

theorem ix3_congr {a b c : ℕ} {x x' : Fin a} {y y' : Fin b} {z z' : Fin c} (e0 : x = x') (e1 : y = y') (e2 : z = z') : ix3 x y z = ix3 x' y' z' := by
  rw [e0, e1, e2]

/-- The product of a tile's first step, of a block. -/
theorem prod0 (c : Dev nD) (t : Fin cfg0.N) (h : t.val % 2 = 0) (r : Fin 544) (q : Fin 4) (j : Fin 128) :
    ∑ k : Fin 512, aG m c (ix3 (part t) (row t r) ⟨q.val * 512 + k.val, by omega⟩) * bbT (aA m c) (aB m c) (ix4 (part t) q j k) = gsum (aG m c) (aA m c) 0 (row t r) q j := by
  have e : part t = 0 := Fin.ext h
  rw [e]
  have hv := val (aG m c) (aA m c) (aB m c) 0 (row t r) q j
  rw [if_pos rfl] at hv
  exact hv

/-- The product of a tile's second step, of a block. -/
theorem prod1 (c : Dev nD) (t : Fin cfg0.N) (h : t.val % 2 = 1) (r : Fin 544) (q : Fin 4) (j : Fin 128) :
    ∑ k : Fin 512, aG m c (ix3 (part t) (row t r) ⟨q.val * 512 + k.val, by omega⟩) * bbT (aA m c) (aB m c) (ix4 (part t) q j k) = gsum (aG m c) (aB m c) 1 (row t r) q j := by
  have e : part t = 1 := Fin.ext h
  rw [e]
  have hv := val (aG m c) (aA m c) (aB m c) 1 (row t r) q j
  rw [if_neg (by decide)] at hv
  exact hv

/-- The first block's lanes have no offset. -/
theorem zero_off (c : Dev nD) (t : Fin cfg0.N) (r : Fin 544) (f : Fin 512 → EReal) :
    ∑ k : Fin 512, aG m c (ix3 (part t) (row t r) ⟨k.val, by omega⟩) * f k = ∑ k : Fin 512, aG m c (ix3 (part t) (row t r) ⟨(0 : Fin 4).val * 512 + k.val, by simp; omega⟩) * f k :=
  Finset.sum_congr rfl fun k _ => congrArg (fun z => aG m c (ix3 (part t) (row t r) z) * _) (Fin.ext (by simp))

/-- What the first of a tile's two steps leaves in the accumulator. -/
theorem first (c : Dev nD) (t : Fin cfg0.N) (h : t.val % 2 = 0) (y : S544x512.Idx) :
    (outsAt0 m c t.val t.isLt).2 y = gsum (aG m c) (aA m c) 0 (row t (y 0)) ⟨(y 1).val / 128, by have := (y 1).isLt; simp at this; omega⟩ ⟨(y 1).val % 128, by omega⟩ := by
  have ht := h
  rw [outsAt0_A m c t h (by omega) h (by omega) h (by omega) h (by omega)]
  unfold sout0_A_0
  frame_out
  canon_tiles y h using (View.cover_of_tiledL _ ![544, 128] (by sl_kernel_rfl) y)
  all_goals
    obtain ⟨r, j, rfl⟩ : ∃ (r : Fin 544) (j : Fin 128), y = ix2 r j := ⟨y 0, y 1, eq_ix2 y⟩
    pointwise [k0_pay1, k0_pay2, k0_pay3, k0_pay4, k0_pay5, k0_pay6, k0_pay7, k0_pay8, k0_pay9, k0_pay10, k0_pay11, k0_pay12, k0_pay13]
    simp only [in0, in1]
  · refine (prod0 m c t ht r 3 j).trans (gsum_congr (congrArg (row t) (Fin.ext h0.symm)) (Fin.ext ?_) (Fin.ext ?_))
    · have e : (y 1).val = 384 + j.val := h1
      show 3 = (y 1).val / 128
      omega
    · have e : (y 1).val = 384 + j.val := h1
      show j.val = (y 1).val % 128
      omega
  · refine (prod0 m c t ht r 2 j).trans (gsum_congr (congrArg (row t) (Fin.ext h0.symm)) (Fin.ext ?_) (Fin.ext ?_))
    · have e : (y 1).val = 256 + j.val := h1
      show 2 = (y 1).val / 128
      omega
    · have e : (y 1).val = 256 + j.val := h1
      show j.val = (y 1).val % 128
      omega
  · refine (prod0 m c t ht r 1 j).trans (gsum_congr (congrArg (row t) (Fin.ext h0.symm)) (Fin.ext ?_) (Fin.ext ?_))
    · have e : (y 1).val = 128 + j.val := h1
      show 1 = (y 1).val / 128
      omega
    · have e : (y 1).val = 128 + j.val := h1
      show j.val = (y 1).val % 128
      omega
  · refine ((zero_off m c t r _).trans (prod0 m c t ht r 0 j)).trans (gsum_congr (congrArg (row t) (Fin.ext h0.symm)) (Fin.ext ?_) (Fin.ext ?_))
    · have e : (y 1).val = j.val := h1
      show 0 = (y 1).val / 128
      omega
    · have e : (y 1).val = j.val := h1
      show j.val = (y 1).val % 128
      omega

/-- The accumulator a tile's second step reads. -/
theorem carried (c : Dev nD) (t : Fin cfg0.N) (h : t.val % 2 = 1) (hp : t.val - 1 < cfg0.N) (r : Fin 544) (q : Fin 4) (j : Fin 128) (z : Fin 512) (hz : z.val = q.val * 128 + j.val) :
    (outsAt0 m c (t.val - 1) hp).2 (ix2 r z) = gsum (aG m c) (aA m c) 0 (row t r) q j := by
  refine (first m c ⟨t.val - 1, hp⟩ (by show (t.val - 1) % 2 = 0; omega) (ix2 r z)).trans (gsum_congr (Fin.ext ?_) (Fin.ext ?_) (Fin.ext ?_))
  · show (t.val - 1) / 2 * 544 + r.val = t.val / 2 * 544 + r.val
    omega
  · show z.val / 128 = q.val
    omega
  · show z.val % 128 = j.val
    omega

theorem turn (a b x : EReal) : a + b + x = x + b + a := by
  rw [add_comm a b, add_comm (b + a) x, add_assoc]

/-- The accumulator, the second product and the residual are the reference's entry. -/
theorem piece (c : Dev nD) (t : Fin cfg0.N) (h : t.val % 2 = 1) (hp : t.val - 1 < cfg0.N) (r : Fin 544) (q : Fin 4) (j : Fin 128) (z : Fin 512) (hz : z.val = q.val * 128 + j.val) :
    (outsAt0 m c (t.val - 1) hp).2 (ix2 r z)
      + ∑ k : Fin 512, aG m c (ix3 (part t) (row t r) ⟨q.val * 512 + k.val, by omega⟩) * bbT (aA m c) (aB m c) (ix4 (part t) q j k)
      + aT m c (ix2 (row t r) z) = du (aG m c) (aA m c) (aB m c) (aT m c) (ix3 0 (row t r) z) := by
  rw [carried m c t h hp r q j z hz, prod1 m c t h r q j, turn]
  have e : z = ⟨q.val * 128 + j.val, by clear hz; omega⟩ := Fin.ext hz
  rw [e]
  exact (du_at _ _ _ _ (row t r) q j).symm

/-- What the second of a tile's two steps leaves of the result. -/
theorem second (c : Dev nD) (t : Fin cfg0.N) (h : t.val % 2 = 1) (y : S1x544x512.Idx) :
    (outsAt0 m c t.val t.isLt).1 y = du (aG m c) (aA m c) (aB m c) (aT m c) (ix3 0 (row t (y 1)) (y 2)) := by
  have ht := h
  rw [outsAt0_B m c t (by omega) h (by omega) h (by omega) h (by omega) h]
  unfold out0_B_3
  frame_out
  have hread := read_unread_whole (Val := Elt Ideal) cc0_scratch0 (Memref.isWhole_whole _)
  canon_tiles y h using (View.cover_of_tiledL _ ![1, 544, 128] (by sl_kernel_rfl) y)
  all_goals
    obtain ⟨a, r, j, rfl⟩ : ∃ (a : Fin 1) (r : Fin 544) (j : Fin 128), y = ix3 a r j := ⟨y 0, y 1, y 2, eq_ix3 y⟩
    obtain rfl : a = 0 := Subsingleton.elim _ _
    pointwise [k0_pay1, k0_pay2, k0_pay3, k0_pay4, k0_pay5, k0_pay6, k0_pay7, k0_pay8, k0_pay9, k0_pay10, k0_pay11, k0_pay12, k0_pay13]
    simp only [in0, in1, in2]
    rw [hread]
  · exact (piece m c t ht _ r 3 j ⟨384 + j.val, by omega⟩ rfl).trans (congrArg _ (ix3_congr rfl (congrArg (row t) (Fin.ext h1.symm)) (Fin.ext h2.symm)))
  · exact (piece m c t ht _ r 2 j ⟨256 + j.val, by omega⟩ rfl).trans (congrArg _ (ix3_congr rfl (congrArg (row t) (Fin.ext h1.symm)) (Fin.ext h2.symm)))
  · exact (piece m c t ht _ r 1 j ⟨128 + j.val, by omega⟩ rfl).trans (congrArg _ (ix3_congr rfl (congrArg (row t) (Fin.ext h1.symm)) (Fin.ext h2.symm)))
  · refine (congrArg (fun z => _ + z + _) (zero_off m c t r _)).trans ?_
    exact (piece m c t ht _ r 0 j ⟨j.val, by omega⟩ (by simp)).trans (congrArg _ (ix3_congr rfl (congrArg (row t) (Fin.ext h1.symm)) (Fin.ext h2.symm)))

theorem emb3 (t : Fin cfg0.N) (y : S1x544x512.Idx) : ((cfg0.win 3).blk t).view.emb y = ix3 0 (row t (y 1)) (y 2) := by
  refine (eq_ix3 _).trans (ix3_congr (Subsingleton.elim _ _) (Fin.ext ?_) (Fin.ext ?_))
  all_goals
    try unfold row
    blk_point [idx t]

/-- The array of the gradient of the branch input, after the run. -/
theorem final3 (c : Dev nD) : (dats m 0 c).arrAt 3 (cfgs 0).N = du (aG m c) (aA m c) (aB m c) (aT m c) := by
  refine (dats m 0 c).arrAt_eq_of_covers 3 _ (by decide +kernel) fun t hf y => ?_
  blk_simp
  rw [after0_3]
  exact (second m c t ((flush0_3 t).mp hf) y).trans (congrArg _ (emb3 t y).symm)

end Cert.BuDxValue

end
-- ==== Proof.BuDx.Claims.lean ====
/-  The claims about the gradient of the state branch's input. -/
module

public import proofs.«01_k».proof.Defs
public import proofs.«01_k».proof.Proof.Gen.BuDx.Frame
public import proofs.«01_k».proof.Proof.Gen.BuDxIdeal.Frame
public import proofs.«01_k».proof.Proof.Gen.BuDxRefIdeal.Run
public import proofs.«01_k».proof.Proof.BuDx.Value
public import Idealize.ShloMosaic.Lib.Quiescent
public import Idealize.ShloMosaic.Lib.Claim

@[expose] public section

set_option maxRecDepth 16384

noncomputable section

namespace Cert.BuDxValue

open Idealize.ShloMosaic Idealize.ShloMosaic.TcCoe Idealize.SL.Sem

theorem frame_kernel : Cert.quiescent_BuDx := fun m ρ _ => Cert.BuDx.Gen.frame m ρ
theorem frame_ideal : Cert.quiescent_BuDxIdeal := fun m ρ _ => Cert.BuDxIdeal.Gen.frame m ρ

theorem frame_ref : Cert.quiescent_BuDxRefIdeal := fun m ρ _ =>
  (θ_run Cert.BuDxRefIdeal.defs _ _).mono (fun r h => ⟨fun c => (h c).2, sem_eq_zero_of_no_sems (by decide) r.2⟩)
    (Cert.BuDxRefIdeal.Value.run (F := Ideal) m ρ)

section

variable (m : (ℓ : Loc Cert.BuDxIdeal.nD Cert.BuDxIdeal.τ Cert.BuDxIdeal.sig) → Buf (Elt Ideal) ℓ) (g : Dev Cert.BuDxIdeal.nD → PrngReg)

set_option maxHeartbeats 1000000 in
/-- The kernel's run: its results at the reference's terms, its arguments unchanged. -/
theorem run_kernel : θ_run (Cert.BuDxIdeal.defs (F := Ideal)) (onTc (τ := Cert.BuDxIdeal.τ) (Cert.BuDxIdeal.main (F := Ideal))) ⟨m, fun _ => 0, g⟩ (fun r => ∀ c : Dev Cert.BuDxIdeal.nD,
    r.2.mem ((c.tc : Thread Cert.BuDxIdeal.nD Cert.BuDxIdeal.τ).loc Cert.BuDxIdeal.main_v33) = du (aG m c) (aA m c) (aB m c) (aT m c)
    ∧ r.2.mem ((c.tc : Thread Cert.BuDxIdeal.nD Cert.BuDxIdeal.τ).loc Cert.BuDxIdeal.main_arg0) = m ((c.tc : Thread Cert.BuDxIdeal.nD Cert.BuDxIdeal.τ).loc Cert.BuDxIdeal.main_arg0)
    ∧ r.2.mem ((c.tc : Thread Cert.BuDxIdeal.nD Cert.BuDxIdeal.τ).loc Cert.BuDxIdeal.main_arg1) = m ((c.tc : Thread Cert.BuDxIdeal.nD Cert.BuDxIdeal.τ).loc Cert.BuDxIdeal.main_arg1)
    ∧ r.2.mem ((c.tc : Thread Cert.BuDxIdeal.nD Cert.BuDxIdeal.τ).loc Cert.BuDxIdeal.main_arg2) = m ((c.tc : Thread Cert.BuDxIdeal.nD Cert.BuDxIdeal.τ).loc Cert.BuDxIdeal.main_arg2)
    ∧ r.2.mem ((c.tc : Thread Cert.BuDxIdeal.nD Cert.BuDxIdeal.τ).loc Cert.BuDxIdeal.main_arg3) = m ((c.tc : Thread Cert.BuDxIdeal.nD Cert.BuDxIdeal.τ).loc Cert.BuDxIdeal.main_arg3)) := by
  run_from Cert.BuDxIdeal.Gen.unchanged m g & Cert.BuDxIdeal.Gen.run_main m g
  · exact final3 m c

variable (m' : (ℓ : Loc Cert.BuDxRefIdeal.nD Cert.BuDxRefIdeal.τ Cert.BuDxRefIdeal.sig) → Buf (Elt Ideal) ℓ) (g' : Dev Cert.BuDxRefIdeal.nD → PrngReg)

/-- The reference's run, its results named. -/
theorem run_ref : θ_run (Cert.BuDxRefIdeal.defs (F := Ideal)) (onTc (τ := Cert.BuDxRefIdeal.τ) (Cert.BuDxRefIdeal.main (F := Ideal))) ⟨m', fun _ => 0, g'⟩ (fun r => ∀ c : Dev Cert.BuDxRefIdeal.nD,
    r.2.mem ((c.tc : Thread Cert.BuDxRefIdeal.nD Cert.BuDxRefIdeal.τ).loc Cert.BuDxRefIdeal.main_v24) = du (m' ((c.tc : Thread Cert.BuDxRefIdeal.nD Cert.BuDxRefIdeal.τ).loc Cert.BuDxRefIdeal.main_arg0)) (m' ((c.tc : Thread Cert.BuDxRefIdeal.nD Cert.BuDxRefIdeal.τ).loc Cert.BuDxRefIdeal.main_arg1)) (m' ((c.tc : Thread Cert.BuDxRefIdeal.nD Cert.BuDxRefIdeal.τ).loc Cert.BuDxRefIdeal.main_arg2)) (m' ((c.tc : Thread Cert.BuDxRefIdeal.nD Cert.BuDxRefIdeal.τ).loc Cert.BuDxRefIdeal.main_arg3))
    ∧ r.2.mem ((c.tc : Thread Cert.BuDxRefIdeal.nD Cert.BuDxRefIdeal.τ).loc Cert.BuDxRefIdeal.main_arg0) = m' ((c.tc : Thread Cert.BuDxRefIdeal.nD Cert.BuDxRefIdeal.τ).loc Cert.BuDxRefIdeal.main_arg0)
    ∧ r.2.mem ((c.tc : Thread Cert.BuDxRefIdeal.nD Cert.BuDxRefIdeal.τ).loc Cert.BuDxRefIdeal.main_arg1) = m' ((c.tc : Thread Cert.BuDxRefIdeal.nD Cert.BuDxRefIdeal.τ).loc Cert.BuDxRefIdeal.main_arg1)
    ∧ r.2.mem ((c.tc : Thread Cert.BuDxRefIdeal.nD Cert.BuDxRefIdeal.τ).loc Cert.BuDxRefIdeal.main_arg2) = m' ((c.tc : Thread Cert.BuDxRefIdeal.nD Cert.BuDxRefIdeal.τ).loc Cert.BuDxRefIdeal.main_arg2)
    ∧ r.2.mem ((c.tc : Thread Cert.BuDxRefIdeal.nD Cert.BuDxRefIdeal.τ).loc Cert.BuDxRefIdeal.main_arg3) = m' ((c.tc : Thread Cert.BuDxRefIdeal.nD Cert.BuDxRefIdeal.τ).loc Cert.BuDxRefIdeal.main_arg3)) := by
  exact Cert.BuDxRefIdeal.Value.run m' g'

end

/-- Each of the kernel's results is the reference's. -/
theorem algebraic : Cert.algebraic_BuDxIdeal_BuDxRefIdeal := by
  intro m g m' g' _ hagree
  refine ⟨_, run_kernel m g, (θ_run Cert.BuDxRefIdeal.defs _ _).mono (fun r h c => ?_) (run_ref m' g')⟩
  have e0 := (hagree c).1
  have e1 := (hagree c).2.1
  have e2 := (hagree c).2.2.1
  have e3 := (hagree c).2.2.2
  obtain ⟨h0, hargs⟩ := h c
  rw [e0, e1, e2, e3] at h0
  exact ⟨h0, hargs⟩

end Cert.BuDxValue

end
-- ==== Proof.Bu.Ref.lean ====
/-  The reference's results for the drive of the states: the terms its run ends with, over typed variables. -/
module

public import proofs.«01_k».proof.Proof.Gen.BuRefIdeal.Run
public import Idealize.ShloMosaic.Lib.Pointwise

@[expose] public section

set_option maxRecDepth 16384

noncomputable section

namespace Cert.BuValue

open Cert.BuRefIdeal Cert.BuRefIdeal.Gen Cert.BuRefIdeal.Value Idealize.ShloMosaic Idealize.ShloMosaic.TcCoe Idealize.SL.Sem

/-- The reference's drive of the states. -/
def bu (U : FVec Ideal S2176x512 .bf16) (A : FVec Ideal S512x64 .f32) (B : FVec Ideal S512x64 .f32) : FVec Ideal S2x2176x2048 .f32 :=
  concatenate S2x2176x2048 0 [⟨S1x2176x2048, (broadcastInDim S1x2176x2048 ![1, 2] bcast_S2176x2048_S1x2176x2048_1_2 (shapeCast _ (transpose S2176x32x64 [1, 0, 2] (Host.dotGeneral dot_S2176x32x16_S32x64x16_S32x2176x64_2_2_0_1_1_0 none (shapeCast _ (extf .f32 U bitsLt_bf16_f32) shapeCasts_S2176x512_S2176x32x16) (transpose S32x64x16 [0, 2, 1] (shapeCast _ A shapeCasts_S512x64_S32x16x64) transposes_S32x16x64_S32x64x16_0_2_1)) transposes_S32x2176x64_S2176x32x64_1_0_2) shapeCasts_S2176x32x64_S2176x2048))⟩, ⟨S1x2176x2048, (broadcastInDim S1x2176x2048 ![1, 2] bcast_S2176x2048_S1x2176x2048_1_2 (shapeCast _ (transpose S2176x32x64 [1, 0, 2] (Host.dotGeneral dot_S2176x32x16_S32x64x16_S32x2176x64_2_2_0_1_1_0 none (shapeCast _ (extf .f32 U bitsLt_bf16_f32) shapeCasts_S2176x512_S2176x32x16) (transpose S32x64x16 [0, 2, 1] (shapeCast _ B shapeCasts_S512x64_S32x16x64) transposes_S32x16x64_S32x64x16_0_2_1)) transposes_S32x2176x64_S2176x32x64_1_0_2) shapeCasts_S2176x32x64_S2176x2048))⟩] concatenates_S1x2176x2048_S1x2176x2048_S2x2176x2048_d0

end Cert.BuValue

end
-- ==== Proof.Bu.Tables.lean ====
/-  The block diagonal weights the host lays out for the drive of the states, and the reference's term, entry by entry. -/
module

public import proofs.«01_k».proof.Proof.Gen.BuIdeal.Frame
public import proofs.«01_k».proof.Proof.Bu.Ref
public import proofs.«01_k».proof.Proof.Lat.Tables
public import Idealize.ShloMosaic.Lib.Pipeline.ValueKit
public import Idealize.ShloMosaic.Lib.Pointwise

@[expose] public section

set_option maxRecDepth 16384

noncomputable section

namespace Cert.BuValue

open Cert.BuIdeal Cert.BuIdeal.Gen Idealize.ShloMosaic Idealize.ShloMosaic.TcCoe Idealize.SL.Sem

/-- The ones on the diagonal of the groups of a block. -/
def eyeT : FVec Ideal S8x8 .f32 :=
  uitofp .f32 (cmpi .eq (addi (iotaInDim S8x8 32 0) (broadcastInDim S8x8 ![] bcast_S_S8x8 (constantI S_ 32 0#32))) (iotaInDim S8x8 32 1))

/-- One part's weights, each group's on the diagonal of its block. -/
def diagT (A : FVec Ideal S512x64 .f32) : FVec Ideal S4x128x512 .f32 :=
  shapeCast S4x128x512 (mulf (broadcastInDim S4x8x16x8x64 ![0, 1, 2, 3, 4] bcast_S4x8x16x1x64_S4x8x16x8x64_0_1_2_3_4
      (broadcastInDim S4x8x16x1x64 ![0, 1, 2, 4] bcast_S4x8x16x64_S4x8x16x1x64_0_1_2_4
        (shapeCast S4x8x16x64 (shapeCast S32x16x64 A shapeCasts_S512x64_S32x16x64) shapeCasts_S32x16x64_S4x8x16x64)))
    (broadcastInDim S4x8x16x8x64 ![0, 1, 2, 3, 4] bcast_S1x8x1x8x1_S4x8x16x8x64_0_1_2_3_4 (broadcastInDim S1x8x1x8x1 ![1, 3] bcast_S8x8_S1x8x1x8x1_1_3 eyeT)))
    shapeCasts_S4x8x16x8x64_S4x128x512

/-- Both parts' weights. -/
def bbT (A B : FVec Ideal S512x64 .f32) : FVec Ideal S2x4x128x512 .bf16 :=
  truncf .bf16 (concatenate S2x4x128x512 0 [⟨S1x4x128x512, (broadcastInDim S1x4x128x512 ![1, 2, 3] bcast_S4x128x512_S1x4x128x512_1_2_3 (diagT A) : FVec Ideal S1x4x128x512 .f32)⟩,
    ⟨S1x4x128x512, (broadcastInDim S1x4x128x512 ![1, 2, 3] bcast_S4x128x512_S1x4x128x512_1_2_3 (diagT B) : FVec Ideal S1x4x128x512 .f32)⟩]
    concatenates_S1x4x128x512_S1x4x128x512_S2x4x128x512_d0) bitsLt_bf16_f32

theorem word_eye : ∀ g h : Fin 8, IntOp.cmpi .eq (IntOp.addi (BitVec.ofNat 32 g.val) 0#32) (BitVec.ofNat 32 h.val) = if g = h then 1#1 else 0#1 := by decide +kernel

theorem eye_at (g h : Fin 8) : eyeT (ix2 g h) = if g = h then (1 : EReal) else 0 := by
  pointwise [eyeT]
  rw [word_eye g h]
  split_ifs
  · show (((1#1 : BitVec 1).toNat : ℝ) : EReal) = 1
    simp
  · show (((0#1 : BitVec 1).toNat : ℝ) : EReal) = 0
    simp

theorem diag_at (A : FVec Ideal S512x64 .f32) (q : Fin 4) (g : Fin 8) (h : Fin 16) (k : Fin 512) : diagT A (ix3 q ⟨g.val * 16 + h.val, by omega⟩ k)
    = A (ix2 ⟨(q.val * 8 + g.val) * 16 + h.val, by omega⟩ ⟨k.val % 64, by omega⟩) * eyeT (ix2 g ⟨k.val / 64, by omega⟩) := by
  pointwise [diagT]
  exact congrArg (fun z => A (ix2 z _) * _) (Fin.ext (by show q.val * 128 + g.val * 16 + h.val = (q.val * 8 + g.val) * 16 + h.val; omega))

theorem bb_re (A B : FVec Ideal S512x64 .f32) (q : Fin 4) (j : Fin 128) (k : Fin 512) : bbT A B (ix4 0 q j k) = diagT A (ix3 q j k) := by
  pointwise [bbT]

theorem bb_im (A B : FVec Ideal S512x64 .f32) (q : Fin 4) (j : Fin 128) (k : Fin 512) : bbT A B (ix4 1 q j k) = diagT B (ix3 q j k) := by
  pointwise [bbT]

theorem bu_part (U : FVec Ideal S2176x512 .bf16) (A B : FVec Ideal S512x64 .f32) (o : Fin 2) (i : Fin 2176) (q : Fin 4) (k : Fin 512) : bu U A B (ix3 o i ⟨q.val * 512 + k.val, by omega⟩)
    = ∑ h : Fin 16, U (ix2 i ⟨(q.val * 8 + k.val / 64) * 16 + h.val, by omega⟩) * (if o = 0 then A else B) (ix2 ⟨(q.val * 8 + k.val / 64) * 16 + h.val, by omega⟩ ⟨k.val % 64, by omega⟩) := by
  have e1 : (q.val * 512 + k.val) / 64 = q.val * 8 + k.val / 64 := by omega
  have e2 : (q.val * 512 + k.val) % 64 = k.val % 64 := by omega
  obtain rfl | rfl : o = 0 ∨ o = 1 := by omega
  · rw [if_pos rfl]
    pointwise [bu]
    simp only [e1, e2, mul_comm (U _)]
  · rw [if_neg (by decide)]
    pointwise [bu]
    simp only [e1, e2, mul_comm (U _)]

theorem pick_eye (f w : Fin 8 → Fin 16 → EReal) (a : Fin 8) : ∑ g : Fin 8, ∑ h : Fin 16, f g h * (w g h * eyeT (ix2 g a)) = ∑ h : Fin 16, f a h * w a h := by
  simp only [eye_at]
  rw [Finset.sum_eq_single a]
  · simp
  · intro g _ hg
    rw [if_neg hg]
    simp
  · simp

/-- A row against a block's column is the row's group against the group's weights. -/
theorem val (U : FVec Ideal S2176x512 .bf16) (A B : FVec Ideal S512x64 .f32) (o : Fin 2) (i : Fin 2176) (q : Fin 4) (k : Fin 512) :
    ∑ j : Fin 128, U (ix2 i ⟨q.val * 128 + j.val, by omega⟩) * bbT A B (ix4 o q j k) = bu U A B (ix3 o i ⟨q.val * 512 + k.val, by omega⟩) := by
  rw [Cert.Rope.sum_heads (n := 8) (k := 16) rfl]
  have e : ∀ h : Fin 16, U (ix2 i ⟨q.val * 128 + (k.val / 64 * 16 + h.val), by omega⟩) = U (ix2 i ⟨(q.val * 8 + k.val / 64) * 16 + h.val, by omega⟩) :=
    fun h => congrArg (fun z => U (ix2 i z)) (Fin.ext (by show q.val * 128 + (k.val / 64 * 16 + h.val) = (q.val * 8 + k.val / 64) * 16 + h.val; omega))
  have h := bu_part U A B o i q k
  obtain rfl | rfl : o = 0 ∨ o = 1 := by omega
  · rw [if_pos rfl] at h
    rw [h]
    simp only [bb_re, diag_at]
    refine (pick_eye (fun g h => U (ix2 i ⟨q.val * 128 + (g.val * 16 + h.val), by omega⟩)) (fun g h => A (ix2 ⟨(q.val * 8 + g.val) * 16 + h.val, by omega⟩ ⟨k.val % 64, by omega⟩)) ⟨k.val / 64, by omega⟩).trans ?_
    exact Finset.sum_congr rfl fun h _ => congrArg (· * _) (e h)
  · rw [if_neg (by decide)] at h
    rw [h]
    simp only [bb_im, diag_at]
    refine (pick_eye (fun g h => U (ix2 i ⟨q.val * 128 + (g.val * 16 + h.val), by omega⟩)) (fun g h => B (ix2 ⟨(q.val * 8 + g.val) * 16 + h.val, by omega⟩ ⟨k.val % 64, by omega⟩)) ⟨k.val / 64, by omega⟩).trans ?_
    exact Finset.sum_congr rfl fun h _ => congrArg (· * _) (e h)

end Cert.BuValue

end
-- ==== Proof.Bu.Value.lean ====
/-  The result array of the kernel for the drive of the states: the reference's term of the argument arrays. -/
module

public import proofs.«01_k».proof.Proof.Bu.Tables

@[expose] public section

set_option maxRecDepth 16384

noncomputable section

namespace Cert.BuValue

open Cert.BuIdeal Cert.BuIdeal.Gen Idealize.ShloMosaic Idealize.ShloMosaic.TcCoe Idealize.SL.Sem
open Idealize.ShloMosaic.Pipeline (Dat)

variable (m : (ℓ : Loc nD τ sig) → Buf (Elt Ideal) ℓ)

/-- The argument arrays, at their types. -/
abbrev aU (c : Dev nD) : FVec Ideal S2176x512 .bf16 := m ((c : Thread nD τ).loc main_arg0)
abbrev aA (c : Dev nD) : FVec Ideal S512x64 .f32 := m ((c : Thread nD τ).loc main_arg1)
abbrev aB (c : Dev nD) : FVec Ideal S512x64 .f32 := m ((c : Thread nD τ).loc main_arg2)

/-- The block every window is at, at each point. -/
theorem idx : ∀ t : Fin cfg0.N, win0_0.index t = ![0, (grid0.coords t 1).val, 0] ∧ win0_1.index t = ![(grid0.coords t 0).val, 0, 0, 0]
    ∧ win0_2.index t = ![(grid0.coords t 0).val, (grid0.coords t 1).val, 0] :=
  (by decide +kernel : ∀ t : Fin grid0.N, _)

/-- The row of the arrays a tile's row is. -/
def row (t : Fin cfg0.N) (r : Fin 544) : Fin 2176 := ⟨(grid0.coords t 1).val * 544 + r, by have := (grid0.coords t 1).isLt; simp at this; omega⟩

/-- The part of the states a point computes. -/
def part (t : Fin cfg0.N) : Fin 2 := ⟨(grid0.coords t 0).val, by have := (grid0.coords t 0).isLt; simp at this; omega⟩

theorem entry0 (c : Dev nD) : V m c main_v0 = broadcastInDim S1x2176x512 ![1, 2] bcast_S2176x512_S1x2176x512_1_2 (aU m c) := by
  unfold aU
  after_results <;> rfl

theorem entry1 (c : Dev nD) : V m c main_v32 = bbT (aA m c) (aB m c) := by
  unfold bbT diagT eyeT aA aB
  after_results <;> rfl

theorem in0 (c : Dev nD) (t : Fin cfg0.N) (r : Fin 544) (k : Fin 512) : iblk m c 0 t (ix3 0 r k) = aU m c (ix2 (row t r) k) := by
  unfold row
  have e : (broadcastInDim S1x2176x512 ![1, 2] bcast_S2176x512_S1x2176x512_1_2 (aU m c) : FVec Ideal S1x2176x512 .bf16) (ix3 0 (row t r) k) = aU m c (ix2 (row t r) k) := by
    pointwise []
  refine Eq.trans ?_ e
  rw [← entry0 m c]
  unfold row
  blk_point [iblk, idx t]

theorem in1 (c : Dev nD) (t : Fin cfg0.N) (q : Fin 4) (k : Fin 128) (j : Fin 512) : iblk m c 1 t (ix4 0 q k j) = bbT (aA m c) (aB m c) (ix4 (part t) q k j) := by
  rw [← entry1 m c]
  unfold part
  blk_point [iblk, idx t]

theorem ix3_congr {a b c : ℕ} {x x' : Fin a} {y y' : Fin b} {z z' : Fin c} (e0 : x = x') (e1 : y = y') (e2 : z = z') : ix3 x y z = ix3 x' y' z' := by
  rw [e0, e1, e2]

theorem emb2 (t : Fin cfg0.N) (y : S1x544x2048.Idx) : ((cfg0.win 2).blk t).view.emb y = ix3 (part t) (row t (y 1)) (y 2) := by
  refine (eq_ix3 _).trans (ix3_congr (Fin.ext ?_) (Fin.ext ?_) (Fin.ext ?_))
  all_goals
    try unfold row
    try unfold part
    blk_point [idx t]

/-- What a point leaves of the states' drive. -/
theorem point2 (c : Dev nD) (t : Fin cfg0.N) (y : S1x544x2048.Idx) : out0_2 (iblk m c 0 t) (iblk m c 1 t) y
    = bu (aU m c) (aA m c) (aB m c) (ix3 (part t) (row t (y 1)) (y 2)) := by
  canon_tiles y h
  all_goals
    obtain ⟨a, r, k, rfl⟩ : ∃ (a : Fin 1) (r : Fin 544) (k : Fin 512), y = ix3 a r k := ⟨y 0, y 1, y 2, eq_ix3 y⟩
    obtain rfl : a = 0 := Subsingleton.elim _ _
    pointwise [k0_pay1, k0_pay2, k0_pay3, k0_pay4, k0_pay5]
    simp only [in0, in1]
    first
      | refine (val (aU m c) (aA m c) (aB m c) (part t) (row t r) 3 k).trans (congrArg _ (ix3_congr rfl (congrArg (row t) (Fin.ext ?_)) (Fin.ext ?_)))
      | refine (val (aU m c) (aA m c) (aB m c) (part t) (row t r) 2 k).trans (congrArg _ (ix3_congr rfl (congrArg (row t) (Fin.ext ?_)) (Fin.ext ?_)))
      | refine (val (aU m c) (aA m c) (aB m c) (part t) (row t r) 1 k).trans (congrArg _ (ix3_congr rfl (congrArg (row t) (Fin.ext ?_)) (Fin.ext ?_)))
      | refine (Eq.trans (Finset.sum_congr rfl fun j _ => congrArg (fun z => aU m c (ix2 (row t r) z) * _) (Fin.ext (Nat.zero_add _).symm)) (val (aU m c) (aA m c) (aB m c) (part t) (row t r) 0 k)).trans (congrArg _ (ix3_congr rfl (congrArg (row t) (Fin.ext ?_)) (Fin.ext ?_)))
    all_goals first | exact h0.symm | exact h1.symm | exact h2.symm | exact (congrArg (· + k.val) (Nat.zero_mul 512)).trans ((Nat.zero_add _).trans h2.symm)

/-- The array of the states' drive, after the run. -/
theorem final2 (c : Dev nD) : (dats m 0 c).arrAt 2 (cfgs 0).N = bu (aU m c) (aA m c) (aB m c) := by
  refine (dats m 0 c).arrAt_eq_of_covers 2 _ (by decide +kernel) fun t _ y => ?_
  blk_simp
  rw [after0_2]
  exact (point2 m c t y).trans (congrArg _ (emb2 t y).symm)

end Cert.BuValue

end
-- ==== Proof.Bu.Claims.lean ====
/-  The claims about the drive of the states. -/
module

public import proofs.«01_k».proof.Defs
public import proofs.«01_k».proof.Proof.Gen.Bu.Frame
public import proofs.«01_k».proof.Proof.Gen.BuIdeal.Frame
public import proofs.«01_k».proof.Proof.Gen.BuRefIdeal.Run
public import proofs.«01_k».proof.Proof.Bu.Value
public import Idealize.ShloMosaic.Lib.Quiescent
public import Idealize.ShloMosaic.Lib.Claim

@[expose] public section

set_option maxRecDepth 16384

noncomputable section

namespace Cert.BuValue

open Idealize.ShloMosaic Idealize.ShloMosaic.TcCoe Idealize.SL.Sem

theorem frame_kernel : Cert.quiescent_Bu := fun m ρ _ => Cert.Bu.Gen.frame m ρ
theorem frame_ideal : Cert.quiescent_BuIdeal := fun m ρ _ => Cert.BuIdeal.Gen.frame m ρ

theorem frame_ref : Cert.quiescent_BuRefIdeal := fun m ρ _ =>
  (θ_run Cert.BuRefIdeal.defs _ _).mono (fun r h => ⟨fun c => (h c).2, sem_eq_zero_of_no_sems (by decide) r.2⟩)
    (Cert.BuRefIdeal.Value.run (F := Ideal) m ρ)

section

variable (m : (ℓ : Loc Cert.BuIdeal.nD Cert.BuIdeal.τ Cert.BuIdeal.sig) → Buf (Elt Ideal) ℓ) (g : Dev Cert.BuIdeal.nD → PrngReg)

set_option maxHeartbeats 1000000 in
/-- The kernel's run: its results at the reference's terms, its arguments unchanged. -/
theorem run_kernel : θ_run (Cert.BuIdeal.defs (F := Ideal)) (onTc (τ := Cert.BuIdeal.τ) (Cert.BuIdeal.main (F := Ideal))) ⟨m, fun _ => 0, g⟩ (fun r => ∀ c : Dev Cert.BuIdeal.nD,
    r.2.mem ((c.tc : Thread Cert.BuIdeal.nD Cert.BuIdeal.τ).loc Cert.BuIdeal.main_v33) = bu (aU m c) (aA m c) (aB m c)
    ∧ r.2.mem ((c.tc : Thread Cert.BuIdeal.nD Cert.BuIdeal.τ).loc Cert.BuIdeal.main_arg0) = m ((c.tc : Thread Cert.BuIdeal.nD Cert.BuIdeal.τ).loc Cert.BuIdeal.main_arg0)
    ∧ r.2.mem ((c.tc : Thread Cert.BuIdeal.nD Cert.BuIdeal.τ).loc Cert.BuIdeal.main_arg1) = m ((c.tc : Thread Cert.BuIdeal.nD Cert.BuIdeal.τ).loc Cert.BuIdeal.main_arg1)
    ∧ r.2.mem ((c.tc : Thread Cert.BuIdeal.nD Cert.BuIdeal.τ).loc Cert.BuIdeal.main_arg2) = m ((c.tc : Thread Cert.BuIdeal.nD Cert.BuIdeal.τ).loc Cert.BuIdeal.main_arg2)) := by
  run_from Cert.BuIdeal.Gen.unchanged m g & Cert.BuIdeal.Gen.run_main m g
  · exact final2 m c

variable (m' : (ℓ : Loc Cert.BuRefIdeal.nD Cert.BuRefIdeal.τ Cert.BuRefIdeal.sig) → Buf (Elt Ideal) ℓ) (g' : Dev Cert.BuRefIdeal.nD → PrngReg)

/-- The reference's run, its results named. -/
theorem run_ref : θ_run (Cert.BuRefIdeal.defs (F := Ideal)) (onTc (τ := Cert.BuRefIdeal.τ) (Cert.BuRefIdeal.main (F := Ideal))) ⟨m', fun _ => 0, g'⟩ (fun r => ∀ c : Dev Cert.BuRefIdeal.nD,
    r.2.mem ((c.tc : Thread Cert.BuRefIdeal.nD Cert.BuRefIdeal.τ).loc Cert.BuRefIdeal.main_v14) = bu (m' ((c.tc : Thread Cert.BuRefIdeal.nD Cert.BuRefIdeal.τ).loc Cert.BuRefIdeal.main_arg0)) (m' ((c.tc : Thread Cert.BuRefIdeal.nD Cert.BuRefIdeal.τ).loc Cert.BuRefIdeal.main_arg1)) (m' ((c.tc : Thread Cert.BuRefIdeal.nD Cert.BuRefIdeal.τ).loc Cert.BuRefIdeal.main_arg2))
    ∧ r.2.mem ((c.tc : Thread Cert.BuRefIdeal.nD Cert.BuRefIdeal.τ).loc Cert.BuRefIdeal.main_arg0) = m' ((c.tc : Thread Cert.BuRefIdeal.nD Cert.BuRefIdeal.τ).loc Cert.BuRefIdeal.main_arg0)
    ∧ r.2.mem ((c.tc : Thread Cert.BuRefIdeal.nD Cert.BuRefIdeal.τ).loc Cert.BuRefIdeal.main_arg1) = m' ((c.tc : Thread Cert.BuRefIdeal.nD Cert.BuRefIdeal.τ).loc Cert.BuRefIdeal.main_arg1)
    ∧ r.2.mem ((c.tc : Thread Cert.BuRefIdeal.nD Cert.BuRefIdeal.τ).loc Cert.BuRefIdeal.main_arg2) = m' ((c.tc : Thread Cert.BuRefIdeal.nD Cert.BuRefIdeal.τ).loc Cert.BuRefIdeal.main_arg2)) := by
  exact Cert.BuRefIdeal.Value.run m' g'

end

/-- Each of the kernel's results is the reference's. -/
theorem algebraic : Cert.algebraic_BuIdeal_BuRefIdeal := by
  intro m g m' g' _ hagree
  refine ⟨_, run_kernel m g, (θ_run Cert.BuRefIdeal.defs _ _).mono (fun r h c => ?_) (run_ref m' g')⟩
  have e0 := (hagree c).1
  have e1 := (hagree c).2.1
  have e2 := (hagree c).2.2
  obtain ⟨h0, hargs⟩ := h c
  rw [e0, e1, e2] at h0
  exact ⟨h0, hargs⟩

end Cert.BuValue

end
-- ==== Proof.Cs.Ref.lean ====
/-  The reference's results for the output product of the states: the terms its run ends with, over typed variables. -/
module

public import proofs.«01_k».proof.Proof.Gen.CsRefIdeal.Run
public import Idealize.ShloMosaic.Lib.Pointwise

@[expose] public section

set_option maxRecDepth 16384

noncomputable section

namespace Cert.CsValue

open Cert.CsRefIdeal Cert.CsRefIdeal.Gen Cert.CsRefIdeal.Value Idealize.ShloMosaic Idealize.ShloMosaic.TcCoe Idealize.SL.Sem

/-- The reference's output product. -/
def ys (S : FVec Ideal S2x2176x2048 .f32) (A : FVec Ideal S32x16x64 .f32) (B : FVec Ideal S32x16x64 .f32) : FVec Ideal S1x2176x512 .f32 :=
  shapeCast _ (subf (transpose S2176x32x16 [1, 0, 2] (Host.dotGeneral dot_S2176x32x64_S32x16x64_S32x2176x16_2_2_0_1_1_0 none (shapeCast _ (shapeCast _ (extractStridedSlice S1x2176x2048 ![0, 0, 0] S slices_S2x2176x2048_S1x2176x2048_0_0_0) shapeCasts_S1x2176x2048_S2176x2048) shapeCasts_S2176x2048_S2176x32x64) A) transposes_S32x2176x16_S2176x32x16_1_0_2) (transpose S2176x32x16 [1, 0, 2] (Host.dotGeneral dot_S2176x32x64_S32x16x64_S32x2176x16_2_2_0_1_1_0 none (shapeCast _ (shapeCast _ (extractStridedSlice S1x2176x2048 ![1, 0, 0] S slices_S2x2176x2048_S1x2176x2048_1_0_0) shapeCasts_S1x2176x2048_S2176x2048) shapeCasts_S2176x2048_S2176x32x64) B) transposes_S32x2176x16_S2176x32x16_1_0_2)) shapeCasts_S2176x32x16_S1x2176x512

end Cert.CsValue

end
-- ==== Proof.Cs.Tables.lean ====
/-  The sums over a block of the states against the block diagonal weights, and the reference's term, entry by entry. -/
module

public import proofs.«01_k».proof.Proof.Gen.CsIdeal.Frame
public import proofs.«01_k».proof.Proof.Cs.Ref
public import proofs.«01_k».proof.Proof.Lat.Tables
public import proofs.«01_k».proof.Proof.CsDx.Tables
public import proofs.«01_k».proof.Proof.Finite
public import Idealize.ShloMosaic.Lib.Pipeline.ValueKit
public import Idealize.ShloMosaic.Lib.Pointwise

@[expose] public section

set_option maxRecDepth 16384

noncomputable section

namespace Cert.CsValue

open Cert.CsIdeal Cert.CsIdeal.Gen Idealize.ShloMosaic Idealize.ShloMosaic.TcCoe Idealize.SL.Sem

open Cert.Finite Cert.CsDxValue

/-- The minus of a sum of real numbers is the sum of the minuses. -/
theorem sum_neg {ι : Type} (s : Finset ι) (f : ι → EReal) (h : ∀ i, IsR (f i)) : ∑ i ∈ s, -f i = -∑ i ∈ s, f i := by
  classical
  induction s using Finset.induction_on with
  | empty => simp
  | insert a s ha ih =>
    obtain ⟨r, hr⟩ := h a
    rw [Finset.sum_insert ha, Finset.sum_insert ha, ih, EReal.neg_add (Or.inl (by rw [hr]; exact EReal.coe_ne_bot r)) (Or.inl (by rw [hr]; exact EReal.coe_ne_top r)), sub_eq_add_neg]

theorem pick_col (f w : Fin 8 → Fin 64 → EReal) (g : Fin 8) : ∑ a : Fin 8, ∑ n : Fin 64, f a n * (w a n * eyeT (ix2 a g)) = ∑ n : Fin 64, f g n * w g n := by
  simp only [eye_at]
  rw [Finset.sum_eq_single g]
  · simp
  · intro a _ ha
    rw [if_neg ha]
    simp
  · simp

/-- A row's group against the group's weights, of one part. -/
def gsum (S : FVec Ideal S2x2176x2048 .f32) (W : FVec Ideal S32x16x64 .f32) (o : Fin 2) (i : Fin 2176) (q : Fin 4) (j : Fin 128) : EReal :=
  ∑ n : Fin 64, S (ix3 o i ⟨(q.val * 8 + j.val / 16) * 64 + n.val, by omega⟩) * W (ix3 ⟨q.val * 8 + j.val / 16, by omega⟩ ⟨j.val % 16, by omega⟩ n)

theorem ys_at (S : FVec Ideal S2x2176x2048 .f32) (A B : FVec Ideal S32x16x64 .f32) (i : Fin 2176) (q : Fin 4) (j : Fin 128) :
    ys S A B (ix3 0 i ⟨q.val * 128 + j.val, by omega⟩) = gsum S A 0 i q j - gsum S B 1 i q j := by
  pointwise [ys, gsum]
  have e1 : (q.val * 128 + j.val) / 16 = q.val * 8 + j.val / 16 := by omega
  have e2 : (q.val * 128 + j.val) % 16 = j.val % 16 := by omega
  simp only [e1, e2]

theorem diag_col (A : FVec Ideal S32x16x64 .f32) (q : Fin 4) (j : Fin 128) (a : Fin 8) (n : Fin 64) : diagT A (ix3 q ⟨a.val * 64 + n.val, by omega⟩ j)
    = A (ix3 ⟨q.val * 8 + a.val, by omega⟩ ⟨j.val % 16, by omega⟩ n) * eyeT (ix2 a ⟨j.val / 16, by omega⟩) := by
  have e : j = ⟨(⟨j.val / 16, by omega⟩ : Fin 8).val * 16 + (⟨j.val % 16, by omega⟩ : Fin 16).val, by simp; omega⟩ := Fin.ext (by simp; omega)
  have e1 : (a.val * 64 + n.val) / 64 = a.val := by omega
  have e2 : (a.val * 64 + n.val) % 64 = n.val := by omega
  refine (congrArg (fun z => diagT A (ix3 q ⟨a.val * 64 + n.val, by omega⟩ z)) e).trans ((diag_at A q _ _ _).trans ?_)
  simp only [e1, e2]

theorem lane (S : FVec Ideal S2x2176x2048 .f32) (o : Fin 2) (i : Fin 2176) (q : Fin 4) (j : Fin 128) (n : Fin 64) :
    S (ix3 o i ⟨q.val * 512 + (j.val / 16 * 64 + n.val), by omega⟩) = S (ix3 o i ⟨(q.val * 8 + j.val / 16) * 64 + n.val, by omega⟩) :=
  congrArg (fun z => S (ix3 o i z)) (Fin.ext (by show q.val * 512 + (j.val / 16 * 64 + n.val) = (q.val * 8 + j.val / 16) * 64 + n.val; omega))

/-- A row of the real parts against a block's column is the row's group against the group's weights. -/
theorem val_re (S : FVec Ideal S2x2176x2048 .f32) (A B : FVec Ideal S32x16x64 .f32) (i : Fin 2176) (q : Fin 4) (j : Fin 128) :
    ∑ k : Fin 512, S (ix3 0 i ⟨q.val * 512 + k.val, by omega⟩) * ctT A B (ix4 0 q k j) = gsum S A 0 i q j := by
  rw [Cert.Rope.sum_heads (n := 8) (k := 64) rfl]
  unfold gsum
  simp only [ct_re, diag_col]
  refine (pick_col (fun a n => S (ix3 0 i ⟨q.val * 512 + (a.val * 64 + n.val), by omega⟩)) (fun a n => A (ix3 ⟨q.val * 8 + a.val, by omega⟩ ⟨j.val % 16, by omega⟩ n)) ⟨j.val / 16, by omega⟩).trans ?_
  exact Finset.sum_congr rfl fun n _ => congrArg (· * _) (lane S 0 i q j n)

/-- A row of the imaginary parts against a block's column is minus the row's group against the group's weights. -/
theorem val_im (S : FVec Ideal S2x2176x2048 .f32) (A B : FVec Ideal S32x16x64 .f32) (hS : ∀ i l, IsR (S (ix3 1 i l))) (hB : ∀ x, IsR (B x)) (i : Fin 2176) (q : Fin 4) (j : Fin 128) :
    ∑ k : Fin 512, S (ix3 1 i ⟨q.val * 512 + k.val, by omega⟩) * ctT A B (ix4 1 q k j) = -gsum S B 1 i q j := by
  rw [Cert.Rope.sum_heads (n := 8) (k := 64) rfl]
  unfold gsum
  rw [← sum_neg _ _ fun n => (hS _ _).mul (hB _)]
  simp only [ct_im, diag_col]
  refine (Finset.sum_congr rfl fun a _ => Finset.sum_congr rfl fun n _ => ?_).trans
    ((pick_col (fun a n => -S (ix3 1 i ⟨q.val * 512 + (a.val * 64 + n.val), by omega⟩)) (fun a n => B (ix3 ⟨q.val * 8 + a.val, by omega⟩ ⟨j.val % 16, by omega⟩ n)) ⟨j.val / 16, by omega⟩).trans ?_)
  · rw [mul_neg, neg_mul]
  · exact Finset.sum_congr rfl fun n _ => (neg_mul _ _).trans (congrArg (-(· * _)) (lane S 1 i q j n))

end Cert.CsValue

end
-- ==== Proof.Cs.Value.lean ====
/-  The result array of the kernel for the output product of the states: the reference's term of the argument arrays. -/
module

public import proofs.«01_k».proof.Proof.Cs.Tables
public import Idealize.ShloMosaic.Lib.Pipeline.ReadBack
public import proofs.«01_k».proof.Proof.Gen.Pre_im_finite
public import proofs.«01_k».proof.Defs

@[expose] public section

set_option maxRecDepth 16384

noncomputable section

namespace Cert.CsValue

open Cert.CsIdeal Cert.CsIdeal.Gen Idealize.ShloMosaic Idealize.ShloMosaic.TcCoe Idealize.ShloMosaic.Tactic Idealize.SL.Sem
open Idealize.ShloMosaic.Pipeline (Dat)
open Cert.Finite
open Cert.CsDxValue (ctT diagT eyeT)

variable (m : (ℓ : Loc nD τ sig) → Buf (Elt Ideal) ℓ)

/-- The argument arrays, at their types. -/
abbrev aS (c : Dev nD) : FVec Ideal S2x2176x2048 .f32 := m ((c : Thread nD τ).loc main_arg0)
abbrev aA (c : Dev nD) : FVec Ideal S32x16x64 .f32 := m ((c : Thread nD τ).loc main_arg1)
abbrev aB (c : Dev nD) : FVec Ideal S32x16x64 .f32 := m ((c : Thread nD τ).loc main_arg2)

/-- Every entry of the imaginary parts of the states and of the weights is a real number. -/
def FinIm : Prop := ∀ c : Dev nD, (∀ i l, IsR (aS m c (ix3 1 i l))) ∧ ∀ x, IsR (aB m c x)

instance : Subsingleton Cert.Pre_im_finite.S_.Idx := ⟨fun a b => funext fun d => d.elim0⟩

/-- The imaginary part of the states, as the precondition takes it, is the second of the two. -/
theorem im_at (S : FVec Ideal S2x2176x2048 .f32) (i : Fin 2176) (l : Fin 2048) :
    (shapeCast Cert.Pre_im_finite.S2176x2048 (extractStridedSlice Cert.Pre_im_finite.S1x2176x2048 ![1, 0, 0] S Cert.Pre_im_finite.Facts.slices_S2x2176x2048_S1x2176x2048_1_0_0)
      Cert.Pre_im_finite.Facts.shapeCasts_S1x2176x2048_S2176x2048 : FVec Ideal Cert.Pre_im_finite.S2176x2048 .f32) (ix2 i l) = S (ix3 1 i l) := by
  pointwise []

/-- What the precondition says of the arguments. -/
theorem fin_of_pre (h : Cert.Pre_CsIdeal_im_finite m) : FinIm m := by
  intro c
  have e := congrFun (h c) ix0
  obtain ⟨e0, e1⟩ := IntOp.andi_eq_one.1 e
  refine ⟨fun i l => ?_, fun x => ?_⟩
  · rw [← im_at (aS m c) i l]
    exact isR_of_olt (Host.reduce_andi_all _ _ _ _ _ e0 (ix2 i l))
  · exact isR_of_olt (Host.reduce_andi_all _ _ _ _ _ e1 x)

/-- The block every window is at, at each point. -/
theorem idx : ∀ t : Fin cfg0.N, win0_0.index t = ![t.val % 2, t.val / 2, 0] ∧ win0_1.index t = ![t.val % 2, 0, 0, 0]
    ∧ win0_2.index t = ![0, t.val / 2, 0] :=
  (by decide +kernel : ∀ t : Fin grid0.N, _)

/-- The row of the arrays a tile's row is. -/
def row (t : Fin cfg0.N) (r : Fin 544) : Fin 2176 := ⟨t.val / 2 * 544 + r, by have := t.isLt; have e : cfg0.N = 8 := N_0; omega⟩

/-- The part of the states a point reads. -/
def part (t : Fin cfg0.N) : Fin 2 := ⟨t.val % 2, by omega⟩

theorem entry1 (c : Dev nD) : V m c main_v32 = ctT (aA m c) (aB m c) := by
  unfold ctT diagT eyeT aA aB
  after_results <;> rfl

theorem in0 (c : Dev nD) (t : Fin cfg0.N) (r : Fin 544) (k : Fin 2048) : iblk m c 0 t (ix3 0 r k) = aS m c (ix3 (part t) (row t r) k) := by
  unfold row part aS
  rw [← V_main_arg0 m c]
  blk_point [iblk, idx t]

theorem in1 (c : Dev nD) (t : Fin cfg0.N) (q : Fin 4) (k : Fin 512) (j : Fin 128) : iblk m c 1 t (ix4 0 q k j) = ctT (aA m c) (aB m c) (ix4 (part t) q k j) := by
  rw [← entry1 m c]
  unfold part
  blk_point [iblk, idx t]

theorem gsum_congr {G : FVec Ideal S2x2176x2048 .f32} {W : FVec Ideal S32x16x64 .f32} {o : Fin 2} {i i' : Fin 2176} {q q' : Fin 4} {j j' : Fin 128} (e0 : i = i') (e1 : q = q') (e2 : j = j') :
    gsum G W o i q j = gsum G W o i' q' j' := by rw [e0, e1, e2]

theorem ix3_congr {a b c : ℕ} {x x' : Fin a} {y y' : Fin b} {z z' : Fin c} (e0 : x = x') (e1 : y = y') (e2 : z = z') : ix3 x y z = ix3 x' y' z' := by
  rw [e0, e1, e2]

/-- The product of a tile's first step, of a block. -/
theorem prod0 (c : Dev nD) (t : Fin cfg0.N) (h : t.val % 2 = 0) (r : Fin 544) (q : Fin 4) (j : Fin 128) :
    ∑ k : Fin 512, aS m c (ix3 (part t) (row t r) ⟨q.val * 512 + k.val, by omega⟩) * ctT (aA m c) (aB m c) (ix4 (part t) q k j) = gsum (aS m c) (aA m c) 0 (row t r) q j := by
  have e : part t = 0 := Fin.ext h
  rw [e]
  exact val_re (aS m c) (aA m c) (aB m c) (row t r) q j

/-- The product of a tile's second step, of a block. -/
theorem prod1 (hf : FinIm m) (c : Dev nD) (t : Fin cfg0.N) (h : t.val % 2 = 1) (r : Fin 544) (q : Fin 4) (j : Fin 128) :
    ∑ k : Fin 512, aS m c (ix3 (part t) (row t r) ⟨q.val * 512 + k.val, by omega⟩) * ctT (aA m c) (aB m c) (ix4 (part t) q k j) = -gsum (aS m c) (aB m c) 1 (row t r) q j := by
  have e : part t = 1 := Fin.ext h
  rw [e]
  exact val_im (aS m c) (aA m c) (aB m c) (hf c).1 (hf c).2 (row t r) q j

/-- The first block's lanes have no offset. -/
theorem zero_off (c : Dev nD) (t : Fin cfg0.N) (r : Fin 544) (f : Fin 512 → EReal) :
    ∑ k : Fin 512, aS m c (ix3 (part t) (row t r) ⟨k.val, by omega⟩) * f k = ∑ k : Fin 512, aS m c (ix3 (part t) (row t r) ⟨(0 : Fin 4).val * 512 + k.val, by simp; omega⟩) * f k :=
  Finset.sum_congr rfl fun k _ => congrArg (fun z => aS m c (ix3 (part t) (row t r) z) * _) (Fin.ext (by simp))

/-- What the first of a tile's two steps leaves in the accumulator. -/
theorem first (c : Dev nD) (t : Fin cfg0.N) (h : t.val % 2 = 0) (y : S544x512.Idx) :
    (outsAt0 m c t.val t.isLt).2 y = gsum (aS m c) (aA m c) 0 (row t (y 0)) ⟨(y 1).val / 128, by have := (y 1).isLt; simp at this; omega⟩ ⟨(y 1).val % 128, by omega⟩ := by
  have ht := h
  rw [outsAt0_A m c t h (by omega) h (by omega) h (by omega) h (by omega)]
  unfold sout0_A_0
  frame_out
  canon_tiles y h using (View.cover_of_tiledL _ ![544, 128] (by sl_kernel_rfl) y)
  all_goals
    obtain ⟨r, j, rfl⟩ : ∃ (r : Fin 544) (j : Fin 128), y = ix2 r j := ⟨y 0, y 1, eq_ix2 y⟩
    pointwise [k0_pay1, k0_pay2, k0_pay3, k0_pay4, k0_pay5, k0_pay6, k0_pay7, k0_pay8, k0_pay9, k0_pay10, k0_pay11, k0_pay12, k0_pay13]
    simp only [in0, in1]
  · refine (prod0 m c t ht r 3 j).trans (gsum_congr (congrArg (row t) (Fin.ext h0.symm)) (Fin.ext ?_) (Fin.ext ?_))
    · have e : (y 1).val = 384 + j.val := h1
      show 3 = (y 1).val / 128
      omega
    · have e : (y 1).val = 384 + j.val := h1
      show j.val = (y 1).val % 128
      omega
  · refine (prod0 m c t ht r 2 j).trans (gsum_congr (congrArg (row t) (Fin.ext h0.symm)) (Fin.ext ?_) (Fin.ext ?_))
    · have e : (y 1).val = 256 + j.val := h1
      show 2 = (y 1).val / 128
      omega
    · have e : (y 1).val = 256 + j.val := h1
      show j.val = (y 1).val % 128
      omega
  · refine (prod0 m c t ht r 1 j).trans (gsum_congr (congrArg (row t) (Fin.ext h0.symm)) (Fin.ext ?_) (Fin.ext ?_))
    · have e : (y 1).val = 128 + j.val := h1
      show 1 = (y 1).val / 128
      omega
    · have e : (y 1).val = 128 + j.val := h1
      show j.val = (y 1).val % 128
      omega
  · refine ((zero_off m c t r _).trans (prod0 m c t ht r 0 j)).trans (gsum_congr (congrArg (row t) (Fin.ext h0.symm)) (Fin.ext ?_) (Fin.ext ?_))
    · have e : (y 1).val = j.val := h1
      show 0 = (y 1).val / 128
      omega
    · have e : (y 1).val = j.val := h1
      show j.val = (y 1).val % 128
      omega

/-- The accumulator a tile's second step reads. -/
theorem carried (c : Dev nD) (t : Fin cfg0.N) (h : t.val % 2 = 1) (hp : t.val - 1 < cfg0.N) (r : Fin 544) (q : Fin 4) (j : Fin 128) (z : Fin 512) (hz : z.val = q.val * 128 + j.val) :
    (outsAt0 m c (t.val - 1) hp).2 (ix2 r z) = gsum (aS m c) (aA m c) 0 (row t r) q j := by
  refine (first m c ⟨t.val - 1, hp⟩ (by show (t.val - 1) % 2 = 0; omega) (ix2 r z)).trans (gsum_congr (Fin.ext ?_) (Fin.ext ?_) (Fin.ext ?_))
  · show (t.val - 1) / 2 * 544 + r.val = t.val / 2 * 544 + r.val
    omega
  · show z.val / 128 = q.val
    omega
  · show z.val % 128 = j.val
    omega

/-- The accumulator and the second product are the reference's entry. -/
theorem piece (hf : FinIm m) (c : Dev nD) (t : Fin cfg0.N) (h : t.val % 2 = 1) (hp : t.val - 1 < cfg0.N) (r : Fin 544) (q : Fin 4) (j : Fin 128) (z : Fin 512) (hz : z.val = q.val * 128 + j.val) :
    (outsAt0 m c (t.val - 1) hp).2 (ix2 r z)
      + ∑ k : Fin 512, aS m c (ix3 (part t) (row t r) ⟨q.val * 512 + k.val, by omega⟩) * ctT (aA m c) (aB m c) (ix4 (part t) q k j)
      = ys (aS m c) (aA m c) (aB m c) (ix3 0 (row t r) z) := by
  rw [carried m c t h hp r q j z hz, prod1 m hf c t h r q j, ← sub_eq_add_neg]
  have e : z = ⟨q.val * 128 + j.val, by clear hz; omega⟩ := Fin.ext hz
  rw [e]
  exact (ys_at _ _ _ (row t r) q j).symm

/-- What the second of a tile's two steps leaves of the result. -/
theorem second (hf : FinIm m) (c : Dev nD) (t : Fin cfg0.N) (h : t.val % 2 = 1) (y : S1x544x512.Idx) :
    (outsAt0 m c t.val t.isLt).1 y = ys (aS m c) (aA m c) (aB m c) (ix3 0 (row t (y 1)) (y 2)) := by
  have ht := h
  rw [outsAt0_B m c t (by omega) h (by omega) h (by omega) h (by omega) h]
  unfold out0_B_2
  frame_out
  have hread := read_unread_whole (Val := Elt Ideal) cc0_scratch0 (Memref.isWhole_whole _)
  canon_tiles y h using (View.cover_of_tiledL _ ![1, 544, 128] (by sl_kernel_rfl) y)
  all_goals
    obtain ⟨a, r, j, rfl⟩ : ∃ (a : Fin 1) (r : Fin 544) (j : Fin 128), y = ix3 a r j := ⟨y 0, y 1, y 2, eq_ix3 y⟩
    obtain rfl : a = 0 := Subsingleton.elim _ _
    pointwise [k0_pay1, k0_pay2, k0_pay3, k0_pay4, k0_pay5, k0_pay6, k0_pay7, k0_pay8, k0_pay9, k0_pay10, k0_pay11, k0_pay12, k0_pay13]
    simp only [in0, in1]
    rw [hread]
  · exact (piece m hf c t ht _ r 3 j ⟨384 + j.val, by omega⟩ rfl).trans (congrArg _ (ix3_congr rfl (congrArg (row t) (Fin.ext h1.symm)) (Fin.ext h2.symm)))
  · exact (piece m hf c t ht _ r 2 j ⟨256 + j.val, by omega⟩ rfl).trans (congrArg _ (ix3_congr rfl (congrArg (row t) (Fin.ext h1.symm)) (Fin.ext h2.symm)))
  · exact (piece m hf c t ht _ r 1 j ⟨128 + j.val, by omega⟩ rfl).trans (congrArg _ (ix3_congr rfl (congrArg (row t) (Fin.ext h1.symm)) (Fin.ext h2.symm)))
  · refine (congrArg (fun z => _ + z) (zero_off m c t r _)).trans ?_
    exact (piece m hf c t ht _ r 0 j ⟨j.val, by omega⟩ (by simp)).trans (congrArg _ (ix3_congr rfl (congrArg (row t) (Fin.ext h1.symm)) (Fin.ext h2.symm)))

theorem emb2 (t : Fin cfg0.N) (y : S1x544x512.Idx) : ((cfg0.win 2).blk t).view.emb y = ix3 0 (row t (y 1)) (y 2) := by
  refine (eq_ix3 _).trans (ix3_congr (Subsingleton.elim _ _) (Fin.ext ?_) (Fin.ext ?_))
  all_goals
    try unfold row
    blk_point [idx t]

/-- The array of the output product, after the run. -/
theorem final2 (hf : FinIm m) (c : Dev nD) : (dats m 0 c).arrAt 2 (cfgs 0).N = ys (aS m c) (aA m c) (aB m c) := by
  refine (dats m 0 c).arrAt_eq_of_covers 2 _ (by decide +kernel) fun t hl y => ?_
  blk_simp
  rw [after0_2]
  exact (second m hf c t ((flush0_2 t).mp hl) y).trans (congrArg _ (emb2 t y).symm)

end Cert.CsValue

end
-- ==== Proof.Cs.Claims.lean ====
/-  The claims about the output product of the states. -/
module

public import proofs.«01_k».proof.Defs
public import proofs.«01_k».proof.Proof.Gen.Cs.Frame
public import proofs.«01_k».proof.Proof.Gen.CsIdeal.Frame
public import proofs.«01_k».proof.Proof.Gen.CsRefIdeal.Run
public import proofs.«01_k».proof.Proof.Cs.Value
public import Idealize.ShloMosaic.Lib.Quiescent
public import Idealize.ShloMosaic.Lib.Claim

@[expose] public section

set_option maxRecDepth 16384

noncomputable section

namespace Cert.CsValue

open Idealize.ShloMosaic Idealize.ShloMosaic.TcCoe Idealize.SL.Sem

theorem frame_kernel : Cert.quiescent_Cs := fun m ρ _ => Cert.Cs.Gen.frame m ρ
theorem frame_ideal : Cert.quiescent_CsIdeal := fun m ρ _ => Cert.CsIdeal.Gen.frame m ρ

theorem frame_ref : Cert.quiescent_CsRefIdeal := fun m ρ _ =>
  (θ_run Cert.CsRefIdeal.defs _ _).mono (fun r h => ⟨fun c => (h c).2, sem_eq_zero_of_no_sems (by decide) r.2⟩)
    (Cert.CsRefIdeal.Value.run (F := Ideal) m ρ)

section

variable (m : (ℓ : Loc Cert.CsIdeal.nD Cert.CsIdeal.τ Cert.CsIdeal.sig) → Buf (Elt Ideal) ℓ) (g : Dev Cert.CsIdeal.nD → PrngReg)

set_option maxHeartbeats 1000000 in
/-- The kernel's run: its results at the reference's terms, its arguments unchanged. -/
theorem run_kernel (hf : FinIm m) : θ_run (Cert.CsIdeal.defs (F := Ideal)) (onTc (τ := Cert.CsIdeal.τ) (Cert.CsIdeal.main (F := Ideal))) ⟨m, fun _ => 0, g⟩ (fun r => ∀ c : Dev Cert.CsIdeal.nD,
    r.2.mem ((c.tc : Thread Cert.CsIdeal.nD Cert.CsIdeal.τ).loc Cert.CsIdeal.main_v33) = ys (aS m c) (aA m c) (aB m c)
    ∧ r.2.mem ((c.tc : Thread Cert.CsIdeal.nD Cert.CsIdeal.τ).loc Cert.CsIdeal.main_arg0) = m ((c.tc : Thread Cert.CsIdeal.nD Cert.CsIdeal.τ).loc Cert.CsIdeal.main_arg0)
    ∧ r.2.mem ((c.tc : Thread Cert.CsIdeal.nD Cert.CsIdeal.τ).loc Cert.CsIdeal.main_arg1) = m ((c.tc : Thread Cert.CsIdeal.nD Cert.CsIdeal.τ).loc Cert.CsIdeal.main_arg1)
    ∧ r.2.mem ((c.tc : Thread Cert.CsIdeal.nD Cert.CsIdeal.τ).loc Cert.CsIdeal.main_arg2) = m ((c.tc : Thread Cert.CsIdeal.nD Cert.CsIdeal.τ).loc Cert.CsIdeal.main_arg2)) := by
  run_from Cert.CsIdeal.Gen.unchanged m g & Cert.CsIdeal.Gen.run_main m g
  · exact final2 m hf c

variable (m' : (ℓ : Loc Cert.CsRefIdeal.nD Cert.CsRefIdeal.τ Cert.CsRefIdeal.sig) → Buf (Elt Ideal) ℓ) (g' : Dev Cert.CsRefIdeal.nD → PrngReg)

/-- The reference's run, its results named. -/
theorem run_ref : θ_run (Cert.CsRefIdeal.defs (F := Ideal)) (onTc (τ := Cert.CsRefIdeal.τ) (Cert.CsRefIdeal.main (F := Ideal))) ⟨m', fun _ => 0, g'⟩ (fun r => ∀ c : Dev Cert.CsRefIdeal.nD,
    r.2.mem ((c.tc : Thread Cert.CsRefIdeal.nD Cert.CsRefIdeal.τ).loc Cert.CsRefIdeal.main_v11) = ys (m' ((c.tc : Thread Cert.CsRefIdeal.nD Cert.CsRefIdeal.τ).loc Cert.CsRefIdeal.main_arg0)) (m' ((c.tc : Thread Cert.CsRefIdeal.nD Cert.CsRefIdeal.τ).loc Cert.CsRefIdeal.main_arg1)) (m' ((c.tc : Thread Cert.CsRefIdeal.nD Cert.CsRefIdeal.τ).loc Cert.CsRefIdeal.main_arg2))
    ∧ r.2.mem ((c.tc : Thread Cert.CsRefIdeal.nD Cert.CsRefIdeal.τ).loc Cert.CsRefIdeal.main_arg0) = m' ((c.tc : Thread Cert.CsRefIdeal.nD Cert.CsRefIdeal.τ).loc Cert.CsRefIdeal.main_arg0)
    ∧ r.2.mem ((c.tc : Thread Cert.CsRefIdeal.nD Cert.CsRefIdeal.τ).loc Cert.CsRefIdeal.main_arg1) = m' ((c.tc : Thread Cert.CsRefIdeal.nD Cert.CsRefIdeal.τ).loc Cert.CsRefIdeal.main_arg1)
    ∧ r.2.mem ((c.tc : Thread Cert.CsRefIdeal.nD Cert.CsRefIdeal.τ).loc Cert.CsRefIdeal.main_arg2) = m' ((c.tc : Thread Cert.CsRefIdeal.nD Cert.CsRefIdeal.τ).loc Cert.CsRefIdeal.main_arg2)) := by
  exact Cert.CsRefIdeal.Value.run m' g'

end

/-- Each of the kernel's results is the reference's. -/
theorem algebraic : Cert.algebraic_CsIdeal_CsRefIdeal_pre_im_finite := by
  intro m g m' g' hpre hagree
  refine ⟨_, run_kernel m g (fin_of_pre m hpre), (θ_run Cert.CsRefIdeal.defs _ _).mono (fun r h c => ?_) (run_ref m' g')⟩
  have e0 := (hagree c).1
  have e1 := (hagree c).2.1
  have e2 := (hagree c).2.2
  obtain ⟨h0, hargs⟩ := h c
  rw [e0, e1, e2] at h0
  exact ⟨h0, hargs⟩

end Cert.CsValue

end
-- ==== Proof.lean ====
/-  The claim: every program's frame, that each kernel is its own ideal, and that each kernel's results are its reference's. -/
module

public import proofs.«01_k».proof.Proof.Conv.Claims
public import proofs.«01_k».proof.Proof.Up.Claims
public import proofs.«01_k».proof.Proof.Down.Claims
public import proofs.«01_k».proof.Proof.Dw.Claims
public import proofs.«01_k».proof.Proof.Dx.Claims
public import proofs.«01_k».proof.Proof.Res.Claims
public import proofs.«01_k».proof.Proof.Proj.Claims
public import proofs.«01_k».proof.Proof.ProjDx.Claims
public import proofs.«01_k».proof.Proof.ProjDw.Claims
public import proofs.«01_k».proof.Proof.WoDx.Claims
public import proofs.«01_k».proof.Proof.WoDw.Claims
public import proofs.«01_k».proof.Proof.WoLn.Claims
public import proofs.«01_k».proof.Proof.OutDx.Claims
public import proofs.«01_k».proof.Proof.OutDw.Claims
public import proofs.«01_k».proof.Proof.Out.Claims
public import proofs.«01_k».proof.Proof.GluDx.Claims
public import proofs.«01_k».proof.Proof.GluDw.Claims
public import proofs.«01_k».proof.Proof.Glu.Claims
public import proofs.«01_k».proof.Proof.Heads.Claims
public import proofs.«01_k».proof.Proof.HeadsDx.Claims
public import proofs.«01_k».proof.Proof.HeadsDw.Claims
public import proofs.«01_k».proof.Proof.Dwq.Claims
public import proofs.«01_k».proof.Proof.Dwk.Claims
public import proofs.«01_k».proof.Proof.Dwv.Claims
public import proofs.«01_k».proof.Proof.AttB.Claims
public import proofs.«01_k».proof.Proof.AttF.Claims
public import proofs.«01_k».proof.Proof.LatB.Claims
public import proofs.«01_k».proof.Proof.Lat.Claims
public import proofs.«01_k».proof.Proof.CsDx.Claims
public import proofs.«01_k».proof.Proof.CsDw.Claims
public import proofs.«01_k».proof.Proof.BuDw.Claims
public import proofs.«01_k».proof.Proof.BuDx.Claims
public import proofs.«01_k».proof.Proof.Bu.Claims
public import proofs.«01_k».proof.Proof.Cs.Claims

@[expose] public section

noncomputable section

namespace Cert.Proof

open Idealize.ShloMosaic Idealize.SL.Sem

theorem claim : Cert.Claim :=
  ⟨Cert.Conv.Gen.facts, Cert.ConvIdeal.Gen.facts, Cert.ConvRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.Dw.Gen.facts, Cert.DwIdeal.Gen.facts, Cert.DwdRefIdeal.Gen.facts,
    Cert.DwuRefIdeal.Gen.facts, Cert.Dx.Gen.facts, Cert.DxIdeal.Gen.facts,
    Cert.DxRefIdeal.Gen.facts, Cert.Res.Gen.facts, Cert.ResIdeal.Gen.facts,
    Cert.ResRefIdeal.Gen.facts, Cert.Proj.Gen.facts, Cert.ProjIdeal.Gen.facts,
    Cert.ProjRefIdeal.Gen.facts, Cert.ProjDx.Gen.facts, Cert.ProjDxIdeal.Gen.facts,
    Cert.ProjDxRefIdeal.Gen.facts, Cert.ProjDw.Gen.facts, Cert.ProjDwIdeal.Gen.facts,
    Cert.ProjDwRefIdeal.Gen.facts, Cert.WoDx.Gen.facts, Cert.WoDxIdeal.Gen.facts,
    Cert.WoDxRefIdeal.Gen.facts, Cert.WoDw.Gen.facts, Cert.WoDwIdeal.Gen.facts,
    Cert.WoDwRefIdeal.Gen.facts, Cert.WoLn.Gen.facts, Cert.WoLnIdeal.Gen.facts,
    Cert.WoLnRefIdeal.Gen.facts, Cert.OutDx.Gen.facts, Cert.OutDxIdeal.Gen.facts,
    Cert.OutDxRefIdeal.Gen.facts, Cert.OutDw.Gen.facts, Cert.OutDwIdeal.Gen.facts,
    Cert.OutDwRefIdeal.Gen.facts, Cert.Out.Gen.facts, Cert.OutIdeal.Gen.facts,
    Cert.OutRefIdeal.Gen.facts, Cert.GluDx.Gen.facts, Cert.GluDxIdeal.Gen.facts,
    Cert.GluDxRefIdeal.Gen.facts, Cert.GluDw.Gen.facts, Cert.GluDwIdeal.Gen.facts,
    Cert.GluDwRefIdeal.Gen.facts, Cert.Glu.Gen.facts, Cert.GluIdeal.Gen.facts,
    Cert.GluRefIdeal.Gen.facts, Cert.Heads.Gen.facts, Cert.HeadsIdeal.Gen.facts,
    Cert.HeadsRefIdeal.Gen.facts, Cert.HeadsDx.Gen.facts, Cert.HeadsDxIdeal.Gen.facts,
    Cert.HeadsDxRefIdeal.Gen.facts, Cert.HeadsDw.Gen.facts, Cert.HeadsDwIdeal.Gen.facts,
    Cert.HeadsDwRefIdeal.Gen.facts, Cert.Dwq.Gen.facts, Cert.DwqIdeal.Gen.facts,
    Cert.DwqRefIdeal.Gen.facts, Cert.Dwk.Gen.facts, Cert.DwkIdeal.Gen.facts,
    Cert.DwkRefIdeal.Gen.facts, Cert.Dwv.Gen.facts, Cert.DwvIdeal.Gen.facts,
    Cert.DwvRefIdeal.Gen.facts, Cert.AttB.Gen.facts, Cert.AttBIdeal.Gen.facts,
    Cert.AttBRefIdeal.Gen.facts, Cert.AttF.Gen.facts, Cert.AttFIdeal.Gen.facts,
    Cert.AttFRefIdeal.Gen.facts, Cert.LatB.Gen.facts, Cert.LatBIdeal.Gen.facts,
    Cert.LatBRefIdeal.Gen.facts, Cert.Lat.Gen.facts, Cert.LatIdeal.Gen.facts,
    Cert.LatRefIdeal.Gen.facts, Cert.CsDx.Gen.facts, Cert.CsDxIdeal.Gen.facts,
    Cert.CsDxRefIdeal.Gen.facts, Cert.CsDw.Gen.facts, Cert.CsDwIdeal.Gen.facts,
    Cert.CsDwRefIdeal.Gen.facts, Cert.BuDw.Gen.facts, Cert.BuDwIdeal.Gen.facts,
    Cert.BuDwRefIdeal.Gen.facts, Cert.BuDx.Gen.facts, Cert.BuDxIdeal.Gen.facts,
    Cert.BuDxRefIdeal.Gen.facts, Cert.Bu.Gen.facts, Cert.BuIdeal.Gen.facts,
    Cert.BuRefIdeal.Gen.facts, Cert.Cs.Gen.facts, Cert.CsIdeal.Gen.facts,
    Cert.CsRefIdeal.Gen.facts, Cert.Pre_down_finite.Gen.facts, Cert.Pre_att_finite.Gen.facts,
    Cert.Pre_scores_finite.Gen.facts, Cert.Pre_im_finite.Gen.facts, Cert.ConvGrad.frame_kernel,
    Cert.ConvGrad.frame_ideal, Cert.ConvGrad.frame_ref, Cert.UpValue.frame_kernel,
    Cert.UpValue.frame_ideal, Cert.UpValue.frame_ref, Cert.DownValue.frame_kernel,
    Cert.DownValue.frame_ideal, (fun m ρ _ => Cert.DownValue.frame_ideal m ρ trivial), Cert.DownValue.frame_ref,
    (fun m ρ _ => Cert.DownValue.frame_ref m ρ trivial), Cert.DwValue.frame_kernel, Cert.DwValue.frame_ideal,
    Cert.DwValue.frame_ref_dwd, Cert.DwValue.frame_ref_dwu, Cert.DxValue.frame_kernel,
    Cert.DxValue.frame_ideal, Cert.DxValue.frame_ref, Cert.ResValue.frame_kernel,
    Cert.ResValue.frame_ideal, Cert.ResValue.frame_ref, Cert.ProjValue.frame_kernel,
    Cert.ProjValue.frame_ideal, Cert.ProjValue.frame_ref, Cert.ProjDxValue.frame_kernel,
    Cert.ProjDxValue.frame_ideal, Cert.ProjDxValue.frame_ref, Cert.ProjDwValue.frame_kernel,
    Cert.ProjDwValue.frame_ideal, Cert.ProjDwValue.frame_ref, Cert.WoDxValue.frame_kernel,
    Cert.WoDxValue.frame_ideal, Cert.WoDxValue.frame_ref, Cert.WoDwValue.frame_kernel,
    Cert.WoDwValue.frame_ideal, Cert.WoDwValue.frame_ref, Cert.WoLnValue.frame_kernel,
    Cert.WoLnValue.frame_ideal, Cert.WoLnValue.frame_ref, Cert.OutDxValue.frame_kernel,
    Cert.OutDxValue.frame_ideal, Cert.OutDxValue.frame_ref, Cert.OutDwValue.frame_kernel,
    Cert.OutDwValue.frame_ideal, Cert.OutDwValue.frame_ref, Cert.OutValue.frame_kernel,
    Cert.OutValue.frame_ideal, Cert.OutValue.frame_ref, Cert.GluDxValue.frame_kernel,
    Cert.GluDxValue.frame_ideal, Cert.GluDxValue.frame_ref, Cert.GluDwValue.frame_kernel,
    Cert.GluDwValue.frame_ideal, Cert.GluDwValue.frame_ref, Cert.GluValue.frame_kernel,
    Cert.GluValue.frame_ideal, Cert.GluValue.frame_ref, Cert.HeadsValue.frame_kernel,
    Cert.HeadsValue.frame_ideal, Cert.HeadsValue.frame_ref, Cert.HeadsDxValue.frame_kernel,
    Cert.HeadsDxValue.frame_ideal, Cert.HeadsDxValue.frame_ref, Cert.HeadsDwValue.frame_kernel,
    Cert.HeadsDwValue.frame_ideal, Cert.HeadsDwValue.frame_ref, Cert.DwqValue.frame_kernel,
    Cert.DwqValue.frame_ideal, Cert.DwqValue.frame_ref, Cert.DwkValue.frame_kernel,
    Cert.DwkValue.frame_ideal, Cert.DwkValue.frame_ref, Cert.DwvValue.frame_kernel,
    Cert.DwvValue.frame_ideal, Cert.DwvValue.frame_ref, Cert.AttBValue.frame_kernel,
    Cert.AttBValue.frame_ideal, (fun m ρ _ => Cert.AttBValue.frame_ideal m ρ trivial), Cert.AttBValue.frame_ref,
    (fun m ρ _ => Cert.AttBValue.frame_ref m ρ trivial), Cert.AttFValue.frame_kernel, Cert.AttFValue.frame_ideal,
    (fun m ρ _ => Cert.AttFValue.frame_ideal m ρ trivial), Cert.AttFValue.frame_ref, (fun m ρ _ => Cert.AttFValue.frame_ref m ρ trivial),
    Cert.LatBValue.frame_kernel, Cert.LatBValue.frame_ideal, Cert.LatBValue.frame_ref,
    Cert.LatValue.frame_kernel, Cert.LatValue.frame_ideal, Cert.LatValue.frame_ref,
    Cert.CsDxValue.frame_kernel, Cert.CsDxValue.frame_ideal, Cert.CsDxValue.frame_ref,
    Cert.CsDwValue.frame_kernel, Cert.CsDwValue.frame_ideal, Cert.CsDwValue.frame_ref,
    Cert.BuDwValue.frame_kernel, Cert.BuDwValue.frame_ideal, Cert.BuDwValue.frame_ref,
    Cert.BuDxValue.frame_kernel, Cert.BuDxValue.frame_ideal, Cert.BuDxValue.frame_ref,
    Cert.BuValue.frame_kernel, Cert.BuValue.frame_ideal, Cert.BuValue.frame_ref,
    Cert.CsValue.frame_kernel, Cert.CsValue.frame_ideal, (fun m ρ _ => Cert.CsValue.frame_ideal m ρ trivial),
    Cert.CsValue.frame_ref, (fun m ρ _ => Cert.CsValue.frame_ref m ρ trivial), trivial,
    Cert.ConvGrad.algebraic, trivial, Cert.UpValue.algebraic,
    trivial, Cert.DownValue.algebraic, trivial,
    Cert.DwValue.algebraic_dwd, Cert.DwValue.algebraic_dwu, trivial,
    Cert.DxValue.algebraic, trivial, Cert.ResValue.algebraic,
    trivial, Cert.ProjValue.algebraic, trivial,
    Cert.ProjDxValue.algebraic, trivial, Cert.ProjDwValue.algebraic,
    trivial, Cert.WoDxValue.algebraic, trivial,
    Cert.WoDwValue.algebraic, trivial, Cert.WoLnValue.algebraic,
    trivial, Cert.OutDxValue.algebraic, trivial,
    Cert.OutDwValue.algebraic, trivial, Cert.OutValue.algebraic,
    trivial, Cert.GluDxValue.algebraic, trivial,
    Cert.GluDwValue.algebraic, trivial, Cert.GluValue.algebraic,
    trivial, Cert.HeadsValue.algebraic, trivial,
    Cert.HeadsDxValue.algebraic, trivial, Cert.HeadsDwValue.algebraic,
    trivial, Cert.DwqValue.algebraic, trivial,
    Cert.DwkValue.algebraic, trivial, Cert.DwvValue.algebraic,
    Cert.AttBValue.preserves, Cert.AttBValue.algebraic, Cert.AttFValue.preserves,
    Cert.AttFValue.algebraic, trivial, Cert.LatBValue.algebraic,
    trivial, Cert.LatValue.algebraic, trivial,
    Cert.CsDxValue.algebraic, trivial, Cert.CsDwValue.algebraic,
    trivial, Cert.BuDwValue.algebraic, trivial,
    Cert.BuDxValue.algebraic, trivial, Cert.BuValue.algebraic,
    trivial, Cert.CsValue.algebraic⟩

end Cert.Proof

end
